-- ==== Defs.lean ====
def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_finite_loss [hPre_finite_loss : Cert.Pre_finite_loss.Facts] (m : (ℓ : Loc Cert.LossKIdeal.nD Cert.LossKIdeal.τ Cert.LossKIdeal.sig) → Buf (Elt Ideal) ℓ) : Prop :=
  ∀ c : Dev Cert.LossKIdeal.nD,
    (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))).1 = (fun _ => 1#1)
    ∧ (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))).2.1 = (fun _ => 1#1)
    ∧ (Cert.Pre_finite_loss.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2))).2.2 = (fun _ => 1#1)

def Pre_LossRIdeal (m : (ℓ : Loc Cert.LossRIdeal.nD Cert.LossRIdeal.τ Cert.LossRIdeal.sig) → Buf (Elt Ideal) ℓ) : Prop :=
  True

def Pre_LossRIdeal_finite_loss [hPre_finite_loss : Cert.Pre_finite_loss.Facts] (m : (ℓ : Loc Cert.LossRIdeal.nD Cert.LossRIdeal.τ Cert.LossRIdeal.sig) → Buf (Elt Ideal) ℓ) : Prop :=
  ∀ c : Dev Cert.LossRIdeal.nD,
    (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).1 = (fun _ => 1#1)
    ∧ (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).2.1 = (fun _ => 1#1)
    ∧ (Cert.Pre_finite_loss.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2))).2.2 = (fun _ => 1#1)

def Pre_ProjBwdK (m : (ℓ : Loc Cert.ProjBwdK.nD Cert.ProjBwdK.τ Cert.ProjBwdK.sig) → Buf (Elt Bits) ℓ) : Prop :=
  True

def Pre_ProjBwdKIdeal (m : (ℓ : Loc Cert.ProjBwdKIdeal.nD Cert.ProjBwdKIdeal.τ Cert.ProjBwdKIdeal.sig) → Buf (Elt Ideal) ℓ) : Prop :=
  True

def Pre_ProjBwdKIdeal_finite_projbwd [hPre_finite_projbwd : Cert.Pre_finite_projbwd.Facts] (m : (ℓ : Loc Cert.ProjBwdKIdeal.nD Cert.ProjBwdKIdeal.τ Cert.ProjBwdKIdeal.sig) → Buf (Elt Ideal) ℓ) : Prop :=
  ∀ c : Dev Cert.ProjBwdKIdeal.nD,
    (Cert.Pre_finite_projbwd.fn (F := Ideal) (m ((c.tc : Thread Cert.ProjBwdKIdeal.nD Cert.ProjBwdKIdeal.τ).loc Cert.ProjBwdKIdeal.main_arg0)) (m ((c.tc : Thread Cert.ProjBwdKIdeal.nD Cert.ProjBwdKIdeal.τ).loc Cert.ProjBwdKIdeal.main_arg1)) (m ((c.tc : Thread Cert.ProjBwdKIdeal.nD Cert.ProjBwdKIdeal.τ).loc Cert.ProjBwdKIdeal.main_arg2)) (m ((c.tc : Thread Cert.ProjBwdKIdeal.nD Cert.ProjBwdKIdeal.τ).loc Cert.ProjBwdKIdeal.main_arg3)) (m ((c.tc : Thread Cert.ProjBwdKIdeal.nD Cert.ProjBwdKIdeal.τ).loc Cert.ProjBwdKIdeal.main_arg4)) (m ((c.tc : Thread Cert.ProjBwdKIdeal.nD Cert.ProjBwdKIdeal.τ).loc Cert.ProjBwdKIdeal.main_arg5)) (m ((c.tc : Thread Cert.ProjBwdKIdeal.nD Cert.ProjBwdKIdeal.τ).loc Cert.ProjBwdKIdeal.main_arg6))).1 = (fun _ => 1#1)
    ∧ (Cert.Pre_finite_projbwd.fn (F := Ideal) (m ((c.tc : Thread Cert.ProjBwdKIdeal.nD Cert.ProjBwdKIdeal.τ).loc Cert.ProjBwdKIdeal.main_arg0)) (m ((c.tc : Thread Cert.ProjBwdKIdeal.nD Cert.ProjBwdKIdeal.τ).loc Cert.ProjBwdKIdeal.main_arg1)) (m ((c.tc : Thread Cert.ProjBwdKIdeal.nD Cert.ProjBwdKIdeal.τ).loc Cert.ProjBwdKIdeal.main_arg2)) (m ((c.tc : Thread Cert.ProjBwdKIdeal.nD Cert.ProjBwdKIdeal.τ).loc Cert.ProjBwdKIdeal.main_arg3)) (m ((c.tc : Thread Cert.ProjBwdKIdeal.nD Cert.ProjBwdKIdeal.τ).loc Cert.ProjBwdKIdeal.main_arg4)) (m ((c.tc : Thread Cert.ProjBwdKIdeal.nD Cert.ProjBwdKIdeal.τ).loc Cert.ProjBwdKIdeal.main_arg5)) (m ((c.tc : Thread Cert.ProjBwdKIdeal.nD Cert.ProjBwdKIdeal.τ).loc Cert.ProjBwdKIdeal.main_arg6))).2.1 = (fun _ => 1#1)
    ∧ (Cert.Pre_finite_projbwd.fn (F := Ideal) (m ((c.tc : Thread Cert.ProjBwdKIdeal.nD Cert.ProjBwdKIdeal.τ).loc Cert.ProjBwdKIdeal.main_arg0)) (m ((c.tc : Thread Cert.ProjBwdKIdeal.nD Cert.ProjBwdKIdeal.τ).loc Cert.ProjBwdKIdeal.main_arg1)) (m ((c.tc : Thread Cert.ProjBwdKIdeal.nD Cert.ProjBwdKIdeal.τ).loc Cert.ProjBwdKIdeal.main_arg2)) (m ((c.tc : Thread Cert.ProjBwdKIdeal.nD Cert.ProjBwdKIdeal.τ).loc Cert.ProjBwdKIdeal.main_arg3)) (m ((c.tc : Thread Cert.ProjBwdKIdeal.nD Cert.ProjBwdKIdeal.τ).loc Cert.ProjBwdKIdeal.main_arg4)) (m ((c.tc : Thread Cert.ProjBwdKIdeal.nD Cert.ProjBwdKIdeal.τ).loc Cert.ProjBwdKIdeal.main_arg5)) (m ((c.tc : Thread Cert.ProjBwdKIdeal.nD Cert.ProjBwdKIdeal.τ).loc Cert.ProjBwdKIdeal.main_arg6))).2.2.1 = (fun _ => 1#1)
    ∧ (Cert.Pre_finite_projbwd.fn (F := Ideal) (m ((c.tc : Thread Cert.ProjBwdKIdeal.nD Cert.ProjBwdKIdeal.τ).loc Cert.ProjBwdKIdeal.main_arg0)) (m ((c.tc : Thread Cert.ProjBwdKIdeal.nD Cert.ProjBwdKIdeal.τ).loc Cert.ProjBwdKIdeal.main_arg1)) (m ((c.tc : Thread Cert.ProjBwdKIdeal.nD Cert.ProjBwdKIdeal.τ).loc Cert.ProjBwdKIdeal.main_arg2)) (m ((c.tc : Thread Cert.ProjBwdKIdeal.nD Cert.ProjBwdKIdeal.τ).loc Cert.ProjBwdKIdeal.main_arg3)) (m ((c.tc : Thread Cert.ProjBwdKIdeal.nD Cert.ProjBwdKIdeal.τ).loc Cert.ProjBwdKIdeal.main_arg4)) (m ((c.tc : Thread Cert.ProjBwdKIdeal.nD Cert.ProjBwdKIdeal.τ).loc Cert.ProjBwdKIdeal.main_arg5)) (m ((c.tc : Thread Cert.ProjBwdKIdeal.nD Cert.ProjBwdKIdeal.τ).loc Cert.ProjBwdKIdeal.main_arg6))).2.2.2.1 = (fun _ => 1#1)
    ∧ (Cert.Pre_finite_projbwd.fn (F := Ideal) (m ((c.tc : Thread Cert.ProjBwdKIdeal.nD Cert.ProjBwdKIdeal.τ).loc Cert.ProjBwdKIdeal.main_arg0)) (m ((c.tc : Thread Cert.ProjBwdKIdeal.nD Cert.ProjBwdKIdeal.τ).loc Cert.ProjBwdKIdeal.main_arg1)) (m ((c.tc : Thread Cert.ProjBwdKIdeal.nD Cert.ProjBwdKIdeal.τ).loc Cert.ProjBwdKIdeal.main_arg2)) (m ((c.tc : Thread Cert.ProjBwdKIdeal.nD Cert.ProjBwdKIdeal.τ).loc Cert.ProjBwdKIdeal.main_arg3)) (m ((c.tc : Thread Cert.ProjBwdKIdeal.nD Cert.ProjBwdKIdeal.τ).loc Cert.ProjBwdKIdeal.main_arg4)) (m ((c.tc : Thread Cert.ProjBwdKIdeal.nD Cert.ProjBwdKIdeal.τ).loc Cert.ProjBwdKIdeal.main_arg5)) (m ((c.tc : Thread Cert.ProjBwdKIdeal.nD Cert.ProjBwdKIdeal.τ).loc Cert.ProjBwdKIdeal.main_arg6))).2.2.2.2 = (fun _ => 1#1)

def Pre_ProjBwdRIdeal (m : (ℓ : Loc Cert.ProjBwdRIdeal.nD Cert.ProjBwdRIdeal.τ Cert.ProjBwdRIdeal.sig) → Buf (Elt Ideal) ℓ) : Prop :=
  True

def Pre_ProjBwdRIdeal_finite_projbwd [hPre_finite_projbwd : Cert.Pre_finite_projbwd.Facts] (m : (ℓ : Loc Cert.ProjBwdRIdeal.nD Cert.ProjBwdRIdeal.τ Cert.ProjBwdRIdeal.sig) → Buf (Elt Ideal) ℓ) : Prop :=
  ∀ c : Dev Cert.ProjBwdRIdeal.nD,
    (Cert.Pre_finite_projbwd.fn (F := Ideal) (m ((c.tc : Thread Cert.ProjBwdRIdeal.nD Cert.ProjBwdRIdeal.τ).loc Cert.ProjBwdRIdeal.main_arg0)) (m ((c.tc : Thread Cert.ProjBwdRIdeal.nD Cert.ProjBwdRIdeal.τ).loc Cert.ProjBwdRIdeal.main_arg1)) (m ((c.tc : Thread Cert.ProjBwdRIdeal.nD Cert.ProjBwdRIdeal.τ).loc Cert.ProjBwdRIdeal.main_arg2)) (m ((c.tc : Thread Cert.ProjBwdRIdeal.nD Cert.ProjBwdRIdeal.τ).loc Cert.ProjBwdRIdeal.main_arg3)) (m ((c.tc : Thread Cert.ProjBwdRIdeal.nD Cert.ProjBwdRIdeal.τ).loc Cert.ProjBwdRIdeal.main_arg4)) (m ((c.tc : Thread Cert.ProjBwdRIdeal.nD Cert.ProjBwdRIdeal.τ).loc Cert.ProjBwdRIdeal.main_arg5)) (m ((c.tc : Thread Cert.ProjBwdRIdeal.nD Cert.ProjBwdRIdeal.τ).loc Cert.ProjBwdRIdeal.main_arg6))).1 = (fun _ => 1#1)
    ∧ (Cert.Pre_finite_projbwd.fn (F := Ideal) (m ((c.tc : Thread Cert.ProjBwdRIdeal.nD Cert.ProjBwdRIdeal.τ).loc Cert.ProjBwdRIdeal.main_arg0)) (m ((c.tc : Thread Cert.ProjBwdRIdeal.nD Cert.ProjBwdRIdeal.τ).loc Cert.ProjBwdRIdeal.main_arg1)) (m ((c.tc : Thread Cert.ProjBwdRIdeal.nD Cert.ProjBwdRIdeal.τ).loc Cert.ProjBwdRIdeal.main_arg2)) (m ((c.tc : Thread Cert.ProjBwdRIdeal.nD Cert.ProjBwdRIdeal.τ).loc Cert.ProjBwdRIdeal.main_arg3)) (m ((c.tc : Thread Cert.ProjBwdRIdeal.nD Cert.ProjBwdRIdeal.τ).loc Cert.ProjBwdRIdeal.main_arg4)) (m ((c.tc : Thread Cert.ProjBwdRIdeal.nD Cert.ProjBwdRIdeal.τ).loc Cert.ProjBwdRIdeal.main_arg5)) (m ((c.tc : Thread Cert.ProjBwdRIdeal.nD Cert.ProjBwdRIdeal.τ).loc Cert.ProjBwdRIdeal.main_arg6))).2.1 = (fun _ => 1#1)
    ∧ (Cert.Pre_finite_projbwd.fn (F := Ideal) (m ((c.tc : Thread Cert.ProjBwdRIdeal.nD Cert.ProjBwdRIdeal.τ).loc Cert.ProjBwdRIdeal.main_arg0)) (m ((c.tc : Thread Cert.ProjBwdRIdeal.nD Cert.ProjBwdRIdeal.τ).loc Cert.ProjBwdRIdeal.main_arg1)) (m ((c.tc : Thread Cert.ProjBwdRIdeal.nD Cert.ProjBwdRIdeal.τ).loc Cert.ProjBwdRIdeal.main_arg2)) (m ((c.tc : Thread Cert.ProjBwdRIdeal.nD Cert.ProjBwdRIdeal.τ).loc Cert.ProjBwdRIdeal.main_arg3)) (m ((c.tc : Thread Cert.ProjBwdRIdeal.nD Cert.ProjBwdRIdeal.τ).loc Cert.ProjBwdRIdeal.main_arg4)) (m ((c.tc : Thread Cert.ProjBwdRIdeal.nD Cert.ProjBwdRIdeal.τ).loc Cert.ProjBwdRIdeal.main_arg5)) (m ((c.tc : Thread Cert.ProjBwdRIdeal.nD Cert.ProjBwdRIdeal.τ).loc Cert.ProjBwdRIdeal.main_arg6))).2.2.1 = (fun _ => 1#1)
    ∧ (Cert.Pre_finite_projbwd.fn (F := Ideal) (m ((c.tc : Thread Cert.ProjBwdRIdeal.nD Cert.ProjBwdRIdeal.τ).loc Cert.ProjBwdRIdeal.main_arg0)) (m ((c.tc : Thread Cert.ProjBwdRIdeal.nD Cert.ProjBwdRIdeal.τ).loc Cert.ProjBwdRIdeal.main_arg1)) (m ((c.tc : Thread Cert.ProjBwdRIdeal.nD Cert.ProjBwdRIdeal.τ).loc Cert.ProjBwdRIdeal.main_arg2)) (m ((c.tc : Thread Cert.ProjBwdRIdeal.nD Cert.ProjBwdRIdeal.τ).loc Cert.ProjBwdRIdeal.main_arg3)) (m ((c.tc : Thread Cert.ProjBwdRIdeal.nD Cert.ProjBwdRIdeal.τ).loc Cert.ProjBwdRIdeal.main_arg4)) (m ((c.tc : Thread Cert.ProjBwdRIdeal.nD Cert.ProjBwdRIdeal.τ).loc Cert.ProjBwdRIdeal.main_arg5)) (m ((c.tc : Thread Cert.ProjBwdRIdeal.nD Cert.ProjBwdRIdeal.τ).loc Cert.ProjBwdRIdeal.main_arg6))).2.2.2.1 = (fun _ => 1#1)
    ∧ (Cert.Pre_finite_projbwd.fn (F := Ideal) (m ((c.tc : Thread Cert.ProjBwdRIdeal.nD Cert.ProjBwdRIdeal.τ).loc Cert.ProjBwdRIdeal.main_arg0)) (m ((c.tc : Thread Cert.ProjBwdRIdeal.nD Cert.ProjBwdRIdeal.τ).loc Cert.ProjBwdRIdeal.main_arg1)) (m ((c.tc : Thread Cert.ProjBwdRIdeal.nD Cert.ProjBwdRIdeal.τ).loc Cert.ProjBwdRIdeal.main_arg2)) (m ((c.tc : Thread Cert.ProjBwdRIdeal.nD Cert.ProjBwdRIdeal.τ).loc Cert.ProjBwdRIdeal.main_arg3)) (m ((c.tc : Thread Cert.ProjBwdRIdeal.nD Cert.ProjBwdRIdeal.τ).loc Cert.ProjBwdRIdeal.main_arg4)) (m ((c.tc : Thread Cert.ProjBwdRIdeal.nD Cert.ProjBwdRIdeal.τ).loc Cert.ProjBwdRIdeal.main_arg5)) (m ((c.tc : Thread Cert.ProjBwdRIdeal.nD Cert.ProjBwdRIdeal.τ).loc Cert.ProjBwdRIdeal.main_arg6))).2.2.2.2 = (fun _ => 1#1)

def Pre_MlpBwdK (m : (ℓ : Loc Cert.MlpBwdK.nD Cert.MlpBwdK.τ Cert.MlpBwdK.sig) → Buf (Elt Bits) ℓ) : Prop :=
  True

def Pre_MlpBwdKIdeal (m : (ℓ : Loc Cert.MlpBwdKIdeal.nD Cert.MlpBwdKIdeal.τ Cert.MlpBwdKIdeal.sig) → Buf (Elt Ideal) ℓ) : Prop :=
  True

def Pre_MlpBwdKIdeal_finite_mlpbwd [hPre_finite_mlpbwd : Cert.Pre_finite_mlpbwd.Facts] (m : (ℓ : Loc Cert.MlpBwdKIdeal.nD Cert.MlpBwdKIdeal.τ Cert.MlpBwdKIdeal.sig) → Buf (Elt Ideal) ℓ) : Prop :=
  ∀ c : Dev Cert.MlpBwdKIdeal.nD,
    (Cert.Pre_finite_mlpbwd.fn (F := Ideal) (m ((c.tc : Thread Cert.MlpBwdKIdeal.nD Cert.MlpBwdKIdeal.τ).loc Cert.MlpBwdKIdeal.main_arg0)) (m ((c.tc : Thread Cert.MlpBwdKIdeal.nD Cert.MlpBwdKIdeal.τ).loc Cert.MlpBwdKIdeal.main_arg1)) (m ((c.tc : Thread Cert.MlpBwdKIdeal.nD Cert.MlpBwdKIdeal.τ).loc Cert.MlpBwdKIdeal.main_arg2)) (m ((c.tc : Thread Cert.MlpBwdKIdeal.nD Cert.MlpBwdKIdeal.τ).loc Cert.MlpBwdKIdeal.main_arg3)) (m ((c.tc : Thread Cert.MlpBwdKIdeal.nD Cert.MlpBwdKIdeal.τ).loc Cert.MlpBwdKIdeal.main_arg4)) (m ((c.tc : Thread Cert.MlpBwdKIdeal.nD Cert.MlpBwdKIdeal.τ).loc Cert.MlpBwdKIdeal.main_arg5)) (m ((c.tc : Thread Cert.MlpBwdKIdeal.nD Cert.MlpBwdKIdeal.τ).loc Cert.MlpBwdKIdeal.main_arg6)) (m ((c.tc : Thread Cert.MlpBwdKIdeal.nD Cert.MlpBwdKIdeal.τ).loc Cert.MlpBwdKIdeal.main_arg7))).1 = (fun _ => 1#1)
    ∧ (Cert.Pre_finite_mlpbwd.fn (F := Ideal) (m ((c.tc : Thread Cert.MlpBwdKIdeal.nD Cert.MlpBwdKIdeal.τ).loc Cert.MlpBwdKIdeal.main_arg0)) (m ((c.tc : Thread Cert.MlpBwdKIdeal.nD Cert.MlpBwdKIdeal.τ).loc Cert.MlpBwdKIdeal.main_arg1)) (m ((c.tc : Thread Cert.MlpBwdKIdeal.nD Cert.MlpBwdKIdeal.τ).loc Cert.MlpBwdKIdeal.main_arg2)) (m ((c.tc : Thread Cert.MlpBwdKIdeal.nD Cert.MlpBwdKIdeal.τ).loc Cert.MlpBwdKIdeal.main_arg3)) (m ((c.tc : Thread Cert.MlpBwdKIdeal.nD Cert.MlpBwdKIdeal.τ).loc Cert.MlpBwdKIdeal.main_arg4)) (m ((c.tc : Thread Cert.MlpBwdKIdeal.nD Cert.MlpBwdKIdeal.τ).loc Cert.MlpBwdKIdeal.main_arg5)) (m ((c.tc : Thread Cert.MlpBwdKIdeal.nD Cert.MlpBwdKIdeal.τ).loc Cert.MlpBwdKIdeal.main_arg6)) (m ((c.tc : Thread Cert.MlpBwdKIdeal.nD Cert.MlpBwdKIdeal.τ).loc Cert.MlpBwdKIdeal.main_arg7))).2.1 = (fun _ => 1#1)
    ∧ (Cert.Pre_finite_mlpbwd.fn (F := Ideal) (m ((c.tc : Thread Cert.MlpBwdKIdeal.nD Cert.MlpBwdKIdeal.τ).loc Cert.MlpBwdKIdeal.main_arg0)) (m ((c.tc : Thread Cert.MlpBwdKIdeal.nD Cert.MlpBwdKIdeal.τ).loc Cert.MlpBwdKIdeal.main_arg1)) (m ((c.tc : Thread Cert.MlpBwdKIdeal.nD Cert.MlpBwdKIdeal.τ).loc Cert.MlpBwdKIdeal.main_arg2)) (m ((c.tc : Thread Cert.MlpBwdKIdeal.nD Cert.MlpBwdKIdeal.τ).loc Cert.MlpBwdKIdeal.main_arg3)) (m ((c.tc : Thread Cert.MlpBwdKIdeal.nD Cert.MlpBwdKIdeal.τ).loc Cert.MlpBwdKIdeal.main_arg4)) (m ((c.tc : Thread Cert.MlpBwdKIdeal.nD Cert.MlpBwdKIdeal.τ).loc Cert.MlpBwdKIdeal.main_arg5)) (m ((c.tc : Thread Cert.MlpBwdKIdeal.nD Cert.MlpBwdKIdeal.τ).loc Cert.MlpBwdKIdeal.main_arg6)) (m ((c.tc : Thread Cert.MlpBwdKIdeal.nD Cert.MlpBwdKIdeal.τ).loc Cert.MlpBwdKIdeal.main_arg7))).2.2.1 = (fun _ => 1#1)
    ∧ (Cert.Pre_finite_mlpbwd.fn (F := Ideal) (m ((c.tc : Thread Cert.MlpBwdKIdeal.nD Cert.MlpBwdKIdeal.τ).loc Cert.MlpBwdKIdeal.main_arg0)) (m ((c.tc : Thread Cert.MlpBwdKIdeal.nD Cert.MlpBwdKIdeal.τ).loc Cert.MlpBwdKIdeal.main_arg1)) (m ((c.tc : Thread Cert.MlpBwdKIdeal.nD Cert.MlpBwdKIdeal.τ).loc Cert.MlpBwdKIdeal.main_arg2)) (m ((c.tc : Thread Cert.MlpBwdKIdeal.nD Cert.MlpBwdKIdeal.τ).loc Cert.MlpBwdKIdeal.main_arg3)) (m ((c.tc : Thread Cert.MlpBwdKIdeal.nD Cert.MlpBwdKIdeal.τ).loc Cert.MlpBwdKIdeal.main_arg4)) (m ((c.tc : Thread Cert.MlpBwdKIdeal.nD Cert.MlpBwdKIdeal.τ).loc Cert.MlpBwdKIdeal.main_arg5)) (m ((c.tc : Thread Cert.MlpBwdKIdeal.nD Cert.MlpBwdKIdeal.τ).loc Cert.MlpBwdKIdeal.main_arg6)) (m ((c.tc : Thread Cert.MlpBwdKIdeal.nD Cert.MlpBwdKIdeal.τ).loc Cert.MlpBwdKIdeal.main_arg7))).2.2.2.1 = (fun _ => 1#1)
    ∧ (Cert.Pre_finite_mlpbwd.fn (F := Ideal) (m ((c.tc : Thread Cert.MlpBwdKIdeal.nD Cert.MlpBwdKIdeal.τ).loc Cert.MlpBwdKIdeal.main_arg0)) (m ((c.tc : Thread Cert.MlpBwdKIdeal.nD Cert.MlpBwdKIdeal.τ).loc Cert.MlpBwdKIdeal.main_arg1)) (m ((c.tc : Thread Cert.MlpBwdKIdeal.nD Cert.MlpBwdKIdeal.τ).loc Cert.MlpBwdKIdeal.main_arg2)) (m ((c.tc : Thread Cert.MlpBwdKIdeal.nD Cert.MlpBwdKIdeal.τ).loc Cert.MlpBwdKIdeal.main_arg3)) (m ((c.tc : Thread Cert.MlpBwdKIdeal.nD Cert.MlpBwdKIdeal.τ).loc Cert.MlpBwdKIdeal.main_arg4)) (m ((c.tc : Thread Cert.MlpBwdKIdeal.nD Cert.MlpBwdKIdeal.τ).loc Cert.MlpBwdKIdeal.main_arg5)) (m ((c.tc : Thread Cert.MlpBwdKIdeal.nD Cert.MlpBwdKIdeal.τ).loc Cert.MlpBwdKIdeal.main_arg6)) (m ((c.tc : Thread Cert.MlpBwdKIdeal.nD Cert.MlpBwdKIdeal.τ).loc Cert.MlpBwdKIdeal.main_arg7))).2.2.2.2.1 = (fun _ => 1#1)
    ∧ (Cert.Pre_finite_mlpbwd.fn (F := Ideal) (m ((c.tc : Thread Cert.MlpBwdKIdeal.nD Cert.MlpBwdKIdeal.τ).loc Cert.MlpBwdKIdeal.main_arg0)) (m ((c.tc : Thread Cert.MlpBwdKIdeal.nD Cert.MlpBwdKIdeal.τ).loc Cert.MlpBwdKIdeal.main_arg1)) (m ((c.tc : Thread Cert.MlpBwdKIdeal.nD Cert.MlpBwdKIdeal.τ).loc Cert.MlpBwdKIdeal.main_arg2)) (m ((c.tc : Thread Cert.MlpBwdKIdeal.nD Cert.MlpBwdKIdeal.τ).loc Cert.MlpBwdKIdeal.main_arg3)) (m ((c.tc : Thread Cert.MlpBwdKIdeal.nD Cert.MlpBwdKIdeal.τ).loc Cert.MlpBwdKIdeal.main_arg4)) (m ((c.tc : Thread Cert.MlpBwdKIdeal.nD Cert.MlpBwdKIdeal.τ).loc Cert.MlpBwdKIdeal.main_arg5)) (m ((c.tc : Thread Cert.MlpBwdKIdeal.nD Cert.MlpBwdKIdeal.τ).loc Cert.MlpBwdKIdeal.main_arg6)) (m ((c.tc : Thread Cert.MlpBwdKIdeal.nD Cert.MlpBwdKIdeal.τ).loc Cert.MlpBwdKIdeal.main_arg7))).2.2.2.2.2.1 = (fun _ => 1#1)
    ∧ (Cert.Pre_finite_mlpbwd.fn (F := Ideal) (m ((c.tc : Thread Cert.MlpBwdKIdeal.nD Cert.MlpBwdKIdeal.τ).loc Cert.MlpBwdKIdeal.main_arg0)) (m ((c.tc : Thread Cert.MlpBwdKIdeal.nD Cert.MlpBwdKIdeal.τ).loc Cert.MlpBwdKIdeal.main_arg1)) (m ((c.tc : Thread Cert.MlpBwdKIdeal.nD Cert.MlpBwdKIdeal.τ).loc Cert.MlpBwdKIdeal.main_arg2)) (m ((c.tc : Thread Cert.MlpBwdKIdeal.nD Cert.MlpBwdKIdeal.τ).loc Cert.MlpBwdKIdeal.main_arg3)) (m ((c.tc : Thread Cert.MlpBwdKIdeal.nD Cert.MlpBwdKIdeal.τ).loc Cert.MlpBwdKIdeal.main_arg4)) (m ((c.tc : Thread Cert.MlpBwdKIdeal.nD Cert.MlpBwdKIdeal.τ).loc Cert.MlpBwdKIdeal.main_arg5)) (m ((c.tc : Thread Cert.MlpBwdKIdeal.nD Cert.MlpBwdKIdeal.τ).loc Cert.MlpBwdKIdeal.main_arg6)) (m ((c.tc : Thread Cert.MlpBwdKIdeal.nD Cert.MlpBwdKIdeal.τ).loc Cert.MlpBwdKIdeal.main_arg7))).2.2.2.2.2.2.1 = (fun _ => 1#1)
    ∧ (Cert.Pre_finite_mlpbwd.fn (F := Ideal) (m ((c.tc : Thread Cert.MlpBwdKIdeal.nD Cert.MlpBwdKIdeal.τ).loc Cert.MlpBwdKIdeal.main_arg0)) (m ((c.tc : Thread Cert.MlpBwdKIdeal.nD Cert.MlpBwdKIdeal.τ).loc Cert.MlpBwdKIdeal.main_arg1)) (m ((c.tc : Thread Cert.MlpBwdKIdeal.nD Cert.MlpBwdKIdeal.τ).loc Cert.MlpBwdKIdeal.main_arg2)) (m ((c.tc : Thread Cert.MlpBwdKIdeal.nD Cert.MlpBwdKIdeal.τ).loc Cert.MlpBwdKIdeal.main_arg3)) (m ((c.tc : Thread Cert.MlpBwdKIdeal.nD Cert.MlpBwdKIdeal.τ).loc Cert.MlpBwdKIdeal.main_arg4)) (m ((c.tc : Thread Cert.MlpBwdKIdeal.nD Cert.MlpBwdKIdeal.τ).loc Cert.MlpBwdKIdeal.main_arg5)) (m ((c.tc : Thread Cert.MlpBwdKIdeal.nD Cert.MlpBwdKIdeal.τ).loc Cert.MlpBwdKIdeal.main_arg6)) (m ((c.tc : Thread Cert.MlpBwdKIdeal.nD Cert.MlpBwdKIdeal.τ).loc Cert.MlpBwdKIdeal.main_arg7))).2.2.2.2.2.2.2 = (fun _ => 1#1)

def Pre_MlpBwdRIdeal (m : (ℓ : Loc Cert.MlpBwdRIdeal.nD Cert.MlpBwdRIdeal.τ Cert.MlpBwdRIdeal.sig) → Buf (Elt Ideal) ℓ) : Prop :=
  True

def Pre_MlpBwdRIdeal_finite_mlpbwd [hPre_finite_mlpbwd : Cert.Pre_finite_mlpbwd.Facts] (m : (ℓ : Loc Cert.MlpBwdRIdeal.nD Cert.MlpBwdRIdeal.τ Cert.MlpBwdRIdeal.sig) → Buf (Elt Ideal) ℓ) : Prop :=
  ∀ c : Dev Cert.MlpBwdRIdeal.nD,
    (Cert.Pre_finite_mlpbwd.fn (F := Ideal) (m ((c.tc : Thread Cert.MlpBwdRIdeal.nD Cert.MlpBwdRIdeal.τ).loc Cert.MlpBwdRIdeal.main_arg0)) (m ((c.tc : Thread Cert.MlpBwdRIdeal.nD Cert.MlpBwdRIdeal.τ).loc Cert.MlpBwdRIdeal.main_arg1)) (m ((c.tc : Thread Cert.MlpBwdRIdeal.nD Cert.MlpBwdRIdeal.τ).loc Cert.MlpBwdRIdeal.main_arg2)) (m ((c.tc : Thread Cert.MlpBwdRIdeal.nD Cert.MlpBwdRIdeal.τ).loc Cert.MlpBwdRIdeal.main_arg3)) (m ((c.tc : Thread Cert.MlpBwdRIdeal.nD Cert.MlpBwdRIdeal.τ).loc Cert.MlpBwdRIdeal.main_arg4)) (m ((c.tc : Thread Cert.MlpBwdRIdeal.nD Cert.MlpBwdRIdeal.τ).loc Cert.MlpBwdRIdeal.main_arg5)) (m ((c.tc : Thread Cert.MlpBwdRIdeal.nD Cert.MlpBwdRIdeal.τ).loc Cert.MlpBwdRIdeal.main_arg6)) (m ((c.tc : Thread Cert.MlpBwdRIdeal.nD Cert.MlpBwdRIdeal.τ).loc Cert.MlpBwdRIdeal.main_arg7))).1 = (fun _ => 1#1)
    ∧ (Cert.Pre_finite_mlpbwd.fn (F := Ideal) (m ((c.tc : Thread Cert.MlpBwdRIdeal.nD Cert.MlpBwdRIdeal.τ).loc Cert.MlpBwdRIdeal.main_arg0)) (m ((c.tc : Thread Cert.MlpBwdRIdeal.nD Cert.MlpBwdRIdeal.τ).loc Cert.MlpBwdRIdeal.main_arg1)) (m ((c.tc : Thread Cert.MlpBwdRIdeal.nD Cert.MlpBwdRIdeal.τ).loc Cert.MlpBwdRIdeal.main_arg2)) (m ((c.tc : Thread Cert.MlpBwdRIdeal.nD Cert.MlpBwdRIdeal.τ).loc Cert.MlpBwdRIdeal.main_arg3)) (m ((c.tc : Thread Cert.MlpBwdRIdeal.nD Cert.MlpBwdRIdeal.τ).loc Cert.MlpBwdRIdeal.main_arg4)) (m ((c.tc : Thread Cert.MlpBwdRIdeal.nD Cert.MlpBwdRIdeal.τ).loc Cert.MlpBwdRIdeal.main_arg5)) (m ((c.tc : Thread Cert.MlpBwdRIdeal.nD Cert.MlpBwdRIdeal.τ).loc Cert.MlpBwdRIdeal.main_arg6)) (m ((c.tc : Thread Cert.MlpBwdRIdeal.nD Cert.MlpBwdRIdeal.τ).loc Cert.MlpBwdRIdeal.main_arg7))).2.1 = (fun _ => 1#1)
    ∧ (Cert.Pre_finite_mlpbwd.fn (F := Ideal) (m ((c.tc : Thread Cert.MlpBwdRIdeal.nD Cert.MlpBwdRIdeal.τ).loc Cert.MlpBwdRIdeal.main_arg0)) (m ((c.tc : Thread Cert.MlpBwdRIdeal.nD Cert.MlpBwdRIdeal.τ).loc Cert.MlpBwdRIdeal.main_arg1)) (m ((c.tc : Thread Cert.MlpBwdRIdeal.nD Cert.MlpBwdRIdeal.τ).loc Cert.MlpBwdRIdeal.main_arg2)) (m ((c.tc : Thread Cert.MlpBwdRIdeal.nD Cert.MlpBwdRIdeal.τ).loc Cert.MlpBwdRIdeal.main_arg3)) (m ((c.tc : Thread Cert.MlpBwdRIdeal.nD Cert.MlpBwdRIdeal.τ).loc Cert.MlpBwdRIdeal.main_arg4)) (m ((c.tc : Thread Cert.MlpBwdRIdeal.nD Cert.MlpBwdRIdeal.τ).loc Cert.MlpBwdRIdeal.main_arg5)) (m ((c.tc : Thread Cert.MlpBwdRIdeal.nD Cert.MlpBwdRIdeal.τ).loc Cert.MlpBwdRIdeal.main_arg6)) (m ((c.tc : Thread Cert.MlpBwdRIdeal.nD Cert.MlpBwdRIdeal.τ).loc Cert.MlpBwdRIdeal.main_arg7))).2.2.1 = (fun _ => 1#1)
    ∧ (Cert.Pre_finite_mlpbwd.fn (F := Ideal) (m ((c.tc : Thread Cert.MlpBwdRIdeal.nD Cert.MlpBwdRIdeal.τ).loc Cert.MlpBwdRIdeal.main_arg0)) (m ((c.tc : Thread Cert.MlpBwdRIdeal.nD Cert.MlpBwdRIdeal.τ).loc Cert.MlpBwdRIdeal.main_arg1)) (m ((c.tc : Thread Cert.MlpBwdRIdeal.nD Cert.MlpBwdRIdeal.τ).loc Cert.MlpBwdRIdeal.main_arg2)) (m ((c.tc : Thread Cert.MlpBwdRIdeal.nD Cert.MlpBwdRIdeal.τ).loc Cert.MlpBwdRIdeal.main_arg3)) (m ((c.tc : Thread Cert.MlpBwdRIdeal.nD Cert.MlpBwdRIdeal.τ).loc Cert.MlpBwdRIdeal.main_arg4)) (m ((c.tc : Thread Cert.MlpBwdRIdeal.nD Cert.MlpBwdRIdeal.τ).loc Cert.MlpBwdRIdeal.main_arg5)) (m ((c.tc : Thread Cert.MlpBwdRIdeal.nD Cert.MlpBwdRIdeal.τ).loc Cert.MlpBwdRIdeal.main_arg6)) (m ((c.tc : Thread Cert.MlpBwdRIdeal.nD Cert.MlpBwdRIdeal.τ).loc Cert.MlpBwdRIdeal.main_arg7))).2.2.2.1 = (fun _ => 1#1)
    ∧ (Cert.Pre_finite_mlpbwd.fn (F := Ideal) (m ((c.tc : Thread Cert.MlpBwdRIdeal.nD Cert.MlpBwdRIdeal.τ).loc Cert.MlpBwdRIdeal.main_arg0)) (m ((c.tc : Thread Cert.MlpBwdRIdeal.nD Cert.MlpBwdRIdeal.τ).loc Cert.MlpBwdRIdeal.main_arg1)) (m ((c.tc : Thread Cert.MlpBwdRIdeal.nD Cert.MlpBwdRIdeal.τ).loc Cert.MlpBwdRIdeal.main_arg2)) (m ((c.tc : Thread Cert.MlpBwdRIdeal.nD Cert.MlpBwdRIdeal.τ).loc Cert.MlpBwdRIdeal.main_arg3)) (m ((c.tc : Thread Cert.MlpBwdRIdeal.nD Cert.MlpBwdRIdeal.τ).loc Cert.MlpBwdRIdeal.main_arg4)) (m ((c.tc : Thread Cert.MlpBwdRIdeal.nD Cert.MlpBwdRIdeal.τ).loc Cert.MlpBwdRIdeal.main_arg5)) (m ((c.tc : Thread Cert.MlpBwdRIdeal.nD Cert.MlpBwdRIdeal.τ).loc Cert.MlpBwdRIdeal.main_arg6)) (m ((c.tc : Thread Cert.MlpBwdRIdeal.nD Cert.MlpBwdRIdeal.τ).loc Cert.MlpBwdRIdeal.main_arg7))).2.2.2.2.1 = (fun _ => 1#1)
    ∧ (Cert.Pre_finite_mlpbwd.fn (F := Ideal) (m ((c.tc : Thread Cert.MlpBwdRIdeal.nD Cert.MlpBwdRIdeal.τ).loc Cert.MlpBwdRIdeal.main_arg0)) (m ((c.tc : Thread Cert.MlpBwdRIdeal.nD Cert.MlpBwdRIdeal.τ).loc Cert.MlpBwdRIdeal.main_arg1)) (m ((c.tc : Thread Cert.MlpBwdRIdeal.nD Cert.MlpBwdRIdeal.τ).loc Cert.MlpBwdRIdeal.main_arg2)) (m ((c.tc : Thread Cert.MlpBwdRIdeal.nD Cert.MlpBwdRIdeal.τ).loc Cert.MlpBwdRIdeal.main_arg3)) (m ((c.tc : Thread Cert.MlpBwdRIdeal.nD Cert.MlpBwdRIdeal.τ).loc Cert.MlpBwdRIdeal.main_arg4)) (m ((c.tc : Thread Cert.MlpBwdRIdeal.nD Cert.MlpBwdRIdeal.τ).loc Cert.MlpBwdRIdeal.main_arg5)) (m ((c.tc : Thread Cert.MlpBwdRIdeal.nD Cert.MlpBwdRIdeal.τ).loc Cert.MlpBwdRIdeal.main_arg6)) (m ((c.tc : Thread Cert.MlpBwdRIdeal.nD Cert.MlpBwdRIdeal.τ).loc Cert.MlpBwdRIdeal.main_arg7))).2.2.2.2.2.1 = (fun _ => 1#1)
    ∧ (Cert.Pre_finite_mlpbwd.fn (F := Ideal) (m ((c.tc : Thread Cert.MlpBwdRIdeal.nD Cert.MlpBwdRIdeal.τ).loc Cert.MlpBwdRIdeal.main_arg0)) (m ((c.tc : Thread Cert.MlpBwdRIdeal.nD Cert.MlpBwdRIdeal.τ).loc Cert.MlpBwdRIdeal.main_arg1)) (m ((c.tc : Thread Cert.MlpBwdRIdeal.nD Cert.MlpBwdRIdeal.τ).loc Cert.MlpBwdRIdeal.main_arg2)) (m ((c.tc : Thread Cert.MlpBwdRIdeal.nD Cert.MlpBwdRIdeal.τ).loc Cert.MlpBwdRIdeal.main_arg3)) (m ((c.tc : Thread Cert.MlpBwdRIdeal.nD Cert.MlpBwdRIdeal.τ).loc Cert.MlpBwdRIdeal.main_arg4)) (m ((c.tc : Thread Cert.MlpBwdRIdeal.nD Cert.MlpBwdRIdeal.τ).loc Cert.MlpBwdRIdeal.main_arg5)) (m ((c.tc : Thread Cert.MlpBwdRIdeal.nD Cert.MlpBwdRIdeal.τ).loc Cert.MlpBwdRIdeal.main_arg6)) (m ((c.tc : Thread Cert.MlpBwdRIdeal.nD Cert.MlpBwdRIdeal.τ).loc Cert.MlpBwdRIdeal.main_arg7))).2.2.2.2.2.2.1 = (fun _ => 1#1)
    ∧ (Cert.Pre_finite_mlpbwd.fn (F := Ideal) (m ((c.tc : Thread Cert.MlpBwdRIdeal.nD Cert.MlpBwdRIdeal.τ).loc Cert.MlpBwdRIdeal.main_arg0)) (m ((c.tc : Thread Cert.MlpBwdRIdeal.nD Cert.MlpBwdRIdeal.τ).loc Cert.MlpBwdRIdeal.main_arg1)) (m ((c.tc : Thread Cert.MlpBwdRIdeal.nD Cert.MlpBwdRIdeal.τ).loc Cert.MlpBwdRIdeal.main_arg2)) (m ((c.tc : Thread Cert.MlpBwdRIdeal.nD Cert.MlpBwdRIdeal.τ).loc Cert.MlpBwdRIdeal.main_arg3)) (m ((c.tc : Thread Cert.MlpBwdRIdeal.nD Cert.MlpBwdRIdeal.τ).loc Cert.MlpBwdRIdeal.main_arg4)) (m ((c.tc : Thread Cert.MlpBwdRIdeal.nD Cert.MlpBwdRIdeal.τ).loc Cert.MlpBwdRIdeal.main_arg5)) (m ((c.tc : Thread Cert.MlpBwdRIdeal.nD Cert.MlpBwdRIdeal.τ).loc Cert.MlpBwdRIdeal.main_arg6)) (m ((c.tc : Thread Cert.MlpBwdRIdeal.nD Cert.MlpBwdRIdeal.τ).loc Cert.MlpBwdRIdeal.main_arg7))).2.2.2.2.2.2.2 = (fun _ => 1#1)

def Pre_DwDownK (m : (ℓ : Loc Cert.DwDownK.nD Cert.DwDownK.τ Cert.DwDownK.sig) → Buf (Elt Bits) ℓ) : Prop :=
  True

def Pre_DwDownKIdeal (m : (ℓ : Loc Cert.DwDownKIdeal.nD Cert.DwDownKIdeal.τ Cert.DwDownKIdeal.sig) → Buf (Elt Ideal) ℓ) : Prop :=
  True

def Pre_DwDownKIdeal_finite_dwdown [hPre_finite_dwdown : Cert.Pre_finite_dwdown.Facts] (m : (ℓ : Loc Cert.DwDownKIdeal.nD Cert.DwDownKIdeal.τ Cert.DwDownKIdeal.sig) → Buf (Elt Ideal) ℓ) : Prop :=
  ∀ c : Dev Cert.DwDownKIdeal.nD,
    (Cert.Pre_finite_dwdown.fn (F := Ideal) (m ((c.tc : Thread Cert.DwDownKIdeal.nD Cert.DwDownKIdeal.τ).loc Cert.DwDownKIdeal.main_arg0)) (m ((c.tc : Thread Cert.DwDownKIdeal.nD Cert.DwDownKIdeal.τ).loc Cert.DwDownKIdeal.main_arg1)) (m ((c.tc : Thread Cert.DwDownKIdeal.nD Cert.DwDownKIdeal.τ).loc Cert.DwDownKIdeal.main_arg2)) (m ((c.tc : Thread Cert.DwDownKIdeal.nD Cert.DwDownKIdeal.τ).loc Cert.DwDownKIdeal.main_arg3))).1 = (fun _ => 1#1)
    ∧ (Cert.Pre_finite_dwdown.fn (F := Ideal) (m ((c.tc : Thread Cert.DwDownKIdeal.nD Cert.DwDownKIdeal.τ).loc Cert.DwDownKIdeal.main_arg0)) (m ((c.tc : Thread Cert.DwDownKIdeal.nD Cert.DwDownKIdeal.τ).loc Cert.DwDownKIdeal.main_arg1)) (m ((c.tc : Thread Cert.DwDownKIdeal.nD Cert.DwDownKIdeal.τ).loc Cert.DwDownKIdeal.main_arg2)) (m ((c.tc : Thread Cert.DwDownKIdeal.nD Cert.DwDownKIdeal.τ).loc Cert.DwDownKIdeal.main_arg3))).2.1 = (fun _ => 1#1)
    ∧ (Cert.Pre_finite_dwdown.fn (F := Ideal) (m ((c.tc : Thread Cert.DwDownKIdeal.nD Cert.DwDownKIdeal.τ).loc Cert.DwDownKIdeal.main_arg0)) (m ((c.tc : Thread Cert.DwDownKIdeal.nD Cert.DwDownKIdeal.τ).loc Cert.DwDownKIdeal.main_arg1)) (m ((c.tc : Thread Cert.DwDownKIdeal.nD Cert.DwDownKIdeal.τ).loc Cert.DwDownKIdeal.main_arg2)) (m ((c.tc : Thread Cert.DwDownKIdeal.nD Cert.DwDownKIdeal.τ).loc Cert.DwDownKIdeal.main_arg3))).2.2.1 = (fun _ => 1#1)
    ∧ (Cert.Pre_finite_dwdown.fn (F := Ideal) (m ((c.tc : Thread Cert.DwDownKIdeal.nD Cert.DwDownKIdeal.τ).loc Cert.DwDownKIdeal.main_arg0)) (m ((c.tc : Thread Cert.DwDownKIdeal.nD Cert.DwDownKIdeal.τ).loc Cert.DwDownKIdeal.main_arg1)) (m ((c.tc : Thread Cert.DwDownKIdeal.nD Cert.DwDownKIdeal.τ).loc Cert.DwDownKIdeal.main_arg2)) (m ((c.tc : Thread Cert.DwDownKIdeal.nD Cert.DwDownKIdeal.τ).loc Cert.DwDownKIdeal.main_arg3))).2.2.2 = (fun _ => 1#1)

def Pre_DwDownRIdeal (m : (ℓ : Loc Cert.DwDownRIdeal.nD Cert.DwDownRIdeal.τ Cert.DwDownRIdeal.sig) → Buf (Elt Ideal) ℓ) : Prop :=
  True

def Pre_DwDownRIdeal_finite_dwdown [hPre_finite_dwdown : Cert.Pre_finite_dwdown.Facts] (m : (ℓ : Loc Cert.DwDownRIdeal.nD Cert.DwDownRIdeal.τ Cert.DwDownRIdeal.sig) → Buf (Elt Ideal) ℓ) : Prop :=
  ∀ c : Dev Cert.DwDownRIdeal.nD,
    (Cert.Pre_finite_dwdown.fn (F := Ideal) (m ((c.tc : Thread Cert.DwDownRIdeal.nD Cert.DwDownRIdeal.τ).loc Cert.DwDownRIdeal.main_arg0)) (m ((c.tc : Thread Cert.DwDownRIdeal.nD Cert.DwDownRIdeal.τ).loc Cert.DwDownRIdeal.main_arg1)) (m ((c.tc : Thread Cert.DwDownRIdeal.nD Cert.DwDownRIdeal.τ).loc Cert.DwDownRIdeal.main_arg2)) (m ((c.tc : Thread Cert.DwDownRIdeal.nD Cert.DwDownRIdeal.τ).loc Cert.DwDownRIdeal.main_arg3))).1 = (fun _ => 1#1)
    ∧ (Cert.Pre_finite_dwdown.fn (F := Ideal) (m ((c.tc : Thread Cert.DwDownRIdeal.nD Cert.DwDownRIdeal.τ).loc Cert.DwDownRIdeal.main_arg0)) (m ((c.tc : Thread Cert.DwDownRIdeal.nD Cert.DwDownRIdeal.τ).loc Cert.DwDownRIdeal.main_arg1)) (m ((c.tc : Thread Cert.DwDownRIdeal.nD Cert.DwDownRIdeal.τ).loc Cert.DwDownRIdeal.main_arg2)) (m ((c.tc : Thread Cert.DwDownRIdeal.nD Cert.DwDownRIdeal.τ).loc Cert.DwDownRIdeal.main_arg3))).2.1 = (fun _ => 1#1)
    ∧ (Cert.Pre_finite_dwdown.fn (F := Ideal) (m ((c.tc : Thread Cert.DwDownRIdeal.nD Cert.DwDownRIdeal.τ).loc Cert.DwDownRIdeal.main_arg0)) (m ((c.tc : Thread Cert.DwDownRIdeal.nD Cert.DwDownRIdeal.τ).loc Cert.DwDownRIdeal.main_arg1)) (m ((c.tc : Thread Cert.DwDownRIdeal.nD Cert.DwDownRIdeal.τ).loc Cert.DwDownRIdeal.main_arg2)) (m ((c.tc : Thread Cert.DwDownRIdeal.nD Cert.DwDownRIdeal.τ).loc Cert.DwDownRIdeal.main_arg3))).2.2.1 = (fun _ => 1#1)
    ∧ (Cert.Pre_finite_dwdown.fn (F := Ideal) (m ((c.tc : Thread Cert.DwDownRIdeal.nD Cert.DwDownRIdeal.τ).loc Cert.DwDownRIdeal.main_arg0)) (m ((c.tc : Thread Cert.DwDownRIdeal.nD Cert.DwDownRIdeal.τ).loc Cert.DwDownRIdeal.main_arg1)) (m ((c.tc : Thread Cert.DwDownRIdeal.nD Cert.DwDownRIdeal.τ).loc Cert.DwDownRIdeal.main_arg2)) (m ((c.tc : Thread Cert.DwDownRIdeal.nD Cert.DwDownRIdeal.τ).loc Cert.DwDownRIdeal.main_arg3))).2.2.2 = (fun _ => 1#1)

def Pre_ConvLruK (m : (ℓ : Loc Cert.ConvLruK.nD Cert.ConvLruK.τ Cert.ConvLruK.sig) → Buf (Elt Bits) ℓ) : Prop :=
  True

def Pre_ConvLruKIdeal (m : (ℓ : Loc Cert.ConvLruKIdeal.nD Cert.ConvLruKIdeal.τ Cert.ConvLruKIdeal.sig) → Buf (Elt Ideal) ℓ) : Prop :=
  True

def Pre_ConvLruRIdeal (m : (ℓ : Loc Cert.ConvLruRIdeal.nD Cert.ConvLruRIdeal.τ Cert.ConvLruRIdeal.sig) → Buf (Elt Ideal) ℓ) : Prop :=
  True

def Pre_ConvGdnK (m : (ℓ : Loc Cert.ConvGdnK.nD Cert.ConvGdnK.τ Cert.ConvGdnK.sig) → Buf (Elt Bits) ℓ) : Prop :=
  True

def Pre_ConvGdnKIdeal (m : (ℓ : Loc Cert.ConvGdnKIdeal.nD Cert.ConvGdnKIdeal.τ Cert.ConvGdnKIdeal.sig) → Buf (Elt Ideal) ℓ) : Prop :=
  True

def Pre_ConvGdnKIdeal_finite_convgdn [hPre_finite_convgdn : Cert.Pre_finite_convgdn.Facts] (m : (ℓ : Loc Cert.ConvGdnKIdeal.nD Cert.ConvGdnKIdeal.τ Cert.ConvGdnKIdeal.sig) → Buf (Elt Ideal) ℓ) : Prop :=
  ∀ c : Dev Cert.ConvGdnKIdeal.nD,
    (Cert.Pre_finite_convgdn.fn (F := Ideal) (m ((c.tc : Thread Cert.ConvGdnKIdeal.nD Cert.ConvGdnKIdeal.τ).loc Cert.ConvGdnKIdeal.main_arg0)) (m ((c.tc : Thread Cert.ConvGdnKIdeal.nD Cert.ConvGdnKIdeal.τ).loc Cert.ConvGdnKIdeal.main_arg1)) (m ((c.tc : Thread Cert.ConvGdnKIdeal.nD Cert.ConvGdnKIdeal.τ).loc Cert.ConvGdnKIdeal.main_arg2))).1 = (fun _ => 1#1)
    ∧ (Cert.Pre_finite_convgdn.fn (F := Ideal) (m ((c.tc : Thread Cert.ConvGdnKIdeal.nD Cert.ConvGdnKIdeal.τ).loc Cert.ConvGdnKIdeal.main_arg0)) (m ((c.tc : Thread Cert.ConvGdnKIdeal.nD Cert.ConvGdnKIdeal.τ).loc Cert.ConvGdnKIdeal.main_arg1)) (m ((c.tc : Thread Cert.ConvGdnKIdeal.nD Cert.ConvGdnKIdeal.τ).loc Cert.ConvGdnKIdeal.main_arg2))).2.1 = (fun _ => 1#1)
    ∧ (Cert.Pre_finite_convgdn.fn (F := Ideal) (m ((c.tc : Thread Cert.ConvGdnKIdeal.nD Cert.ConvGdnKIdeal.τ).loc Cert.ConvGdnKIdeal.main_arg0)) (m ((c.tc : Thread Cert.ConvGdnKIdeal.nD Cert.ConvGdnKIdeal.τ).loc Cert.ConvGdnKIdeal.main_arg1)) (m ((c.tc : Thread Cert.ConvGdnKIdeal.nD Cert.ConvGdnKIdeal.τ).loc Cert.ConvGdnKIdeal.main_arg2))).2.2 = (fun _ => 1#1)

def Pre_ConvGdnRIdeal (m : (ℓ : Loc Cert.ConvGdnRIdeal.nD Cert.ConvGdnRIdeal.τ Cert.ConvGdnRIdeal.sig) → Buf (Elt Ideal) ℓ) : Prop :=
  True

def Pre_ConvGdnRIdeal_finite_convgdn [hPre_finite_convgdn : Cert.Pre_finite_convgdn.Facts] (m : (ℓ : Loc Cert.ConvGdnRIdeal.nD Cert.ConvGdnRIdeal.τ Cert.ConvGdnRIdeal.sig) → Buf (Elt Ideal) ℓ) : Prop :=
  ∀ c : Dev Cert.ConvGdnRIdeal.nD,
    (Cert.Pre_finite_convgdn.fn (F := Ideal) (m ((c.tc : Thread Cert.ConvGdnRIdeal.nD Cert.ConvGdnRIdeal.τ).loc Cert.ConvGdnRIdeal.main_arg0)) (m ((c.tc : Thread Cert.ConvGdnRIdeal.nD Cert.ConvGdnRIdeal.τ).loc Cert.ConvGdnRIdeal.main_arg1)) (m ((c.tc : Thread Cert.ConvGdnRIdeal.nD Cert.ConvGdnRIdeal.τ).loc Cert.ConvGdnRIdeal.main_arg2))).1 = (fun _ => 1#1)
    ∧ (Cert.Pre_finite_convgdn.fn (F := Ideal) (m ((c.tc : Thread Cert.ConvGdnRIdeal.nD Cert.ConvGdnRIdeal.τ).loc Cert.ConvGdnRIdeal.main_arg0)) (m ((c.tc : Thread Cert.ConvGdnRIdeal.nD Cert.ConvGdnRIdeal.τ).loc Cert.ConvGdnRIdeal.main_arg1)) (m ((c.tc : Thread Cert.ConvGdnRIdeal.nD Cert.ConvGdnRIdeal.τ).loc Cert.ConvGdnRIdeal.main_arg2))).2.1 = (fun _ => 1#1)
    ∧ (Cert.Pre_finite_convgdn.fn (F := Ideal) (m ((c.tc : Thread Cert.ConvGdnRIdeal.nD Cert.ConvGdnRIdeal.τ).loc Cert.ConvGdnRIdeal.main_arg0)) (m ((c.tc : Thread Cert.ConvGdnRIdeal.nD Cert.ConvGdnRIdeal.τ).loc Cert.ConvGdnRIdeal.main_arg1)) (m ((c.tc : Thread Cert.ConvGdnRIdeal.nD Cert.ConvGdnRIdeal.τ).loc Cert.ConvGdnRIdeal.main_arg2))).2.2 = (fun _ => 1#1)

def Pre_OutBwdK (m : (ℓ : Loc Cert.OutBwdK.nD Cert.OutBwdK.τ Cert.OutBwdK.sig) → Buf (Elt Bits) ℓ) : Prop :=
  True

def Pre_OutBwdKIdeal (m : (ℓ : Loc Cert.OutBwdKIdeal.nD Cert.OutBwdKIdeal.τ Cert.OutBwdKIdeal.sig) → Buf (Elt Ideal) ℓ) : Prop :=
  True

def Pre_OutBwdKIdeal_finite_outbwd [hPre_finite_outbwd : Cert.Pre_finite_outbwd.Facts] (m : (ℓ : Loc Cert.OutBwdKIdeal.nD Cert.OutBwdKIdeal.τ Cert.OutBwdKIdeal.sig) → Buf (Elt Ideal) ℓ) : Prop :=
  ∀ c : Dev Cert.OutBwdKIdeal.nD,
    (Cert.Pre_finite_outbwd.fn (F := Ideal) (m ((c.tc : Thread Cert.OutBwdKIdeal.nD Cert.OutBwdKIdeal.τ).loc Cert.OutBwdKIdeal.main_arg0)) (m ((c.tc : Thread Cert.OutBwdKIdeal.nD Cert.OutBwdKIdeal.τ).loc Cert.OutBwdKIdeal.main_arg1)) (m ((c.tc : Thread Cert.OutBwdKIdeal.nD Cert.OutBwdKIdeal.τ).loc Cert.OutBwdKIdeal.main_arg2)) (m ((c.tc : Thread Cert.OutBwdKIdeal.nD Cert.OutBwdKIdeal.τ).loc Cert.OutBwdKIdeal.main_arg3)) (m ((c.tc : Thread Cert.OutBwdKIdeal.nD Cert.OutBwdKIdeal.τ).loc Cert.OutBwdKIdeal.main_arg4)) (m ((c.tc : Thread Cert.OutBwdKIdeal.nD Cert.OutBwdKIdeal.τ).loc Cert.OutBwdKIdeal.main_arg5)) (m ((c.tc : Thread Cert.OutBwdKIdeal.nD Cert.OutBwdKIdeal.τ).loc Cert.OutBwdKIdeal.main_arg6)) (m ((c.tc : Thread Cert.OutBwdKIdeal.nD Cert.OutBwdKIdeal.τ).loc Cert.OutBwdKIdeal.main_arg7))).1 = (fun _ => 1#1)
    ∧ (Cert.Pre_finite_outbwd.fn (F := Ideal) (m ((c.tc : Thread Cert.OutBwdKIdeal.nD Cert.OutBwdKIdeal.τ).loc Cert.OutBwdKIdeal.main_arg0)) (m ((c.tc : Thread Cert.OutBwdKIdeal.nD Cert.OutBwdKIdeal.τ).loc Cert.OutBwdKIdeal.main_arg1)) (m ((c.tc : Thread Cert.OutBwdKIdeal.nD Cert.OutBwdKIdeal.τ).loc Cert.OutBwdKIdeal.main_arg2)) (m ((c.tc : Thread Cert.OutBwdKIdeal.nD Cert.OutBwdKIdeal.τ).loc Cert.OutBwdKIdeal.main_arg3)) (m ((c.tc : Thread Cert.OutBwdKIdeal.nD Cert.OutBwdKIdeal.τ).loc Cert.OutBwdKIdeal.main_arg4)) (m ((c.tc : Thread Cert.OutBwdKIdeal.nD Cert.OutBwdKIdeal.τ).loc Cert.OutBwdKIdeal.main_arg5)) (m ((c.tc : Thread Cert.OutBwdKIdeal.nD Cert.OutBwdKIdeal.τ).loc Cert.OutBwdKIdeal.main_arg6)) (m ((c.tc : Thread Cert.OutBwdKIdeal.nD Cert.OutBwdKIdeal.τ).loc Cert.OutBwdKIdeal.main_arg7))).2.1 = (fun _ => 1#1)
    ∧ (Cert.Pre_finite_outbwd.fn (F := Ideal) (m ((c.tc : Thread Cert.OutBwdKIdeal.nD Cert.OutBwdKIdeal.τ).loc Cert.OutBwdKIdeal.main_arg0)) (m ((c.tc : Thread Cert.OutBwdKIdeal.nD Cert.OutBwdKIdeal.τ).loc Cert.OutBwdKIdeal.main_arg1)) (m ((c.tc : Thread Cert.OutBwdKIdeal.nD Cert.OutBwdKIdeal.τ).loc Cert.OutBwdKIdeal.main_arg2)) (m ((c.tc : Thread Cert.OutBwdKIdeal.nD Cert.OutBwdKIdeal.τ).loc Cert.OutBwdKIdeal.main_arg3)) (m ((c.tc : Thread Cert.OutBwdKIdeal.nD Cert.OutBwdKIdeal.τ).loc Cert.OutBwdKIdeal.main_arg4)) (m ((c.tc : Thread Cert.OutBwdKIdeal.nD Cert.OutBwdKIdeal.τ).loc Cert.OutBwdKIdeal.main_arg5)) (m ((c.tc : Thread Cert.OutBwdKIdeal.nD Cert.OutBwdKIdeal.τ).loc Cert.OutBwdKIdeal.main_arg6)) (m ((c.tc : Thread Cert.OutBwdKIdeal.nD Cert.OutBwdKIdeal.τ).loc Cert.OutBwdKIdeal.main_arg7))).2.2.1 = (fun _ => 1#1)
    ∧ (Cert.Pre_finite_outbwd.fn (F := Ideal) (m ((c.tc : Thread Cert.OutBwdKIdeal.nD Cert.OutBwdKIdeal.τ).loc Cert.OutBwdKIdeal.main_arg0)) (m ((c.tc : Thread Cert.OutBwdKIdeal.nD Cert.OutBwdKIdeal.τ).loc Cert.OutBwdKIdeal.main_arg1)) (m ((c.tc : Thread Cert.OutBwdKIdeal.nD Cert.OutBwdKIdeal.τ).loc Cert.OutBwdKIdeal.main_arg2)) (m ((c.tc : Thread Cert.OutBwdKIdeal.nD Cert.OutBwdKIdeal.τ).loc Cert.OutBwdKIdeal.main_arg3)) (m ((c.tc : Thread Cert.OutBwdKIdeal.nD Cert.OutBwdKIdeal.τ).loc Cert.OutBwdKIdeal.main_arg4)) (m ((c.tc : Thread Cert.OutBwdKIdeal.nD Cert.OutBwdKIdeal.τ).loc Cert.OutBwdKIdeal.main_arg5)) (m ((c.tc : Thread Cert.OutBwdKIdeal.nD Cert.OutBwdKIdeal.τ).loc Cert.OutBwdKIdeal.main_arg6)) (m ((c.tc : Thread Cert.OutBwdKIdeal.nD Cert.OutBwdKIdeal.τ).loc Cert.OutBwdKIdeal.main_arg7))).2.2.2.1 = (fun _ => 1#1)
    ∧ (Cert.Pre_finite_outbwd.fn (F := Ideal) (m ((c.tc : Thread Cert.OutBwdKIdeal.nD Cert.OutBwdKIdeal.τ).loc Cert.OutBwdKIdeal.main_arg0)) (m ((c.tc : Thread Cert.OutBwdKIdeal.nD Cert.OutBwdKIdeal.τ).loc Cert.OutBwdKIdeal.main_arg1)) (m ((c.tc : Thread Cert.OutBwdKIdeal.nD Cert.OutBwdKIdeal.τ).loc Cert.OutBwdKIdeal.main_arg2)) (m ((c.tc : Thread Cert.OutBwdKIdeal.nD Cert.OutBwdKIdeal.τ).loc Cert.OutBwdKIdeal.main_arg3)) (m ((c.tc : Thread Cert.OutBwdKIdeal.nD Cert.OutBwdKIdeal.τ).loc Cert.OutBwdKIdeal.main_arg4)) (m ((c.tc : Thread Cert.OutBwdKIdeal.nD Cert.OutBwdKIdeal.τ).loc Cert.OutBwdKIdeal.main_arg5)) (m ((c.tc : Thread Cert.OutBwdKIdeal.nD Cert.OutBwdKIdeal.τ).loc Cert.OutBwdKIdeal.main_arg6)) (m ((c.tc : Thread Cert.OutBwdKIdeal.nD Cert.OutBwdKIdeal.τ).loc Cert.OutBwdKIdeal.main_arg7))).2.2.2.2.1 = (fun _ => 1#1)
    ∧ (Cert.Pre_finite_outbwd.fn (F := Ideal) (m ((c.tc : Thread Cert.OutBwdKIdeal.nD Cert.OutBwdKIdeal.τ).loc Cert.OutBwdKIdeal.main_arg0)) (m ((c.tc : Thread Cert.OutBwdKIdeal.nD Cert.OutBwdKIdeal.τ).loc Cert.OutBwdKIdeal.main_arg1)) (m ((c.tc : Thread Cert.OutBwdKIdeal.nD Cert.OutBwdKIdeal.τ).loc Cert.OutBwdKIdeal.main_arg2)) (m ((c.tc : Thread Cert.OutBwdKIdeal.nD Cert.OutBwdKIdeal.τ).loc Cert.OutBwdKIdeal.main_arg3)) (m ((c.tc : Thread Cert.OutBwdKIdeal.nD Cert.OutBwdKIdeal.τ).loc Cert.OutBwdKIdeal.main_arg4)) (m ((c.tc : Thread Cert.OutBwdKIdeal.nD Cert.OutBwdKIdeal.τ).loc Cert.OutBwdKIdeal.main_arg5)) (m ((c.tc : Thread Cert.OutBwdKIdeal.nD Cert.OutBwdKIdeal.τ).loc Cert.OutBwdKIdeal.main_arg6)) (m ((c.tc : Thread Cert.OutBwdKIdeal.nD Cert.OutBwdKIdeal.τ).loc Cert.OutBwdKIdeal.main_arg7))).2.2.2.2.2.1 = (fun _ => 1#1)
    ∧ (Cert.Pre_finite_outbwd.fn (F := Ideal) (m ((c.tc : Thread Cert.OutBwdKIdeal.nD Cert.OutBwdKIdeal.τ).loc Cert.OutBwdKIdeal.main_arg0)) (m ((c.tc : Thread Cert.OutBwdKIdeal.nD Cert.OutBwdKIdeal.τ).loc Cert.OutBwdKIdeal.main_arg1)) (m ((c.tc : Thread Cert.OutBwdKIdeal.nD Cert.OutBwdKIdeal.τ).loc Cert.OutBwdKIdeal.main_arg2)) (m ((c.tc : Thread Cert.OutBwdKIdeal.nD Cert.OutBwdKIdeal.τ).loc Cert.OutBwdKIdeal.main_arg3)) (m ((c.tc : Thread Cert.OutBwdKIdeal.nD Cert.OutBwdKIdeal.τ).loc Cert.OutBwdKIdeal.main_arg4)) (m ((c.tc : Thread Cert.OutBwdKIdeal.nD Cert.OutBwdKIdeal.τ).loc Cert.OutBwdKIdeal.main_arg5)) (m ((c.tc : Thread Cert.OutBwdKIdeal.nD Cert.OutBwdKIdeal.τ).loc Cert.OutBwdKIdeal.main_arg6)) (m ((c.tc : Thread Cert.OutBwdKIdeal.nD Cert.OutBwdKIdeal.τ).loc Cert.OutBwdKIdeal.main_arg7))).2.2.2.2.2.2 = (fun _ => 1#1)

def Pre_OutBwdRIdeal (m : (ℓ : Loc Cert.OutBwdRIdeal.nD Cert.OutBwdRIdeal.τ Cert.OutBwdRIdeal.sig) → Buf (Elt Ideal) ℓ) : Prop :=
  True

def Pre_OutBwdRIdeal_finite_outbwd [hPre_finite_outbwd : Cert.Pre_finite_outbwd.Facts] (m : (ℓ : Loc Cert.OutBwdRIdeal.nD Cert.OutBwdRIdeal.τ Cert.OutBwdRIdeal.sig) → Buf (Elt Ideal) ℓ) : Prop :=
  ∀ c : Dev Cert.OutBwdRIdeal.nD,
    (Cert.Pre_finite_outbwd.fn (F := Ideal) (m ((c.tc : Thread Cert.OutBwdRIdeal.nD Cert.OutBwdRIdeal.τ).loc Cert.OutBwdRIdeal.main_arg0)) (m ((c.tc : Thread Cert.OutBwdRIdeal.nD Cert.OutBwdRIdeal.τ).loc Cert.OutBwdRIdeal.main_arg1)) (m ((c.tc : Thread Cert.OutBwdRIdeal.nD Cert.OutBwdRIdeal.τ).loc Cert.OutBwdRIdeal.main_arg2)) (m ((c.tc : Thread Cert.OutBwdRIdeal.nD Cert.OutBwdRIdeal.τ).loc Cert.OutBwdRIdeal.main_arg3)) (m ((c.tc : Thread Cert.OutBwdRIdeal.nD Cert.OutBwdRIdeal.τ).loc Cert.OutBwdRIdeal.main_arg4)) (m ((c.tc : Thread Cert.OutBwdRIdeal.nD Cert.OutBwdRIdeal.τ).loc Cert.OutBwdRIdeal.main_arg5)) (m ((c.tc : Thread Cert.OutBwdRIdeal.nD Cert.OutBwdRIdeal.τ).loc Cert.OutBwdRIdeal.main_arg6)) (m ((c.tc : Thread Cert.OutBwdRIdeal.nD Cert.OutBwdRIdeal.τ).loc Cert.OutBwdRIdeal.main_arg7))).1 = (fun _ => 1#1)
    ∧ (Cert.Pre_finite_outbwd.fn (F := Ideal) (m ((c.tc : Thread Cert.OutBwdRIdeal.nD Cert.OutBwdRIdeal.τ).loc Cert.OutBwdRIdeal.main_arg0)) (m ((c.tc : Thread Cert.OutBwdRIdeal.nD Cert.OutBwdRIdeal.τ).loc Cert.OutBwdRIdeal.main_arg1)) (m ((c.tc : Thread Cert.OutBwdRIdeal.nD Cert.OutBwdRIdeal.τ).loc Cert.OutBwdRIdeal.main_arg2)) (m ((c.tc : Thread Cert.OutBwdRIdeal.nD Cert.OutBwdRIdeal.τ).loc Cert.OutBwdRIdeal.main_arg3)) (m ((c.tc : Thread Cert.OutBwdRIdeal.nD Cert.OutBwdRIdeal.τ).loc Cert.OutBwdRIdeal.main_arg4)) (m ((c.tc : Thread Cert.OutBwdRIdeal.nD Cert.OutBwdRIdeal.τ).loc Cert.OutBwdRIdeal.main_arg5)) (m ((c.tc : Thread Cert.OutBwdRIdeal.nD Cert.OutBwdRIdeal.τ).loc Cert.OutBwdRIdeal.main_arg6)) (m ((c.tc : Thread Cert.OutBwdRIdeal.nD Cert.OutBwdRIdeal.τ).loc Cert.OutBwdRIdeal.main_arg7))).2.1 = (fun _ => 1#1)
    ∧ (Cert.Pre_finite_outbwd.fn (F := Ideal) (m ((c.tc : Thread Cert.OutBwdRIdeal.nD Cert.OutBwdRIdeal.τ).loc Cert.OutBwdRIdeal.main_arg0)) (m ((c.tc : Thread Cert.OutBwdRIdeal.nD Cert.OutBwdRIdeal.τ).loc Cert.OutBwdRIdeal.main_arg1)) (m ((c.tc : Thread Cert.OutBwdRIdeal.nD Cert.OutBwdRIdeal.τ).loc Cert.OutBwdRIdeal.main_arg2)) (m ((c.tc : Thread Cert.OutBwdRIdeal.nD Cert.OutBwdRIdeal.τ).loc Cert.OutBwdRIdeal.main_arg3)) (m ((c.tc : Thread Cert.OutBwdRIdeal.nD Cert.OutBwdRIdeal.τ).loc Cert.OutBwdRIdeal.main_arg4)) (m ((c.tc : Thread Cert.OutBwdRIdeal.nD Cert.OutBwdRIdeal.τ).loc Cert.OutBwdRIdeal.main_arg5)) (m ((c.tc : Thread Cert.OutBwdRIdeal.nD Cert.OutBwdRIdeal.τ).loc Cert.OutBwdRIdeal.main_arg6)) (m ((c.tc : Thread Cert.OutBwdRIdeal.nD Cert.OutBwdRIdeal.τ).loc Cert.OutBwdRIdeal.main_arg7))).2.2.1 = (fun _ => 1#1)
    ∧ (Cert.Pre_finite_outbwd.fn (F := Ideal) (m ((c.tc : Thread Cert.OutBwdRIdeal.nD Cert.OutBwdRIdeal.τ).loc Cert.OutBwdRIdeal.main_arg0)) (m ((c.tc : Thread Cert.OutBwdRIdeal.nD Cert.OutBwdRIdeal.τ).loc Cert.OutBwdRIdeal.main_arg1)) (m ((c.tc : Thread Cert.OutBwdRIdeal.nD Cert.OutBwdRIdeal.τ).loc Cert.OutBwdRIdeal.main_arg2)) (m ((c.tc : Thread Cert.OutBwdRIdeal.nD Cert.OutBwdRIdeal.τ).loc Cert.OutBwdRIdeal.main_arg3)) (m ((c.tc : Thread Cert.OutBwdRIdeal.nD Cert.OutBwdRIdeal.τ).loc Cert.OutBwdRIdeal.main_arg4)) (m ((c.tc : Thread Cert.OutBwdRIdeal.nD Cert.OutBwdRIdeal.τ).loc Cert.OutBwdRIdeal.main_arg5)) (m ((c.tc : Thread Cert.OutBwdRIdeal.nD Cert.OutBwdRIdeal.τ).loc Cert.OutBwdRIdeal.main_arg6)) (m ((c.tc : Thread Cert.OutBwdRIdeal.nD Cert.OutBwdRIdeal.τ).loc Cert.OutBwdRIdeal.main_arg7))).2.2.2.1 = (fun _ => 1#1)
    ∧ (Cert.Pre_finite_outbwd.fn (F := Ideal) (m ((c.tc : Thread Cert.OutBwdRIdeal.nD Cert.OutBwdRIdeal.τ).loc Cert.OutBwdRIdeal.main_arg0)) (m ((c.tc : Thread Cert.OutBwdRIdeal.nD Cert.OutBwdRIdeal.τ).loc Cert.OutBwdRIdeal.main_arg1)) (m ((c.tc : Thread Cert.OutBwdRIdeal.nD Cert.OutBwdRIdeal.τ).loc Cert.OutBwdRIdeal.main_arg2)) (m ((c.tc : Thread Cert.OutBwdRIdeal.nD Cert.OutBwdRIdeal.τ).loc Cert.OutBwdRIdeal.main_arg3)) (m ((c.tc : Thread Cert.OutBwdRIdeal.nD Cert.OutBwdRIdeal.τ).loc Cert.OutBwdRIdeal.main_arg4)) (m ((c.tc : Thread Cert.OutBwdRIdeal.nD Cert.OutBwdRIdeal.τ).loc Cert.OutBwdRIdeal.main_arg5)) (m ((c.tc : Thread Cert.OutBwdRIdeal.nD Cert.OutBwdRIdeal.τ).loc Cert.OutBwdRIdeal.main_arg6)) (m ((c.tc : Thread Cert.OutBwdRIdeal.nD Cert.OutBwdRIdeal.τ).loc Cert.OutBwdRIdeal.main_arg7))).2.2.2.2.1 = (fun _ => 1#1)
    ∧ (Cert.Pre_finite_outbwd.fn (F := Ideal) (m ((c.tc : Thread Cert.OutBwdRIdeal.nD Cert.OutBwdRIdeal.τ).loc Cert.OutBwdRIdeal.main_arg0)) (m ((c.tc : Thread Cert.OutBwdRIdeal.nD Cert.OutBwdRIdeal.τ).loc Cert.OutBwdRIdeal.main_arg1)) (m ((c.tc : Thread Cert.OutBwdRIdeal.nD Cert.OutBwdRIdeal.τ).loc Cert.OutBwdRIdeal.main_arg2)) (m ((c.tc : Thread Cert.OutBwdRIdeal.nD Cert.OutBwdRIdeal.τ).loc Cert.OutBwdRIdeal.main_arg3)) (m ((c.tc : Thread Cert.OutBwdRIdeal.nD Cert.OutBwdRIdeal.τ).loc Cert.OutBwdRIdeal.main_arg4)) (m ((c.tc : Thread Cert.OutBwdRIdeal.nD Cert.OutBwdRIdeal.τ).loc Cert.OutBwdRIdeal.main_arg5)) (m ((c.tc : Thread Cert.OutBwdRIdeal.nD Cert.OutBwdRIdeal.τ).loc Cert.OutBwdRIdeal.main_arg6)) (m ((c.tc : Thread Cert.OutBwdRIdeal.nD Cert.OutBwdRIdeal.τ).loc Cert.OutBwdRIdeal.main_arg7))).2.2.2.2.2.1 = (fun _ => 1#1)
    ∧ (Cert.Pre_finite_outbwd.fn (F := Ideal) (m ((c.tc : Thread Cert.OutBwdRIdeal.nD Cert.OutBwdRIdeal.τ).loc Cert.OutBwdRIdeal.main_arg0)) (m ((c.tc : Thread Cert.OutBwdRIdeal.nD Cert.OutBwdRIdeal.τ).loc Cert.OutBwdRIdeal.main_arg1)) (m ((c.tc : Thread Cert.OutBwdRIdeal.nD Cert.OutBwdRIdeal.τ).loc Cert.OutBwdRIdeal.main_arg2)) (m ((c.tc : Thread Cert.OutBwdRIdeal.nD Cert.OutBwdRIdeal.τ).loc Cert.OutBwdRIdeal.main_arg3)) (m ((c.tc : Thread Cert.OutBwdRIdeal.nD Cert.OutBwdRIdeal.τ).loc Cert.OutBwdRIdeal.main_arg4)) (m ((c.tc : Thread Cert.OutBwdRIdeal.nD Cert.OutBwdRIdeal.τ).loc Cert.OutBwdRIdeal.main_arg5)) (m ((c.tc : Thread Cert.OutBwdRIdeal.nD Cert.OutBwdRIdeal.τ).loc Cert.OutBwdRIdeal.main_arg6)) (m ((c.tc : Thread Cert.OutBwdRIdeal.nD Cert.OutBwdRIdeal.τ).loc Cert.OutBwdRIdeal.main_arg7))).2.2.2.2.2.2 = (fun _ => 1#1)

def Pre_LruBwdK (m : (ℓ : Loc Cert.LruBwdK.nD Cert.LruBwdK.τ Cert.LruBwdK.sig) → Buf (Elt Bits) ℓ) : Prop :=
  True

def Pre_LruBwdKIdeal (m : (ℓ : Loc Cert.LruBwdKIdeal.nD Cert.LruBwdKIdeal.τ Cert.LruBwdKIdeal.sig) → Buf (Elt Ideal) ℓ) : Prop :=
  True

def Pre_LruBwdKIdeal_finite_lrubwd [hPre_finite_lrubwd : Cert.Pre_finite_lrubwd.Facts] (m : (ℓ : Loc Cert.LruBwdKIdeal.nD Cert.LruBwdKIdeal.τ Cert.LruBwdKIdeal.sig) → Buf (Elt Ideal) ℓ) : Prop :=
  ∀ c : Dev Cert.LruBwdKIdeal.nD,
    (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.2.1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.2.2.1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.2.2.2.1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.2.2.2.2.1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.2.2.2.2.2.1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.2.2.2.2.2.2.1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.2.2.2.2.2.2.2.1 = (fun _ => 1#1)
    ∧ (Cert.Pre_finite_lrubwd.fn (F := Ideal) (m ((c.tc : Thread Cert.LruBwdKIdeal.nD Cert.LruBwdKIdeal.τ).loc Cert.LruBwdKIdeal.main_arg0)) (m ((c.tc : Thread Cert.LruBwdKIdeal.nD Cert.LruBwdKIdeal.τ).loc Cert.LruBwdKIdeal.main_arg1)) (m ((c.tc : Thread Cert.LruBwdKIdeal.nD Cert.LruBwdKIdeal.τ).loc Cert.LruBwdKIdeal.main_arg2)) (m ((c.tc : Thread Cert.LruBwdKIdeal.nD Cert.LruBwdKIdeal.τ).loc Cert.LruBwdKIdeal.main_arg3)) (m ((c.tc : Thread Cert.LruBwdKIdeal.nD Cert.LruBwdKIdeal.τ).loc Cert.LruBwdKIdeal.main_arg4)) (m ((c.tc : Thread Cert.LruBwdKIdeal.nD Cert.LruBwdKIdeal.τ).loc Cert.LruBwdKIdeal.main_arg5)) (m ((c.tc : Thread Cert.LruBwdKIdeal.nD Cert.LruBwdKIdeal.τ).loc Cert.LruBwdKIdeal.main_arg6)) (m ((c.tc : Thread Cert.LruBwdKIdeal.nD Cert.LruBwdKIdeal.τ).loc Cert.LruBwdKIdeal.main_arg7)) (m ((c.tc : Thread Cert.LruBwdKIdeal.nD Cert.LruBwdKIdeal.τ).loc Cert.LruBwdKIdeal.main_arg8))).2.2.2.2.2.2.2.2.2 = (fun _ => 1#1)

def Pre_LruBwdRIdeal (m : (ℓ : Loc Cert.LruBwdRIdeal.nD Cert.LruBwdRIdeal.τ Cert.LruBwdRIdeal.sig) → Buf (Elt Ideal) ℓ) : Prop :=
  True

def Pre_LruBwdRIdeal_finite_lrubwd [hPre_finite_lrubwd : Cert.Pre_finite_lrubwd.Facts] (m : (ℓ : Loc Cert.LruBwdRIdeal.nD Cert.LruBwdRIdeal.τ Cert.LruBwdRIdeal.sig) → Buf (Elt Ideal) ℓ) : Prop :=
  ∀ c : Dev Cert.LruBwdRIdeal.nD,
    (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.2.1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.2.2.1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.2.2.2.1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.2.2.2.2.1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.2.2.2.2.2.1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.2.2.2.2.2.2.1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.2.2.2.2.2.2.2.1 = (fun _ => 1#1)
    ∧ (Cert.Pre_finite_lrubwd.fn (F := Ideal) (m ((c.tc : Thread Cert.LruBwdRIdeal.nD Cert.LruBwdRIdeal.τ).loc Cert.LruBwdRIdeal.main_arg0)) (m ((c.tc : Thread Cert.LruBwdRIdeal.nD Cert.LruBwdRIdeal.τ).loc Cert.LruBwdRIdeal.main_arg1)) (m ((c.tc : Thread Cert.LruBwdRIdeal.nD Cert.LruBwdRIdeal.τ).loc Cert.LruBwdRIdeal.main_arg2)) (m ((c.tc : Thread Cert.LruBwdRIdeal.nD Cert.LruBwdRIdeal.τ).loc Cert.LruBwdRIdeal.main_arg3)) (m ((c.tc : Thread Cert.LruBwdRIdeal.nD Cert.LruBwdRIdeal.τ).loc Cert.LruBwdRIdeal.main_arg4)) (m ((c.tc : Thread Cert.LruBwdRIdeal.nD Cert.LruBwdRIdeal.τ).loc Cert.LruBwdRIdeal.main_arg5)) (m ((c.tc : Thread Cert.LruBwdRIdeal.nD Cert.LruBwdRIdeal.τ).loc Cert.LruBwdRIdeal.main_arg6)) (m ((c.tc : Thread Cert.LruBwdRIdeal.nD Cert.LruBwdRIdeal.τ).loc Cert.LruBwdRIdeal.main_arg7)) (m ((c.tc : Thread Cert.LruBwdRIdeal.nD Cert.LruBwdRIdeal.τ).loc Cert.LruBwdRIdeal.main_arg8))).2.2.2.2.2.2.2.2.2 = (fun _ => 1#1)

def Pre_GdnFwdK (m : (ℓ : Loc Cert.GdnFwdK.nD Cert.GdnFwdK.τ Cert.GdnFwdK.sig) → Buf (Elt Bits) ℓ) : Prop :=
  True

def Pre_GdnFwdKIdeal (m : (ℓ : Loc Cert.GdnFwdKIdeal.nD Cert.GdnFwdKIdeal.τ Cert.GdnFwdKIdeal.sig) → Buf (Elt Ideal) ℓ) : Prop :=
  True

def Pre_GdnFwdKIdeal_finite_gdnfwd [hPre_finite_gdnfwd : Cert.Pre_finite_gdnfwd.Facts] (m : (ℓ : Loc Cert.GdnFwdKIdeal.nD Cert.GdnFwdKIdeal.τ Cert.GdnFwdKIdeal.sig) → Buf (Elt Ideal) ℓ) : Prop :=
  ∀ c : Dev Cert.GdnFwdKIdeal.nD,
    (Cert.Pre_finite_gdnfwd.fn (F := Ideal) (m ((c.tc : Thread Cert.GdnFwdKIdeal.nD Cert.GdnFwdKIdeal.τ).loc Cert.GdnFwdKIdeal.main_arg0)) (m ((c.tc : Thread Cert.GdnFwdKIdeal.nD Cert.GdnFwdKIdeal.τ).loc Cert.GdnFwdKIdeal.main_arg1)) (m ((c.tc : Thread Cert.GdnFwdKIdeal.nD Cert.GdnFwdKIdeal.τ).loc Cert.GdnFwdKIdeal.main_arg2)) (m ((c.tc : Thread Cert.GdnFwdKIdeal.nD Cert.GdnFwdKIdeal.τ).loc Cert.GdnFwdKIdeal.main_arg3))).1 = (fun _ => 1#1)
    ∧ (Cert.Pre_finite_gdnfwd.fn (F := Ideal) (m ((c.tc : Thread Cert.GdnFwdKIdeal.nD Cert.GdnFwdKIdeal.τ).loc Cert.GdnFwdKIdeal.main_arg0)) (m ((c.tc : Thread Cert.GdnFwdKIdeal.nD Cert.GdnFwdKIdeal.τ).loc Cert.GdnFwdKIdeal.main_arg1)) (m ((c.tc : Thread Cert.GdnFwdKIdeal.nD Cert.GdnFwdKIdeal.τ).loc Cert.GdnFwdKIdeal.main_arg2)) (m ((c.tc : Thread Cert.GdnFwdKIdeal.nD Cert.GdnFwdKIdeal.τ).loc Cert.GdnFwdKIdeal.main_arg3))).2.1 = (fun _ => 1#1)
    ∧ (Cert.Pre_finite_gdnfwd.fn (F := Ideal) (m ((c.tc : Thread Cert.GdnFwdKIdeal.nD Cert.GdnFwdKIdeal.τ).loc Cert.GdnFwdKIdeal.main_arg0)) (m ((c.tc : Thread Cert.GdnFwdKIdeal.nD Cert.GdnFwdKIdeal.τ).loc Cert.GdnFwdKIdeal.main_arg1)) (m ((c.tc : Thread Cert.GdnFwdKIdeal.nD Cert.GdnFwdKIdeal.τ).loc Cert.GdnFwdKIdeal.main_arg2)) (m ((c.tc : Thread Cert.GdnFwdKIdeal.nD Cert.GdnFwdKIdeal.τ).loc Cert.GdnFwdKIdeal.main_arg3))).2.2.1 = (fun _ => 1#1)
    ∧ (Cert.Pre_finite_gdnfwd.fn (F := Ideal) (m ((c.tc : Thread Cert.GdnFwdKIdeal.nD Cert.GdnFwdKIdeal.τ).loc Cert.GdnFwdKIdeal.main_arg0)) (m ((c.tc : Thread Cert.GdnFwdKIdeal.nD Cert.GdnFwdKIdeal.τ).loc Cert.GdnFwdKIdeal.main_arg1)) (m ((c.tc : Thread Cert.GdnFwdKIdeal.nD Cert.GdnFwdKIdeal.τ).loc Cert.GdnFwdKIdeal.main_arg2)) (m ((c.tc : Thread Cert.GdnFwdKIdeal.nD Cert.GdnFwdKIdeal.τ).loc Cert.GdnFwdKIdeal.main_arg3))).2.2.2 = (fun _ => 1#1)

def Pre_GdnFwdRIdeal (m : (ℓ : Loc Cert.GdnFwdRIdeal.nD Cert.GdnFwdRIdeal.τ Cert.GdnFwdRIdeal.sig) → Buf (Elt Ideal) ℓ) : Prop :=
  True

def Pre_GdnFwdRIdeal_finite_gdnfwd [hPre_finite_gdnfwd : Cert.Pre_finite_gdnfwd.Facts] (m : (ℓ : Loc Cert.GdnFwdRIdeal.nD Cert.GdnFwdRIdeal.τ Cert.GdnFwdRIdeal.sig) → Buf (Elt Ideal) ℓ) : Prop :=
  ∀ c : Dev Cert.GdnFwdRIdeal.nD,
    (Cert.Pre_finite_gdnfwd.fn (F := Ideal) (m ((c.tc : Thread Cert.GdnFwdRIdeal.nD Cert.GdnFwdRIdeal.τ).loc Cert.GdnFwdRIdeal.main_arg0)) (m ((c.tc : Thread Cert.GdnFwdRIdeal.nD Cert.GdnFwdRIdeal.τ).loc Cert.GdnFwdRIdeal.main_arg1)) (m ((c.tc : Thread Cert.GdnFwdRIdeal.nD Cert.GdnFwdRIdeal.τ).loc Cert.GdnFwdRIdeal.main_arg2)) (m ((c.tc : Thread Cert.GdnFwdRIdeal.nD Cert.GdnFwdRIdeal.τ).loc Cert.GdnFwdRIdeal.main_arg3))).1 = (fun _ => 1#1)
    ∧ (Cert.Pre_finite_gdnfwd.fn (F := Ideal) (m ((c.tc : Thread Cert.GdnFwdRIdeal.nD Cert.GdnFwdRIdeal.τ).loc Cert.GdnFwdRIdeal.main_arg0)) (m ((c.tc : Thread Cert.GdnFwdRIdeal.nD Cert.GdnFwdRIdeal.τ).loc Cert.GdnFwdRIdeal.main_arg1)) (m ((c.tc : Thread Cert.GdnFwdRIdeal.nD Cert.GdnFwdRIdeal.τ).loc Cert.GdnFwdRIdeal.main_arg2)) (m ((c.tc : Thread Cert.GdnFwdRIdeal.nD Cert.GdnFwdRIdeal.τ).loc Cert.GdnFwdRIdeal.main_arg3))).2.1 = (fun _ => 1#1)
    ∧ (Cert.Pre_finite_gdnfwd.fn (F := Ideal) (m ((c.tc : Thread Cert.GdnFwdRIdeal.nD Cert.GdnFwdRIdeal.τ).loc Cert.GdnFwdRIdeal.main_arg0)) (m ((c.tc : Thread Cert.GdnFwdRIdeal.nD Cert.GdnFwdRIdeal.τ).loc Cert.GdnFwdRIdeal.main_arg1)) (m ((c.tc : Thread Cert.GdnFwdRIdeal.nD Cert.GdnFwdRIdeal.τ).loc Cert.GdnFwdRIdeal.main_arg2)) (m ((c.tc : Thread Cert.GdnFwdRIdeal.nD Cert.GdnFwdRIdeal.τ).loc Cert.GdnFwdRIdeal.main_arg3))).2.2.1 = (fun _ => 1#1)
    ∧ (Cert.Pre_finite_gdnfwd.fn (F := Ideal) (m ((c.tc : Thread Cert.GdnFwdRIdeal.nD Cert.GdnFwdRIdeal.τ).loc Cert.GdnFwdRIdeal.main_arg0)) (m ((c.tc : Thread Cert.GdnFwdRIdeal.nD Cert.GdnFwdRIdeal.τ).loc Cert.GdnFwdRIdeal.main_arg1)) (m ((c.tc : Thread Cert.GdnFwdRIdeal.nD Cert.GdnFwdRIdeal.τ).loc Cert.GdnFwdRIdeal.main_arg2)) (m ((c.tc : Thread Cert.GdnFwdRIdeal.nD Cert.GdnFwdRIdeal.τ).loc Cert.GdnFwdRIdeal.main_arg3))).2.2.2 = (fun _ => 1#1)

def Pre_ProjFwdK (m : (ℓ : Loc Cert.ProjFwdK.nD Cert.ProjFwdK.τ Cert.ProjFwdK.sig) → Buf (Elt Bits) ℓ) : Prop :=
  True

def Pre_ProjFwdKIdeal (m : (ℓ : Loc Cert.ProjFwdKIdeal.nD Cert.ProjFwdKIdeal.τ Cert.ProjFwdKIdeal.sig) → Buf (Elt Ideal) ℓ) : Prop :=
  True

def Pre_ProjFwdRIdeal (m : (ℓ : Loc Cert.ProjFwdRIdeal.nD Cert.ProjFwdRIdeal.τ Cert.ProjFwdRIdeal.sig) → Buf (Elt Ideal) ℓ) : Prop :=
  True

def Pre_MlpFwdK (m : (ℓ : Loc Cert.MlpFwdK.nD Cert.MlpFwdK.τ Cert.MlpFwdK.sig) → Buf (Elt Bits) ℓ) : Prop :=
  True

def Pre_MlpFwdKIdeal (m : (ℓ : Loc Cert.MlpFwdKIdeal.nD Cert.MlpFwdKIdeal.τ Cert.MlpFwdKIdeal.sig) → Buf (Elt Ideal) ℓ) : Prop :=
  True

def Pre_MlpFwdRIdeal (m : (ℓ : Loc Cert.MlpFwdRIdeal.nD Cert.MlpFwdRIdeal.τ Cert.MlpFwdRIdeal.sig) → Buf (Elt Ideal) ℓ) : Prop :=
  True

def Pre_ConvFGK (m : (ℓ : Loc Cert.ConvFGK.nD Cert.ConvFGK.τ Cert.ConvFGK.sig) → Buf (Elt Bits) ℓ) : Prop :=
  True

def Pre_ConvFGKIdeal (m : (ℓ : Loc Cert.ConvFGKIdeal.nD Cert.ConvFGKIdeal.τ Cert.ConvFGKIdeal.sig) → Buf (Elt Ideal) ℓ) : Prop :=
  True

def Pre_ConvFGRIdeal (m : (ℓ : Loc Cert.ConvFGRIdeal.nD Cert.ConvFGRIdeal.τ Cert.ConvFGRIdeal.sig) → Buf (Elt Ideal) ℓ) : Prop :=
  True

def Pre_ConvFLK (m : (ℓ : Loc Cert.ConvFLK.nD Cert.ConvFLK.τ Cert.ConvFLK.sig) → Buf (Elt Bits) ℓ) : Prop :=
  True

def Pre_ConvFLKIdeal (m : (ℓ : Loc Cert.ConvFLKIdeal.nD Cert.ConvFLKIdeal.τ Cert.ConvFLKIdeal.sig) → Buf (Elt Ideal) ℓ) : Prop :=
  True

def Pre_ConvFLRIdeal (m : (ℓ : Loc Cert.ConvFLRIdeal.nD Cert.ConvFLRIdeal.τ Cert.ConvFLRIdeal.sig) → Buf (Elt Ideal) ℓ) : Prop :=
  True

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossKIdeal_pre_finite_loss [hLossKIdeal : Cert.LossKIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_finite_loss m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_LossRIdeal_pre_finite_loss [hLossRIdeal : Cert.LossRIdeal.Facts] [hPre_finite_loss : Cert.Pre_finite_loss.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_finite_loss m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2))
      ∧ r.2.sem = fun _ => 0)

def quiescent_ProjBwdK [hProjBwdK : Cert.ProjBwdK.Facts] : Prop :=
  ∀ (m : (ℓ : Loc Cert.ProjBwdK.nD Cert.ProjBwdK.τ Cert.ProjBwdK.sig) → Buf (Elt Bits) ℓ) (g : Dev Cert.ProjBwdK.nD → PrngReg), Pre_ProjBwdK m →
    θ_run (Cert.ProjBwdK.defs (F := Bits)) (onTc (τ := Cert.ProjBwdK.τ) (Cert.ProjBwdK.main (F := Bits))) ⟨m, fun _ => 0, g⟩ (fun r => (∀ c : Dev Cert.ProjBwdK.nD,
      r.2.mem ((c.tc : Thread Cert.ProjBwdK.nD Cert.ProjBwdK.τ).loc Cert.ProjBwdK.main_arg0) = m ((c.tc : Thread Cert.ProjBwdK.nD Cert.ProjBwdK.τ).loc Cert.ProjBwdK.main_arg0)
      ∧ r.2.mem ((c.tc : Thread Cert.ProjBwdK.nD Cert.ProjBwdK.τ).loc Cert.ProjBwdK.main_arg1) = m ((c.tc : Thread Cert.ProjBwdK.nD Cert.ProjBwdK.τ).loc Cert.ProjBwdK.main_arg1)
      ∧ r.2.mem ((c.tc : Thread Cert.ProjBwdK.nD Cert.ProjBwdK.τ).loc Cert.ProjBwdK.main_arg2) = m ((c.tc : Thread Cert.ProjBwdK.nD Cert.ProjBwdK.τ).loc Cert.ProjBwdK.main_arg2)
      ∧ r.2.mem ((c.tc : Thread Cert.ProjBwdK.nD Cert.ProjBwdK.τ).loc Cert.ProjBwdK.main_arg3) = m ((c.tc : Thread Cert.ProjBwdK.nD Cert.ProjBwdK.τ).loc Cert.ProjBwdK.main_arg3)
      ∧ r.2.mem ((c.tc : Thread Cert.ProjBwdK.nD Cert.ProjBwdK.τ).loc Cert.ProjBwdK.main_arg4) = m ((c.tc : Thread Cert.ProjBwdK.nD Cert.ProjBwdK.τ).loc Cert.ProjBwdK.main_arg4)
      ∧ r.2.mem ((c.tc : Thread Cert.ProjBwdK.nD Cert.ProjBwdK.τ).loc Cert.ProjBwdK.main_arg5) = m ((c.tc : Thread Cert.ProjBwdK.nD Cert.ProjBwdK.τ).loc Cert.ProjBwdK.main_arg5)
      ∧ r.2.mem ((c.tc : Thread Cert.ProjBwdK.nD Cert.ProjBwdK.τ).loc Cert.ProjBwdK.main_arg6) = m ((c.tc : Thread Cert.ProjBwdK.nD Cert.ProjBwdK.τ).loc Cert.ProjBwdK.main_arg6))
      ∧ r.2.sem = fun _ => 0)

def quiescent_ProjBwdKIdeal [hProjBwdKIdeal : Cert.ProjBwdKIdeal.Facts] : Prop :=
  ∀ (m : (ℓ : Loc Cert.ProjBwdKIdeal.nD Cert.ProjBwdKIdeal.τ Cert.ProjBwdKIdeal.sig) → Buf (Elt Ideal) ℓ) (g : Dev Cert.ProjBwdKIdeal.nD → PrngReg), Pre_ProjBwdKIdeal m →
    θ_run (Cert.ProjBwdKIdeal.defs (F := Ideal)) (onTc (τ := Cert.ProjBwdKIdeal.τ) (Cert.ProjBwdKIdeal.main (F := Ideal))) ⟨m, fun _ => 0, g⟩ (fun r => (∀ c : Dev Cert.ProjBwdKIdeal.nD,
      r.2.mem ((c.tc : Thread Cert.ProjBwdKIdeal.nD Cert.ProjBwdKIdeal.τ).loc Cert.ProjBwdKIdeal.main_arg0) = m ((c.tc : Thread Cert.ProjBwdKIdeal.nD Cert.ProjBwdKIdeal.τ).loc Cert.ProjBwdKIdeal.main_arg0)
      ∧ r.2.mem ((c.tc : Thread Cert.ProjBwdKIdeal.nD Cert.ProjBwdKIdeal.τ).loc Cert.ProjBwdKIdeal.main_arg1) = m ((c.tc : Thread Cert.ProjBwdKIdeal.nD Cert.ProjBwdKIdeal.τ).loc Cert.ProjBwdKIdeal.main_arg1)
      ∧ r.2.mem ((c.tc : Thread Cert.ProjBwdKIdeal.nD Cert.ProjBwdKIdeal.τ).loc Cert.ProjBwdKIdeal.main_arg2) = m ((c.tc : Thread Cert.ProjBwdKIdeal.nD Cert.ProjBwdKIdeal.τ).loc Cert.ProjBwdKIdeal.main_arg2)
      ∧ r.2.mem ((c.tc : Thread Cert.ProjBwdKIdeal.nD Cert.ProjBwdKIdeal.τ).loc Cert.ProjBwdKIdeal.main_arg3) = m ((c.tc : Thread Cert.ProjBwdKIdeal.nD Cert.ProjBwdKIdeal.τ).loc Cert.ProjBwdKIdeal.main_arg3)
      ∧ r.2.mem ((c.tc : Thread Cert.ProjBwdKIdeal.nD Cert.ProjBwdKIdeal.τ).loc Cert.ProjBwdKIdeal.main_arg4) = m ((c.tc : Thread Cert.ProjBwdKIdeal.nD Cert.ProjBwdKIdeal.τ).loc Cert.ProjBwdKIdeal.main_arg4)
      ∧ r.2.mem ((c.tc : Thread Cert.ProjBwdKIdeal.nD Cert.ProjBwdKIdeal.τ).loc Cert.ProjBwdKIdeal.main_arg5) = m ((c.tc : Thread Cert.ProjBwdKIdeal.nD Cert.ProjBwdKIdeal.τ).loc Cert.ProjBwdKIdeal.main_arg5)
      ∧ r.2.mem ((c.tc : Thread Cert.ProjBwdKIdeal.nD Cert.ProjBwdKIdeal.τ).loc Cert.ProjBwdKIdeal.main_arg6) = m ((c.tc : Thread Cert.ProjBwdKIdeal.nD Cert.ProjBwdKIdeal.τ).loc Cert.ProjBwdKIdeal.main_arg6))
      ∧ r.2.sem = fun _ => 0)

def quiescent_ProjBwdKIdeal_pre_finite_projbwd [hProjBwdKIdeal : Cert.ProjBwdKIdeal.Facts] [hPre_finite_projbwd : Cert.Pre_finite_projbwd.Facts] : Prop :=
  ∀ (m : (ℓ : Loc Cert.ProjBwdKIdeal.nD Cert.ProjBwdKIdeal.τ Cert.ProjBwdKIdeal.sig) → Buf (Elt Ideal) ℓ) (g : Dev Cert.ProjBwdKIdeal.nD → PrngReg), Pre_ProjBwdKIdeal_finite_projbwd m →
    θ_run (Cert.ProjBwdKIdeal.defs (F := Ideal)) (onTc (τ := Cert.ProjBwdKIdeal.τ) (Cert.ProjBwdKIdeal.main (F := Ideal))) ⟨m, fun _ => 0, g⟩ (fun r => (∀ c : Dev Cert.ProjBwdKIdeal.nD,
      r.2.mem ((c.tc : Thread Cert.ProjBwdKIdeal.nD Cert.ProjBwdKIdeal.τ).loc Cert.ProjBwdKIdeal.main_arg0) = m ((c.tc : Thread Cert.ProjBwdKIdeal.nD Cert.ProjBwdKIdeal.τ).loc Cert.ProjBwdKIdeal.main_arg0)
      ∧ r.2.mem ((c.tc : Thread Cert.ProjBwdKIdeal.nD Cert.ProjBwdKIdeal.τ).loc Cert.ProjBwdKIdeal.main_arg1) = m ((c.tc : Thread Cert.ProjBwdKIdeal.nD Cert.ProjBwdKIdeal.τ).loc Cert.ProjBwdKIdeal.main_arg1)
      ∧ r.2.mem ((c.tc : Thread Cert.ProjBwdKIdeal.nD Cert.ProjBwdKIdeal.τ).loc Cert.ProjBwdKIdeal.main_arg2) = m ((c.tc : Thread Cert.ProjBwdKIdeal.nD Cert.ProjBwdKIdeal.τ).loc Cert.ProjBwdKIdeal.main_arg2)
      ∧ r.2.mem ((c.tc : Thread Cert.ProjBwdKIdeal.nD Cert.ProjBwdKIdeal.τ).loc Cert.ProjBwdKIdeal.main_arg3) = m ((c.tc : Thread Cert.ProjBwdKIdeal.nD Cert.ProjBwdKIdeal.τ).loc Cert.ProjBwdKIdeal.main_arg3)
      ∧ r.2.mem ((c.tc : Thread Cert.ProjBwdKIdeal.nD Cert.ProjBwdKIdeal.τ).loc Cert.ProjBwdKIdeal.main_arg4) = m ((c.tc : Thread Cert.ProjBwdKIdeal.nD Cert.ProjBwdKIdeal.τ).loc Cert.ProjBwdKIdeal.main_arg4)
      ∧ r.2.mem ((c.tc : Thread Cert.ProjBwdKIdeal.nD Cert.ProjBwdKIdeal.τ).loc Cert.ProjBwdKIdeal.main_arg5) = m ((c.tc : Thread Cert.ProjBwdKIdeal.nD Cert.ProjBwdKIdeal.τ).loc Cert.ProjBwdKIdeal.main_arg5)
      ∧ r.2.mem ((c.tc : Thread Cert.ProjBwdKIdeal.nD Cert.ProjBwdKIdeal.τ).loc Cert.ProjBwdKIdeal.main_arg6) = m ((c.tc : Thread Cert.ProjBwdKIdeal.nD Cert.ProjBwdKIdeal.τ).loc Cert.ProjBwdKIdeal.main_arg6))
      ∧ r.2.sem = fun _ => 0)

def quiescent_ProjBwdRIdeal [hProjBwdRIdeal : Cert.ProjBwdRIdeal.Facts] : Prop :=
  ∀ (m : (ℓ : Loc Cert.ProjBwdRIdeal.nD Cert.ProjBwdRIdeal.τ Cert.ProjBwdRIdeal.sig) → Buf (Elt Ideal) ℓ) (g : Dev Cert.ProjBwdRIdeal.nD → PrngReg), Pre_ProjBwdRIdeal m →
    θ_run (Cert.ProjBwdRIdeal.defs (F := Ideal)) (onTc (τ := Cert.ProjBwdRIdeal.τ) (Cert.ProjBwdRIdeal.main (F := Ideal))) ⟨m, fun _ => 0, g⟩ (fun r => (∀ c : Dev Cert.ProjBwdRIdeal.nD,
      r.2.mem ((c.tc : Thread Cert.ProjBwdRIdeal.nD Cert.ProjBwdRIdeal.τ).loc Cert.ProjBwdRIdeal.main_arg0) = m ((c.tc : Thread Cert.ProjBwdRIdeal.nD Cert.ProjBwdRIdeal.τ).loc Cert.ProjBwdRIdeal.main_arg0)
      ∧ r.2.mem ((c.tc : Thread Cert.ProjBwdRIdeal.nD Cert.ProjBwdRIdeal.τ).loc Cert.ProjBwdRIdeal.main_arg1) = m ((c.tc : Thread Cert.ProjBwdRIdeal.nD Cert.ProjBwdRIdeal.τ).loc Cert.ProjBwdRIdeal.main_arg1)
      ∧ r.2.mem ((c.tc : Thread Cert.ProjBwdRIdeal.nD Cert.ProjBwdRIdeal.τ).loc Cert.ProjBwdRIdeal.main_arg2) = m ((c.tc : Thread Cert.ProjBwdRIdeal.nD Cert.ProjBwdRIdeal.τ).loc Cert.ProjBwdRIdeal.main_arg2)
      ∧ r.2.mem ((c.tc : Thread Cert.ProjBwdRIdeal.nD Cert.ProjBwdRIdeal.τ).loc Cert.ProjBwdRIdeal.main_arg3) = m ((c.tc : Thread Cert.ProjBwdRIdeal.nD Cert.ProjBwdRIdeal.τ).loc Cert.ProjBwdRIdeal.main_arg3)
      ∧ r.2.mem ((c.tc : Thread Cert.ProjBwdRIdeal.nD Cert.ProjBwdRIdeal.τ).loc Cert.ProjBwdRIdeal.main_arg4) = m ((c.tc : Thread Cert.ProjBwdRIdeal.nD Cert.ProjBwdRIdeal.τ).loc Cert.ProjBwdRIdeal.main_arg4)
      ∧ r.2.mem ((c.tc : Thread Cert.ProjBwdRIdeal.nD Cert.ProjBwdRIdeal.τ).loc Cert.ProjBwdRIdeal.main_arg5) = m ((c.tc : Thread Cert.ProjBwdRIdeal.nD Cert.ProjBwdRIdeal.τ).loc Cert.ProjBwdRIdeal.main_arg5)
      ∧ r.2.mem ((c.tc : Thread Cert.ProjBwdRIdeal.nD Cert.ProjBwdRIdeal.τ).loc Cert.ProjBwdRIdeal.main_arg6) = m ((c.tc : Thread Cert.ProjBwdRIdeal.nD Cert.ProjBwdRIdeal.τ).loc Cert.ProjBwdRIdeal.main_arg6))
      ∧ r.2.sem = fun _ => 0)

def quiescent_ProjBwdRIdeal_pre_finite_projbwd [hProjBwdRIdeal : Cert.ProjBwdRIdeal.Facts] [hPre_finite_projbwd : Cert.Pre_finite_projbwd.Facts] : Prop :=
  ∀ (m : (ℓ : Loc Cert.ProjBwdRIdeal.nD Cert.ProjBwdRIdeal.τ Cert.ProjBwdRIdeal.sig) → Buf (Elt Ideal) ℓ) (g : Dev Cert.ProjBwdRIdeal.nD → PrngReg), Pre_ProjBwdRIdeal_finite_projbwd m →
    θ_run (Cert.ProjBwdRIdeal.defs (F := Ideal)) (onTc (τ := Cert.ProjBwdRIdeal.τ) (Cert.ProjBwdRIdeal.main (F := Ideal))) ⟨m, fun _ => 0, g⟩ (fun r => (∀ c : Dev Cert.ProjBwdRIdeal.nD,
      r.2.mem ((c.tc : Thread Cert.ProjBwdRIdeal.nD Cert.ProjBwdRIdeal.τ).loc Cert.ProjBwdRIdeal.main_arg0) = m ((c.tc : Thread Cert.ProjBwdRIdeal.nD Cert.ProjBwdRIdeal.τ).loc Cert.ProjBwdRIdeal.main_arg0)
      ∧ r.2.mem ((c.tc : Thread Cert.ProjBwdRIdeal.nD Cert.ProjBwdRIdeal.τ).loc Cert.ProjBwdRIdeal.main_arg1) = m ((c.tc : Thread Cert.ProjBwdRIdeal.nD Cert.ProjBwdRIdeal.τ).loc Cert.ProjBwdRIdeal.main_arg1)
      ∧ r.2.mem ((c.tc : Thread Cert.ProjBwdRIdeal.nD Cert.ProjBwdRIdeal.τ).loc Cert.ProjBwdRIdeal.main_arg2) = m ((c.tc : Thread Cert.ProjBwdRIdeal.nD Cert.ProjBwdRIdeal.τ).loc Cert.ProjBwdRIdeal.main_arg2)
      ∧ r.2.mem ((c.tc : Thread Cert.ProjBwdRIdeal.nD Cert.ProjBwdRIdeal.τ).loc Cert.ProjBwdRIdeal.main_arg3) = m ((c.tc : Thread Cert.ProjBwdRIdeal.nD Cert.ProjBwdRIdeal.τ).loc Cert.ProjBwdRIdeal.main_arg3)
      ∧ r.2.mem ((c.tc : Thread Cert.ProjBwdRIdeal.nD Cert.ProjBwdRIdeal.τ).loc Cert.ProjBwdRIdeal.main_arg4) = m ((c.tc : Thread Cert.ProjBwdRIdeal.nD Cert.ProjBwdRIdeal.τ).loc Cert.ProjBwdRIdeal.main_arg4)
      ∧ r.2.mem ((c.tc : Thread Cert.ProjBwdRIdeal.nD Cert.ProjBwdRIdeal.τ).loc Cert.ProjBwdRIdeal.main_arg5) = m ((c.tc : Thread Cert.ProjBwdRIdeal.nD Cert.ProjBwdRIdeal.τ).loc Cert.ProjBwdRIdeal.main_arg5)
      ∧ r.2.mem ((c.tc : Thread Cert.ProjBwdRIdeal.nD Cert.ProjBwdRIdeal.τ).loc Cert.ProjBwdRIdeal.main_arg6) = m ((c.tc : Thread Cert.ProjBwdRIdeal.nD Cert.ProjBwdRIdeal.τ).loc Cert.ProjBwdRIdeal.main_arg6))
      ∧ r.2.sem = fun _ => 0)

def quiescent_MlpBwdK [hMlpBwdK : Cert.MlpBwdK.Facts] : Prop :=
  ∀ (m : (ℓ : Loc Cert.MlpBwdK.nD Cert.MlpBwdK.τ Cert.MlpBwdK.sig) → Buf (Elt Bits) ℓ) (g : Dev Cert.MlpBwdK.nD → PrngReg), Pre_MlpBwdK m →
    θ_run (Cert.MlpBwdK.defs (F := Bits)) (onTc (τ := Cert.MlpBwdK.τ) (Cert.MlpBwdK.main (F := Bits))) ⟨m, fun _ => 0, g⟩ (fun r => (∀ c : Dev Cert.MlpBwdK.nD,
      r.2.mem ((c.tc : Thread Cert.MlpBwdK.nD Cert.MlpBwdK.τ).loc Cert.MlpBwdK.main_arg0) = m ((c.tc : Thread Cert.MlpBwdK.nD Cert.MlpBwdK.τ).loc Cert.MlpBwdK.main_arg0)
      ∧ r.2.mem ((c.tc : Thread Cert.MlpBwdK.nD Cert.MlpBwdK.τ).loc Cert.MlpBwdK.main_arg1) = m ((c.tc : Thread Cert.MlpBwdK.nD Cert.MlpBwdK.τ).loc Cert.MlpBwdK.main_arg1)
      ∧ r.2.mem ((c.tc : Thread Cert.MlpBwdK.nD Cert.MlpBwdK.τ).loc Cert.MlpBwdK.main_arg2) = m ((c.tc : Thread Cert.MlpBwdK.nD Cert.MlpBwdK.τ).loc Cert.MlpBwdK.main_arg2)
      ∧ r.2.mem ((c.tc : Thread Cert.MlpBwdK.nD Cert.MlpBwdK.τ).loc Cert.MlpBwdK.main_arg3) = m ((c.tc : Thread Cert.MlpBwdK.nD Cert.MlpBwdK.τ).loc Cert.MlpBwdK.main_arg3)
      ∧ r.2.mem ((c.tc : Thread Cert.MlpBwdK.nD Cert.MlpBwdK.τ).loc Cert.MlpBwdK.main_arg4) = m ((c.tc : Thread Cert.MlpBwdK.nD Cert.MlpBwdK.τ).loc Cert.MlpBwdK.main_arg4)
      ∧ r.2.mem ((c.tc : Thread Cert.MlpBwdK.nD Cert.MlpBwdK.τ).loc Cert.MlpBwdK.main_arg5) = m ((c.tc : Thread Cert.MlpBwdK.nD Cert.MlpBwdK.τ).loc Cert.MlpBwdK.main_arg5)
      ∧ r.2.mem ((c.tc : Thread Cert.MlpBwdK.nD Cert.MlpBwdK.τ).loc Cert.MlpBwdK.main_arg6) = m ((c.tc : Thread Cert.MlpBwdK.nD Cert.MlpBwdK.τ).loc Cert.MlpBwdK.main_arg6)
      ∧ r.2.mem ((c.tc : Thread Cert.MlpBwdK.nD Cert.MlpBwdK.τ).loc Cert.MlpBwdK.main_arg7) = m ((c.tc : Thread Cert.MlpBwdK.nD Cert.MlpBwdK.τ).loc Cert.MlpBwdK.main_arg7))
      ∧ r.2.sem = fun _ => 0)

def quiescent_MlpBwdKIdeal [hMlpBwdKIdeal : Cert.MlpBwdKIdeal.Facts] : Prop :=
  ∀ (m : (ℓ : Loc Cert.MlpBwdKIdeal.nD Cert.MlpBwdKIdeal.τ Cert.MlpBwdKIdeal.sig) → Buf (Elt Ideal) ℓ) (g : Dev Cert.MlpBwdKIdeal.nD → PrngReg), Pre_MlpBwdKIdeal m →
    θ_run (Cert.MlpBwdKIdeal.defs (F := Ideal)) (onTc (τ := Cert.MlpBwdKIdeal.τ) (Cert.MlpBwdKIdeal.main (F := Ideal))) ⟨m, fun _ => 0, g⟩ (fun r => (∀ c : Dev Cert.MlpBwdKIdeal.nD,
      r.2.mem ((c.tc : Thread Cert.MlpBwdKIdeal.nD Cert.MlpBwdKIdeal.τ).loc Cert.MlpBwdKIdeal.main_arg0) = m ((c.tc : Thread Cert.MlpBwdKIdeal.nD Cert.MlpBwdKIdeal.τ).loc Cert.MlpBwdKIdeal.main_arg0)
      ∧ r.2.mem ((c.tc : Thread Cert.MlpBwdKIdeal.nD Cert.MlpBwdKIdeal.τ).loc Cert.MlpBwdKIdeal.main_arg1) = m ((c.tc : Thread Cert.MlpBwdKIdeal.nD Cert.MlpBwdKIdeal.τ).loc Cert.MlpBwdKIdeal.main_arg1)
      ∧ r.2.mem ((c.tc : Thread Cert.MlpBwdKIdeal.nD Cert.MlpBwdKIdeal.τ).loc Cert.MlpBwdKIdeal.main_arg2) = m ((c.tc : Thread Cert.MlpBwdKIdeal.nD Cert.MlpBwdKIdeal.τ).loc Cert.MlpBwdKIdeal.main_arg2)
      ∧ r.2.mem ((c.tc : Thread Cert.MlpBwdKIdeal.nD Cert.MlpBwdKIdeal.τ).loc Cert.MlpBwdKIdeal.main_arg3) = m ((c.tc : Thread Cert.MlpBwdKIdeal.nD Cert.MlpBwdKIdeal.τ).loc Cert.MlpBwdKIdeal.main_arg3)
      ∧ r.2.mem ((c.tc : Thread Cert.MlpBwdKIdeal.nD Cert.MlpBwdKIdeal.τ).loc Cert.MlpBwdKIdeal.main_arg4) = m ((c.tc : Thread Cert.MlpBwdKIdeal.nD Cert.MlpBwdKIdeal.τ).loc Cert.MlpBwdKIdeal.main_arg4)
      ∧ r.2.mem ((c.tc : Thread Cert.MlpBwdKIdeal.nD Cert.MlpBwdKIdeal.τ).loc Cert.MlpBwdKIdeal.main_arg5) = m ((c.tc : Thread Cert.MlpBwdKIdeal.nD Cert.MlpBwdKIdeal.τ).loc Cert.MlpBwdKIdeal.main_arg5)
      ∧ r.2.mem ((c.tc : Thread Cert.MlpBwdKIdeal.nD Cert.MlpBwdKIdeal.τ).loc Cert.MlpBwdKIdeal.main_arg6) = m ((c.tc : Thread Cert.MlpBwdKIdeal.nD Cert.MlpBwdKIdeal.τ).loc Cert.MlpBwdKIdeal.main_arg6)
      ∧ r.2.mem ((c.tc : Thread Cert.MlpBwdKIdeal.nD Cert.MlpBwdKIdeal.τ).loc Cert.MlpBwdKIdeal.main_arg7) = m ((c.tc : Thread Cert.MlpBwdKIdeal.nD Cert.MlpBwdKIdeal.τ).loc Cert.MlpBwdKIdeal.main_arg7))
      ∧ r.2.sem = fun _ => 0)

def quiescent_MlpBwdKIdeal_pre_finite_mlpbwd [hMlpBwdKIdeal : Cert.MlpBwdKIdeal.Facts] [hPre_finite_mlpbwd : Cert.Pre_finite_mlpbwd.Facts] : Prop :=
  ∀ (m : (ℓ : Loc Cert.MlpBwdKIdeal.nD Cert.MlpBwdKIdeal.τ Cert.MlpBwdKIdeal.sig) → Buf (Elt Ideal) ℓ) (g : Dev Cert.MlpBwdKIdeal.nD → PrngReg), Pre_MlpBwdKIdeal_finite_mlpbwd m →
    θ_run (Cert.MlpBwdKIdeal.defs (F := Ideal)) (onTc (τ := Cert.MlpBwdKIdeal.τ) (Cert.MlpBwdKIdeal.main (F := Ideal))) ⟨m, fun _ => 0, g⟩ (fun r => (∀ c : Dev Cert.MlpBwdKIdeal.nD,
      r.2.mem ((c.tc : Thread Cert.MlpBwdKIdeal.nD Cert.MlpBwdKIdeal.τ).loc Cert.MlpBwdKIdeal.main_arg0) = m ((c.tc : Thread Cert.MlpBwdKIdeal.nD Cert.MlpBwdKIdeal.τ).loc Cert.MlpBwdKIdeal.main_arg0)
      ∧ r.2.mem ((c.tc : Thread Cert.MlpBwdKIdeal.nD Cert.MlpBwdKIdeal.τ).loc Cert.MlpBwdKIdeal.main_arg1) = m ((c.tc : Thread Cert.MlpBwdKIdeal.nD Cert.MlpBwdKIdeal.τ).loc Cert.MlpBwdKIdeal.main_arg1)
      ∧ r.2.mem ((c.tc : Thread Cert.MlpBwdKIdeal.nD Cert.MlpBwdKIdeal.τ).loc Cert.MlpBwdKIdeal.main_arg2) = m ((c.tc : Thread Cert.MlpBwdKIdeal.nD Cert.MlpBwdKIdeal.τ).loc Cert.MlpBwdKIdeal.main_arg2)
      ∧ r.2.mem ((c.tc : Thread Cert.MlpBwdKIdeal.nD Cert.MlpBwdKIdeal.τ).loc Cert.MlpBwdKIdeal.main_arg3) = m ((c.tc : Thread Cert.MlpBwdKIdeal.nD Cert.MlpBwdKIdeal.τ).loc Cert.MlpBwdKIdeal.main_arg3)
      ∧ r.2.mem ((c.tc : Thread Cert.MlpBwdKIdeal.nD Cert.MlpBwdKIdeal.τ).loc Cert.MlpBwdKIdeal.main_arg4) = m ((c.tc : Thread Cert.MlpBwdKIdeal.nD Cert.MlpBwdKIdeal.τ).loc Cert.MlpBwdKIdeal.main_arg4)
      ∧ r.2.mem ((c.tc : Thread Cert.MlpBwdKIdeal.nD Cert.MlpBwdKIdeal.τ).loc Cert.MlpBwdKIdeal.main_arg5) = m ((c.tc : Thread Cert.MlpBwdKIdeal.nD Cert.MlpBwdKIdeal.τ).loc Cert.MlpBwdKIdeal.main_arg5)
      ∧ r.2.mem ((c.tc : Thread Cert.MlpBwdKIdeal.nD Cert.MlpBwdKIdeal.τ).loc Cert.MlpBwdKIdeal.main_arg6) = m ((c.tc : Thread Cert.MlpBwdKIdeal.nD Cert.MlpBwdKIdeal.τ).loc Cert.MlpBwdKIdeal.main_arg6)
      ∧ r.2.mem ((c.tc : Thread Cert.MlpBwdKIdeal.nD Cert.MlpBwdKIdeal.τ).loc Cert.MlpBwdKIdeal.main_arg7) = m ((c.tc : Thread Cert.MlpBwdKIdeal.nD Cert.MlpBwdKIdeal.τ).loc Cert.MlpBwdKIdeal.main_arg7))
      ∧ r.2.sem = fun _ => 0)

def quiescent_MlpBwdRIdeal [hMlpBwdRIdeal : Cert.MlpBwdRIdeal.Facts] : Prop :=
  ∀ (m : (ℓ : Loc Cert.MlpBwdRIdeal.nD Cert.MlpBwdRIdeal.τ Cert.MlpBwdRIdeal.sig) → Buf (Elt Ideal) ℓ) (g : Dev Cert.MlpBwdRIdeal.nD → PrngReg), Pre_MlpBwdRIdeal m →
    θ_run (Cert.MlpBwdRIdeal.defs (F := Ideal)) (onTc (τ := Cert.MlpBwdRIdeal.τ) (Cert.MlpBwdRIdeal.main (F := Ideal))) ⟨m, fun _ => 0, g⟩ (fun r => (∀ c : Dev Cert.MlpBwdRIdeal.nD,
      r.2.mem ((c.tc : Thread Cert.MlpBwdRIdeal.nD Cert.MlpBwdRIdeal.τ).loc Cert.MlpBwdRIdeal.main_arg0) = m ((c.tc : Thread Cert.MlpBwdRIdeal.nD Cert.MlpBwdRIdeal.τ).loc Cert.MlpBwdRIdeal.main_arg0)
      ∧ r.2.mem ((c.tc : Thread Cert.MlpBwdRIdeal.nD Cert.MlpBwdRIdeal.τ).loc Cert.MlpBwdRIdeal.main_arg1) = m ((c.tc : Thread Cert.MlpBwdRIdeal.nD Cert.MlpBwdRIdeal.τ).loc Cert.MlpBwdRIdeal.main_arg1)
      ∧ r.2.mem ((c.tc : Thread Cert.MlpBwdRIdeal.nD Cert.MlpBwdRIdeal.τ).loc Cert.MlpBwdRIdeal.main_arg2) = m ((c.tc : Thread Cert.MlpBwdRIdeal.nD Cert.MlpBwdRIdeal.τ).loc Cert.MlpBwdRIdeal.main_arg2)
      ∧ r.2.mem ((c.tc : Thread Cert.MlpBwdRIdeal.nD Cert.MlpBwdRIdeal.τ).loc Cert.MlpBwdRIdeal.main_arg3) = m ((c.tc : Thread Cert.MlpBwdRIdeal.nD Cert.MlpBwdRIdeal.τ).loc Cert.MlpBwdRIdeal.main_arg3)
      ∧ r.2.mem ((c.tc : Thread Cert.MlpBwdRIdeal.nD Cert.MlpBwdRIdeal.τ).loc Cert.MlpBwdRIdeal.main_arg4) = m ((c.tc : Thread Cert.MlpBwdRIdeal.nD Cert.MlpBwdRIdeal.τ).loc Cert.MlpBwdRIdeal.main_arg4)
      ∧ r.2.mem ((c.tc : Thread Cert.MlpBwdRIdeal.nD Cert.MlpBwdRIdeal.τ).loc Cert.MlpBwdRIdeal.main_arg5) = m ((c.tc : Thread Cert.MlpBwdRIdeal.nD Cert.MlpBwdRIdeal.τ).loc Cert.MlpBwdRIdeal.main_arg5)
      ∧ r.2.mem ((c.tc : Thread Cert.MlpBwdRIdeal.nD Cert.MlpBwdRIdeal.τ).loc Cert.MlpBwdRIdeal.main_arg6) = m ((c.tc : Thread Cert.MlpBwdRIdeal.nD Cert.MlpBwdRIdeal.τ).loc Cert.MlpBwdRIdeal.main_arg6)
      ∧ r.2.mem ((c.tc : Thread Cert.MlpBwdRIdeal.nD Cert.MlpBwdRIdeal.τ).loc Cert.MlpBwdRIdeal.main_arg7) = m ((c.tc : Thread Cert.MlpBwdRIdeal.nD Cert.MlpBwdRIdeal.τ).loc Cert.MlpBwdRIdeal.main_arg7))
      ∧ r.2.sem = fun _ => 0)

def quiescent_MlpBwdRIdeal_pre_finite_mlpbwd [hMlpBwdRIdeal : Cert.MlpBwdRIdeal.Facts] [hPre_finite_mlpbwd : Cert.Pre_finite_mlpbwd.Facts] : Prop :=
  ∀ (m : (ℓ : Loc Cert.MlpBwdRIdeal.nD Cert.MlpBwdRIdeal.τ Cert.MlpBwdRIdeal.sig) → Buf (Elt Ideal) ℓ) (g : Dev Cert.MlpBwdRIdeal.nD → PrngReg), Pre_MlpBwdRIdeal_finite_mlpbwd m →
    θ_run (Cert.MlpBwdRIdeal.defs (F := Ideal)) (onTc (τ := Cert.MlpBwdRIdeal.τ) (Cert.MlpBwdRIdeal.main (F := Ideal))) ⟨m, fun _ => 0, g⟩ (fun r => (∀ c : Dev Cert.MlpBwdRIdeal.nD,
      r.2.mem ((c.tc : Thread Cert.MlpBwdRIdeal.nD Cert.MlpBwdRIdeal.τ).loc Cert.MlpBwdRIdeal.main_arg0) = m ((c.tc : Thread Cert.MlpBwdRIdeal.nD Cert.MlpBwdRIdeal.τ).loc Cert.MlpBwdRIdeal.main_arg0)
      ∧ r.2.mem ((c.tc : Thread Cert.MlpBwdRIdeal.nD Cert.MlpBwdRIdeal.τ).loc Cert.MlpBwdRIdeal.main_arg1) = m ((c.tc : Thread Cert.MlpBwdRIdeal.nD Cert.MlpBwdRIdeal.τ).loc Cert.MlpBwdRIdeal.main_arg1)
      ∧ r.2.mem ((c.tc : Thread Cert.MlpBwdRIdeal.nD Cert.MlpBwdRIdeal.τ).loc Cert.MlpBwdRIdeal.main_arg2) = m ((c.tc : Thread Cert.MlpBwdRIdeal.nD Cert.MlpBwdRIdeal.τ).loc Cert.MlpBwdRIdeal.main_arg2)
      ∧ r.2.mem ((c.tc : Thread Cert.MlpBwdRIdeal.nD Cert.MlpBwdRIdeal.τ).loc Cert.MlpBwdRIdeal.main_arg3) = m ((c.tc : Thread Cert.MlpBwdRIdeal.nD Cert.MlpBwdRIdeal.τ).loc Cert.MlpBwdRIdeal.main_arg3)
      ∧ r.2.mem ((c.tc : Thread Cert.MlpBwdRIdeal.nD Cert.MlpBwdRIdeal.τ).loc Cert.MlpBwdRIdeal.main_arg4) = m ((c.tc : Thread Cert.MlpBwdRIdeal.nD Cert.MlpBwdRIdeal.τ).loc Cert.MlpBwdRIdeal.main_arg4)
      ∧ r.2.mem ((c.tc : Thread Cert.MlpBwdRIdeal.nD Cert.MlpBwdRIdeal.τ).loc Cert.MlpBwdRIdeal.main_arg5) = m ((c.tc : Thread Cert.MlpBwdRIdeal.nD Cert.MlpBwdRIdeal.τ).loc Cert.MlpBwdRIdeal.main_arg5)
      ∧ r.2.mem ((c.tc : Thread Cert.MlpBwdRIdeal.nD Cert.MlpBwdRIdeal.τ).loc Cert.MlpBwdRIdeal.main_arg6) = m ((c.tc : Thread Cert.MlpBwdRIdeal.nD Cert.MlpBwdRIdeal.τ).loc Cert.MlpBwdRIdeal.main_arg6)
      ∧ r.2.mem ((c.tc : Thread Cert.MlpBwdRIdeal.nD Cert.MlpBwdRIdeal.τ).loc Cert.MlpBwdRIdeal.main_arg7) = m ((c.tc : Thread Cert.MlpBwdRIdeal.nD Cert.MlpBwdRIdeal.τ).loc Cert.MlpBwdRIdeal.main_arg7))
      ∧ r.2.sem = fun _ => 0)

def quiescent_DwDownK [hDwDownK : Cert.DwDownK.Facts] : Prop :=
  ∀ (m : (ℓ : Loc Cert.DwDownK.nD Cert.DwDownK.τ Cert.DwDownK.sig) → Buf (Elt Bits) ℓ) (g : Dev Cert.DwDownK.nD → PrngReg), Pre_DwDownK m →
    θ_run (Cert.DwDownK.defs (F := Bits)) (onTc (τ := Cert.DwDownK.τ) (Cert.DwDownK.main (F := Bits))) ⟨m, fun _ => 0, g⟩ (fun r => (∀ c : Dev Cert.DwDownK.nD,
      r.2.mem ((c.tc : Thread Cert.DwDownK.nD Cert.DwDownK.τ).loc Cert.DwDownK.main_arg0) = m ((c.tc : Thread Cert.DwDownK.nD Cert.DwDownK.τ).loc Cert.DwDownK.main_arg0)
      ∧ r.2.mem ((c.tc : Thread Cert.DwDownK.nD Cert.DwDownK.τ).loc Cert.DwDownK.main_arg1) = m ((c.tc : Thread Cert.DwDownK.nD Cert.DwDownK.τ).loc Cert.DwDownK.main_arg1)
      ∧ r.2.mem ((c.tc : Thread Cert.DwDownK.nD Cert.DwDownK.τ).loc Cert.DwDownK.main_arg2) = m ((c.tc : Thread Cert.DwDownK.nD Cert.DwDownK.τ).loc Cert.DwDownK.main_arg2)
      ∧ r.2.mem ((c.tc : Thread Cert.DwDownK.nD Cert.DwDownK.τ).loc Cert.DwDownK.main_arg3) = m ((c.tc : Thread Cert.DwDownK.nD Cert.DwDownK.τ).loc Cert.DwDownK.main_arg3))
      ∧ r.2.sem = fun _ => 0)

def quiescent_DwDownKIdeal [hDwDownKIdeal : Cert.DwDownKIdeal.Facts] : Prop :=
  ∀ (m : (ℓ : Loc Cert.DwDownKIdeal.nD Cert.DwDownKIdeal.τ Cert.DwDownKIdeal.sig) → Buf (Elt Ideal) ℓ) (g : Dev Cert.DwDownKIdeal.nD → PrngReg), Pre_DwDownKIdeal m →
    θ_run (Cert.DwDownKIdeal.defs (F := Ideal)) (onTc (τ := Cert.DwDownKIdeal.τ) (Cert.DwDownKIdeal.main (F := Ideal))) ⟨m, fun _ => 0, g⟩ (fun r => (∀ c : Dev Cert.DwDownKIdeal.nD,
      r.2.mem ((c.tc : Thread Cert.DwDownKIdeal.nD Cert.DwDownKIdeal.τ).loc Cert.DwDownKIdeal.main_arg0) = m ((c.tc : Thread Cert.DwDownKIdeal.nD Cert.DwDownKIdeal.τ).loc Cert.DwDownKIdeal.main_arg0)
      ∧ r.2.mem ((c.tc : Thread Cert.DwDownKIdeal.nD Cert.DwDownKIdeal.τ).loc Cert.DwDownKIdeal.main_arg1) = m ((c.tc : Thread Cert.DwDownKIdeal.nD Cert.DwDownKIdeal.τ).loc Cert.DwDownKIdeal.main_arg1)
      ∧ r.2.mem ((c.tc : Thread Cert.DwDownKIdeal.nD Cert.DwDownKIdeal.τ).loc Cert.DwDownKIdeal.main_arg2) = m ((c.tc : Thread Cert.DwDownKIdeal.nD Cert.DwDownKIdeal.τ).loc Cert.DwDownKIdeal.main_arg2)
      ∧ r.2.mem ((c.tc : Thread Cert.DwDownKIdeal.nD Cert.DwDownKIdeal.τ).loc Cert.DwDownKIdeal.main_arg3) = m ((c.tc : Thread Cert.DwDownKIdeal.nD Cert.DwDownKIdeal.τ).loc Cert.DwDownKIdeal.main_arg3))
      ∧ r.2.sem = fun _ => 0)

def quiescent_DwDownKIdeal_pre_finite_dwdown [hDwDownKIdeal : Cert.DwDownKIdeal.Facts] [hPre_finite_dwdown : Cert.Pre_finite_dwdown.Facts] : Prop :=
  ∀ (m : (ℓ : Loc Cert.DwDownKIdeal.nD Cert.DwDownKIdeal.τ Cert.DwDownKIdeal.sig) → Buf (Elt Ideal) ℓ) (g : Dev Cert.DwDownKIdeal.nD → PrngReg), Pre_DwDownKIdeal_finite_dwdown m →
    θ_run (Cert.DwDownKIdeal.defs (F := Ideal)) (onTc (τ := Cert.DwDownKIdeal.τ) (Cert.DwDownKIdeal.main (F := Ideal))) ⟨m, fun _ => 0, g⟩ (fun r => (∀ c : Dev Cert.DwDownKIdeal.nD,
      r.2.mem ((c.tc : Thread Cert.DwDownKIdeal.nD Cert.DwDownKIdeal.τ).loc Cert.DwDownKIdeal.main_arg0) = m ((c.tc : Thread Cert.DwDownKIdeal.nD Cert.DwDownKIdeal.τ).loc Cert.DwDownKIdeal.main_arg0)
      ∧ r.2.mem ((c.tc : Thread Cert.DwDownKIdeal.nD Cert.DwDownKIdeal.τ).loc Cert.DwDownKIdeal.main_arg1) = m ((c.tc : Thread Cert.DwDownKIdeal.nD Cert.DwDownKIdeal.τ).loc Cert.DwDownKIdeal.main_arg1)
      ∧ r.2.mem ((c.tc : Thread Cert.DwDownKIdeal.nD Cert.DwDownKIdeal.τ).loc Cert.DwDownKIdeal.main_arg2) = m ((c.tc : Thread Cert.DwDownKIdeal.nD Cert.DwDownKIdeal.τ).loc Cert.DwDownKIdeal.main_arg2)
      ∧ r.2.mem ((c.tc : Thread Cert.DwDownKIdeal.nD Cert.DwDownKIdeal.τ).loc Cert.DwDownKIdeal.main_arg3) = m ((c.tc : Thread Cert.DwDownKIdeal.nD Cert.DwDownKIdeal.τ).loc Cert.DwDownKIdeal.main_arg3))
      ∧ r.2.sem = fun _ => 0)

def quiescent_DwDownRIdeal [hDwDownRIdeal : Cert.DwDownRIdeal.Facts] : Prop :=
  ∀ (m : (ℓ : Loc Cert.DwDownRIdeal.nD Cert.DwDownRIdeal.τ Cert.DwDownRIdeal.sig) → Buf (Elt Ideal) ℓ) (g : Dev Cert.DwDownRIdeal.nD → PrngReg), Pre_DwDownRIdeal m →
    θ_run (Cert.DwDownRIdeal.defs (F := Ideal)) (onTc (τ := Cert.DwDownRIdeal.τ) (Cert.DwDownRIdeal.main (F := Ideal))) ⟨m, fun _ => 0, g⟩ (fun r => (∀ c : Dev Cert.DwDownRIdeal.nD,
      r.2.mem ((c.tc : Thread Cert.DwDownRIdeal.nD Cert.DwDownRIdeal.τ).loc Cert.DwDownRIdeal.main_arg0) = m ((c.tc : Thread Cert.DwDownRIdeal.nD Cert.DwDownRIdeal.τ).loc Cert.DwDownRIdeal.main_arg0)
      ∧ r.2.mem ((c.tc : Thread Cert.DwDownRIdeal.nD Cert.DwDownRIdeal.τ).loc Cert.DwDownRIdeal.main_arg1) = m ((c.tc : Thread Cert.DwDownRIdeal.nD Cert.DwDownRIdeal.τ).loc Cert.DwDownRIdeal.main_arg1)
      ∧ r.2.mem ((c.tc : Thread Cert.DwDownRIdeal.nD Cert.DwDownRIdeal.τ).loc Cert.DwDownRIdeal.main_arg2) = m ((c.tc : Thread Cert.DwDownRIdeal.nD Cert.DwDownRIdeal.τ).loc Cert.DwDownRIdeal.main_arg2)
      ∧ r.2.mem ((c.tc : Thread Cert.DwDownRIdeal.nD Cert.DwDownRIdeal.τ).loc Cert.DwDownRIdeal.main_arg3) = m ((c.tc : Thread Cert.DwDownRIdeal.nD Cert.DwDownRIdeal.τ).loc Cert.DwDownRIdeal.main_arg3))
      ∧ r.2.sem = fun _ => 0)

def quiescent_DwDownRIdeal_pre_finite_dwdown [hDwDownRIdeal : Cert.DwDownRIdeal.Facts] [hPre_finite_dwdown : Cert.Pre_finite_dwdown.Facts] : Prop :=
  ∀ (m : (ℓ : Loc Cert.DwDownRIdeal.nD Cert.DwDownRIdeal.τ Cert.DwDownRIdeal.sig) → Buf (Elt Ideal) ℓ) (g : Dev Cert.DwDownRIdeal.nD → PrngReg), Pre_DwDownRIdeal_finite_dwdown m →
    θ_run (Cert.DwDownRIdeal.defs (F := Ideal)) (onTc (τ := Cert.DwDownRIdeal.τ) (Cert.DwDownRIdeal.main (F := Ideal))) ⟨m, fun _ => 0, g⟩ (fun r => (∀ c : Dev Cert.DwDownRIdeal.nD,
      r.2.mem ((c.tc : Thread Cert.DwDownRIdeal.nD Cert.DwDownRIdeal.τ).loc Cert.DwDownRIdeal.main_arg0) = m ((c.tc : Thread Cert.DwDownRIdeal.nD Cert.DwDownRIdeal.τ).loc Cert.DwDownRIdeal.main_arg0)
      ∧ r.2.mem ((c.tc : Thread Cert.DwDownRIdeal.nD Cert.DwDownRIdeal.τ).loc Cert.DwDownRIdeal.main_arg1) = m ((c.tc : Thread Cert.DwDownRIdeal.nD Cert.DwDownRIdeal.τ).loc Cert.DwDownRIdeal.main_arg1)
      ∧ r.2.mem ((c.tc : Thread Cert.DwDownRIdeal.nD Cert.DwDownRIdeal.τ).loc Cert.DwDownRIdeal.main_arg2) = m ((c.tc : Thread Cert.DwDownRIdeal.nD Cert.DwDownRIdeal.τ).loc Cert.DwDownRIdeal.main_arg2)
      ∧ r.2.mem ((c.tc : Thread Cert.DwDownRIdeal.nD Cert.DwDownRIdeal.τ).loc Cert.DwDownRIdeal.main_arg3) = m ((c.tc : Thread Cert.DwDownRIdeal.nD Cert.DwDownRIdeal.τ).loc Cert.DwDownRIdeal.main_arg3))
      ∧ r.2.sem = fun _ => 0)

def quiescent_ConvLruK [hConvLruK : Cert.ConvLruK.Facts] : Prop :=
  ∀ (m : (ℓ : Loc Cert.ConvLruK.nD Cert.ConvLruK.τ Cert.ConvLruK.sig) → Buf (Elt Bits) ℓ) (g : Dev Cert.ConvLruK.nD → PrngReg), Pre_ConvLruK m →
    θ_run (Cert.ConvLruK.defs (F := Bits)) (onTc (τ := Cert.ConvLruK.τ) (Cert.ConvLruK.main (F := Bits))) ⟨m, fun _ => 0, g⟩ (fun r => (∀ c : Dev Cert.ConvLruK.nD,
      r.2.mem ((c.tc : Thread Cert.ConvLruK.nD Cert.ConvLruK.τ).loc Cert.ConvLruK.main_arg0) = m ((c.tc : Thread Cert.ConvLruK.nD Cert.ConvLruK.τ).loc Cert.ConvLruK.main_arg0)
      ∧ r.2.mem ((c.tc : Thread Cert.ConvLruK.nD Cert.ConvLruK.τ).loc Cert.ConvLruK.main_arg1) = m ((c.tc : Thread Cert.ConvLruK.nD Cert.ConvLruK.τ).loc Cert.ConvLruK.main_arg1)
      ∧ r.2.mem ((c.tc : Thread Cert.ConvLruK.nD Cert.ConvLruK.τ).loc Cert.ConvLruK.main_arg2) = m ((c.tc : Thread Cert.ConvLruK.nD Cert.ConvLruK.τ).loc Cert.ConvLruK.main_arg2)
      ∧ r.2.mem ((c.tc : Thread Cert.ConvLruK.nD Cert.ConvLruK.τ).loc Cert.ConvLruK.main_arg3) = m ((c.tc : Thread Cert.ConvLruK.nD Cert.ConvLruK.τ).loc Cert.ConvLruK.main_arg3))
      ∧ r.2.sem = fun _ => 0)

def quiescent_ConvLruKIdeal [hConvLruKIdeal : Cert.ConvLruKIdeal.Facts] : Prop :=
  ∀ (m : (ℓ : Loc Cert.ConvLruKIdeal.nD Cert.ConvLruKIdeal.τ Cert.ConvLruKIdeal.sig) → Buf (Elt Ideal) ℓ) (g : Dev Cert.ConvLruKIdeal.nD → PrngReg), Pre_ConvLruKIdeal m →
    θ_run (Cert.ConvLruKIdeal.defs (F := Ideal)) (onTc (τ := Cert.ConvLruKIdeal.τ) (Cert.ConvLruKIdeal.main (F := Ideal))) ⟨m, fun _ => 0, g⟩ (fun r => (∀ c : Dev Cert.ConvLruKIdeal.nD,
      r.2.mem ((c.tc : Thread Cert.ConvLruKIdeal.nD Cert.ConvLruKIdeal.τ).loc Cert.ConvLruKIdeal.main_arg0) = m ((c.tc : Thread Cert.ConvLruKIdeal.nD Cert.ConvLruKIdeal.τ).loc Cert.ConvLruKIdeal.main_arg0)
      ∧ r.2.mem ((c.tc : Thread Cert.ConvLruKIdeal.nD Cert.ConvLruKIdeal.τ).loc Cert.ConvLruKIdeal.main_arg1) = m ((c.tc : Thread Cert.ConvLruKIdeal.nD Cert.ConvLruKIdeal.τ).loc Cert.ConvLruKIdeal.main_arg1)
      ∧ r.2.mem ((c.tc : Thread Cert.ConvLruKIdeal.nD Cert.ConvLruKIdeal.τ).loc Cert.ConvLruKIdeal.main_arg2) = m ((c.tc : Thread Cert.ConvLruKIdeal.nD Cert.ConvLruKIdeal.τ).loc Cert.ConvLruKIdeal.main_arg2)
      ∧ r.2.mem ((c.tc : Thread Cert.ConvLruKIdeal.nD Cert.ConvLruKIdeal.τ).loc Cert.ConvLruKIdeal.main_arg3) = m ((c.tc : Thread Cert.ConvLruKIdeal.nD Cert.ConvLruKIdeal.τ).loc Cert.ConvLruKIdeal.main_arg3))
      ∧ r.2.sem = fun _ => 0)

def quiescent_ConvLruRIdeal [hConvLruRIdeal : Cert.ConvLruRIdeal.Facts] : Prop :=
  ∀ (m : (ℓ : Loc Cert.ConvLruRIdeal.nD Cert.ConvLruRIdeal.τ Cert.ConvLruRIdeal.sig) → Buf (Elt Ideal) ℓ) (g : Dev Cert.ConvLruRIdeal.nD → PrngReg), Pre_ConvLruRIdeal m →
    θ_run (Cert.ConvLruRIdeal.defs (F := Ideal)) (onTc (τ := Cert.ConvLruRIdeal.τ) (Cert.ConvLruRIdeal.main (F := Ideal))) ⟨m, fun _ => 0, g⟩ (fun r => (∀ c : Dev Cert.ConvLruRIdeal.nD,
      r.2.mem ((c.tc : Thread Cert.ConvLruRIdeal.nD Cert.ConvLruRIdeal.τ).loc Cert.ConvLruRIdeal.main_arg0) = m ((c.tc : Thread Cert.ConvLruRIdeal.nD Cert.ConvLruRIdeal.τ).loc Cert.ConvLruRIdeal.main_arg0)
      ∧ r.2.mem ((c.tc : Thread Cert.ConvLruRIdeal.nD Cert.ConvLruRIdeal.τ).loc Cert.ConvLruRIdeal.main_arg1) = m ((c.tc : Thread Cert.ConvLruRIdeal.nD Cert.ConvLruRIdeal.τ).loc Cert.ConvLruRIdeal.main_arg1)
      ∧ r.2.mem ((c.tc : Thread Cert.ConvLruRIdeal.nD Cert.ConvLruRIdeal.τ).loc Cert.ConvLruRIdeal.main_arg2) = m ((c.tc : Thread Cert.ConvLruRIdeal.nD Cert.ConvLruRIdeal.τ).loc Cert.ConvLruRIdeal.main_arg2)
      ∧ r.2.mem ((c.tc : Thread Cert.ConvLruRIdeal.nD Cert.ConvLruRIdeal.τ).loc Cert.ConvLruRIdeal.main_arg3) = m ((c.tc : Thread Cert.ConvLruRIdeal.nD Cert.ConvLruRIdeal.τ).loc Cert.ConvLruRIdeal.main_arg3))
      ∧ r.2.sem = fun _ => 0)

def quiescent_ConvGdnK [hConvGdnK : Cert.ConvGdnK.Facts] : Prop :=
  ∀ (m : (ℓ : Loc Cert.ConvGdnK.nD Cert.ConvGdnK.τ Cert.ConvGdnK.sig) → Buf (Elt Bits) ℓ) (g : Dev Cert.ConvGdnK.nD → PrngReg), Pre_ConvGdnK m →
    θ_run (Cert.ConvGdnK.defs (F := Bits)) (onTc (τ := Cert.ConvGdnK.τ) (Cert.ConvGdnK.main (F := Bits))) ⟨m, fun _ => 0, g⟩ (fun r => (∀ c : Dev Cert.ConvGdnK.nD,
      r.2.mem ((c.tc : Thread Cert.ConvGdnK.nD Cert.ConvGdnK.τ).loc Cert.ConvGdnK.main_arg0) = m ((c.tc : Thread Cert.ConvGdnK.nD Cert.ConvGdnK.τ).loc Cert.ConvGdnK.main_arg0)
      ∧ r.2.mem ((c.tc : Thread Cert.ConvGdnK.nD Cert.ConvGdnK.τ).loc Cert.ConvGdnK.main_arg1) = m ((c.tc : Thread Cert.ConvGdnK.nD Cert.ConvGdnK.τ).loc Cert.ConvGdnK.main_arg1)
      ∧ r.2.mem ((c.tc : Thread Cert.ConvGdnK.nD Cert.ConvGdnK.τ).loc Cert.ConvGdnK.main_arg2) = m ((c.tc : Thread Cert.ConvGdnK.nD Cert.ConvGdnK.τ).loc Cert.ConvGdnK.main_arg2))
      ∧ r.2.sem = fun _ => 0)

def quiescent_ConvGdnKIdeal [hConvGdnKIdeal : Cert.ConvGdnKIdeal.Facts] : Prop :=
  ∀ (m : (ℓ : Loc Cert.ConvGdnKIdeal.nD Cert.ConvGdnKIdeal.τ Cert.ConvGdnKIdeal.sig) → Buf (Elt Ideal) ℓ) (g : Dev Cert.ConvGdnKIdeal.nD → PrngReg), Pre_ConvGdnKIdeal m →
    θ_run (Cert.ConvGdnKIdeal.defs (F := Ideal)) (onTc (τ := Cert.ConvGdnKIdeal.τ) (Cert.ConvGdnKIdeal.main (F := Ideal))) ⟨m, fun _ => 0, g⟩ (fun r => (∀ c : Dev Cert.ConvGdnKIdeal.nD,
      r.2.mem ((c.tc : Thread Cert.ConvGdnKIdeal.nD Cert.ConvGdnKIdeal.τ).loc Cert.ConvGdnKIdeal.main_arg0) = m ((c.tc : Thread Cert.ConvGdnKIdeal.nD Cert.ConvGdnKIdeal.τ).loc Cert.ConvGdnKIdeal.main_arg0)
      ∧ r.2.mem ((c.tc : Thread Cert.ConvGdnKIdeal.nD Cert.ConvGdnKIdeal.τ).loc Cert.ConvGdnKIdeal.main_arg1) = m ((c.tc : Thread Cert.ConvGdnKIdeal.nD Cert.ConvGdnKIdeal.τ).loc Cert.ConvGdnKIdeal.main_arg1)
      ∧ r.2.mem ((c.tc : Thread Cert.ConvGdnKIdeal.nD Cert.ConvGdnKIdeal.τ).loc Cert.ConvGdnKIdeal.main_arg2) = m ((c.tc : Thread Cert.ConvGdnKIdeal.nD Cert.ConvGdnKIdeal.τ).loc Cert.ConvGdnKIdeal.main_arg2))
      ∧ r.2.sem = fun _ => 0)

def quiescent_ConvGdnKIdeal_pre_finite_convgdn [hConvGdnKIdeal : Cert.ConvGdnKIdeal.Facts] [hPre_finite_convgdn : Cert.Pre_finite_convgdn.Facts] : Prop :=
  ∀ (m : (ℓ : Loc Cert.ConvGdnKIdeal.nD Cert.ConvGdnKIdeal.τ Cert.ConvGdnKIdeal.sig) → Buf (Elt Ideal) ℓ) (g : Dev Cert.ConvGdnKIdeal.nD → PrngReg), Pre_ConvGdnKIdeal_finite_convgdn m →
    θ_run (Cert.ConvGdnKIdeal.defs (F := Ideal)) (onTc (τ := Cert.ConvGdnKIdeal.τ) (Cert.ConvGdnKIdeal.main (F := Ideal))) ⟨m, fun _ => 0, g⟩ (fun r => (∀ c : Dev Cert.ConvGdnKIdeal.nD,
      r.2.mem ((c.tc : Thread Cert.ConvGdnKIdeal.nD Cert.ConvGdnKIdeal.τ).loc Cert.ConvGdnKIdeal.main_arg0) = m ((c.tc : Thread Cert.ConvGdnKIdeal.nD Cert.ConvGdnKIdeal.τ).loc Cert.ConvGdnKIdeal.main_arg0)
      ∧ r.2.mem ((c.tc : Thread Cert.ConvGdnKIdeal.nD Cert.ConvGdnKIdeal.τ).loc Cert.ConvGdnKIdeal.main_arg1) = m ((c.tc : Thread Cert.ConvGdnKIdeal.nD Cert.ConvGdnKIdeal.τ).loc Cert.ConvGdnKIdeal.main_arg1)
      ∧ r.2.mem ((c.tc : Thread Cert.ConvGdnKIdeal.nD Cert.ConvGdnKIdeal.τ).loc Cert.ConvGdnKIdeal.main_arg2) = m ((c.tc : Thread Cert.ConvGdnKIdeal.nD Cert.ConvGdnKIdeal.τ).loc Cert.ConvGdnKIdeal.main_arg2))
      ∧ r.2.sem = fun _ => 0)

def quiescent_ConvGdnRIdeal [hConvGdnRIdeal : Cert.ConvGdnRIdeal.Facts] : Prop :=
  ∀ (m : (ℓ : Loc Cert.ConvGdnRIdeal.nD Cert.ConvGdnRIdeal.τ Cert.ConvGdnRIdeal.sig) → Buf (Elt Ideal) ℓ) (g : Dev Cert.ConvGdnRIdeal.nD → PrngReg), Pre_ConvGdnRIdeal m →
    θ_run (Cert.ConvGdnRIdeal.defs (F := Ideal)) (onTc (τ := Cert.ConvGdnRIdeal.τ) (Cert.ConvGdnRIdeal.main (F := Ideal))) ⟨m, fun _ => 0, g⟩ (fun r => (∀ c : Dev Cert.ConvGdnRIdeal.nD,
      r.2.mem ((c.tc : Thread Cert.ConvGdnRIdeal.nD Cert.ConvGdnRIdeal.τ).loc Cert.ConvGdnRIdeal.main_arg0) = m ((c.tc : Thread Cert.ConvGdnRIdeal.nD Cert.ConvGdnRIdeal.τ).loc Cert.ConvGdnRIdeal.main_arg0)
      ∧ r.2.mem ((c.tc : Thread Cert.ConvGdnRIdeal.nD Cert.ConvGdnRIdeal.τ).loc Cert.ConvGdnRIdeal.main_arg1) = m ((c.tc : Thread Cert.ConvGdnRIdeal.nD Cert.ConvGdnRIdeal.τ).loc Cert.ConvGdnRIdeal.main_arg1)
      ∧ r.2.mem ((c.tc : Thread Cert.ConvGdnRIdeal.nD Cert.ConvGdnRIdeal.τ).loc Cert.ConvGdnRIdeal.main_arg2) = m ((c.tc : Thread Cert.ConvGdnRIdeal.nD Cert.ConvGdnRIdeal.τ).loc Cert.ConvGdnRIdeal.main_arg2))
      ∧ r.2.sem = fun _ => 0)

def quiescent_ConvGdnRIdeal_pre_finite_convgdn [hConvGdnRIdeal : Cert.ConvGdnRIdeal.Facts] [hPre_finite_convgdn : Cert.Pre_finite_convgdn.Facts] : Prop :=
  ∀ (m : (ℓ : Loc Cert.ConvGdnRIdeal.nD Cert.ConvGdnRIdeal.τ Cert.ConvGdnRIdeal.sig) → Buf (Elt Ideal) ℓ) (g : Dev Cert.ConvGdnRIdeal.nD → PrngReg), Pre_ConvGdnRIdeal_finite_convgdn m →
    θ_run (Cert.ConvGdnRIdeal.defs (F := Ideal)) (onTc (τ := Cert.ConvGdnRIdeal.τ) (Cert.ConvGdnRIdeal.main (F := Ideal))) ⟨m, fun _ => 0, g⟩ (fun r => (∀ c : Dev Cert.ConvGdnRIdeal.nD,
      r.2.mem ((c.tc : Thread Cert.ConvGdnRIdeal.nD Cert.ConvGdnRIdeal.τ).loc Cert.ConvGdnRIdeal.main_arg0) = m ((c.tc : Thread Cert.ConvGdnRIdeal.nD Cert.ConvGdnRIdeal.τ).loc Cert.ConvGdnRIdeal.main_arg0)
      ∧ r.2.mem ((c.tc : Thread Cert.ConvGdnRIdeal.nD Cert.ConvGdnRIdeal.τ).loc Cert.ConvGdnRIdeal.main_arg1) = m ((c.tc : Thread Cert.ConvGdnRIdeal.nD Cert.ConvGdnRIdeal.τ).loc Cert.ConvGdnRIdeal.main_arg1)
      ∧ r.2.mem ((c.tc : Thread Cert.ConvGdnRIdeal.nD Cert.ConvGdnRIdeal.τ).loc Cert.ConvGdnRIdeal.main_arg2) = m ((c.tc : Thread Cert.ConvGdnRIdeal.nD Cert.ConvGdnRIdeal.τ).loc Cert.ConvGdnRIdeal.main_arg2))
      ∧ r.2.sem = fun _ => 0)

def quiescent_OutBwdK [hOutBwdK : Cert.OutBwdK.Facts] : Prop :=
  ∀ (m : (ℓ : Loc Cert.OutBwdK.nD Cert.OutBwdK.τ Cert.OutBwdK.sig) → Buf (Elt Bits) ℓ) (g : Dev Cert.OutBwdK.nD → PrngReg), Pre_OutBwdK m →
    θ_run (Cert.OutBwdK.defs (F := Bits)) (onTc (τ := Cert.OutBwdK.τ) (Cert.OutBwdK.main (F := Bits))) ⟨m, fun _ => 0, g⟩ (fun r => (∀ c : Dev Cert.OutBwdK.nD,
      r.2.mem ((c.tc : Thread Cert.OutBwdK.nD Cert.OutBwdK.τ).loc Cert.OutBwdK.main_arg0) = m ((c.tc : Thread Cert.OutBwdK.nD Cert.OutBwdK.τ).loc Cert.OutBwdK.main_arg0)
      ∧ r.2.mem ((c.tc : Thread Cert.OutBwdK.nD Cert.OutBwdK.τ).loc Cert.OutBwdK.main_arg1) = m ((c.tc : Thread Cert.OutBwdK.nD Cert.OutBwdK.τ).loc Cert.OutBwdK.main_arg1)
      ∧ r.2.mem ((c.tc : Thread Cert.OutBwdK.nD Cert.OutBwdK.τ).loc Cert.OutBwdK.main_arg2) = m ((c.tc : Thread Cert.OutBwdK.nD Cert.OutBwdK.τ).loc Cert.OutBwdK.main_arg2)
      ∧ r.2.mem ((c.tc : Thread Cert.OutBwdK.nD Cert.OutBwdK.τ).loc Cert.OutBwdK.main_arg3) = m ((c.tc : Thread Cert.OutBwdK.nD Cert.OutBwdK.τ).loc Cert.OutBwdK.main_arg3)
      ∧ r.2.mem ((c.tc : Thread Cert.OutBwdK.nD Cert.OutBwdK.τ).loc Cert.OutBwdK.main_arg4) = m ((c.tc : Thread Cert.OutBwdK.nD Cert.OutBwdK.τ).loc Cert.OutBwdK.main_arg4)
      ∧ r.2.mem ((c.tc : Thread Cert.OutBwdK.nD Cert.OutBwdK.τ).loc Cert.OutBwdK.main_arg5) = m ((c.tc : Thread Cert.OutBwdK.nD Cert.OutBwdK.τ).loc Cert.OutBwdK.main_arg5)
      ∧ r.2.mem ((c.tc : Thread Cert.OutBwdK.nD Cert.OutBwdK.τ).loc Cert.OutBwdK.main_arg6) = m ((c.tc : Thread Cert.OutBwdK.nD Cert.OutBwdK.τ).loc Cert.OutBwdK.main_arg6)
      ∧ r.2.mem ((c.tc : Thread Cert.OutBwdK.nD Cert.OutBwdK.τ).loc Cert.OutBwdK.main_arg7) = m ((c.tc : Thread Cert.OutBwdK.nD Cert.OutBwdK.τ).loc Cert.OutBwdK.main_arg7))
      ∧ r.2.sem = fun _ => 0)

def quiescent_OutBwdKIdeal [hOutBwdKIdeal : Cert.OutBwdKIdeal.Facts] : Prop :=
  ∀ (m : (ℓ : Loc Cert.OutBwdKIdeal.nD Cert.OutBwdKIdeal.τ Cert.OutBwdKIdeal.sig) → Buf (Elt Ideal) ℓ) (g : Dev Cert.OutBwdKIdeal.nD → PrngReg), Pre_OutBwdKIdeal m →
    θ_run (Cert.OutBwdKIdeal.defs (F := Ideal)) (onTc (τ := Cert.OutBwdKIdeal.τ) (Cert.OutBwdKIdeal.main (F := Ideal))) ⟨m, fun _ => 0, g⟩ (fun r => (∀ c : Dev Cert.OutBwdKIdeal.nD,
      r.2.mem ((c.tc : Thread Cert.OutBwdKIdeal.nD Cert.OutBwdKIdeal.τ).loc Cert.OutBwdKIdeal.main_arg0) = m ((c.tc : Thread Cert.OutBwdKIdeal.nD Cert.OutBwdKIdeal.τ).loc Cert.OutBwdKIdeal.main_arg0)
      ∧ r.2.mem ((c.tc : Thread Cert.OutBwdKIdeal.nD Cert.OutBwdKIdeal.τ).loc Cert.OutBwdKIdeal.main_arg1) = m ((c.tc : Thread Cert.OutBwdKIdeal.nD Cert.OutBwdKIdeal.τ).loc Cert.OutBwdKIdeal.main_arg1)
      ∧ r.2.mem ((c.tc : Thread Cert.OutBwdKIdeal.nD Cert.OutBwdKIdeal.τ).loc Cert.OutBwdKIdeal.main_arg2) = m ((c.tc : Thread Cert.OutBwdKIdeal.nD Cert.OutBwdKIdeal.τ).loc Cert.OutBwdKIdeal.main_arg2)
      ∧ r.2.mem ((c.tc : Thread Cert.OutBwdKIdeal.nD Cert.OutBwdKIdeal.τ).loc Cert.OutBwdKIdeal.main_arg3) = m ((c.tc : Thread Cert.OutBwdKIdeal.nD Cert.OutBwdKIdeal.τ).loc Cert.OutBwdKIdeal.main_arg3)
      ∧ r.2.mem ((c.tc : Thread Cert.OutBwdKIdeal.nD Cert.OutBwdKIdeal.τ).loc Cert.OutBwdKIdeal.main_arg4) = m ((c.tc : Thread Cert.OutBwdKIdeal.nD Cert.OutBwdKIdeal.τ).loc Cert.OutBwdKIdeal.main_arg4)
      ∧ r.2.mem ((c.tc : Thread Cert.OutBwdKIdeal.nD Cert.OutBwdKIdeal.τ).loc Cert.OutBwdKIdeal.main_arg5) = m ((c.tc : Thread Cert.OutBwdKIdeal.nD Cert.OutBwdKIdeal.τ).loc Cert.OutBwdKIdeal.main_arg5)
      ∧ r.2.mem ((c.tc : Thread Cert.OutBwdKIdeal.nD Cert.OutBwdKIdeal.τ).loc Cert.OutBwdKIdeal.main_arg6) = m ((c.tc : Thread Cert.OutBwdKIdeal.nD Cert.OutBwdKIdeal.τ).loc Cert.OutBwdKIdeal.main_arg6)
      ∧ r.2.mem ((c.tc : Thread Cert.OutBwdKIdeal.nD Cert.OutBwdKIdeal.τ).loc Cert.OutBwdKIdeal.main_arg7) = m ((c.tc : Thread Cert.OutBwdKIdeal.nD Cert.OutBwdKIdeal.τ).loc Cert.OutBwdKIdeal.main_arg7))
      ∧ r.2.sem = fun _ => 0)

def quiescent_OutBwdKIdeal_pre_finite_outbwd [hOutBwdKIdeal : Cert.OutBwdKIdeal.Facts] [hPre_finite_outbwd : Cert.Pre_finite_outbwd.Facts] : Prop :=
  ∀ (m : (ℓ : Loc Cert.OutBwdKIdeal.nD Cert.OutBwdKIdeal.τ Cert.OutBwdKIdeal.sig) → Buf (Elt Ideal) ℓ) (g : Dev Cert.OutBwdKIdeal.nD → PrngReg), Pre_OutBwdKIdeal_finite_outbwd m →
    θ_run (Cert.OutBwdKIdeal.defs (F := Ideal)) (onTc (τ := Cert.OutBwdKIdeal.τ) (Cert.OutBwdKIdeal.main (F := Ideal))) ⟨m, fun _ => 0, g⟩ (fun r => (∀ c : Dev Cert.OutBwdKIdeal.nD,
      r.2.mem ((c.tc : Thread Cert.OutBwdKIdeal.nD Cert.OutBwdKIdeal.τ).loc Cert.OutBwdKIdeal.main_arg0) = m ((c.tc : Thread Cert.OutBwdKIdeal.nD Cert.OutBwdKIdeal.τ).loc Cert.OutBwdKIdeal.main_arg0)
      ∧ r.2.mem ((c.tc : Thread Cert.OutBwdKIdeal.nD Cert.OutBwdKIdeal.τ).loc Cert.OutBwdKIdeal.main_arg1) = m ((c.tc : Thread Cert.OutBwdKIdeal.nD Cert.OutBwdKIdeal.τ).loc Cert.OutBwdKIdeal.main_arg1)
      ∧ r.2.mem ((c.tc : Thread Cert.OutBwdKIdeal.nD Cert.OutBwdKIdeal.τ).loc Cert.OutBwdKIdeal.main_arg2) = m ((c.tc : Thread Cert.OutBwdKIdeal.nD Cert.OutBwdKIdeal.τ).loc Cert.OutBwdKIdeal.main_arg2)
      ∧ r.2.mem ((c.tc : Thread Cert.OutBwdKIdeal.nD Cert.OutBwdKIdeal.τ).loc Cert.OutBwdKIdeal.main_arg3) = m ((c.tc : Thread Cert.OutBwdKIdeal.nD Cert.OutBwdKIdeal.τ).loc Cert.OutBwdKIdeal.main_arg3)
      ∧ r.2.mem ((c.tc : Thread Cert.OutBwdKIdeal.nD Cert.OutBwdKIdeal.τ).loc Cert.OutBwdKIdeal.main_arg4) = m ((c.tc : Thread Cert.OutBwdKIdeal.nD Cert.OutBwdKIdeal.τ).loc Cert.OutBwdKIdeal.main_arg4)
      ∧ r.2.mem ((c.tc : Thread Cert.OutBwdKIdeal.nD Cert.OutBwdKIdeal.τ).loc Cert.OutBwdKIdeal.main_arg5) = m ((c.tc : Thread Cert.OutBwdKIdeal.nD Cert.OutBwdKIdeal.τ).loc Cert.OutBwdKIdeal.main_arg5)
      ∧ r.2.mem ((c.tc : Thread Cert.OutBwdKIdeal.nD Cert.OutBwdKIdeal.τ).loc Cert.OutBwdKIdeal.main_arg6) = m ((c.tc : Thread Cert.OutBwdKIdeal.nD Cert.OutBwdKIdeal.τ).loc Cert.OutBwdKIdeal.main_arg6)
      ∧ r.2.mem ((c.tc : Thread Cert.OutBwdKIdeal.nD Cert.OutBwdKIdeal.τ).loc Cert.OutBwdKIdeal.main_arg7) = m ((c.tc : Thread Cert.OutBwdKIdeal.nD Cert.OutBwdKIdeal.τ).loc Cert.OutBwdKIdeal.main_arg7))
      ∧ r.2.sem = fun _ => 0)

def quiescent_OutBwdRIdeal [hOutBwdRIdeal : Cert.OutBwdRIdeal.Facts] : Prop :=
  ∀ (m : (ℓ : Loc Cert.OutBwdRIdeal.nD Cert.OutBwdRIdeal.τ Cert.OutBwdRIdeal.sig) → Buf (Elt Ideal) ℓ) (g : Dev Cert.OutBwdRIdeal.nD → PrngReg), Pre_OutBwdRIdeal m →
    θ_run (Cert.OutBwdRIdeal.defs (F := Ideal)) (onTc (τ := Cert.OutBwdRIdeal.τ) (Cert.OutBwdRIdeal.main (F := Ideal))) ⟨m, fun _ => 0, g⟩ (fun r => (∀ c : Dev Cert.OutBwdRIdeal.nD,
      r.2.mem ((c.tc : Thread Cert.OutBwdRIdeal.nD Cert.OutBwdRIdeal.τ).loc Cert.OutBwdRIdeal.main_arg0) = m ((c.tc : Thread Cert.OutBwdRIdeal.nD Cert.OutBwdRIdeal.τ).loc Cert.OutBwdRIdeal.main_arg0)
      ∧ r.2.mem ((c.tc : Thread Cert.OutBwdRIdeal.nD Cert.OutBwdRIdeal.τ).loc Cert.OutBwdRIdeal.main_arg1) = m ((c.tc : Thread Cert.OutBwdRIdeal.nD Cert.OutBwdRIdeal.τ).loc Cert.OutBwdRIdeal.main_arg1)
      ∧ r.2.mem ((c.tc : Thread Cert.OutBwdRIdeal.nD Cert.OutBwdRIdeal.τ).loc Cert.OutBwdRIdeal.main_arg2) = m ((c.tc : Thread Cert.OutBwdRIdeal.nD Cert.OutBwdRIdeal.τ).loc Cert.OutBwdRIdeal.main_arg2)
      ∧ r.2.mem ((c.tc : Thread Cert.OutBwdRIdeal.nD Cert.OutBwdRIdeal.τ).loc Cert.OutBwdRIdeal.main_arg3) = m ((c.tc : Thread Cert.OutBwdRIdeal.nD Cert.OutBwdRIdeal.τ).loc Cert.OutBwdRIdeal.main_arg3)
      ∧ r.2.mem ((c.tc : Thread Cert.OutBwdRIdeal.nD Cert.OutBwdRIdeal.τ).loc Cert.OutBwdRIdeal.main_arg4) = m ((c.tc : Thread Cert.OutBwdRIdeal.nD Cert.OutBwdRIdeal.τ).loc Cert.OutBwdRIdeal.main_arg4)
      ∧ r.2.mem ((c.tc : Thread Cert.OutBwdRIdeal.nD Cert.OutBwdRIdeal.τ).loc Cert.OutBwdRIdeal.main_arg5) = m ((c.tc : Thread Cert.OutBwdRIdeal.nD Cert.OutBwdRIdeal.τ).loc Cert.OutBwdRIdeal.main_arg5)
      ∧ r.2.mem ((c.tc : Thread Cert.OutBwdRIdeal.nD Cert.OutBwdRIdeal.τ).loc Cert.OutBwdRIdeal.main_arg6) = m ((c.tc : Thread Cert.OutBwdRIdeal.nD Cert.OutBwdRIdeal.τ).loc Cert.OutBwdRIdeal.main_arg6)
      ∧ r.2.mem ((c.tc : Thread Cert.OutBwdRIdeal.nD Cert.OutBwdRIdeal.τ).loc Cert.OutBwdRIdeal.main_arg7) = m ((c.tc : Thread Cert.OutBwdRIdeal.nD Cert.OutBwdRIdeal.τ).loc Cert.OutBwdRIdeal.main_arg7))
      ∧ r.2.sem = fun _ => 0)

def quiescent_OutBwdRIdeal_pre_finite_outbwd [hOutBwdRIdeal : Cert.OutBwdRIdeal.Facts] [hPre_finite_outbwd : Cert.Pre_finite_outbwd.Facts] : Prop :=
  ∀ (m : (ℓ : Loc Cert.OutBwdRIdeal.nD Cert.OutBwdRIdeal.τ Cert.OutBwdRIdeal.sig) → Buf (Elt Ideal) ℓ) (g : Dev Cert.OutBwdRIdeal.nD → PrngReg), Pre_OutBwdRIdeal_finite_outbwd m →
    θ_run (Cert.OutBwdRIdeal.defs (F := Ideal)) (onTc (τ := Cert.OutBwdRIdeal.τ) (Cert.OutBwdRIdeal.main (F := Ideal))) ⟨m, fun _ => 0, g⟩ (fun r => (∀ c : Dev Cert.OutBwdRIdeal.nD,
      r.2.mem ((c.tc : Thread Cert.OutBwdRIdeal.nD Cert.OutBwdRIdeal.τ).loc Cert.OutBwdRIdeal.main_arg0) = m ((c.tc : Thread Cert.OutBwdRIdeal.nD Cert.OutBwdRIdeal.τ).loc Cert.OutBwdRIdeal.main_arg0)
      ∧ r.2.mem ((c.tc : Thread Cert.OutBwdRIdeal.nD Cert.OutBwdRIdeal.τ).loc Cert.OutBwdRIdeal.main_arg1) = m ((c.tc : Thread Cert.OutBwdRIdeal.nD Cert.OutBwdRIdeal.τ).loc Cert.OutBwdRIdeal.main_arg1)
      ∧ r.2.mem ((c.tc : Thread Cert.OutBwdRIdeal.nD Cert.OutBwdRIdeal.τ).loc Cert.OutBwdRIdeal.main_arg2) = m ((c.tc : Thread Cert.OutBwdRIdeal.nD Cert.OutBwdRIdeal.τ).loc Cert.OutBwdRIdeal.main_arg2)
      ∧ r.2.mem ((c.tc : Thread Cert.OutBwdRIdeal.nD Cert.OutBwdRIdeal.τ).loc Cert.OutBwdRIdeal.main_arg3) = m ((c.tc : Thread Cert.OutBwdRIdeal.nD Cert.OutBwdRIdeal.τ).loc Cert.OutBwdRIdeal.main_arg3)
      ∧ r.2.mem ((c.tc : Thread Cert.OutBwdRIdeal.nD Cert.OutBwdRIdeal.τ).loc Cert.OutBwdRIdeal.main_arg4) = m ((c.tc : Thread Cert.OutBwdRIdeal.nD Cert.OutBwdRIdeal.τ).loc Cert.OutBwdRIdeal.main_arg4)
      ∧ r.2.mem ((c.tc : Thread Cert.OutBwdRIdeal.nD Cert.OutBwdRIdeal.τ).loc Cert.OutBwdRIdeal.main_arg5) = m ((c.tc : Thread Cert.OutBwdRIdeal.nD Cert.OutBwdRIdeal.τ).loc Cert.OutBwdRIdeal.main_arg5)
      ∧ r.2.mem ((c.tc : Thread Cert.OutBwdRIdeal.nD Cert.OutBwdRIdeal.τ).loc Cert.OutBwdRIdeal.main_arg6) = m ((c.tc : Thread Cert.OutBwdRIdeal.nD Cert.OutBwdRIdeal.τ).loc Cert.OutBwdRIdeal.main_arg6)
      ∧ r.2.mem ((c.tc : Thread Cert.OutBwdRIdeal.nD Cert.OutBwdRIdeal.τ).loc Cert.OutBwdRIdeal.main_arg7) = m ((c.tc : Thread Cert.OutBwdRIdeal.nD Cert.OutBwdRIdeal.τ).loc Cert.OutBwdRIdeal.main_arg7))
      ∧ r.2.sem = fun _ => 0)

def quiescent_LruBwdK [hLruBwdK : Cert.LruBwdK.Facts] : Prop :=
  ∀ (m : (ℓ : Loc Cert.LruBwdK.nD Cert.LruBwdK.τ Cert.LruBwdK.sig) → Buf (Elt Bits) ℓ) (g : Dev Cert.LruBwdK.nD → PrngReg), Pre_LruBwdK m →
    θ_run (Cert.LruBwdK.defs (F := Bits)) (onTc (τ := Cert.LruBwdK.τ) (Cert.LruBwdK.main (F := Bits))) ⟨m, fun _ => 0, g⟩ (fun r => (∀ c : Dev Cert.LruBwdK.nD,
      r.2.mem ((c.tc : Thread Cert.LruBwdK.nD Cert.LruBwdK.τ).loc Cert.LruBwdK.main_arg0) = m ((c.tc : Thread Cert.LruBwdK.nD Cert.LruBwdK.τ).loc Cert.LruBwdK.main_arg0)
      ∧ r.2.mem ((c.tc : Thread Cert.LruBwdK.nD Cert.LruBwdK.τ).loc Cert.LruBwdK.main_arg1) = m ((c.tc : Thread Cert.LruBwdK.nD Cert.LruBwdK.τ).loc Cert.LruBwdK.main_arg1)
      ∧ r.2.mem ((c.tc : Thread Cert.LruBwdK.nD Cert.LruBwdK.τ).loc Cert.LruBwdK.main_arg2) = m ((c.tc : Thread Cert.LruBwdK.nD Cert.LruBwdK.τ).loc Cert.LruBwdK.main_arg2)
      ∧ r.2.mem ((c.tc : Thread Cert.LruBwdK.nD Cert.LruBwdK.τ).loc Cert.LruBwdK.main_arg3) = m ((c.tc : Thread Cert.LruBwdK.nD Cert.LruBwdK.τ).loc Cert.LruBwdK.main_arg3)
      ∧ r.2.mem ((c.tc : Thread Cert.LruBwdK.nD Cert.LruBwdK.τ).loc Cert.LruBwdK.main_arg4) = m ((c.tc : Thread Cert.LruBwdK.nD Cert.LruBwdK.τ).loc Cert.LruBwdK.main_arg4)
      ∧ r.2.mem ((c.tc : Thread Cert.LruBwdK.nD Cert.LruBwdK.τ).loc Cert.LruBwdK.main_arg5) = m ((c.tc : Thread Cert.LruBwdK.nD Cert.LruBwdK.τ).loc Cert.LruBwdK.main_arg5)
      ∧ r.2.mem ((c.tc : Thread Cert.LruBwdK.nD Cert.LruBwdK.τ).loc Cert.LruBwdK.main_arg6) = m ((c.tc : Thread Cert.LruBwdK.nD Cert.LruBwdK.τ).loc Cert.LruBwdK.main_arg6)
      ∧ r.2.mem ((c.tc : Thread Cert.LruBwdK.nD Cert.LruBwdK.τ).loc Cert.LruBwdK.main_arg7) = m ((c.tc : Thread Cert.LruBwdK.nD Cert.LruBwdK.τ).loc Cert.LruBwdK.main_arg7)
      ∧ r.2.mem ((c.tc : Thread Cert.LruBwdK.nD Cert.LruBwdK.τ).loc Cert.LruBwdK.main_arg8) = m ((c.tc : Thread Cert.LruBwdK.nD Cert.LruBwdK.τ).loc Cert.LruBwdK.main_arg8))
      ∧ r.2.sem = fun _ => 0)

def quiescent_LruBwdKIdeal [hLruBwdKIdeal : Cert.LruBwdKIdeal.Facts] : Prop :=
  ∀ (m : (ℓ : Loc Cert.LruBwdKIdeal.nD Cert.LruBwdKIdeal.τ Cert.LruBwdKIdeal.sig) → Buf (Elt Ideal) ℓ) (g : Dev Cert.LruBwdKIdeal.nD → PrngReg), Pre_LruBwdKIdeal m →
    θ_run (Cert.LruBwdKIdeal.defs (F := Ideal)) (onTc (τ := Cert.LruBwdKIdeal.τ) (Cert.LruBwdKIdeal.main (F := Ideal))) ⟨m, fun _ => 0, g⟩ (fun r => (∀ c : Dev Cert.LruBwdKIdeal.nD,
      r.2.mem ((c.tc : Thread Cert.LruBwdKIdeal.nD Cert.LruBwdKIdeal.τ).loc Cert.LruBwdKIdeal.main_arg0) = m ((c.tc : Thread Cert.LruBwdKIdeal.nD Cert.LruBwdKIdeal.τ).loc Cert.LruBwdKIdeal.main_arg0)
      ∧ r.2.mem ((c.tc : Thread Cert.LruBwdKIdeal.nD Cert.LruBwdKIdeal.τ).loc Cert.LruBwdKIdeal.main_arg1) = m ((c.tc : Thread Cert.LruBwdKIdeal.nD Cert.LruBwdKIdeal.τ).loc Cert.LruBwdKIdeal.main_arg1)
      ∧ r.2.mem ((c.tc : Thread Cert.LruBwdKIdeal.nD Cert.LruBwdKIdeal.τ).loc Cert.LruBwdKIdeal.main_arg2) = m ((c.tc : Thread Cert.LruBwdKIdeal.nD Cert.LruBwdKIdeal.τ).loc Cert.LruBwdKIdeal.main_arg2)
      ∧ r.2.mem ((c.tc : Thread Cert.LruBwdKIdeal.nD Cert.LruBwdKIdeal.τ).loc Cert.LruBwdKIdeal.main_arg3) = m ((c.tc : Thread Cert.LruBwdKIdeal.nD Cert.LruBwdKIdeal.τ).loc Cert.LruBwdKIdeal.main_arg3)
      ∧ r.2.mem ((c.tc : Thread Cert.LruBwdKIdeal.nD Cert.LruBwdKIdeal.τ).loc Cert.LruBwdKIdeal.main_arg4) = m ((c.tc : Thread Cert.LruBwdKIdeal.nD Cert.LruBwdKIdeal.τ).loc Cert.LruBwdKIdeal.main_arg4)
      ∧ r.2.mem ((c.tc : Thread Cert.LruBwdKIdeal.nD Cert.LruBwdKIdeal.τ).loc Cert.LruBwdKIdeal.main_arg5) = m ((c.tc : Thread Cert.LruBwdKIdeal.nD Cert.LruBwdKIdeal.τ).loc Cert.LruBwdKIdeal.main_arg5)
      ∧ r.2.mem ((c.tc : Thread Cert.LruBwdKIdeal.nD Cert.LruBwdKIdeal.τ).loc Cert.LruBwdKIdeal.main_arg6) = m ((c.tc : Thread Cert.LruBwdKIdeal.nD Cert.LruBwdKIdeal.τ).loc Cert.LruBwdKIdeal.main_arg6)
      ∧ r.2.mem ((c.tc : Thread Cert.LruBwdKIdeal.nD Cert.LruBwdKIdeal.τ).loc Cert.LruBwdKIdeal.main_arg7) = m ((c.tc : Thread Cert.LruBwdKIdeal.nD Cert.LruBwdKIdeal.τ).loc Cert.LruBwdKIdeal.main_arg7)
      ∧ r.2.mem ((c.tc : Thread Cert.LruBwdKIdeal.nD Cert.LruBwdKIdeal.τ).loc Cert.LruBwdKIdeal.main_arg8) = m ((c.tc : Thread Cert.LruBwdKIdeal.nD Cert.LruBwdKIdeal.τ).loc Cert.LruBwdKIdeal.main_arg8))
      ∧ r.2.sem = fun _ => 0)

def quiescent_LruBwdKIdeal_pre_finite_lrubwd [hLruBwdKIdeal : Cert.LruBwdKIdeal.Facts] [hPre_finite_lrubwd : Cert.Pre_finite_lrubwd.Facts] : Prop :=
  ∀ (m : (ℓ : Loc Cert.LruBwdKIdeal.nD Cert.LruBwdKIdeal.τ Cert.LruBwdKIdeal.sig) → Buf (Elt Ideal) ℓ) (g : Dev Cert.LruBwdKIdeal.nD → PrngReg), Pre_LruBwdKIdeal_finite_lrubwd m →
    θ_run (Cert.LruBwdKIdeal.defs (F := Ideal)) (onTc (τ := Cert.LruBwdKIdeal.τ) (Cert.LruBwdKIdeal.main (F := Ideal))) ⟨m, fun _ => 0, g⟩ (fun r => (∀ c : Dev Cert.LruBwdKIdeal.nD,
      r.2.mem ((c.tc : Thread Cert.LruBwdKIdeal.nD Cert.LruBwdKIdeal.τ).loc Cert.LruBwdKIdeal.main_arg0) = m ((c.tc : Thread Cert.LruBwdKIdeal.nD Cert.LruBwdKIdeal.τ).loc Cert.LruBwdKIdeal.main_arg0)
      ∧ r.2.mem ((c.tc : Thread Cert.LruBwdKIdeal.nD Cert.LruBwdKIdeal.τ).loc Cert.LruBwdKIdeal.main_arg1) = m ((c.tc : Thread Cert.LruBwdKIdeal.nD Cert.LruBwdKIdeal.τ).loc Cert.LruBwdKIdeal.main_arg1)
      ∧ r.2.mem ((c.tc : Thread Cert.LruBwdKIdeal.nD Cert.LruBwdKIdeal.τ).loc Cert.LruBwdKIdeal.main_arg2) = m ((c.tc : Thread Cert.LruBwdKIdeal.nD Cert.LruBwdKIdeal.τ).loc Cert.LruBwdKIdeal.main_arg2)
      ∧ r.2.mem ((c.tc : Thread Cert.LruBwdKIdeal.nD Cert.LruBwdKIdeal.τ).loc Cert.LruBwdKIdeal.main_arg3) = m ((c.tc : Thread Cert.LruBwdKIdeal.nD Cert.LruBwdKIdeal.τ).loc Cert.LruBwdKIdeal.main_arg3)
      ∧ r.2.mem ((c.tc : Thread Cert.LruBwdKIdeal.nD Cert.LruBwdKIdeal.τ).loc Cert.LruBwdKIdeal.main_arg4) = m ((c.tc : Thread Cert.LruBwdKIdeal.nD Cert.LruBwdKIdeal.τ).loc Cert.LruBwdKIdeal.main_arg4)
      ∧ r.2.mem ((c.tc : Thread Cert.LruBwdKIdeal.nD Cert.LruBwdKIdeal.τ).loc Cert.LruBwdKIdeal.main_arg5) = m ((c.tc : Thread Cert.LruBwdKIdeal.nD Cert.LruBwdKIdeal.τ).loc Cert.LruBwdKIdeal.main_arg5)
      ∧ r.2.mem ((c.tc : Thread Cert.LruBwdKIdeal.nD Cert.LruBwdKIdeal.τ).loc Cert.LruBwdKIdeal.main_arg6) = m ((c.tc : Thread Cert.LruBwdKIdeal.nD Cert.LruBwdKIdeal.τ).loc Cert.LruBwdKIdeal.main_arg6)
      ∧ r.2.mem ((c.tc : Thread Cert.LruBwdKIdeal.nD Cert.LruBwdKIdeal.τ).loc Cert.LruBwdKIdeal.main_arg7) = m ((c.tc : Thread Cert.LruBwdKIdeal.nD Cert.LruBwdKIdeal.τ).loc Cert.LruBwdKIdeal.main_arg7)
      ∧ r.2.mem ((c.tc : Thread Cert.LruBwdKIdeal.nD Cert.LruBwdKIdeal.τ).loc Cert.LruBwdKIdeal.main_arg8) = m ((c.tc : Thread Cert.LruBwdKIdeal.nD Cert.LruBwdKIdeal.τ).loc Cert.LruBwdKIdeal.main_arg8))
      ∧ r.2.sem = fun _ => 0)

def quiescent_LruBwdRIdeal [hLruBwdRIdeal : Cert.LruBwdRIdeal.Facts] : Prop :=
  ∀ (m : (ℓ : Loc Cert.LruBwdRIdeal.nD Cert.LruBwdRIdeal.τ Cert.LruBwdRIdeal.sig) → Buf (Elt Ideal) ℓ) (g : Dev Cert.LruBwdRIdeal.nD → PrngReg), Pre_LruBwdRIdeal m →
    θ_run (Cert.LruBwdRIdeal.defs (F := Ideal)) (onTc (τ := Cert.LruBwdRIdeal.τ) (Cert.LruBwdRIdeal.main (F := Ideal))) ⟨m, fun _ => 0, g⟩ (fun r => (∀ c : Dev Cert.LruBwdRIdeal.nD,
      r.2.mem ((c.tc : Thread Cert.LruBwdRIdeal.nD Cert.LruBwdRIdeal.τ).loc Cert.LruBwdRIdeal.main_arg0) = m ((c.tc : Thread Cert.LruBwdRIdeal.nD Cert.LruBwdRIdeal.τ).loc Cert.LruBwdRIdeal.main_arg0)
      ∧ r.2.mem ((c.tc : Thread Cert.LruBwdRIdeal.nD Cert.LruBwdRIdeal.τ).loc Cert.LruBwdRIdeal.main_arg1) = m ((c.tc : Thread Cert.LruBwdRIdeal.nD Cert.LruBwdRIdeal.τ).loc Cert.LruBwdRIdeal.main_arg1)
      ∧ r.2.mem ((c.tc : Thread Cert.LruBwdRIdeal.nD Cert.LruBwdRIdeal.τ).loc Cert.LruBwdRIdeal.main_arg2) = m ((c.tc : Thread Cert.LruBwdRIdeal.nD Cert.LruBwdRIdeal.τ).loc Cert.LruBwdRIdeal.main_arg2)
      ∧ r.2.mem ((c.tc : Thread Cert.LruBwdRIdeal.nD Cert.LruBwdRIdeal.τ).loc Cert.LruBwdRIdeal.main_arg3) = m ((c.tc : Thread Cert.LruBwdRIdeal.nD Cert.LruBwdRIdeal.τ).loc Cert.LruBwdRIdeal.main_arg3)
      ∧ r.2.mem ((c.tc : Thread Cert.LruBwdRIdeal.nD Cert.LruBwdRIdeal.τ).loc Cert.LruBwdRIdeal.main_arg4) = m ((c.tc : Thread Cert.LruBwdRIdeal.nD Cert.LruBwdRIdeal.τ).loc Cert.LruBwdRIdeal.main_arg4)
      ∧ r.2.mem ((c.tc : Thread Cert.LruBwdRIdeal.nD Cert.LruBwdRIdeal.τ).loc Cert.LruBwdRIdeal.main_arg5) = m ((c.tc : Thread Cert.LruBwdRIdeal.nD Cert.LruBwdRIdeal.τ).loc Cert.LruBwdRIdeal.main_arg5)
      ∧ r.2.mem ((c.tc : Thread Cert.LruBwdRIdeal.nD Cert.LruBwdRIdeal.τ).loc Cert.LruBwdRIdeal.main_arg6) = m ((c.tc : Thread Cert.LruBwdRIdeal.nD Cert.LruBwdRIdeal.τ).loc Cert.LruBwdRIdeal.main_arg6)
      ∧ r.2.mem ((c.tc : Thread Cert.LruBwdRIdeal.nD Cert.LruBwdRIdeal.τ).loc Cert.LruBwdRIdeal.main_arg7) = m ((c.tc : Thread Cert.LruBwdRIdeal.nD Cert.LruBwdRIdeal.τ).loc Cert.LruBwdRIdeal.main_arg7)
      ∧ r.2.mem ((c.tc : Thread Cert.LruBwdRIdeal.nD Cert.LruBwdRIdeal.τ).loc Cert.LruBwdRIdeal.main_arg8) = m ((c.tc : Thread Cert.LruBwdRIdeal.nD Cert.LruBwdRIdeal.τ).loc Cert.LruBwdRIdeal.main_arg8))
      ∧ r.2.sem = fun _ => 0)

def quiescent_LruBwdRIdeal_pre_finite_lrubwd [hLruBwdRIdeal : Cert.LruBwdRIdeal.Facts] [hPre_finite_lrubwd : Cert.Pre_finite_lrubwd.Facts] : Prop :=
  ∀ (m : (ℓ : Loc Cert.LruBwdRIdeal.nD Cert.LruBwdRIdeal.τ Cert.LruBwdRIdeal.sig) → Buf (Elt Ideal) ℓ) (g : Dev Cert.LruBwdRIdeal.nD → PrngReg), Pre_LruBwdRIdeal_finite_lrubwd m →
    θ_run (Cert.LruBwdRIdeal.defs (F := Ideal)) (onTc (τ := Cert.LruBwdRIdeal.τ) (Cert.LruBwdRIdeal.main (F := Ideal))) ⟨m, fun _ => 0, g⟩ (fun r => (∀ c : Dev Cert.LruBwdRIdeal.nD,
      r.2.mem ((c.tc : Thread Cert.LruBwdRIdeal.nD Cert.LruBwdRIdeal.τ).loc Cert.LruBwdRIdeal.main_arg0) = m ((c.tc : Thread Cert.LruBwdRIdeal.nD Cert.LruBwdRIdeal.τ).loc Cert.LruBwdRIdeal.main_arg0)
      ∧ r.2.mem ((c.tc : Thread Cert.LruBwdRIdeal.nD Cert.LruBwdRIdeal.τ).loc Cert.LruBwdRIdeal.main_arg1) = m ((c.tc : Thread Cert.LruBwdRIdeal.nD Cert.LruBwdRIdeal.τ).loc Cert.LruBwdRIdeal.main_arg1)
      ∧ r.2.mem ((c.tc : Thread Cert.LruBwdRIdeal.nD Cert.LruBwdRIdeal.τ).loc Cert.LruBwdRIdeal.main_arg2) = m ((c.tc : Thread Cert.LruBwdRIdeal.nD Cert.LruBwdRIdeal.τ).loc Cert.LruBwdRIdeal.main_arg2)
      ∧ r.2.mem ((c.tc : Thread Cert.LruBwdRIdeal.nD Cert.LruBwdRIdeal.τ).loc Cert.LruBwdRIdeal.main_arg3) = m ((c.tc : Thread Cert.LruBwdRIdeal.nD Cert.LruBwdRIdeal.τ).loc Cert.LruBwdRIdeal.main_arg3)
      ∧ r.2.mem ((c.tc : Thread Cert.LruBwdRIdeal.nD Cert.LruBwdRIdeal.τ).loc Cert.LruBwdRIdeal.main_arg4) = m ((c.tc : Thread Cert.LruBwdRIdeal.nD Cert.LruBwdRIdeal.τ).loc Cert.LruBwdRIdeal.main_arg4)
      ∧ r.2.mem ((c.tc : Thread Cert.LruBwdRIdeal.nD Cert.LruBwdRIdeal.τ).loc Cert.LruBwdRIdeal.main_arg5) = m ((c.tc : Thread Cert.LruBwdRIdeal.nD Cert.LruBwdRIdeal.τ).loc Cert.LruBwdRIdeal.main_arg5)
      ∧ r.2.mem ((c.tc : Thread Cert.LruBwdRIdeal.nD Cert.LruBwdRIdeal.τ).loc Cert.LruBwdRIdeal.main_arg6) = m ((c.tc : Thread Cert.LruBwdRIdeal.nD Cert.LruBwdRIdeal.τ).loc Cert.LruBwdRIdeal.main_arg6)
      ∧ r.2.mem ((c.tc : Thread Cert.LruBwdRIdeal.nD Cert.LruBwdRIdeal.τ).loc Cert.LruBwdRIdeal.main_arg7) = m ((c.tc : Thread Cert.LruBwdRIdeal.nD Cert.LruBwdRIdeal.τ).loc Cert.LruBwdRIdeal.main_arg7)
      ∧ r.2.mem ((c.tc : Thread Cert.LruBwdRIdeal.nD Cert.LruBwdRIdeal.τ).loc Cert.LruBwdRIdeal.main_arg8) = m ((c.tc : Thread Cert.LruBwdRIdeal.nD Cert.LruBwdRIdeal.τ).loc Cert.LruBwdRIdeal.main_arg8))
      ∧ r.2.sem = fun _ => 0)

def quiescent_GdnFwdK [hGdnFwdK : Cert.GdnFwdK.Facts] : Prop :=
  ∀ (m : (ℓ : Loc Cert.GdnFwdK.nD Cert.GdnFwdK.τ Cert.GdnFwdK.sig) → Buf (Elt Bits) ℓ) (g : Dev Cert.GdnFwdK.nD → PrngReg), Pre_GdnFwdK m →
    θ_run (Cert.GdnFwdK.defs (F := Bits)) (onTc (τ := Cert.GdnFwdK.τ) (Cert.GdnFwdK.main (F := Bits))) ⟨m, fun _ => 0, g⟩ (fun r => (∀ c : Dev Cert.GdnFwdK.nD,
      r.2.mem ((c.tc : Thread Cert.GdnFwdK.nD Cert.GdnFwdK.τ).loc Cert.GdnFwdK.main_arg0) = m ((c.tc : Thread Cert.GdnFwdK.nD Cert.GdnFwdK.τ).loc Cert.GdnFwdK.main_arg0)
      ∧ r.2.mem ((c.tc : Thread Cert.GdnFwdK.nD Cert.GdnFwdK.τ).loc Cert.GdnFwdK.main_arg1) = m ((c.tc : Thread Cert.GdnFwdK.nD Cert.GdnFwdK.τ).loc Cert.GdnFwdK.main_arg1)
      ∧ r.2.mem ((c.tc : Thread Cert.GdnFwdK.nD Cert.GdnFwdK.τ).loc Cert.GdnFwdK.main_arg2) = m ((c.tc : Thread Cert.GdnFwdK.nD Cert.GdnFwdK.τ).loc Cert.GdnFwdK.main_arg2)
      ∧ r.2.mem ((c.tc : Thread Cert.GdnFwdK.nD Cert.GdnFwdK.τ).loc Cert.GdnFwdK.main_arg3) = m ((c.tc : Thread Cert.GdnFwdK.nD Cert.GdnFwdK.τ).loc Cert.GdnFwdK.main_arg3))
      ∧ r.2.sem = fun _ => 0)

def quiescent_GdnFwdKIdeal [hGdnFwdKIdeal : Cert.GdnFwdKIdeal.Facts] : Prop :=
  ∀ (m : (ℓ : Loc Cert.GdnFwdKIdeal.nD Cert.GdnFwdKIdeal.τ Cert.GdnFwdKIdeal.sig) → Buf (Elt Ideal) ℓ) (g : Dev Cert.GdnFwdKIdeal.nD → PrngReg), Pre_GdnFwdKIdeal m →
    θ_run (Cert.GdnFwdKIdeal.defs (F := Ideal)) (onTc (τ := Cert.GdnFwdKIdeal.τ) (Cert.GdnFwdKIdeal.main (F := Ideal))) ⟨m, fun _ => 0, g⟩ (fun r => (∀ c : Dev Cert.GdnFwdKIdeal.nD,
      r.2.mem ((c.tc : Thread Cert.GdnFwdKIdeal.nD Cert.GdnFwdKIdeal.τ).loc Cert.GdnFwdKIdeal.main_arg0) = m ((c.tc : Thread Cert.GdnFwdKIdeal.nD Cert.GdnFwdKIdeal.τ).loc Cert.GdnFwdKIdeal.main_arg0)
      ∧ r.2.mem ((c.tc : Thread Cert.GdnFwdKIdeal.nD Cert.GdnFwdKIdeal.τ).loc Cert.GdnFwdKIdeal.main_arg1) = m ((c.tc : Thread Cert.GdnFwdKIdeal.nD Cert.GdnFwdKIdeal.τ).loc Cert.GdnFwdKIdeal.main_arg1)
      ∧ r.2.mem ((c.tc : Thread Cert.GdnFwdKIdeal.nD Cert.GdnFwdKIdeal.τ).loc Cert.GdnFwdKIdeal.main_arg2) = m ((c.tc : Thread Cert.GdnFwdKIdeal.nD Cert.GdnFwdKIdeal.τ).loc Cert.GdnFwdKIdeal.main_arg2)
      ∧ r.2.mem ((c.tc : Thread Cert.GdnFwdKIdeal.nD Cert.GdnFwdKIdeal.τ).loc Cert.GdnFwdKIdeal.main_arg3) = m ((c.tc : Thread Cert.GdnFwdKIdeal.nD Cert.GdnFwdKIdeal.τ).loc Cert.GdnFwdKIdeal.main_arg3))
      ∧ r.2.sem = fun _ => 0)

def quiescent_GdnFwdKIdeal_pre_finite_gdnfwd [hGdnFwdKIdeal : Cert.GdnFwdKIdeal.Facts] [hPre_finite_gdnfwd : Cert.Pre_finite_gdnfwd.Facts] : Prop :=
  ∀ (m : (ℓ : Loc Cert.GdnFwdKIdeal.nD Cert.GdnFwdKIdeal.τ Cert.GdnFwdKIdeal.sig) → Buf (Elt Ideal) ℓ) (g : Dev Cert.GdnFwdKIdeal.nD → PrngReg), Pre_GdnFwdKIdeal_finite_gdnfwd m →
    θ_run (Cert.GdnFwdKIdeal.defs (F := Ideal)) (onTc (τ := Cert.GdnFwdKIdeal.τ) (Cert.GdnFwdKIdeal.main (F := Ideal))) ⟨m, fun _ => 0, g⟩ (fun r => (∀ c : Dev Cert.GdnFwdKIdeal.nD,
      r.2.mem ((c.tc : Thread Cert.GdnFwdKIdeal.nD Cert.GdnFwdKIdeal.τ).loc Cert.GdnFwdKIdeal.main_arg0) = m ((c.tc : Thread Cert.GdnFwdKIdeal.nD Cert.GdnFwdKIdeal.τ).loc Cert.GdnFwdKIdeal.main_arg0)
      ∧ r.2.mem ((c.tc : Thread Cert.GdnFwdKIdeal.nD Cert.GdnFwdKIdeal.τ).loc Cert.GdnFwdKIdeal.main_arg1) = m ((c.tc : Thread Cert.GdnFwdKIdeal.nD Cert.GdnFwdKIdeal.τ).loc Cert.GdnFwdKIdeal.main_arg1)
      ∧ r.2.mem ((c.tc : Thread Cert.GdnFwdKIdeal.nD Cert.GdnFwdKIdeal.τ).loc Cert.GdnFwdKIdeal.main_arg2) = m ((c.tc : Thread Cert.GdnFwdKIdeal.nD Cert.GdnFwdKIdeal.τ).loc Cert.GdnFwdKIdeal.main_arg2)
      ∧ r.2.mem ((c.tc : Thread Cert.GdnFwdKIdeal.nD Cert.GdnFwdKIdeal.τ).loc Cert.GdnFwdKIdeal.main_arg3) = m ((c.tc : Thread Cert.GdnFwdKIdeal.nD Cert.GdnFwdKIdeal.τ).loc Cert.GdnFwdKIdeal.main_arg3))
      ∧ r.2.sem = fun _ => 0)

def quiescent_GdnFwdRIdeal [hGdnFwdRIdeal : Cert.GdnFwdRIdeal.Facts] : Prop :=
  ∀ (m : (ℓ : Loc Cert.GdnFwdRIdeal.nD Cert.GdnFwdRIdeal.τ Cert.GdnFwdRIdeal.sig) → Buf (Elt Ideal) ℓ) (g : Dev Cert.GdnFwdRIdeal.nD → PrngReg), Pre_GdnFwdRIdeal m →
    θ_run (Cert.GdnFwdRIdeal.defs (F := Ideal)) (onTc (τ := Cert.GdnFwdRIdeal.τ) (Cert.GdnFwdRIdeal.main (F := Ideal))) ⟨m, fun _ => 0, g⟩ (fun r => (∀ c : Dev Cert.GdnFwdRIdeal.nD,
      r.2.mem ((c.tc : Thread Cert.GdnFwdRIdeal.nD Cert.GdnFwdRIdeal.τ).loc Cert.GdnFwdRIdeal.main_arg0) = m ((c.tc : Thread Cert.GdnFwdRIdeal.nD Cert.GdnFwdRIdeal.τ).loc Cert.GdnFwdRIdeal.main_arg0)
      ∧ r.2.mem ((c.tc : Thread Cert.GdnFwdRIdeal.nD Cert.GdnFwdRIdeal.τ).loc Cert.GdnFwdRIdeal.main_arg1) = m ((c.tc : Thread Cert.GdnFwdRIdeal.nD Cert.GdnFwdRIdeal.τ).loc Cert.GdnFwdRIdeal.main_arg1)
      ∧ r.2.mem ((c.tc : Thread Cert.GdnFwdRIdeal.nD Cert.GdnFwdRIdeal.τ).loc Cert.GdnFwdRIdeal.main_arg2) = m ((c.tc : Thread Cert.GdnFwdRIdeal.nD Cert.GdnFwdRIdeal.τ).loc Cert.GdnFwdRIdeal.main_arg2)
      ∧ r.2.mem ((c.tc : Thread Cert.GdnFwdRIdeal.nD Cert.GdnFwdRIdeal.τ).loc Cert.GdnFwdRIdeal.main_arg3) = m ((c.tc : Thread Cert.GdnFwdRIdeal.nD Cert.GdnFwdRIdeal.τ).loc Cert.GdnFwdRIdeal.main_arg3))
      ∧ r.2.sem = fun _ => 0)

def quiescent_GdnFwdRIdeal_pre_finite_gdnfwd [hGdnFwdRIdeal : Cert.GdnFwdRIdeal.Facts] [hPre_finite_gdnfwd : Cert.Pre_finite_gdnfwd.Facts] : Prop :=
  ∀ (m : (ℓ : Loc Cert.GdnFwdRIdeal.nD Cert.GdnFwdRIdeal.τ Cert.GdnFwdRIdeal.sig) → Buf (Elt Ideal) ℓ) (g : Dev Cert.GdnFwdRIdeal.nD → PrngReg), Pre_GdnFwdRIdeal_finite_gdnfwd m →
    θ_run (Cert.GdnFwdRIdeal.defs (F := Ideal)) (onTc (τ := Cert.GdnFwdRIdeal.τ) (Cert.GdnFwdRIdeal.main (F := Ideal))) ⟨m, fun _ => 0, g⟩ (fun r => (∀ c : Dev Cert.GdnFwdRIdeal.nD,
      r.2.mem ((c.tc : Thread Cert.GdnFwdRIdeal.nD Cert.GdnFwdRIdeal.τ).loc Cert.GdnFwdRIdeal.main_arg0) = m ((c.tc : Thread Cert.GdnFwdRIdeal.nD Cert.GdnFwdRIdeal.τ).loc Cert.GdnFwdRIdeal.main_arg0)
      ∧ r.2.mem ((c.tc : Thread Cert.GdnFwdRIdeal.nD Cert.GdnFwdRIdeal.τ).loc Cert.GdnFwdRIdeal.main_arg1) = m ((c.tc : Thread Cert.GdnFwdRIdeal.nD Cert.GdnFwdRIdeal.τ).loc Cert.GdnFwdRIdeal.main_arg1)
      ∧ r.2.mem ((c.tc : Thread Cert.GdnFwdRIdeal.nD Cert.GdnFwdRIdeal.τ).loc Cert.GdnFwdRIdeal.main_arg2) = m ((c.tc : Thread Cert.GdnFwdRIdeal.nD Cert.GdnFwdRIdeal.τ).loc Cert.GdnFwdRIdeal.main_arg2)
      ∧ r.2.mem ((c.tc : Thread Cert.GdnFwdRIdeal.nD Cert.GdnFwdRIdeal.τ).loc Cert.GdnFwdRIdeal.main_arg3) = m ((c.tc : Thread Cert.GdnFwdRIdeal.nD Cert.GdnFwdRIdeal.τ).loc Cert.GdnFwdRIdeal.main_arg3))
      ∧ r.2.sem = fun _ => 0)

def quiescent_ProjFwdK [hProjFwdK : Cert.ProjFwdK.Facts] : Prop :=
  ∀ (m : (ℓ : Loc Cert.ProjFwdK.nD Cert.ProjFwdK.τ Cert.ProjFwdK.sig) → Buf (Elt Bits) ℓ) (g : Dev Cert.ProjFwdK.nD → PrngReg), Pre_ProjFwdK m →
    θ_run (Cert.ProjFwdK.defs (F := Bits)) (onTc (τ := Cert.ProjFwdK.τ) (Cert.ProjFwdK.main (F := Bits))) ⟨m, fun _ => 0, g⟩ (fun r => (∀ c : Dev Cert.ProjFwdK.nD,
      r.2.mem ((c.tc : Thread Cert.ProjFwdK.nD Cert.ProjFwdK.τ).loc Cert.ProjFwdK.main_arg0) = m ((c.tc : Thread Cert.ProjFwdK.nD Cert.ProjFwdK.τ).loc Cert.ProjFwdK.main_arg0)
      ∧ r.2.mem ((c.tc : Thread Cert.ProjFwdK.nD Cert.ProjFwdK.τ).loc Cert.ProjFwdK.main_arg1) = m ((c.tc : Thread Cert.ProjFwdK.nD Cert.ProjFwdK.τ).loc Cert.ProjFwdK.main_arg1)
      ∧ r.2.mem ((c.tc : Thread Cert.ProjFwdK.nD Cert.ProjFwdK.τ).loc Cert.ProjFwdK.main_arg2) = m ((c.tc : Thread Cert.ProjFwdK.nD Cert.ProjFwdK.τ).loc Cert.ProjFwdK.main_arg2)
      ∧ r.2.mem ((c.tc : Thread Cert.ProjFwdK.nD Cert.ProjFwdK.τ).loc Cert.ProjFwdK.main_arg3) = m ((c.tc : Thread Cert.ProjFwdK.nD Cert.ProjFwdK.τ).loc Cert.ProjFwdK.main_arg3)
      ∧ r.2.mem ((c.tc : Thread Cert.ProjFwdK.nD Cert.ProjFwdK.τ).loc Cert.ProjFwdK.main_arg4) = m ((c.tc : Thread Cert.ProjFwdK.nD Cert.ProjFwdK.τ).loc Cert.ProjFwdK.main_arg4))
      ∧ r.2.sem = fun _ => 0)

def quiescent_ProjFwdKIdeal [hProjFwdKIdeal : Cert.ProjFwdKIdeal.Facts] : Prop :=
  ∀ (m : (ℓ : Loc Cert.ProjFwdKIdeal.nD Cert.ProjFwdKIdeal.τ Cert.ProjFwdKIdeal.sig) → Buf (Elt Ideal) ℓ) (g : Dev Cert.ProjFwdKIdeal.nD → PrngReg), Pre_ProjFwdKIdeal m →
    θ_run (Cert.ProjFwdKIdeal.defs (F := Ideal)) (onTc (τ := Cert.ProjFwdKIdeal.τ) (Cert.ProjFwdKIdeal.main (F := Ideal))) ⟨m, fun _ => 0, g⟩ (fun r => (∀ c : Dev Cert.ProjFwdKIdeal.nD,
      r.2.mem ((c.tc : Thread Cert.ProjFwdKIdeal.nD Cert.ProjFwdKIdeal.τ).loc Cert.ProjFwdKIdeal.main_arg0) = m ((c.tc : Thread Cert.ProjFwdKIdeal.nD Cert.ProjFwdKIdeal.τ).loc Cert.ProjFwdKIdeal.main_arg0)
      ∧ r.2.mem ((c.tc : Thread Cert.ProjFwdKIdeal.nD Cert.ProjFwdKIdeal.τ).loc Cert.ProjFwdKIdeal.main_arg1) = m ((c.tc : Thread Cert.ProjFwdKIdeal.nD Cert.ProjFwdKIdeal.τ).loc Cert.ProjFwdKIdeal.main_arg1)
      ∧ r.2.mem ((c.tc : Thread Cert.ProjFwdKIdeal.nD Cert.ProjFwdKIdeal.τ).loc Cert.ProjFwdKIdeal.main_arg2) = m ((c.tc : Thread Cert.ProjFwdKIdeal.nD Cert.ProjFwdKIdeal.τ).loc Cert.ProjFwdKIdeal.main_arg2)
      ∧ r.2.mem ((c.tc : Thread Cert.ProjFwdKIdeal.nD Cert.ProjFwdKIdeal.τ).loc Cert.ProjFwdKIdeal.main_arg3) = m ((c.tc : Thread Cert.ProjFwdKIdeal.nD Cert.ProjFwdKIdeal.τ).loc Cert.ProjFwdKIdeal.main_arg3)
      ∧ r.2.mem ((c.tc : Thread Cert.ProjFwdKIdeal.nD Cert.ProjFwdKIdeal.τ).loc Cert.ProjFwdKIdeal.main_arg4) = m ((c.tc : Thread Cert.ProjFwdKIdeal.nD Cert.ProjFwdKIdeal.τ).loc Cert.ProjFwdKIdeal.main_arg4))
      ∧ r.2.sem = fun _ => 0)

def quiescent_ProjFwdRIdeal [hProjFwdRIdeal : Cert.ProjFwdRIdeal.Facts] : Prop :=
  ∀ (m : (ℓ : Loc Cert.ProjFwdRIdeal.nD Cert.ProjFwdRIdeal.τ Cert.ProjFwdRIdeal.sig) → Buf (Elt Ideal) ℓ) (g : Dev Cert.ProjFwdRIdeal.nD → PrngReg), Pre_ProjFwdRIdeal m →
    θ_run (Cert.ProjFwdRIdeal.defs (F := Ideal)) (onTc (τ := Cert.ProjFwdRIdeal.τ) (Cert.ProjFwdRIdeal.main (F := Ideal))) ⟨m, fun _ => 0, g⟩ (fun r => (∀ c : Dev Cert.ProjFwdRIdeal.nD,
      r.2.mem ((c.tc : Thread Cert.ProjFwdRIdeal.nD Cert.ProjFwdRIdeal.τ).loc Cert.ProjFwdRIdeal.main_arg0) = m ((c.tc : Thread Cert.ProjFwdRIdeal.nD Cert.ProjFwdRIdeal.τ).loc Cert.ProjFwdRIdeal.main_arg0)
      ∧ r.2.mem ((c.tc : Thread Cert.ProjFwdRIdeal.nD Cert.ProjFwdRIdeal.τ).loc Cert.ProjFwdRIdeal.main_arg1) = m ((c.tc : Thread Cert.ProjFwdRIdeal.nD Cert.ProjFwdRIdeal.τ).loc Cert.ProjFwdRIdeal.main_arg1)
      ∧ r.2.mem ((c.tc : Thread Cert.ProjFwdRIdeal.nD Cert.ProjFwdRIdeal.τ).loc Cert.ProjFwdRIdeal.main_arg2) = m ((c.tc : Thread Cert.ProjFwdRIdeal.nD Cert.ProjFwdRIdeal.τ).loc Cert.ProjFwdRIdeal.main_arg2)
      ∧ r.2.mem ((c.tc : Thread Cert.ProjFwdRIdeal.nD Cert.ProjFwdRIdeal.τ).loc Cert.ProjFwdRIdeal.main_arg3) = m ((c.tc : Thread Cert.ProjFwdRIdeal.nD Cert.ProjFwdRIdeal.τ).loc Cert.ProjFwdRIdeal.main_arg3)
      ∧ r.2.mem ((c.tc : Thread Cert.ProjFwdRIdeal.nD Cert.ProjFwdRIdeal.τ).loc Cert.ProjFwdRIdeal.main_arg4) = m ((c.tc : Thread Cert.ProjFwdRIdeal.nD Cert.ProjFwdRIdeal.τ).loc Cert.ProjFwdRIdeal.main_arg4))
      ∧ r.2.sem = fun _ => 0)

def quiescent_MlpFwdK [hMlpFwdK : Cert.MlpFwdK.Facts] : Prop :=
  ∀ (m : (ℓ : Loc Cert.MlpFwdK.nD Cert.MlpFwdK.τ Cert.MlpFwdK.sig) → Buf (Elt Bits) ℓ) (g : Dev Cert.MlpFwdK.nD → PrngReg), Pre_MlpFwdK m →
    θ_run (Cert.MlpFwdK.defs (F := Bits)) (onTc (τ := Cert.MlpFwdK.τ) (Cert.MlpFwdK.main (F := Bits))) ⟨m, fun _ => 0, g⟩ (fun r => (∀ c : Dev Cert.MlpFwdK.nD,
      r.2.mem ((c.tc : Thread Cert.MlpFwdK.nD Cert.MlpFwdK.τ).loc Cert.MlpFwdK.main_arg0) = m ((c.tc : Thread Cert.MlpFwdK.nD Cert.MlpFwdK.τ).loc Cert.MlpFwdK.main_arg0)
      ∧ r.2.mem ((c.tc : Thread Cert.MlpFwdK.nD Cert.MlpFwdK.τ).loc Cert.MlpFwdK.main_arg1) = m ((c.tc : Thread Cert.MlpFwdK.nD Cert.MlpFwdK.τ).loc Cert.MlpFwdK.main_arg1)
      ∧ r.2.mem ((c.tc : Thread Cert.MlpFwdK.nD Cert.MlpFwdK.τ).loc Cert.MlpFwdK.main_arg2) = m ((c.tc : Thread Cert.MlpFwdK.nD Cert.MlpFwdK.τ).loc Cert.MlpFwdK.main_arg2)
      ∧ r.2.mem ((c.tc : Thread Cert.MlpFwdK.nD Cert.MlpFwdK.τ).loc Cert.MlpFwdK.main_arg3) = m ((c.tc : Thread Cert.MlpFwdK.nD Cert.MlpFwdK.τ).loc Cert.MlpFwdK.main_arg3)
      ∧ r.2.mem ((c.tc : Thread Cert.MlpFwdK.nD Cert.MlpFwdK.τ).loc Cert.MlpFwdK.main_arg4) = m ((c.tc : Thread Cert.MlpFwdK.nD Cert.MlpFwdK.τ).loc Cert.MlpFwdK.main_arg4)
      ∧ r.2.mem ((c.tc : Thread Cert.MlpFwdK.nD Cert.MlpFwdK.τ).loc Cert.MlpFwdK.main_arg5) = m ((c.tc : Thread Cert.MlpFwdK.nD Cert.MlpFwdK.τ).loc Cert.MlpFwdK.main_arg5)
      ∧ r.2.mem ((c.tc : Thread Cert.MlpFwdK.nD Cert.MlpFwdK.τ).loc Cert.MlpFwdK.main_arg6) = m ((c.tc : Thread Cert.MlpFwdK.nD Cert.MlpFwdK.τ).loc Cert.MlpFwdK.main_arg6))
      ∧ r.2.sem = fun _ => 0)

def quiescent_MlpFwdKIdeal [hMlpFwdKIdeal : Cert.MlpFwdKIdeal.Facts] : Prop :=
  ∀ (m : (ℓ : Loc Cert.MlpFwdKIdeal.nD Cert.MlpFwdKIdeal.τ Cert.MlpFwdKIdeal.sig) → Buf (Elt Ideal) ℓ) (g : Dev Cert.MlpFwdKIdeal.nD → PrngReg), Pre_MlpFwdKIdeal m →
    θ_run (Cert.MlpFwdKIdeal.defs (F := Ideal)) (onTc (τ := Cert.MlpFwdKIdeal.τ) (Cert.MlpFwdKIdeal.main (F := Ideal))) ⟨m, fun _ => 0, g⟩ (fun r => (∀ c : Dev Cert.MlpFwdKIdeal.nD,
      r.2.mem ((c.tc : Thread Cert.MlpFwdKIdeal.nD Cert.MlpFwdKIdeal.τ).loc Cert.MlpFwdKIdeal.main_arg0) = m ((c.tc : Thread Cert.MlpFwdKIdeal.nD Cert.MlpFwdKIdeal.τ).loc Cert.MlpFwdKIdeal.main_arg0)
      ∧ r.2.mem ((c.tc : Thread Cert.MlpFwdKIdeal.nD Cert.MlpFwdKIdeal.τ).loc Cert.MlpFwdKIdeal.main_arg1) = m ((c.tc : Thread Cert.MlpFwdKIdeal.nD Cert.MlpFwdKIdeal.τ).loc Cert.MlpFwdKIdeal.main_arg1)
      ∧ r.2.mem ((c.tc : Thread Cert.MlpFwdKIdeal.nD Cert.MlpFwdKIdeal.τ).loc Cert.MlpFwdKIdeal.main_arg2) = m ((c.tc : Thread Cert.MlpFwdKIdeal.nD Cert.MlpFwdKIdeal.τ).loc Cert.MlpFwdKIdeal.main_arg2)
      ∧ r.2.mem ((c.tc : Thread Cert.MlpFwdKIdeal.nD Cert.MlpFwdKIdeal.τ).loc Cert.MlpFwdKIdeal.main_arg3) = m ((c.tc : Thread Cert.MlpFwdKIdeal.nD Cert.MlpFwdKIdeal.τ).loc Cert.MlpFwdKIdeal.main_arg3)
      ∧ r.2.mem ((c.tc : Thread Cert.MlpFwdKIdeal.nD Cert.MlpFwdKIdeal.τ).loc Cert.MlpFwdKIdeal.main_arg4) = m ((c.tc : Thread Cert.MlpFwdKIdeal.nD Cert.MlpFwdKIdeal.τ).loc Cert.MlpFwdKIdeal.main_arg4)
      ∧ r.2.mem ((c.tc : Thread Cert.MlpFwdKIdeal.nD Cert.MlpFwdKIdeal.τ).loc Cert.MlpFwdKIdeal.main_arg5) = m ((c.tc : Thread Cert.MlpFwdKIdeal.nD Cert.MlpFwdKIdeal.τ).loc Cert.MlpFwdKIdeal.main_arg5)
      ∧ r.2.mem ((c.tc : Thread Cert.MlpFwdKIdeal.nD Cert.MlpFwdKIdeal.τ).loc Cert.MlpFwdKIdeal.main_arg6) = m ((c.tc : Thread Cert.MlpFwdKIdeal.nD Cert.MlpFwdKIdeal.τ).loc Cert.MlpFwdKIdeal.main_arg6))
      ∧ r.2.sem = fun _ => 0)

def quiescent_MlpFwdRIdeal [hMlpFwdRIdeal : Cert.MlpFwdRIdeal.Facts] : Prop :=
  ∀ (m : (ℓ : Loc Cert.MlpFwdRIdeal.nD Cert.MlpFwdRIdeal.τ Cert.MlpFwdRIdeal.sig) → Buf (Elt Ideal) ℓ) (g : Dev Cert.MlpFwdRIdeal.nD → PrngReg), Pre_MlpFwdRIdeal m →
    θ_run (Cert.MlpFwdRIdeal.defs (F := Ideal)) (onTc (τ := Cert.MlpFwdRIdeal.τ) (Cert.MlpFwdRIdeal.main (F := Ideal))) ⟨m, fun _ => 0, g⟩ (fun r => (∀ c : Dev Cert.MlpFwdRIdeal.nD,
      r.2.mem ((c.tc : Thread Cert.MlpFwdRIdeal.nD Cert.MlpFwdRIdeal.τ).loc Cert.MlpFwdRIdeal.main_arg0) = m ((c.tc : Thread Cert.MlpFwdRIdeal.nD Cert.MlpFwdRIdeal.τ).loc Cert.MlpFwdRIdeal.main_arg0)
      ∧ r.2.mem ((c.tc : Thread Cert.MlpFwdRIdeal.nD Cert.MlpFwdRIdeal.τ).loc Cert.MlpFwdRIdeal.main_arg1) = m ((c.tc : Thread Cert.MlpFwdRIdeal.nD Cert.MlpFwdRIdeal.τ).loc Cert.MlpFwdRIdeal.main_arg1)
      ∧ r.2.mem ((c.tc : Thread Cert.MlpFwdRIdeal.nD Cert.MlpFwdRIdeal.τ).loc Cert.MlpFwdRIdeal.main_arg2) = m ((c.tc : Thread Cert.MlpFwdRIdeal.nD Cert.MlpFwdRIdeal.τ).loc Cert.MlpFwdRIdeal.main_arg2)
      ∧ r.2.mem ((c.tc : Thread Cert.MlpFwdRIdeal.nD Cert.MlpFwdRIdeal.τ).loc Cert.MlpFwdRIdeal.main_arg3) = m ((c.tc : Thread Cert.MlpFwdRIdeal.nD Cert.MlpFwdRIdeal.τ).loc Cert.MlpFwdRIdeal.main_arg3)
      ∧ r.2.mem ((c.tc : Thread Cert.MlpFwdRIdeal.nD Cert.MlpFwdRIdeal.τ).loc Cert.MlpFwdRIdeal.main_arg4) = m ((c.tc : Thread Cert.MlpFwdRIdeal.nD Cert.MlpFwdRIdeal.τ).loc Cert.MlpFwdRIdeal.main_arg4)
      ∧ r.2.mem ((c.tc : Thread Cert.MlpFwdRIdeal.nD Cert.MlpFwdRIdeal.τ).loc Cert.MlpFwdRIdeal.main_arg5) = m ((c.tc : Thread Cert.MlpFwdRIdeal.nD Cert.MlpFwdRIdeal.τ).loc Cert.MlpFwdRIdeal.main_arg5)
      ∧ r.2.mem ((c.tc : Thread Cert.MlpFwdRIdeal.nD Cert.MlpFwdRIdeal.τ).loc Cert.MlpFwdRIdeal.main_arg6) = m ((c.tc : Thread Cert.MlpFwdRIdeal.nD Cert.MlpFwdRIdeal.τ).loc Cert.MlpFwdRIdeal.main_arg6))
      ∧ r.2.sem = fun _ => 0)

def quiescent_ConvFGK [hConvFGK : Cert.ConvFGK.Facts] : Prop :=
  ∀ (m : (ℓ : Loc Cert.ConvFGK.nD Cert.ConvFGK.τ Cert.ConvFGK.sig) → Buf (Elt Bits) ℓ) (g : Dev Cert.ConvFGK.nD → PrngReg), Pre_ConvFGK m →
    θ_run (Cert.ConvFGK.defs (F := Bits)) (onTc (τ := Cert.ConvFGK.τ) (Cert.ConvFGK.main (F := Bits))) ⟨m, fun _ => 0, g⟩ (fun r => (∀ c : Dev Cert.ConvFGK.nD,
      r.2.mem ((c.tc : Thread Cert.ConvFGK.nD Cert.ConvFGK.τ).loc Cert.ConvFGK.main_arg0) = m ((c.tc : Thread Cert.ConvFGK.nD Cert.ConvFGK.τ).loc Cert.ConvFGK.main_arg0)
      ∧ r.2.mem ((c.tc : Thread Cert.ConvFGK.nD Cert.ConvFGK.τ).loc Cert.ConvFGK.main_arg1) = m ((c.tc : Thread Cert.ConvFGK.nD Cert.ConvFGK.τ).loc Cert.ConvFGK.main_arg1))
      ∧ r.2.sem = fun _ => 0)

def quiescent_ConvFGKIdeal [hConvFGKIdeal : Cert.ConvFGKIdeal.Facts] : Prop :=
  ∀ (m : (ℓ : Loc Cert.ConvFGKIdeal.nD Cert.ConvFGKIdeal.τ Cert.ConvFGKIdeal.sig) → Buf (Elt Ideal) ℓ) (g : Dev Cert.ConvFGKIdeal.nD → PrngReg), Pre_ConvFGKIdeal m →
    θ_run (Cert.ConvFGKIdeal.defs (F := Ideal)) (onTc (τ := Cert.ConvFGKIdeal.τ) (Cert.ConvFGKIdeal.main (F := Ideal))) ⟨m, fun _ => 0, g⟩ (fun r => (∀ c : Dev Cert.ConvFGKIdeal.nD,
      r.2.mem ((c.tc : Thread Cert.ConvFGKIdeal.nD Cert.ConvFGKIdeal.τ).loc Cert.ConvFGKIdeal.main_arg0) = m ((c.tc : Thread Cert.ConvFGKIdeal.nD Cert.ConvFGKIdeal.τ).loc Cert.ConvFGKIdeal.main_arg0)
      ∧ r.2.mem ((c.tc : Thread Cert.ConvFGKIdeal.nD Cert.ConvFGKIdeal.τ).loc Cert.ConvFGKIdeal.main_arg1) = m ((c.tc : Thread Cert.ConvFGKIdeal.nD Cert.ConvFGKIdeal.τ).loc Cert.ConvFGKIdeal.main_arg1))
      ∧ r.2.sem = fun _ => 0)

def quiescent_ConvFGRIdeal [hConvFGRIdeal : Cert.ConvFGRIdeal.Facts] : Prop :=
  ∀ (m : (ℓ : Loc Cert.ConvFGRIdeal.nD Cert.ConvFGRIdeal.τ Cert.ConvFGRIdeal.sig) → Buf (Elt Ideal) ℓ) (g : Dev Cert.ConvFGRIdeal.nD → PrngReg), Pre_ConvFGRIdeal m →
    θ_run (Cert.ConvFGRIdeal.defs (F := Ideal)) (onTc (τ := Cert.ConvFGRIdeal.τ) (Cert.ConvFGRIdeal.main (F := Ideal))) ⟨m, fun _ => 0, g⟩ (fun r => (∀ c : Dev Cert.ConvFGRIdeal.nD,
      r.2.mem ((c.tc : Thread Cert.ConvFGRIdeal.nD Cert.ConvFGRIdeal.τ).loc Cert.ConvFGRIdeal.main_arg0) = m ((c.tc : Thread Cert.ConvFGRIdeal.nD Cert.ConvFGRIdeal.τ).loc Cert.ConvFGRIdeal.main_arg0)
      ∧ r.2.mem ((c.tc : Thread Cert.ConvFGRIdeal.nD Cert.ConvFGRIdeal.τ).loc Cert.ConvFGRIdeal.main_arg1) = m ((c.tc : Thread Cert.ConvFGRIdeal.nD Cert.ConvFGRIdeal.τ).loc Cert.ConvFGRIdeal.main_arg1))
      ∧ r.2.sem = fun _ => 0)

def quiescent_ConvFLK [hConvFLK : Cert.ConvFLK.Facts] : Prop :=
  ∀ (m : (ℓ : Loc Cert.ConvFLK.nD Cert.ConvFLK.τ Cert.ConvFLK.sig) → Buf (Elt Bits) ℓ) (g : Dev Cert.ConvFLK.nD → PrngReg), Pre_ConvFLK m →
    θ_run (Cert.ConvFLK.defs (F := Bits)) (onTc (τ := Cert.ConvFLK.τ) (Cert.ConvFLK.main (F := Bits))) ⟨m, fun _ => 0, g⟩ (fun r => (∀ c : Dev Cert.ConvFLK.nD,
      r.2.mem ((c.tc : Thread Cert.ConvFLK.nD Cert.ConvFLK.τ).loc Cert.ConvFLK.main_arg0) = m ((c.tc : Thread Cert.ConvFLK.nD Cert.ConvFLK.τ).loc Cert.ConvFLK.main_arg0)
      ∧ r.2.mem ((c.tc : Thread Cert.ConvFLK.nD Cert.ConvFLK.τ).loc Cert.ConvFLK.main_arg1) = m ((c.tc : Thread Cert.ConvFLK.nD Cert.ConvFLK.τ).loc Cert.ConvFLK.main_arg1)
      ∧ r.2.mem ((c.tc : Thread Cert.ConvFLK.nD Cert.ConvFLK.τ).loc Cert.ConvFLK.main_arg2) = m ((c.tc : Thread Cert.ConvFLK.nD Cert.ConvFLK.τ).loc Cert.ConvFLK.main_arg2))
      ∧ r.2.sem = fun _ => 0)

def quiescent_ConvFLKIdeal [hConvFLKIdeal : Cert.ConvFLKIdeal.Facts] : Prop :=
  ∀ (m : (ℓ : Loc Cert.ConvFLKIdeal.nD Cert.ConvFLKIdeal.τ Cert.ConvFLKIdeal.sig) → Buf (Elt Ideal) ℓ) (g : Dev Cert.ConvFLKIdeal.nD → PrngReg), Pre_ConvFLKIdeal m →
    θ_run (Cert.ConvFLKIdeal.defs (F := Ideal)) (onTc (τ := Cert.ConvFLKIdeal.τ) (Cert.ConvFLKIdeal.main (F := Ideal))) ⟨m, fun _ => 0, g⟩ (fun r => (∀ c : Dev Cert.ConvFLKIdeal.nD,
      r.2.mem ((c.tc : Thread Cert.ConvFLKIdeal.nD Cert.ConvFLKIdeal.τ).loc Cert.ConvFLKIdeal.main_arg0) = m ((c.tc : Thread Cert.ConvFLKIdeal.nD Cert.ConvFLKIdeal.τ).loc Cert.ConvFLKIdeal.main_arg0)
      ∧ r.2.mem ((c.tc : Thread Cert.ConvFLKIdeal.nD Cert.ConvFLKIdeal.τ).loc Cert.ConvFLKIdeal.main_arg1) = m ((c.tc : Thread Cert.ConvFLKIdeal.nD Cert.ConvFLKIdeal.τ).loc Cert.ConvFLKIdeal.main_arg1)
      ∧ r.2.mem ((c.tc : Thread Cert.ConvFLKIdeal.nD Cert.ConvFLKIdeal.τ).loc Cert.ConvFLKIdeal.main_arg2) = m ((c.tc : Thread Cert.ConvFLKIdeal.nD Cert.ConvFLKIdeal.τ).loc Cert.ConvFLKIdeal.main_arg2))
      ∧ r.2.sem = fun _ => 0)

def quiescent_ConvFLRIdeal [hConvFLRIdeal : Cert.ConvFLRIdeal.Facts] : Prop :=
  ∀ (m : (ℓ : Loc Cert.ConvFLRIdeal.nD Cert.ConvFLRIdeal.τ Cert.ConvFLRIdeal.sig) → Buf (Elt Ideal) ℓ) (g : Dev Cert.ConvFLRIdeal.nD → PrngReg), Pre_ConvFLRIdeal m →
    θ_run (Cert.ConvFLRIdeal.defs (F := Ideal)) (onTc (τ := Cert.ConvFLRIdeal.τ) (Cert.ConvFLRIdeal.main (F := Ideal))) ⟨m, fun _ => 0, g⟩ (fun r => (∀ c : Dev Cert.ConvFLRIdeal.nD,
      r.2.mem ((c.tc : Thread Cert.ConvFLRIdeal.nD Cert.ConvFLRIdeal.τ).loc Cert.ConvFLRIdeal.main_arg0) = m ((c.tc : Thread Cert.ConvFLRIdeal.nD Cert.ConvFLRIdeal.τ).loc Cert.ConvFLRIdeal.main_arg0)
      ∧ r.2.mem ((c.tc : Thread Cert.ConvFLRIdeal.nD Cert.ConvFLRIdeal.τ).loc Cert.ConvFLRIdeal.main_arg1) = m ((c.tc : Thread Cert.ConvFLRIdeal.nD Cert.ConvFLRIdeal.τ).loc Cert.ConvFLRIdeal.main_arg1)
      ∧ r.2.mem ((c.tc : Thread Cert.ConvFLRIdeal.nD Cert.ConvFLRIdeal.τ).loc Cert.ConvFLRIdeal.main_arg2) = m ((c.tc : Thread Cert.ConvFLRIdeal.nD Cert.ConvFLRIdeal.τ).loc Cert.ConvFLRIdeal.main_arg2))
      ∧ r.2.sem = fun _ => 0)

def preserves_LossK_LossKIdeal : Prop :=
  True

def algebraic_LossKIdeal_LossRIdeal_pre_finite_loss [hLossKIdeal : Cert.LossKIdeal.Facts] [hLossRIdeal : Cert.LossRIdeal.Facts] [hPre_finite_loss : Cert.Pre_finite_loss.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_finite_loss m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)) →
    ∃ (v0 : (c : Dev Cert.LossKIdeal.nD) → Buf (Elt Ideal) ((c.tc : Thread Cert.LossKIdeal.nD Cert.LossKIdeal.τ).loc Cert.LossKIdeal.main_v1_0)) (v1 : (c : Dev Cert.LossKIdeal.nD) → Buf (Elt Ideal) ((c.tc : Thread Cert.LossKIdeal.nD Cert.LossKIdeal.τ).loc Cert.LossKIdeal.main_v1_1)) (v2 : (c : Dev Cert.LossKIdeal.nD) → Buf (Elt Ideal) ((c.tc : Thread Cert.LossKIdeal.nD Cert.LossKIdeal.τ).loc Cert.LossKIdeal.main_v1_2)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v1_0) = v0 c
          ∧ r.2.mem ((c.tc : Thread Cert.LossKIdeal.nD Cert.LossKIdeal.τ).loc Cert.LossKIdeal.main_v1_1) = v1 c
          ∧ r.2.mem ((c.tc : Thread Cert.LossKIdeal.nD Cert.LossKIdeal.τ).loc Cert.LossKIdeal.main_v1_2) = v2 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v50) = v0 c
          ∧ r.2.mem ((c.tc : Thread Cert.LossRIdeal.nD Cert.LossRIdeal.τ).loc Cert.LossRIdeal.main_v51) = v1 c
          ∧ r.2.mem ((c.tc : Thread Cert.LossRIdeal.nD Cert.LossRIdeal.τ).loc Cert.LossRIdeal.main_v52) = v2 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2))

def preserves_ProjBwdK_ProjBwdKIdeal : Prop :=
  True

def algebraic_ProjBwdKIdeal_ProjBwdRIdeal_pre_finite_projbwd [hProjBwdKIdeal : Cert.ProjBwdKIdeal.Facts] [hProjBwdRIdeal : Cert.ProjBwdRIdeal.Facts] [hPre_finite_projbwd : Cert.Pre_finite_projbwd.Facts] : Prop :=
  ∀ (m : (ℓ : Loc Cert.ProjBwdKIdeal.nD Cert.ProjBwdKIdeal.τ Cert.ProjBwdKIdeal.sig) → Buf (Elt Ideal) ℓ) (g : Dev Cert.ProjBwdKIdeal.nD → PrngReg)
    (m' : (ℓ : Loc Cert.ProjBwdRIdeal.nD Cert.ProjBwdRIdeal.τ Cert.ProjBwdRIdeal.sig) → Buf (Elt Ideal) ℓ) (g' : Dev Cert.ProjBwdRIdeal.nD → PrngReg), Pre_ProjBwdKIdeal_finite_projbwd m →
    (∀ c : Dev Cert.ProjBwdKIdeal.nD,
      m' ((c.tc : Thread Cert.ProjBwdRIdeal.nD Cert.ProjBwdRIdeal.τ).loc Cert.ProjBwdRIdeal.main_arg0) = m ((c.tc : Thread Cert.ProjBwdKIdeal.nD Cert.ProjBwdKIdeal.τ).loc Cert.ProjBwdKIdeal.main_arg0)
      ∧ m' ((c.tc : Thread Cert.ProjBwdRIdeal.nD Cert.ProjBwdRIdeal.τ).loc Cert.ProjBwdRIdeal.main_arg1) = m ((c.tc : Thread Cert.ProjBwdKIdeal.nD Cert.ProjBwdKIdeal.τ).loc Cert.ProjBwdKIdeal.main_arg1)
      ∧ m' ((c.tc : Thread Cert.ProjBwdRIdeal.nD Cert.ProjBwdRIdeal.τ).loc Cert.ProjBwdRIdeal.main_arg2) = m ((c.tc : Thread Cert.ProjBwdKIdeal.nD Cert.ProjBwdKIdeal.τ).loc Cert.ProjBwdKIdeal.main_arg2)
      ∧ m' ((c.tc : Thread Cert.ProjBwdRIdeal.nD Cert.ProjBwdRIdeal.τ).loc Cert.ProjBwdRIdeal.main_arg3) = m ((c.tc : Thread Cert.ProjBwdKIdeal.nD Cert.ProjBwdKIdeal.τ).loc Cert.ProjBwdKIdeal.main_arg3)
      ∧ m' ((c.tc : Thread Cert.ProjBwdRIdeal.nD Cert.ProjBwdRIdeal.τ).loc Cert.ProjBwdRIdeal.main_arg4) = m ((c.tc : Thread Cert.ProjBwdKIdeal.nD Cert.ProjBwdKIdeal.τ).loc Cert.ProjBwdKIdeal.main_arg4)
      ∧ m' ((c.tc : Thread Cert.ProjBwdRIdeal.nD Cert.ProjBwdRIdeal.τ).loc Cert.ProjBwdRIdeal.main_arg5) = m ((c.tc : Thread Cert.ProjBwdKIdeal.nD Cert.ProjBwdKIdeal.τ).loc Cert.ProjBwdKIdeal.main_arg5)
      ∧ m' ((c.tc : Thread Cert.ProjBwdRIdeal.nD Cert.ProjBwdRIdeal.τ).loc Cert.ProjBwdRIdeal.main_arg6) = m ((c.tc : Thread Cert.ProjBwdKIdeal.nD Cert.ProjBwdKIdeal.τ).loc Cert.ProjBwdKIdeal.main_arg6)) →
    ∃ (v0 : (c : Dev Cert.ProjBwdKIdeal.nD) → Buf (Elt Ideal) ((c.tc : Thread Cert.ProjBwdKIdeal.nD Cert.ProjBwdKIdeal.τ).loc Cert.ProjBwdKIdeal.main_v10_0)) (v1 : (c : Dev Cert.ProjBwdKIdeal.nD) → Buf (Elt Ideal) ((c.tc : Thread Cert.ProjBwdKIdeal.nD Cert.ProjBwdKIdeal.τ).loc Cert.ProjBwdKIdeal.main_v10_1)) (v2 : (c : Dev Cert.ProjBwdKIdeal.nD) → Buf (Elt Ideal) ((c.tc : Thread Cert.ProjBwdKIdeal.nD Cert.ProjBwdKIdeal.τ).loc Cert.ProjBwdKIdeal.main_v10_2)) (v3 : (c : Dev Cert.ProjBwdKIdeal.nD) → Buf (Elt Ideal) ((c.tc : Thread Cert.ProjBwdKIdeal.nD Cert.ProjBwdKIdeal.τ).loc Cert.ProjBwdKIdeal.main_v10_3)) (v4 : (c : Dev Cert.ProjBwdKIdeal.nD) → Buf (Elt Ideal) ((c.tc : Thread Cert.ProjBwdKIdeal.nD Cert.ProjBwdKIdeal.τ).loc Cert.ProjBwdKIdeal.main_v10_4)),
      θ_run (Cert.ProjBwdKIdeal.defs (F := Ideal)) (onTc (τ := Cert.ProjBwdKIdeal.τ) (Cert.ProjBwdKIdeal.main (F := Ideal))) ⟨m, fun _ => 0, g⟩ (fun r => ∀ c : Dev Cert.ProjBwdKIdeal.nD,
          r.2.mem ((c.tc : Thread Cert.ProjBwdKIdeal.nD Cert.ProjBwdKIdeal.τ).loc Cert.ProjBwdKIdeal.main_v10_0) = v0 c
          ∧ r.2.mem ((c.tc : Thread Cert.ProjBwdKIdeal.nD Cert.ProjBwdKIdeal.τ).loc Cert.ProjBwdKIdeal.main_v10_1) = v1 c
          ∧ r.2.mem ((c.tc : Thread Cert.ProjBwdKIdeal.nD Cert.ProjBwdKIdeal.τ).loc Cert.ProjBwdKIdeal.main_v10_2) = v2 c
          ∧ r.2.mem ((c.tc : Thread Cert.ProjBwdKIdeal.nD Cert.ProjBwdKIdeal.τ).loc Cert.ProjBwdKIdeal.main_v10_3) = v3 c
          ∧ r.2.mem ((c.tc : Thread Cert.ProjBwdKIdeal.nD Cert.ProjBwdKIdeal.τ).loc Cert.ProjBwdKIdeal.main_v10_4) = v4 c
          ∧ r.2.mem ((c.tc : Thread Cert.ProjBwdKIdeal.nD Cert.ProjBwdKIdeal.τ).loc Cert.ProjBwdKIdeal.main_arg0) = m ((c.tc : Thread Cert.ProjBwdKIdeal.nD Cert.ProjBwdKIdeal.τ).loc Cert.ProjBwdKIdeal.main_arg0)
          ∧ r.2.mem ((c.tc : Thread Cert.ProjBwdKIdeal.nD Cert.ProjBwdKIdeal.τ).loc Cert.ProjBwdKIdeal.main_arg1) = m ((c.tc : Thread Cert.ProjBwdKIdeal.nD Cert.ProjBwdKIdeal.τ).loc Cert.ProjBwdKIdeal.main_arg1)
          ∧ r.2.mem ((c.tc : Thread Cert.ProjBwdKIdeal.nD Cert.ProjBwdKIdeal.τ).loc Cert.ProjBwdKIdeal.main_arg2) = m ((c.tc : Thread Cert.ProjBwdKIdeal.nD Cert.ProjBwdKIdeal.τ).loc Cert.ProjBwdKIdeal.main_arg2)
          ∧ r.2.mem ((c.tc : Thread Cert.ProjBwdKIdeal.nD Cert.ProjBwdKIdeal.τ).loc Cert.ProjBwdKIdeal.main_arg3) = m ((c.tc : Thread Cert.ProjBwdKIdeal.nD Cert.ProjBwdKIdeal.τ).loc Cert.ProjBwdKIdeal.main_arg3)
          ∧ r.2.mem ((c.tc : Thread Cert.ProjBwdKIdeal.nD Cert.ProjBwdKIdeal.τ).loc Cert.ProjBwdKIdeal.main_arg4) = m ((c.tc : Thread Cert.ProjBwdKIdeal.nD Cert.ProjBwdKIdeal.τ).loc Cert.ProjBwdKIdeal.main_arg4)
          ∧ r.2.mem ((c.tc : Thread Cert.ProjBwdKIdeal.nD Cert.ProjBwdKIdeal.τ).loc Cert.ProjBwdKIdeal.main_arg5) = m ((c.tc : Thread Cert.ProjBwdKIdeal.nD Cert.ProjBwdKIdeal.τ).loc Cert.ProjBwdKIdeal.main_arg5)
          ∧ r.2.mem ((c.tc : Thread Cert.ProjBwdKIdeal.nD Cert.ProjBwdKIdeal.τ).loc Cert.ProjBwdKIdeal.main_arg6) = m ((c.tc : Thread Cert.ProjBwdKIdeal.nD Cert.ProjBwdKIdeal.τ).loc Cert.ProjBwdKIdeal.main_arg6))
      ∧ θ_run (Cert.ProjBwdRIdeal.defs (F := Ideal)) (onTc (τ := Cert.ProjBwdRIdeal.τ) (Cert.ProjBwdRIdeal.main (F := Ideal))) ⟨m', fun _ => 0, g'⟩ (fun r => ∀ c : Dev Cert.ProjBwdRIdeal.nD,
          r.2.mem ((c.tc : Thread Cert.ProjBwdRIdeal.nD Cert.ProjBwdRIdeal.τ).loc Cert.ProjBwdRIdeal.main_v55) = v0 c
          ∧ r.2.mem ((c.tc : Thread Cert.ProjBwdRIdeal.nD Cert.ProjBwdRIdeal.τ).loc Cert.ProjBwdRIdeal.main_v57) = v1 c
          ∧ r.2.mem ((c.tc : Thread Cert.ProjBwdRIdeal.nD Cert.ProjBwdRIdeal.τ).loc Cert.ProjBwdRIdeal.main_v58) = v2 c
          ∧ r.2.mem ((c.tc : Thread Cert.ProjBwdRIdeal.nD Cert.ProjBwdRIdeal.τ).loc Cert.ProjBwdRIdeal.main_v59) = v3 c
          ∧ r.2.mem ((c.tc : Thread Cert.ProjBwdRIdeal.nD Cert.ProjBwdRIdeal.τ).loc Cert.ProjBwdRIdeal.main_v60) = v4 c
          ∧ r.2.mem ((c.tc : Thread Cert.ProjBwdRIdeal.nD Cert.ProjBwdRIdeal.τ).loc Cert.ProjBwdRIdeal.main_arg0) = m' ((c.tc : Thread Cert.ProjBwdRIdeal.nD Cert.ProjBwdRIdeal.τ).loc Cert.ProjBwdRIdeal.main_arg0)
          ∧ r.2.mem ((c.tc : Thread Cert.ProjBwdRIdeal.nD Cert.ProjBwdRIdeal.τ).loc Cert.ProjBwdRIdeal.main_arg1) = m' ((c.tc : Thread Cert.ProjBwdRIdeal.nD Cert.ProjBwdRIdeal.τ).loc Cert.ProjBwdRIdeal.main_arg1)
          ∧ r.2.mem ((c.tc : Thread Cert.ProjBwdRIdeal.nD Cert.ProjBwdRIdeal.τ).loc Cert.ProjBwdRIdeal.main_arg2) = m' ((c.tc : Thread Cert.ProjBwdRIdeal.nD Cert.ProjBwdRIdeal.τ).loc Cert.ProjBwdRIdeal.main_arg2)
          ∧ r.2.mem ((c.tc : Thread Cert.ProjBwdRIdeal.nD Cert.ProjBwdRIdeal.τ).loc Cert.ProjBwdRIdeal.main_arg3) = m' ((c.tc : Thread Cert.ProjBwdRIdeal.nD Cert.ProjBwdRIdeal.τ).loc Cert.ProjBwdRIdeal.main_arg3)
          ∧ r.2.mem ((c.tc : Thread Cert.ProjBwdRIdeal.nD Cert.ProjBwdRIdeal.τ).loc Cert.ProjBwdRIdeal.main_arg4) = m' ((c.tc : Thread Cert.ProjBwdRIdeal.nD Cert.ProjBwdRIdeal.τ).loc Cert.ProjBwdRIdeal.main_arg4)
          ∧ r.2.mem ((c.tc : Thread Cert.ProjBwdRIdeal.nD Cert.ProjBwdRIdeal.τ).loc Cert.ProjBwdRIdeal.main_arg5) = m' ((c.tc : Thread Cert.ProjBwdRIdeal.nD Cert.ProjBwdRIdeal.τ).loc Cert.ProjBwdRIdeal.main_arg5)
          ∧ r.2.mem ((c.tc : Thread Cert.ProjBwdRIdeal.nD Cert.ProjBwdRIdeal.τ).loc Cert.ProjBwdRIdeal.main_arg6) = m' ((c.tc : Thread Cert.ProjBwdRIdeal.nD Cert.ProjBwdRIdeal.τ).loc Cert.ProjBwdRIdeal.main_arg6))

def preserves_MlpBwdK_MlpBwdKIdeal : Prop :=
  True

def algebraic_MlpBwdKIdeal_MlpBwdRIdeal_pre_finite_mlpbwd [hMlpBwdKIdeal : Cert.MlpBwdKIdeal.Facts] [hMlpBwdRIdeal : Cert.MlpBwdRIdeal.Facts] [hPre_finite_mlpbwd : Cert.Pre_finite_mlpbwd.Facts] : Prop :=
  ∀ (m : (ℓ : Loc Cert.MlpBwdKIdeal.nD Cert.MlpBwdKIdeal.τ Cert.MlpBwdKIdeal.sig) → Buf (Elt Ideal) ℓ) (g : Dev Cert.MlpBwdKIdeal.nD → PrngReg)
    (m' : (ℓ : Loc Cert.MlpBwdRIdeal.nD Cert.MlpBwdRIdeal.τ Cert.MlpBwdRIdeal.sig) → Buf (Elt Ideal) ℓ) (g' : Dev Cert.MlpBwdRIdeal.nD → PrngReg), Pre_MlpBwdKIdeal_finite_mlpbwd m →
    (∀ c : Dev Cert.MlpBwdKIdeal.nD,
      m' ((c.tc : Thread Cert.MlpBwdRIdeal.nD Cert.MlpBwdRIdeal.τ).loc Cert.MlpBwdRIdeal.main_arg0) = m ((c.tc : Thread Cert.MlpBwdKIdeal.nD Cert.MlpBwdKIdeal.τ).loc Cert.MlpBwdKIdeal.main_arg0)
      ∧ m' ((c.tc : Thread Cert.MlpBwdRIdeal.nD Cert.MlpBwdRIdeal.τ).loc Cert.MlpBwdRIdeal.main_arg1) = m ((c.tc : Thread Cert.MlpBwdKIdeal.nD Cert.MlpBwdKIdeal.τ).loc Cert.MlpBwdKIdeal.main_arg1)
      ∧ m' ((c.tc : Thread Cert.MlpBwdRIdeal.nD Cert.MlpBwdRIdeal.τ).loc Cert.MlpBwdRIdeal.main_arg2) = m ((c.tc : Thread Cert.MlpBwdKIdeal.nD Cert.MlpBwdKIdeal.τ).loc Cert.MlpBwdKIdeal.main_arg2)
      ∧ m' ((c.tc : Thread Cert.MlpBwdRIdeal.nD Cert.MlpBwdRIdeal.τ).loc Cert.MlpBwdRIdeal.main_arg3) = m ((c.tc : Thread Cert.MlpBwdKIdeal.nD Cert.MlpBwdKIdeal.τ).loc Cert.MlpBwdKIdeal.main_arg3)
      ∧ m' ((c.tc : Thread Cert.MlpBwdRIdeal.nD Cert.MlpBwdRIdeal.τ).loc Cert.MlpBwdRIdeal.main_arg4) = m ((c.tc : Thread Cert.MlpBwdKIdeal.nD Cert.MlpBwdKIdeal.τ).loc Cert.MlpBwdKIdeal.main_arg4)
      ∧ m' ((c.tc : Thread Cert.MlpBwdRIdeal.nD Cert.MlpBwdRIdeal.τ).loc Cert.MlpBwdRIdeal.main_arg5) = m ((c.tc : Thread Cert.MlpBwdKIdeal.nD Cert.MlpBwdKIdeal.τ).loc Cert.MlpBwdKIdeal.main_arg5)
      ∧ m' ((c.tc : Thread Cert.MlpBwdRIdeal.nD Cert.MlpBwdRIdeal.τ).loc Cert.MlpBwdRIdeal.main_arg6) = m ((c.tc : Thread Cert.MlpBwdKIdeal.nD Cert.MlpBwdKIdeal.τ).loc Cert.MlpBwdKIdeal.main_arg6)
      ∧ m' ((c.tc : Thread Cert.MlpBwdRIdeal.nD Cert.MlpBwdRIdeal.τ).loc Cert.MlpBwdRIdeal.main_arg7) = m ((c.tc : Thread Cert.MlpBwdKIdeal.nD Cert.MlpBwdKIdeal.τ).loc Cert.MlpBwdKIdeal.main_arg7)) →
    ∃ (v0 : (c : Dev Cert.MlpBwdKIdeal.nD) → Buf (Elt Ideal) ((c.tc : Thread Cert.MlpBwdKIdeal.nD Cert.MlpBwdKIdeal.τ).loc Cert.MlpBwdKIdeal.main_v6_0)) (v1 : (c : Dev Cert.MlpBwdKIdeal.nD) → Buf (Elt Ideal) ((c.tc : Thread Cert.MlpBwdKIdeal.nD Cert.MlpBwdKIdeal.τ).loc Cert.MlpBwdKIdeal.main_v6_1)) (v2 : (c : Dev Cert.MlpBwdKIdeal.nD) → Buf (Elt Ideal) ((c.tc : Thread Cert.MlpBwdKIdeal.nD Cert.MlpBwdKIdeal.τ).loc Cert.MlpBwdKIdeal.main_v6_2)) (v3 : (c : Dev Cert.MlpBwdKIdeal.nD) → Buf (Elt Ideal) ((c.tc : Thread Cert.MlpBwdKIdeal.nD Cert.MlpBwdKIdeal.τ).loc Cert.MlpBwdKIdeal.main_v6_3)) (v4 : (c : Dev Cert.MlpBwdKIdeal.nD) → Buf (Elt Ideal) ((c.tc : Thread Cert.MlpBwdKIdeal.nD Cert.MlpBwdKIdeal.τ).loc Cert.MlpBwdKIdeal.main_v6_4)) (v5 : (c : Dev Cert.MlpBwdKIdeal.nD) → Buf (Elt Ideal) ((c.tc : Thread Cert.MlpBwdKIdeal.nD Cert.MlpBwdKIdeal.τ).loc Cert.MlpBwdKIdeal.main_v6_5)) (v6 : (c : Dev Cert.MlpBwdKIdeal.nD) → Buf (Elt Ideal) ((c.tc : Thread Cert.MlpBwdKIdeal.nD Cert.MlpBwdKIdeal.τ).loc Cert.MlpBwdKIdeal.main_v6_6)) (v7 : (c : Dev Cert.MlpBwdKIdeal.nD) → Buf (Elt Ideal) ((c.tc : Thread Cert.MlpBwdKIdeal.nD Cert.MlpBwdKIdeal.τ).loc Cert.MlpBwdKIdeal.main_v6_7)),
      θ_run (Cert.MlpBwdKIdeal.defs (F := Ideal)) (onTc (τ := Cert.MlpBwdKIdeal.τ) (Cert.MlpBwdKIdeal.main (F := Ideal))) ⟨m, fun _ => 0, g⟩ (fun r => ∀ c : Dev Cert.MlpBwdKIdeal.nD,
          r.2.mem ((c.tc : Thread Cert.MlpBwdKIdeal.nD Cert.MlpBwdKIdeal.τ).loc Cert.MlpBwdKIdeal.main_v6_0) = v0 c
          ∧ r.2.mem ((c.tc : Thread Cert.MlpBwdKIdeal.nD Cert.MlpBwdKIdeal.τ).loc Cert.MlpBwdKIdeal.main_v6_1) = v1 c
          ∧ r.2.mem ((c.tc : Thread Cert.MlpBwdKIdeal.nD Cert.MlpBwdKIdeal.τ).loc Cert.MlpBwdKIdeal.main_v6_2) = v2 c
          ∧ r.2.mem ((c.tc : Thread Cert.MlpBwdKIdeal.nD Cert.MlpBwdKIdeal.τ).loc Cert.MlpBwdKIdeal.main_v6_3) = v3 c
          ∧ r.2.mem ((c.tc : Thread Cert.MlpBwdKIdeal.nD Cert.MlpBwdKIdeal.τ).loc Cert.MlpBwdKIdeal.main_v6_4) = v4 c
          ∧ r.2.mem ((c.tc : Thread Cert.MlpBwdKIdeal.nD Cert.MlpBwdKIdeal.τ).loc Cert.MlpBwdKIdeal.main_v6_5) = v5 c
          ∧ r.2.mem ((c.tc : Thread Cert.MlpBwdKIdeal.nD Cert.MlpBwdKIdeal.τ).loc Cert.MlpBwdKIdeal.main_v6_6) = v6 c
          ∧ r.2.mem ((c.tc : Thread Cert.MlpBwdKIdeal.nD Cert.MlpBwdKIdeal.τ).loc Cert.MlpBwdKIdeal.main_v6_7) = v7 c
          ∧ r.2.mem ((c.tc : Thread Cert.MlpBwdKIdeal.nD Cert.MlpBwdKIdeal.τ).loc Cert.MlpBwdKIdeal.main_arg0) = m ((c.tc : Thread Cert.MlpBwdKIdeal.nD Cert.MlpBwdKIdeal.τ).loc Cert.MlpBwdKIdeal.main_arg0)
          ∧ r.2.mem ((c.tc : Thread Cert.MlpBwdKIdeal.nD Cert.MlpBwdKIdeal.τ).loc Cert.MlpBwdKIdeal.main_arg1) = m ((c.tc : Thread Cert.MlpBwdKIdeal.nD Cert.MlpBwdKIdeal.τ).loc Cert.MlpBwdKIdeal.main_arg1)
          ∧ r.2.mem ((c.tc : Thread Cert.MlpBwdKIdeal.nD Cert.MlpBwdKIdeal.τ).loc Cert.MlpBwdKIdeal.main_arg2) = m ((c.tc : Thread Cert.MlpBwdKIdeal.nD Cert.MlpBwdKIdeal.τ).loc Cert.MlpBwdKIdeal.main_arg2)
          ∧ r.2.mem ((c.tc : Thread Cert.MlpBwdKIdeal.nD Cert.MlpBwdKIdeal.τ).loc Cert.MlpBwdKIdeal.main_arg3) = m ((c.tc : Thread Cert.MlpBwdKIdeal.nD Cert.MlpBwdKIdeal.τ).loc Cert.MlpBwdKIdeal.main_arg3)
          ∧ r.2.mem ((c.tc : Thread Cert.MlpBwdKIdeal.nD Cert.MlpBwdKIdeal.τ).loc Cert.MlpBwdKIdeal.main_arg4) = m ((c.tc : Thread Cert.MlpBwdKIdeal.nD Cert.MlpBwdKIdeal.τ).loc Cert.MlpBwdKIdeal.main_arg4)
          ∧ r.2.mem ((c.tc : Thread Cert.MlpBwdKIdeal.nD Cert.MlpBwdKIdeal.τ).loc Cert.MlpBwdKIdeal.main_arg5) = m ((c.tc : Thread Cert.MlpBwdKIdeal.nD Cert.MlpBwdKIdeal.τ).loc Cert.MlpBwdKIdeal.main_arg5)
          ∧ r.2.mem ((c.tc : Thread Cert.MlpBwdKIdeal.nD Cert.MlpBwdKIdeal.τ).loc Cert.MlpBwdKIdeal.main_arg6) = m ((c.tc : Thread Cert.MlpBwdKIdeal.nD Cert.MlpBwdKIdeal.τ).loc Cert.MlpBwdKIdeal.main_arg6)
          ∧ r.2.mem ((c.tc : Thread Cert.MlpBwdKIdeal.nD Cert.MlpBwdKIdeal.τ).loc Cert.MlpBwdKIdeal.main_arg7) = m ((c.tc : Thread Cert.MlpBwdKIdeal.nD Cert.MlpBwdKIdeal.τ).loc Cert.MlpBwdKIdeal.main_arg7))
      ∧ θ_run (Cert.MlpBwdRIdeal.defs (F := Ideal)) (onTc (τ := Cert.MlpBwdRIdeal.τ) (Cert.MlpBwdRIdeal.main (F := Ideal))) ⟨m', fun _ => 0, g'⟩ (fun r => ∀ c : Dev Cert.MlpBwdRIdeal.nD,
          r.2.mem ((c.tc : Thread Cert.MlpBwdRIdeal.nD Cert.MlpBwdRIdeal.τ).loc Cert.MlpBwdRIdeal.main_v72) = v0 c
          ∧ r.2.mem ((c.tc : Thread Cert.MlpBwdRIdeal.nD Cert.MlpBwdRIdeal.τ).loc Cert.MlpBwdRIdeal.main_v73) = v1 c
          ∧ r.2.mem ((c.tc : Thread Cert.MlpBwdRIdeal.nD Cert.MlpBwdRIdeal.τ).loc Cert.MlpBwdRIdeal.main_v74) = v2 c
          ∧ r.2.mem ((c.tc : Thread Cert.MlpBwdRIdeal.nD Cert.MlpBwdRIdeal.τ).loc Cert.MlpBwdRIdeal.main_v75) = v3 c
          ∧ r.2.mem ((c.tc : Thread Cert.MlpBwdRIdeal.nD Cert.MlpBwdRIdeal.τ).loc Cert.MlpBwdRIdeal.main_v76) = v4 c
          ∧ r.2.mem ((c.tc : Thread Cert.MlpBwdRIdeal.nD Cert.MlpBwdRIdeal.τ).loc Cert.MlpBwdRIdeal.main_v77) = v5 c
          ∧ r.2.mem ((c.tc : Thread Cert.MlpBwdRIdeal.nD Cert.MlpBwdRIdeal.τ).loc Cert.MlpBwdRIdeal.main_v78) = v6 c
          ∧ r.2.mem ((c.tc : Thread Cert.MlpBwdRIdeal.nD Cert.MlpBwdRIdeal.τ).loc Cert.MlpBwdRIdeal.main_v79) = v7 c
          ∧ r.2.mem ((c.tc : Thread Cert.MlpBwdRIdeal.nD Cert.MlpBwdRIdeal.τ).loc Cert.MlpBwdRIdeal.main_arg0) = m' ((c.tc : Thread Cert.MlpBwdRIdeal.nD Cert.MlpBwdRIdeal.τ).loc Cert.MlpBwdRIdeal.main_arg0)
          ∧ r.2.mem ((c.tc : Thread Cert.MlpBwdRIdeal.nD Cert.MlpBwdRIdeal.τ).loc Cert.MlpBwdRIdeal.main_arg1) = m' ((c.tc : Thread Cert.MlpBwdRIdeal.nD Cert.MlpBwdRIdeal.τ).loc Cert.MlpBwdRIdeal.main_arg1)
          ∧ r.2.mem ((c.tc : Thread Cert.MlpBwdRIdeal.nD Cert.MlpBwdRIdeal.τ).loc Cert.MlpBwdRIdeal.main_arg2) = m' ((c.tc : Thread Cert.MlpBwdRIdeal.nD Cert.MlpBwdRIdeal.τ).loc Cert.MlpBwdRIdeal.main_arg2)
          ∧ r.2.mem ((c.tc : Thread Cert.MlpBwdRIdeal.nD Cert.MlpBwdRIdeal.τ).loc Cert.MlpBwdRIdeal.main_arg3) = m' ((c.tc : Thread Cert.MlpBwdRIdeal.nD Cert.MlpBwdRIdeal.τ).loc Cert.MlpBwdRIdeal.main_arg3)
          ∧ r.2.mem ((c.tc : Thread Cert.MlpBwdRIdeal.nD Cert.MlpBwdRIdeal.τ).loc Cert.MlpBwdRIdeal.main_arg4) = m' ((c.tc : Thread Cert.MlpBwdRIdeal.nD Cert.MlpBwdRIdeal.τ).loc Cert.MlpBwdRIdeal.main_arg4)
          ∧ r.2.mem ((c.tc : Thread Cert.MlpBwdRIdeal.nD Cert.MlpBwdRIdeal.τ).loc Cert.MlpBwdRIdeal.main_arg5) = m' ((c.tc : Thread Cert.MlpBwdRIdeal.nD Cert.MlpBwdRIdeal.τ).loc Cert.MlpBwdRIdeal.main_arg5)
          ∧ r.2.mem ((c.tc : Thread Cert.MlpBwdRIdeal.nD Cert.MlpBwdRIdeal.τ).loc Cert.MlpBwdRIdeal.main_arg6) = m' ((c.tc : Thread Cert.MlpBwdRIdeal.nD Cert.MlpBwdRIdeal.τ).loc Cert.MlpBwdRIdeal.main_arg6)
          ∧ r.2.mem ((c.tc : Thread Cert.MlpBwdRIdeal.nD Cert.MlpBwdRIdeal.τ).loc Cert.MlpBwdRIdeal.main_arg7) = m' ((c.tc : Thread Cert.MlpBwdRIdeal.nD Cert.MlpBwdRIdeal.τ).loc Cert.MlpBwdRIdeal.main_arg7))

def preserves_DwDownK_DwDownKIdeal : Prop :=
  True

def algebraic_DwDownKIdeal_DwDownRIdeal_pre_finite_dwdown [hDwDownKIdeal : Cert.DwDownKIdeal.Facts] [hDwDownRIdeal : Cert.DwDownRIdeal.Facts] [hPre_finite_dwdown : Cert.Pre_finite_dwdown.Facts] : Prop :=
  ∀ (m : (ℓ : Loc Cert.DwDownKIdeal.nD Cert.DwDownKIdeal.τ Cert.DwDownKIdeal.sig) → Buf (Elt Ideal) ℓ) (g : Dev Cert.DwDownKIdeal.nD → PrngReg)
    (m' : (ℓ : Loc Cert.DwDownRIdeal.nD Cert.DwDownRIdeal.τ Cert.DwDownRIdeal.sig) → Buf (Elt Ideal) ℓ) (g' : Dev Cert.DwDownRIdeal.nD → PrngReg), Pre_DwDownKIdeal_finite_dwdown m →
    (∀ c : Dev Cert.DwDownKIdeal.nD,
      m' ((c.tc : Thread Cert.DwDownRIdeal.nD Cert.DwDownRIdeal.τ).loc Cert.DwDownRIdeal.main_arg0) = m ((c.tc : Thread Cert.DwDownKIdeal.nD Cert.DwDownKIdeal.τ).loc Cert.DwDownKIdeal.main_arg0)
      ∧ m' ((c.tc : Thread Cert.DwDownRIdeal.nD Cert.DwDownRIdeal.τ).loc Cert.DwDownRIdeal.main_arg1) = m ((c.tc : Thread Cert.DwDownKIdeal.nD Cert.DwDownKIdeal.τ).loc Cert.DwDownKIdeal.main_arg1)
      ∧ m' ((c.tc : Thread Cert.DwDownRIdeal.nD Cert.DwDownRIdeal.τ).loc Cert.DwDownRIdeal.main_arg2) = m ((c.tc : Thread Cert.DwDownKIdeal.nD Cert.DwDownKIdeal.τ).loc Cert.DwDownKIdeal.main_arg2)
      ∧ m' ((c.tc : Thread Cert.DwDownRIdeal.nD Cert.DwDownRIdeal.τ).loc Cert.DwDownRIdeal.main_arg3) = m ((c.tc : Thread Cert.DwDownKIdeal.nD Cert.DwDownKIdeal.τ).loc Cert.DwDownKIdeal.main_arg3)) →
    ∃ (v0 : (c : Dev Cert.DwDownKIdeal.nD) → Buf (Elt Ideal) ((c.tc : Thread Cert.DwDownKIdeal.nD Cert.DwDownKIdeal.τ).loc Cert.DwDownKIdeal.main_v4_0)) (v1 : (c : Dev Cert.DwDownKIdeal.nD) → Buf (Elt Ideal) ((c.tc : Thread Cert.DwDownKIdeal.nD Cert.DwDownKIdeal.τ).loc Cert.DwDownKIdeal.main_v4_1)),
      θ_run (Cert.DwDownKIdeal.defs (F := Ideal)) (onTc (τ := Cert.DwDownKIdeal.τ) (Cert.DwDownKIdeal.main (F := Ideal))) ⟨m, fun _ => 0, g⟩ (fun r => ∀ c : Dev Cert.DwDownKIdeal.nD,
          r.2.mem ((c.tc : Thread Cert.DwDownKIdeal.nD Cert.DwDownKIdeal.τ).loc Cert.DwDownKIdeal.main_v4_0) = v0 c
          ∧ r.2.mem ((c.tc : Thread Cert.DwDownKIdeal.nD Cert.DwDownKIdeal.τ).loc Cert.DwDownKIdeal.main_v4_1) = v1 c
          ∧ r.2.mem ((c.tc : Thread Cert.DwDownKIdeal.nD Cert.DwDownKIdeal.τ).loc Cert.DwDownKIdeal.main_arg0) = m ((c.tc : Thread Cert.DwDownKIdeal.nD Cert.DwDownKIdeal.τ).loc Cert.DwDownKIdeal.main_arg0)
          ∧ r.2.mem ((c.tc : Thread Cert.DwDownKIdeal.nD Cert.DwDownKIdeal.τ).loc Cert.DwDownKIdeal.main_arg1) = m ((c.tc : Thread Cert.DwDownKIdeal.nD Cert.DwDownKIdeal.τ).loc Cert.DwDownKIdeal.main_arg1)
          ∧ r.2.mem ((c.tc : Thread Cert.DwDownKIdeal.nD Cert.DwDownKIdeal.τ).loc Cert.DwDownKIdeal.main_arg2) = m ((c.tc : Thread Cert.DwDownKIdeal.nD Cert.DwDownKIdeal.τ).loc Cert.DwDownKIdeal.main_arg2)
          ∧ r.2.mem ((c.tc : Thread Cert.DwDownKIdeal.nD Cert.DwDownKIdeal.τ).loc Cert.DwDownKIdeal.main_arg3) = m ((c.tc : Thread Cert.DwDownKIdeal.nD Cert.DwDownKIdeal.τ).loc Cert.DwDownKIdeal.main_arg3))
      ∧ θ_run (Cert.DwDownRIdeal.defs (F := Ideal)) (onTc (τ := Cert.DwDownRIdeal.τ) (Cert.DwDownRIdeal.main (F := Ideal))) ⟨m', fun _ => 0, g'⟩ (fun r => ∀ c : Dev Cert.DwDownRIdeal.nD,
          r.2.mem ((c.tc : Thread Cert.DwDownRIdeal.nD Cert.DwDownRIdeal.τ).loc Cert.DwDownRIdeal.main_v14) = v0 c
          ∧ r.2.mem ((c.tc : Thread Cert.DwDownRIdeal.nD Cert.DwDownRIdeal.τ).loc Cert.DwDownRIdeal.main_v15) = v1 c
          ∧ r.2.mem ((c.tc : Thread Cert.DwDownRIdeal.nD Cert.DwDownRIdeal.τ).loc Cert.DwDownRIdeal.main_arg0) = m' ((c.tc : Thread Cert.DwDownRIdeal.nD Cert.DwDownRIdeal.τ).loc Cert.DwDownRIdeal.main_arg0)
          ∧ r.2.mem ((c.tc : Thread Cert.DwDownRIdeal.nD Cert.DwDownRIdeal.τ).loc Cert.DwDownRIdeal.main_arg1) = m' ((c.tc : Thread Cert.DwDownRIdeal.nD Cert.DwDownRIdeal.τ).loc Cert.DwDownRIdeal.main_arg1)
          ∧ r.2.mem ((c.tc : Thread Cert.DwDownRIdeal.nD Cert.DwDownRIdeal.τ).loc Cert.DwDownRIdeal.main_arg2) = m' ((c.tc : Thread Cert.DwDownRIdeal.nD Cert.DwDownRIdeal.τ).loc Cert.DwDownRIdeal.main_arg2)
          ∧ r.2.mem ((c.tc : Thread Cert.DwDownRIdeal.nD Cert.DwDownRIdeal.τ).loc Cert.DwDownRIdeal.main_arg3) = m' ((c.tc : Thread Cert.DwDownRIdeal.nD Cert.DwDownRIdeal.τ).loc Cert.DwDownRIdeal.main_arg3))

def preserves_ConvLruK_ConvLruKIdeal : Prop :=
  True

def algebraic_ConvLruKIdeal_ConvLruRIdeal [hConvLruKIdeal : Cert.ConvLruKIdeal.Facts] [hConvLruRIdeal : Cert.ConvLruRIdeal.Facts] : Prop :=
  ∀ (m : (ℓ : Loc Cert.ConvLruKIdeal.nD Cert.ConvLruKIdeal.τ Cert.ConvLruKIdeal.sig) → Buf (Elt Ideal) ℓ) (g : Dev Cert.ConvLruKIdeal.nD → PrngReg)
    (m' : (ℓ : Loc Cert.ConvLruRIdeal.nD Cert.ConvLruRIdeal.τ Cert.ConvLruRIdeal.sig) → Buf (Elt Ideal) ℓ) (g' : Dev Cert.ConvLruRIdeal.nD → PrngReg), Pre_ConvLruKIdeal m →
    (∀ c : Dev Cert.ConvLruKIdeal.nD,
      m' ((c.tc : Thread Cert.ConvLruRIdeal.nD Cert.ConvLruRIdeal.τ).loc Cert.ConvLruRIdeal.main_arg0) = m ((c.tc : Thread Cert.ConvLruKIdeal.nD Cert.ConvLruKIdeal.τ).loc Cert.ConvLruKIdeal.main_arg0)
      ∧ m' ((c.tc : Thread Cert.ConvLruRIdeal.nD Cert.ConvLruRIdeal.τ).loc Cert.ConvLruRIdeal.main_arg1) = m ((c.tc : Thread Cert.ConvLruKIdeal.nD Cert.ConvLruKIdeal.τ).loc Cert.ConvLruKIdeal.main_arg1)
      ∧ m' ((c.tc : Thread Cert.ConvLruRIdeal.nD Cert.ConvLruRIdeal.τ).loc Cert.ConvLruRIdeal.main_arg2) = m ((c.tc : Thread Cert.ConvLruKIdeal.nD Cert.ConvLruKIdeal.τ).loc Cert.ConvLruKIdeal.main_arg2)
      ∧ m' ((c.tc : Thread Cert.ConvLruRIdeal.nD Cert.ConvLruRIdeal.τ).loc Cert.ConvLruRIdeal.main_arg3) = m ((c.tc : Thread Cert.ConvLruKIdeal.nD Cert.ConvLruKIdeal.τ).loc Cert.ConvLruKIdeal.main_arg3)) →
    ∃ (v0 : (c : Dev Cert.ConvLruKIdeal.nD) → Buf (Elt Ideal) ((c.tc : Thread Cert.ConvLruKIdeal.nD Cert.ConvLruKIdeal.τ).loc Cert.ConvLruKIdeal.main_v3_0)) (v1 : (c : Dev Cert.ConvLruKIdeal.nD) → Buf (Elt Ideal) ((c.tc : Thread Cert.ConvLruKIdeal.nD Cert.ConvLruKIdeal.τ).loc Cert.ConvLruKIdeal.main_v3_1)) (v2 : (c : Dev Cert.ConvLruKIdeal.nD) → Buf (Elt Ideal) ((c.tc : Thread Cert.ConvLruKIdeal.nD Cert.ConvLruKIdeal.τ).loc Cert.ConvLruKIdeal.main_v3_2)),
      θ_run (Cert.ConvLruKIdeal.defs (F := Ideal)) (onTc (τ := Cert.ConvLruKIdeal.τ) (Cert.ConvLruKIdeal.main (F := Ideal))) ⟨m, fun _ => 0, g⟩ (fun r => ∀ c : Dev Cert.ConvLruKIdeal.nD,
          r.2.mem ((c.tc : Thread Cert.ConvLruKIdeal.nD Cert.ConvLruKIdeal.τ).loc Cert.ConvLruKIdeal.main_v3_0) = v0 c
          ∧ r.2.mem ((c.tc : Thread Cert.ConvLruKIdeal.nD Cert.ConvLruKIdeal.τ).loc Cert.ConvLruKIdeal.main_v3_1) = v1 c
          ∧ r.2.mem ((c.tc : Thread Cert.ConvLruKIdeal.nD Cert.ConvLruKIdeal.τ).loc Cert.ConvLruKIdeal.main_v3_2) = v2 c
          ∧ r.2.mem ((c.tc : Thread Cert.ConvLruKIdeal.nD Cert.ConvLruKIdeal.τ).loc Cert.ConvLruKIdeal.main_arg0) = m ((c.tc : Thread Cert.ConvLruKIdeal.nD Cert.ConvLruKIdeal.τ).loc Cert.ConvLruKIdeal.main_arg0)
          ∧ r.2.mem ((c.tc : Thread Cert.ConvLruKIdeal.nD Cert.ConvLruKIdeal.τ).loc Cert.ConvLruKIdeal.main_arg1) = m ((c.tc : Thread Cert.ConvLruKIdeal.nD Cert.ConvLruKIdeal.τ).loc Cert.ConvLruKIdeal.main_arg1)
          ∧ r.2.mem ((c.tc : Thread Cert.ConvLruKIdeal.nD Cert.ConvLruKIdeal.τ).loc Cert.ConvLruKIdeal.main_arg2) = m ((c.tc : Thread Cert.ConvLruKIdeal.nD Cert.ConvLruKIdeal.τ).loc Cert.ConvLruKIdeal.main_arg2)
          ∧ r.2.mem ((c.tc : Thread Cert.ConvLruKIdeal.nD Cert.ConvLruKIdeal.τ).loc Cert.ConvLruKIdeal.main_arg3) = m ((c.tc : Thread Cert.ConvLruKIdeal.nD Cert.ConvLruKIdeal.τ).loc Cert.ConvLruKIdeal.main_arg3))
      ∧ θ_run (Cert.ConvLruRIdeal.defs (F := Ideal)) (onTc (τ := Cert.ConvLruRIdeal.τ) (Cert.ConvLruRIdeal.main (F := Ideal))) ⟨m', fun _ => 0, g'⟩ (fun r => ∀ c : Dev Cert.ConvLruRIdeal.nD,
          r.2.mem ((c.tc : Thread Cert.ConvLruRIdeal.nD Cert.ConvLruRIdeal.τ).loc Cert.ConvLruRIdeal.main_v81) = v0 c
          ∧ r.2.mem ((c.tc : Thread Cert.ConvLruRIdeal.nD Cert.ConvLruRIdeal.τ).loc Cert.ConvLruRIdeal.main_v82) = v1 c
          ∧ r.2.mem ((c.tc : Thread Cert.ConvLruRIdeal.nD Cert.ConvLruRIdeal.τ).loc Cert.ConvLruRIdeal.main_v83) = v2 c
          ∧ r.2.mem ((c.tc : Thread Cert.ConvLruRIdeal.nD Cert.ConvLruRIdeal.τ).loc Cert.ConvLruRIdeal.main_arg0) = m' ((c.tc : Thread Cert.ConvLruRIdeal.nD Cert.ConvLruRIdeal.τ).loc Cert.ConvLruRIdeal.main_arg0)
          ∧ r.2.mem ((c.tc : Thread Cert.ConvLruRIdeal.nD Cert.ConvLruRIdeal.τ).loc Cert.ConvLruRIdeal.main_arg1) = m' ((c.tc : Thread Cert.ConvLruRIdeal.nD Cert.ConvLruRIdeal.τ).loc Cert.ConvLruRIdeal.main_arg1)
          ∧ r.2.mem ((c.tc : Thread Cert.ConvLruRIdeal.nD Cert.ConvLruRIdeal.τ).loc Cert.ConvLruRIdeal.main_arg2) = m' ((c.tc : Thread Cert.ConvLruRIdeal.nD Cert.ConvLruRIdeal.τ).loc Cert.ConvLruRIdeal.main_arg2)
          ∧ r.2.mem ((c.tc : Thread Cert.ConvLruRIdeal.nD Cert.ConvLruRIdeal.τ).loc Cert.ConvLruRIdeal.main_arg3) = m' ((c.tc : Thread Cert.ConvLruRIdeal.nD Cert.ConvLruRIdeal.τ).loc Cert.ConvLruRIdeal.main_arg3))

def preserves_ConvGdnK_ConvGdnKIdeal : Prop :=
  True

def algebraic_ConvGdnKIdeal_ConvGdnRIdeal_pre_finite_convgdn [hConvGdnKIdeal : Cert.ConvGdnKIdeal.Facts] [hConvGdnRIdeal : Cert.ConvGdnRIdeal.Facts] [hPre_finite_convgdn : Cert.Pre_finite_convgdn.Facts] : Prop :=
  ∀ (m : (ℓ : Loc Cert.ConvGdnKIdeal.nD Cert.ConvGdnKIdeal.τ Cert.ConvGdnKIdeal.sig) → Buf (Elt Ideal) ℓ) (g : Dev Cert.ConvGdnKIdeal.nD → PrngReg)
    (m' : (ℓ : Loc Cert.ConvGdnRIdeal.nD Cert.ConvGdnRIdeal.τ Cert.ConvGdnRIdeal.sig) → Buf (Elt Ideal) ℓ) (g' : Dev Cert.ConvGdnRIdeal.nD → PrngReg), Pre_ConvGdnKIdeal_finite_convgdn m →
    (∀ c : Dev Cert.ConvGdnKIdeal.nD,
      m' ((c.tc : Thread Cert.ConvGdnRIdeal.nD Cert.ConvGdnRIdeal.τ).loc Cert.ConvGdnRIdeal.main_arg0) = m ((c.tc : Thread Cert.ConvGdnKIdeal.nD Cert.ConvGdnKIdeal.τ).loc Cert.ConvGdnKIdeal.main_arg0)
      ∧ m' ((c.tc : Thread Cert.ConvGdnRIdeal.nD Cert.ConvGdnRIdeal.τ).loc Cert.ConvGdnRIdeal.main_arg1) = m ((c.tc : Thread Cert.ConvGdnKIdeal.nD Cert.ConvGdnKIdeal.τ).loc Cert.ConvGdnKIdeal.main_arg1)
      ∧ m' ((c.tc : Thread Cert.ConvGdnRIdeal.nD Cert.ConvGdnRIdeal.τ).loc Cert.ConvGdnRIdeal.main_arg2) = m ((c.tc : Thread Cert.ConvGdnKIdeal.nD Cert.ConvGdnKIdeal.τ).loc Cert.ConvGdnKIdeal.main_arg2)) →
    ∃ (v0 : (c : Dev Cert.ConvGdnKIdeal.nD) → Buf (Elt Ideal) ((c.tc : Thread Cert.ConvGdnKIdeal.nD Cert.ConvGdnKIdeal.τ).loc Cert.ConvGdnKIdeal.main_v3_0)) (v1 : (c : Dev Cert.ConvGdnKIdeal.nD) → Buf (Elt Ideal) ((c.tc : Thread Cert.ConvGdnKIdeal.nD Cert.ConvGdnKIdeal.τ).loc Cert.ConvGdnKIdeal.main_v3_1)),
      θ_run (Cert.ConvGdnKIdeal.defs (F := Ideal)) (onTc (τ := Cert.ConvGdnKIdeal.τ) (Cert.ConvGdnKIdeal.main (F := Ideal))) ⟨m, fun _ => 0, g⟩ (fun r => ∀ c : Dev Cert.ConvGdnKIdeal.nD,
          r.2.mem ((c.tc : Thread Cert.ConvGdnKIdeal.nD Cert.ConvGdnKIdeal.τ).loc Cert.ConvGdnKIdeal.main_v3_0) = v0 c
          ∧ r.2.mem ((c.tc : Thread Cert.ConvGdnKIdeal.nD Cert.ConvGdnKIdeal.τ).loc Cert.ConvGdnKIdeal.main_v3_1) = v1 c
          ∧ r.2.mem ((c.tc : Thread Cert.ConvGdnKIdeal.nD Cert.ConvGdnKIdeal.τ).loc Cert.ConvGdnKIdeal.main_arg0) = m ((c.tc : Thread Cert.ConvGdnKIdeal.nD Cert.ConvGdnKIdeal.τ).loc Cert.ConvGdnKIdeal.main_arg0)
          ∧ r.2.mem ((c.tc : Thread Cert.ConvGdnKIdeal.nD Cert.ConvGdnKIdeal.τ).loc Cert.ConvGdnKIdeal.main_arg1) = m ((c.tc : Thread Cert.ConvGdnKIdeal.nD Cert.ConvGdnKIdeal.τ).loc Cert.ConvGdnKIdeal.main_arg1)
          ∧ r.2.mem ((c.tc : Thread Cert.ConvGdnKIdeal.nD Cert.ConvGdnKIdeal.τ).loc Cert.ConvGdnKIdeal.main_arg2) = m ((c.tc : Thread Cert.ConvGdnKIdeal.nD Cert.ConvGdnKIdeal.τ).loc Cert.ConvGdnKIdeal.main_arg2))
      ∧ θ_run (Cert.ConvGdnRIdeal.defs (F := Ideal)) (onTc (τ := Cert.ConvGdnRIdeal.τ) (Cert.ConvGdnRIdeal.main (F := Ideal))) ⟨m', fun _ => 0, g'⟩ (fun r => ∀ c : Dev Cert.ConvGdnRIdeal.nD,
          r.2.mem ((c.tc : Thread Cert.ConvGdnRIdeal.nD Cert.ConvGdnRIdeal.τ).loc Cert.ConvGdnRIdeal.main_v76) = v0 c
          ∧ r.2.mem ((c.tc : Thread Cert.ConvGdnRIdeal.nD Cert.ConvGdnRIdeal.τ).loc Cert.ConvGdnRIdeal.main_v77) = v1 c
          ∧ r.2.mem ((c.tc : Thread Cert.ConvGdnRIdeal.nD Cert.ConvGdnRIdeal.τ).loc Cert.ConvGdnRIdeal.main_arg0) = m' ((c.tc : Thread Cert.ConvGdnRIdeal.nD Cert.ConvGdnRIdeal.τ).loc Cert.ConvGdnRIdeal.main_arg0)
          ∧ r.2.mem ((c.tc : Thread Cert.ConvGdnRIdeal.nD Cert.ConvGdnRIdeal.τ).loc Cert.ConvGdnRIdeal.main_arg1) = m' ((c.tc : Thread Cert.ConvGdnRIdeal.nD Cert.ConvGdnRIdeal.τ).loc Cert.ConvGdnRIdeal.main_arg1)
          ∧ r.2.mem ((c.tc : Thread Cert.ConvGdnRIdeal.nD Cert.ConvGdnRIdeal.τ).loc Cert.ConvGdnRIdeal.main_arg2) = m' ((c.tc : Thread Cert.ConvGdnRIdeal.nD Cert.ConvGdnRIdeal.τ).loc Cert.ConvGdnRIdeal.main_arg2))

def preserves_OutBwdK_OutBwdKIdeal : Prop :=
  True

def algebraic_OutBwdKIdeal_OutBwdRIdeal_pre_finite_outbwd [hOutBwdKIdeal : Cert.OutBwdKIdeal.Facts] [hOutBwdRIdeal : Cert.OutBwdRIdeal.Facts] [hPre_finite_outbwd : Cert.Pre_finite_outbwd.Facts] : Prop :=
  ∀ (m : (ℓ : Loc Cert.OutBwdKIdeal.nD Cert.OutBwdKIdeal.τ Cert.OutBwdKIdeal.sig) → Buf (Elt Ideal) ℓ) (g : Dev Cert.OutBwdKIdeal.nD → PrngReg)
    (m' : (ℓ : Loc Cert.OutBwdRIdeal.nD Cert.OutBwdRIdeal.τ Cert.OutBwdRIdeal.sig) → Buf (Elt Ideal) ℓ) (g' : Dev Cert.OutBwdRIdeal.nD → PrngReg), Pre_OutBwdKIdeal_finite_outbwd m →
    (∀ c : Dev Cert.OutBwdKIdeal.nD,
      m' ((c.tc : Thread Cert.OutBwdRIdeal.nD Cert.OutBwdRIdeal.τ).loc Cert.OutBwdRIdeal.main_arg0) = m ((c.tc : Thread Cert.OutBwdKIdeal.nD Cert.OutBwdKIdeal.τ).loc Cert.OutBwdKIdeal.main_arg0)
      ∧ m' ((c.tc : Thread Cert.OutBwdRIdeal.nD Cert.OutBwdRIdeal.τ).loc Cert.OutBwdRIdeal.main_arg1) = m ((c.tc : Thread Cert.OutBwdKIdeal.nD Cert.OutBwdKIdeal.τ).loc Cert.OutBwdKIdeal.main_arg1)
      ∧ m' ((c.tc : Thread Cert.OutBwdRIdeal.nD Cert.OutBwdRIdeal.τ).loc Cert.OutBwdRIdeal.main_arg2) = m ((c.tc : Thread Cert.OutBwdKIdeal.nD Cert.OutBwdKIdeal.τ).loc Cert.OutBwdKIdeal.main_arg2)
      ∧ m' ((c.tc : Thread Cert.OutBwdRIdeal.nD Cert.OutBwdRIdeal.τ).loc Cert.OutBwdRIdeal.main_arg3) = m ((c.tc : Thread Cert.OutBwdKIdeal.nD Cert.OutBwdKIdeal.τ).loc Cert.OutBwdKIdeal.main_arg3)
      ∧ m' ((c.tc : Thread Cert.OutBwdRIdeal.nD Cert.OutBwdRIdeal.τ).loc Cert.OutBwdRIdeal.main_arg4) = m ((c.tc : Thread Cert.OutBwdKIdeal.nD Cert.OutBwdKIdeal.τ).loc Cert.OutBwdKIdeal.main_arg4)
      ∧ m' ((c.tc : Thread Cert.OutBwdRIdeal.nD Cert.OutBwdRIdeal.τ).loc Cert.OutBwdRIdeal.main_arg5) = m ((c.tc : Thread Cert.OutBwdKIdeal.nD Cert.OutBwdKIdeal.τ).loc Cert.OutBwdKIdeal.main_arg5)
      ∧ m' ((c.tc : Thread Cert.OutBwdRIdeal.nD Cert.OutBwdRIdeal.τ).loc Cert.OutBwdRIdeal.main_arg6) = m ((c.tc : Thread Cert.OutBwdKIdeal.nD Cert.OutBwdKIdeal.τ).loc Cert.OutBwdKIdeal.main_arg6)
      ∧ m' ((c.tc : Thread Cert.OutBwdRIdeal.nD Cert.OutBwdRIdeal.τ).loc Cert.OutBwdRIdeal.main_arg7) = m ((c.tc : Thread Cert.OutBwdKIdeal.nD Cert.OutBwdKIdeal.τ).loc Cert.OutBwdKIdeal.main_arg7)) →
    ∃ (v0 : (c : Dev Cert.OutBwdKIdeal.nD) → Buf (Elt Ideal) ((c.tc : Thread Cert.OutBwdKIdeal.nD Cert.OutBwdKIdeal.τ).loc Cert.OutBwdKIdeal.main_v25_0)) (v1 : (c : Dev Cert.OutBwdKIdeal.nD) → Buf (Elt Ideal) ((c.tc : Thread Cert.OutBwdKIdeal.nD Cert.OutBwdKIdeal.τ).loc Cert.OutBwdKIdeal.main_v25_1)) (v2 : (c : Dev Cert.OutBwdKIdeal.nD) → Buf (Elt Ideal) ((c.tc : Thread Cert.OutBwdKIdeal.nD Cert.OutBwdKIdeal.τ).loc Cert.OutBwdKIdeal.main_v25_2)) (v3 : (c : Dev Cert.OutBwdKIdeal.nD) → Buf (Elt Ideal) ((c.tc : Thread Cert.OutBwdKIdeal.nD Cert.OutBwdKIdeal.τ).loc Cert.OutBwdKIdeal.main_v25_3)) (v4 : (c : Dev Cert.OutBwdKIdeal.nD) → Buf (Elt Ideal) ((c.tc : Thread Cert.OutBwdKIdeal.nD Cert.OutBwdKIdeal.τ).loc Cert.OutBwdKIdeal.main_v25_4)) (v5 : (c : Dev Cert.OutBwdKIdeal.nD) → Buf (Elt Ideal) ((c.tc : Thread Cert.OutBwdKIdeal.nD Cert.OutBwdKIdeal.τ).loc Cert.OutBwdKIdeal.main_v25_5)),
      θ_run (Cert.OutBwdKIdeal.defs (F := Ideal)) (onTc (τ := Cert.OutBwdKIdeal.τ) (Cert.OutBwdKIdeal.main (F := Ideal))) ⟨m, fun _ => 0, g⟩ (fun r => ∀ c : Dev Cert.OutBwdKIdeal.nD,
          r.2.mem ((c.tc : Thread Cert.OutBwdKIdeal.nD Cert.OutBwdKIdeal.τ).loc Cert.OutBwdKIdeal.main_v25_0) = v0 c
          ∧ r.2.mem ((c.tc : Thread Cert.OutBwdKIdeal.nD Cert.OutBwdKIdeal.τ).loc Cert.OutBwdKIdeal.main_v25_1) = v1 c
          ∧ r.2.mem ((c.tc : Thread Cert.OutBwdKIdeal.nD Cert.OutBwdKIdeal.τ).loc Cert.OutBwdKIdeal.main_v25_2) = v2 c
          ∧ r.2.mem ((c.tc : Thread Cert.OutBwdKIdeal.nD Cert.OutBwdKIdeal.τ).loc Cert.OutBwdKIdeal.main_v25_3) = v3 c
          ∧ r.2.mem ((c.tc : Thread Cert.OutBwdKIdeal.nD Cert.OutBwdKIdeal.τ).loc Cert.OutBwdKIdeal.main_v25_4) = v4 c
          ∧ r.2.mem ((c.tc : Thread Cert.OutBwdKIdeal.nD Cert.OutBwdKIdeal.τ).loc Cert.OutBwdKIdeal.main_v25_5) = v5 c
          ∧ r.2.mem ((c.tc : Thread Cert.OutBwdKIdeal.nD Cert.OutBwdKIdeal.τ).loc Cert.OutBwdKIdeal.main_arg0) = m ((c.tc : Thread Cert.OutBwdKIdeal.nD Cert.OutBwdKIdeal.τ).loc Cert.OutBwdKIdeal.main_arg0)
          ∧ r.2.mem ((c.tc : Thread Cert.OutBwdKIdeal.nD Cert.OutBwdKIdeal.τ).loc Cert.OutBwdKIdeal.main_arg1) = m ((c.tc : Thread Cert.OutBwdKIdeal.nD Cert.OutBwdKIdeal.τ).loc Cert.OutBwdKIdeal.main_arg1)
          ∧ r.2.mem ((c.tc : Thread Cert.OutBwdKIdeal.nD Cert.OutBwdKIdeal.τ).loc Cert.OutBwdKIdeal.main_arg2) = m ((c.tc : Thread Cert.OutBwdKIdeal.nD Cert.OutBwdKIdeal.τ).loc Cert.OutBwdKIdeal.main_arg2)
          ∧ r.2.mem ((c.tc : Thread Cert.OutBwdKIdeal.nD Cert.OutBwdKIdeal.τ).loc Cert.OutBwdKIdeal.main_arg3) = m ((c.tc : Thread Cert.OutBwdKIdeal.nD Cert.OutBwdKIdeal.τ).loc Cert.OutBwdKIdeal.main_arg3)
          ∧ r.2.mem ((c.tc : Thread Cert.OutBwdKIdeal.nD Cert.OutBwdKIdeal.τ).loc Cert.OutBwdKIdeal.main_arg4) = m ((c.tc : Thread Cert.OutBwdKIdeal.nD Cert.OutBwdKIdeal.τ).loc Cert.OutBwdKIdeal.main_arg4)
          ∧ r.2.mem ((c.tc : Thread Cert.OutBwdKIdeal.nD Cert.OutBwdKIdeal.τ).loc Cert.OutBwdKIdeal.main_arg5) = m ((c.tc : Thread Cert.OutBwdKIdeal.nD Cert.OutBwdKIdeal.τ).loc Cert.OutBwdKIdeal.main_arg5)
          ∧ r.2.mem ((c.tc : Thread Cert.OutBwdKIdeal.nD Cert.OutBwdKIdeal.τ).loc Cert.OutBwdKIdeal.main_arg6) = m ((c.tc : Thread Cert.OutBwdKIdeal.nD Cert.OutBwdKIdeal.τ).loc Cert.OutBwdKIdeal.main_arg6)
          ∧ r.2.mem ((c.tc : Thread Cert.OutBwdKIdeal.nD Cert.OutBwdKIdeal.τ).loc Cert.OutBwdKIdeal.main_arg7) = m ((c.tc : Thread Cert.OutBwdKIdeal.nD Cert.OutBwdKIdeal.τ).loc Cert.OutBwdKIdeal.main_arg7))
      ∧ θ_run (Cert.OutBwdRIdeal.defs (F := Ideal)) (onTc (τ := Cert.OutBwdRIdeal.τ) (Cert.OutBwdRIdeal.main (F := Ideal))) ⟨m', fun _ => 0, g'⟩ (fun r => ∀ c : Dev Cert.OutBwdRIdeal.nD,
          r.2.mem ((c.tc : Thread Cert.OutBwdRIdeal.nD Cert.OutBwdRIdeal.τ).loc Cert.OutBwdRIdeal.main_v35) = v0 c
          ∧ r.2.mem ((c.tc : Thread Cert.OutBwdRIdeal.nD Cert.OutBwdRIdeal.τ).loc Cert.OutBwdRIdeal.main_v62) = v1 c
          ∧ r.2.mem ((c.tc : Thread Cert.OutBwdRIdeal.nD Cert.OutBwdRIdeal.τ).loc Cert.OutBwdRIdeal.main_v41) = v2 c
          ∧ r.2.mem ((c.tc : Thread Cert.OutBwdRIdeal.nD Cert.OutBwdRIdeal.τ).loc Cert.OutBwdRIdeal.main_v63) = v3 c
          ∧ r.2.mem ((c.tc : Thread Cert.OutBwdRIdeal.nD Cert.OutBwdRIdeal.τ).loc Cert.OutBwdRIdeal.main_v64) = v4 c
          ∧ r.2.mem ((c.tc : Thread Cert.OutBwdRIdeal.nD Cert.OutBwdRIdeal.τ).loc Cert.OutBwdRIdeal.main_v65) = v5 c
          ∧ r.2.mem ((c.tc : Thread Cert.OutBwdRIdeal.nD Cert.OutBwdRIdeal.τ).loc Cert.OutBwdRIdeal.main_arg0) = m' ((c.tc : Thread Cert.OutBwdRIdeal.nD Cert.OutBwdRIdeal.τ).loc Cert.OutBwdRIdeal.main_arg0)
          ∧ r.2.mem ((c.tc : Thread Cert.OutBwdRIdeal.nD Cert.OutBwdRIdeal.τ).loc Cert.OutBwdRIdeal.main_arg1) = m' ((c.tc : Thread Cert.OutBwdRIdeal.nD Cert.OutBwdRIdeal.τ).loc Cert.OutBwdRIdeal.main_arg1)
          ∧ r.2.mem ((c.tc : Thread Cert.OutBwdRIdeal.nD Cert.OutBwdRIdeal.τ).loc Cert.OutBwdRIdeal.main_arg2) = m' ((c.tc : Thread Cert.OutBwdRIdeal.nD Cert.OutBwdRIdeal.τ).loc Cert.OutBwdRIdeal.main_arg2)
          ∧ r.2.mem ((c.tc : Thread Cert.OutBwdRIdeal.nD Cert.OutBwdRIdeal.τ).loc Cert.OutBwdRIdeal.main_arg3) = m' ((c.tc : Thread Cert.OutBwdRIdeal.nD Cert.OutBwdRIdeal.τ).loc Cert.OutBwdRIdeal.main_arg3)
          ∧ r.2.mem ((c.tc : Thread Cert.OutBwdRIdeal.nD Cert.OutBwdRIdeal.τ).loc Cert.OutBwdRIdeal.main_arg4) = m' ((c.tc : Thread Cert.OutBwdRIdeal.nD Cert.OutBwdRIdeal.τ).loc Cert.OutBwdRIdeal.main_arg4)
          ∧ r.2.mem ((c.tc : Thread Cert.OutBwdRIdeal.nD Cert.OutBwdRIdeal.τ).loc Cert.OutBwdRIdeal.main_arg5) = m' ((c.tc : Thread Cert.OutBwdRIdeal.nD Cert.OutBwdRIdeal.τ).loc Cert.OutBwdRIdeal.main_arg5)
          ∧ r.2.mem ((c.tc : Thread Cert.OutBwdRIdeal.nD Cert.OutBwdRIdeal.τ).loc Cert.OutBwdRIdeal.main_arg6) = m' ((c.tc : Thread Cert.OutBwdRIdeal.nD Cert.OutBwdRIdeal.τ).loc Cert.OutBwdRIdeal.main_arg6)
          ∧ r.2.mem ((c.tc : Thread Cert.OutBwdRIdeal.nD Cert.OutBwdRIdeal.τ).loc Cert.OutBwdRIdeal.main_arg7) = m' ((c.tc : Thread Cert.OutBwdRIdeal.nD Cert.OutBwdRIdeal.τ).loc Cert.OutBwdRIdeal.main_arg7))

def preserves_LruBwdK_LruBwdKIdeal : Prop :=
  True

def algebraic_LruBwdKIdeal_LruBwdRIdeal_pre_finite_lrubwd [hLruBwdKIdeal : Cert.LruBwdKIdeal.Facts] [hLruBwdRIdeal : Cert.LruBwdRIdeal.Facts] [hPre_finite_lrubwd : Cert.Pre_finite_lrubwd.Facts] : Prop :=
  ∀ (m : (ℓ : Loc Cert.LruBwdKIdeal.nD Cert.LruBwdKIdeal.τ Cert.LruBwdKIdeal.sig) → Buf (Elt Ideal) ℓ) (g : Dev Cert.LruBwdKIdeal.nD → PrngReg)
    (m' : (ℓ : Loc Cert.LruBwdRIdeal.nD Cert.LruBwdRIdeal.τ Cert.LruBwdRIdeal.sig) → Buf (Elt Ideal) ℓ) (g' : Dev Cert.LruBwdRIdeal.nD → PrngReg), Pre_LruBwdKIdeal_finite_lrubwd m →
    (∀ c : Dev Cert.LruBwdKIdeal.nD,
      m' ((c.tc : Thread Cert.LruBwdRIdeal.nD Cert.LruBwdRIdeal.τ).loc Cert.LruBwdRIdeal.main_arg0) = m ((c.tc : Thread Cert.LruBwdKIdeal.nD Cert.LruBwdKIdeal.τ).loc Cert.LruBwdKIdeal.main_arg0)
      ∧ m' ((c.tc : Thread Cert.LruBwdRIdeal.nD Cert.LruBwdRIdeal.τ).loc Cert.LruBwdRIdeal.main_arg1) = m ((c.tc : Thread Cert.LruBwdKIdeal.nD Cert.LruBwdKIdeal.τ).loc Cert.LruBwdKIdeal.main_arg1)
      ∧ m' ((c.tc : Thread Cert.LruBwdRIdeal.nD Cert.LruBwdRIdeal.τ).loc Cert.LruBwdRIdeal.main_arg2) = m ((c.tc : Thread Cert.LruBwdKIdeal.nD Cert.LruBwdKIdeal.τ).loc Cert.LruBwdKIdeal.main_arg2)
      ∧ m' ((c.tc : Thread Cert.LruBwdRIdeal.nD Cert.LruBwdRIdeal.τ).loc Cert.LruBwdRIdeal.main_arg3) = m ((c.tc : Thread Cert.LruBwdKIdeal.nD Cert.LruBwdKIdeal.τ).loc Cert.LruBwdKIdeal.main_arg3)
      ∧ m' ((c.tc : Thread Cert.LruBwdRIdeal.nD Cert.LruBwdRIdeal.τ).loc Cert.LruBwdRIdeal.main_arg4) = m ((c.tc : Thread Cert.LruBwdKIdeal.nD Cert.LruBwdKIdeal.τ).loc Cert.LruBwdKIdeal.main_arg4)
      ∧ m' ((c.tc : Thread Cert.LruBwdRIdeal.nD Cert.LruBwdRIdeal.τ).loc Cert.LruBwdRIdeal.main_arg5) = m ((c.tc : Thread Cert.LruBwdKIdeal.nD Cert.LruBwdKIdeal.τ).loc Cert.LruBwdKIdeal.main_arg5)
      ∧ m' ((c.tc : Thread Cert.LruBwdRIdeal.nD Cert.LruBwdRIdeal.τ).loc Cert.LruBwdRIdeal.main_arg6) = m ((c.tc : Thread Cert.LruBwdKIdeal.nD Cert.LruBwdKIdeal.τ).loc Cert.LruBwdKIdeal.main_arg6)
      ∧ m' ((c.tc : Thread Cert.LruBwdRIdeal.nD Cert.LruBwdRIdeal.τ).loc Cert.LruBwdRIdeal.main_arg7) = m ((c.tc : Thread Cert.LruBwdKIdeal.nD Cert.LruBwdKIdeal.τ).loc Cert.LruBwdKIdeal.main_arg7)
      ∧ m' ((c.tc : Thread Cert.LruBwdRIdeal.nD Cert.LruBwdRIdeal.τ).loc Cert.LruBwdRIdeal.main_arg8) = m ((c.tc : Thread Cert.LruBwdKIdeal.nD Cert.LruBwdKIdeal.τ).loc Cert.LruBwdKIdeal.main_arg8)) →
    ∃ (v0 : (c : Dev Cert.LruBwdKIdeal.nD) → Buf (Elt Ideal) ((c.tc : Thread Cert.LruBwdKIdeal.nD Cert.LruBwdKIdeal.τ).loc Cert.LruBwdKIdeal.main_v180_0)) (v1 : (c : Dev Cert.LruBwdKIdeal.nD) → Buf (Elt Ideal) ((c.tc : Thread Cert.LruBwdKIdeal.nD Cert.LruBwdKIdeal.τ).loc Cert.LruBwdKIdeal.main_v180_1)) (v2 : (c : Dev Cert.LruBwdKIdeal.nD) → Buf (Elt Ideal) ((c.tc : Thread Cert.LruBwdKIdeal.nD Cert.LruBwdKIdeal.τ).loc Cert.LruBwdKIdeal.main_v206)) (v3 : (c : Dev Cert.LruBwdKIdeal.nD) → Buf (Elt Ideal) ((c.tc : Thread Cert.LruBwdKIdeal.nD Cert.LruBwdKIdeal.τ).loc Cert.LruBwdKIdeal.main_v180_3)) (v4 : (c : Dev Cert.LruBwdKIdeal.nD) → Buf (Elt Ideal) ((c.tc : Thread Cert.LruBwdKIdeal.nD Cert.LruBwdKIdeal.τ).loc Cert.LruBwdKIdeal.main_v232)) (v5 : (c : Dev Cert.LruBwdKIdeal.nD) → Buf (Elt Ideal) ((c.tc : Thread Cert.LruBwdKIdeal.nD Cert.LruBwdKIdeal.τ).loc Cert.LruBwdKIdeal.main_v180_5)) (v6 : (c : Dev Cert.LruBwdKIdeal.nD) → Buf (Elt Ideal) ((c.tc : Thread Cert.LruBwdKIdeal.nD Cert.LruBwdKIdeal.τ).loc Cert.LruBwdKIdeal.main_v180_6)) (v7 : (c : Dev Cert.LruBwdKIdeal.nD) → Buf (Elt Ideal) ((c.tc : Thread Cert.LruBwdKIdeal.nD Cert.LruBwdKIdeal.τ).loc Cert.LruBwdKIdeal.main_v180_7)),
      θ_run (Cert.LruBwdKIdeal.defs (F := Ideal)) (onTc (τ := Cert.LruBwdKIdeal.τ) (Cert.LruBwdKIdeal.main (F := Ideal))) ⟨m, fun _ => 0, g⟩ (fun r => ∀ c : Dev Cert.LruBwdKIdeal.nD,
          r.2.mem ((c.tc : Thread Cert.LruBwdKIdeal.nD Cert.LruBwdKIdeal.τ).loc Cert.LruBwdKIdeal.main_v180_0) = v0 c
          ∧ r.2.mem ((c.tc : Thread Cert.LruBwdKIdeal.nD Cert.LruBwdKIdeal.τ).loc Cert.LruBwdKIdeal.main_v180_1) = v1 c
          ∧ r.2.mem ((c.tc : Thread Cert.LruBwdKIdeal.nD Cert.LruBwdKIdeal.τ).loc Cert.LruBwdKIdeal.main_v206) = v2 c
          ∧ r.2.mem ((c.tc : Thread Cert.LruBwdKIdeal.nD Cert.LruBwdKIdeal.τ).loc Cert.LruBwdKIdeal.main_v180_3) = v3 c
          ∧ r.2.mem ((c.tc : Thread Cert.LruBwdKIdeal.nD Cert.LruBwdKIdeal.τ).loc Cert.LruBwdKIdeal.main_v232) = v4 c
          ∧ r.2.mem ((c.tc : Thread Cert.LruBwdKIdeal.nD Cert.LruBwdKIdeal.τ).loc Cert.LruBwdKIdeal.main_v180_5) = v5 c
          ∧ r.2.mem ((c.tc : Thread Cert.LruBwdKIdeal.nD Cert.LruBwdKIdeal.τ).loc Cert.LruBwdKIdeal.main_v180_6) = v6 c
          ∧ r.2.mem ((c.tc : Thread Cert.LruBwdKIdeal.nD Cert.LruBwdKIdeal.τ).loc Cert.LruBwdKIdeal.main_v180_7) = v7 c
          ∧ r.2.mem ((c.tc : Thread Cert.LruBwdKIdeal.nD Cert.LruBwdKIdeal.τ).loc Cert.LruBwdKIdeal.main_arg0) = m ((c.tc : Thread Cert.LruBwdKIdeal.nD Cert.LruBwdKIdeal.τ).loc Cert.LruBwdKIdeal.main_arg0)
          ∧ r.2.mem ((c.tc : Thread Cert.LruBwdKIdeal.nD Cert.LruBwdKIdeal.τ).loc Cert.LruBwdKIdeal.main_arg1) = m ((c.tc : Thread Cert.LruBwdKIdeal.nD Cert.LruBwdKIdeal.τ).loc Cert.LruBwdKIdeal.main_arg1)
          ∧ r.2.mem ((c.tc : Thread Cert.LruBwdKIdeal.nD Cert.LruBwdKIdeal.τ).loc Cert.LruBwdKIdeal.main_arg2) = m ((c.tc : Thread Cert.LruBwdKIdeal.nD Cert.LruBwdKIdeal.τ).loc Cert.LruBwdKIdeal.main_arg2)
          ∧ r.2.mem ((c.tc : Thread Cert.LruBwdKIdeal.nD Cert.LruBwdKIdeal.τ).loc Cert.LruBwdKIdeal.main_arg3) = m ((c.tc : Thread Cert.LruBwdKIdeal.nD Cert.LruBwdKIdeal.τ).loc Cert.LruBwdKIdeal.main_arg3)
          ∧ r.2.mem ((c.tc : Thread Cert.LruBwdKIdeal.nD Cert.LruBwdKIdeal.τ).loc Cert.LruBwdKIdeal.main_arg4) = m ((c.tc : Thread Cert.LruBwdKIdeal.nD Cert.LruBwdKIdeal.τ).loc Cert.LruBwdKIdeal.main_arg4)
          ∧ r.2.mem ((c.tc : Thread Cert.LruBwdKIdeal.nD Cert.LruBwdKIdeal.τ).loc Cert.LruBwdKIdeal.main_arg5) = m ((c.tc : Thread Cert.LruBwdKIdeal.nD Cert.LruBwdKIdeal.τ).loc Cert.LruBwdKIdeal.main_arg5)
          ∧ r.2.mem ((c.tc : Thread Cert.LruBwdKIdeal.nD Cert.LruBwdKIdeal.τ).loc Cert.LruBwdKIdeal.main_arg6) = m ((c.tc : Thread Cert.LruBwdKIdeal.nD Cert.LruBwdKIdeal.τ).loc Cert.LruBwdKIdeal.main_arg6)
          ∧ r.2.mem ((c.tc : Thread Cert.LruBwdKIdeal.nD Cert.LruBwdKIdeal.τ).loc Cert.LruBwdKIdeal.main_arg7) = m ((c.tc : Thread Cert.LruBwdKIdeal.nD Cert.LruBwdKIdeal.τ).loc Cert.LruBwdKIdeal.main_arg7)
          ∧ r.2.mem ((c.tc : Thread Cert.LruBwdKIdeal.nD Cert.LruBwdKIdeal.τ).loc Cert.LruBwdKIdeal.main_arg8) = m ((c.tc : Thread Cert.LruBwdKIdeal.nD Cert.LruBwdKIdeal.τ).loc Cert.LruBwdKIdeal.main_arg8))
      ∧ θ_run (Cert.LruBwdRIdeal.defs (F := Ideal)) (onTc (τ := Cert.LruBwdRIdeal.τ) (Cert.LruBwdRIdeal.main (F := Ideal))) ⟨m', fun _ => 0, g'⟩ (fun r => ∀ c : Dev Cert.LruBwdRIdeal.nD,
          r.2.mem ((c.tc : Thread Cert.LruBwdRIdeal.nD Cert.LruBwdRIdeal.τ).loc Cert.LruBwdRIdeal.main_v456) = v0 c
          ∧ r.2.mem ((c.tc : Thread Cert.LruBwdRIdeal.nD Cert.LruBwdRIdeal.τ).loc Cert.LruBwdRIdeal.main_v263) = v1 c
          ∧ r.2.mem ((c.tc : Thread Cert.LruBwdRIdeal.nD Cert.LruBwdRIdeal.τ).loc Cert.LruBwdRIdeal.main_v454) = v2 c
          ∧ r.2.mem ((c.tc : Thread Cert.LruBwdRIdeal.nD Cert.LruBwdRIdeal.τ).loc Cert.LruBwdRIdeal.main_v457) = v3 c
          ∧ r.2.mem ((c.tc : Thread Cert.LruBwdRIdeal.nD Cert.LruBwdRIdeal.τ).loc Cert.LruBwdRIdeal.main_v444) = v4 c
          ∧ r.2.mem ((c.tc : Thread Cert.LruBwdRIdeal.nD Cert.LruBwdRIdeal.τ).loc Cert.LruBwdRIdeal.main_v458) = v5 c
          ∧ r.2.mem ((c.tc : Thread Cert.LruBwdRIdeal.nD Cert.LruBwdRIdeal.τ).loc Cert.LruBwdRIdeal.main_v459) = v6 c
          ∧ r.2.mem ((c.tc : Thread Cert.LruBwdRIdeal.nD Cert.LruBwdRIdeal.τ).loc Cert.LruBwdRIdeal.main_v460) = v7 c
          ∧ r.2.mem ((c.tc : Thread Cert.LruBwdRIdeal.nD Cert.LruBwdRIdeal.τ).loc Cert.LruBwdRIdeal.main_arg0) = m' ((c.tc : Thread Cert.LruBwdRIdeal.nD Cert.LruBwdRIdeal.τ).loc Cert.LruBwdRIdeal.main_arg0)
          ∧ r.2.mem ((c.tc : Thread Cert.LruBwdRIdeal.nD Cert.LruBwdRIdeal.τ).loc Cert.LruBwdRIdeal.main_arg1) = m' ((c.tc : Thread Cert.LruBwdRIdeal.nD Cert.LruBwdRIdeal.τ).loc Cert.LruBwdRIdeal.main_arg1)
          ∧ r.2.mem ((c.tc : Thread Cert.LruBwdRIdeal.nD Cert.LruBwdRIdeal.τ).loc Cert.LruBwdRIdeal.main_arg2) = m' ((c.tc : Thread Cert.LruBwdRIdeal.nD Cert.LruBwdRIdeal.τ).loc Cert.LruBwdRIdeal.main_arg2)
          ∧ r.2.mem ((c.tc : Thread Cert.LruBwdRIdeal.nD Cert.LruBwdRIdeal.τ).loc Cert.LruBwdRIdeal.main_arg3) = m' ((c.tc : Thread Cert.LruBwdRIdeal.nD Cert.LruBwdRIdeal.τ).loc Cert.LruBwdRIdeal.main_arg3)
          ∧ r.2.mem ((c.tc : Thread Cert.LruBwdRIdeal.nD Cert.LruBwdRIdeal.τ).loc Cert.LruBwdRIdeal.main_arg4) = m' ((c.tc : Thread Cert.LruBwdRIdeal.nD Cert.LruBwdRIdeal.τ).loc Cert.LruBwdRIdeal.main_arg4)
          ∧ r.2.mem ((c.tc : Thread Cert.LruBwdRIdeal.nD Cert.LruBwdRIdeal.τ).loc Cert.LruBwdRIdeal.main_arg5) = m' ((c.tc : Thread Cert.LruBwdRIdeal.nD Cert.LruBwdRIdeal.τ).loc Cert.LruBwdRIdeal.main_arg5)
          ∧ r.2.mem ((c.tc : Thread Cert.LruBwdRIdeal.nD Cert.LruBwdRIdeal.τ).loc Cert.LruBwdRIdeal.main_arg6) = m' ((c.tc : Thread Cert.LruBwdRIdeal.nD Cert.LruBwdRIdeal.τ).loc Cert.LruBwdRIdeal.main_arg6)
          ∧ r.2.mem ((c.tc : Thread Cert.LruBwdRIdeal.nD Cert.LruBwdRIdeal.τ).loc Cert.LruBwdRIdeal.main_arg7) = m' ((c.tc : Thread Cert.LruBwdRIdeal.nD Cert.LruBwdRIdeal.τ).loc Cert.LruBwdRIdeal.main_arg7)
          ∧ r.2.mem ((c.tc : Thread Cert.LruBwdRIdeal.nD Cert.LruBwdRIdeal.τ).loc Cert.LruBwdRIdeal.main_arg8) = m' ((c.tc : Thread Cert.LruBwdRIdeal.nD Cert.LruBwdRIdeal.τ).loc Cert.LruBwdRIdeal.main_arg8))

def preserves_GdnFwdK_GdnFwdKIdeal : Prop :=
  True

def algebraic_GdnFwdKIdeal_GdnFwdRIdeal_pre_finite_gdnfwd [hGdnFwdKIdeal : Cert.GdnFwdKIdeal.Facts] [hGdnFwdRIdeal : Cert.GdnFwdRIdeal.Facts] [hPre_finite_gdnfwd : Cert.Pre_finite_gdnfwd.Facts] : Prop :=
  ∀ (m : (ℓ : Loc Cert.GdnFwdKIdeal.nD Cert.GdnFwdKIdeal.τ Cert.GdnFwdKIdeal.sig) → Buf (Elt Ideal) ℓ) (g : Dev Cert.GdnFwdKIdeal.nD → PrngReg)
    (m' : (ℓ : Loc Cert.GdnFwdRIdeal.nD Cert.GdnFwdRIdeal.τ Cert.GdnFwdRIdeal.sig) → Buf (Elt Ideal) ℓ) (g' : Dev Cert.GdnFwdRIdeal.nD → PrngReg), Pre_GdnFwdKIdeal_finite_gdnfwd m →
    (∀ c : Dev Cert.GdnFwdKIdeal.nD,
      m' ((c.tc : Thread Cert.GdnFwdRIdeal.nD Cert.GdnFwdRIdeal.τ).loc Cert.GdnFwdRIdeal.main_arg0) = m ((c.tc : Thread Cert.GdnFwdKIdeal.nD Cert.GdnFwdKIdeal.τ).loc Cert.GdnFwdKIdeal.main_arg0)
      ∧ m' ((c.tc : Thread Cert.GdnFwdRIdeal.nD Cert.GdnFwdRIdeal.τ).loc Cert.GdnFwdRIdeal.main_arg1) = m ((c.tc : Thread Cert.GdnFwdKIdeal.nD Cert.GdnFwdKIdeal.τ).loc Cert.GdnFwdKIdeal.main_arg1)
      ∧ m' ((c.tc : Thread Cert.GdnFwdRIdeal.nD Cert.GdnFwdRIdeal.τ).loc Cert.GdnFwdRIdeal.main_arg2) = m ((c.tc : Thread Cert.GdnFwdKIdeal.nD Cert.GdnFwdKIdeal.τ).loc Cert.GdnFwdKIdeal.main_arg2)
      ∧ m' ((c.tc : Thread Cert.GdnFwdRIdeal.nD Cert.GdnFwdRIdeal.τ).loc Cert.GdnFwdRIdeal.main_arg3) = m ((c.tc : Thread Cert.GdnFwdKIdeal.nD Cert.GdnFwdKIdeal.τ).loc Cert.GdnFwdKIdeal.main_arg3)) →
    ∃ (v0 : (c : Dev Cert.GdnFwdKIdeal.nD) → Buf (Elt Ideal) ((c.tc : Thread Cert.GdnFwdKIdeal.nD Cert.GdnFwdKIdeal.τ).loc Cert.GdnFwdKIdeal.main_v5_0)),
      θ_run (Cert.GdnFwdKIdeal.defs (F := Ideal)) (onTc (τ := Cert.GdnFwdKIdeal.τ) (Cert.GdnFwdKIdeal.main (F := Ideal))) ⟨m, fun _ => 0, g⟩ (fun r => ∀ c : Dev Cert.GdnFwdKIdeal.nD,
          r.2.mem ((c.tc : Thread Cert.GdnFwdKIdeal.nD Cert.GdnFwdKIdeal.τ).loc Cert.GdnFwdKIdeal.main_v5_0) = v0 c
          ∧ r.2.mem ((c.tc : Thread Cert.GdnFwdKIdeal.nD Cert.GdnFwdKIdeal.τ).loc Cert.GdnFwdKIdeal.main_arg0) = m ((c.tc : Thread Cert.GdnFwdKIdeal.nD Cert.GdnFwdKIdeal.τ).loc Cert.GdnFwdKIdeal.main_arg0)
          ∧ r.2.mem ((c.tc : Thread Cert.GdnFwdKIdeal.nD Cert.GdnFwdKIdeal.τ).loc Cert.GdnFwdKIdeal.main_arg1) = m ((c.tc : Thread Cert.GdnFwdKIdeal.nD Cert.GdnFwdKIdeal.τ).loc Cert.GdnFwdKIdeal.main_arg1)
          ∧ r.2.mem ((c.tc : Thread Cert.GdnFwdKIdeal.nD Cert.GdnFwdKIdeal.τ).loc Cert.GdnFwdKIdeal.main_arg2) = m ((c.tc : Thread Cert.GdnFwdKIdeal.nD Cert.GdnFwdKIdeal.τ).loc Cert.GdnFwdKIdeal.main_arg2)
          ∧ r.2.mem ((c.tc : Thread Cert.GdnFwdKIdeal.nD Cert.GdnFwdKIdeal.τ).loc Cert.GdnFwdKIdeal.main_arg3) = m ((c.tc : Thread Cert.GdnFwdKIdeal.nD Cert.GdnFwdKIdeal.τ).loc Cert.GdnFwdKIdeal.main_arg3))
      ∧ θ_run (Cert.GdnFwdRIdeal.defs (F := Ideal)) (onTc (τ := Cert.GdnFwdRIdeal.τ) (Cert.GdnFwdRIdeal.main (F := Ideal))) ⟨m', fun _ => 0, g'⟩ (fun r => ∀ c : Dev Cert.GdnFwdRIdeal.nD,
          r.2.mem ((c.tc : Thread Cert.GdnFwdRIdeal.nD Cert.GdnFwdRIdeal.τ).loc Cert.GdnFwdRIdeal.main_v45) = v0 c
          ∧ r.2.mem ((c.tc : Thread Cert.GdnFwdRIdeal.nD Cert.GdnFwdRIdeal.τ).loc Cert.GdnFwdRIdeal.main_arg0) = m' ((c.tc : Thread Cert.GdnFwdRIdeal.nD Cert.GdnFwdRIdeal.τ).loc Cert.GdnFwdRIdeal.main_arg0)
          ∧ r.2.mem ((c.tc : Thread Cert.GdnFwdRIdeal.nD Cert.GdnFwdRIdeal.τ).loc Cert.GdnFwdRIdeal.main_arg1) = m' ((c.tc : Thread Cert.GdnFwdRIdeal.nD Cert.GdnFwdRIdeal.τ).loc Cert.GdnFwdRIdeal.main_arg1)
          ∧ r.2.mem ((c.tc : Thread Cert.GdnFwdRIdeal.nD Cert.GdnFwdRIdeal.τ).loc Cert.GdnFwdRIdeal.main_arg2) = m' ((c.tc : Thread Cert.GdnFwdRIdeal.nD Cert.GdnFwdRIdeal.τ).loc Cert.GdnFwdRIdeal.main_arg2)
          ∧ r.2.mem ((c.tc : Thread Cert.GdnFwdRIdeal.nD Cert.GdnFwdRIdeal.τ).loc Cert.GdnFwdRIdeal.main_arg3) = m' ((c.tc : Thread Cert.GdnFwdRIdeal.nD Cert.GdnFwdRIdeal.τ).loc Cert.GdnFwdRIdeal.main_arg3))

def preserves_ProjFwdK_ProjFwdKIdeal : Prop :=
  True

def algebraic_ProjFwdKIdeal_ProjFwdRIdeal [hProjFwdKIdeal : Cert.ProjFwdKIdeal.Facts] [hProjFwdRIdeal : Cert.ProjFwdRIdeal.Facts] : Prop :=
  ∀ (m : (ℓ : Loc Cert.ProjFwdKIdeal.nD Cert.ProjFwdKIdeal.τ Cert.ProjFwdKIdeal.sig) → Buf (Elt Ideal) ℓ) (g : Dev Cert.ProjFwdKIdeal.nD → PrngReg)
    (m' : (ℓ : Loc Cert.ProjFwdRIdeal.nD Cert.ProjFwdRIdeal.τ Cert.ProjFwdRIdeal.sig) → Buf (Elt Ideal) ℓ) (g' : Dev Cert.ProjFwdRIdeal.nD → PrngReg), Pre_ProjFwdKIdeal m →
    (∀ c : Dev Cert.ProjFwdKIdeal.nD,
      m' ((c.tc : Thread Cert.ProjFwdRIdeal.nD Cert.ProjFwdRIdeal.τ).loc Cert.ProjFwdRIdeal.main_arg0) = m ((c.tc : Thread Cert.ProjFwdKIdeal.nD Cert.ProjFwdKIdeal.τ).loc Cert.ProjFwdKIdeal.main_arg0)
      ∧ m' ((c.tc : Thread Cert.ProjFwdRIdeal.nD Cert.ProjFwdRIdeal.τ).loc Cert.ProjFwdRIdeal.main_arg1) = m ((c.tc : Thread Cert.ProjFwdKIdeal.nD Cert.ProjFwdKIdeal.τ).loc Cert.ProjFwdKIdeal.main_arg1)
      ∧ m' ((c.tc : Thread Cert.ProjFwdRIdeal.nD Cert.ProjFwdRIdeal.τ).loc Cert.ProjFwdRIdeal.main_arg2) = m ((c.tc : Thread Cert.ProjFwdKIdeal.nD Cert.ProjFwdKIdeal.τ).loc Cert.ProjFwdKIdeal.main_arg2)
      ∧ m' ((c.tc : Thread Cert.ProjFwdRIdeal.nD Cert.ProjFwdRIdeal.τ).loc Cert.ProjFwdRIdeal.main_arg3) = m ((c.tc : Thread Cert.ProjFwdKIdeal.nD Cert.ProjFwdKIdeal.τ).loc Cert.ProjFwdKIdeal.main_arg3)
      ∧ m' ((c.tc : Thread Cert.ProjFwdRIdeal.nD Cert.ProjFwdRIdeal.τ).loc Cert.ProjFwdRIdeal.main_arg4) = m ((c.tc : Thread Cert.ProjFwdKIdeal.nD Cert.ProjFwdKIdeal.τ).loc Cert.ProjFwdKIdeal.main_arg4)) →
    ∃ (v0 : (c : Dev Cert.ProjFwdKIdeal.nD) → Buf (Elt Ideal) ((c.tc : Thread Cert.ProjFwdKIdeal.nD Cert.ProjFwdKIdeal.τ).loc Cert.ProjFwdKIdeal.main_v5_0)) (v1 : (c : Dev Cert.ProjFwdKIdeal.nD) → Buf (Elt Ideal) ((c.tc : Thread Cert.ProjFwdKIdeal.nD Cert.ProjFwdKIdeal.τ).loc Cert.ProjFwdKIdeal.main_v5_1)),
      θ_run (Cert.ProjFwdKIdeal.defs (F := Ideal)) (onTc (τ := Cert.ProjFwdKIdeal.τ) (Cert.ProjFwdKIdeal.main (F := Ideal))) ⟨m, fun _ => 0, g⟩ (fun r => ∀ c : Dev Cert.ProjFwdKIdeal.nD,
          r.2.mem ((c.tc : Thread Cert.ProjFwdKIdeal.nD Cert.ProjFwdKIdeal.τ).loc Cert.ProjFwdKIdeal.main_v5_0) = v0 c
          ∧ r.2.mem ((c.tc : Thread Cert.ProjFwdKIdeal.nD Cert.ProjFwdKIdeal.τ).loc Cert.ProjFwdKIdeal.main_v5_1) = v1 c
          ∧ r.2.mem ((c.tc : Thread Cert.ProjFwdKIdeal.nD Cert.ProjFwdKIdeal.τ).loc Cert.ProjFwdKIdeal.main_arg0) = m ((c.tc : Thread Cert.ProjFwdKIdeal.nD Cert.ProjFwdKIdeal.τ).loc Cert.ProjFwdKIdeal.main_arg0)
          ∧ r.2.mem ((c.tc : Thread Cert.ProjFwdKIdeal.nD Cert.ProjFwdKIdeal.τ).loc Cert.ProjFwdKIdeal.main_arg1) = m ((c.tc : Thread Cert.ProjFwdKIdeal.nD Cert.ProjFwdKIdeal.τ).loc Cert.ProjFwdKIdeal.main_arg1)
          ∧ r.2.mem ((c.tc : Thread Cert.ProjFwdKIdeal.nD Cert.ProjFwdKIdeal.τ).loc Cert.ProjFwdKIdeal.main_arg2) = m ((c.tc : Thread Cert.ProjFwdKIdeal.nD Cert.ProjFwdKIdeal.τ).loc Cert.ProjFwdKIdeal.main_arg2)
          ∧ r.2.mem ((c.tc : Thread Cert.ProjFwdKIdeal.nD Cert.ProjFwdKIdeal.τ).loc Cert.ProjFwdKIdeal.main_arg3) = m ((c.tc : Thread Cert.ProjFwdKIdeal.nD Cert.ProjFwdKIdeal.τ).loc Cert.ProjFwdKIdeal.main_arg3)
          ∧ r.2.mem ((c.tc : Thread Cert.ProjFwdKIdeal.nD Cert.ProjFwdKIdeal.τ).loc Cert.ProjFwdKIdeal.main_arg4) = m ((c.tc : Thread Cert.ProjFwdKIdeal.nD Cert.ProjFwdKIdeal.τ).loc Cert.ProjFwdKIdeal.main_arg4))
      ∧ θ_run (Cert.ProjFwdRIdeal.defs (F := Ideal)) (onTc (τ := Cert.ProjFwdRIdeal.τ) (Cert.ProjFwdRIdeal.main (F := Ideal))) ⟨m', fun _ => 0, g'⟩ (fun r => ∀ c : Dev Cert.ProjFwdRIdeal.nD,
          r.2.mem ((c.tc : Thread Cert.ProjFwdRIdeal.nD Cert.ProjFwdRIdeal.τ).loc Cert.ProjFwdRIdeal.main_v22) = v0 c
          ∧ r.2.mem ((c.tc : Thread Cert.ProjFwdRIdeal.nD Cert.ProjFwdRIdeal.τ).loc Cert.ProjFwdRIdeal.main_v23) = v1 c
          ∧ r.2.mem ((c.tc : Thread Cert.ProjFwdRIdeal.nD Cert.ProjFwdRIdeal.τ).loc Cert.ProjFwdRIdeal.main_arg0) = m' ((c.tc : Thread Cert.ProjFwdRIdeal.nD Cert.ProjFwdRIdeal.τ).loc Cert.ProjFwdRIdeal.main_arg0)
          ∧ r.2.mem ((c.tc : Thread Cert.ProjFwdRIdeal.nD Cert.ProjFwdRIdeal.τ).loc Cert.ProjFwdRIdeal.main_arg1) = m' ((c.tc : Thread Cert.ProjFwdRIdeal.nD Cert.ProjFwdRIdeal.τ).loc Cert.ProjFwdRIdeal.main_arg1)
          ∧ r.2.mem ((c.tc : Thread Cert.ProjFwdRIdeal.nD Cert.ProjFwdRIdeal.τ).loc Cert.ProjFwdRIdeal.main_arg2) = m' ((c.tc : Thread Cert.ProjFwdRIdeal.nD Cert.ProjFwdRIdeal.τ).loc Cert.ProjFwdRIdeal.main_arg2)
          ∧ r.2.mem ((c.tc : Thread Cert.ProjFwdRIdeal.nD Cert.ProjFwdRIdeal.τ).loc Cert.ProjFwdRIdeal.main_arg3) = m' ((c.tc : Thread Cert.ProjFwdRIdeal.nD Cert.ProjFwdRIdeal.τ).loc Cert.ProjFwdRIdeal.main_arg3)
          ∧ r.2.mem ((c.tc : Thread Cert.ProjFwdRIdeal.nD Cert.ProjFwdRIdeal.τ).loc Cert.ProjFwdRIdeal.main_arg4) = m' ((c.tc : Thread Cert.ProjFwdRIdeal.nD Cert.ProjFwdRIdeal.τ).loc Cert.ProjFwdRIdeal.main_arg4))

def preserves_MlpFwdK_MlpFwdKIdeal : Prop :=
  True

def algebraic_MlpFwdKIdeal_MlpFwdRIdeal [hMlpFwdKIdeal : Cert.MlpFwdKIdeal.Facts] [hMlpFwdRIdeal : Cert.MlpFwdRIdeal.Facts] : Prop :=
  ∀ (m : (ℓ : Loc Cert.MlpFwdKIdeal.nD Cert.MlpFwdKIdeal.τ Cert.MlpFwdKIdeal.sig) → Buf (Elt Ideal) ℓ) (g : Dev Cert.MlpFwdKIdeal.nD → PrngReg)
    (m' : (ℓ : Loc Cert.MlpFwdRIdeal.nD Cert.MlpFwdRIdeal.τ Cert.MlpFwdRIdeal.sig) → Buf (Elt Ideal) ℓ) (g' : Dev Cert.MlpFwdRIdeal.nD → PrngReg), Pre_MlpFwdKIdeal m →
    (∀ c : Dev Cert.MlpFwdKIdeal.nD,
      m' ((c.tc : Thread Cert.MlpFwdRIdeal.nD Cert.MlpFwdRIdeal.τ).loc Cert.MlpFwdRIdeal.main_arg0) = m ((c.tc : Thread Cert.MlpFwdKIdeal.nD Cert.MlpFwdKIdeal.τ).loc Cert.MlpFwdKIdeal.main_arg0)
      ∧ m' ((c.tc : Thread Cert.MlpFwdRIdeal.nD Cert.MlpFwdRIdeal.τ).loc Cert.MlpFwdRIdeal.main_arg1) = m ((c.tc : Thread Cert.MlpFwdKIdeal.nD Cert.MlpFwdKIdeal.τ).loc Cert.MlpFwdKIdeal.main_arg1)
      ∧ m' ((c.tc : Thread Cert.MlpFwdRIdeal.nD Cert.MlpFwdRIdeal.τ).loc Cert.MlpFwdRIdeal.main_arg2) = m ((c.tc : Thread Cert.MlpFwdKIdeal.nD Cert.MlpFwdKIdeal.τ).loc Cert.MlpFwdKIdeal.main_arg2)
      ∧ m' ((c.tc : Thread Cert.MlpFwdRIdeal.nD Cert.MlpFwdRIdeal.τ).loc Cert.MlpFwdRIdeal.main_arg3) = m ((c.tc : Thread Cert.MlpFwdKIdeal.nD Cert.MlpFwdKIdeal.τ).loc Cert.MlpFwdKIdeal.main_arg3)
      ∧ m' ((c.tc : Thread Cert.MlpFwdRIdeal.nD Cert.MlpFwdRIdeal.τ).loc Cert.MlpFwdRIdeal.main_arg4) = m ((c.tc : Thread Cert.MlpFwdKIdeal.nD Cert.MlpFwdKIdeal.τ).loc Cert.MlpFwdKIdeal.main_arg4)
      ∧ m' ((c.tc : Thread Cert.MlpFwdRIdeal.nD Cert.MlpFwdRIdeal.τ).loc Cert.MlpFwdRIdeal.main_arg5) = m ((c.tc : Thread Cert.MlpFwdKIdeal.nD Cert.MlpFwdKIdeal.τ).loc Cert.MlpFwdKIdeal.main_arg5)
      ∧ m' ((c.tc : Thread Cert.MlpFwdRIdeal.nD Cert.MlpFwdRIdeal.τ).loc Cert.MlpFwdRIdeal.main_arg6) = m ((c.tc : Thread Cert.MlpFwdKIdeal.nD Cert.MlpFwdKIdeal.τ).loc Cert.MlpFwdKIdeal.main_arg6)) →
    ∃ (v0 : (c : Dev Cert.MlpFwdKIdeal.nD) → Buf (Elt Ideal) ((c.tc : Thread Cert.MlpFwdKIdeal.nD Cert.MlpFwdKIdeal.τ).loc Cert.MlpFwdKIdeal.main_v6)),
      θ_run (Cert.MlpFwdKIdeal.defs (F := Ideal)) (onTc (τ := Cert.MlpFwdKIdeal.τ) (Cert.MlpFwdKIdeal.main (F := Ideal))) ⟨m, fun _ => 0, g⟩ (fun r => ∀ c : Dev Cert.MlpFwdKIdeal.nD,
          r.2.mem ((c.tc : Thread Cert.MlpFwdKIdeal.nD Cert.MlpFwdKIdeal.τ).loc Cert.MlpFwdKIdeal.main_v6) = v0 c
          ∧ r.2.mem ((c.tc : Thread Cert.MlpFwdKIdeal.nD Cert.MlpFwdKIdeal.τ).loc Cert.MlpFwdKIdeal.main_arg0) = m ((c.tc : Thread Cert.MlpFwdKIdeal.nD Cert.MlpFwdKIdeal.τ).loc Cert.MlpFwdKIdeal.main_arg0)
          ∧ r.2.mem ((c.tc : Thread Cert.MlpFwdKIdeal.nD Cert.MlpFwdKIdeal.τ).loc Cert.MlpFwdKIdeal.main_arg1) = m ((c.tc : Thread Cert.MlpFwdKIdeal.nD Cert.MlpFwdKIdeal.τ).loc Cert.MlpFwdKIdeal.main_arg1)
          ∧ r.2.mem ((c.tc : Thread Cert.MlpFwdKIdeal.nD Cert.MlpFwdKIdeal.τ).loc Cert.MlpFwdKIdeal.main_arg2) = m ((c.tc : Thread Cert.MlpFwdKIdeal.nD Cert.MlpFwdKIdeal.τ).loc Cert.MlpFwdKIdeal.main_arg2)
          ∧ r.2.mem ((c.tc : Thread Cert.MlpFwdKIdeal.nD Cert.MlpFwdKIdeal.τ).loc Cert.MlpFwdKIdeal.main_arg3) = m ((c.tc : Thread Cert.MlpFwdKIdeal.nD Cert.MlpFwdKIdeal.τ).loc Cert.MlpFwdKIdeal.main_arg3)
          ∧ r.2.mem ((c.tc : Thread Cert.MlpFwdKIdeal.nD Cert.MlpFwdKIdeal.τ).loc Cert.MlpFwdKIdeal.main_arg4) = m ((c.tc : Thread Cert.MlpFwdKIdeal.nD Cert.MlpFwdKIdeal.τ).loc Cert.MlpFwdKIdeal.main_arg4)
          ∧ r.2.mem ((c.tc : Thread Cert.MlpFwdKIdeal.nD Cert.MlpFwdKIdeal.τ).loc Cert.MlpFwdKIdeal.main_arg5) = m ((c.tc : Thread Cert.MlpFwdKIdeal.nD Cert.MlpFwdKIdeal.τ).loc Cert.MlpFwdKIdeal.main_arg5)
          ∧ r.2.mem ((c.tc : Thread Cert.MlpFwdKIdeal.nD Cert.MlpFwdKIdeal.τ).loc Cert.MlpFwdKIdeal.main_arg6) = m ((c.tc : Thread Cert.MlpFwdKIdeal.nD Cert.MlpFwdKIdeal.τ).loc Cert.MlpFwdKIdeal.main_arg6))
      ∧ θ_run (Cert.MlpFwdRIdeal.defs (F := Ideal)) (onTc (τ := Cert.MlpFwdRIdeal.τ) (Cert.MlpFwdRIdeal.main (F := Ideal))) ⟨m', fun _ => 0, g'⟩ (fun r => ∀ c : Dev Cert.MlpFwdRIdeal.nD,
          r.2.mem ((c.tc : Thread Cert.MlpFwdRIdeal.nD Cert.MlpFwdRIdeal.τ).loc Cert.MlpFwdRIdeal.main_v28) = v0 c
          ∧ r.2.mem ((c.tc : Thread Cert.MlpFwdRIdeal.nD Cert.MlpFwdRIdeal.τ).loc Cert.MlpFwdRIdeal.main_arg0) = m' ((c.tc : Thread Cert.MlpFwdRIdeal.nD Cert.MlpFwdRIdeal.τ).loc Cert.MlpFwdRIdeal.main_arg0)
          ∧ r.2.mem ((c.tc : Thread Cert.MlpFwdRIdeal.nD Cert.MlpFwdRIdeal.τ).loc Cert.MlpFwdRIdeal.main_arg1) = m' ((c.tc : Thread Cert.MlpFwdRIdeal.nD Cert.MlpFwdRIdeal.τ).loc Cert.MlpFwdRIdeal.main_arg1)
          ∧ r.2.mem ((c.tc : Thread Cert.MlpFwdRIdeal.nD Cert.MlpFwdRIdeal.τ).loc Cert.MlpFwdRIdeal.main_arg2) = m' ((c.tc : Thread Cert.MlpFwdRIdeal.nD Cert.MlpFwdRIdeal.τ).loc Cert.MlpFwdRIdeal.main_arg2)
          ∧ r.2.mem ((c.tc : Thread Cert.MlpFwdRIdeal.nD Cert.MlpFwdRIdeal.τ).loc Cert.MlpFwdRIdeal.main_arg3) = m' ((c.tc : Thread Cert.MlpFwdRIdeal.nD Cert.MlpFwdRIdeal.τ).loc Cert.MlpFwdRIdeal.main_arg3)
          ∧ r.2.mem ((c.tc : Thread Cert.MlpFwdRIdeal.nD Cert.MlpFwdRIdeal.τ).loc Cert.MlpFwdRIdeal.main_arg4) = m' ((c.tc : Thread Cert.MlpFwdRIdeal.nD Cert.MlpFwdRIdeal.τ).loc Cert.MlpFwdRIdeal.main_arg4)
          ∧ r.2.mem ((c.tc : Thread Cert.MlpFwdRIdeal.nD Cert.MlpFwdRIdeal.τ).loc Cert.MlpFwdRIdeal.main_arg5) = m' ((c.tc : Thread Cert.MlpFwdRIdeal.nD Cert.MlpFwdRIdeal.τ).loc Cert.MlpFwdRIdeal.main_arg5)
          ∧ r.2.mem ((c.tc : Thread Cert.MlpFwdRIdeal.nD Cert.MlpFwdRIdeal.τ).loc Cert.MlpFwdRIdeal.main_arg6) = m' ((c.tc : Thread Cert.MlpFwdRIdeal.nD Cert.MlpFwdRIdeal.τ).loc Cert.MlpFwdRIdeal.main_arg6))

def preserves_ConvFGK_ConvFGKIdeal : Prop :=
  True

def algebraic_ConvFGKIdeal_ConvFGRIdeal [hConvFGKIdeal : Cert.ConvFGKIdeal.Facts] [hConvFGRIdeal : Cert.ConvFGRIdeal.Facts] : Prop :=
  ∀ (m : (ℓ : Loc Cert.ConvFGKIdeal.nD Cert.ConvFGKIdeal.τ Cert.ConvFGKIdeal.sig) → Buf (Elt Ideal) ℓ) (g : Dev Cert.ConvFGKIdeal.nD → PrngReg)
    (m' : (ℓ : Loc Cert.ConvFGRIdeal.nD Cert.ConvFGRIdeal.τ Cert.ConvFGRIdeal.sig) → Buf (Elt Ideal) ℓ) (g' : Dev Cert.ConvFGRIdeal.nD → PrngReg), Pre_ConvFGKIdeal m →
    (∀ c : Dev Cert.ConvFGKIdeal.nD,
      m' ((c.tc : Thread Cert.ConvFGRIdeal.nD Cert.ConvFGRIdeal.τ).loc Cert.ConvFGRIdeal.main_arg0) = m ((c.tc : Thread Cert.ConvFGKIdeal.nD Cert.ConvFGKIdeal.τ).loc Cert.ConvFGKIdeal.main_arg0)
      ∧ m' ((c.tc : Thread Cert.ConvFGRIdeal.nD Cert.ConvFGRIdeal.τ).loc Cert.ConvFGRIdeal.main_arg1) = m ((c.tc : Thread Cert.ConvFGKIdeal.nD Cert.ConvFGKIdeal.τ).loc Cert.ConvFGKIdeal.main_arg1)) →
    ∃ (v0 : (c : Dev Cert.ConvFGKIdeal.nD) → Buf (Elt Ideal) ((c.tc : Thread Cert.ConvFGKIdeal.nD Cert.ConvFGKIdeal.τ).loc Cert.ConvFGKIdeal.main_v3)),
      θ_run (Cert.ConvFGKIdeal.defs (F := Ideal)) (onTc (τ := Cert.ConvFGKIdeal.τ) (Cert.ConvFGKIdeal.main (F := Ideal))) ⟨m, fun _ => 0, g⟩ (fun r => ∀ c : Dev Cert.ConvFGKIdeal.nD,
          r.2.mem ((c.tc : Thread Cert.ConvFGKIdeal.nD Cert.ConvFGKIdeal.τ).loc Cert.ConvFGKIdeal.main_v3) = v0 c
          ∧ r.2.mem ((c.tc : Thread Cert.ConvFGKIdeal.nD Cert.ConvFGKIdeal.τ).loc Cert.ConvFGKIdeal.main_arg0) = m ((c.tc : Thread Cert.ConvFGKIdeal.nD Cert.ConvFGKIdeal.τ).loc Cert.ConvFGKIdeal.main_arg0)
          ∧ r.2.mem ((c.tc : Thread Cert.ConvFGKIdeal.nD Cert.ConvFGKIdeal.τ).loc Cert.ConvFGKIdeal.main_arg1) = m ((c.tc : Thread Cert.ConvFGKIdeal.nD Cert.ConvFGKIdeal.τ).loc Cert.ConvFGKIdeal.main_arg1))
      ∧ θ_run (Cert.ConvFGRIdeal.defs (F := Ideal)) (onTc (τ := Cert.ConvFGRIdeal.τ) (Cert.ConvFGRIdeal.main (F := Ideal))) ⟨m', fun _ => 0, g'⟩ (fun r => ∀ c : Dev Cert.ConvFGRIdeal.nD,
          r.2.mem ((c.tc : Thread Cert.ConvFGRIdeal.nD Cert.ConvFGRIdeal.τ).loc Cert.ConvFGRIdeal.main_v29) = v0 c
          ∧ r.2.mem ((c.tc : Thread Cert.ConvFGRIdeal.nD Cert.ConvFGRIdeal.τ).loc Cert.ConvFGRIdeal.main_arg0) = m' ((c.tc : Thread Cert.ConvFGRIdeal.nD Cert.ConvFGRIdeal.τ).loc Cert.ConvFGRIdeal.main_arg0)
          ∧ r.2.mem ((c.tc : Thread Cert.ConvFGRIdeal.nD Cert.ConvFGRIdeal.τ).loc Cert.ConvFGRIdeal.main_arg1) = m' ((c.tc : Thread Cert.ConvFGRIdeal.nD Cert.ConvFGRIdeal.τ).loc Cert.ConvFGRIdeal.main_arg1))

def preserves_ConvFLK_ConvFLKIdeal : Prop :=
  True

def algebraic_ConvFLKIdeal_ConvFLRIdeal [hConvFLKIdeal : Cert.ConvFLKIdeal.Facts] [hConvFLRIdeal : Cert.ConvFLRIdeal.Facts] : Prop :=
  ∀ (m : (ℓ : Loc Cert.ConvFLKIdeal.nD Cert.ConvFLKIdeal.τ Cert.ConvFLKIdeal.sig) → Buf (Elt Ideal) ℓ) (g : Dev Cert.ConvFLKIdeal.nD → PrngReg)
    (m' : (ℓ : Loc Cert.ConvFLRIdeal.nD Cert.ConvFLRIdeal.τ Cert.ConvFLRIdeal.sig) → Buf (Elt Ideal) ℓ) (g' : Dev Cert.ConvFLRIdeal.nD → PrngReg), Pre_ConvFLKIdeal m →
    (∀ c : Dev Cert.ConvFLKIdeal.nD,
      m' ((c.tc : Thread Cert.ConvFLRIdeal.nD Cert.ConvFLRIdeal.τ).loc Cert.ConvFLRIdeal.main_arg0) = m ((c.tc : Thread Cert.ConvFLKIdeal.nD Cert.ConvFLKIdeal.τ).loc Cert.ConvFLKIdeal.main_arg0)
      ∧ m' ((c.tc : Thread Cert.ConvFLRIdeal.nD Cert.ConvFLRIdeal.τ).loc Cert.ConvFLRIdeal.main_arg1) = m ((c.tc : Thread Cert.ConvFLKIdeal.nD Cert.ConvFLKIdeal.τ).loc Cert.ConvFLKIdeal.main_arg1)
      ∧ m' ((c.tc : Thread Cert.ConvFLRIdeal.nD Cert.ConvFLRIdeal.τ).loc Cert.ConvFLRIdeal.main_arg2) = m ((c.tc : Thread Cert.ConvFLKIdeal.nD Cert.ConvFLKIdeal.τ).loc Cert.ConvFLKIdeal.main_arg2)) →
    ∃ (v0 : (c : Dev Cert.ConvFLKIdeal.nD) → Buf (Elt Ideal) ((c.tc : Thread Cert.ConvFLKIdeal.nD Cert.ConvFLKIdeal.τ).loc Cert.ConvFLKIdeal.main_v3)),
      θ_run (Cert.ConvFLKIdeal.defs (F := Ideal)) (onTc (τ := Cert.ConvFLKIdeal.τ) (Cert.ConvFLKIdeal.main (F := Ideal))) ⟨m, fun _ => 0, g⟩ (fun r => ∀ c : Dev Cert.ConvFLKIdeal.nD,
          r.2.mem ((c.tc : Thread Cert.ConvFLKIdeal.nD Cert.ConvFLKIdeal.τ).loc Cert.ConvFLKIdeal.main_v3) = v0 c
          ∧ r.2.mem ((c.tc : Thread Cert.ConvFLKIdeal.nD Cert.ConvFLKIdeal.τ).loc Cert.ConvFLKIdeal.main_arg0) = m ((c.tc : Thread Cert.ConvFLKIdeal.nD Cert.ConvFLKIdeal.τ).loc Cert.ConvFLKIdeal.main_arg0)
          ∧ r.2.mem ((c.tc : Thread Cert.ConvFLKIdeal.nD Cert.ConvFLKIdeal.τ).loc Cert.ConvFLKIdeal.main_arg1) = m ((c.tc : Thread Cert.ConvFLKIdeal.nD Cert.ConvFLKIdeal.τ).loc Cert.ConvFLKIdeal.main_arg1)
          ∧ r.2.mem ((c.tc : Thread Cert.ConvFLKIdeal.nD Cert.ConvFLKIdeal.τ).loc Cert.ConvFLKIdeal.main_arg2) = m ((c.tc : Thread Cert.ConvFLKIdeal.nD Cert.ConvFLKIdeal.τ).loc Cert.ConvFLKIdeal.main_arg2))
      ∧ θ_run (Cert.ConvFLRIdeal.defs (F := Ideal)) (onTc (τ := Cert.ConvFLRIdeal.τ) (Cert.ConvFLRIdeal.main (F := Ideal))) ⟨m', fun _ => 0, g'⟩ (fun r => ∀ c : Dev Cert.ConvFLRIdeal.nD,
          r.2.mem ((c.tc : Thread Cert.ConvFLRIdeal.nD Cert.ConvFLRIdeal.τ).loc Cert.ConvFLRIdeal.main_v31) = v0 c
          ∧ r.2.mem ((c.tc : Thread Cert.ConvFLRIdeal.nD Cert.ConvFLRIdeal.τ).loc Cert.ConvFLRIdeal.main_arg0) = m' ((c.tc : Thread Cert.ConvFLRIdeal.nD Cert.ConvFLRIdeal.τ).loc Cert.ConvFLRIdeal.main_arg0)
          ∧ r.2.mem ((c.tc : Thread Cert.ConvFLRIdeal.nD Cert.ConvFLRIdeal.τ).loc Cert.ConvFLRIdeal.main_arg1) = m' ((c.tc : Thread Cert.ConvFLRIdeal.nD Cert.ConvFLRIdeal.τ).loc Cert.ConvFLRIdeal.main_arg1)
          ∧ r.2.mem ((c.tc : Thread Cert.ConvFLRIdeal.nD Cert.ConvFLRIdeal.τ).loc Cert.ConvFLRIdeal.main_arg2) = m' ((c.tc : Thread Cert.ConvFLRIdeal.nD Cert.ConvFLRIdeal.τ).loc Cert.ConvFLRIdeal.main_arg2))

def Claim : Prop :=
  ∃ (hLossK : Cert.LossK.Facts) (hLossKIdeal : Cert.LossKIdeal.Facts) (hLossRIdeal : Cert.LossRIdeal.Facts) (hProjBwdK : Cert.ProjBwdK.Facts) (hProjBwdKIdeal : Cert.ProjBwdKIdeal.Facts) (hProjBwdRIdeal : Cert.ProjBwdRIdeal.Facts) (hMlpBwdK : Cert.MlpBwdK.Facts) (hMlpBwdKIdeal : Cert.MlpBwdKIdeal.Facts) (hMlpBwdRIdeal : Cert.MlpBwdRIdeal.Facts) (hDwDownK : Cert.DwDownK.Facts) (hDwDownKIdeal : Cert.DwDownKIdeal.Facts) (hDwDownRIdeal : Cert.DwDownRIdeal.Facts) (hConvLruK : Cert.ConvLruK.Facts) (hConvLruKIdeal : Cert.ConvLruKIdeal.Facts) (hConvLruRIdeal : Cert.ConvLruRIdeal.Facts) (hConvGdnK : Cert.ConvGdnK.Facts) (hConvGdnKIdeal : Cert.ConvGdnKIdeal.Facts) (hConvGdnRIdeal : Cert.ConvGdnRIdeal.Facts) (hOutBwdK : Cert.OutBwdK.Facts) (hOutBwdKIdeal : Cert.OutBwdKIdeal.Facts) (hOutBwdRIdeal : Cert.OutBwdRIdeal.Facts) (hLruBwdK : Cert.LruBwdK.Facts) (hLruBwdKIdeal : Cert.LruBwdKIdeal.Facts) (hLruBwdRIdeal : Cert.LruBwdRIdeal.Facts) (hGdnFwdK : Cert.GdnFwdK.Facts) (hGdnFwdKIdeal : Cert.GdnFwdKIdeal.Facts) (hGdnFwdRIdeal : Cert.GdnFwdRIdeal.Facts) (hProjFwdK : Cert.ProjFwdK.Facts) (hProjFwdKIdeal : Cert.ProjFwdKIdeal.Facts) (hProjFwdRIdeal : Cert.ProjFwdRIdeal.Facts) (hMlpFwdK : Cert.MlpFwdK.Facts) (hMlpFwdKIdeal : Cert.MlpFwdKIdeal.Facts) (hMlpFwdRIdeal : Cert.MlpFwdRIdeal.Facts) (hConvFGK : Cert.ConvFGK.Facts) (hConvFGKIdeal : Cert.ConvFGKIdeal.Facts) (hConvFGRIdeal : Cert.ConvFGRIdeal.Facts) (hConvFLK : Cert.ConvFLK.Facts) (hConvFLKIdeal : Cert.ConvFLKIdeal.Facts) (hConvFLRIdeal : Cert.ConvFLRIdeal.Facts) (hPre_finite_loss : Cert.Pre_finite_loss.Facts) (hPre_finite_projbwd : Cert.Pre_finite_projbwd.Facts) (hPre_finite_mlpbwd : Cert.Pre_finite_mlpbwd.Facts) (hPre_finite_dwdown : Cert.Pre_finite_dwdown.Facts) (hPre_finite_convgdn : Cert.Pre_finite_convgdn.Facts) (hPre_finite_outbwd : Cert.Pre_finite_outbwd.Facts) (hPre_finite_lrubwd : Cert.Pre_finite_lrubwd.Facts) (hPre_finite_gdnfwd : Cert.Pre_finite_gdnfwd.Facts),
    quiescent_LossK (hLossK := hLossK)
    ∧ quiescent_LossKIdeal (hLossKIdeal := hLossKIdeal)
    ∧ quiescent_LossKIdeal_pre_finite_loss (hLossKIdeal := hLossKIdeal) (hPre_finite_loss := hPre_finite_loss)
    ∧ quiescent_LossRIdeal (hLossRIdeal := hLossRIdeal)
    ∧ quiescent_LossRIdeal_pre_finite_loss (hLossRIdeal := hLossRIdeal) (hPre_finite_loss := hPre_finite_loss)
    ∧ quiescent_ProjBwdK (hProjBwdK := hProjBwdK)
    ∧ quiescent_ProjBwdKIdeal (hProjBwdKIdeal := hProjBwdKIdeal)
    ∧ quiescent_ProjBwdKIdeal_pre_finite_projbwd (hProjBwdKIdeal := hProjBwdKIdeal) (hPre_finite_projbwd := hPre_finite_projbwd)
    ∧ quiescent_ProjBwdRIdeal (hProjBwdRIdeal := hProjBwdRIdeal)
    ∧ quiescent_ProjBwdRIdeal_pre_finite_projbwd (hProjBwdRIdeal := hProjBwdRIdeal) (hPre_finite_projbwd := hPre_finite_projbwd)
    ∧ quiescent_MlpBwdK (hMlpBwdK := hMlpBwdK)
    ∧ quiescent_MlpBwdKIdeal (hMlpBwdKIdeal := hMlpBwdKIdeal)
    ∧ quiescent_MlpBwdKIdeal_pre_finite_mlpbwd (hMlpBwdKIdeal := hMlpBwdKIdeal) (hPre_finite_mlpbwd := hPre_finite_mlpbwd)
    ∧ quiescent_MlpBwdRIdeal (hMlpBwdRIdeal := hMlpBwdRIdeal)
    ∧ quiescent_MlpBwdRIdeal_pre_finite_mlpbwd (hMlpBwdRIdeal := hMlpBwdRIdeal) (hPre_finite_mlpbwd := hPre_finite_mlpbwd)
    ∧ quiescent_DwDownK (hDwDownK := hDwDownK)
    ∧ quiescent_DwDownKIdeal (hDwDownKIdeal := hDwDownKIdeal)
    ∧ quiescent_DwDownKIdeal_pre_finite_dwdown (hDwDownKIdeal := hDwDownKIdeal) (hPre_finite_dwdown := hPre_finite_dwdown)
    ∧ quiescent_DwDownRIdeal (hDwDownRIdeal := hDwDownRIdeal)
    ∧ quiescent_DwDownRIdeal_pre_finite_dwdown (hDwDownRIdeal := hDwDownRIdeal) (hPre_finite_dwdown := hPre_finite_dwdown)
    ∧ quiescent_ConvLruK (hConvLruK := hConvLruK)
    ∧ quiescent_ConvLruKIdeal (hConvLruKIdeal := hConvLruKIdeal)
    ∧ quiescent_ConvLruRIdeal (hConvLruRIdeal := hConvLruRIdeal)
    ∧ quiescent_ConvGdnK (hConvGdnK := hConvGdnK)
    ∧ quiescent_ConvGdnKIdeal (hConvGdnKIdeal := hConvGdnKIdeal)
    ∧ quiescent_ConvGdnKIdeal_pre_finite_convgdn (hConvGdnKIdeal := hConvGdnKIdeal) (hPre_finite_convgdn := hPre_finite_convgdn)
    ∧ quiescent_ConvGdnRIdeal (hConvGdnRIdeal := hConvGdnRIdeal)
    ∧ quiescent_ConvGdnRIdeal_pre_finite_convgdn (hConvGdnRIdeal := hConvGdnRIdeal) (hPre_finite_convgdn := hPre_finite_convgdn)
    ∧ quiescent_OutBwdK (hOutBwdK := hOutBwdK)
    ∧ quiescent_OutBwdKIdeal (hOutBwdKIdeal := hOutBwdKIdeal)
    ∧ quiescent_OutBwdKIdeal_pre_finite_outbwd (hOutBwdKIdeal := hOutBwdKIdeal) (hPre_finite_outbwd := hPre_finite_outbwd)
    ∧ quiescent_OutBwdRIdeal (hOutBwdRIdeal := hOutBwdRIdeal)
    ∧ quiescent_OutBwdRIdeal_pre_finite_outbwd (hOutBwdRIdeal := hOutBwdRIdeal) (hPre_finite_outbwd := hPre_finite_outbwd)
    ∧ quiescent_LruBwdK (hLruBwdK := hLruBwdK)
    ∧ quiescent_LruBwdKIdeal (hLruBwdKIdeal := hLruBwdKIdeal)
    ∧ quiescent_LruBwdKIdeal_pre_finite_lrubwd (hLruBwdKIdeal := hLruBwdKIdeal) (hPre_finite_lrubwd := hPre_finite_lrubwd)
    ∧ quiescent_LruBwdRIdeal (hLruBwdRIdeal := hLruBwdRIdeal)
    ∧ quiescent_LruBwdRIdeal_pre_finite_lrubwd (hLruBwdRIdeal := hLruBwdRIdeal) (hPre_finite_lrubwd := hPre_finite_lrubwd)
    ∧ quiescent_GdnFwdK (hGdnFwdK := hGdnFwdK)
    ∧ quiescent_GdnFwdKIdeal (hGdnFwdKIdeal := hGdnFwdKIdeal)
    ∧ quiescent_GdnFwdKIdeal_pre_finite_gdnfwd (hGdnFwdKIdeal := hGdnFwdKIdeal) (hPre_finite_gdnfwd := hPre_finite_gdnfwd)
    ∧ quiescent_GdnFwdRIdeal (hGdnFwdRIdeal := hGdnFwdRIdeal)
    ∧ quiescent_GdnFwdRIdeal_pre_finite_gdnfwd (hGdnFwdRIdeal := hGdnFwdRIdeal) (hPre_finite_gdnfwd := hPre_finite_gdnfwd)
    ∧ quiescent_ProjFwdK (hProjFwdK := hProjFwdK)
    ∧ quiescent_ProjFwdKIdeal (hProjFwdKIdeal := hProjFwdKIdeal)
    ∧ quiescent_ProjFwdRIdeal (hProjFwdRIdeal := hProjFwdRIdeal)
    ∧ quiescent_MlpFwdK (hMlpFwdK := hMlpFwdK)
    ∧ quiescent_MlpFwdKIdeal (hMlpFwdKIdeal := hMlpFwdKIdeal)
    ∧ quiescent_MlpFwdRIdeal (hMlpFwdRIdeal := hMlpFwdRIdeal)
    ∧ quiescent_ConvFGK (hConvFGK := hConvFGK)
    ∧ quiescent_ConvFGKIdeal (hConvFGKIdeal := hConvFGKIdeal)
    ∧ quiescent_ConvFGRIdeal (hConvFGRIdeal := hConvFGRIdeal)
    ∧ quiescent_ConvFLK (hConvFLK := hConvFLK)
    ∧ quiescent_ConvFLKIdeal (hConvFLKIdeal := hConvFLKIdeal)
    ∧ quiescent_ConvFLRIdeal (hConvFLRIdeal := hConvFLRIdeal)
    ∧ preserves_LossK_LossKIdeal
    ∧ algebraic_LossKIdeal_LossRIdeal_pre_finite_loss (hLossKIdeal := hLossKIdeal) (hLossRIdeal := hLossRIdeal) (hPre_finite_loss := hPre_finite_loss)
    ∧ preserves_ProjBwdK_ProjBwdKIdeal
    ∧ algebraic_ProjBwdKIdeal_ProjBwdRIdeal_pre_finite_projbwd (hProjBwdKIdeal := hProjBwdKIdeal) (hProjBwdRIdeal := hProjBwdRIdeal) (hPre_finite_projbwd := hPre_finite_projbwd)
    ∧ preserves_MlpBwdK_MlpBwdKIdeal
    ∧ algebraic_MlpBwdKIdeal_MlpBwdRIdeal_pre_finite_mlpbwd (hMlpBwdKIdeal := hMlpBwdKIdeal) (hMlpBwdRIdeal := hMlpBwdRIdeal) (hPre_finite_mlpbwd := hPre_finite_mlpbwd)
    ∧ preserves_DwDownK_DwDownKIdeal
    ∧ algebraic_DwDownKIdeal_DwDownRIdeal_pre_finite_dwdown (hDwDownKIdeal := hDwDownKIdeal) (hDwDownRIdeal := hDwDownRIdeal) (hPre_finite_dwdown := hPre_finite_dwdown)
    ∧ preserves_ConvLruK_ConvLruKIdeal
    ∧ algebraic_ConvLruKIdeal_ConvLruRIdeal (hConvLruKIdeal := hConvLruKIdeal) (hConvLruRIdeal := hConvLruRIdeal)
    ∧ preserves_ConvGdnK_ConvGdnKIdeal
    ∧ algebraic_ConvGdnKIdeal_ConvGdnRIdeal_pre_finite_convgdn (hConvGdnKIdeal := hConvGdnKIdeal) (hConvGdnRIdeal := hConvGdnRIdeal) (hPre_finite_convgdn := hPre_finite_convgdn)
    ∧ preserves_OutBwdK_OutBwdKIdeal
    ∧ algebraic_OutBwdKIdeal_OutBwdRIdeal_pre_finite_outbwd (hOutBwdKIdeal := hOutBwdKIdeal) (hOutBwdRIdeal := hOutBwdRIdeal) (hPre_finite_outbwd := hPre_finite_outbwd)
    ∧ preserves_LruBwdK_LruBwdKIdeal
    ∧ algebraic_LruBwdKIdeal_LruBwdRIdeal_pre_finite_lrubwd (hLruBwdKIdeal := hLruBwdKIdeal) (hLruBwdRIdeal := hLruBwdRIdeal) (hPre_finite_lrubwd := hPre_finite_lrubwd)
    ∧ preserves_GdnFwdK_GdnFwdKIdeal
    ∧ algebraic_GdnFwdKIdeal_GdnFwdRIdeal_pre_finite_gdnfwd (hGdnFwdKIdeal := hGdnFwdKIdeal) (hGdnFwdRIdeal := hGdnFwdRIdeal) (hPre_finite_gdnfwd := hPre_finite_gdnfwd)
    ∧ preserves_ProjFwdK_ProjFwdKIdeal
    ∧ algebraic_ProjFwdKIdeal_ProjFwdRIdeal (hProjFwdKIdeal := hProjFwdKIdeal) (hProjFwdRIdeal := hProjFwdRIdeal)
    ∧ preserves_MlpFwdK_MlpFwdKIdeal
    ∧ algebraic_MlpFwdKIdeal_MlpFwdRIdeal (hMlpFwdKIdeal := hMlpFwdKIdeal) (hMlpFwdRIdeal := hMlpFwdRIdeal)
    ∧ preserves_ConvFGK_ConvFGKIdeal
    ∧ algebraic_ConvFGKIdeal_ConvFGRIdeal (hConvFGKIdeal := hConvFGKIdeal) (hConvFGRIdeal := hConvFGRIdeal)
    ∧ preserves_ConvFLK_ConvFLKIdeal
    ∧ algebraic_ConvFLKIdeal_ConvFLRIdeal (hConvFLKIdeal := hConvFLKIdeal) (hConvFLRIdeal := hConvFLRIdeal)
-- ==== Pre_finite_convgdn.lean ====
abbrev S4096x3080 : Shape := ⟨2, ![4096, 3080]⟩
abbrev S4x1536 : Shape := ⟨2, ![4, 1536]⟩
abbrev S4096x1536 : Shape := ⟨2, ![4096, 1536]⟩
abbrev S_ : Shape := ⟨0, ![]⟩

class Facts : Prop where
  bcast_S_S4096x3080 : S_.BroadcastsInDim S4096x3080 (![] : Fin 0 → Fin S4096x3080.rank)
  bcast_S_S4x1536 : S_.BroadcastsInDim S4x1536 (![] : Fin 0 → Fin S4x1536.rank)
  bcast_S_S4096x1536 : S_.BroadcastsInDim S4096x1536 (![] : Fin 0 → Fin S4096x1536.rank)

variable [Facts]

def fn {F : FTy → Type} [FloatOps F] (main_arg0 : FVec F S4096x3080 .f32) (main_arg1 : FVec F S4x1536 .f32) (main_arg2 : FVec F S4096x1536 .f32) : IVec S4096x3080 1 × IVec S4x1536 1 × IVec S4096x1536 1 :=
  let main_v0 : FVec F S4096x3080 .f32 := Host.absf main_arg0
  let main_cst : FVec F S_ .f32 := constant S_ .f32 0x7F800000#32
  let main_v1 : FVec F S4096x3080 .f32 := broadcastInDim S4096x3080 ![] bcast_S_S4096x3080 main_cst
  let main_v2 : IVec S4096x3080 1 := cmpf .olt main_v0 main_v1
  let main_v3 : FVec F S4x1536 .f32 := Host.absf main_arg1
  let main_cst_0 : FVec F S_ .f32 := constant S_ .f32 0x7F800000#32
  let main_v4 : FVec F S4x1536 .f32 := broadcastInDim S4x1536 ![] bcast_S_S4x1536 main_cst_0
  let main_v5 : IVec S4x1536 1 := cmpf .olt main_v3 main_v4
  let main_v6 : FVec F S4096x1536 .f32 := Host.absf main_arg2
  let main_cst_1 : FVec F S_ .f32 := constant S_ .f32 0x7F800000#32
  let main_v7 : FVec F S4096x1536 .f32 := broadcastInDim S4096x1536 ![] bcast_S_S4096x1536 main_cst_1
  let main_v8 : IVec S4096x1536 1 := cmpf .olt main_v6 main_v7
  (main_v2, main_v5, main_v8)
-- ==== Pre_finite_dwdown.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x4096 .f32) (main_arg1 : FVec F S4096x1024 .f32) (main_arg2 : FVec F S1024 .f32) (main_arg3 : FVec F S4096x1024 .f32) : IVec S4096x4096 1 × IVec S4096x1024 1 × IVec S1024 1 × IVec S4096x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_gdnfwd.lean ====
abbrev S4096x1536 : Shape := ⟨2, ![4096, 1536]⟩
abbrev S4096x3080 : Shape := ⟨2, ![4096, 3080]⟩
abbrev S4 : Shape := ⟨1, ![4]⟩
abbrev S_ : Shape := ⟨0, ![]⟩

class Facts : Prop where
  bcast_S_S4096x1536 : S_.BroadcastsInDim S4096x1536 (![] : Fin 0 → Fin S4096x1536.rank)
  bcast_S_S4096x3080 : S_.BroadcastsInDim S4096x3080 (![] : Fin 0 → Fin S4096x3080.rank)
  bcast_S_S4 : S_.BroadcastsInDim S4 (![] : Fin 0 → Fin S4.rank)

variable [Facts]

def fn {F : FTy → Type} [FloatOps F] (main_arg0 : FVec F S4096x1536 .f32) (main_arg1 : FVec F S4096x3080 .f32) (main_arg2 : FVec F S4 .f32) (main_arg3 : FVec F S4 .f32) : IVec S4096x1536 1 × IVec S4096x3080 1 × IVec S4 1 × IVec S4 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x3080 .f32 := Host.absf main_arg1
  let main_cst_0 : FVec F S_ .f32 := constant S_ .f32 0x7F800000#32
  let main_v4 : FVec F S4096x3080 .f32 := broadcastInDim S4096x3080 ![] bcast_S_S4096x3080 main_cst_0
  let main_v5 : IVec S4096x3080 1 := cmpf .olt main_v3 main_v4
  let main_v6 : FVec F S4 .f32 := Host.absf main_arg2
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  (main_v2, main_v5, main_v8, main_v11)
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) : IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_lrubwd.lean ====
abbrev S4096x512 : Shape := ⟨2, ![4096, 512]⟩
abbrev S4096x3080 : Shape := ⟨2, ![4096, 3080]⟩
abbrev S8x64x64 : Shape := ⟨3, ![8, 64, 64]⟩
abbrev S512 : Shape := ⟨1, ![512]⟩
abbrev S_ : Shape := ⟨0, ![]⟩

class Facts : Prop where
  bcast_S_S4096x512 : S_.BroadcastsInDim S4096x512 (![] : Fin 0 → Fin S4096x512.rank)
  bcast_S_S4096x3080 : S_.BroadcastsInDim S4096x3080 (![] : Fin 0 → Fin S4096x3080.rank)
  bcast_S_S8x64x64 : S_.BroadcastsInDim S8x64x64 (![] : Fin 0 → Fin S8x64x64.rank)
  bcast_S_S512 : S_.BroadcastsInDim S512 (![] : Fin 0 → Fin S512.rank)

variable [Facts]

def fn_part1 {F : FTy → Type} [FloatOps F] (main_arg6 : FVec F S512 .f32) (main_arg7 : FVec F S512 .f32) (main_arg8 : FVec F S512 .f32) (main_v2 : IVec S4096x512 1) (main_v5 : IVec S4096x512 1) (main_v8 : IVec S4096x3080 1) (main_v11 : IVec S8x64x64 1) (main_v14 : IVec S512 1) (main_v17 : IVec S8x64x64 1) : IVec S4096x512 1 × IVec S4096x512 1 × IVec S4096x3080 1 × IVec S8x64x64 1 × IVec S512 1 × IVec S8x64x64 1 × IVec S512 1 × IVec S512 1 × IVec S512 1 × IVec S512 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512 .f32 := Host.absf main_arg7
  let main_cst_7 : FVec F S_ .f32 := constant S_ .f32 0x00000000#32
  let main_v25 : FVec F S512 .f32 := broadcastInDim S512 ![] bcast_S_S512 main_cst_7
  let main_v26 : IVec S512 1 := cmpf .ogt main_v24 main_v25
  let main_v27 : FVec F S512 .f32 := Host.absf main_arg8
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  (main_v2, main_v5, main_v8, main_v11, main_v14, main_v17, main_v20, main_v23, main_v26, main_v29)

def fn {F : FTy → Type} [FloatOps F] (main_arg0 : FVec F S4096x512 .f32) (main_arg1 : FVec F S4096x512 .f32) (main_arg2 : FVec F S4096x3080 .f32) (main_arg3 : FVec F S8x64x64 .f32) (main_arg4 : FVec F S512 .f32) (main_arg5 : FVec F S8x64x64 .f32) (main_arg6 : FVec F S512 .f32) (main_arg7 : FVec F S512 .f32) (main_arg8 : FVec F S512 .f32) : IVec S4096x512 1 × IVec S4096x512 1 × IVec S4096x3080 1 × IVec S8x64x64 1 × IVec S512 1 × IVec S8x64x64 1 × IVec S512 1 × IVec S512 1 × IVec S512 1 × IVec S512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x3080 .f32 := Host.absf main_arg2
  let main_cst_1 : FVec F S_ .f32 := constant S_ .f32 0x7F800000#32
  let main_v7 : FVec F S4096x3080 .f32 := broadcastInDim S4096x3080 ![] bcast_S_S4096x3080 main_cst_1
  let main_v8 : IVec S4096x3080 1 := cmpf .olt main_v6 main_v7
  let main_v9 : FVec F S8x64x64 .f32 := Host.absf main_arg3
  let main_cst_2 : FVec F S_ .f32 := constant S_ .f32 0x7F800000#32
  let main_v10 : FVec F S8x64x64 .f32 := broadcastInDim S8x64x64 ![] bcast_S_S8x64x64 main_cst_2
  let main_v11 : IVec S8x64x64 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S8x64x64 .f32 := Host.absf main_arg5
  let main_cst_4 : FVec F S_ .f32 := constant S_ .f32 0x7F800000#32
  let main_v16 : FVec F S8x64x64 .f32 := broadcastInDim S8x64x64 ![] bcast_S_S8x64x64 main_cst_4
  let main_v17 : IVec S8x64x64 1 := cmpf .olt main_v15 main_v16
  fn_part1 (F := F) main_arg6 main_arg7 main_arg8 main_v2 main_v5 main_v8 main_v11 main_v14 main_v17
-- ==== Pre_finite_mlpbwd.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn_part1 {F : FTy → Type} [FloatOps F] (main_arg6 : FVec F S1024x4096 .f32) (main_arg7 : FVec F S4096x1024 .f32) (main_v2 : IVec S4096x1024 1) (main_v5 : IVec S4096x1024 1) (main_v8 : IVec S1024 1) (main_v11 : IVec S1024 1) (main_v14 : IVec S1024 1) (main_v17 : IVec S1024 1) : IVec S4096x1024 1 × IVec S4096x1024 1 × IVec S1024 1 × IVec S1024 1 × IVec S1024 1 × IVec S1024 1 × IVec S1024x4096 1 × IVec S4096x1024 1 :=
  let main_v18 : FVec F S1024x4096 .f32 := Host.absf main_arg6
  let main_cst_5 : FVec F S_ .f32 := constant S_ .f32 0x7F800000#32
  let main_v19 : FVec F S1024x4096 .f32 := broadcastInDim S1024x4096 ![] bcast_S_S1024x4096 main_cst_5
  let main_v20 : IVec S1024x4096 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S1024 .f32) (main_arg3 : FVec F S1024 .f32) (main_arg4 : FVec F S1024 .f32) (main_arg5 : FVec F S1024 .f32) (main_arg6 : FVec F S1024x4096 .f32) (main_arg7 : FVec F S4096x1024 .f32) : IVec S4096x1024 1 × IVec S4096x1024 1 × IVec S1024 1 × IVec S1024 1 × IVec S1024 1 × IVec S1024 1 × IVec S1024x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Pre_finite_outbwd.lean ====
abbrev S4096x1024 : Shape := ⟨2, ![4096, 1024]⟩
abbrev S4096x512 : Shape := ⟨2, ![4096, 512]⟩
abbrev S4096x3080 : Shape := ⟨2, ![4096, 3080]⟩
abbrev S128 : Shape := ⟨1, ![128]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x3080 : S_.BroadcastsInDim S4096x3080 (![] : Fin 0 → Fin S4096x3080.rank)
  bcast_S_S128 : S_.BroadcastsInDim S128 (![] : Fin 0 → Fin S128.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_arg7 : FVec F S1024x1024 .f32) (main_v2 : IVec S4096x1024 1) (main_v5 : IVec S4096x512 1) (main_v8 : IVec S4096x512 1) (main_v11 : IVec S4096x3080 1) (main_v14 : IVec S128 1) (main_v17 : IVec S1024 1) : IVec S4096x1024 1 × IVec S4096x512 1 × IVec S4096x512 1 × IVec S4096x3080 1 × IVec S128 1 × IVec S1024 1 × IVec S1024x1024 1 :=
  let main_v18 : FVec F S1024x1024 .f32 := Host.absf main_arg7
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S4096x512 .f32) (main_arg3 : FVec F S4096x512 .f32) (main_arg4 : FVec F S4096x3080 .f32) (main_arg5 : FVec F S128 .f32) (main_arg6 : FVec F S1024 .f32) (main_arg7 : FVec F S1024x1024 .f32) : IVec S4096x1024 1 × IVec S4096x512 1 × IVec S4096x512 1 × IVec S4096x3080 1 × IVec S128 1 × IVec S1024 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg2
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg3
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x3080 .f32 := Host.absf main_arg4
  let main_cst_2 : FVec F S_ .f32 := constant S_ .f32 0x7F800000#32
  let main_v10 : FVec F S4096x3080 .f32 := broadcastInDim S4096x3080 ![] bcast_S_S4096x3080 main_cst_2
  let main_v11 : IVec S4096x3080 1 := cmpf .olt main_v9 main_v10
  let main_v12 : FVec F S128 .f32 := Host.absf main_arg5
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S1024 .f32 := Host.absf main_arg6
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg7 main_v2 main_v5 main_v8 main_v11 main_v14 main_v17
-- ==== Pre_finite_projbwd.lean ====
abbrev S4096x1024 : Shape := ⟨2, ![4096, 1024]⟩
abbrev S1024 : Shape := ⟨1, ![1024]⟩
abbrev S1024x3080 : Shape := ⟨2, ![1024, 3080]⟩
abbrev S4096x3080 : Shape := ⟨2, ![4096, 3080]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x3080 : S_.BroadcastsInDim S1024x3080 (![] : Fin 0 → Fin S1024x3080.rank)
  bcast_S_S4096x3080 : S_.BroadcastsInDim S4096x3080 (![] : Fin 0 → Fin S4096x3080.rank)

variable [Facts]

def fn {F : FTy → Type} [FloatOps F] (main_arg0 : FVec F S4096x1024 .f32) (main_arg1 : FVec F S4096x1024 .f32) (main_arg2 : FVec F S1024 .f32) (main_arg3 : FVec F S1024 .f32) (main_arg4 : FVec F S1024 .f32) (main_arg5 : FVec F S1024x3080 .f32) (main_arg6 : FVec F S4096x3080 .f32) : IVec S4096x1024 1 × IVec S1024 1 × IVec S1024 1 × IVec S1024x3080 1 × IVec S4096x3080 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x3080 .f32 := Host.absf main_arg5
  let main_cst_2 : FVec F S_ .f32 := constant S_ .f32 0x7F800000#32
  let main_v10 : FVec F S1024x3080 .f32 := broadcastInDim S1024x3080 ![] bcast_S_S1024x3080 main_cst_2
  let main_v11 : IVec S1024x3080 1 := cmpf .olt main_v9 main_v10
  let main_v12 : FVec F S4096x3080 .f32 := Host.absf main_arg6
  let main_cst_3 : FVec F S_ .f32 := constant S_ .f32 0x7F800000#32
  let main_v13 : FVec F S4096x3080 .f32 := broadcastInDim S4096x3080 ![] bcast_S_S4096x3080 main_cst_3
  let main_v14 : IVec S4096x3080 1 := cmpf .olt main_v12 main_v13
  (main_v2, main_v5, main_v8, main_v11, main_v14)
-- ==== LossK.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_11 : BitVec 32 := 0#32
  let v30 : BitVec 1 := Scalar.cmpi .ne v29 c0_i32_11
  v30

def k0_cond2 (i : grid0.Coords) : BitVec 1 :=
  let arg0 : BitVec 32 := BitVec.ofNat 32 (i 0).val
  let c0_i32 : BitVec 32 := 0#32
  let v28 : BitVec 1 := Scalar.cmpi .eq arg0 c0_i32
  let v_true : BitVec 1 := 1#1
  let v31 : BitVec 1 := Scalar.xori v28 v_true
  let v32 : BitVec 32 := Scalar.extui v31
  let c0_i32_12 : BitVec 32 := 0#32
  let v33 : BitVec 1 := Scalar.cmpi .ne v32 c0_i32_12
  v33

def k0_cond3 (i : grid0.Coords) : BitVec 1 :=
  let arg0 : BitVec 32 := BitVec.ofNat 32 (i 0).val
  let c0_i32_19 : BitVec 32 := 0#32
  let v52 : BitVec 1 := Scalar.cmpi .eq arg0 c0_i32_19
  let v53 : BitVec 32 := Scalar.extui v52
  let c0_i32_20 : BitVec 32 := 0#32
  let v54 : BitVec 1 := Scalar.cmpi .ne v53 c0_i32_20
  v54

def k0_cond4 (i : grid0.Coords) : BitVec 1 :=
  let arg0 : BitVec 32 := BitVec.ofNat 32 (i 0).val
  let c0_i32_19 : BitVec 32 := 0#32
  let v52 : BitVec 1 := Scalar.cmpi .eq arg0 c0_i32_19
  let true_21 : BitVec 1 := 1#1
  let v55 : BitVec 1 := Scalar.xori v52 true_21
  let v56 : BitVec 32 := Scalar.extui v55
  let c0_i32_22 : BitVec 32 := 0#32
  let v57 : BitVec 1 := Scalar.cmpi .ne v56 c0_i32_22
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S8x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== ProjBwdK.lean ====
abbrev S4096x1024 : Shape := ⟨2, ![4096, 1024]⟩
abbrev S1024 : Shape := ⟨1, ![1024]⟩
abbrev S1024x3080 : Shape := ⟨2, ![1024, 3080]⟩
abbrev S4096x3080 : Shape := ⟨2, ![4096, 3080]⟩
abbrev S4096x512 : Shape := ⟨2, ![4096, 512]⟩
abbrev S4096x1536 : Shape := ⟨2, ![4096, 1536]⟩
abbrev S4096x8 : Shape := ⟨2, ![4096, 8]⟩
abbrev S_ : Shape := ⟨0, ![]⟩
abbrev S4096x128 : Shape := ⟨2, ![4096, 128]⟩
abbrev S1024x3200 : Shape := ⟨2, ![1024, 3200]⟩
abbrev S1x1024 : Shape := ⟨2, ![1, 1024]⟩
abbrev S4096x3200 : Shape := ⟨2, ![4096, 3200]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512x3200 : Shape := ⟨2, ![512, 3200]⟩
abbrev S512 : Shape := ⟨1, ![512]⟩
abbrev S512x1 : Shape := ⟨2, ![512, 1]⟩

abbrev nBuf : Space → Nat
  | .hbm => 26
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3080, .f32⟩
  | .hbm, ⟨6, _⟩ => ⟨S4096x3080, .f32⟩
  | .hbm, ⟨7, _⟩ => ⟨S4096x512, .f32⟩
  | .hbm, ⟨8, _⟩ => ⟨S4096x512, .f32⟩
  | .hbm, ⟨9, _⟩ => ⟨S4096x1536, .f32⟩
  | .hbm, ⟨10, _⟩ => ⟨S4096x512, .f32⟩
  | .hbm, ⟨11, _⟩ => ⟨S4096x8, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S_, .i32⟩
  | .hbm, ⟨16, _⟩ => ⟨S_, .f32⟩
  | .hbm, ⟨17, _⟩ => ⟨S1024x3200, .f32⟩
  | .hbm, ⟨18, _⟩ => ⟨S1024x3200, .bf16⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S4096x3200, .bf16⟩
  | .hbm, ⟨23, _⟩ => ⟨S1x1024, .f32⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S1x1024, .f32⟩
  | .local _ .vmem, ⟨15, _⟩ => ⟨S1x1024, .f32⟩
  | .local _ .vmem, ⟨16, _⟩ => ⟨S1024x3200, .bf16⟩
  | .local _ .vmem, ⟨17, _⟩ => ⟨S512x1024, .f32⟩
  | .local _ .vmem, ⟨18, _⟩ => ⟨S512x1024, .f32⟩
  | .local _ .vmem, ⟨19, _⟩ => ⟨S512x3200, .bf16⟩
  | .local _ .vmem, ⟨20, _⟩ => ⟨S512x3200, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_32 : BitVec 32 := 0#32
  let v62 : BitVec 1 := Scalar.cmpi .ne v61 c0_i32_32
  v62

def k0_cond2 (i : grid0.Coords) : BitVec 1 :=
  let arg0 : BitVec 32 := BitVec.ofNat 32 (i 0).val
  let c0_i32 : BitVec 32 := 0#32
  let v60 : BitVec 1 := Scalar.cmpi .eq arg0 c0_i32
  let v_true : BitVec 1 := 1#1
  let v63 : BitVec 1 := Scalar.xori v60 v_true
  let v64 : BitVec 32 := Scalar.extui v63
  let c0_i32_33 : BitVec 32 := 0#32
  let v65 : BitVec 1 := Scalar.cmpi .ne v64 c0_i32_33
  v65

def k0_cond3 (i : grid0.Coords) : BitVec 1 :=
  let arg0 : BitVec 32 := BitVec.ofNat 32 (i 0).val
  let c0_i32_34 : BitVec 32 := 0#32
  let v66 : BitVec 1 := Scalar.cmpi .eq arg0 c0_i32_34
  let v67 : BitVec 32 := Scalar.extui v66
  let c0_i32_35 : BitVec 32 := 0#32
  let v68 : BitVec 1 := Scalar.cmpi .ne v67 c0_i32_35
  v68

def k0_cond4 (i : grid0.Coords) : BitVec 1 :=
  let arg0 : BitVec 32 := BitVec.ofNat 32 (i 0).val
  let c0_i32_34 : BitVec 32 := 0#32
  let v66 : BitVec 1 := Scalar.cmpi .eq arg0 c0_i32_34
  let true_36 : BitVec 1 := 1#1
  let v69 : BitVec 1 := Scalar.xori v66 true_36
  let v70 : BitVec 32 := Scalar.extui v69
  let c0_i32_37 : BitVec 32 := 0#32
  let v71 : BitVec 1 := Scalar.cmpi .ne v70 c0_i32_37
  v71

def k0_cond5 (i : grid0.Coords) : BitVec 1 :=
  let arg0 : BitVec 32 := BitVec.ofNat 32 (i 0).val
  let c0_i32_38 : BitVec 32 := 0#32
  let v72 : BitVec 1 := Scalar.cmpi .eq arg0 c0_i32_38
  let v73 : BitVec 32 := Scalar.extui v72
  let c0_i32_39 : BitVec 32 := 0#32
  let v74 : BitVec 1 := Scalar.cmpi .ne v73 c0_i32_39
  v74

def k0_cond6 (i : grid0.Coords) : BitVec 1 :=
  let arg0 : BitVec 32 := BitVec.ofNat 32 (i 0).val
  let c0_i32_38 : BitVec 32 := 0#32
  let v72 : BitVec 1 := Scalar.cmpi .eq arg0 c0_i32_38
  let true_40 : BitVec 1 := 1#1
  let v75 : BitVec 1 := Scalar.xori v72 true_40
  let v76 : BitVec 32 := Scalar.extui v75
  let c0_i32_41 : BitVec 32 := 0#32
  let v77 : BitVec 1 := Scalar.cmpi .ne v76 c0_i32_41
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3200 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3200 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ProjBwdRIdeal.lean ====
abbrev S4096x1024 : Shape := ⟨2, ![4096, 1024]⟩
abbrev S1024 : Shape := ⟨1, ![1024]⟩
abbrev S1024x3080 : Shape := ⟨2, ![1024, 3080]⟩
abbrev S4096x3080 : Shape := ⟨2, ![4096, 3080]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3200 : Shape := ⟨2, ![4096, 3200]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x3080, .f32⟩
  | .hbm, ⟨6, _⟩ => ⟨S4096x3080, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x3080, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .i32⟩
  | .hbm, ⟨78, _⟩ => ⟨S_, .f32⟩
  | .hbm, ⟨79, _⟩ => ⟨S4096x3200, .f32⟩
  | .hbm, ⟨80, _⟩ => ⟨S4096x3200, .bf16⟩
  | .hbm, ⟨81, _⟩ => ⟨S1x1024, .f32⟩
  | .hbm, ⟨82, _⟩ => ⟨S1x1024, .f32⟩
  | .hbm, ⟨83, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c : Ref sig .tc := ⟨.hbm, 77, rfl⟩
abbrev main_call0_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== MlpBwdK.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S4096x4096 : Shape := ⟨2, ![4096, 4096]⟩
abbrev S256x1024 : Shape := ⟨2, ![256, 1024]⟩
abbrev S256x4096 : Shape := ⟨2, ![256, 4096]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩

abbrev nBuf : Space → Nat
  | .hbm => 22
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S4096x4096, .bf16⟩
  | .hbm, ⟨17, _⟩ => ⟨S4096x4096, .bf16⟩
  | .hbm, ⟨18, _⟩ => ⟨S4096x1024, .bf16⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x4096, .bf16⟩
  | .local _ .vmem, ⟨22, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_49 : BitVec 32 := 0#32
  let v96 : BitVec 1 := Scalar.cmpi .eq arg0 c0_i32_49
  let v97 : BitVec 32 := Scalar.extui v96
  let c0_i32_50 : BitVec 32 := 0#32
  let v98 : BitVec 1 := Scalar.cmpi .ne v97 c0_i32_50
  v98

def k0_cond3 (i : grid0.Coords) : BitVec 1 :=
  let arg0 : BitVec 32 := BitVec.ofNat 32 (i 0).val
  let c0_i32_49 : BitVec 32 := 0#32
  let v96 : BitVec 1 := Scalar.cmpi .eq arg0 c0_i32_49
  let v_true : BitVec 1 := 1#1
  let v99 : BitVec 1 := Scalar.xori v96 v_true
  let v100 : BitVec 32 := Scalar.extui v99
  let c0_i32_51 : BitVec 32 := 0#32
  let v101 : BitVec 1 := Scalar.cmpi .ne v100 c0_i32_51
  v101

def k0_cond4 (i : grid0.Coords) : BitVec 1 :=
  let arg0 : BitVec 32 := BitVec.ofNat 32 (i 0).val
  let c0_i32_52 : BitVec 32 := 0#32
  let v102 : BitVec 1 := Scalar.cmpi .eq arg0 c0_i32_52
  let v103 : BitVec 32 := Scalar.extui v102
  let c0_i32_53 : BitVec 32 := 0#32
  let v104 : BitVec 1 := Scalar.cmpi .ne v103 c0_i32_53
  v104

def k0_cond5 (i : grid0.Coords) : BitVec 1 :=
  let arg0 : BitVec 32 := BitVec.ofNat 32 (i 0).val
  let c0_i32_52 : BitVec 32 := 0#32
  let v102 : BitVec 1 := Scalar.cmpi .eq arg0 c0_i32_52
  let true_54 : BitVec 1 := 1#1
  let v105 : BitVec 1 := Scalar.xori v102 true_54
  let v106 : BitVec 32 := Scalar.extui v105
  let c0_i32_55 : BitVec 32 := 0#32
  let v107 : BitVec 1 := Scalar.cmpi .ne v106 c0_i32_55
  v107

def k0_cond6 (i : grid0.Coords) : BitVec 1 :=
  let arg0 : BitVec 32 := BitVec.ofNat 32 (i 0).val
  let c0_i32_56 : BitVec 32 := 0#32
  let v108 : BitVec 1 := Scalar.cmpi .eq arg0 c0_i32_56
  let v109 : BitVec 32 := Scalar.extui v108
  let c0_i32_57 : BitVec 32 := 0#32
  let v110 : BitVec 1 := Scalar.cmpi .ne v109 c0_i32_57
  v110

def k0_cond7 (i : grid0.Coords) : BitVec 1 :=
  let arg0 : BitVec 32 := BitVec.ofNat 32 (i 0).val
  let c0_i32_56 : BitVec 32 := 0#32
  let v108 : BitVec 1 := Scalar.cmpi .eq arg0 c0_i32_56
  let true_58 : BitVec 1 := 1#1
  let v111 : BitVec 1 := Scalar.xori v108 true_58
  let v112 : BitVec 32 := Scalar.extui v111
  let c0_i32_59 : BitVec 32 := 0#32
  let v113 : BitVec 1 := Scalar.cmpi .ne v112 c0_i32_59
  v113

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpBwdRIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .i1⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .bf16⟩
  | .hbm, ⟨102, _⟩ => ⟨S4096x4096, .bf16⟩
  | .hbm, ⟨103, _⟩ => ⟨S4096x4096, .bf16⟩
  | .hbm, ⟨104, _⟩ => ⟨S4096x1024, .bf16⟩
  | .hbm, ⟨105, _⟩ => ⟨S1x1024, .f32⟩
  | .hbm, ⟨106, _⟩ => ⟨S1x1024, .f32⟩
  | .hbm, ⟨107, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_cst : Ref sig .tc := ⟨.hbm, 38, rfl⟩
abbrev main_call0_v0 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== DwDownK.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S2x4x512x1024 : Shape := ⟨4, ![2, 4, 512, 1024]⟩
abbrev S2048x1024 : Shape := ⟨2, ![2048, 1024]⟩
abbrev S1024x1024 : Shape := ⟨2, ![1024, 1024]⟩
abbrev S2x1x512x1024 : Shape := ⟨4, ![2, 1, 512, 1024]⟩
abbrev S512x1024 : Shape := ⟨2, ![512, 1024]⟩
abbrev S1x1x512x1024 : Shape := ⟨4, ![1, 1, 512, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x4096, .bf16⟩
  | .hbm, ⟨5, _⟩ => ⟨S4096x1024, .bf16⟩
  | .hbm, ⟨6, _⟩ => ⟨S1x1024, .f32⟩
  | .hbm, ⟨7, _⟩ => ⟨S4096x1024, .bf16⟩
  | .hbm, ⟨8, _⟩ => ⟨S2x4x512x1024, .bf16⟩
  | .hbm, ⟨9, _⟩ => ⟨S1x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S2x1x512x1024, .bf16⟩
  | .local _ .vmem, ⟨8, _⟩ => ⟨S2x1x512x1024, .bf16⟩
  | .local _ .vmem, ⟨9, _⟩ => ⟨S1x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_5 : BitVec 32 := 0#32
  let v13 : BitVec 1 := Scalar.cmpi .ne v12 c0_i32_5
  v13

def k0_cond4 (i : grid0.Coords) : BitVec 1 :=
  let arg0 : BitVec 32 := BitVec.ofNat 32 (i 0).val
  let c0_i32_11 : BitVec 32 := 0#32
  let v21 : BitVec 1 := Scalar.cmpi .eq arg0 c0_i32_11
  let v22 : BitVec 32 := Scalar.extui v21
  let c0_i32_12 : BitVec 32 := 0#32
  let v23 : BitVec 1 := Scalar.cmpi .ne v22 c0_i32_12
  v23

def k0_cond5 (i : grid0.Coords) : BitVec 1 :=
  let arg0 : BitVec 32 := BitVec.ofNat 32 (i 0).val
  let c0_i32_11 : BitVec 32 := 0#32
  let v21 : BitVec 1 := Scalar.cmpi .eq arg0 c0_i32_11
  let true_13 : BitVec 1 := 1#1
  let v24 : BitVec 1 := Scalar.xori v21 true_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== DwDownRIdeal.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S1024x4096 : Shape := ⟨2, ![1024, 4096]⟩
abbrev S4x2x512x1024 : Shape := ⟨4, ![4, 2, 512, 1024]⟩
abbrev S2x4x512x1024 : Shape := ⟨4, ![2, 4, 512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1024, .f32⟩
  | .hbm, ⟨16, _⟩ => ⟨S1024x4096, .f32⟩
  | .hbm, ⟨17, _⟩ => ⟨S4096x1024, .f32⟩
  | .hbm, ⟨18, _⟩ => ⟨S4x2x512x1024, .f32⟩
  | .hbm, ⟨19, _⟩ => ⟨S2x4x512x1024, .f32⟩
  | .hbm, ⟨20, _⟩ => ⟨S2x4x512x1024, .bf16⟩
  | .hbm, ⟨21, _⟩ => ⟨S1x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ConvLruK.lean ====
abbrev S4096x3080 : Shape := ⟨2, ![4096, 3080]⟩
abbrev S4x512 : Shape := ⟨2, ![4, 512]⟩
abbrev S512 : Shape := ⟨1, ![512]⟩
abbrev S4096x512 : Shape := ⟨2, ![4096, 512]⟩
abbrev S_ : Shape := ⟨0, ![]⟩
abbrev S4096x3200 : Shape := ⟨2, ![4096, 3200]⟩
abbrev S8x512 : Shape := ⟨2, ![8, 512]⟩
abbrev S1x512 : Shape := ⟨2, ![1, 512]⟩
abbrev S512x512 : Shape := ⟨2, ![512, 512]⟩
abbrev S528x512 : Shape := ⟨2, ![528, 512]⟩
abbrev S520x512 : Shape := ⟨2, ![520, 512]⟩

abbrev nBuf : Space → Nat
  | .hbm => 14
  | .vmem => 16
  | .smem => 0
  | _ => 0

abbrev bufTy : (tb : Table) → Fin (tcTables nBuf tb) → BufTy
  | .hbm, ⟨0, _⟩ => ⟨S4096x3080, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S_, .i32⟩
  | .hbm, ⟨5, _⟩ => ⟨S_, .f32⟩
  | .hbm, ⟨6, _⟩ => ⟨S4096x3200, .f32⟩
  | .hbm, ⟨7, _⟩ => ⟨S_, .i32⟩
  | .hbm, ⟨8, _⟩ => ⟨S_, .f32⟩
  | .hbm, ⟨9, _⟩ => ⟨S8x512, .f32⟩
  | .hbm, ⟨10, _⟩ => ⟨S1x512, .f32⟩
  | .hbm, ⟨11, _⟩ => ⟨S4096x512, .f32⟩
  | .hbm, ⟨12, _⟩ => ⟨S8x512, .f32⟩
  | .hbm, ⟨13, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S8x512, .f32⟩
  | .local _ .vmem, ⟨15, _⟩ => ⟨S1x512, .f32⟩
  | _, _ => ⟨S4096x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32_19 : BitVec 32 := 0#32
  let v64 : BitVec 1 := Scalar.cmpi .eq arg1 c0_i32_19
  let v65 : BitVec 32 := Scalar.extui v64
  let c0_i32_20 : BitVec 32 := 0#32
  let v66 : BitVec 1 := Scalar.cmpi .ne v65 c0_i32_20
  v66

def k0_cond2 (i : grid0.Coords) : BitVec 1 :=
  let arg1 : BitVec 32 := BitVec.ofNat 32 (i 1).val
  let c0_i32_19 : BitVec 32 := 0#32
  let v64 : BitVec 1 := Scalar.cmpi .eq arg1 c0_i32_19
  let v_true : BitVec 1 := 1#1
  let v67 : BitVec 1 := Scalar.xori v64 v_true
  let v68 : BitVec 32 := Scalar.extui v67
  let c0_i32_21 : BitVec 32 := 0#32
  let v69 : BitVec 1 := Scalar.cmpi .ne v68 c0_i32_21
  v69

def k0_cond3 (i : grid0.Coords) : BitVec 1 :=
  let arg1 : BitVec 32 := BitVec.ofNat 32 (i 1).val
  let c0_i32_23 : BitVec 32 := 0#32
  let v72 : BitVec 1 := Scalar.cmpi .eq arg1 c0_i32_23
  let v73 : BitVec 32 := Scalar.extui v72
  let c0_i32_24 : BitVec 32 := 0#32
  let v74 : BitVec 1 := Scalar.cmpi .ne v73 c0_i32_24
  v74

def k0_cond4 (i : grid0.Coords) : BitVec 1 :=
  let arg1 : BitVec 32 := BitVec.ofNat 32 (i 1).val
  let c0_i32_23 : BitVec 32 := 0#32
  let v72 : BitVec 1 := Scalar.cmpi .eq arg1 c0_i32_23
  let true_25 : BitVec 1 := 1#1
  let v75 : BitVec 1 := Scalar.xori v72 true_25
  let v76 : BitVec 32 := Scalar.extui v75
  let c0_i32_26 : BitVec 32 := 0#32
  let v77 : BitVec 1 := Scalar.cmpi .ne v76 c0_i32_26
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ConvLruRIdeal.lean ====
abbrev S4096x3080 : Shape := ⟨2, ![4096, 3080]⟩
abbrev S4x512 : Shape := ⟨2, ![4, 512]⟩
abbrev S512 : Shape := ⟨1, ![512]⟩
abbrev S4096x512 : Shape := ⟨2, ![4096, 512]⟩
abbrev S_ : Shape := ⟨0, ![]⟩
abbrev S3x512 : Shape := ⟨2, ![3, 512]⟩
abbrev S4099x512 : Shape := ⟨2, ![4099, 512]⟩
abbrev S1x512 : Shape := ⟨2, ![1, 512]⟩
abbrev S8x512 : Shape := ⟨2, ![8, 512]⟩

abbrev nBuf : Space → Nat
  | .hbm => 110
  | .vmem => 0
  | .smem => 0
  | _ => 0

abbrev bufTy : (tb : Table) → Fin (tcTables nBuf tb) → BufTy
  | .hbm, ⟨0, _⟩ => ⟨S4096x3080, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S3x512, .f32⟩
  | .hbm, ⟨7, _⟩ => ⟨S4099x512, .f32⟩
  | .hbm, ⟨8, _⟩ => ⟨S_, .f32⟩
  | .hbm, ⟨9, _⟩ => ⟨S3x512, .f32⟩
  | .hbm, ⟨10, _⟩ => ⟨S4096x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S512, .f32⟩
  | .hbm, ⟨43, _⟩ => ⟨S1x512, .f32⟩
  | .hbm, ⟨44, _⟩ => ⟨S_, .f32⟩
  | .hbm, ⟨45, _⟩ => ⟨S512, .f32⟩
  | .hbm, ⟨46, _⟩ => ⟨S4096x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S_, .f32⟩
  | .hbm, ⟨56, _⟩ => ⟨S4x512, .f32⟩
  | .hbm, ⟨57, _⟩ => ⟨S_, .f32⟩
  | .hbm, ⟨58, _⟩ => ⟨S4099x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S_, .f32⟩
  | .hbm, ⟨69, _⟩ => ⟨S4x512, .f32⟩
  | .hbm, ⟨70, _⟩ => ⟨S4x512, .f32⟩
  | .hbm, ⟨71, _⟩ => ⟨S_, .f32⟩
  | .hbm, ⟨72, _⟩ => ⟨S4099x512, .f32⟩
  | .hbm, ⟨73, _⟩ => ⟨S4099x512, .f32⟩
  | .hbm, ⟨74, _⟩ => ⟨S4096x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S512, .f32⟩
  | .hbm, ⟨82, _⟩ => ⟨S1x512, .f32⟩
  | .hbm, ⟨83, _⟩ => ⟨S_, .f32⟩
  | .hbm, ⟨84, _⟩ => ⟨S4x512, .f32⟩
  | .hbm, ⟨85, _⟩ => ⟨S4x512, .f32⟩
  | .hbm, ⟨86, _⟩ => ⟨S_, .f32⟩
  | .hbm, ⟨87, _⟩ => ⟨S4099x512, .f32⟩
  | .hbm, ⟨88, _⟩ => ⟨S4099x512, .f32⟩
  | .hbm, ⟨89, _⟩ => ⟨S4096x512, .f32⟩
  | .hbm, ⟨90, _⟩ => ⟨S_, .f32⟩
  | .hbm, ⟨91, _⟩ => ⟨S512, .f32⟩
  | .hbm, ⟨92, _⟩ => ⟨S1x512, .f32⟩
  | .hbm, ⟨93, _⟩ => ⟨S4096x512, .f32⟩
  | .hbm, ⟨94, _⟩ => ⟨S4096x512, .f32⟩
  | .hbm, ⟨95, _⟩ => ⟨S_, .f32⟩
  | .hbm, ⟨96, _⟩ => ⟨S512, .f32⟩
  | .hbm, ⟨97, _⟩ => ⟨S1x512, .f32⟩
  | .hbm, ⟨98, _⟩ => ⟨S_, .f32⟩
  | .hbm, ⟨99, _⟩ => ⟨S4x512, .f32⟩
  | .hbm, ⟨100, _⟩ => ⟨S4x512, .f32⟩
  | .hbm, ⟨101, _⟩ => ⟨S_, .f32⟩
  | .hbm, ⟨102, _⟩ => ⟨S4099x512, .f32⟩
  | .hbm, ⟨103, _⟩ => ⟨S4099x512, .f32⟩
  | .hbm, ⟨104, _⟩ => ⟨S3x512, .f32⟩
  | .hbm, ⟨105, _⟩ => ⟨S4096x512, .f32⟩
  | .hbm, ⟨106, _⟩ => ⟨S_, .i32⟩
  | .hbm, ⟨107, _⟩ => ⟨S_, .f32⟩
  | .hbm, ⟨108, _⟩ => ⟨S8x512, .f32⟩
  | .hbm, ⟨109, _⟩ => ⟨S1x512, .f32⟩
  | _, _ => ⟨S4096x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_cst_17 : Ref sig .tc := ⟨.hbm, 98, rfl⟩
abbrev main_v76 : Ref sig .tc := ⟨.hbm, 99, rfl⟩
abbrev main_v77 : Ref sig .tc := ⟨.hbm, 100, rfl⟩
abbrev main_cst_18 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c : Ref sig .tc := ⟨.hbm, 106, rfl⟩
abbrev main_call0_v0 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== ConvGdnK.lean ====
abbrev S4096x3080 : Shape := ⟨2, ![4096, 3080]⟩
abbrev S4x1536 : Shape := ⟨2, ![4, 1536]⟩
abbrev S4096x1536 : Shape := ⟨2, ![4096, 1536]⟩
abbrev S_ : Shape := ⟨0, ![]⟩
abbrev S1x1536 : Shape := ⟨2, ![1, 1536]⟩
abbrev S4096x3200 : Shape := ⟨2, ![4096, 3200]⟩
abbrev S8x1536 : Shape := ⟨2, ![8, 1536]⟩
abbrev S512x512 : Shape := ⟨2, ![512, 512]⟩
abbrev S8x512 : Shape := ⟨2, ![8, 512]⟩
abbrev S1x512 : Shape := ⟨2, ![1, 512]⟩
abbrev S528x512 : Shape := ⟨2, ![528, 512]⟩
abbrev S520x512 : Shape := ⟨2, ![520, 512]⟩
abbrev S512 : Shape := ⟨1, ![512]⟩
abbrev S4x512 : Shape := ⟨2, ![4, 512]⟩

abbrev nBuf : Space → Nat
  | .hbm => 14
  | .vmem => 20
  | .smem => 0
  | _ => 0

abbrev bufTy : (tb : Table) → Fin (tcTables nBuf tb) → BufTy
  | .hbm, ⟨0, _⟩ => ⟨S4096x3080, .f32⟩
  | .hbm, ⟨1, _⟩ => ⟨S4x1536, .f32⟩
  | .hbm, ⟨2, _⟩ => ⟨S4096x1536, .f32⟩
  | .hbm, ⟨3, _⟩ => ⟨S_, .f32⟩
  | .hbm, ⟨4, _⟩ => ⟨S1x1536, .f32⟩
  | .hbm, ⟨5, _⟩ => ⟨S_, .i32⟩
  | .hbm, ⟨6, _⟩ => ⟨S_, .f32⟩
  | .hbm, ⟨7, _⟩ => ⟨S4096x3200, .f32⟩
  | .hbm, ⟨8, _⟩ => ⟨S_, .i32⟩
  | .hbm, ⟨9, _⟩ => ⟨S_, .f32⟩
  | .hbm, ⟨10, _⟩ => ⟨S8x1536, .f32⟩
  | .hbm, ⟨11, _⟩ => ⟨S4096x1536, .f32⟩
  | .hbm, ⟨12, _⟩ => ⟨S8x1536, .f32⟩
  | .hbm, ⟨13, _⟩ => ⟨S1x1536, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S8x512, .f32⟩
  | .local _ .vmem, ⟨17, _⟩ => ⟨S8x512, .f32⟩
  | .local _ .vmem, ⟨18, _⟩ => ⟨S1x512, .f32⟩
  | .local _ .vmem, ⟨19, _⟩ => ⟨S1x512, .f32⟩
  | _, _ => ⟨S4096x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg1 : BitVec 32 := BitVec.ofNat 32 (i 1).val
  let c0_i32_26 : BitVec 32 := 0#32
  let v98 : BitVec 1 := Scalar.cmpi .eq arg1 c0_i32_26
  let v99 : BitVec 32 := Scalar.extui v98
  let c0_i32_27 : BitVec 32 := 0#32
  let v100 : BitVec 1 := Scalar.cmpi .ne v99 c0_i32_27
  v100

def k0_cond2 (i : grid0.Coords) : BitVec 1 :=
  let arg1 : BitVec 32 := BitVec.ofNat 32 (i 1).val
  let c0_i32_26 : BitVec 32 := 0#32
  let v98 : BitVec 1 := Scalar.cmpi .eq arg1 c0_i32_26
  let v_true : BitVec 1 := 1#1
  let v101 : BitVec 1 := Scalar.xori v98 v_true
  let v102 : BitVec 32 := Scalar.extui v101
  let c0_i32_28 : BitVec 32 := 0#32
  let v103 : BitVec 1 := Scalar.cmpi .ne v102 c0_i32_28
  v103

def k0_cond3 (i : grid0.Coords) : BitVec 1 :=
  let arg1 : BitVec 32 := BitVec.ofNat 32 (i 1).val
  let c0_i32_30 : BitVec 32 := 0#32
  let v106 : BitVec 1 := Scalar.cmpi .eq arg1 c0_i32_30
  let v107 : BitVec 32 := Scalar.extui v106
  let c0_i32_31 : BitVec 32 := 0#32
  let v108 : BitVec 1 := Scalar.cmpi .ne v107 c0_i32_31
  v108

def k0_cond4 (i : grid0.Coords) : BitVec 1 :=
  let arg1 : BitVec 32 := BitVec.ofNat 32 (i 1).val
  let c0_i32_30 : BitVec 32 := 0#32
  let v106 : BitVec 1 := Scalar.cmpi .eq arg1 c0_i32_30
  let true_32 : BitVec 1 := 1#1
  let v109 : BitVec 1 := Scalar.xori v106 true_32
  let v110 : BitVec 32 := Scalar.extui v109
  let c0_i32_33 : BitVec 32 := 0#32
  let v111 : BitVec 1 := Scalar.cmpi .ne v110 c0_i32_33
  v111

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c2_i32 : BitVec 32 := 2#32
  let v3 : BitVec 32 := Scalar.addi c2_i32 arg0
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvGdnRIdeal.lean ====
abbrev S4096x3080 : Shape := ⟨2, ![4096, 3080]⟩
abbrev S4x1536 : Shape := ⟨2, ![4, 1536]⟩
abbrev S4096x1536 : Shape := ⟨2, ![4096, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S8x1536 : Shape := ⟨2, ![8, 1536]⟩

abbrev nBuf : Space → Nat
  | .hbm => 116
  | .vmem => 0
  | .smem => 0
  | _ => 0

abbrev bufTy : (tb : Table) → Fin (tcTables nBuf tb) → BufTy
  | .hbm, ⟨0, _⟩ => ⟨S4096x3080, .f32⟩
  | .hbm, ⟨1, _⟩ => ⟨S4x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S3x1536, .f32⟩
  | .hbm, ⟨6, _⟩ => ⟨S4099x1536, .f32⟩
  | .hbm, ⟨7, _⟩ => ⟨S_, .f32⟩
  | .hbm, ⟨8, _⟩ => ⟨S3x1536, .f32⟩
  | .hbm, ⟨9, _⟩ => ⟨S4096x1536, .f32⟩
  | .hbm, ⟨10, _⟩ => ⟨S1x1536, .f32⟩
  | .hbm, ⟨11, _⟩ => ⟨S1536, .f32⟩
  | .hbm, ⟨12, _⟩ => ⟨S1x1536, .f32⟩
  | .hbm, ⟨13, _⟩ => ⟨S4096x1536, .f32⟩
  | .hbm, ⟨14, _⟩ => ⟨S4096x1536, .f32⟩
  | .hbm, ⟨15, _⟩ => ⟨S4096x1536, .f32⟩
  | .hbm, ⟨16, _⟩ => ⟨S1x1536, .f32⟩
  | .hbm, ⟨17, _⟩ => ⟨S1536, .f32⟩
  | .hbm, ⟨18, _⟩ => ⟨S1x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S1x1536, .f32⟩
  | .hbm, ⟨24, _⟩ => ⟨S1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | .hbm, ⟨41, _⟩ => ⟨S_, .f32⟩
  | .hbm, ⟨42, _⟩ => ⟨S4096x1536, .f32⟩
  | .hbm, ⟨43, _⟩ => ⟨S4096x1536, .f32⟩
  | .hbm, ⟨44, _⟩ => ⟨S_, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S4096x1536, .f32⟩
  | .hbm, ⟨50, _⟩ => ⟨S4096x1536, .f32⟩
  | .hbm, ⟨51, _⟩ => ⟨S4096x1536, .f32⟩
  | .hbm, ⟨52, _⟩ => ⟨S4096x1536, .f32⟩
  | .hbm, ⟨53, _⟩ => ⟨S4096x1536, .f32⟩
  | .hbm, ⟨54, _⟩ => ⟨S_, .f32⟩
  | .hbm, ⟨55, _⟩ => ⟨S1536, .f32⟩
  | .hbm, ⟨56, _⟩ => ⟨S1x1536, .f32⟩
  | .hbm, ⟨57, _⟩ => ⟨S4096x1536, .f32⟩
  | .hbm, ⟨58, _⟩ => ⟨S4096x1536, .f32⟩
  | .hbm, ⟨59, _⟩ => ⟨S_, .f32⟩
  | .hbm, ⟨60, _⟩ => ⟨S1536, .f32⟩
  | .hbm, ⟨61, _⟩ => ⟨S1x1536, .f32⟩
  | .hbm, ⟨62, _⟩ => ⟨S_, .f32⟩
  | .hbm, ⟨63, _⟩ => ⟨S4x1536, .f32⟩
  | .hbm, ⟨64, _⟩ => ⟨S_, .f32⟩
  | .hbm, ⟨65, _⟩ => ⟨S4099x1536, .f32⟩
  | .hbm, ⟨66, _⟩ => ⟨S4096x1536, .f32⟩
  | .hbm, ⟨67, _⟩ => ⟨S_, .f32⟩
  | .hbm, ⟨68, _⟩ => ⟨S1536, .f32⟩
  | .hbm, ⟨69, _⟩ => ⟨S1x1536, .f32⟩
  | .hbm, ⟨70, _⟩ => ⟨S4096x1536, .f32⟩
  | .hbm, ⟨71, _⟩ => ⟨S4096x1536, .f32⟩
  | .hbm, ⟨72, _⟩ => ⟨S_, .f32⟩
  | .hbm, ⟨73, _⟩ => ⟨S1536, .f32⟩
  | .hbm, ⟨74, _⟩ => ⟨S1x1536, .f32⟩
  | .hbm, ⟨75, _⟩ => ⟨S_, .f32⟩
  | .hbm, ⟨76, _⟩ => ⟨S4x1536, .f32⟩
  | .hbm, ⟨77, _⟩ => ⟨S4x1536, .f32⟩
  | .hbm, ⟨78, _⟩ => ⟨S_, .f32⟩
  | .hbm, ⟨79, _⟩ => ⟨S4099x1536, .f32⟩
  | .hbm, ⟨80, _⟩ => ⟨S4099x1536, .f32⟩
  | .hbm, ⟨81, _⟩ => ⟨S4096x1536, .f32⟩
  | .hbm, ⟨82, _⟩ => ⟨S_, .f32⟩
  | .hbm, ⟨83, _⟩ => ⟨S1536, .f32⟩
  | .hbm, ⟨84, _⟩ => ⟨S1x1536, .f32⟩
  | .hbm, ⟨85, _⟩ => ⟨S4096x1536, .f32⟩
  | .hbm, ⟨86, _⟩ => ⟨S4096x1536, .f32⟩
  | .hbm, ⟨87, _⟩ => ⟨S_, .f32⟩
  | .hbm, ⟨88, _⟩ => ⟨S1536, .f32⟩
  | .hbm, ⟨89, _⟩ => ⟨S1x1536, .f32⟩
  | .hbm, ⟨90, _⟩ => ⟨S_, .f32⟩
  | .hbm, ⟨91, _⟩ => ⟨S4x1536, .f32⟩
  | .hbm, ⟨92, _⟩ => ⟨S4x1536, .f32⟩
  | .hbm, ⟨93, _⟩ => ⟨S_, .f32⟩
  | .hbm, ⟨94, _⟩ => ⟨S4099x1536, .f32⟩
  | .hbm, ⟨95, _⟩ => ⟨S4099x1536, .f32⟩
  | .hbm, ⟨96, _⟩ => ⟨S4096x1536, .f32⟩
  | .hbm, ⟨97, _⟩ => ⟨S_, .f32⟩
  | .hbm, ⟨98, _⟩ => ⟨S1536, .f32⟩
  | .hbm, ⟨99, _⟩ => ⟨S1x1536, .f32⟩
  | .hbm, ⟨100, _⟩ => ⟨S4096x1536, .f32⟩
  | .hbm, ⟨101, _⟩ => ⟨S4096x1536, .f32⟩
  | .hbm, ⟨102, _⟩ => ⟨S_, .f32⟩
  | .hbm, ⟨103, _⟩ => ⟨S1536, .f32⟩
  | .hbm, ⟨104, _⟩ => ⟨S1x1536, .f32⟩
  | .hbm, ⟨105, _⟩ => ⟨S_, .f32⟩
  | .hbm, ⟨106, _⟩ => ⟨S4x1536, .f32⟩
  | .hbm, ⟨107, _⟩ => ⟨S4x1536, .f32⟩
  | .hbm, ⟨108, _⟩ => ⟨S_, .f32⟩
  | .hbm, ⟨109, _⟩ => ⟨S4099x1536, .f32⟩
  | .hbm, ⟨110, _⟩ => ⟨S4099x1536, .f32⟩
  | .hbm, ⟨111, _⟩ => ⟨S3x1536, .f32⟩
  | .hbm, ⟨112, _⟩ => ⟨S4096x1536, .f32⟩
  | .hbm, ⟨113, _⟩ => ⟨S_, .i32⟩
  | .hbm, ⟨114, _⟩ => ⟨S_, .f32⟩
  | .hbm, ⟨115, _⟩ => ⟨S8x1536, .f32⟩
  | _, _ => ⟨S4096x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c : Ref sig .tc := ⟨.hbm, 113, rfl⟩
abbrev main_call2_v0 : Ref sig .tc := ⟨.hbm, 114, rfl⟩
abbrev main_v77 : Ref sig .tc := ⟨.hbm, 115, rfl⟩

abbrev nD : Nat := 1
abbrev τ : Topo := Topo.v7x

variable {F : FTy → Type} [FloatOps F]
-- ==== OutBwdK.lean ====
abbrev S4096x1024 : Shape := ⟨2, ![4096, 1024]⟩
abbrev S4096x512 : Shape := ⟨2, ![4096, 512]⟩
abbrev S4096x3080 : Shape := ⟨2, ![4096, 3080]⟩
abbrev S128 : Shape := ⟨1, ![128]⟩
abbrev S1024 : Shape := ⟨1, ![1024]⟩
abbrev S1024x1024 : Shape := ⟨2, ![1024, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S4096x3200 : Shape := ⟨2, ![4096, 3200]⟩
abbrev S1x128 : Shape := ⟨2, ![1, 128]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x384 : Shape := ⟨2, ![512, 384]⟩
abbrev S512x256 : Shape := ⟨2, ![512, 256]⟩

abbrev nBuf : Space → Nat
  | .hbm => 52
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S4096x3080, .f32⟩
  | .hbm, ⟨5, _⟩ => ⟨S128, .f32⟩
  | .hbm, ⟨6, _⟩ => ⟨S1024, .f32⟩
  | .hbm, ⟨7, _⟩ => ⟨S1024x1024, .f32⟩
  | .hbm, ⟨8, _⟩ => ⟨S4096x4x128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x128, .f32⟩
  | .hbm, ⟨21, _⟩ => ⟨S4096x4x128, .f32⟩
  | .hbm, ⟨22, _⟩ => ⟨S1x1x128, .f32⟩
  | .hbm, ⟨23, _⟩ => ⟨S4096x4x128, .f32⟩
  | .hbm, ⟨24, _⟩ => ⟨S4096x4x128, .f32⟩
  | .hbm, ⟨25, _⟩ => ⟨S4096x512, .f32⟩
  | .hbm, ⟨26, _⟩ => ⟨S4096x4x128, .f32⟩
  | .hbm, ⟨27, _⟩ => ⟨S4096x4x128, .f32⟩
  | .hbm, ⟨28, _⟩ => ⟨S4096x4x128, .f32⟩
  | .hbm, ⟨29, _⟩ => ⟨S_, .f32⟩
  | .hbm, ⟨30, _⟩ => ⟨S4096x4x128, .f32⟩
  | .hbm, ⟨31, _⟩ => ⟨S4096x4x128, .f32⟩
  | .hbm, ⟨32, _⟩ => ⟨S_, .f32⟩
  | .hbm, ⟨33, _⟩ => ⟨S4096x4x128, .f32⟩
  | .hbm, ⟨34, _⟩ => ⟨S4096x4x128, .f32⟩
  | .hbm, ⟨35, _⟩ => ⟨S4096x4x128, .f32⟩
  | .hbm, ⟨36, _⟩ => ⟨S4096x4x128, .f32⟩
  | .hbm, ⟨37, _⟩ => ⟨S4096x512, .f32⟩
  | .hbm, ⟨38, _⟩ => ⟨S4096x1024, .f32⟩
  | .hbm, ⟨39, _⟩ => ⟨S4096x1024, .bf16⟩
  | .hbm, ⟨40, _⟩ => ⟨S_, .i32⟩
  | .hbm, ⟨41, _⟩ => ⟨S_, .f32⟩
  | .hbm, ⟨42, _⟩ => ⟨S4096x3200, .f32⟩
  | .hbm, ⟨43, _⟩ => ⟨S1x128, .f32⟩
  | .hbm, ⟨44, _⟩ => ⟨S1x1024, .f32⟩
  | .hbm, ⟨45, _⟩ => ⟨S1024x1024, .bf16⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x1024, .bf16⟩
  | .hbm, ⟨50, _⟩ => ⟨S1x128, .f32⟩
  | .hbm, ⟨51, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128, .f32⟩
  | .local _ .vmem, ⟨9, _⟩ => ⟨S1x1024, .f32⟩
  | .local _ .vmem, ⟨10, _⟩ => ⟨S1024x1024, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S1x128, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_call1_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev main_v25_3 : Ref sig .tc := ⟨.hbm, 49, rfl⟩
abbrev main_v25_4 : Ref sig .tc := ⟨.hbm, 50, rfl⟩
abbrev main_v25_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_71 : BitVec 32 := 0#32
  let v263 : BitVec 1 := Scalar.cmpi .eq arg0 c0_i32_71
  let v264 : BitVec 32 := Scalar.extui v263
  let c0_i32_72 : BitVec 32 := 0#32
  let v265 : BitVec 1 := Scalar.cmpi .ne v264 c0_i32_72
  v265

def k0_cond4 (i : grid0.Coords) : BitVec 1 :=
  let arg0 : BitVec 32 := BitVec.ofNat 32 (i 0).val
  let c0_i32_71 : BitVec 32 := 0#32
  let v263 : BitVec 1 := Scalar.cmpi .eq arg0 c0_i32_71
  let true_73 : BitVec 1 := 1#1
  let v266 : BitVec 1 := Scalar.xori v263 true_73
  let v267 : BitVec 32 := Scalar.extui v266
  let c0_i32_74 : BitVec 32 := 0#32
  let v268 : BitVec 1 := Scalar.cmpi .ne v267 c0_i32_74
  v268

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32 : BitVec 32 := 0#32
  let v9 : BitVec 1 := Scalar.cmpi .eq arg0 c0_i32
  let v_true : BitVec 1 := 1#1
  let v12 : BitVec 1 := Scalar.xori v9 v_true
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutBwdRIdeal.lean ====
abbrev S4096x1024 : Shape := ⟨2, ![4096, 1024]⟩
abbrev S4096x512 : Shape := ⟨2, ![4096, 512]⟩
abbrev S4096x3080 : Shape := ⟨2, ![4096, 3080]⟩
abbrev S128 : Shape := ⟨1, ![128]⟩
abbrev S1024 : Shape := ⟨1, ![1024]⟩
abbrev S1024x1024 : Shape := ⟨2, ![1024, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1x1024 : Shape := ⟨2, ![1, 1024]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S4096x3080, .f32⟩
  | .hbm, ⟨5, _⟩ => ⟨S128, .f32⟩
  | .hbm, ⟨6, _⟩ => ⟨S1024, .f32⟩
  | .hbm, ⟨7, _⟩ => ⟨S1024x1024, .f32⟩
  | .hbm, ⟨8, _⟩ => ⟨S4096x512, .f32⟩
  | .hbm, ⟨9, _⟩ => ⟨S4096x4x128, .f32⟩
  | .hbm, ⟨10, _⟩ => ⟨S4096x4x128, .f32⟩
  | .hbm, ⟨11, _⟩ => ⟨S_, .f32⟩
  | .hbm, ⟨12, _⟩ => ⟨S4096x4, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S4096x4x1, .f32⟩
  | .hbm, ⟨22, _⟩ => ⟨S_, .f32⟩
  | .hbm, ⟨23, _⟩ => ⟨S4096x4x1, .f32⟩
  | .hbm, ⟨24, _⟩ => ⟨S4096x4x1, .f32⟩
  | .hbm, ⟨25, _⟩ => ⟨S4096x4x128, .f32⟩
  | .hbm, ⟨26, _⟩ => ⟨S4096x4x128, .f32⟩
  | .hbm, ⟨27, _⟩ => ⟨S1x1x128, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x4x128, .f32⟩
  | .hbm, ⟨32, _⟩ => ⟨S4096x4x128, .f32⟩
  | .hbm, ⟨33, _⟩ => ⟨S_, .f32⟩
  | .hbm, ⟨34, _⟩ => ⟨S4096x4x128, .f32⟩
  | .hbm, ⟨35, _⟩ => ⟨S4096x4x128, .f32⟩
  | .hbm, ⟨36, _⟩ => ⟨S_, .f32⟩
  | .hbm, ⟨37, _⟩ => ⟨S4096x4x128, .f32⟩
  | .hbm, ⟨38, _⟩ => ⟨S4096x4x128, .f32⟩
  | .hbm, ⟨39, _⟩ => ⟨S_, .f32⟩
  | .hbm, ⟨40, _⟩ => ⟨S4096x4x128, .f32⟩
  | .hbm, ⟨41, _⟩ => ⟨S4096x4x128, .f32⟩
  | .hbm, ⟨42, _⟩ => ⟨S4096x4x128, .f32⟩
  | .hbm, ⟨43, _⟩ => ⟨S4096x4x128, .f32⟩
  | .hbm, ⟨44, _⟩ => ⟨S4096x4x128, .f32⟩
  | .hbm, ⟨45, _⟩ => ⟨S4096x512, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S4096x512, .f32⟩
  | .hbm, ⟨62, _⟩ => ⟨S4096x512, .f32⟩
  | .hbm, ⟨63, _⟩ => ⟨S4096x4x128, .f32⟩
  | .hbm, ⟨64, _⟩ => ⟨S4096x4x128, .f32⟩
  | .hbm, ⟨65, _⟩ => ⟨S4096x4x128, .f32⟩
  | .hbm, ⟨66, _⟩ => ⟨S4096x4x128, .f32⟩
  | .hbm, ⟨67, _⟩ => ⟨S4096x4x128, .f32⟩
  | .hbm, ⟨68, _⟩ => ⟨S4096x4x128, .f32⟩
  | .hbm, ⟨69, _⟩ => ⟨S4096x4x128, .f32⟩
  | .hbm, ⟨70, _⟩ => ⟨S4096x512, .f32⟩
  | .hbm, ⟨71, _⟩ => ⟨S4096x4x128, .f32⟩
  | .hbm, ⟨72, _⟩ => ⟨S_, .f32⟩
  | .hbm, ⟨73, _⟩ => ⟨S128, .f32⟩
  | .hbm, ⟨74, _⟩ => ⟨S1x1x128, .f32⟩
  | .hbm, ⟨75, _⟩ => ⟨S4096x4x128, .f32⟩
  | .hbm, ⟨76, _⟩ => ⟨S4096x4x128, .f32⟩
  | .hbm, ⟨77, _⟩ => ⟨S_, .f32⟩
  | .hbm, ⟨78, _⟩ => ⟨S128, .f32⟩
  | .hbm, ⟨79, _⟩ => ⟨S4096x4x128, .f32⟩
  | .hbm, ⟨80, _⟩ => ⟨S_, .f32⟩
  | .hbm, ⟨81, _⟩ => ⟨S4096x4, .f32⟩
  | .hbm, ⟨82, _⟩ => ⟨S4096x4x1, .f32⟩
  | .hbm, ⟨83, _⟩ => ⟨S4096x4x128, .f32⟩
  | .hbm, ⟨84, _⟩ => ⟨S4096x4x128, .f32⟩
  | .hbm, ⟨85, _⟩ => ⟨S4096x4x1, .f32⟩
  | .hbm, ⟨86, _⟩ => ⟨S_, .f32⟩
  | .hbm, ⟨87, _⟩ => ⟨S4096x4x1, .f32⟩
  | .hbm, ⟨88, _⟩ => ⟨S4096x4x1, .f32⟩
  | .hbm, ⟨89, _⟩ => ⟨S_, .f32⟩
  | .hbm, ⟨90, _⟩ => ⟨S4096x4, .f32⟩
  | .hbm, ⟨91, _⟩ => ⟨S4096x4x128, .f32⟩
  | .hbm, ⟨92, _⟩ => ⟨S4096x4x128, .f32⟩
  | .hbm, ⟨93, _⟩ => ⟨S4096x4x128, .f32⟩
  | .hbm, ⟨94, _⟩ => ⟨S4096x4x128, .f32⟩
  | .hbm, ⟨95, _⟩ => ⟨S4096x4x128, .f32⟩
  | .hbm, ⟨96, _⟩ => ⟨S4096x512, .f32⟩
  | .hbm, ⟨97, _⟩ => ⟨S4096x1024, .bf16⟩
  | .hbm, ⟨98, _⟩ => ⟨S1x128, .f32⟩
  | .hbm, ⟨99, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_5 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_6 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== LruBwdK.lean ====
abbrev S4096x512 : Shape := ⟨2, ![4096, 512]⟩
abbrev S4096x3080 : Shape := ⟨2, ![4096, 3080]⟩
abbrev S8x64x64 : Shape := ⟨3, ![8, 64, 64]⟩
abbrev S512 : Shape := ⟨1, ![512]⟩
abbrev S_ : Shape := ⟨0, ![]⟩
abbrev S4096x3200 : Shape := ⟨2, ![4096, 3200]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S1x512 : Shape := ⟨2, ![1, 512]⟩
abbrev S4096x8x64 : Shape := ⟨3, ![4096, 8, 64]⟩
abbrev S8x64x4096 : Shape := ⟨3, ![8, 64, 4096]⟩
abbrev S4095x512 : Shape := ⟨2, ![4095, 512]⟩
abbrev S2x512 : Shape := ⟨2, ![2, 512]⟩
abbrev S4094x512 : Shape := ⟨2, ![4094, 512]⟩
abbrev S4x512 : Shape := ⟨2, ![4, 512]⟩
abbrev S4092x512 : Shape := ⟨2, ![4092, 512]⟩
abbrev S8x512 : Shape := ⟨2, ![8, 512]⟩
abbrev S4088x512 : Shape := ⟨2, ![4088, 512]⟩
abbrev S16x512 : Shape := ⟨2, ![16, 512]⟩
abbrev S4080x512 : Shape := ⟨2, ![4080, 512]⟩
abbrev S32x512 : Shape := ⟨2, ![32, 512]⟩
abbrev S4064x512 : Shape := ⟨2, ![4064, 512]⟩
abbrev S64x512 : Shape := ⟨2, ![64, 512]⟩
abbrev S4032x512 : Shape := ⟨2, ![4032, 512]⟩
abbrev S128x512 : Shape := ⟨2, ![128, 512]⟩
abbrev S3968x512 : Shape := ⟨2, ![3968, 512]⟩
abbrev S256x512 : Shape := ⟨2, ![256, 512]⟩
abbrev S3840x512 : Shape := ⟨2, ![3840, 512]⟩
abbrev S3584x512 : Shape := ⟨2, ![3584, 512]⟩
abbrev S1024x512 : Shape := ⟨2, ![1024, 512]⟩
abbrev S3072x512 : Shape := ⟨2, ![3072, 512]⟩
abbrev S2048x512 : Shape := ⟨2, ![2048, 512]⟩
abbrev S256 : Shape := ⟨1, ![256]⟩
abbrev S256x1 : Shape := ⟨2, ![256, 1]⟩
abbrev S1x64x1x64 : Shape := ⟨4, ![1, 64, 1, 64]⟩
abbrev S64x64 : Shape := ⟨2, ![64, 64]⟩
abbrev S1x64x64 : Shape := ⟨3, ![1, 64, 64]⟩

abbrev nBuf : Space → Nat
  | .hbm => 299
  | .vmem => 27
  | .smem => 0
  | _ => 0

abbrev hbmTy0_0 (i : Nat) : BufTy := match i % 128 with
  | 0 => ⟨S4096x512, .f32⟩
  | 1 => ⟨S4096x512, .f32⟩
  | 2 => ⟨S4096x3080, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S512, .f32⟩
  | 9 => ⟨S_, .i32⟩
  | 10 => ⟨S_, .f32⟩
  | 11 => ⟨S4096x3200, .f32⟩
  | 12 => ⟨S8x8, .i32⟩
  | 13 => ⟨S8x8, .i32⟩
  | 14 => ⟨S_, .i32⟩
  | 15 => ⟨S8x8, .i32⟩
  | 16 => ⟨S8x8, .i32⟩
  | 17 => ⟨S8x8, .i1⟩
  | 18 => ⟨S8x8, .f32⟩
  | 19 => ⟨S8x1x8x1, .f32⟩
  | 20 => ⟨S8x64x1x64, .f32⟩
  | 21 => ⟨S8x64x8x64, .f32⟩
  | 22 => ⟨S8x64x8x64, .f32⟩
  | 23 => ⟨S8x64x8x64, .f32⟩
  | 24 => ⟨S512x512, .f32⟩
  | 25 => ⟨S512x512, .bf16⟩
  | 26 => ⟨S1x512, .f32⟩
  | 27 => ⟨S8x8, .i32⟩
  | 28 => ⟨S8x8, .i32⟩
  | 29 => ⟨S_, .i32⟩
  | 30 => ⟨S8x8, .i32⟩
  | 31 => ⟨S8x8, .i32⟩
  | 32 => ⟨S8x8, .i1⟩
  | 33 => ⟨S8x8, .f32⟩
  | 34 => ⟨S8x1x8x1, .f32⟩
  | 35 => ⟨S8x64x1x64, .f32⟩
  | 36 => ⟨S8x64x8x64, .f32⟩
  | 37 => ⟨S8x64x8x64, .f32⟩
  | 38 => ⟨S8x64x8x64, .f32⟩
  | 39 => ⟨S512x512, .f32⟩
  | 40 => ⟨S512x512, .bf16⟩
  | 41 => ⟨S1x512, .f32⟩
  | 42 => ⟨S1x512, .f32⟩
  | 43 => ⟨S1x512, .f32⟩
  | 44 => ⟨S4096x8x64, .f32⟩
  | 45 => ⟨S8x64x4096, .f32⟩
  | 46 => ⟨S4096x8x64, .f32⟩
  | 47 => ⟨S4096x512, .f32⟩
  | 48 => ⟨S1x512, .f32⟩
  | 49 => ⟨S4096x512, .f32⟩
  | 50 => ⟨S4096x512, .f32⟩
  | 51 => ⟨S8x64x4096, .f32⟩
  | 52 => ⟨S4096x8x64, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S512, .f32⟩
  | 77 => ⟨S_, .f32⟩
  | 78 => ⟨S512, .f32⟩
  | 79 => ⟨S512, .f32⟩
  | 80 => ⟨S512, .f32⟩
  | 81 => ⟨S512, .f32⟩
  | 82 => ⟨S512, .i1⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S1x512, .f32⟩
  | 93 => ⟨S4096x512, .f32⟩
  | 94 => ⟨S4096x512, .f32⟩
  | 95 => ⟨S4096x512, .f32⟩
  | 96 => ⟨S_, .f32⟩
  | 97 => ⟨S4096x512, .f32⟩
  | 98 => ⟨S4096x512, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S_, .f32⟩
  | 108 => ⟨S1x512, .f32⟩
  | 109 => ⟨S4095x512, .f32⟩
  | 110 => ⟨S4096x512, .f32⟩
  | 111 => ⟨S_, .f32⟩
  | 112 => ⟨S1x512, .f32⟩
  | 113 => ⟨S4095x512, .f32⟩
  | 114 => ⟨S4096x512, .f32⟩
  | 115 => ⟨S4096x512, .f32⟩
  | 116 => ⟨S4096x512, .f32⟩
  | 117 => ⟨S4096x512, .f32⟩
  | 118 => ⟨S_, .f32⟩
  | 119 => ⟨S2x512, .f32⟩
  | 120 => ⟨S4094x512, .f32⟩
  | 121 => ⟨S4096x512, .f32⟩
  | 122 => ⟨S_, .f32⟩
  | 123 => ⟨S2x512, .f32⟩
  | 124 => ⟨S4094x512, .f32⟩
  | 125 => ⟨S4096x512, .f32⟩
  | 126 => ⟨S4096x512, .f32⟩
  | 127 => ⟨S4096x512, .f32⟩
  | _ => ⟨S4096x512, .f32⟩

abbrev hbmTy0_1 (i : Nat) : BufTy := match i % 128 with
  | 0 => ⟨S4096x512, .f32⟩
  | 1 => ⟨S_, .f32⟩
  | 2 => ⟨S4x512, .f32⟩
  | 3 => ⟨S4092x512, .f32⟩
  | 4 => ⟨S4096x512, .f32⟩
  | 5 => ⟨S_, .f32⟩
  | 6 => ⟨S4x512, .f32⟩
  | 7 => ⟨S4092x512, .f32⟩
  | 8 => ⟨S4096x512, .f32⟩
  | 9 => ⟨S4096x512, .f32⟩
  | 10 => ⟨S4096x512, .f32⟩
  | 11 => ⟨S4096x512, .f32⟩
  | 12 => ⟨S_, .f32⟩
  | 13 => ⟨S8x512, .f32⟩
  | 14 => ⟨S4088x512, .f32⟩
  | 15 => ⟨S4096x512, .f32⟩
  | 16 => ⟨S_, .f32⟩
  | 17 => ⟨S8x512, .f32⟩
  | 18 => ⟨S4088x512, .f32⟩
  | 19 => ⟨S4096x512, .f32⟩
  | 20 => ⟨S4096x512, .f32⟩
  | 21 => ⟨S4096x512, .f32⟩
  | 22 => ⟨S4096x512, .f32⟩
  | 23 => ⟨S_, .f32⟩
  | 24 => ⟨S16x512, .f32⟩
  | 25 => ⟨S4080x512, .f32⟩
  | 26 => ⟨S4096x512, .f32⟩
  | 27 => ⟨S_, .f32⟩
  | 28 => ⟨S16x512, .f32⟩
  | 29 => ⟨S4080x512, .f32⟩
  | 30 => ⟨S4096x512, .f32⟩
  | 31 => ⟨S4096x512, .f32⟩
  | 32 => ⟨S4096x512, .f32⟩
  | 33 => ⟨S4096x512, .f32⟩
  | 34 => ⟨S_, .f32⟩
  | 35 => ⟨S32x512, .f32⟩
  | 36 => ⟨S4064x512, .f32⟩
  | 37 => ⟨S4096x512, .f32⟩
  | 38 => ⟨S_, .f32⟩
  | 39 => ⟨S32x512, .f32⟩
  | 40 => ⟨S4064x512, .f32⟩
  | 41 => ⟨S4096x512, .f32⟩
  | 42 => ⟨S4096x512, .f32⟩
  | 43 => ⟨S4096x512, .f32⟩
  | 44 => ⟨S4096x512, .f32⟩
  | 45 => ⟨S_, .f32⟩
  | 46 => ⟨S64x512, .f32⟩
  | 47 => ⟨S4032x512, .f32⟩
  | 48 => ⟨S4096x512, .f32⟩
  | 49 => ⟨S_, .f32⟩
  | 50 => ⟨S64x512, .f32⟩
  | 51 => ⟨S4032x512, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S128x512, .f32⟩
  | 58 => ⟨S3968x512, .f32⟩
  | 59 => ⟨S4096x512, .f32⟩
  | 60 => ⟨S_, .f32⟩
  | 61 => ⟨S128x512, .f32⟩
  | 62 => ⟨S3968x512, .f32⟩
  | 63 => ⟨S4096x512, .f32⟩
  | 64 => ⟨S4096x512, .f32⟩
  | 65 => ⟨S4096x512, .f32⟩
  | 66 => ⟨S4096x512, .f32⟩
  | 67 => ⟨S_, .f32⟩
  | 68 => ⟨S256x512, .f32⟩
  | 69 => ⟨S3840x512, .f32⟩
  | 70 => ⟨S4096x512, .f32⟩
  | 71 => ⟨S_, .f32⟩
  | 72 => ⟨S256x512, .f32⟩
  | 73 => ⟨S3840x512, .f32⟩
  | 74 => ⟨S4096x512, .f32⟩
  | 75 => ⟨S4096x512, .f32⟩
  | 76 => ⟨S4096x512, .f32⟩
  | 77 => ⟨S4096x512, .f32⟩
  | 78 => ⟨S_, .f32⟩
  | 79 => ⟨S512x512, .f32⟩
  | 80 => ⟨S3584x512, .f32⟩
  | 81 => ⟨S4096x512, .f32⟩
  | 82 => ⟨S_, .f32⟩
  | 83 => ⟨S512x512, .f32⟩
  | 84 => ⟨S3584x512, .f32⟩
  | 85 => ⟨S4096x512, .f32⟩
  | 86 => ⟨S4096x512, .f32⟩
  | 87 => ⟨S4096x512, .f32⟩
  | 88 => ⟨S4096x512, .f32⟩
  | 89 => ⟨S_, .f32⟩
  | 90 => ⟨S1024x512, .f32⟩
  | 91 => ⟨S3072x512, .f32⟩
  | 92 => ⟨S4096x512, .f32⟩
  | 93 => ⟨S_, .f32⟩
  | 94 => ⟨S1024x512, .f32⟩
  | 95 => ⟨S3072x512, .f32⟩
  | 96 => ⟨S4096x512, .f32⟩
  | 97 => ⟨S4096x512, .f32⟩
  | 98 => ⟨S4096x512, .f32⟩
  | 99 => ⟨S4096x512, .f32⟩
  | 100 => ⟨S_, .f32⟩
  | 101 => ⟨S2048x512, .f32⟩
  | 102 => ⟨S2048x512, .f32⟩
  | 103 => ⟨S4096x512, .f32⟩
  | 104 => ⟨S_, .f32⟩
  | 105 => ⟨S2048x512, .f32⟩
  | 106 => ⟨S2048x512, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S512x512, .f32⟩
  | 114 => ⟨S1x512, .f32⟩
  | 115 => ⟨S512x512, .f32⟩
  | 116 => ⟨S1x512, .f32⟩
  | 117 => ⟨S1x512, .f32⟩
  | 118 => ⟨S1x512, .f32⟩
  | 119 => ⟨S8x64x8x64, .f32⟩
  | 120 => ⟨S1x64x1x64, .f32⟩
  | 121 => ⟨S64x64, .f32⟩
  | 122 => ⟨S1x64x1x64, .f32⟩
  | 123 => ⟨S64x64, .f32⟩
  | 124 => ⟨S1x64x1x64, .f32⟩
  | 125 => ⟨S64x64, .f32⟩
  | 126 => ⟨S1x64x1x64, .f32⟩
  | 127 => ⟨S64x64, .f32⟩
  | _ => ⟨S4096x512, .f32⟩

abbrev hbmTy0_2 (i : Nat) : BufTy := match i % 128 with
  | 0 => ⟨S1x64x1x64, .f32⟩
  | 1 => ⟨S64x64, .f32⟩
  | 2 => ⟨S1x64x1x64, .f32⟩
  | 3 => ⟨S64x64, .f32⟩
  | 4 => ⟨S1x64x1x64, .f32⟩
  | 5 => ⟨S64x64, .f32⟩
  | 6 => ⟨S1x64x1x64, .f32⟩
  | 7 => ⟨S64x64, .f32⟩
  | 8 => ⟨S1x64x64, .f32⟩
  | 9 => ⟨S1x64x64, .f32⟩
  | 10 => ⟨S1x64x64, .f32⟩
  | 11 => ⟨S1x64x64, .f32⟩
  | 12 => ⟨S1x64x64, .f32⟩
  | 13 => ⟨S1x64x64, .f32⟩
  | 14 => ⟨S1x64x64, .f32⟩
  | 15 => ⟨S1x64x64, .f32⟩
  | 16 => ⟨S8x64x64, .f32⟩
  | 17 => ⟨S8x64x8x64, .f32⟩
  | 18 => ⟨S1x64x1x64, .f32⟩
  | 19 => ⟨S64x64, .f32⟩
  | 20 => ⟨S1x64x1x64, .f32⟩
  | 21 => ⟨S64x64, .f32⟩
  | 22 => ⟨S1x64x1x64, .f32⟩
  | 23 => ⟨S64x64, .f32⟩
  | 24 => ⟨S1x64x1x64, .f32⟩
  | 25 => ⟨S64x64, .f32⟩
  | 26 => ⟨S1x64x1x64, .f32⟩
  | 27 => ⟨S64x64, .f32⟩
  | 28 => ⟨S1x64x1x64, .f32⟩
  | 29 => ⟨S64x64, .f32⟩
  | 30 => ⟨S1x64x1x64, .f32⟩
  | 31 => ⟨S64x64, .f32⟩
  | 32 => ⟨S1x64x1x64, .f32⟩
  | 33 => ⟨S64x64, .f32⟩
  | 34 => ⟨S1x64x64, .f32⟩
  | 35 => ⟨S1x64x64, .f32⟩
  | 36 => ⟨S1x64x64, .f32⟩
  | 37 => ⟨S1x64x64, .f32⟩
  | 38 => ⟨S1x64x64, .f32⟩
  | 39 => ⟨S1x64x64, .f32⟩
  | 40 => ⟨S1x64x64, .f32⟩
  | 41 => ⟨S1x64x64, .f32⟩
  | 42 => ⟨S8x64x64, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S512x512, .f32⟩
  | .local _ .vmem, ⟨21, _⟩ => ⟨S1x512, .f32⟩
  | .local _ .vmem, ⟨22, _⟩ => ⟨S512x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst : Ref sig .tc := ⟨.hbm, 59, rfl⟩
abbrev main_v46 : Ref sig .tc := ⟨.hbm, 60, rfl⟩
abbrev main_v47 : Ref sig .tc := ⟨.hbm, 61, rfl⟩
abbrev main_cst_2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_3 : Ref sig .tc := ⟨.hbm, 67, rfl⟩
abbrev main_v52 : Ref sig .tc := ⟨.hbm, 68, rfl⟩
abbrev main_v53 : Ref sig .tc := ⟨.hbm, 69, rfl⟩
abbrev main_cst_4 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev main_call1_v0 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_v4 : Ref sig .tc := ⟨.hbm, 82, rfl⟩
abbrev main_call1_call0_v5 : Ref sig .tc := ⟨.hbm, 83, rfl⟩
abbrev main_call1_call0_v6 : Ref sig .tc := ⟨.hbm, 84, rfl⟩
abbrev main_call1_call0_v7 : Ref sig .tc := ⟨.hbm, 85, rfl⟩
abbrev main_call1_call0_v8 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_v1 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_6 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_7 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_8 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_9 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_10 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_11 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_12 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_13 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_14 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_15 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_16 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_17 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_18 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_19 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_20 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_21 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_22 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_23 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_24 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_25 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_26 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_27 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_28 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_cst_29 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_30 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_cst_31 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180_0 : Ref sig .tc := ⟨.hbm, 239, rfl⟩
abbrev main_v180_1 : Ref sig .tc := ⟨.hbm, 240, rfl⟩
abbrev main_v180_2 : Ref sig .tc := ⟨.hbm, 241, rfl⟩
abbrev main_v180_3 : Ref sig .tc := ⟨.hbm, 242, rfl⟩
abbrev main_v180_4 : Ref sig .tc := ⟨.hbm, 243, rfl⟩
abbrev main_v180_5 : Ref sig .tc := ⟨.hbm, 244, rfl⟩
abbrev main_v180_6 : Ref sig .tc := ⟨.hbm, 245, rfl⟩
abbrev main_v180_7 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c15_i32_0 : BitVec 32 := 15#32
  let v2 : BitVec 32 := Scalar.subi c15_i32_0 arg0
  let c32_i32_1 : BitVec 32 := 32#32
  let v3 : BitVec 32 := Scalar.muli v2 c32_i32_1
  let c1_i32 : BitVec 32 := 1#32
  let v4 : BitVec 32 := Scalar.minsi v3 c1_i32
  let v5 : BitVec 32 := Scalar.subi v1 v4
  let c0_i32 : BitVec 32 := 0#32
  let c0_i32_2 : BitVec 32 := 0#32
  ![v5.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== LruBwdRIdeal.lean ====
abbrev S4096x512 : Shape := ⟨2, ![4096, 512]⟩
abbrev S4096x3080 : Shape := ⟨2, ![4096, 3080]⟩
abbrev S8x64x64 : Shape := ⟨3, ![8, 64, 64]⟩
abbrev S512 : Shape := ⟨1, ![512]⟩
abbrev S4096x8x64 : Shape := ⟨3, ![4096, 8, 64]⟩
abbrev S8x64x4096 : Shape := ⟨3, ![8, 64, 4096]⟩
abbrev S1x512 : Shape := ⟨2, ![1, 512]⟩
abbrev S_ : Shape := ⟨0, ![]⟩
abbrev S4095x512 : Shape := ⟨2, ![4095, 512]⟩
abbrev S2x512 : Shape := ⟨2, ![2, 512]⟩
abbrev S4094x512 : Shape := ⟨2, ![4094, 512]⟩
abbrev S4x512 : Shape := ⟨2, ![4, 512]⟩
abbrev S4092x512 : Shape := ⟨2, ![4092, 512]⟩
abbrev S8x512 : Shape := ⟨2, ![8, 512]⟩
abbrev S4088x512 : Shape := ⟨2, ![4088, 512]⟩
abbrev S16x512 : Shape := ⟨2, ![16, 512]⟩
abbrev S4080x512 : Shape := ⟨2, ![4080, 512]⟩
abbrev S32x512 : Shape := ⟨2, ![32, 512]⟩
abbrev S4064x512 : Shape := ⟨2, ![4064, 512]⟩
abbrev S64x512 : Shape := ⟨2, ![64, 512]⟩
abbrev S4032x512 : Shape := ⟨2, ![4032, 512]⟩
abbrev S128x512 : Shape := ⟨2, ![128, 512]⟩
abbrev S3968x512 : Shape := ⟨2, ![3968, 512]⟩
abbrev S256x512 : Shape := ⟨2, ![256, 512]⟩
abbrev S3840x512 : Shape := ⟨2, ![3840, 512]⟩
abbrev S512x512 : Shape := ⟨2, ![512, 512]⟩
abbrev S3584x512 : Shape := ⟨2, ![3584, 512]⟩
abbrev S1024x512 : Shape := ⟨2, ![1024, 512]⟩
abbrev S3072x512 : Shape := ⟨2, ![3072, 512]⟩
abbrev S2048x512 : Shape := ⟨2, ![2048, 512]⟩
abbrev S4096 : Shape := ⟨1, ![4096]⟩
abbrev S4096x1 : Shape := ⟨2, ![4096, 1]⟩
abbrev S8x4096x64 : Shape := ⟨3, ![8, 4096, 64]⟩

abbrev nBuf : Space → Nat
  | .hbm => 632
  | .vmem => 0
  | .smem => 0
  | _ => 0

abbrev hbmTy0_0 (i : Nat) : BufTy := match i % 128 with
  | 0 => ⟨S4096x512, .f32⟩
  | 1 => ⟨S4096x512, .f32⟩
  | 2 => ⟨S4096x3080, .f32⟩
  | 3 => ⟨S8x64x64, .f32⟩
  | 4 => ⟨S512, .f32⟩
  | 5 => ⟨S8x64x64, .f32⟩
  | 6 => ⟨S512, .f32⟩
  | 7 => ⟨S512, .f32⟩
  | 8 => ⟨S512, .f32⟩
  | 9 => ⟨S4096x512, .f32⟩
  | 10 => ⟨S4096x8x64, .f32⟩
  | 11 => ⟨S8x64x4096, .f32⟩
  | 12 => ⟨S4096x8x64, .f32⟩
  | 13 => ⟨S4096x512, .f32⟩
  | 14 => ⟨S1x512, .f32⟩
  | 15 => ⟨S4096x512, .f32⟩
  | 16 => ⟨S4096x512, .f32⟩
  | 17 => ⟨S8x64x4096, .f32⟩
  | 18 => ⟨S4096x8x64, .f32⟩
  | 19 => ⟨S4096x512, .f32⟩
  | 20 => ⟨S1x512, .f32⟩
  | 21 => ⟨S4096x512, .f32⟩
  | 22 => ⟨S4096x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S512, .f32⟩
  | 51 => ⟨S_, .f32⟩
  | 52 => ⟨S512, .f32⟩
  | 53 => ⟨S512, .f32⟩
  | 54 => ⟨S512, .f32⟩
  | 55 => ⟨S512, .f32⟩
  | 56 => ⟨S512, .i1⟩
  | 57 => ⟨S512, .f32⟩
  | 58 => ⟨S512, .f32⟩
  | 59 => ⟨S512, .f32⟩
  | 60 => ⟨S512, .f32⟩
  | 61 => ⟨S512, .f32⟩
  | 62 => ⟨S512, .f32⟩
  | 63 => ⟨S512, .f32⟩
  | 64 => ⟨S512, .f32⟩
  | 65 => ⟨S_, .f32⟩
  | 66 => ⟨S512, .f32⟩
  | 67 => ⟨S512, .i1⟩
  | 68 => ⟨S_, .f32⟩
  | 69 => ⟨S512, .f32⟩
  | 70 => ⟨S512, .f32⟩
  | 71 => ⟨S_, .f32⟩
  | 72 => ⟨S512, .f32⟩
  | 73 => ⟨S512, .i1⟩
  | 74 => ⟨S_, .f32⟩
  | 75 => ⟨S512, .f32⟩
  | 76 => ⟨S512, .f32⟩
  | 77 => ⟨S512, .f32⟩
  | 78 => ⟨S512, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S512, .f32⟩
  | 87 => ⟨S512, .i1⟩
  | 88 => ⟨S_, .f32⟩
  | 89 => ⟨S512, .f32⟩
  | 90 => ⟨S512, .f32⟩
  | 91 => ⟨S512, .f32⟩
  | 92 => ⟨S512, .f32⟩
  | 93 => ⟨S512, .f32⟩
  | 94 => ⟨S_, .f32⟩
  | 95 => ⟨S512, .f32⟩
  | 96 => ⟨S512, .f32⟩
  | 97 => ⟨S512, .f32⟩
  | 98 => ⟨S1x512, .f32⟩
  | 99 => ⟨S4096x512, .f32⟩
  | 100 => ⟨S4096x512, .f32⟩
  | 101 => ⟨S4096x512, .f32⟩
  | 102 => ⟨S_, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S_, .f32⟩
  | 112 => ⟨S4096x512, .f32⟩
  | 113 => ⟨S4096x512, .i1⟩
  | 114 => ⟨S_, .f32⟩
  | 115 => ⟨S4096x512, .f32⟩
  | 116 => ⟨S4096x512, .i1⟩
  | 117 => ⟨S_, .f32⟩
  | 118 => ⟨S4096x512, .f32⟩
  | 119 => ⟨S_, .f32⟩
  | 120 => ⟨S4096x512, .f32⟩
  | 121 => ⟨S_, .f32⟩
  | 122 => ⟨S4096x512, .f32⟩
  | 123 => ⟨S4096x512, .f32⟩
  | 124 => ⟨S4096x512, .f32⟩
  | 125 => ⟨S4096x512, .f32⟩
  | 126 => ⟨S_, .f32⟩
  | 127 => ⟨S4096x512, .f32⟩
  | _ => ⟨S4096x512, .f32⟩

abbrev hbmTy0_1 (i : Nat) : BufTy := match i % 128 with
  | 0 => ⟨S4096x512, .f32⟩
  | 1 => ⟨S4096x512, .f32⟩
  | 2 => ⟨S4096x512, .f32⟩
  | 3 => ⟨S_, .f32⟩
  | 4 => ⟨S1x512, .f32⟩
  | 5 => ⟨S4095x512, .f32⟩
  | 6 => ⟨S4096x512, .f32⟩
  | 7 => ⟨S_, .f32⟩
  | 8 => ⟨S1x512, .f32⟩
  | 9 => ⟨S_, .f32⟩
  | 10 => ⟨S1x512, .f32⟩
  | 11 => ⟨S4095x512, .f32⟩
  | 12 => ⟨S4096x512, .f32⟩
  | 13 => ⟨S_, .f32⟩
  | 14 => ⟨S1x512, .f32⟩
  | 15 => ⟨S4096x512, .f32⟩
  | 16 => ⟨S4096x512, .f32⟩
  | 17 => ⟨S4096x512, .f32⟩
  | 18 => ⟨S_, .f32⟩
  | 19 => ⟨S2x512, .f32⟩
  | 20 => ⟨S4094x512, .f32⟩
  | 21 => ⟨S4096x512, .f32⟩
  | 22 => ⟨S_, .f32⟩
  | 23 => ⟨S2x512, .f32⟩
  | 24 => ⟨S_, .f32⟩
  | 25 => ⟨S2x512, .f32⟩
  | 26 => ⟨S4094x512, .f32⟩
  | 27 => ⟨S4096x512, .f32⟩
  | 28 => ⟨S_, .f32⟩
  | 29 => ⟨S2x512, .f32⟩
  | 30 => ⟨S4096x512, .f32⟩
  | 31 => ⟨S4096x512, .f32⟩
  | 32 => ⟨S4096x512, .f32⟩
  | 33 => ⟨S_, .f32⟩
  | 34 => ⟨S4x512, .f32⟩
  | 35 => ⟨S4092x512, .f32⟩
  | 36 => ⟨S4096x512, .f32⟩
  | 37 => ⟨S_, .f32⟩
  | 38 => ⟨S4x512, .f32⟩
  | 39 => ⟨S_, .f32⟩
  | 40 => ⟨S4x512, .f32⟩
  | 41 => ⟨S4092x512, .f32⟩
  | 42 => ⟨S4096x512, .f32⟩
  | 43 => ⟨S_, .f32⟩
  | 44 => ⟨S4x512, .f32⟩
  | 45 => ⟨S4096x512, .f32⟩
  | 46 => ⟨S4096x512, .f32⟩
  | 47 => ⟨S4096x512, .f32⟩
  | 48 => ⟨S_, .f32⟩
  | 49 => ⟨S8x512, .f32⟩
  | 50 => ⟨S4088x512, .f32⟩
  | 51 => ⟨S4096x512, .f32⟩
  | 52 => ⟨S_, .f32⟩
  | 53 => ⟨S8x512, .f32⟩
  | 54 => ⟨S_, .f32⟩
  | 55 => ⟨S8x512, .f32⟩
  | 56 => ⟨S4088x512, .f32⟩
  | 57 => ⟨S4096x512, .f32⟩
  | 58 => ⟨S_, .f32⟩
  | 59 => ⟨S8x512, .f32⟩
  | 60 => ⟨S4096x512, .f32⟩
  | 61 => ⟨S4096x512, .f32⟩
  | 62 => ⟨S4096x512, .f32⟩
  | 63 => ⟨S_, .f32⟩
  | 64 => ⟨S16x512, .f32⟩
  | 65 => ⟨S4080x512, .f32⟩
  | 66 => ⟨S4096x512, .f32⟩
  | 67 => ⟨S_, .f32⟩
  | 68 => ⟨S16x512, .f32⟩
  | 69 => ⟨S_, .f32⟩
  | 70 => ⟨S16x512, .f32⟩
  | 71 => ⟨S4080x512, .f32⟩
  | 72 => ⟨S4096x512, .f32⟩
  | 73 => ⟨S_, .f32⟩
  | 74 => ⟨S16x512, .f32⟩
  | 75 => ⟨S4096x512, .f32⟩
  | 76 => ⟨S4096x512, .f32⟩
  | 77 => ⟨S4096x512, .f32⟩
  | 78 => ⟨S_, .f32⟩
  | 79 => ⟨S32x512, .f32⟩
  | 80 => ⟨S4064x512, .f32⟩
  | 81 => ⟨S4096x512, .f32⟩
  | 82 => ⟨S_, .f32⟩
  | 83 => ⟨S32x512, .f32⟩
  | 84 => ⟨S_, .f32⟩
  | 85 => ⟨S32x512, .f32⟩
  | 86 => ⟨S4064x512, .f32⟩
  | 87 => ⟨S4096x512, .f32⟩
  | 88 => ⟨S_, .f32⟩
  | 89 => ⟨S32x512, .f32⟩
  | 90 => ⟨S4096x512, .f32⟩
  | 91 => ⟨S4096x512, .f32⟩
  | 92 => ⟨S4096x512, .f32⟩
  | 93 => ⟨S_, .f32⟩
  | 94 => ⟨S64x512, .f32⟩
  | 95 => ⟨S4032x512, .f32⟩
  | 96 => ⟨S4096x512, .f32⟩
  | 97 => ⟨S_, .f32⟩
  | 98 => ⟨S64x512, .f32⟩
  | 99 => ⟨S_, .f32⟩
  | 100 => ⟨S64x512, .f32⟩
  | 101 => ⟨S4032x512, .f32⟩
  | 102 => ⟨S4096x512, .f32⟩
  | 103 => ⟨S_, .f32⟩
  | 104 => ⟨S64x512, .f32⟩
  | 105 => ⟨S4096x512, .f32⟩
  | 106 => ⟨S4096x512, .f32⟩
  | 107 => ⟨S4096x512, .f32⟩
  | 108 => ⟨S_, .f32⟩
  | 109 => ⟨S128x512, .f32⟩
  | 110 => ⟨S3968x512, .f32⟩
  | 111 => ⟨S4096x512, .f32⟩
  | 112 => ⟨S_, .f32⟩
  | 113 => ⟨S128x512, .f32⟩
  | 114 => ⟨S_, .f32⟩
  | 115 => ⟨S128x512, .f32⟩
  | 116 => ⟨S3968x512, .f32⟩
  | 117 => ⟨S4096x512, .f32⟩
  | 118 => ⟨S_, .f32⟩
  | 119 => ⟨S128x512, .f32⟩
  | 120 => ⟨S4096x512, .f32⟩
  | 121 => ⟨S4096x512, .f32⟩
  | 122 => ⟨S4096x512, .f32⟩
  | 123 => ⟨S_, .f32⟩
  | 124 => ⟨S256x512, .f32⟩
  | 125 => ⟨S3840x512, .f32⟩
  | 126 => ⟨S4096x512, .f32⟩
  | 127 => ⟨S_, .f32⟩
  | _ => ⟨S4096x512, .f32⟩

abbrev hbmTy0_2 (i : Nat) : BufTy := match i % 128 with
  | 0 => ⟨S256x512, .f32⟩
  | 1 => ⟨S_, .f32⟩
  | 2 => ⟨S256x512, .f32⟩
  | 3 => ⟨S3840x512, .f32⟩
  | 4 => ⟨S4096x512, .f32⟩
  | 5 => ⟨S_, .f32⟩
  | 6 => ⟨S256x512, .f32⟩
  | 7 => ⟨S4096x512, .f32⟩
  | 8 => ⟨S4096x512, .f32⟩
  | 9 => ⟨S4096x512, .f32⟩
  | 10 => ⟨S_, .f32⟩
  | 11 => ⟨S512x512, .f32⟩
  | 12 => ⟨S3584x512, .f32⟩
  | 13 => ⟨S4096x512, .f32⟩
  | 14 => ⟨S_, .f32⟩
  | 15 => ⟨S512x512, .f32⟩
  | 16 => ⟨S_, .f32⟩
  | 17 => ⟨S512x512, .f32⟩
  | 18 => ⟨S3584x512, .f32⟩
  | 19 => ⟨S4096x512, .f32⟩
  | 20 => ⟨S_, .f32⟩
  | 21 => ⟨S512x512, .f32⟩
  | 22 => ⟨S4096x512, .f32⟩
  | 23 => ⟨S4096x512, .f32⟩
  | 24 => ⟨S4096x512, .f32⟩
  | 25 => ⟨S_, .f32⟩
  | 26 => ⟨S1024x512, .f32⟩
  | 27 => ⟨S3072x512, .f32⟩
  | 28 => ⟨S4096x512, .f32⟩
  | 29 => ⟨S_, .f32⟩
  | 30 => ⟨S1024x512, .f32⟩
  | 31 => ⟨S_, .f32⟩
  | 32 => ⟨S1024x512, .f32⟩
  | 33 => ⟨S3072x512, .f32⟩
  | 34 => ⟨S4096x512, .f32⟩
  | 35 => ⟨S_, .f32⟩
  | 36 => ⟨S1024x512, .f32⟩
  | 37 => ⟨S4096x512, .f32⟩
  | 38 => ⟨S4096x512, .f32⟩
  | 39 => ⟨S4096x512, .f32⟩
  | 40 => ⟨S_, .f32⟩
  | 41 => ⟨S2048x512, .f32⟩
  | 42 => ⟨S2048x512, .f32⟩
  | 43 => ⟨S4096x512, .f32⟩
  | 44 => ⟨S_, .f32⟩
  | 45 => ⟨S2048x512, .f32⟩
  | 46 => ⟨S_, .f32⟩
  | 47 => ⟨S2048x512, .f32⟩
  | 48 => ⟨S2048x512, .f32⟩
  | 49 => ⟨S4096x512, .f32⟩
  | 50 => ⟨S_, .f32⟩
  | 51 => ⟨S2048x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x512, .f32⟩
  | 100 => ⟨S4096x512, .f32⟩
  | 101 => ⟨S1x512, .f32⟩
  | 102 => ⟨S4096x512, .f32⟩
  | 103 => ⟨S4096x512, .f32⟩
  | 104 => ⟨S4096x512, .f32⟩
  | 105 => ⟨S_, .f32⟩
  | 106 => ⟨S512, .f32⟩
  | 107 => ⟨S1x512, .f32⟩
  | 108 => ⟨S4096x512, .f32⟩
  | 109 => ⟨S4096x512, .f32⟩
  | 110 => ⟨S_, .f32⟩
  | 111 => ⟨S512, .f32⟩
  | 112 => ⟨S4096x512, .f32⟩
  | 113 => ⟨S_, .f32⟩
  | 114 => ⟨S4096, .f32⟩
  | 115 => ⟨S4096x1, .f32⟩
  | 116 => ⟨S4096x512, .f32⟩
  | 117 => ⟨S4096x512, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x512, .f32⟩
  | 125 => ⟨S4096x512, .f32⟩
  | 126 => ⟨S4096x512, .f32⟩
  | 127 => ⟨S4096x512, .f32⟩
  | _ => ⟨S4096x512, .f32⟩

abbrev hbmTy0_3 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S_, .f32⟩
  | 6 => ⟨S4096x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S2048x512, .f32⟩
  | 21 => ⟨S2048x512, .f32⟩
  | 22 => ⟨S_, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S1024x512, .f32⟩
  | 31 => ⟨S3072x512, .f32⟩
  | 32 => ⟨S_, .f32⟩
  | 33 => ⟨S4096x512, .f32⟩
  | 34 => ⟨S4096x512, .f32⟩
  | 35 => ⟨S1024x512, .f32⟩
  | 36 => ⟨S3072x512, .f32⟩
  | 37 => ⟨S_, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S512x512, .f32⟩
  | 46 => ⟨S3584x512, .f32⟩
  | 47 => ⟨S_, .f32⟩
  | 48 => ⟨S4096x512, .f32⟩
  | 49 => ⟨S4096x512, .f32⟩
  | 50 => ⟨S512x512, .f32⟩
  | 51 => ⟨S3584x512, .f32⟩
  | 52 => ⟨S_, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S256x512, .f32⟩
  | 61 => ⟨S3840x512, .f32⟩
  | 62 => ⟨S_, .f32⟩
  | 63 => ⟨S4096x512, .f32⟩
  | 64 => ⟨S4096x512, .f32⟩
  | 65 => ⟨S256x512, .f32⟩
  | 66 => ⟨S3840x512, .f32⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S128x512, .f32⟩
  | 76 => ⟨S3968x512, .f32⟩
  | 77 => ⟨S_, .f32⟩
  | 78 => ⟨S4096x512, .f32⟩
  | 79 => ⟨S4096x512, .f32⟩
  | 80 => ⟨S128x512, .f32⟩
  | 81 => ⟨S3968x512, .f32⟩
  | 82 => ⟨S_, .f32⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S64x512, .f32⟩
  | 91 => ⟨S4032x512, .f32⟩
  | 92 => ⟨S_, .f32⟩
  | 93 => ⟨S4096x512, .f32⟩
  | 94 => ⟨S4096x512, .f32⟩
  | 95 => ⟨S64x512, .f32⟩
  | 96 => ⟨S4032x512, .f32⟩
  | 97 => ⟨S_, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S32x512, .f32⟩
  | 106 => ⟨S4064x512, .f32⟩
  | 107 => ⟨S_, .f32⟩
  | 108 => ⟨S4096x512, .f32⟩
  | 109 => ⟨S4096x512, .f32⟩
  | 110 => ⟨S32x512, .f32⟩
  | 111 => ⟨S4064x512, .f32⟩
  | 112 => ⟨S_, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S4096x512, .f32⟩
  | 119 => ⟨S4096x512, .f32⟩
  | 120 => ⟨S16x512, .f32⟩
  | 121 => ⟨S4080x512, .f32⟩
  | 122 => ⟨S_, .f32⟩
  | 123 => ⟨S4096x512, .f32⟩
  | 124 => ⟨S4096x512, .f32⟩
  | 125 => ⟨S16x512, .f32⟩
  | 126 => ⟨S4080x512, .f32⟩
  | 127 => ⟨S_, .f32⟩
  | _ => ⟨S4096x512, .f32⟩

abbrev hbmTy0_4 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S8x512, .f32⟩
  | 8 => ⟨S4088x512, .f32⟩
  | 9 => ⟨S_, .f32⟩
  | 10 => ⟨S4096x512, .f32⟩
  | 11 => ⟨S4096x512, .f32⟩
  | 12 => ⟨S8x512, .f32⟩
  | 13 => ⟨S4088x512, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4x512, .f32⟩
  | 23 => ⟨S4092x512, .f32⟩
  | 24 => ⟨S_, .f32⟩
  | 25 => ⟨S4096x512, .f32⟩
  | 26 => ⟨S4096x512, .f32⟩
  | 27 => ⟨S4x512, .f32⟩
  | 28 => ⟨S4092x512, .f32⟩
  | 29 => ⟨S_, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S2x512, .f32⟩
  | 38 => ⟨S4094x512, .f32⟩
  | 39 => ⟨S_, .f32⟩
  | 40 => ⟨S4096x512, .f32⟩
  | 41 => ⟨S4096x512, .f32⟩
  | 42 => ⟨S2x512, .f32⟩
  | 43 => ⟨S4094x512, .f32⟩
  | 44 => ⟨S_, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S1x512, .f32⟩
  | 53 => ⟨S4095x512, .f32⟩
  | 54 => ⟨S_, .f32⟩
  | 55 => ⟨S4096x512, .f32⟩
  | 56 => ⟨S4096x512, .f32⟩
  | 57 => ⟨S1x512, .f32⟩
  | 58 => ⟨S4095x512, .f32⟩
  | 59 => ⟨S_, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S4096x512, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S_, .f32⟩
  | 77 => ⟨S512, .f32⟩
  | 78 => ⟨S1x512, .f32⟩
  | 79 => ⟨S4096x512, .f32⟩
  | 80 => ⟨S4096x512, .f32⟩
  | 81 => ⟨S_, .f32⟩
  | 82 => ⟨S512, .f32⟩
  | 83 => ⟨S512, .f32⟩
  | 84 => ⟨S512, .f32⟩
  | 85 => ⟨S512, .f32⟩
  | 86 => ⟨S_, .f32⟩
  | 87 => ⟨S4096x512, .f32⟩
  | 88 => ⟨S4096x512, .f32⟩
  | 89 => ⟨S4096x512, .f32⟩
  | 90 => ⟨S4096x512, .f32⟩
  | 91 => ⟨S_, .f32⟩
  | 92 => ⟨S512, .f32⟩
  | 93 => ⟨S1x512, .f32⟩
  | 94 => ⟨S_, .f32⟩
  | 95 => ⟨S512, .f32⟩
  | 96 => ⟨S4096x8x64, .f32⟩
  | 97 => ⟨S8x64x4096, .f32⟩
  | 98 => ⟨S8x4096x64, .f32⟩
  | 99 => ⟨S4096x8x64, .f32⟩
  | 100 => ⟨S8x64x64, .f32⟩
  | 101 => ⟨S8x64x64, .f32⟩
  | 102 => ⟨S_, .f32⟩
  | 103 => ⟨S512, .f32⟩
  | 104 => ⟨S1x512, .f32⟩
  | 105 => ⟨S_, .f32⟩
  | 106 => ⟨S512, .f32⟩
  | 107 => ⟨S4096x8x64, .f32⟩
  | 108 => ⟨S8x64x4096, .f32⟩
  | 109 => ⟨S8x4096x64, .f32⟩
  | 110 => ⟨S4096x8x64, .f32⟩
  | 111 => ⟨S4096x8x64, .f32⟩
  | 112 => ⟨S8x64x64, .f32⟩
  | 113 => ⟨S8x64x64, .f32⟩
  | 114 => ⟨S4096x512, .f32⟩
  | 115 => ⟨S4096x512, .f32⟩
  | 116 => ⟨S1x512, .f32⟩
  | 117 => ⟨S1x512, .f32⟩
  | 118 => ⟨S1x512, .f32⟩
  | 119 => ⟨S1x512, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1_0 : Ref sig .tc := ⟨.hbm, 64, rfl⟩
abbrev main_call0_call0_cst_0 : Ref sig .tc := ⟨.hbm, 65, rfl⟩
abbrev main_call0_call0_v13 : Ref sig .tc := ⟨.hbm, 66, rfl⟩
abbrev main_call0_call0_v14 : Ref sig .tc := ⟨.hbm, 67, rfl⟩
abbrev main_call0_call0_cst_1 : Ref sig .tc := ⟨.hbm, 68, rfl⟩
abbrev main_call0_call0_v15 : Ref sig .tc := ⟨.hbm, 69, rfl⟩
abbrev main_call0_call0_v16 : Ref sig .tc := ⟨.hbm, 70, rfl⟩
abbrev main_call0_call0_cst_2 : Ref sig .tc := ⟨.hbm, 71, rfl⟩
abbrev main_call0_call0_v17 : Ref sig .tc := ⟨.hbm, 72, rfl⟩
abbrev main_call0_call0_v18 : Ref sig .tc := ⟨.hbm, 73, rfl⟩
abbrev main_call0_call0_cst_3 : Ref sig .tc := ⟨.hbm, 74, rfl⟩
abbrev main_call0_call0_v19 : Ref sig .tc := ⟨.hbm, 75, rfl⟩
abbrev main_call0_call0_v20 : Ref sig .tc := ⟨.hbm, 76, rfl⟩
abbrev main_call0_call0_v21 : Ref sig .tc := ⟨.hbm, 77, rfl⟩
abbrev main_v34_1 : Ref sig .tc := ⟨.hbm, 78, rfl⟩
abbrev main_call0_call0_cst_4 : Ref sig .tc := ⟨.hbm, 79, rfl⟩
abbrev main_call0_call0_cst_5 : Ref sig .tc := ⟨.hbm, 80, rfl⟩
abbrev main_call0_call0_v23 : Ref sig .tc := ⟨.hbm, 81, rfl⟩
abbrev main_call0_call0_cst_6 : Ref sig .tc := ⟨.hbm, 82, rfl⟩
abbrev main_call0_call0_cst_7 : Ref sig .tc := ⟨.hbm, 83, rfl⟩
abbrev main_call0_call0_v24 : Ref sig .tc := ⟨.hbm, 84, rfl⟩
abbrev main_call0_call0_cst_8 : Ref sig .tc := ⟨.hbm, 85, rfl⟩
abbrev main_call0_call0_v25 : Ref sig .tc := ⟨.hbm, 86, rfl⟩
abbrev main_call0_call0_v26 : Ref sig .tc := ⟨.hbm, 87, rfl⟩
abbrev main_call0_call0_cst_9 : Ref sig .tc := ⟨.hbm, 88, rfl⟩
abbrev main_call0_call0_v27 : Ref sig .tc := ⟨.hbm, 89, rfl⟩
abbrev main_call0_call0_v28 : Ref sig .tc := ⟨.hbm, 90, rfl⟩
abbrev main_call0_call0_v29 : Ref sig .tc := ⟨.hbm, 91, rfl⟩
abbrev main_call0_call0_v30 : Ref sig .tc := ⟨.hbm, 92, rfl⟩
abbrev main_call0_call0_v31 : Ref sig .tc := ⟨.hbm, 93, rfl⟩
abbrev main_call0_call0_cst_10 : Ref sig .tc := ⟨.hbm, 94, rfl⟩
abbrev main_call0_call0_v32 : Ref sig .tc := ⟨.hbm, 95, rfl⟩
abbrev main_v34_2 : Ref sig .tc := ⟨.hbm, 96, rfl⟩
abbrev main_v34_0 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_cst_6 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_7 : Ref sig .tc := ⟨.hbm, 108, rfl⟩
abbrev main_v44 : Ref sig .tc := ⟨.hbm, 109, rfl⟩
abbrev main_v45 : Ref sig .tc := ⟨.hbm, 110, rfl⟩
abbrev main_cst_8 : Ref sig .tc := ⟨.hbm, 111, rfl⟩
abbrev main_v46 : Ref sig .tc := ⟨.hbm, 112, rfl⟩
abbrev main_v47 : Ref sig .tc := ⟨.hbm, 113, rfl⟩
abbrev main_cst_9 : Ref sig .tc := ⟨.hbm, 114, rfl⟩
abbrev main_v48 : Ref sig .tc := ⟨.hbm, 115, rfl⟩
abbrev main_v49 : Ref sig .tc := ⟨.hbm, 116, rfl⟩
abbrev main_cst_10 : Ref sig .tc := ⟨.hbm, 117, rfl⟩
abbrev main_v50 : Ref sig .tc := ⟨.hbm, 118, rfl⟩
abbrev main_cst_11 : Ref sig .tc := ⟨.hbm, 119, rfl⟩
abbrev main_v51 : Ref sig .tc := ⟨.hbm, 120, rfl⟩
abbrev main_cst_12 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_cst_13 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_14 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_15 : Ref sig .tc := ⟨.hbm, 135, rfl⟩
abbrev main_v63 : Ref sig .tc := ⟨.hbm, 136, rfl⟩
abbrev main_cst_16 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_17 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_18 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst_19 : Ref sig .tc := ⟨.hbm, 150, rfl⟩
abbrev main_v74 : Ref sig .tc := ⟨.hbm, 151, rfl⟩
abbrev main_cst_20 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_cst_21 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_cst_22 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_cst_23 : Ref sig .tc := ⟨.hbm, 165, rfl⟩
abbrev main_v85 : Ref sig .tc := ⟨.hbm, 166, rfl⟩
abbrev main_cst_24 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_25 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_cst_26 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_cst_27 : Ref sig .tc := ⟨.hbm, 180, rfl⟩
abbrev main_v96 : Ref sig .tc := ⟨.hbm, 181, rfl⟩
abbrev main_cst_28 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_cst_29 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_30 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_31 : Ref sig .tc := ⟨.hbm, 195, rfl⟩
abbrev main_v107 : Ref sig .tc := ⟨.hbm, 196, rfl⟩
abbrev main_cst_32 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_cst_33 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_34 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_35 : Ref sig .tc := ⟨.hbm, 210, rfl⟩
abbrev main_v118 : Ref sig .tc := ⟨.hbm, 211, rfl⟩
abbrev main_cst_36 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_cst_37 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_cst_38 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_cst_39 : Ref sig .tc := ⟨.hbm, 225, rfl⟩
abbrev main_v129 : Ref sig .tc := ⟨.hbm, 226, rfl⟩
abbrev main_cst_40 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_cst_41 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_v136 : Ref sig .tc := ⟨.hbm, 235, rfl⟩
abbrev main_cst_42 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_cst_43 : Ref sig .tc := ⟨.hbm, 240, rfl⟩
abbrev main_v140 : Ref sig .tc := ⟨.hbm, 241, rfl⟩
abbrev main_cst_44 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_cst_45 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_cst_46 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_cst_47 : Ref sig .tc := ⟨.hbm, 255, rfl⟩
abbrev main_v151 : Ref sig .tc := ⟨.hbm, 256, rfl⟩
abbrev main_cst_48 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_49 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_cst_50 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_cst_51 : Ref sig .tc := ⟨.hbm, 270, rfl⟩
abbrev main_v162 : Ref sig .tc := ⟨.hbm, 271, rfl⟩
abbrev main_cst_52 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_53 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_cst_54 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_cst_55 : Ref sig .tc := ⟨.hbm, 285, rfl⟩
abbrev main_v173 : Ref sig .tc := ⟨.hbm, 286, rfl⟩
abbrev main_cst_56 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_cst_57 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_cst_58 : Ref sig .tc := ⟨.hbm, 296, rfl⟩
abbrev main_v181 : Ref sig .tc := ⟨.hbm, 297, rfl⟩
abbrev main_v182 : Ref sig .tc := ⟨.hbm, 298, rfl⟩
abbrev main_v183 : Ref sig .tc := ⟨.hbm, 299, rfl⟩
abbrev main_cst_59 : Ref sig .tc := ⟨.hbm, 300, rfl⟩
abbrev main_v184 : Ref sig .tc := ⟨.hbm, 301, rfl⟩
abbrev main_cst_60 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_cst_61 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_cst_62 : Ref sig .tc := ⟨.hbm, 314, rfl⟩
abbrev main_v195 : Ref sig .tc := ⟨.hbm, 315, rfl⟩
abbrev main_v196 : Ref sig .tc := ⟨.hbm, 316, rfl⟩
abbrev main_cst_63 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_cst_64 : Ref sig .tc := ⟨.hbm, 321, rfl⟩
abbrev main_v200 : Ref sig .tc := ⟨.hbm, 322, rfl⟩
abbrev main_v201 : Ref sig .tc := ⟨.hbm, 323, rfl⟩
abbrev main_v202 : Ref sig .tc := ⟨.hbm, 324, rfl⟩
abbrev main_cst_65 : Ref sig .tc := ⟨.hbm, 325, rfl⟩
abbrev main_v203 : Ref sig .tc := ⟨.hbm, 326, rfl⟩
abbrev main_v204 : Ref sig .tc := ⟨.hbm, 327, rfl⟩
abbrev main_cst_66 : Ref sig .tc := ⟨.hbm, 328, rfl⟩
abbrev main_v205 : Ref sig .tc := ⟨.hbm, 329, rfl⟩
abbrev main_v206 : Ref sig .tc := ⟨.hbm, 330, rfl⟩
abbrev main_v207 : Ref sig .tc := ⟨.hbm, 331, rfl⟩
abbrev main_cst_67 : Ref sig .tc := ⟨.hbm, 332, rfl⟩
abbrev main_v208 : Ref sig .tc := ⟨.hbm, 333, rfl⟩
abbrev main_v209 : Ref sig .tc := ⟨.hbm, 334, rfl⟩
abbrev main_cst_68 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_cst_69 : Ref sig .tc := ⟨.hbm, 341, rfl⟩
abbrev main_v215 : Ref sig .tc := ⟨.hbm, 342, rfl⟩
abbrev main_v216 : Ref sig .tc := ⟨.hbm, 343, rfl⟩
abbrev main_cst_70 : Ref sig .tc := ⟨.hbm, 344, rfl⟩
abbrev main_v217 : Ref sig .tc := ⟨.hbm, 345, rfl⟩
abbrev main_v218 : Ref sig .tc := ⟨.hbm, 346, rfl⟩
abbrev main_cst_71 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_cst_72 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_cst_73 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_cst_74 : Ref sig .tc := ⟨.hbm, 366, rfl⟩
abbrev main_v235 : Ref sig .tc := ⟨.hbm, 367, rfl⟩
abbrev main_v236 : Ref sig .tc := ⟨.hbm, 368, rfl⟩
abbrev main_cst_75 : Ref sig .tc := ⟨.hbm, 369, rfl⟩
abbrev main_v237 : Ref sig .tc := ⟨.hbm, 370, rfl⟩
abbrev main_v238 : Ref sig .tc := ⟨.hbm, 371, rfl⟩
abbrev main_v239 : Ref sig .tc := ⟨.hbm, 372, rfl⟩
abbrev main_v240 : Ref sig .tc := ⟨.hbm, 373, rfl⟩
abbrev main_v241 : Ref sig .tc := ⟨.hbm, 374, rfl⟩
abbrev main_cst_76 : Ref sig .tc := ⟨.hbm, 375, rfl⟩
abbrev main_v242 : Ref sig .tc := ⟨.hbm, 376, rfl⟩
abbrev main_v243 : Ref sig .tc := ⟨.hbm, 377, rfl⟩
abbrev main_cst_77 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_v248 : Ref sig .tc := ⟨.hbm, 383, rfl⟩
abbrev main_v249 : Ref sig .tc := ⟨.hbm, 384, rfl⟩
abbrev main_v250 : Ref sig .tc := ⟨.hbm, 385, rfl⟩
abbrev main_v251 : Ref sig .tc := ⟨.hbm, 386, rfl⟩
abbrev main_v252 : Ref sig .tc := ⟨.hbm, 387, rfl⟩
abbrev main_v253 : Ref sig .tc := ⟨.hbm, 388, rfl⟩
abbrev main_cst_78 : Ref sig .tc := ⟨.hbm, 389, rfl⟩
abbrev main_v254 : Ref sig .tc := ⟨.hbm, 390, rfl⟩
abbrev main_v255 : Ref sig .tc := ⟨.hbm, 391, rfl⟩
abbrev main_v256 : Ref sig .tc := ⟨.hbm, 392, rfl⟩
abbrev main_cst_79 : Ref sig .tc := ⟨.hbm, 393, rfl⟩
abbrev main_v257 : Ref sig .tc := ⟨.hbm, 394, rfl⟩
abbrev main_v258 : Ref sig .tc := ⟨.hbm, 395, rfl⟩
abbrev main_v259 : Ref sig .tc := ⟨.hbm, 396, rfl⟩
abbrev main_cst_80 : Ref sig .tc := ⟨.hbm, 397, rfl⟩
abbrev main_v260 : Ref sig .tc := ⟨.hbm, 398, rfl⟩
abbrev main_v261 : Ref sig .tc := ⟨.hbm, 399, rfl⟩
abbrev main_v262 : Ref sig .tc := ⟨.hbm, 400, rfl⟩
abbrev main_v263 : Ref sig .tc := ⟨.hbm, 401, rfl⟩
abbrev main_v264 : Ref sig .tc := ⟨.hbm, 402, rfl⟩
abbrev main_v265 : Ref sig .tc := ⟨.hbm, 403, rfl⟩
abbrev main_v266 : Ref sig .tc := ⟨.hbm, 404, rfl⟩
abbrev main_v267 : Ref sig .tc := ⟨.hbm, 405, rfl⟩
abbrev main_cst_81 : Ref sig .tc := ⟨.hbm, 406, rfl⟩
abbrev main_v268 : Ref sig .tc := ⟨.hbm, 407, rfl⟩
abbrev main_v269 : Ref sig .tc := ⟨.hbm, 408, rfl⟩
abbrev main_v270 : Ref sig .tc := ⟨.hbm, 409, rfl⟩
abbrev main_v271 : Ref sig .tc := ⟨.hbm, 410, rfl⟩
abbrev main_v272 : Ref sig .tc := ⟨.hbm, 411, rfl⟩
abbrev main_v273 : Ref sig .tc := ⟨.hbm, 412, rfl⟩
abbrev main_v274 : Ref sig .tc := ⟨.hbm, 413, rfl⟩
abbrev main_v275 : Ref sig .tc := ⟨.hbm, 414, rfl⟩
abbrev main_v276 : Ref sig .tc := ⟨.hbm, 415, rfl⟩
abbrev main_cst_82 : Ref sig .tc := ⟨.hbm, 416, rfl⟩
abbrev main_v277 : Ref sig .tc := ⟨.hbm, 417, rfl⟩
abbrev main_v278 : Ref sig .tc := ⟨.hbm, 418, rfl⟩
abbrev main_v279 : Ref sig .tc := ⟨.hbm, 419, rfl⟩
abbrev main_v280 : Ref sig .tc := ⟨.hbm, 420, rfl⟩
abbrev main_cst_83 : Ref sig .tc := ⟨.hbm, 421, rfl⟩
abbrev main_v281 : Ref sig .tc := ⟨.hbm, 422, rfl⟩
abbrev main_v282 : Ref sig .tc := ⟨.hbm, 423, rfl⟩
abbrev main_v283 : Ref sig .tc := ⟨.hbm, 424, rfl⟩
abbrev main_v284 : Ref sig .tc := ⟨.hbm, 425, rfl⟩
abbrev main_v285 : Ref sig .tc := ⟨.hbm, 426, rfl⟩
abbrev main_v286 : Ref sig .tc := ⟨.hbm, 427, rfl⟩
abbrev main_v287 : Ref sig .tc := ⟨.hbm, 428, rfl⟩
abbrev main_v288 : Ref sig .tc := ⟨.hbm, 429, rfl⟩
abbrev main_v289 : Ref sig .tc := ⟨.hbm, 430, rfl⟩
abbrev main_cst_84 : Ref sig .tc := ⟨.hbm, 431, rfl⟩
abbrev main_v290 : Ref sig .tc := ⟨.hbm, 432, rfl⟩
abbrev main_v291 : Ref sig .tc := ⟨.hbm, 433, rfl⟩
abbrev main_v292 : Ref sig .tc := ⟨.hbm, 434, rfl⟩
abbrev main_v293 : Ref sig .tc := ⟨.hbm, 435, rfl⟩
abbrev main_cst_85 : Ref sig .tc := ⟨.hbm, 436, rfl⟩
abbrev main_v294 : Ref sig .tc := ⟨.hbm, 437, rfl⟩
abbrev main_v295 : Ref sig .tc := ⟨.hbm, 438, rfl⟩
abbrev main_v296 : Ref sig .tc := ⟨.hbm, 439, rfl⟩
abbrev main_v297 : Ref sig .tc := ⟨.hbm, 440, rfl⟩
abbrev main_v298 : Ref sig .tc := ⟨.hbm, 441, rfl⟩
abbrev main_v299 : Ref sig .tc := ⟨.hbm, 442, rfl⟩
abbrev main_v300 : Ref sig .tc := ⟨.hbm, 443, rfl⟩
abbrev main_v301 : Ref sig .tc := ⟨.hbm, 444, rfl⟩
abbrev main_v302 : Ref sig .tc := ⟨.hbm, 445, rfl⟩
abbrev main_cst_86 : Ref sig .tc := ⟨.hbm, 446, rfl⟩
abbrev main_v303 : Ref sig .tc := ⟨.hbm, 447, rfl⟩
abbrev main_v304 : Ref sig .tc := ⟨.hbm, 448, rfl⟩
abbrev main_v305 : Ref sig .tc := ⟨.hbm, 449, rfl⟩
abbrev main_v306 : Ref sig .tc := ⟨.hbm, 450, rfl⟩
abbrev main_cst_87 : Ref sig .tc := ⟨.hbm, 451, rfl⟩
abbrev main_v307 : Ref sig .tc := ⟨.hbm, 452, rfl⟩
abbrev main_v308 : Ref sig .tc := ⟨.hbm, 453, rfl⟩
abbrev main_v309 : Ref sig .tc := ⟨.hbm, 454, rfl⟩
abbrev main_v310 : Ref sig .tc := ⟨.hbm, 455, rfl⟩
abbrev main_v311 : Ref sig .tc := ⟨.hbm, 456, rfl⟩
abbrev main_v312 : Ref sig .tc := ⟨.hbm, 457, rfl⟩
abbrev main_v313 : Ref sig .tc := ⟨.hbm, 458, rfl⟩
abbrev main_v314 : Ref sig .tc := ⟨.hbm, 459, rfl⟩
abbrev main_v315 : Ref sig .tc := ⟨.hbm, 460, rfl⟩
abbrev main_cst_88 : Ref sig .tc := ⟨.hbm, 461, rfl⟩
abbrev main_v316 : Ref sig .tc := ⟨.hbm, 462, rfl⟩
abbrev main_v317 : Ref sig .tc := ⟨.hbm, 463, rfl⟩
abbrev main_v318 : Ref sig .tc := ⟨.hbm, 464, rfl⟩
abbrev main_v319 : Ref sig .tc := ⟨.hbm, 465, rfl⟩
abbrev main_cst_89 : Ref sig .tc := ⟨.hbm, 466, rfl⟩
abbrev main_v320 : Ref sig .tc := ⟨.hbm, 467, rfl⟩
abbrev main_v321 : Ref sig .tc := ⟨.hbm, 468, rfl⟩
abbrev main_v322 : Ref sig .tc := ⟨.hbm, 469, rfl⟩
abbrev main_v323 : Ref sig .tc := ⟨.hbm, 470, rfl⟩
abbrev main_v324 : Ref sig .tc := ⟨.hbm, 471, rfl⟩
abbrev main_v325 : Ref sig .tc := ⟨.hbm, 472, rfl⟩
abbrev main_v326 : Ref sig .tc := ⟨.hbm, 473, rfl⟩
abbrev main_v327 : Ref sig .tc := ⟨.hbm, 474, rfl⟩
abbrev main_v328 : Ref sig .tc := ⟨.hbm, 475, rfl⟩
abbrev main_cst_90 : Ref sig .tc := ⟨.hbm, 476, rfl⟩
abbrev main_v329 : Ref sig .tc := ⟨.hbm, 477, rfl⟩
abbrev main_v330 : Ref sig .tc := ⟨.hbm, 478, rfl⟩
abbrev main_v331 : Ref sig .tc := ⟨.hbm, 479, rfl⟩
abbrev main_v332 : Ref sig .tc := ⟨.hbm, 480, rfl⟩
abbrev main_cst_91 : Ref sig .tc := ⟨.hbm, 481, rfl⟩
abbrev main_v333 : Ref sig .tc := ⟨.hbm, 482, rfl⟩
abbrev main_v334 : Ref sig .tc := ⟨.hbm, 483, rfl⟩
abbrev main_v335 : Ref sig .tc := ⟨.hbm, 484, rfl⟩
abbrev main_v336 : Ref sig .tc := ⟨.hbm, 485, rfl⟩
abbrev main_v337 : Ref sig .tc := ⟨.hbm, 486, rfl⟩
abbrev main_v338 : Ref sig .tc := ⟨.hbm, 487, rfl⟩
abbrev main_v339 : Ref sig .tc := ⟨.hbm, 488, rfl⟩
abbrev main_v340 : Ref sig .tc := ⟨.hbm, 489, rfl⟩
abbrev main_v341 : Ref sig .tc := ⟨.hbm, 490, rfl⟩
abbrev main_cst_92 : Ref sig .tc := ⟨.hbm, 491, rfl⟩
abbrev main_v342 : Ref sig .tc := ⟨.hbm, 492, rfl⟩
abbrev main_v343 : Ref sig .tc := ⟨.hbm, 493, rfl⟩
abbrev main_v344 : Ref sig .tc := ⟨.hbm, 494, rfl⟩
abbrev main_v345 : Ref sig .tc := ⟨.hbm, 495, rfl⟩
abbrev main_cst_93 : Ref sig .tc := ⟨.hbm, 496, rfl⟩
abbrev main_v346 : Ref sig .tc := ⟨.hbm, 497, rfl⟩
abbrev main_v347 : Ref sig .tc := ⟨.hbm, 498, rfl⟩
abbrev main_v348 : Ref sig .tc := ⟨.hbm, 499, rfl⟩
abbrev main_v349 : Ref sig .tc := ⟨.hbm, 500, rfl⟩
abbrev main_v350 : Ref sig .tc := ⟨.hbm, 501, rfl⟩
abbrev main_v351 : Ref sig .tc := ⟨.hbm, 502, rfl⟩
abbrev main_v352 : Ref sig .tc := ⟨.hbm, 503, rfl⟩
abbrev main_v353 : Ref sig .tc := ⟨.hbm, 504, rfl⟩
abbrev main_v354 : Ref sig .tc := ⟨.hbm, 505, rfl⟩
abbrev main_cst_94 : Ref sig .tc := ⟨.hbm, 506, rfl⟩
abbrev main_v355 : Ref sig .tc := ⟨.hbm, 507, rfl⟩
abbrev main_v356 : Ref sig .tc := ⟨.hbm, 508, rfl⟩
abbrev main_v357 : Ref sig .tc := ⟨.hbm, 509, rfl⟩
abbrev main_v358 : Ref sig .tc := ⟨.hbm, 510, rfl⟩
abbrev main_cst_95 : Ref sig .tc := ⟨.hbm, 511, rfl⟩
abbrev main_v359 : Ref sig .tc := ⟨.hbm, 512, rfl⟩
abbrev main_v360 : Ref sig .tc := ⟨.hbm, 513, rfl⟩
abbrev main_v361 : Ref sig .tc := ⟨.hbm, 514, rfl⟩
abbrev main_v362 : Ref sig .tc := ⟨.hbm, 515, rfl⟩
abbrev main_v363 : Ref sig .tc := ⟨.hbm, 516, rfl⟩
abbrev main_v364 : Ref sig .tc := ⟨.hbm, 517, rfl⟩
abbrev main_v365 : Ref sig .tc := ⟨.hbm, 518, rfl⟩
abbrev main_v366 : Ref sig .tc := ⟨.hbm, 519, rfl⟩
abbrev main_v367 : Ref sig .tc := ⟨.hbm, 520, rfl⟩
abbrev main_cst_96 : Ref sig .tc := ⟨.hbm, 521, rfl⟩
abbrev main_v368 : Ref sig .tc := ⟨.hbm, 522, rfl⟩
abbrev main_v369 : Ref sig .tc := ⟨.hbm, 523, rfl⟩
abbrev main_v370 : Ref sig .tc := ⟨.hbm, 524, rfl⟩
abbrev main_v371 : Ref sig .tc := ⟨.hbm, 525, rfl⟩
abbrev main_cst_97 : Ref sig .tc := ⟨.hbm, 526, rfl⟩
abbrev main_v372 : Ref sig .tc := ⟨.hbm, 527, rfl⟩
abbrev main_v373 : Ref sig .tc := ⟨.hbm, 528, rfl⟩
abbrev main_v374 : Ref sig .tc := ⟨.hbm, 529, rfl⟩
abbrev main_v375 : Ref sig .tc := ⟨.hbm, 530, rfl⟩
abbrev main_v376 : Ref sig .tc := ⟨.hbm, 531, rfl⟩
abbrev main_v377 : Ref sig .tc := ⟨.hbm, 532, rfl⟩
abbrev main_v378 : Ref sig .tc := ⟨.hbm, 533, rfl⟩
abbrev main_v379 : Ref sig .tc := ⟨.hbm, 534, rfl⟩
abbrev main_v380 : Ref sig .tc := ⟨.hbm, 535, rfl⟩
abbrev main_cst_98 : Ref sig .tc := ⟨.hbm, 536, rfl⟩
abbrev main_v381 : Ref sig .tc := ⟨.hbm, 537, rfl⟩
abbrev main_v382 : Ref sig .tc := ⟨.hbm, 538, rfl⟩
abbrev main_v383 : Ref sig .tc := ⟨.hbm, 539, rfl⟩
abbrev main_v384 : Ref sig .tc := ⟨.hbm, 540, rfl⟩
abbrev main_cst_99 : Ref sig .tc := ⟨.hbm, 541, rfl⟩
abbrev main_v385 : Ref sig .tc := ⟨.hbm, 542, rfl⟩
abbrev main_v386 : Ref sig .tc := ⟨.hbm, 543, rfl⟩
abbrev main_v387 : Ref sig .tc := ⟨.hbm, 544, rfl⟩
abbrev main_v388 : Ref sig .tc := ⟨.hbm, 545, rfl⟩
abbrev main_v389 : Ref sig .tc := ⟨.hbm, 546, rfl⟩
abbrev main_v390 : Ref sig .tc := ⟨.hbm, 547, rfl⟩
abbrev main_v391 : Ref sig .tc := ⟨.hbm, 548, rfl⟩
abbrev main_v392 : Ref sig .tc := ⟨.hbm, 549, rfl⟩
abbrev main_v393 : Ref sig .tc := ⟨.hbm, 550, rfl⟩
abbrev main_cst_100 : Ref sig .tc := ⟨.hbm, 551, rfl⟩
abbrev main_v394 : Ref sig .tc := ⟨.hbm, 552, rfl⟩
abbrev main_v395 : Ref sig .tc := ⟨.hbm, 553, rfl⟩
abbrev main_v396 : Ref sig .tc := ⟨.hbm, 554, rfl⟩
abbrev main_v397 : Ref sig .tc := ⟨.hbm, 555, rfl⟩
abbrev main_cst_101 : Ref sig .tc := ⟨.hbm, 556, rfl⟩
abbrev main_v398 : Ref sig .tc := ⟨.hbm, 557, rfl⟩
abbrev main_v399 : Ref sig .tc := ⟨.hbm, 558, rfl⟩
abbrev main_v400 : Ref sig .tc := ⟨.hbm, 559, rfl⟩
abbrev main_v401 : Ref sig .tc := ⟨.hbm, 560, rfl⟩
abbrev main_v402 : Ref sig .tc := ⟨.hbm, 561, rfl⟩
abbrev main_v403 : Ref sig .tc := ⟨.hbm, 562, rfl⟩
abbrev main_v404 : Ref sig .tc := ⟨.hbm, 563, rfl⟩
abbrev main_v405 : Ref sig .tc := ⟨.hbm, 564, rfl⟩
abbrev main_v406 : Ref sig .tc := ⟨.hbm, 565, rfl⟩
abbrev main_cst_102 : Ref sig .tc := ⟨.hbm, 566, rfl⟩
abbrev main_v407 : Ref sig .tc := ⟨.hbm, 567, rfl⟩
abbrev main_v408 : Ref sig .tc := ⟨.hbm, 568, rfl⟩
abbrev main_v409 : Ref sig .tc := ⟨.hbm, 569, rfl⟩
abbrev main_v410 : Ref sig .tc := ⟨.hbm, 570, rfl⟩
abbrev main_cst_103 : Ref sig .tc := ⟨.hbm, 571, rfl⟩
abbrev main_v411 : Ref sig .tc := ⟨.hbm, 572, rfl⟩
abbrev main_v412 : Ref sig .tc := ⟨.hbm, 573, rfl⟩
abbrev main_v413 : Ref sig .tc := ⟨.hbm, 574, rfl⟩
abbrev main_v414 : Ref sig .tc := ⟨.hbm, 575, rfl⟩
abbrev main_v415 : Ref sig .tc := ⟨.hbm, 576, rfl⟩
abbrev main_v416 : Ref sig .tc := ⟨.hbm, 577, rfl⟩
abbrev main_v417 : Ref sig .tc := ⟨.hbm, 578, rfl⟩
abbrev main_v418 : Ref sig .tc := ⟨.hbm, 579, rfl⟩
abbrev main_v419 : Ref sig .tc := ⟨.hbm, 580, rfl⟩
abbrev main_v420 : Ref sig .tc := ⟨.hbm, 581, rfl⟩
abbrev main_cst_104 : Ref sig .tc := ⟨.hbm, 582, rfl⟩
abbrev main_v421 : Ref sig .tc := ⟨.hbm, 583, rfl⟩
abbrev main_v422 : Ref sig .tc := ⟨.hbm, 584, rfl⟩
abbrev main_v423 : Ref sig .tc := ⟨.hbm, 585, rfl⟩
abbrev main_v424 : Ref sig .tc := ⟨.hbm, 586, rfl⟩
abbrev main_v425 : Ref sig .tc := ⟨.hbm, 587, rfl⟩
abbrev main_cst_105 : Ref sig .tc := ⟨.hbm, 588, rfl⟩
abbrev main_v426 : Ref sig .tc := ⟨.hbm, 589, rfl⟩
abbrev main_v427 : Ref sig .tc := ⟨.hbm, 590, rfl⟩
abbrev main_v428 : Ref sig .tc := ⟨.hbm, 591, rfl⟩
abbrev main_v429 : Ref sig .tc := ⟨.hbm, 592, rfl⟩
abbrev main_cst_106 : Ref sig .tc := ⟨.hbm, 593, rfl⟩
abbrev main_v430 : Ref sig .tc := ⟨.hbm, 594, rfl⟩
abbrev main_call1_v0 : Ref sig .tc := ⟨.hbm, 595, rfl⟩
abbrev main_call1_v1 : Ref sig .tc := ⟨.hbm, 596, rfl⟩
abbrev main_v431 : Ref sig .tc := ⟨.hbm, 597, rfl⟩
abbrev main_cst_107 : Ref sig .tc := ⟨.hbm, 598, rfl⟩
abbrev main_v432 : Ref sig .tc := ⟨.hbm, 599, rfl⟩
abbrev main_v433 : Ref sig .tc := ⟨.hbm, 600, rfl⟩
abbrev main_v434 : Ref sig .tc := ⟨.hbm, 601, rfl⟩
abbrev main_v435 : Ref sig .tc := ⟨.hbm, 602, rfl⟩
abbrev main_cst_108 : Ref sig .tc := ⟨.hbm, 603, rfl⟩
abbrev main_v436 : Ref sig .tc := ⟨.hbm, 604, rfl⟩
abbrev main_v437 : Ref sig .tc := ⟨.hbm, 605, rfl⟩
abbrev main_cst_109 : Ref sig .tc := ⟨.hbm, 606, rfl⟩
abbrev main_v438 : Ref sig .tc := ⟨.hbm, 607, rfl⟩
abbrev main_v439 : Ref sig .tc := ⟨.hbm, 608, rfl⟩
abbrev main_v440 : Ref sig .tc := ⟨.hbm, 609, rfl⟩
abbrev main_v441 : Ref sig .tc := ⟨.hbm, 610, rfl⟩
abbrev main_v442 : Ref sig .tc := ⟨.hbm, 611, rfl⟩
abbrev main_v443 : Ref sig .tc := ⟨.hbm, 612, rfl⟩
abbrev main_v444 : Ref sig .tc := ⟨.hbm, 613, rfl⟩
abbrev main_cst_110 : Ref sig .tc := ⟨.hbm, 614, rfl⟩
abbrev main_v445 : Ref sig .tc := ⟨.hbm, 615, rfl⟩
abbrev main_v446 : Ref sig .tc := ⟨.hbm, 616, rfl⟩
abbrev main_cst_111 : Ref sig .tc := ⟨.hbm, 617, rfl⟩
abbrev main_v447 : Ref sig .tc := ⟨.hbm, 618, rfl⟩
abbrev main_v448 : Ref sig .tc := ⟨.hbm, 619, rfl⟩
abbrev main_v449 : Ref sig .tc := ⟨.hbm, 620, rfl⟩
abbrev main_v450 : Ref sig .tc := ⟨.hbm, 621, rfl⟩
abbrev main_v451 : Ref sig .tc := ⟨.hbm, 622, rfl⟩
abbrev main_v452 : Ref sig .tc := ⟨.hbm, 623, rfl⟩
abbrev main_v453 : Ref sig .tc := ⟨.hbm, 624, rfl⟩
abbrev main_v454 : Ref sig .tc := ⟨.hbm, 625, rfl⟩
abbrev main_v455 : Ref sig .tc := ⟨.hbm, 626, rfl⟩
abbrev main_v456 : Ref sig .tc := ⟨.hbm, 627, rfl⟩
abbrev main_v457 : Ref sig .tc := ⟨.hbm, 628, rfl⟩
abbrev main_v458 : Ref sig .tc := ⟨.hbm, 629, rfl⟩
abbrev main_v459 : Ref sig .tc := ⟨.hbm, 630, rfl⟩
abbrev main_v460 : Ref sig .tc := ⟨.hbm, 631, rfl⟩

abbrev nD : Nat := 1
abbrev τ : Topo := Topo.v7x

variable {F : FTy → Type} [FloatOps F]
-- ==== GdnFwdK.lean ====
abbrev S4096x1536 : Shape := ⟨2, ![4096, 1536]⟩
abbrev S4096x3080 : Shape := ⟨2, ![4096, 3080]⟩
abbrev S4 : Shape := ⟨1, ![4]⟩
abbrev S_ : Shape := ⟨0, ![]⟩
abbrev S4096x3200 : Shape := ⟨2, ![4096, 3200]⟩
abbrev S128 : Shape := ⟨1, ![128]⟩
abbrev S1x128 : Shape := ⟨2, ![1, 128]⟩
abbrev S4096x512 : Shape := ⟨2, ![4096, 512]⟩
abbrev S4x16x128x128 : Shape := ⟨4, ![4, 16, 128, 128]⟩
abbrev S256x512 : Shape := ⟨2, ![256, 512]⟩
abbrev S256x128 : Shape := ⟨2, ![256, 128]⟩
abbrev S4x1x128x128 : Shape := ⟨4, ![4, 1, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S128x1 : Shape := ⟨2, ![128, 1]⟩
abbrev S1 : Shape := ⟨1, ![1]⟩
abbrev S1x1 : Shape := ⟨2, ![1, 1]⟩

abbrev nBuf : Space → Nat
  | .hbm => 17
  | .vmem => 15
  | .smem => 0
  | _ => 0

abbrev bufTy : (tb : Table) → Fin (tcTables nBuf tb) → BufTy
  | .hbm, ⟨0, _⟩ => ⟨S4096x1536, .f32⟩
  | .hbm, ⟨1, _⟩ => ⟨S4096x3080, .f32⟩
  | .hbm, ⟨2, _⟩ => ⟨S4, .f32⟩
  | .hbm, ⟨3, _⟩ => ⟨S4, .f32⟩
  | .hbm, ⟨4, _⟩ => ⟨S_, .i32⟩
  | .hbm, ⟨5, _⟩ => ⟨S_, .f32⟩
  | .hbm, ⟨6, _⟩ => ⟨S4096x3200, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S4096x512, .f32⟩
  | .hbm, ⟨16, _⟩ => ⟨S4x16x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x512, .f32⟩
  | .local _ .vmem, ⟨11, _⟩ => ⟨S256x512, .f32⟩
  | .local _ .vmem, ⟨12, _⟩ => ⟨S4x1x128x128, .f32⟩
  | .local _ .vmem, ⟨13, _⟩ => ⟨S4x1x128x128, .f32⟩
  | .local _ .vmem, ⟨14, _⟩ => ⟨S4x128x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GdnFwdRIdeal.lean ====
abbrev S4096x1536 : Shape := ⟨2, ![4096, 1536]⟩
abbrev S4096x3080 : Shape := ⟨2, ![4096, 3080]⟩
abbrev S4 : Shape := ⟨1, ![4]⟩
abbrev S4096x3x4x128 : Shape := ⟨4, ![4096, 3, 4, 128]⟩
abbrev S4096x4 : Shape := ⟨2, ![4096, 4]⟩
abbrev S_ : Shape := ⟨0, ![]⟩
abbrev S1x4 : Shape := ⟨2, ![1, 4]⟩
abbrev S4096x1x4x128 : Shape := ⟨4, ![4096, 1, 4, 128]⟩
abbrev S4096x4x128 : Shape := ⟨3, ![4096, 4, 128]⟩
abbrev S4096x4x1 : Shape := ⟨3, ![4096, 4, 1]⟩
abbrev S4x128x128 : Shape := ⟨3, ![4, 128, 128]⟩
abbrev S1x4x128 : Shape := ⟨3, ![1, 4, 128]⟩
abbrev S4x128 : Shape := ⟨2, ![4, 128]⟩
abbrev S4x1x1 : Shape := ⟨3, ![4, 1, 1]⟩
abbrev S4x1 : Shape := ⟨2, ![4, 1]⟩
abbrev S4x128x1 : Shape := ⟨3, ![4, 128, 1]⟩
abbrev S4x1x128 : Shape := ⟨3, ![4, 1, 128]⟩
abbrev S4096x512 : Shape := ⟨2, ![4096, 512]⟩

abbrev nBuf : Space → Nat
  | .hbm => 122
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x3080, .f32⟩
  | .hbm, ⟨2, _⟩ => ⟨S4, .f32⟩
  | .hbm, ⟨3, _⟩ => ⟨S4, .f32⟩
  | .hbm, ⟨4, _⟩ => ⟨S4096x3x4x128, .f32⟩
  | .hbm, ⟨5, _⟩ => ⟨S4096x4, .f32⟩
  | .hbm, ⟨6, _⟩ => ⟨S4096x4, .f32⟩
  | .hbm, ⟨7, _⟩ => ⟨S4096x4, .f32⟩
  | .hbm, ⟨8, _⟩ => ⟨S_, .f32⟩
  | .hbm, ⟨9, _⟩ => ⟨S4096x4, .f32⟩
  | .hbm, ⟨10, _⟩ => ⟨S4096x4, .f32⟩
  | .hbm, ⟨11, _⟩ => ⟨S_, .f32⟩
  | .hbm, ⟨12, _⟩ => ⟨S4096x4, .f32⟩
  | .hbm, ⟨13, _⟩ => ⟨S4096x4, .f32⟩
  | .hbm, ⟨14, _⟩ => ⟨S4, .f32⟩
  | .hbm, ⟨15, _⟩ => ⟨S4, .f32⟩
  | .hbm, ⟨16, _⟩ => ⟨S4096x4, .f32⟩
  | .hbm, ⟨17, _⟩ => ⟨S1x4, .f32⟩
  | .hbm, ⟨18, _⟩ => ⟨S4096x4, .f32⟩
  | .hbm, ⟨19, _⟩ => ⟨S4096x4, .f32⟩
  | .hbm, ⟨20, _⟩ => ⟨S_, .f32⟩
  | .hbm, ⟨21, _⟩ => ⟨S4096x4, .f32⟩
  | .hbm, ⟨22, _⟩ => ⟨S4096x4, .f32⟩
  | .hbm, ⟨23, _⟩ => ⟨S4096x4, .f32⟩
  | .hbm, ⟨24, _⟩ => ⟨S4096x4, .f32⟩
  | .hbm, ⟨25, _⟩ => ⟨S4096x4, .i1⟩
  | .hbm, ⟨26, _⟩ => ⟨S4096x4, .f32⟩
  | .hbm, ⟨27, _⟩ => ⟨S4096x4, .f32⟩
  | .hbm, ⟨28, _⟩ => ⟨S4096x4, .f32⟩
  | .hbm, ⟨29, _⟩ => ⟨S4096x4, .f32⟩
  | .hbm, ⟨30, _⟩ => ⟨S4096x4, .f32⟩
  | .hbm, ⟨31, _⟩ => ⟨S4096x4, .f32⟩
  | .hbm, ⟨32, _⟩ => ⟨S4096x4, .f32⟩
  | .hbm, ⟨33, _⟩ => ⟨S4096x4, .f32⟩
  | .hbm, ⟨34, _⟩ => ⟨S1x4, .f32⟩
  | .hbm, ⟨35, _⟩ => ⟨S4096x4, .f32⟩
  | .hbm, ⟨36, _⟩ => ⟨S4096x4, .f32⟩
  | .hbm, ⟨37, _⟩ => ⟨S4096x1x4x128, .f32⟩
  | .hbm, ⟨38, _⟩ => ⟨S4096x4x128, .f32⟩
  | .hbm, ⟨39, _⟩ => ⟨S4096x1x4x128, .f32⟩
  | .hbm, ⟨40, _⟩ => ⟨S4096x4x128, .f32⟩
  | .hbm, ⟨41, _⟩ => ⟨S4096x1x4x128, .f32⟩
  | .hbm, ⟨42, _⟩ => ⟨S4096x4x128, .f32⟩
  | .hbm, ⟨43, _⟩ => ⟨S4096x4x128, .f32⟩
  | .hbm, ⟨44, _⟩ => ⟨S_, .f32⟩
  | .hbm, ⟨45, _⟩ => ⟨S4096x4, .f32⟩
  | .hbm, ⟨46, _⟩ => ⟨S4096x4x1, .f32⟩
  | .hbm, ⟨47, _⟩ => ⟨S_, .f32⟩
  | .hbm, ⟨48, _⟩ => ⟨S4096x4x1, .f32⟩
  | .hbm, ⟨49, _⟩ => ⟨S4096x4x1, .f32⟩
  | .hbm, ⟨50, _⟩ => ⟨S4096x4x1, .f32⟩
  | .hbm, ⟨51, _⟩ => ⟨S4096x4x128, .f32⟩
  | .hbm, ⟨52, _⟩ => ⟨S4096x4x128, .f32⟩
  | .hbm, ⟨53, _⟩ => ⟨S_, .f32⟩
  | .hbm, ⟨54, _⟩ => ⟨S4096x4x128, .f32⟩
  | .hbm, ⟨55, _⟩ => ⟨S4096x4x128, .f32⟩
  | .hbm, ⟨56, _⟩ => ⟨S4096x4x128, .f32⟩
  | .hbm, ⟨57, _⟩ => ⟨S_, .f32⟩
  | .hbm, ⟨58, _⟩ => ⟨S4096x4, .f32⟩
  | .hbm, ⟨59, _⟩ => ⟨S4096x4x1, .f32⟩
  | .hbm, ⟨60, _⟩ => ⟨S_, .f32⟩
  | .hbm, ⟨61, _⟩ => ⟨S4096x4x1, .f32⟩
  | .hbm, ⟨62, _⟩ => ⟨S4096x4x1, .f32⟩
  | .hbm, ⟨63, _⟩ => ⟨S4096x4x1, .f32⟩
  | .hbm, ⟨64, _⟩ => ⟨S4096x4x128, .f32⟩
  | .hbm, ⟨65, _⟩ => ⟨S4096x4x128, .f32⟩
  | .hbm, ⟨66, _⟩ => ⟨S_, .f32⟩
  | .hbm, ⟨67, _⟩ => ⟨S4x128x128, .f32⟩
  | .hbm, ⟨68, _⟩ => ⟨S_, .f32⟩
  | .hbm, ⟨69, _⟩ => ⟨S4096x4x128, .f32⟩
  | .hbm, ⟨70, _⟩ => ⟨S_, .i32⟩
  | .hbm, ⟨71, _⟩ => ⟨S4096x4x128, .f32⟩
  | .hbm, ⟨72, _⟩ => ⟨S4096x4x128, .f32⟩
  | .hbm, ⟨73, _⟩ => ⟨S4096x4x128, .f32⟩
  | .hbm, ⟨74, _⟩ => ⟨S4096x4, .f32⟩
  | .hbm, ⟨75, _⟩ => ⟨S4096x4, .f32⟩
  | .hbm, ⟨76, _⟩ => ⟨S_, .i32⟩
  | .hbm, ⟨77, _⟩ => ⟨S4x128x128, .f32⟩
  | .hbm, ⟨78, _⟩ => ⟨S4096x4x128, .f32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S1x4x128, .f32⟩
  | .hbm, ⟨84, _⟩ => ⟨S4x128, .f32⟩
  | .hbm, ⟨85, _⟩ => ⟨S_, .i32⟩
  | .hbm, ⟨86, _⟩ => ⟨S_, .i32⟩
  | .hbm, ⟨87, _⟩ => ⟨S1x4x128, .f32⟩
  | .hbm, ⟨88, _⟩ => ⟨S4x128, .f32⟩
  | .hbm, ⟨89, _⟩ => ⟨S_, .i32⟩
  | .hbm, ⟨90, _⟩ => ⟨S_, .i32⟩
  | .hbm, ⟨91, _⟩ => ⟨S1x4x128, .f32⟩
  | .hbm, ⟨92, _⟩ => ⟨S4x128, .f32⟩
  | .hbm, ⟨93, _⟩ => ⟨S_, .i32⟩
  | .hbm, ⟨94, _⟩ => ⟨S1x4, .f32⟩
  | .hbm, ⟨95, _⟩ => ⟨S4, .f32⟩
  | .hbm, ⟨96, _⟩ => ⟨S_, .i32⟩
  | .hbm, ⟨97, _⟩ => ⟨S1x4, .f32⟩
  | .hbm, ⟨98, _⟩ => ⟨S4, .f32⟩
  | .hbm, ⟨99, _⟩ => ⟨S4, .f32⟩
  | .hbm, ⟨100, _⟩ => ⟨S4x1x1, .f32⟩
  | .hbm, ⟨101, _⟩ => ⟨S4x128x128, .f32⟩
  | .hbm, ⟨102, _⟩ => ⟨S4x128x128, .f32⟩
  | .hbm, ⟨103, _⟩ => ⟨S4x1, .f32⟩
  | .hbm, ⟨104, _⟩ => ⟨S4x128, .f32⟩
  | .hbm, ⟨105, _⟩ => ⟨S4x128, .f32⟩
  | .hbm, ⟨106, _⟩ => ⟨S4x128, .f32⟩
  | .hbm, ⟨107, _⟩ => ⟨S4x128, .f32⟩
  | .hbm, ⟨108, _⟩ => ⟨S4x128x1, .f32⟩
  | .hbm, ⟨109, _⟩ => ⟨S4x1x128, .f32⟩
  | .hbm, ⟨110, _⟩ => ⟨S4x128x128, .f32⟩
  | .hbm, ⟨111, _⟩ => ⟨S4x128x128, .f32⟩
  | .hbm, ⟨112, _⟩ => ⟨S4x128x128, .f32⟩
  | .hbm, ⟨113, _⟩ => ⟨S4x128x128, .f32⟩
  | .hbm, ⟨114, _⟩ => ⟨S4x128, .f32⟩
  | .hbm, ⟨115, _⟩ => ⟨S1x4x128, .f32⟩
  | .hbm, ⟨116, _⟩ => ⟨S_, .i32⟩
  | .hbm, ⟨117, _⟩ => ⟨S_, .i32⟩
  | .hbm, ⟨118, _⟩ => ⟨S4096x4x128, .f32⟩
  | .hbm, ⟨119, _⟩ => ⟨S_, .i32⟩
  | .hbm, ⟨120, _⟩ => ⟨S_, .i32⟩
  | .hbm, ⟨121, _⟩ => ⟨S4096x512, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_c : Ref sig .tc := ⟨.hbm, 70, rfl⟩
abbrev main_v44_0 : Ref sig .tc := ⟨.hbm, 71, rfl⟩
abbrev main_v44_1 : Ref sig .tc := ⟨.hbm, 72, rfl⟩
abbrev main_v44_2 : Ref sig .tc := ⟨.hbm, 73, rfl⟩
abbrev main_v44_3 : Ref sig .tc := ⟨.hbm, 74, rfl⟩
abbrev main_v44_4 : Ref sig .tc := ⟨.hbm, 75, rfl⟩
abbrev main_v44_5 : Ref sig .tc := ⟨.hbm, 76, rfl⟩
abbrev main_v44_6 : Ref sig .tc := ⟨.hbm, 77, rfl⟩
abbrev main_v44_7 : Ref sig .tc := ⟨.hbm, 78, rfl⟩
abbrev main_while0c_c_15 : Ref sig .tc := ⟨.hbm, 79, rfl⟩
abbrev main_while0c_v46 : Ref sig .tc := ⟨.hbm, 80, rfl⟩
abbrev main_while0b_call1_c : Ref sig .tc := ⟨.hbm, 81, rfl⟩
abbrev main_while0b_call1_c_0 : Ref sig .tc := ⟨.hbm, 82, rfl⟩
abbrev main_while0b_call1_v0 : Ref sig .tc := ⟨.hbm, 83, rfl⟩
abbrev main_while0b_v46 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_v0 : Ref sig .tc := ⟨.hbm, 87, rfl⟩
abbrev main_while0b_v47 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_v0 : Ref sig .tc := ⟨.hbm, 91, rfl⟩
abbrev main_while0b_v48 : Ref sig .tc := ⟨.hbm, 92, rfl⟩
abbrev main_while0b_call4_c : Ref sig .tc := ⟨.hbm, 93, rfl⟩
abbrev main_while0b_call4_v0 : Ref sig .tc := ⟨.hbm, 94, rfl⟩
abbrev main_while0b_v49 : Ref sig .tc := ⟨.hbm, 95, rfl⟩
abbrev main_while0b_call5_c : Ref sig .tc := ⟨.hbm, 96, rfl⟩
abbrev main_while0b_call5_v0 : Ref sig .tc := ⟨.hbm, 97, rfl⟩
abbrev main_while0b_v50 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_v55 : Ref sig .tc := ⟨.hbm, 103, rfl⟩
abbrev main_while0b_v56 : Ref sig .tc := ⟨.hbm, 104, rfl⟩
abbrev main_while0b_v57 : Ref sig .tc := ⟨.hbm, 105, rfl⟩
abbrev main_while0b_v58 : Ref sig .tc := ⟨.hbm, 106, rfl⟩
abbrev main_while0b_v59 : Ref sig .tc := ⟨.hbm, 107, rfl⟩
abbrev main_while0b_v60 : Ref sig .tc := ⟨.hbm, 108, rfl⟩
abbrev main_while0b_v61 : Ref sig .tc := ⟨.hbm, 109, rfl⟩
abbrev main_while0b_v62 : Ref sig .tc := ⟨.hbm, 110, rfl⟩
abbrev main_while0b_v63 : Ref sig .tc := ⟨.hbm, 111, rfl⟩
abbrev main_while0b_v64 : Ref sig .tc := ⟨.hbm, 112, rfl⟩
abbrev main_while0b_v65 : Ref sig .tc := ⟨.hbm, 113, rfl⟩
abbrev main_while0b_v66 : Ref sig .tc := ⟨.hbm, 114, rfl⟩
abbrev main_while0b_call6_v0 : Ref sig .tc := ⟨.hbm, 115, rfl⟩
abbrev main_while0b_call6_c : Ref sig .tc := ⟨.hbm, 116, rfl⟩
abbrev main_while0b_call6_c_0 : Ref sig .tc := ⟨.hbm, 117, rfl⟩
abbrev main_while0b_v67 : Ref sig .tc := ⟨.hbm, 118, rfl⟩
abbrev main_while0b_c_15 : Ref sig .tc := ⟨.hbm, 119, rfl⟩
abbrev main_while0b_v68 : Ref sig .tc := ⟨.hbm, 120, rfl⟩
abbrev main_v45 : Ref sig .tc := ⟨.hbm, 121, rfl⟩

abbrev nD : Nat := 1
abbrev τ : Topo := Topo.v7x

variable {F : FTy → Type} [FloatOps F]

abbrev main_while0_count : Scf.Loop 32 := ⟨0#32, 4096#32, 1#32⟩
-- ==== ProjFwdK.lean ====
abbrev S4096x1024 : Shape := ⟨2, ![4096, 1024]⟩
abbrev S1024 : Shape := ⟨1, ![1024]⟩
abbrev S1024x3080 : Shape := ⟨2, ![1024, 3080]⟩
abbrev S1x1024 : Shape := ⟨2, ![1, 1024]⟩
abbrev S_ : Shape := ⟨0, ![]⟩
abbrev S1024x3200 : Shape := ⟨2, ![1024, 3200]⟩
abbrev S4096x3200 : Shape := ⟨2, ![4096, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3080, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S1024x3200, .f32⟩
  | .hbm, ⟨11, _⟩ => ⟨S1024x3200, .bf16⟩
  | .hbm, ⟨12, _⟩ => ⟨S4096x3200, .f32⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3200, .bf16⟩
  | .local _ .vmem, ⟨6, _⟩ => ⟨S512x3200, .f32⟩
  | .local _ .vmem, ⟨7, _⟩ => ⟨S512x3200, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjFwdRIdeal.lean ====
abbrev S4096x1024 : Shape := ⟨2, ![4096, 1024]⟩
abbrev S1024 : Shape := ⟨1, ![1024]⟩
abbrev S1024x3080 : Shape := ⟨2, ![1024, 3080]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3080 : Shape := ⟨2, ![4096, 3080]⟩
abbrev S4096x3200 : Shape := ⟨2, ![4096, 3200]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3080, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x3080, .f32⟩
  | .hbm, ⟨31, _⟩ => ⟨S_, .i32⟩
  | .hbm, ⟨32, _⟩ => ⟨S_, .f32⟩
  | .hbm, ⟨33, _⟩ => ⟨S4096x3200, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== MlpFwdK.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S256x1024 : Shape := ⟨2, ![256, 1024]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S256x4096 : Shape := ⟨2, ![256, 4096]⟩

abbrev nBuf : Space → Nat
  | .hbm => 14
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1024x4096, .bf16⟩
  | .local _ .vmem, ⟨9, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpFwdRIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== ConvFGK.lean ====
abbrev S4096x3080 : Shape := ⟨2, ![4096, 3080]⟩
abbrev S4x1536 : Shape := ⟨2, ![4, 1536]⟩
abbrev S_ : Shape := ⟨0, ![]⟩
abbrev S4096x3200 : Shape := ⟨2, ![4096, 3200]⟩
abbrev S8x1536 : Shape := ⟨2, ![8, 1536]⟩
abbrev S1x1536 : Shape := ⟨2, ![1, 1536]⟩
abbrev S4096x1536 : Shape := ⟨2, ![4096, 1536]⟩
abbrev S512x512 : Shape := ⟨2, ![512, 512]⟩
abbrev S8x512 : Shape := ⟨2, ![8, 512]⟩
abbrev S1x512 : Shape := ⟨2, ![1, 512]⟩
abbrev S520x512 : Shape := ⟨2, ![520, 512]⟩

abbrev nBuf : Space → Nat
  | .hbm => 11
  | .vmem => 10
  | .smem => 0
  | _ => 0

abbrev bufTy : (tb : Table) → Fin (tcTables nBuf tb) → BufTy
  | .hbm, ⟨0, _⟩ => ⟨S4096x3080, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S4096x3200, .f32⟩
  | .hbm, ⟨5, _⟩ => ⟨S_, .i32⟩
  | .hbm, ⟨6, _⟩ => ⟨S_, .f32⟩
  | .hbm, ⟨7, _⟩ => ⟨S8x1536, .f32⟩
  | .hbm, ⟨8, _⟩ => ⟨S_, .f32⟩
  | .hbm, ⟨9, _⟩ => ⟨S1x1536, .f32⟩
  | .hbm, ⟨10, _⟩ => ⟨S4096x1536, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFGRIdeal.lean ====
abbrev S4096x3080 : Shape := ⟨2, ![4096, 3080]⟩
abbrev S4x1536 : Shape := ⟨2, ![4, 1536]⟩
abbrev S4096x1536 : Shape := ⟨2, ![4096, 1536]⟩
abbrev S_ : Shape := ⟨0, ![]⟩
abbrev S4099x1536 : Shape := ⟨2, ![4099, 1536]⟩
abbrev S1x1536 : Shape := ⟨2, ![1, 1536]⟩
abbrev S1536 : Shape := ⟨1, ![1536]⟩

abbrev nBuf : Space → Nat
  | .hbm => 42
  | .vmem => 0
  | .smem => 0
  | _ => 0

abbrev bufTy : (tb : Table) → Fin (tcTables nBuf tb) → BufTy
  | .hbm, ⟨0, _⟩ => ⟨S4096x3080, .f32⟩
  | .hbm, ⟨1, _⟩ => ⟨S4x1536, .f32⟩
  | .hbm, ⟨2, _⟩ => ⟨S4096x1536, .f32⟩
  | .hbm, ⟨3, _⟩ => ⟨S_, .i32⟩
  | .hbm, ⟨4, _⟩ => ⟨S_, .f32⟩
  | .hbm, ⟨5, _⟩ => ⟨S4099x1536, .f32⟩
  | .hbm, ⟨6, _⟩ => ⟨S4096x1536, .f32⟩
  | .hbm, ⟨7, _⟩ => ⟨S1x1536, .f32⟩
  | .hbm, ⟨8, _⟩ => ⟨S1536, .f32⟩
  | .hbm, ⟨9, _⟩ => ⟨S1x1536, .f32⟩
  | .hbm, ⟨10, _⟩ => ⟨S4096x1536, .f32⟩
  | .hbm, ⟨11, _⟩ => ⟨S4096x1536, .f32⟩
  | .hbm, ⟨12, _⟩ => ⟨S4096x1536, .f32⟩
  | .hbm, ⟨13, _⟩ => ⟨S1x1536, .f32⟩
  | .hbm, ⟨14, _⟩ => ⟨S1536, .f32⟩
  | .hbm, ⟨15, _⟩ => ⟨S1x1536, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S4096x1536, .f32⟩
  | .hbm, ⟨20, _⟩ => ⟨S1x1536, .f32⟩
  | .hbm, ⟨21, _⟩ => ⟨S1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S4096x1536, .f32⟩
  | .hbm, ⟨27, _⟩ => ⟨S1x1536, .f32⟩
  | .hbm, ⟨28, _⟩ => ⟨S1536, .f32⟩
  | .hbm, ⟨29, _⟩ => ⟨S1x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S_, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | .hbm, ⟨41, _⟩ => ⟨S4096x1536, .f32⟩
  | _, _ => ⟨S4096x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== ConvFLK.lean ====
abbrev S4096x3080 : Shape := ⟨2, ![4096, 3080]⟩
abbrev S4x512 : Shape := ⟨2, ![4, 512]⟩
abbrev S512 : Shape := ⟨1, ![512]⟩
abbrev S_ : Shape := ⟨0, ![]⟩
abbrev S4096x3200 : Shape := ⟨2, ![4096, 3200]⟩
abbrev S8x512 : Shape := ⟨2, ![8, 512]⟩
abbrev S1x512 : Shape := ⟨2, ![1, 512]⟩
abbrev S4096x512 : Shape := ⟨2, ![4096, 512]⟩
abbrev S512x512 : Shape := ⟨2, ![512, 512]⟩
abbrev S520x512 : Shape := ⟨2, ![520, 512]⟩

abbrev nBuf : Space → Nat
  | .hbm => 11
  | .vmem => 8
  | .smem => 0
  | _ => 0

abbrev bufTy : (tb : Table) → Fin (tcTables nBuf tb) → BufTy
  | .hbm, ⟨0, _⟩ => ⟨S4096x3080, .f32⟩
  | .hbm, ⟨1, _⟩ => ⟨S4x512, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S4096x3200, .f32⟩
  | .hbm, ⟨6, _⟩ => ⟨S_, .i32⟩
  | .hbm, ⟨7, _⟩ => ⟨S_, .f32⟩
  | .hbm, ⟨8, _⟩ => ⟨S8x512, .f32⟩
  | .hbm, ⟨9, _⟩ => ⟨S1x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S4096x3080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFLRIdeal.lean ====
abbrev S4096x3080 : Shape := ⟨2, ![4096, 3080]⟩
abbrev S4x512 : Shape := ⟨2, ![4, 512]⟩
abbrev S512 : Shape := ⟨1, ![512]⟩
abbrev S4096x512 : Shape := ⟨2, ![4096, 512]⟩
abbrev S_ : Shape := ⟨0, ![]⟩
abbrev S4099x512 : Shape := ⟨2, ![4099, 512]⟩
abbrev S1x512 : Shape := ⟨2, ![1, 512]⟩

abbrev nBuf : Space → Nat
  | .hbm => 37
  | .vmem => 0
  | .smem => 0
  | _ => 0

abbrev bufTy : (tb : Table) → Fin (tcTables nBuf tb) → BufTy
  | .hbm, ⟨0, _⟩ => ⟨S4096x3080, .f32⟩
  | .hbm, ⟨1, _⟩ => ⟨S4x512, .f32⟩
  | .hbm, ⟨2, _⟩ => ⟨S512, .f32⟩
  | .hbm, ⟨3, _⟩ => ⟨S4096x512, .f32⟩
  | .hbm, ⟨4, _⟩ => ⟨S_, .i32⟩
  | .hbm, ⟨5, _⟩ => ⟨S_, .f32⟩
  | .hbm, ⟨6, _⟩ => ⟨S4099x512, .f32⟩
  | .hbm, ⟨7, _⟩ => ⟨S4096x512, .f32⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | _, _ => ⟨S4096x3080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.Reals.lean ====
/-
  Arrays of finite numbers among the extended reals, and what each operation does to them: the operations of the
  ideal programs take finite arrays to finite arrays by the operation on the real numbers.
-/
module

public import Idealize.ShloMosaic.Lib.ValueIdx
public import Idealize.ShloMosaic.Lib.Pointwise
public import Idealize.ShloMosaic.Lib.Tactic
public import Idealize.ShloMosaic.Lib.VecWindow
public import Idealize.ShloMosaic.Lib.Pipeline.FrameBody
public import Idealize.ShloMosaic.PureOps.Ideal

@[expose] public section

noncomputable section

namespace Cert.Reals

open Idealize.ShloMosaic

/-- The array of extended reals that holds the real numbers `X`. -/
def up {s : Shape} (X : s.Idx → ℝ) (φ : FTy := .f32) : FVec Ideal s φ := fun i => ((X i : ℝ) : EReal)

theorem up_apply {s : Shape} (φ : FTy) (X : s.Idx → ℝ) (i : s.Idx) : up X φ i = ((X i : ℝ) : EReal) := rfl

/-- A finite sum of real numbers, summed among the extended reals. -/
theorem sum_up {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem div_up {a b : ℝ} (h : b ≠ 0) : Ideal.div ((a : ℝ) : EReal) ((b : ℝ) : EReal) = ((a / b : ℝ) : EReal) := by
  rw [Ideal.div_coe h, ← EReal.coe_mul, mul_one_div]

theorem rsqrt_up {a : ℝ} (h : 0 < a) : Ideal.rsqrt ((a : ℝ) : EReal) = (((Real.sqrt a)⁻¹ : ℝ) : EReal) := by
  rw [Ideal.rsqrt_coe, if_neg (not_lt.mpr h.le), if_neg h.ne']

theorem neg_up (a : ℝ) : -((a : ℝ) : EReal) = ((-a : ℝ) : EReal) := (EReal.coe_neg a).symm
theorem mul_up (a b : ℝ) : ((a : ℝ) : EReal) * ((b : ℝ) : EReal) = ((a * b : ℝ) : EReal) := (EReal.coe_mul a b).symm
theorem add_up (a b : ℝ) : ((a : ℝ) : EReal) + ((b : ℝ) : EReal) = ((a + b : ℝ) : EReal) := (EReal.coe_add a b).symm
theorem sub_up (a b : ℝ) : ((a : ℝ) : EReal) - ((b : ℝ) : EReal) = ((a - b : ℝ) : EReal) := (EReal.coe_sub a b).symm
theorem max_up (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The normalisation's small constant: the rational number that its word names. -/
def eps : ℝ := 8796093 / 2 ^ 43
theorem eps_pos : 0 < eps := by unfold eps; norm_num

theorem lit_zero : Ideal.ofBits .f32 0x00000000#32 = ((0 : ℝ) : EReal) := by simp [Ideal.ofBits, Ideal.ieee]
theorem lit_one : Ideal.ofBits .f32 0x3F800000#32 = ((1 : ℝ) : EReal) := by simp [Ideal.ofBits, Ideal.ieee, -EReal.coe_mul]; norm_num
theorem lit_two : Ideal.ofBits .f32 0x40000000#32 = ((2 : ℝ) : EReal) := by simp [Ideal.ofBits, Ideal.ieee, -EReal.coe_mul]; norm_num
theorem lit_half : Ideal.ofBits .f32 0x3F000000#32 = ((1 / 2 : ℝ) : EReal) := by simp [Ideal.ofBits, Ideal.ieee, -EReal.coe_mul]; norm_num
theorem lit_neg_half : Ideal.ofBits .f32 0xBF000000#32 = ((-(1 / 2) : ℝ) : EReal) := by simp [Ideal.ofBits, Ideal.ieee, -EReal.coe_mul]; norm_num
theorem lit_1024 : Ideal.ofBits .f32 0x44800000#32 = ((1024 : ℝ) : EReal) := by simp [Ideal.ofBits, Ideal.ieee, -EReal.coe_mul]; norm_num
theorem lit_1024th : Ideal.ofBits .f32 0x3A800000#32 = ((1 / 1024 : ℝ) : EReal) := by simp [Ideal.ofBits, Ideal.ieee, -EReal.coe_mul]; norm_num
theorem lit_eps : Ideal.ofBits .f32 0x358637BD#32 = ((eps : ℝ) : EReal) := by
  unfold eps; simp [Ideal.ofBits, Ideal.ieee, -EReal.coe_mul]; norm_num
theorem lit_top : Ideal.ofBits .f32 0x7F800000#32 = (⊤ : EReal) := by simp [Ideal.ofBits, Ideal.ieee]

/-- The integer zero, as a float. -/
theorem sitofp_zero : (FloatOps.sitofp (F := Ideal) .f32 0#32 : EReal) = ((0 : ℝ) : EReal) := by
  show ((((0#32 : BitVec 32).toInt : ℝ)) : EReal) = _
  simp

/-- An array whose every element is smaller in magnitude than `+∞` holds real numbers. -/
theorem exists_up {s : Shape} {x b : FVec Ideal s .f32} (h : cmpf .olt (Host.absf x) b = fun _ => 1#1)
    (hb : ∀ i, b i = (⊤ : EReal) := by intro i; pointwise; exact lit_top) : ∃ X : s.Idx → ℝ, x = up X := by
  refine ⟨fun i => (x i : EReal).toReal, funext fun i => ?_⟩
  have hi := congrFun h i
  rw [show cmpf .olt (Host.absf x) b i = Ideal.cmp .olt (max (x i : EReal) (-(x i : EReal))) (b i) from rfl, hb i] at hi
  show (x i : EReal) = (((x i : EReal).toReal : ℝ) : EReal)
  refine (EReal.coe_toReal ?_ ?_).symm
  · intro ht; rw [ht] at hi; simp [Ideal.cmp] at hi
  · intro ht; rw [ht] at hi; simp [Ideal.cmp] at hi

/-- One write over a whole array leaves what it wrote. -/
theorem canon_whole {V : EltTy → Type} [∀ e, Nonempty (V e)] {s : Shape} {e : EltTy} (v : (Rect.whole s).shape.Idx → V e) :
    View.canon (Val := V) [(⟨Rect.whole s, v⟩ : View.Piece V s e)] = v := by
  funext y
  exact (congrArg _ (Rect.emb_whole_apply s y).symm).trans (View.canon_cons_emb (Rect.whole s) v [] y)

/-- A whole array read after one write over the whole of it. -/
theorem readCov_whole {V : EltTy → Type} [∀ e, Nonempty (V e)] {sig : RefSig} {κ : Kind} {sp : Space} {s : Shape} {e : EltTy} (v : View sig κ sp s e)
    {off : Fin s.rank → ℕ} (inb : ∀ a, off a + s.size a ≤ s.size a) (w u : s.Idx → V e) (h : w = u) :
    v.readCov [(⟨Rect.whole s, w⟩ : View.Piece V s e)] (Rect.unit off s.size inb).toLoadRect = u :=
  (View.readCov_full v inb (off' := fun _ => 0) (fun a => (Nat.zero_add _).le) w []).trans h

/-- Every index of a matrix is a row and a column. -/
theorem exists_ix2 {a b : Nat} (j : (⟨2, ![a, b]⟩ : Shape).Idx) : ∃ (r : Fin a) (k : Fin b), j = ix2 r k :=
  ⟨j 0, j 1, (ix2_eta j).symm⟩

end Cert.Reals

end
-- ==== Proof.RowNorm.lean ====
/-
  One row of 1024 real numbers, normalised by its root mean square, and the gradient of that.
-/
module

public import proofs.«01_k».proof.Proof.Reals

@[expose] public section

noncomputable section

namespace Cert.Reals

open Idealize.ShloMosaic

/-- The mean square of a row, with the small constant added. -/
def msq (x : Fin 1024 → ℝ) : ℝ := (∑ k, x k * x k) / 1024 + eps

theorem msq_pos (x : Fin 1024 → ℝ) : 0 < msq x :=
  add_pos_of_nonneg_of_pos (div_nonneg (Finset.sum_nonneg fun k _ => mul_self_nonneg (x k)) (by norm_num)) eps_pos

/-- One over the root mean square of a row. -/
def rinv (x : Fin 1024 → ℝ) : ℝ := (√(msq x))⁻¹

theorem rsqrt_msq (x : Fin 1024 → ℝ) : Ideal.rsqrt ((((∑ k, x k * x k) / 1024 + eps : ℝ)) : EReal) = ((rinv x : ℝ) : EReal) :=
  rsqrt_up (msq_pos x)

theorem rinv_sq (x : Fin 1024 → ℝ) : rinv x * rinv x = 1 / msq x := by
  unfold rinv
  rw [← mul_inv, Real.mul_self_sqrt (msq_pos x).le, one_div]

/-- Differentiating `rsqrt` yields `rsqrt v / v`: the cube of `rinv`. -/
theorem rinv_div (x : Fin 1024 → ℝ) : rinv x / msq x = rinv x * rinv x * rinv x := by
  rw [rinv_sq]; ring

/-- The gradient at the row, from the gradient `g` at the normalised row: `r (g - x̂ mean(g x̂))`. -/
def rowBack (x g : Fin 1024 → ℝ) (k : Fin 1024) : ℝ :=
  rinv x * (g k - x k * rinv x * ((∑ j, g j * (x j * rinv x)) / 1024))

/-- The three terms in which differentiating `x * rsqrt(mean(x²) + eps)` leaves the gradient are `rowBack`. -/
theorem rowBack_vjp (x g : Fin 1024 → ℝ) (k : Fin 1024) :
    g k * rinv x + x k * ((∑ j, x j * g j) * (-(1 / 2) * (rinv x / msq x)) / 1024)
      + (∑ j, x j * g j) * (-(1 / 2) * (rinv x / msq x)) / 1024 * x k = rowBack x g k := by
  have h : ∑ j, g j * (x j * rinv x) = (∑ j, x j * g j) * rinv x := by
    rw [Finset.sum_mul]; exact Finset.sum_congr rfl fun j _ => by ring
  rw [rowBack, h, rinv_div]
  ring

end Cert.Reals

end
-- ==== Proof.LossMath.lean ====
/-
  The loss head's payloads at finite blocks, as real numbers.
-/
module

public import proofs.«01_k».proof.Proof.RowNorm
public import proofs.«01_k».proof.Proof.Gen.LossKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.LossKIdeal.Block

open Cert.LossKIdeal Cert.LossKIdeal.Gen Idealize.ShloMosaic Idealize.ShloMosaic.TcCoe Idealize.SL.Sem
open Cert.Reals

/-- The error of one row: the normalised row times the weight, less the target. -/
def err (x w t : Fin 1024 → ℝ) (k : Fin 1024) : ℝ := x k * rinv x * w k - t k

variable (X T : S512x1024.Idx → ℝ) (W : S1x1024.Idx → ℝ)

theorem pay5_up (j : S512x1.Idx) : k0_pay5 (F := Ideal) (up X) j = ((rinv (fun k => X (ix2 (j 0) k)) : ℝ) : EReal) := by
  unfold k0_pay5
  pointwise
  simp (disch := norm_num) only [up_apply, mul_up, sum_up, lit_1024, lit_eps, div_up, add_up, rsqrt_msq]

theorem pay6_up (j : S512x1024.Idx) : k0_pay6 (F := Ideal) (up X) j = ((X j * rinv (fun k => X (ix2 (j 0) k)) : ℝ) : EReal) := by
  unfold k0_pay6
  pointwise
  rw [pay5_up]
  simp (disch := norm_num) only [up_apply, mul_up]
  rfl

theorem pay7_up (j : S512x1024.Idx) : k0_pay7 (F := Ideal) (up W) (up X) (up T) j
    = ((err (fun k => X (ix2 (j 0) k)) (fun k => W (ix2 0 k)) (fun k => T (ix2 (j 0) k)) (j 1) : ℝ) : EReal) := by
  unfold k0_pay7 k0_pay4
  pointwise
  rw [pay6_up]
  simp (disch := norm_num) only [up_apply, mul_up, sub_up]
  obtain ⟨a, b, rfl⟩ := exists_ix2 j
  rfl

theorem pay8_up (j : S8x128.Idx) : k0_pay8 (F := Ideal) (up W) (up X) (up T) j
    = ((1 / 2 * ∑ r : Fin 512, (∑ k, err (fun k => X (ix2 r k)) (fun k => W (ix2 0 k)) (fun k => T (ix2 r k)) k * err (fun k => X (ix2 r k)) (fun k => W (ix2 0 k)) (fun k => T (ix2 r k)) k) / 1024 : ℝ) : EReal) := by
  unfold k0_pay8
  pointwise
  simp only [pay7_up]
  simp (disch := norm_num) only [up_apply, mul_up, sub_up, sum_up, lit_1024, lit_half, div_up]
  rfl

theorem pay12_up (j : S1x1024.Idx) : k0_pay1 (k0_pay12 (F := Ideal) (up W) (up X) (up T)) j
    = ((∑ r : Fin 512, err (fun k => X (ix2 r k)) (fun k => W (ix2 0 k)) (fun k => T (ix2 r k)) (j 1) * (1 / 1024) * (X (ix2 r (j 1)) * rinv (fun k => X (ix2 r k))) : ℝ) : EReal) := by
  unfold k0_pay1 k0_pay12 k0_pay10
  pointwise
  simp only [pay7_up, pay6_up]
  simp (disch := norm_num) only [up_apply, mul_up, sub_up, sum_up, lit_1024th]
  rfl

theorem pay2_up (j : S512x1024.Idx) : k0_pay2 (k0_pay5 (up X)) (k0_pay6 (up X)) (k0_pay11 (F := Ideal) (up W) (up X) (up T)) j
    = ((rowBack (fun k => X (ix2 (j 0) k)) (fun k => err (fun k => X (ix2 (j 0) k)) (fun k => W (ix2 0 k)) (fun k => T (ix2 (j 0) k)) k * (1 / 1024) * W (ix2 0 k)) (j 1) : ℝ) : EReal) := by
  unfold k0_pay2 k0_pay11 k0_pay10 k0_pay4
  pointwise
  simp only [pay7_up, pay6_up, pay5_up]
  simp (disch := norm_num) only [up_apply, mul_up, sub_up, sum_up, lit_1024th, lit_1024, div_up]
  obtain ⟨a, b, rfl⟩ := exists_ix2 j
  rfl

end Cert.LossKIdeal.Block

end
-- ==== Proof.LossArrays.lean ====
/-
  The three result arrays of the loss head on finite arguments, as real numbers.
-/
module

public import proofs.«01_k».proof.Proof.LossMath

@[expose] public section

set_option maxRecDepth 16384

noncomputable section

namespace Cert.LossKIdeal.Block

open Cert.LossKIdeal Cert.LossKIdeal.Gen Idealize.ShloMosaic Idealize.ShloMosaic.TcCoe Idealize.SL.Sem
open Cert.Reals
open Idealize.ShloMosaic.Pipeline (Dat)

variable (m : (ℓ : Loc nD τ sig) → Buf (Elt Ideal) ℓ) (c : Dev nD)
variable (X T : S4096x1024.Idx → ℝ) (W : S1024.Idx → ℝ)

theorem idx0 : ∀ t : Fin cfg0.N, win0_0.index t = ![t.val, 0] ∧ win0_1.index t = ![t.val, 0] ∧ win0_2.index t = ![0, 0] ∧ win0_3.index t = ![t.val, 0] :=
  (by decide +kernel : ∀ t : Fin grid0.N, win0_0.index t = ![t.val, 0] ∧ win0_1.index t = ![t.val, 0] ∧ win0_2.index t = ![0, 0] ∧ win0_3.index t = ![t.val, 0])

/-- Row `r` of block `t`, as a row of the array. -/
def row (t : Fin cfg0.N) (r : Fin 512) : Fin 4096 := ⟨t.val * 512 + r.val, by have h : t.val < 8 := lt_of_lt_of_eq t.isLt N_0; omega⟩

theorem iblk0 (hx : m ((c : Thread nD τ).loc main_arg0) = up X) (t : Fin cfg0.N) :
    iblk m c 0 t = up (fun y : S512x1024.Idx => X (ix2 (row t (y 0)) (y 1))) := by
  funext y
  have e := (idx0 t).1
  show V m c main_arg0 _ = _
  rw [V_main_arg0, hx]
  show ((X _ : ℝ) : EReal) = ((X _ : ℝ) : EReal)
  congr 2
  blk_ext [row, e]

theorem iblk1 (hx : m ((c : Thread nD τ).loc main_arg1) = up T) (t : Fin cfg0.N) :
    iblk m c 1 t = up (fun y : S512x1024.Idx => T (ix2 (row t (y 0)) (y 1))) := by
  funext y
  have e := (idx0 t).2.1
  show V m c main_arg1 _ = _
  rw [V_main_arg1, hx]
  show ((T _ : ℝ) : EReal) = ((T _ : ℝ) : EReal)
  congr 2
  blk_ext [row, e]

theorem iblk2 (hx : m ((c : Thread nD τ).loc main_arg2) = up W) (t : Fin cfg0.N) :
    iblk m c 2 t = up (fun y : S1x1024.Idx => W (ix1 (y 1))) := by
  funext y
  have e := (idx0 t).2.2.1
  blk_simp [iblk, e]
  entry_read
  pointwise
  rw [show m (c, Proc.tc.devRef main_arg2) = up W from hx]
  show ((W _ : ℝ) : EReal) = ((W _ : ℝ) : EReal)
  congr 2
  blk_ext [e]

/-- The error of row `R` of the whole array. -/
def errAt (R : Fin 4096) : Fin 1024 → ℝ := err (fun k => X (ix2 R k)) (fun k => W (ix1 k)) (fun k => T (ix2 R k))

/-- `dx`: the normalisation's gradient at the row, from the error's. -/
def dxAt (i : S4096x1024.Idx) : ℝ := rowBack (fun k => X (ix2 (i 0) k)) (fun k => errAt X T W (i 0) k * (1 / 1024) * W (ix1 k)) (i 1)

/-- The loss: half the sum over the rows of the mean squared error. -/
def lossAt : ℝ := ∑ R : Fin 4096, 1 / 2 * ((∑ k, errAt X T W R k * errAt X T W R k) / 1024)

/-- The weight's gradient. -/
def dwAt (k : Fin 1024) : ℝ := ∑ R : Fin 4096, errAt X T W R k * (1 / 1024) * (X (ix2 R k) * rinv (fun j => X (ix2 R j)))

section
variable (hx : m ((c : Thread nD τ).loc main_arg0) = up X) (ht : m ((c : Thread nD τ).loc main_arg1) = up T)
  (hw : m ((c : Thread nD τ).loc main_arg2) = up W)
include hx ht hw

theorem after_dx (t : Fin cfg0.N) (y : S512x1024.Idx) :
    (outsAt0 m c t.val t.isLt).1 y = ((dxAt X T W (ix2 (row t (y 0)) (y 1)) : ℝ) : EReal) := by
  have hN : t.val < 8 := lt_of_lt_of_eq t.isLt N_0
  by_cases h : t.val % 8 = 0
  · rw [outsAt0_A m c t h (by omega) h (by omega)]
    frame_out
    rw [iblk0 m c X hx, iblk1 m c T ht, iblk2 m c W hw, pay2_up]
    rfl
  · rw [outsAt0_B m c t h (by omega) h (by omega)]
    frame_out
    rw [iblk0 m c X hx, iblk1 m c T ht, iblk2 m c W hw, pay2_up]
    rfl

/-- The first result array. -/
theorem final_dx : (dats m 0 c).arrAt 3 cfg0.N = up (dxAt X T W) := by
  refine (dats m 0 c).arrAt_eq_of_covers 3 _ (by decide +kernel) fun t hf y => ?_
  blk_simp
  rw [after0_3]
  refine (after_dx m c X T W hx ht hw t y).trans ?_
  show ((dxAt X T W _ : ℝ) : EReal) = ((dxAt X T W _ : ℝ) : EReal)
  have e := (idx0 t).2.2.2
  congr 2
  blk_ext [row, e]

/-- The loss, in every place of the second result array. -/
theorem final_loss : (dats m 0 c).arrAt 4 cfg0.N = up (fun _ => lossAt X T W) := by
  refine (dats m 0 c).arrAt_eq_of_after_last 4 t0_7 (by decide +kernel) _ fun j => ?_
  blk_simp
  rw [after0_4]
  refine (Pipeline.eq_sum_fin_of_reset_step_apply_last (fun n h => (outsAt0 m c n h).2.1) 8 (fun _ => (0 : EReal))
    (fun t _ => ((∑ r : Fin 512, 1 / 2 * ((∑ k, errAt X T W (row t r) k * errAt X T W (row t r) k) / 1024) : ℝ) : EReal)) ?_ ?_ (by decide) t0_7 rfl _).trans ?_
  · intro t h i
    have hN : t.val < 8 := lt_of_lt_of_eq t.isLt N_0
    rw [outsAt0_A m c t h (by omega) h (by omega)]
    frame_out
    rw [iblk0 m c X hx, iblk1 m c T ht, iblk2 m c W hw, pay8_up, zero_add]
    congr 1
    exact Finset.mul_sum _ _ _
  · intro t h i
    have hN : t.val < 8 := lt_of_lt_of_eq t.isLt N_0
    rw [outsAt0_B m c t h (by omega) h (by omega)]
    frame_out
    unfold k0_pay9
    rw [shapeCast_self]
    show _ + _ = _ + _
    rw [iblk0 m c X hx, iblk1 m c T ht, iblk2 m c W hw, pay8_up]
    congr 2
    exact Finset.mul_sum _ _ _
  · rw [sum_up, zero_add]
    show _ = ((lossAt X T W : ℝ) : EReal)
    congr 1
    exact Fin.sum_mul_add_fin 8 512 (fun R : Fin 4096 => 1 / 2 * ((∑ k, errAt X T W R k * errAt X T W R k) / 1024))

/-- The third result array. -/
theorem final_dw : (dats m 0 c).arrAt 5 cfg0.N = up (fun i : S1x1024.Idx => dwAt X T W (i 1)) := by
  refine (dats m 0 c).arrAt_eq_of_after_last 5 t0_7 (by decide +kernel) _ fun j => ?_
  blk_simp
  rw [after0_5]
  refine (Pipeline.eq_sum_fin_of_reset_step_apply_last (fun n h => (outsAt0 m c n h).2.2) 8 (fun _ => (0 : EReal))
    (fun t i => ((∑ r : Fin 512, errAt X T W (row t r) (i 1) * (1 / 1024) * (X (ix2 (row t r) (i 1)) * rinv (fun j => X (ix2 (row t r) j))) : ℝ) : EReal)) ?_ ?_ (by decide) t0_7 rfl _).trans ?_
  · intro t h i
    have hN : t.val < 8 := lt_of_lt_of_eq t.isLt N_0
    rw [outsAt0_A m c t h (by omega) h (by omega)]
    frame_out
    rw [iblk0 m c X hx, iblk1 m c T ht, iblk2 m c W hw, pay12_up, zero_add]
    rfl
  · intro t h i
    have hN : t.val < 8 := lt_of_lt_of_eq t.isLt N_0
    rw [outsAt0_B m c t h (by omega) h (by omega)]
    frame_out
    unfold k0_pay3
    rw [shapeCast_self]
    show _ + _ = _ + _
    rw [iblk0 m c X hx, iblk1 m c T ht, iblk2 m c W hw, pay12_up]
    rfl
  · rw [sum_up, zero_add]
    show _ = ((dwAt X T W (j 1) : ℝ) : EReal)
    congr 1
    exact Fin.sum_mul_add_fin 8 512 (fun R : Fin 4096 => errAt X T W R (j 1) * (1 / 1024) * (X (ix2 R (j 1)) * rinv (fun k => X (ix2 R k))))

end

end Cert.LossKIdeal.Block

end
-- ==== Proof.LossRef.lean ====
/-
  The loss head's reference on finite arguments, stage by stage, as real numbers; and that its results are the
  kernel's.
-/
module

public import proofs.«01_k».proof.Proof.LossArrays
public import proofs.«01_k».proof.Proof.Gen.LossRIdeal.Read

@[expose] public section

set_option maxRecDepth 16384

noncomputable section

namespace Cert.LossRIdeal.Stages

open Cert.LossRIdeal Cert.LossRIdeal.Gen Cert.LossRIdeal.Read Idealize.ShloMosaic Idealize.ShloMosaic.TcCoe Idealize.SL.Sem
open Cert.Reals
open Cert.LossKIdeal.Block (err errAt dxAt lossAt dwAt)

variable (X T : S4096x1024.Idx → ℝ) (W : S1024.Idx → ℝ)

/-- The mean square of a row. -/
theorem v6_up (i : S4096x1.Idx) : val_main_v6 (F := Ideal) (up X) i = ((msq (fun k => X (ix2 (i 0) k)) : ℝ) : EReal) := by
  pointwise [val_main_v6, val_main_v5, val_main_v4, val_main_v3, val_main_v2, val_main_v1, val_main_v0, val_main_cst, val_main_cst_0, val_main_cst_1]
  simp (disch := norm_num) only [up_apply, mul_up, sum_up, lit_zero, lit_1024, lit_eps, div_up, add_up, zero_add]
  rfl

theorem v7_up (i : S4096x1.Idx) : val_main_v7 (F := Ideal) (up X) i = ((rinv (fun k => X (ix2 (i 0) k)) : ℝ) : EReal) := by
  pointwise [val_main_v7]
  rw [v6_up]
  exact rsqrt_up (msq_pos _)

theorem v10_up (i : S4096x1.Idx) : val_main_v10 (F := Ideal) (up X) i = ((-(1 / 2) * (rinv (fun k => X (ix2 (i 0) k)) / msq (fun k => X (ix2 (i 0) k))) : ℝ) : EReal) := by
  pointwise [val_main_v10, val_main_v9, val_main_v8, val_main_cst_2]
  rw [v6_up, v7_up, div_up (msq_pos _).ne', lit_neg_half, mul_up]

theorem v12_up (i : S4096x1024.Idx) : val_main_v12 (F := Ideal) (up X) i = ((X i * rinv (fun k => X (ix2 (i 0) k)) : ℝ) : EReal) := by
  pointwise [val_main_v12, val_main_v11]
  rw [v7_up, up_apply, mul_up]
  rfl

theorem v16_up (i : S4096x1024.Idx) : val_main_v16 (F := Ideal) (up X) (up T) (up W) i = ((errAt X T W (i 0) (i 1) : ℝ) : EReal) := by
  pointwise [val_main_v16, val_main_v15, val_main_v14, val_main_v13]
  simp only [v12_up, up_apply, mul_up, sub_up]
  obtain ⟨a, b, rfl⟩ := exists_ix2 i
  rfl

theorem v30_up (i : S4096x1024.Idx) : val_main_v30 (F := Ideal) (up X) (up T) (up W) i = ((errAt X T W (i 0) (i 1) * (1 / 1024) : ℝ) : EReal) := by
  pointwise [val_main_v30, val_main_v29, val_main_v28, val_main_v27, val_main_v26, val_main_v25, val_main_v19, val_main_v18, val_main_cst_3, val_main_cst_8, val_main_cst_9, val_main_cst_10]
  simp (disch := norm_num) only [v16_up, lit_half, lit_one, lit_1024, lit_two, mul_up, div_up]
  congr 1
  ring

theorem v35_up (i : S4096x1024.Idx) : val_main_v35 (F := Ideal) (up X) (up T) (up W) i = ((errAt X T W (i 0) (i 1) * (1 / 1024) * W (ix1 (i 1)) : ℝ) : EReal) := by
  pointwise [val_main_v35, val_main_v34, val_main_v13]
  simp (disch := norm_num) only [v30_up, up_apply, mul_up]

theorem v46_up (i : S4096x1024.Idx) : val_main_v46 (F := Ideal) (up X) (up T) (up W) i
    = (((∑ k, X (ix2 (i 0) k) * (errAt X T W (i 0) k * (1 / 1024) * W (ix1 k))) * (-(1 / 2) * (rinv (fun k => X (ix2 (i 0) k)) / msq (fun k => X (ix2 (i 0) k)))) / 1024 : ℝ) : EReal) := by
  pointwise [val_main_v46, val_main_v45, val_main_v44, val_main_v43, val_main_v42, val_main_v39, val_main_v38, val_main_v37, val_main_cst_13, val_main_cst_14, val_main_cst_15]
  simp (disch := norm_num) only [v35_up, v10_up, up_apply, mul_up, sum_up, lit_zero, lit_1024, div_up, add_up, zero_add]
  rw [Fin.sum_univ_one]
  rfl

/-- The reference's first result is the kernel's. -/
theorem v50_up : val_main_v50 (F := Ideal) (up X) (up T) (up W) = up (dxAt X T W) := by
  funext i
  pointwise [val_main_v50, val_main_v49, val_main_v48, val_main_v47, val_main_v41, val_main_v40]
  simp (disch := norm_num) only [v35_up, v46_up, v7_up, up_apply, mul_up, add_up]
  obtain ⟨a, b, rfl⟩ := exists_ix2 i
  exact congrArg _ (rowBack_vjp (fun k => X (ix2 a k)) (fun k => errAt X T W a k * (1 / 1024) * W (ix1 k)) b)

/-- The reference's second result is the kernel's. -/
theorem v51_up : val_main_v51 (F := Ideal) (up X) (up T) (up W) = up (fun _ => lossAt X T W) := by
  funext i
  pointwise [val_main_v51, val_main_v24, val_main_v23, val_main_v22, val_main_v21, val_main_v20, val_main_v17, val_main_cst_4, val_main_cst_5, val_main_cst_6, val_main_cst_7]
  simp (disch := norm_num) only [v16_up, up_apply, mul_up, sum_up, lit_zero, lit_1024, lit_half, div_up, add_up, zero_add]
  congr 1
  exact Finset.mul_sum _ _ _

/-- The reference's third result is the kernel's. -/
theorem v52_up : val_main_v52 (F := Ideal) (up X) (up T) (up W) = up (fun i : S1x1024.Idx => dwAt X T W (i 1)) := by
  funext i
  pointwise [val_main_v52, val_main_v36, val_main_v33, val_main_v32, val_main_v31, val_main_cst_11, val_main_cst_12]
  simp (disch := norm_num) only [v30_up, v12_up, up_apply, mul_up, sum_up, lit_zero, add_up, zero_add]
  congr 1
  rw [Fin.sum_univ_one]
  exact Finset.sum_congr rfl fun R _ => mul_comm _ _

end Cert.LossRIdeal.Stages

end
-- ==== Proof.LossClaim.lean ====
/-
  The loss head against the loss and its gradient: the claims.
-/
module

public import proofs.«01_k».proof.Defs
public import proofs.«01_k».proof.Proof.LossRef
public import proofs.«01_k».proof.Proof.Gen.LossRIdeal.Run
public import proofs.«01_k».proof.Proof.Gen.LossK.Frame
public import proofs.«01_k».proof.Proof.Gen.LossKIdeal.Frame
public import proofs.«01_k».proof.Proof.Gen.Pre_finite_loss
public import Idealize.ShloMosaic.Lib.Claim
public import Idealize.ShloMosaic.Lib.Quiescent

@[expose] public section

set_option maxRecDepth 16384

noncomputable section

namespace Cert.LossClaim

open Idealize.ShloMosaic Idealize.ShloMosaic.TcCoe Idealize.SL.Sem Cert.Reals
open Cert.LossKIdeal.Block (dxAt lossAt dwAt)

/-- Finite arguments are arrays of real numbers. -/
theorem finite (m : (ℓ : Loc Cert.LossKIdeal.nD Cert.LossKIdeal.τ Cert.LossKIdeal.sig) → Buf (Elt Ideal) ℓ)
    (h : Cert.Pre_LossKIdeal_finite_loss m) (c : Dev Cert.LossKIdeal.nD) :
    ∃ (X T : Cert.LossKIdeal.S4096x1024.Idx → ℝ) (W : Cert.LossKIdeal.S1024.Idx → ℝ),
      m ((c.tc : Thread _ _).loc Cert.LossKIdeal.main_arg0) = up X ∧ m ((c.tc : Thread _ _).loc Cert.LossKIdeal.main_arg1) = up T
      ∧ m ((c.tc : Thread _ _).loc Cert.LossKIdeal.main_arg2) = up W := by
  obtain ⟨h0, h1, h2⟩ := h c
  obtain ⟨X, hX⟩ := exists_up h0
  obtain ⟨T, hT⟩ := exists_up h1
  obtain ⟨W, hW⟩ := exists_up h2
  exact ⟨X, T, W, hX, hT, hW⟩

/-- The reference's run on finite arguments: its results are the kernel's arrays. -/
theorem ref_results (m : (ℓ : Loc Cert.LossRIdeal.nD Cert.LossRIdeal.τ Cert.LossRIdeal.sig) → Buf (Elt Ideal) ℓ) (g : Dev Cert.LossRIdeal.nD → PrngReg)
    (X T : Dev Cert.LossRIdeal.nD → Cert.LossKIdeal.S4096x1024.Idx → ℝ) (W : Dev Cert.LossRIdeal.nD → Cert.LossKIdeal.S1024.Idx → ℝ)
    (hx : ∀ c : Dev Cert.LossRIdeal.nD, m ((c.tc : Thread _ _).loc Cert.LossRIdeal.main_arg0) = up (X c) ∧ m ((c.tc : Thread _ _).loc Cert.LossRIdeal.main_arg1) = up (T c)
      ∧ m ((c.tc : Thread _ _).loc Cert.LossRIdeal.main_arg2) = up (W c)) :
    θ_run (Cert.LossRIdeal.defs (F := Ideal)) (onTc (τ := Cert.LossRIdeal.τ) (Cert.LossRIdeal.main (F := Ideal))) ⟨m, fun _ => 0, g⟩ (fun r => ∀ c : Dev Cert.LossRIdeal.nD,
      r.2.mem ((c.tc : Thread _ _).loc Cert.LossRIdeal.main_v50) = up (dxAt (X c) (T c) (W c))
      ∧ r.2.mem ((c.tc : Thread _ _).loc Cert.LossRIdeal.main_v51) = up (fun _ => lossAt (X c) (T c) (W c))
      ∧ r.2.mem ((c.tc : Thread _ _).loc Cert.LossRIdeal.main_v52) = up (fun i : Cert.LossKIdeal.S1x1024.Idx => dwAt (X c) (T c) (W c) (i 1))
      ∧ r.2.mem ((c.tc : Thread _ _).loc Cert.LossRIdeal.main_arg0) = m ((c.tc : Thread _ _).loc Cert.LossRIdeal.main_arg0)
      ∧ r.2.mem ((c.tc : Thread _ _).loc Cert.LossRIdeal.main_arg1) = m ((c.tc : Thread _ _).loc Cert.LossRIdeal.main_arg1)
      ∧ r.2.mem ((c.tc : Thread _ _).loc Cert.LossRIdeal.main_arg2) = m ((c.tc : Thread _ _).loc Cert.LossRIdeal.main_arg2)) := by
  refine (θ_run Cert.LossRIdeal.defs _ _).mono (fun _ h c => ?_) (Cert.LossRIdeal.Value.run (F := Ideal) m g)
  obtain ⟨h0, h1, h2⟩ := hx c
  obtain ⟨r0, r1, r2, rest⟩ := h c
  refine ⟨?_, ?_, ?_, rest⟩
  · rw [r0, Cert.LossRIdeal.Read.val_main_v50_eq, h0, h1, h2]; exact Cert.LossRIdeal.Stages.v50_up _ _ _
  · refine (r1.trans (Cert.LossRIdeal.Read.val_main_v51_eq _ _ _)).trans ?_
    rw [h0, h1, h2]; exact Cert.LossRIdeal.Stages.v51_up _ _ _
  · refine (r2.trans (Cert.LossRIdeal.Read.val_main_v52_eq _ _ _)).trans ?_
    rw [h0, h1, h2]; exact Cert.LossRIdeal.Stages.v52_up _ _ _

/-- On finite arguments the loss head and the reference end with the same three arrays. -/
theorem algebraic : Cert.algebraic_LossKIdeal_LossRIdeal_pre_finite_loss := by
  intro m g m' g' hpre hag
  choose X T W hX using finite m hpre
  refine ⟨fun c => up (dxAt (X c) (T c) (W c)), fun c => up (fun _ => lossAt (X c) (T c) (W c)),
    fun c => up (fun i : Cert.LossKIdeal.S1x1024.Idx => dwAt (X c) (T c) (W c) (i 1)), ?_, ?_⟩
  · refine (θ_run Cert.LossKIdeal.defs _ _).mono (fun _ h c => ?_) (Cert.LossKIdeal.Value.run_blocks (F := Ideal) m g)
    obtain ⟨h0, h1, h2⟩ := hX c
    obtain ⟨r0, r1, r2, rest⟩ := h c
    exact ⟨r0.trans (Cert.LossKIdeal.Block.final_dx m c _ _ _ h0 h1 h2), r1.trans (Cert.LossKIdeal.Block.final_loss m c _ _ _ h0 h1 h2),
      r2.trans (Cert.LossKIdeal.Block.final_dw m c _ _ _ h0 h1 h2), rest⟩
  · exact ref_results m' g' X T W fun c => ⟨(hag c).1.trans (hX c).1, (hag c).2.1.trans (hX c).2.1, (hag c).2.2.trans (hX c).2.2⟩

/-- The reference terminates, keeps its arguments and has no semaphore to leave. -/
theorem frame_ref : Cert.quiescent_LossRIdeal := fun m g _ =>
  (θ_run Cert.LossRIdeal.defs _ _).mono (fun r h => ⟨fun c => (h c).2.2.2, sem_eq_zero_of_no_sems rfl r.2⟩)
    (Cert.LossRIdeal.Value.run (F := Ideal) m g)

end Cert.LossClaim

end
-- ==== Proof.ProjMath.lean ====
/-
  The payloads of the input projection's backward call at finite blocks, as real numbers.
-/
module

public import proofs.«01_k».proof.Proof.RowNorm
public import proofs.«01_k».proof.Proof.Gen.ProjBwdKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.ProjBwdKIdeal.Block

open Cert.ProjBwdKIdeal Cert.ProjBwdKIdeal.Gen Idealize.ShloMosaic Idealize.ShloMosaic.TcCoe Idealize.SL.Sem
open Cert.Reals

/-- Columns `o`, `o + 1`, … of a matrix of 3200 columns. -/
def cols {r : Nat} (P : (⟨2, ![r, 3200]⟩ : Shape).Idx → ℝ) (n o : Nat) (h : o + n ≤ 3200) (y : (⟨2, ![r, n]⟩ : Shape).Idx) : ℝ :=
  P (ix2 (y 0) ⟨(y 1).val + o, by have : (y 1).val < n := (y 1).isLt; omega⟩)

/-- The five column blocks, side by side, are the matrix. -/
theorem pay3_up (P : S512x3200.Idx → ℝ) :
    k0_pay3 (F := Ideal) (up (cols P 512 0 (by omega))) (up (cols P 512 512 (by omega))) (up (cols P 1536 1024 (by omega)))
      (up (cols P 512 2560 (by omega))) (up (cols P 128 3072 (by omega))) = up P .bf16 := by
  funext j
  obtain ⟨a, b, rfl⟩ := exists_ix2 j
  unfold k0_pay3
  pointwise
  simp only [up_apply, cols]
  split_ifs <;> (congr 2; try (congr 1; ext; simp; omega))

variable (P : S512x3200.Idx → ℝ) (WI : S1024x3200.Idx → ℝ) (X DH : S512x1024.Idx → ℝ) (W C : S1x1024.Idx → ℝ)

/-- The gradient of the projection's input: the product with the matrix, transposed. -/
theorem pay4_up : k0_pay4 (F := Ideal) (up (cols P 512 0 (by omega))) (up (cols P 512 512 (by omega))) (up (cols P 1536 1024 (by omega)))
      (up (cols P 512 2560 (by omega))) (up (cols P 128 3072 (by omega))) (up WI .bf16)
    = up (fun j : S512x1024.Idx => ∑ q : Fin 3200, P (ix2 (j 0) q) * WI (ix2 (j 1) q)) := by
  funext j
  unfold k0_pay4
  rw [pay3_up]
  pointwise
  simp only [up_apply, mul_up, sum_up, lit_zero, add_up, add_zero]

theorem pay7_up (j : S512x1.Idx) : k0_pay7 (F := Ideal) (up X) j = ((rinv (fun k => X (ix2 (j 0) k)) : ℝ) : EReal) := by
  unfold k0_pay7
  pointwise
  simp (disch := norm_num) only [up_apply, mul_up, sum_up, lit_1024, lit_eps, div_up, add_up, rsqrt_msq]

theorem pay8_up (j : S512x1024.Idx) : k0_pay8 (F := Ideal) (up X) j = ((X j * rinv (fun k => X (ix2 (j 0) k)) : ℝ) : EReal) := by
  unfold k0_pay8
  pointwise
  rw [pay7_up]
  simp (disch := norm_num) only [up_apply, mul_up]
  rfl

theorem pay9_up (j : S512x1024.Idx) : k0_pay9 (F := Ideal) (up X) (up W) j = ((X j * rinv (fun k => X (ix2 (j 0) k)) * W (ix2 0 (j 1)) : ℝ) : EReal) := by
  unfold k0_pay9 k0_pay5
  pointwise
  rw [pay8_up]
  simp (disch := norm_num) only [up_apply, mul_up]

theorem pay10_up (j : S1x1024.Idx) : k0_pay10 (F := Ideal) (up DH) j = ((∑ r : Fin 512, DH (ix2 r (j 1)) : ℝ) : EReal) := by
  unfold k0_pay10
  pointwise
  simp (disch := norm_num) only [up_apply, sum_up]

theorem pay11_up (j : S1x1024.Idx) : k0_pay11 (F := Ideal) (up DH) (k0_pay9 (up X) (up W)) j
    = ((∑ r : Fin 512, DH (ix2 r (j 1)) * (X (ix2 r (j 1)) * rinv (fun k => X (ix2 r k)) * W (ix2 0 (j 1))) : ℝ) : EReal) := by
  unfold k0_pay11
  pointwise
  simp only [pay9_up]
  simp (disch := norm_num) only [up_apply, mul_up, sum_up]
  rfl

theorem pay12_up (j : S512x1024.Idx) : k0_pay12 (F := Ideal) (up DH) (k0_pay6 (up C)) j = ((DH j * (1 + C (ix2 0 (j 1))) : ℝ) : EReal) := by
  unfold k0_pay12 k0_pay6
  pointwise
  simp (disch := norm_num) only [up_apply, mul_up, lit_one, add_up]
  rfl

theorem pay13_up (j : S1x1024.Idx) : k0_pay13 (F := Ideal) (up DH) (k0_pay6 (up C)) (k0_pay8 (up X)) j
    = ((∑ r : Fin 512, DH (ix2 r (j 1)) * (1 + C (ix2 0 (j 1))) * (X (ix2 r (j 1)) * rinv (fun k => X (ix2 r k))) : ℝ) : EReal) := by
  unfold k0_pay13
  pointwise
  simp only [pay12_up, pay8_up]
  simp (disch := norm_num) only [up_apply, mul_up, sum_up]
  rfl

theorem pay14_up (D : FVec Ideal S512x1024 .f32) (j : S512x1024.Idx) :
    k0_pay14 (F := Ideal) (up DH) (k0_pay5 (up W)) (k0_pay6 (up C)) (k0_pay7 (up X)) (k0_pay8 (up X)) D j
    = D j + ((rowBack (fun k => X (ix2 (j 0) k)) (fun k => DH (ix2 (j 0) k) * (1 + C (ix2 0 k)) * W (ix2 0 k)) (j 1) : ℝ) : EReal) := by
  unfold k0_pay14 k0_pay5
  pointwise
  simp only [pay12_up, pay8_up, pay7_up]
  simp (disch := norm_num) only [up_apply, mul_up, sub_up, sum_up, lit_1024, div_up]
  obtain ⟨a, b, rfl⟩ := exists_ix2 j
  rfl

end Cert.ProjBwdKIdeal.Block

end
-- ==== Proof.ProjArrays.lean ====
/-
  The five result arrays of the input projection's backward call on finite arguments, as real numbers.
-/
module

public import proofs.«01_k».proof.Proof.ProjMath

@[expose] public section

set_option maxRecDepth 16384

noncomputable section

namespace Cert.ProjBwdKIdeal.Block

open Cert.ProjBwdKIdeal Cert.ProjBwdKIdeal.Gen Idealize.ShloMosaic Idealize.ShloMosaic.TcCoe Idealize.SL.Sem
open Cert.Reals
open Idealize.ShloMosaic.Pipeline (Dat)

variable (m : (ℓ : Loc nD τ sig) → Buf (Elt Ideal) ℓ) (c : Dev nD)
variable (D1 : FVec Ideal S4096x1024 .f32) (X : S4096x1024.Idx → ℝ) (W C : S1024.Idx → ℝ) (WI : S1024x3080.Idx → ℝ) (DP : S4096x3080.Idx → ℝ)

theorem idx0 : ∀ t : Fin cfg0.N, (win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0])
    ∧ (win0_7.index t = ![0, 0] ∧ win0_8.index t = ![0, 0] ∧ win0_9.index t = ![0, 0]) ∧ win0_10.index t = ![t.val, 0] ∧ win0_11.index t = ![t.val, 0] :=
  (by decide +kernel : ∀ t : Fin grid0.N, (win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0])
    ∧ (win0_7.index t = ![0, 0] ∧ win0_8.index t = ![0, 0] ∧ win0_9.index t = ![0, 0]) ∧ win0_10.index t = ![t.val, 0] ∧ win0_11.index t = ![t.val, 0])

/-- Row `r` of block `t`, as a row of the array. -/
def row (t : Fin cfg0.N) (r : Fin 512) : Fin 4096 := ⟨t.val * 512 + r.val, by have h : t.val < 8 := lt_of_lt_of_eq t.isLt N_0; omega⟩

/-- A matrix of 3080 columns with zeros after them, up to 3200. -/
def wide {n : Nat} (A : (⟨2, ![n, 3080]⟩ : Shape).Idx → ℝ) (i : (⟨2, ![n, 3200]⟩ : Shape).Idx) : ℝ :=
  if h : (i 1).val < 3080 then A (ix2 (i 0) ⟨(i 1).val, h⟩) else 0

/-- The rows of block `t` of a matrix. -/
def blk {n : Nat} (A : (⟨2, ![4096, n]⟩ : Shape).Idx → ℝ) (t : Fin cfg0.N) (y : (⟨2, ![512, n]⟩ : Shape).Idx) : ℝ := A (ix2 (row t (y 0)) (y 1))

theorem iblk0 (h : m ((c : Thread nD τ).loc main_arg0) = D1) (t : Fin cfg0.N) (y : S512x1024.Idx) :
    iblk m c 0 t y = D1 (ix2 (row t (y 0)) (y 1)) := by
  have e := (idx0 t).1.1
  show V m c main_arg0 _ = _
  rw [V_main_arg0, h]
  congr 1
  blk_ext [row, e]

theorem iblk1 (hx : m ((c : Thread nD τ).loc main_arg1) = up X) (t : Fin cfg0.N) :
    iblk m c 1 t = up (fun y : S512x1024.Idx => X (ix2 (row t (y 0)) (y 1))) := by
  funext y
  have e := (idx0 t).1.2.1
  show V m c main_arg1 _ = _
  rw [V_main_arg1, hx]
  show ((X _ : ℝ) : EReal) = ((X _ : ℝ) : EReal)
  congr 2
  blk_ext [row, e]

/-- What the region finds in the host-made operands: column blocks of the cotangent, its padded last columns, the
    two vectors as rows, the padded matrix. -/
theorem V_host (x6 : FVec Ideal S4096x3080 .f32) (x5 : FVec Ideal S1024x3080 .f32) (x2 x3 : FVec Ideal S1024 .f32) (h6 : m ((c : Thread nD τ).loc main_arg6) = x6) (h5 : m ((c : Thread nD τ).loc main_arg5) = x5)
      (h2 : m ((c : Thread nD τ).loc main_arg2) = x2) (h3 : m ((c : Thread nD τ).loc main_arg3) = x3) :
    (V m c main_v0 = extractStridedSlice S4096x512 ![0, 0] x6 slices_S4096x3080_S4096x512_0_0
    ∧ V m c main_v1 = extractStridedSlice S4096x512 ![0, 512] x6 slices_S4096x3080_S4096x512_0_512
    ∧ V m c main_v2 = extractStridedSlice S4096x1536 ![0, 1024] x6 slices_S4096x3080_S4096x1536_0_1024
    ∧ V m c main_v3 = extractStridedSlice S4096x512 ![0, 2560] x6 slices_S4096x3080_S4096x512_0_2560)
    ∧ V m c main_v5 = pad S4096x128 ![0, 0] ![0, 120] ![0, 0] (extractStridedSlice S4096x8 ![0, 3072] x6 slices_S4096x3080_S4096x8_0_3072)
      (sitofp (F := Ideal) .f32 (constantI S_ 32 0#32)) pads_S4096x8_S4096x128_000_01200 h_S_
    ∧ V m c main_v8 = shapeCast S1x1024 x2 shapeCasts_S1024_S1x1024
    ∧ V m c main_v9 = shapeCast S1x1024 x3 shapeCasts_S1024_S1x1024
    ∧ V m c main_v7 = truncf (F := Ideal) .bf16 (pad S1024x3200 ![0, 0] ![0, 120] ![0, 0] x5 (sitofp (F := Ideal) .f32 (constantI S_ 32 0#32)) pads_S1024x3080_S1024x3200_000_01200 h_S_) bitsLt_bf16_f32 := by
  subst h6 h5 h2 h3
  unfold V
  simp only [hostOps0, hostOps0_1, hostOps0_2, hostOps0_3, hostOps0_4, List.flatten_cons, List.flatten_nil, List.append_nil, List.cons_append, List.nil_append]
  refine ⟨⟨?_, ?_, ?_, ?_⟩, ?_, ?_, ?_, ?_⟩
  all_goals
    entry_read
    rfl

section
variable (h6 : m ((c : Thread nD τ).loc main_arg6) = up DP) (h5 : m ((c : Thread nD τ).loc main_arg5) = up WI)
  (h2 : m ((c : Thread nD τ).loc main_arg2) = up W) (h3 : m ((c : Thread nD τ).loc main_arg3) = up C)
include h6 h5 h2 h3

theorem V_v0 : V m c main_v0 = up (cols (wide DP) 512 0 (by omega)) := by
  rw [(V_host m c _ _ _ _ h6 h5 h2 h3).1.1]
  funext i
  obtain ⟨a, b, rfl⟩ := exists_ix2 i
  pointwise
  rw [up_apply, up_apply, cols, wide, dif_pos (by show b.val + 0 < 3080; omega)]
  congr 3

theorem V_v1 : V m c main_v1 = up (cols (wide DP) 512 512 (by omega)) := by
  rw [(V_host m c _ _ _ _ h6 h5 h2 h3).1.2.1]
  funext i
  obtain ⟨a, b, rfl⟩ := exists_ix2 i
  pointwise
  rw [up_apply, up_apply, cols, wide, dif_pos (by show b.val + 512 < 3080; omega)]
  congr 3
  ext
  simp
  omega

theorem V_v2 : V m c main_v2 = up (cols (wide DP) 1536 1024 (by omega)) := by
  rw [(V_host m c _ _ _ _ h6 h5 h2 h3).1.2.2.1]
  funext i
  obtain ⟨a, b, rfl⟩ := exists_ix2 i
  pointwise
  rw [up_apply, up_apply, cols, wide, dif_pos (by show b.val + 1024 < 3080; omega)]
  congr 3
  ext
  simp
  omega

theorem V_v3 : V m c main_v3 = up (cols (wide DP) 512 2560 (by omega)) := by
  rw [(V_host m c _ _ _ _ h6 h5 h2 h3).1.2.2.2]
  funext i
  obtain ⟨a, b, rfl⟩ := exists_ix2 i
  pointwise
  rw [up_apply, up_apply, cols, wide, dif_pos (by show b.val + 2560 < 3080; omega)]
  congr 3
  ext
  simp
  omega

theorem V_v5 : V m c main_v5 = up (cols (wide DP) 128 3072 (by omega)) := by
  rw [(V_host m c _ _ _ _ h6 h5 h2 h3).2.1]
  funext i
  obtain ⟨a, b, rfl⟩ := exists_ix2 i
  pointwise
  rw [up_apply, cols, wide]
  simp only [sitofp_zero]
  by_cases h : b.val < 8
  · rw [dif_pos h, dif_pos (by show b.val + 3072 < 3080; omega), up_apply]
    congr 3
    ext
    simp
    omega
  · rw [dif_neg h, dif_neg (by show ¬ b.val + 3072 < 3080; omega)]

theorem V_v7 : V m c main_v7 = up (wide WI) .bf16 := by
  rw [(V_host m c _ _ _ _ h6 h5 h2 h3).2.2.2.2]
  funext i
  obtain ⟨a, b, rfl⟩ := exists_ix2 i
  pointwise
  rw [up_apply, wide]
  simp only [sitofp_zero]
  by_cases h : b.val < 3080
  · rw [dif_pos h, dif_pos (by exact h), up_apply]
    rfl
  · rw [dif_neg h, dif_neg (by exact h)]

theorem iblk2 (t : Fin cfg0.N) : iblk m c 2 t = up (cols (blk (wide DP) t) 512 0 (by omega)) := by
  funext y
  have e := (idx0 t).1.2.2.1
  show V m c main_v0 _ = _
  rw [V_v0 m c W C WI DP h6 h5 h2 h3]
  rw [up_apply, up_apply]
  unfold cols blk
  refine congrArg (fun i => ((wide DP i : ℝ) : EReal)) ?_
  blk_ext [row, e]

theorem iblk3 (t : Fin cfg0.N) : iblk m c 3 t = up (cols (blk (wide DP) t) 512 512 (by omega)) := by
  funext y
  have e := (idx0 t).1.2.2.2.1
  show V m c main_v1 _ = _
  rw [V_v1 m c W C WI DP h6 h5 h2 h3]
  rw [up_apply, up_apply]
  unfold cols blk
  refine congrArg (fun i => ((wide DP i : ℝ) : EReal)) ?_
  blk_ext [row, e]

theorem iblk4 (t : Fin cfg0.N) : iblk m c 4 t = up (cols (blk (wide DP) t) 1536 1024 (by omega)) := by
  funext y
  have e := (idx0 t).1.2.2.2.2.1
  show V m c main_v2 _ = _
  rw [V_v2 m c W C WI DP h6 h5 h2 h3]
  rw [up_apply, up_apply]
  unfold cols blk
  refine congrArg (fun i => ((wide DP i : ℝ) : EReal)) ?_
  blk_ext [row, e]

theorem iblk5 (t : Fin cfg0.N) : iblk m c 5 t = up (cols (blk (wide DP) t) 512 2560 (by omega)) := by
  funext y
  have e := (idx0 t).1.2.2.2.2.2.1
  show V m c main_v3 _ = _
  rw [V_v3 m c W C WI DP h6 h5 h2 h3]
  rw [up_apply, up_apply]
  unfold cols blk
  refine congrArg (fun i => ((wide DP i : ℝ) : EReal)) ?_
  blk_ext [row, e]

theorem iblk6 (t : Fin cfg0.N) : iblk m c 6 t = up (cols (blk (wide DP) t) 128 3072 (by omega)) := by
  funext y
  have e := (idx0 t).1.2.2.2.2.2.2
  show V m c main_v5 _ = _
  rw [V_v5 m c W C WI DP h6 h5 h2 h3]
  rw [up_apply, up_apply]
  unfold cols blk
  refine congrArg (fun i => ((wide DP i : ℝ) : EReal)) ?_
  blk_ext [row, e]

theorem iblk7 (t : Fin cfg0.N) : iblk m c 7 t = up (fun y : S1x1024.Idx => W (ix1 (y 1))) := by
  funext y
  have e := (idx0 t).2.1.1
  show V m c main_v8 _ = _
  rw [(V_host m c _ _ _ _ h6 h5 h2 h3).2.2.1]
  pointwise
  show ((W _ : ℝ) : EReal) = ((W _ : ℝ) : EReal)
  congr 2
  blk_ext [e]

theorem iblk8 (t : Fin cfg0.N) : iblk m c 8 t = up (fun y : S1x1024.Idx => C (ix1 (y 1))) := by
  funext y
  have e := (idx0 t).2.1.2.1
  show V m c main_v9 _ = _
  rw [(V_host m c _ _ _ _ h6 h5 h2 h3).2.2.2.1]
  pointwise
  show ((C _ : ℝ) : EReal) = ((C _ : ℝ) : EReal)
  congr 2
  blk_ext [e]

theorem iblk9 (t : Fin cfg0.N) : iblk m c 9 t = up (wide WI) .bf16 := by
  funext y
  have e := (idx0 t).2.1.2.2
  show V m c main_v7 _ = _
  rw [V_v7 m c W C WI DP h6 h5 h2 h3]
  show ((wide WI _ : ℝ) : EReal) = ((wide WI _ : ℝ) : EReal)
  congr 2
  blk_ext [e]

end

end Cert.ProjBwdKIdeal.Block

end
-- ==== Proof.ProjResults.lean ====
/-
  The five result arrays of the input projection's backward call on finite arguments.
-/
module

public import proofs.«01_k».proof.Proof.ProjArrays

@[expose] public section

set_option maxRecDepth 16384

noncomputable section

namespace Cert.ProjBwdKIdeal.Block

open Cert.ProjBwdKIdeal Cert.ProjBwdKIdeal.Gen Idealize.ShloMosaic Idealize.ShloMosaic.TcCoe Idealize.SL.Sem
open Cert.Reals
open Idealize.ShloMosaic.Pipeline (Dat)

variable (m : (ℓ : Loc nD τ sig) → Buf (Elt Ideal) ℓ) (c : Dev nD)
variable (D1 : FVec Ideal S4096x1024 .f32) (X : S4096x1024.Idx → ℝ) (W C : S1024.Idx → ℝ) (WI : S1024x3080.Idx → ℝ) (DP : S4096x3080.Idx → ℝ)

/-- The gradient of the projection's input at row `R`. -/
def dhAt (R : Fin 4096) (k : Fin 1024) : ℝ := ∑ q : Fin 3200, wide DP (ix2 R q) * wide WI (ix2 k q)

/-- The normalised row. -/
def hatAt (R : Fin 4096) (k : Fin 1024) : ℝ := X (ix2 R k) * rinv (fun j => X (ix2 R j))

/-- The normalisation's share of `dx`. -/
def dxAt (i : S4096x1024.Idx) : ℝ := rowBack (fun k => X (ix2 (i 0) k)) (fun k => dhAt WI DP (i 0) k * (1 + C (ix1 k)) * W (ix1 k)) (i 1)

def dnwAt (k : Fin 1024) : ℝ := ∑ R : Fin 4096, dhAt WI DP R k * (1 + C (ix1 k)) * hatAt X R k
def dscAt (k : Fin 1024) : ℝ := ∑ R : Fin 4096, dhAt WI DP R k * (hatAt X R k * W (ix1 k))
def dshAt (k : Fin 1024) : ℝ := ∑ R : Fin 4096, dhAt WI DP R k

section
variable (h0 : m ((c : Thread nD τ).loc main_arg0) = D1) (h1 : m ((c : Thread nD τ).loc main_arg1) = up X)
variable (h6 : m ((c : Thread nD τ).loc main_arg6) = up DP) (h5 : m ((c : Thread nD τ).loc main_arg5) = up WI)
  (h2 : m ((c : Thread nD τ).loc main_arg2) = up W) (h3 : m ((c : Thread nD τ).loc main_arg3) = up C)
include h0 h1 h6 h5 h2 h3

theorem after_dx (t : Fin cfg0.N) (y : S512x1024.Idx) :
    (outsAt0 m c t.val t.isLt).1 y = D1 (ix2 (row t (y 0)) (y 1)) + ((dxAt X W C WI DP (ix2 (row t (y 0)) (y 1)) : ℝ) : EReal) := by
  have hN : t.val < 8 := lt_of_lt_of_eq t.isLt N_0
  by_cases h : t.val % 8 = 0
  · rw [outsAt0_A m c t h (by omega) h (by omega) h (by omega)]
    frame_out
    rw [iblk1 m c X h1, iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3, iblk7 m c W C WI DP h6 h5 h2 h3,
      iblk8 m c W C WI DP h6 h5 h2 h3, iblk9 m c W C WI DP h6 h5 h2 h3, pay4_up, pay14_up, iblk0 m c D1 h0]
    rfl
  · rw [outsAt0_B m c t h (by omega) h (by omega) h (by omega)]
    frame_out
    rw [iblk1 m c X h1, iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3, iblk7 m c W C WI DP h6 h5 h2 h3,
      iblk8 m c W C WI DP h6 h5 h2 h3, iblk9 m c W C WI DP h6 h5 h2 h3, pay4_up, pay14_up, iblk0 m c D1 h0]
    rfl

theorem after_dpb (t : Fin cfg0.N) (y : S512x3200.Idx) :
    (outsAt0 m c t.val t.isLt).2.1 y = ((wide DP (ix2 (row t (y 0)) (y 1)) : ℝ) : EReal) := by
  have hN : t.val < 8 := lt_of_lt_of_eq t.isLt N_0
  by_cases h : t.val % 8 = 0
  · rw [outsAt0_A m c t h (by omega) h (by omega) h (by omega)]
    frame_out
    rw [iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3, pay3_up]
    rfl
  · rw [outsAt0_B m c t h (by omega) h (by omega) h (by omega)]
    frame_out
    rw [iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3, pay3_up]
    rfl

/-- The first result array. -/
theorem final_dx : (dats m 0 c).arrAt 10 cfg0.N = fun i => D1 i + ((dxAt X W C WI DP i : ℝ) : EReal) := by
  refine (dats m 0 c).arrAt_eq_of_covers 10 _ (by decide +kernel) fun t hf y => ?_
  blk_simp
  rw [after0_10]
  refine (after_dx m c D1 X W C WI DP h0 h1 h6 h5 h2 h3 t y).trans ?_
  have e := (idx0 t).2.2.1
  refine congrArg (fun i => D1 i + ((dxAt X W C WI DP i : ℝ) : EReal)) ?_
  blk_ext [row, e]

/-- The second result array: the padded cotangent. -/
theorem final_dpb : (dats m 0 c).arrAt 11 cfg0.N = up (wide DP) .bf16 := by
  refine (dats m 0 c).arrAt_eq_of_covers 11 _ (by decide +kernel) fun t hf y => ?_
  blk_simp
  rw [after0_11]
  refine (after_dpb m c D1 X W C WI DP h0 h1 h6 h5 h2 h3 t y).trans ?_
  have e := (idx0 t).2.2.2
  refine congrArg (fun i => ((wide DP i : ℝ) : EReal)) ?_
  blk_ext [row, e]

/-- The third result array: the gradient of the norm's weight. -/
theorem final_dnw : (dats m 0 c).arrAt 12 cfg0.N = up (fun i : S1x1024.Idx => dnwAt X C WI DP (i 1)) := by
  refine (dats m 0 c).arrAt_eq_of_after_last 12 t0_7 (by decide +kernel) _ fun j => ?_
  blk_simp
  rw [after0_12]
  refine (Pipeline.eq_sum_fin_of_reset_step_apply_last (fun n h => (outsAt0 m c n h).2.2.1) 8 (fun _ => (0 : EReal))
    (fun t i => ((∑ r : Fin 512, dhAt WI DP (row t r) (i 1) * (1 + C (ix1 (i 1))) * hatAt X (row t r) (i 1) : ℝ) : EReal)) ?_ ?_ (by decide) t0_7 rfl _).trans ?_
  · intro t h i
    have hN : t.val < 8 := lt_of_lt_of_eq t.isLt N_0
    rw [outsAt0_A m c t h (by omega) h (by omega) h (by omega)]
    frame_out
    rw [iblk1 m c X h1, iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3,
      iblk8 m c W C WI DP h6 h5 h2 h3, iblk9 m c W C WI DP h6 h5 h2 h3, pay4_up, pay13_up, zero_add]
    rfl
  · intro t h i
    have hN : t.val < 8 := lt_of_lt_of_eq t.isLt N_0
    rw [outsAt0_B m c t h (by omega) h (by omega) h (by omega)]
    frame_out
    unfold k0_pay15
    rw [shapeCast_self]
    show _ + _ = _ + _
    rw [iblk1 m c X h1, iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3,
      iblk8 m c W C WI DP h6 h5 h2 h3, iblk9 m c W C WI DP h6 h5 h2 h3, pay4_up, pay13_up]
    rfl
  · rw [sum_up, zero_add]
    show _ = ((dnwAt X C WI DP (j 1) : ℝ) : EReal)
    congr 1
    exact Fin.sum_mul_add_fin 8 512 (fun R : Fin 4096 => dhAt WI DP R (j 1) * (1 + C (ix1 (j 1))) * hatAt X R (j 1))

/-- The fourth result array: the gradient of the scale. -/
theorem final_dsc : (dats m 0 c).arrAt 13 cfg0.N = up (fun i : S1x1024.Idx => dscAt X W WI DP (i 1)) := by
  refine (dats m 0 c).arrAt_eq_of_after_last 13 t0_7 (by decide +kernel) _ fun j => ?_
  blk_simp
  rw [after0_13]
  refine (Pipeline.eq_sum_fin_of_reset_step_apply_last (fun n h => (outsAt0 m c n h).2.2.2.1) 8 (fun _ => (0 : EReal))
    (fun t i => ((∑ r : Fin 512, dhAt WI DP (row t r) (i 1) * (hatAt X (row t r) (i 1) * W (ix1 (i 1))) : ℝ) : EReal)) ?_ ?_ (by decide) t0_7 rfl _).trans ?_
  · intro t h i
    have hN : t.val < 8 := lt_of_lt_of_eq t.isLt N_0
    rw [outsAt0_A m c t h (by omega) h (by omega) h (by omega)]
    frame_out
    rw [iblk1 m c X h1, iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3, iblk7 m c W C WI DP h6 h5 h2 h3,
      iblk9 m c W C WI DP h6 h5 h2 h3, pay4_up, pay11_up, zero_add]
    rfl
  · intro t h i
    have hN : t.val < 8 := lt_of_lt_of_eq t.isLt N_0
    rw [outsAt0_B m c t h (by omega) h (by omega) h (by omega)]
    frame_out
    unfold k0_pay1
    rw [shapeCast_self]
    show _ + _ = _ + _
    rw [iblk1 m c X h1, iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3, iblk7 m c W C WI DP h6 h5 h2 h3,
      iblk9 m c W C WI DP h6 h5 h2 h3, pay4_up, pay11_up]
    rfl
  · rw [sum_up, zero_add]
    show _ = ((dscAt X W WI DP (j 1) : ℝ) : EReal)
    congr 1
    exact Fin.sum_mul_add_fin 8 512 (fun R : Fin 4096 => dhAt WI DP R (j 1) * (hatAt X R (j 1) * W (ix1 (j 1))))

/-- The fifth result array: the gradient of the shift. -/
theorem final_dsh : (dats m 0 c).arrAt 14 cfg0.N = up (fun i : S1x1024.Idx => dshAt WI DP (i 1)) := by
  refine (dats m 0 c).arrAt_eq_of_after_last 14 t0_7 (by decide +kernel) _ fun j => ?_
  blk_simp
  rw [after0_14]
  refine (Pipeline.eq_sum_fin_of_reset_step_apply_last (fun n h => (outsAt0 m c n h).2.2.2.2) 8 (fun _ => (0 : EReal))
    (fun t i => ((∑ r : Fin 512, dhAt WI DP (row t r) (i 1) : ℝ) : EReal)) ?_ ?_ (by decide) t0_7 rfl _).trans ?_
  · intro t h i
    have hN : t.val < 8 := lt_of_lt_of_eq t.isLt N_0
    rw [outsAt0_A m c t h (by omega) h (by omega) h (by omega)]
    frame_out
    rw [iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3,
      iblk9 m c W C WI DP h6 h5 h2 h3, pay4_up, pay10_up, zero_add]
    rfl
  · intro t h i
    have hN : t.val < 8 := lt_of_lt_of_eq t.isLt N_0
    rw [outsAt0_B m c t h (by omega) h (by omega) h (by omega)]
    frame_out
    unfold k0_pay2
    rw [shapeCast_self]
    show _ + _ = _ + _
    rw [iblk2 m c W C WI DP h6 h5 h2 h3, iblk3 m c W C WI DP h6 h5 h2 h3, iblk4 m c W C WI DP h6 h5 h2 h3,
      iblk5 m c W C WI DP h6 h5 h2 h3, iblk6 m c W C WI DP h6 h5 h2 h3,
      iblk9 m c W C WI DP h6 h5 h2 h3, pay4_up, pay10_up]
    rfl
  · rw [sum_up, zero_add]
    show _ = ((dshAt WI DP (j 1) : ℝ) : EReal)
    congr 1
    exact Fin.sum_mul_add_fin 8 512 (fun R : Fin 4096 => dhAt WI DP R (j 1))

end

end Cert.ProjBwdKIdeal.Block

end
-- ==== Proof.ProjRef.lean ====
/-
  The reference of the input projection's backward call on finite arguments, stage by stage, as real numbers; and that
  its results are the kernel's.
-/
module

public import proofs.«01_k».proof.Proof.ProjResults
public import proofs.«01_k».proof.Proof.Gen.ProjBwdRIdeal.Read

@[expose] public section

set_option maxRecDepth 16384

noncomputable section

namespace Cert.ProjBwdRIdeal.Stages

open Cert.ProjBwdRIdeal Cert.ProjBwdRIdeal.Gen Cert.ProjBwdRIdeal.Read Idealize.ShloMosaic Idealize.ShloMosaic.TcCoe Idealize.SL.Sem
open Cert.Reals
open Cert.ProjBwdKIdeal.Block (wide dhAt hatAt dxAt dnwAt dscAt dshAt)

variable (D1 : FVec Ideal S4096x1024 .f32) (X : S4096x1024.Idx → ℝ) (W C : S1024.Idx → ℝ) (WI : S1024x3080.Idx → ℝ) (DP : S4096x3080.Idx → ℝ)

theorem v6_up (i : S4096x1.Idx) : val_main_v6 (F := Ideal) (up X) i = ((msq (fun k => X (ix2 (i 0) k)) : ℝ) : EReal) := by
  pointwise [val_main_v6, val_main_v5, val_main_v4, val_main_v3, val_main_v2, val_main_v1, val_main_v0, val_main_cst, val_main_cst_0, val_main_cst_1]
  simp (disch := norm_num) only [up_apply, mul_up, sum_up, lit_zero, lit_1024, lit_eps, div_up, add_up, zero_add]
  rfl

theorem v7_up (i : S4096x1.Idx) : val_main_v7 (F := Ideal) (up X) i = ((rinv (fun k => X (ix2 (i 0) k)) : ℝ) : EReal) := by
  pointwise [val_main_v7]
  rw [v6_up]
  exact rsqrt_up (msq_pos _)

theorem v10_up (i : S4096x1.Idx) : val_main_v10 (F := Ideal) (up X) i = ((-(1 / 2) * (rinv (fun k => X (ix2 (i 0) k)) / msq (fun k => X (ix2 (i 0) k))) : ℝ) : EReal) := by
  pointwise [val_main_v10, val_main_v9, val_main_v8, val_main_cst_2]
  rw [v6_up, v7_up, div_up (msq_pos _).ne', lit_neg_half, mul_up]

theorem v12_up (i : S4096x1024.Idx) : val_main_v12 (F := Ideal) (up X) i = ((hatAt X (i 0) (i 1) : ℝ) : EReal) := by
  pointwise [val_main_v12, val_main_v11]
  rw [v7_up, up_apply, mul_up]
  obtain ⟨a, b, rfl⟩ := exists_ix2 i
  rfl

theorem v15_up (i : S4096x1024.Idx) : val_main_v15 (F := Ideal) (up X) (up W) i = ((hatAt X (i 0) (i 1) * W (ix1 (i 1)) : ℝ) : EReal) := by
  pointwise [val_main_v15, val_main_v14, val_main_v13]
  simp only [v12_up, up_apply, mul_up]

/-- A product over the 3080 columns is the product over the padded 3200. -/
theorem dh_narrow (R : Fin 4096) (k : Fin 1024) : ∑ q : Fin 3080, DP (ix2 R q) * WI (ix2 k q) = dhAt WI DP R k := by
  refine Eq.trans ?_ (Fin.sum_univ_add (a := 3080) (b := 120) (fun q : Fin 3200 => wide DP (ix2 R q) * wide WI (ix2 k q))).symm
  refine Eq.trans (add_zero _).symm (congrArg₂ (· + ·) (Finset.sum_congr rfl fun q _ => ?_) (Finset.sum_eq_zero fun q _ => ?_).symm)
  · rw [wide, wide, dif_pos (by exact q.isLt), dif_pos (by exact q.isLt)]
    rfl
  · rw [wide, dif_neg (by show ¬ 3080 + q.val < 3080; omega), zero_mul]

theorem v25_up (i : S4096x1024.Idx) : val_main_v25 (F := Ideal) (up WI) (up DP) i = ((dhAt WI DP (i 0) (i 1) : ℝ) : EReal) := by
  pointwise [val_main_v25]
  simp only [up_apply, mul_up, sum_up]
  exact congrArg _ (dh_narrow WI DP (i 0) (i 1))

theorem v33_up (i : S4096x1024.Idx) : val_main_v33 (F := Ideal) (up C) (up WI) (up DP) i = ((dhAt WI DP (i 0) (i 1) * (1 + C (ix1 (i 1))) : ℝ) : EReal) := by
  pointwise [val_main_v33, val_main_v32, val_main_v18, val_main_v17, val_main_v16, val_main_cst_3]
  simp only [v25_up, up_apply, lit_one, add_up, mul_up, ← EReal.coe_one]

theorem v39_up (i : S4096x1024.Idx) : val_main_v39 (F := Ideal) (up W) (up C) (up WI) (up DP) i
    = ((dhAt WI DP (i 0) (i 1) * (1 + C (ix1 (i 1))) * W (ix1 (i 1)) : ℝ) : EReal) := by
  pointwise [val_main_v39, val_main_v38, val_main_v13]
  simp only [v33_up, up_apply, mul_up]

theorem v51_up (i : S4096x1024.Idx) : val_main_v51 (F := Ideal) (up X) (up W) (up C) (up WI) (up DP) i
    = (((∑ k, X (ix2 (i 0) k) * (dhAt WI DP (i 0) k * (1 + C (ix1 k)) * W (ix1 k))) * (-(1 / 2) * (rinv (fun k => X (ix2 (i 0) k)) / msq (fun k => X (ix2 (i 0) k)))) / 1024 : ℝ) : EReal) := by
  pointwise [val_main_v51, val_main_v50, val_main_v49, val_main_v48, val_main_v47, val_main_v43, val_main_v42, val_main_v41, val_main_cst_10, val_main_cst_11, val_main_cst_12]
  simp (disch := norm_num) only [v39_up, v10_up, up_apply, mul_up, sum_up, lit_zero, lit_1024, div_up, add_up, zero_add]
  rw [Fin.sum_univ_one]
  rfl

/-- The reference's first result is the kernel's. -/
theorem v55_up : val_main_v55 (F := Ideal) D1 (up X) (up W) (up C) (up WI) (up DP) = fun i => D1 i + ((dxAt X W C WI DP i : ℝ) : EReal) := by
  funext i
  pointwise [val_main_v55, val_main_v54, val_main_v53, val_main_v52, val_main_v46, val_main_v45, val_main_v44]
  simp (disch := norm_num) only [v39_up, v51_up, v7_up, up_apply, mul_up]
  rw [add_assoc, add_assoc, add_up, add_up]
  obtain ⟨a, b, rfl⟩ := exists_ix2 i
  refine congrArg (fun r : ℝ => D1 (ix2 a b) + (r : EReal)) ?_
  rw [← add_assoc]
  exact rowBack_vjp (fun k => X (ix2 a k)) (fun k => dhAt WI DP a k * (1 + C (ix1 k)) * W (ix1 k)) b

/-- The reference's second result is the kernel's. -/
theorem v57_up : val_main_v57 (F := Ideal) (up DP) = up (wide DP) .bf16 := by
  funext i
  obtain ⟨a, b, rfl⟩ := exists_ix2 i
  pointwise [val_main_v57, val_main_v56, val_main_call0_v0, val_main_c]
  rw [up_apply, wide]
  simp only [sitofp_zero]
  by_cases h : b.val < 3080
  · rw [dif_pos h, dif_pos (by exact h), up_apply]
    rfl
  · rw [dif_neg h, dif_neg (by exact h)]

/-- The reference's third result is the kernel's. -/
theorem v58_up : val_main_v58 (F := Ideal) (up X) (up C) (up WI) (up DP) = up (fun i : S1x1024.Idx => dnwAt X C WI DP (i 1)) := by
  funext i
  pointwise [val_main_v58, val_main_v40, val_main_v37, val_main_v36, val_main_v35, val_main_cst_8, val_main_cst_9]
  simp (disch := norm_num) only [v33_up, v12_up, up_apply, mul_up, sum_up, lit_zero, add_up, zero_add]
  congr 1
  rw [Fin.sum_univ_one]
  exact Finset.sum_congr rfl fun R _ => mul_comm _ _

/-- The reference's fourth result is the kernel's. -/
theorem v59_up : val_main_v59 (F := Ideal) (up X) (up W) (up WI) (up DP) = up (fun i : S1x1024.Idx => dscAt X W WI DP (i 1)) := by
  funext i
  pointwise [val_main_v59, val_main_v34, val_main_v31, val_main_v30, val_main_v29, val_main_cst_6, val_main_cst_7]
  simp (disch := norm_num) only [v25_up, v15_up, up_apply, mul_up, sum_up, lit_zero, add_up, zero_add]
  congr 1
  rw [Fin.sum_univ_one]
  exact Finset.sum_congr rfl fun R _ => mul_comm _ _

/-- The reference's fifth result is the kernel's. -/
theorem v60_up : val_main_v60 (F := Ideal) (up WI) (up DP) = up (fun i : S1x1024.Idx => dshAt WI DP (i 1)) := by
  funext i
  pointwise [val_main_v60, val_main_v28, val_main_v27, val_main_v26, val_main_cst_4, val_main_cst_5]
  simp (disch := norm_num) only [v25_up, up_apply, mul_up, sum_up, lit_zero, add_up, zero_add]
  rw [Fin.sum_univ_one]
  rfl

end Cert.ProjBwdRIdeal.Stages

end
-- ==== Proof.ProjClaim.lean ====
/-
  The input projection's backward call against the gradient of the modulated norm and the product: the claims.
-/
module

public import proofs.«01_k».proof.Defs
public import proofs.«01_k».proof.Proof.ProjRef
public import proofs.«01_k».proof.Proof.Gen.ProjBwdRIdeal.Run
public import proofs.«01_k».proof.Proof.Gen.ProjBwdK.Frame
public import proofs.«01_k».proof.Proof.Gen.ProjBwdKIdeal.Frame
public import proofs.«01_k».proof.Proof.Gen.Pre_finite_projbwd
public import Idealize.ShloMosaic.Lib.Claim
public import Idealize.ShloMosaic.Lib.Quiescent

@[expose] public section

set_option maxRecDepth 16384

noncomputable section

namespace Cert.ProjClaim

open Idealize.ShloMosaic Idealize.ShloMosaic.TcCoe Idealize.SL.Sem Cert.Reals
open Cert.ProjBwdKIdeal.Block (wide dxAt dnwAt dscAt dshAt)

/-- The arguments that the precondition names are arrays of real numbers. -/
theorem finite (m : (ℓ : Loc Cert.ProjBwdKIdeal.nD Cert.ProjBwdKIdeal.τ Cert.ProjBwdKIdeal.sig) → Buf (Elt Ideal) ℓ)
    (h : Cert.Pre_ProjBwdKIdeal_finite_projbwd m) (c : Dev Cert.ProjBwdKIdeal.nD) :
    ∃ (X : Cert.ProjBwdKIdeal.S4096x1024.Idx → ℝ) (W C : Cert.ProjBwdKIdeal.S1024.Idx → ℝ) (WI : Cert.ProjBwdKIdeal.S1024x3080.Idx → ℝ) (DP : Cert.ProjBwdKIdeal.S4096x3080.Idx → ℝ),
      m ((c.tc : Thread _ _).loc Cert.ProjBwdKIdeal.main_arg1) = up X ∧ m ((c.tc : Thread _ _).loc Cert.ProjBwdKIdeal.main_arg2) = up W
      ∧ m ((c.tc : Thread _ _).loc Cert.ProjBwdKIdeal.main_arg3) = up C ∧ m ((c.tc : Thread _ _).loc Cert.ProjBwdKIdeal.main_arg5) = up WI
      ∧ m ((c.tc : Thread _ _).loc Cert.ProjBwdKIdeal.main_arg6) = up DP := by
  obtain ⟨h1, h2, h3, h5, h6⟩ := h c
  obtain ⟨X, hX⟩ := exists_up h1
  obtain ⟨W, hW⟩ := exists_up h2
  obtain ⟨C, hC⟩ := exists_up h3
  obtain ⟨WI, hWI⟩ := exists_up h5
  obtain ⟨DP, hDP⟩ := exists_up h6
  exact ⟨X, W, C, WI, DP, hX, hW, hC, hWI, hDP⟩

/-- On finite arguments the backward call and the reference end with the same five arrays; the gradient that the
    call adds to, and the shift, are any. -/
theorem algebraic : Cert.algebraic_ProjBwdKIdeal_ProjBwdRIdeal_pre_finite_projbwd := by
  intro m g m' g' hpre hag
  choose X W C WI DP hX using finite m hpre
  refine ⟨fun c => (fun (D1 : FVec Ideal Cert.ProjBwdKIdeal.S4096x1024 .f32) i => D1 i + ((dxAt (X c) (W c) (C c) (WI c) (DP c) i : ℝ) : EReal)) (m ((c.tc : Thread _ _).loc Cert.ProjBwdKIdeal.main_arg0)),
    fun c => up (wide (DP c)) .bf16, fun c => up (fun i : Cert.ProjBwdKIdeal.S1x1024.Idx => dnwAt (X c) (C c) (WI c) (DP c) (i 1)),
    fun c => up (fun i : Cert.ProjBwdKIdeal.S1x1024.Idx => dscAt (X c) (W c) (WI c) (DP c) (i 1)),
    fun c => up (fun i : Cert.ProjBwdKIdeal.S1x1024.Idx => dshAt (WI c) (DP c) (i 1)), ?_, ?_⟩
  · refine (θ_run Cert.ProjBwdKIdeal.defs _ _).mono (fun _ h c => ?_) (Cert.ProjBwdKIdeal.Value.run_blocks (F := Ideal) m g)
    obtain ⟨h1, h2, h3, h5, h6⟩ := hX c
    obtain ⟨r0, r1, r2, r3, r4, rest⟩ := h c
    exact ⟨r0.trans (Cert.ProjBwdKIdeal.Block.final_dx m c _ _ _ _ _ _ rfl h1 h6 h5 h2 h3), r1.trans (Cert.ProjBwdKIdeal.Block.final_dpb m c _ _ _ _ _ _ rfl h1 h6 h5 h2 h3),
      r2.trans (Cert.ProjBwdKIdeal.Block.final_dnw m c _ _ _ _ _ _ rfl h1 h6 h5 h2 h3), r3.trans (Cert.ProjBwdKIdeal.Block.final_dsc m c _ _ _ _ _ _ rfl h1 h6 h5 h2 h3),
      r4.trans (Cert.ProjBwdKIdeal.Block.final_dsh m c _ _ _ _ _ _ rfl h1 h6 h5 h2 h3), rest⟩
  · refine (θ_run Cert.ProjBwdRIdeal.defs _ _).mono (fun _ h c => ?_) (Cert.ProjBwdRIdeal.Value.run (F := Ideal) m' g')
    obtain ⟨h1, h2, h3, h5, h6⟩ := hX c
    obtain ⟨e0, e1, e2, e3, e4, e5, e6⟩ := hag c
    obtain ⟨r0, r1, r2, r3, r4, rest⟩ := h c
    refine ⟨(r0.trans (Cert.ProjBwdRIdeal.Read.val_main_v55_eq ..)).trans ?_, (r1.trans (Cert.ProjBwdRIdeal.Read.val_main_v57_eq ..)).trans ?_,
      (r2.trans (Cert.ProjBwdRIdeal.Read.val_main_v58_eq ..)).trans ?_, (r3.trans (Cert.ProjBwdRIdeal.Read.val_main_v59_eq ..)).trans ?_,
      (r4.trans (Cert.ProjBwdRIdeal.Read.val_main_v60_eq ..)).trans ?_, rest⟩
    · rw [e0, e1.trans h1, e2.trans h2, e3.trans h3, e5.trans h5, e6.trans h6]; exact Cert.ProjBwdRIdeal.Stages.v55_up _ _ _ _ _ _
    · rw [e6.trans h6]; exact Cert.ProjBwdRIdeal.Stages.v57_up _
    · rw [e1.trans h1, e3.trans h3, e5.trans h5, e6.trans h6]; exact Cert.ProjBwdRIdeal.Stages.v58_up _ _ _ _
    · rw [e1.trans h1, e2.trans h2, e5.trans h5, e6.trans h6]; exact Cert.ProjBwdRIdeal.Stages.v59_up _ _ _ _
    · rw [e5.trans h5, e6.trans h6]; exact Cert.ProjBwdRIdeal.Stages.v60_up _ _

/-- The reference terminates, keeps its arguments and has no semaphore to leave. -/
theorem frame_ref : Cert.quiescent_ProjBwdRIdeal := fun m g _ =>
  (θ_run Cert.ProjBwdRIdeal.defs _ _).mono (fun r h => ⟨fun c => (h c).2.2.2.2.2, sem_eq_zero_of_no_sems rfl r.2⟩)
    (Cert.ProjBwdRIdeal.Value.run (F := Ideal) m g)

end Cert.ProjClaim

end
-- ==== Proof.MlpMath.lean ====
/-
  The squared-ReLU MLP's backward call: what one row's gradients are, as real numbers, and that each value of the
  kernel's body is one of them.
-/
module

public import proofs.«01_k».proof.Proof.RowNorm
public import proofs.«01_k».proof.Proof.Gen.MlpBwdKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.MlpBwdKIdeal.Block

open Cert.MlpBwdKIdeal Cert.MlpBwdKIdeal.Gen Idealize.ShloMosaic Idealize.ShloMosaic.TcCoe Idealize.SL.Sem
open Cert.Reals

/-- The finite parameters: the norm's weight, scale and shift, the residual's gate, and the two matrices. -/
structure Params where
  w : S1024.Idx → ℝ
  c : S1024.Idx → ℝ
  s : S1024.Idx → ℝ
  g : S1024.Idx → ℝ
  wu : S1024x4096.Idx → ℝ
  wd : S4096x1024.Idx → ℝ

/-- A vector as a matrix of one row. -/
def vrow (v : S1024.Idx → ℝ) (y : S1x1024.Idx) : ℝ := v (ix1 (y 1))

/-- A row of a block of 256 rows. -/
abbrev line (X : S256x1024.Idx → ℝ) (r : Fin 256) (k : Fin 1024) : ℝ := X (ix2 r k)

variable (p : Params) (d x : Fin 1024 → ℝ)

/-- The modulated norm of a row. -/
def hRow (k : Fin 1024) : ℝ := x k * rinv x * p.w (ix1 k) * (1 + p.c (ix1 k)) + p.s (ix1 k)
/-- The first product of a row, before the activation. -/
def uRow (f : Fin 4096) : ℝ := ∑ q, hRow p x q * p.wu (ix2 q f)
/-- Its positive part. -/
def rRow (f : Fin 4096) : ℝ := max (uRow p x f) 0
/-- The gradient at the first product. -/
def duRow (f : Fin 4096) : ℝ := (∑ k, d k * p.g (ix1 k) * p.wd (ix2 f k)) * (2 * rRow p x f)
/-- The gradient at the modulated norm. -/
def dhRow (k : Fin 1024) : ℝ := ∑ f, duRow p d x f * p.wu (ix2 k f)
/-- The gradient at the row that the norm takes in. -/
def dxRow (k : Fin 1024) : ℝ := d k + rowBack x (fun k => dhRow p d x k * (1 + p.c (ix1 k)) * p.w (ix1 k)) k

variable (X D DH : S256x1024.Idx → ℝ)

theorem pay2_up : k0_pay2 (F := Ideal) (up X) (up (vrow p.w)) (up (vrow p.c)) (up (vrow p.s)) = up (fun j : S256x1024.Idx => hRow p (line X (j 0)) (j 1)) .bf16 := by
  funext j
  unfold k0_pay2
  pointwise
  simp (disch := norm_num) only [up_apply, mul_up, sum_up, lit_1024, lit_one, lit_eps, div_up, add_up, rsqrt_msq]
  obtain ⟨a, b, rfl⟩ := exists_ix2 j
  rfl

theorem pay3_up : k0_pay3 (F := Ideal) (up X) (up (vrow p.w)) (up (vrow p.c)) (up (vrow p.s)) (up p.wu .bf16) = up (fun j : S256x4096.Idx => rRow p (line X (j 0)) (j 1)) := by
  funext j
  unfold k0_pay3
  rw [pay2_up]
  pointwise
  simp only [up_apply, mul_up, sum_up, lit_zero, add_up, add_zero, max_up]
  rfl

theorem pay4_up (R : S256x4096.Idx → ℝ) : k0_pay4 (F := Ideal) (up R) = up (fun j => R j * R j) .bf16 := by
  funext j
  unfold k0_pay4
  pointwise
  simp only [up_apply, mul_up]

theorem pay6_up : k0_pay6 (F := Ideal) (up D) (up (fun j : S256x4096.Idx => rRow p (line X (j 0)) (j 1))) (up (vrow p.g)) (up p.wd .bf16)
    = up (fun j : S256x4096.Idx => duRow p (line D (j 0)) (line X (j 0)) (j 1)) .bf16 := by
  funext j
  unfold k0_pay6
  pointwise
  simp only [up_apply, mul_up, sum_up, lit_zero, lit_two, add_up, add_zero]
  rfl

theorem pay7_up : k0_pay7 (F := Ideal) (up D) (up (fun j : S256x4096.Idx => rRow p (line X (j 0)) (j 1))) (up (vrow p.g)) (up p.wd .bf16) (up p.wu .bf16)
    = up (fun j : S256x1024.Idx => dhRow p (line D (j 0)) (line X (j 0)) (j 1)) := by
  funext j
  unfold k0_pay7
  rw [pay6_up]
  pointwise
  simp only [up_apply, mul_up, sum_up, lit_zero, add_up, add_zero]
  rfl

theorem pay10_up (j : S256x1.Idx) : k0_pay10 (F := Ideal) (up X) j = ((rinv (line X (j 0)) : ℝ) : EReal) := by
  unfold k0_pay10
  pointwise
  simp (disch := norm_num) only [up_apply, mul_up, sum_up, lit_1024, lit_eps, div_up, add_up, rsqrt_msq]

theorem pay11_up (j : S256x1024.Idx) : k0_pay11 (F := Ideal) (up X) j = ((X j * rinv (line X (j 0)) : ℝ) : EReal) := by
  unfold k0_pay11
  pointwise
  rw [pay10_up]
  simp (disch := norm_num) only [up_apply, mul_up]
  rfl

theorem pay12_up (j : S256x1024.Idx) : k0_pay12 (F := Ideal) (up X) (up (vrow p.w)) j = ((X j * rinv (line X (j 0)) * p.w (ix1 (j 1)) : ℝ) : EReal) := by
  unfold k0_pay12 k0_pay8
  pointwise
  rw [pay11_up]
  simp (disch := norm_num) only [up_apply, mul_up]
  rfl

/-- The shift's gradient: the sum over the rows. -/
theorem pay13_up (j : S1x1024.Idx) : k0_pay13 (F := Ideal) (up DH) j = ((∑ r : Fin 256, DH (ix2 r (j 1)) : ℝ) : EReal) := by
  unfold k0_pay13
  pointwise
  simp (disch := norm_num) only [up_apply, sum_up]

/-- The scale's gradient. -/
theorem pay14_up (j : S1x1024.Idx) : k0_pay14 (F := Ideal) (up DH) (k0_pay12 (up X) (up (vrow p.w))) j
    = ((∑ r : Fin 256, DH (ix2 r (j 1)) * (X (ix2 r (j 1)) * rinv (line X r) * p.w (ix1 (j 1))) : ℝ) : EReal) := by
  unfold k0_pay14
  pointwise
  simp only [pay12_up]
  simp (disch := norm_num) only [up_apply, mul_up, sum_up]
  rfl

theorem pay15_up (j : S256x1024.Idx) : k0_pay15 (F := Ideal) (up DH) (k0_pay9 (up (vrow p.c))) j = ((DH j * (1 + p.c (ix1 (j 1))) : ℝ) : EReal) := by
  unfold k0_pay15 k0_pay9
  pointwise
  simp (disch := norm_num) only [up_apply, mul_up, lit_one, add_up]
  rfl

/-- The weight's gradient. -/
theorem pay16_up (j : S1x1024.Idx) : k0_pay16 (F := Ideal) (up DH) (k0_pay9 (up (vrow p.c))) (k0_pay11 (up X)) j
    = ((∑ r : Fin 256, DH (ix2 r (j 1)) * (1 + p.c (ix1 (j 1))) * (X (ix2 r (j 1)) * rinv (line X r)) : ℝ) : EReal) := by
  unfold k0_pay16
  pointwise
  simp only [pay15_up, pay11_up]
  simp (disch := norm_num) only [up_apply, mul_up, sum_up]
  rfl

theorem pay17_up (j : S256x1024.Idx) :
    k0_pay17 (F := Ideal) (up D) (up DH) (k0_pay8 (up (vrow p.w))) (k0_pay9 (up (vrow p.c))) (k0_pay10 (up X)) (k0_pay11 (up X)) j
    = ((D j + rowBack (line X (j 0)) (fun k => DH (ix2 (j 0) k) * (1 + p.c (ix1 k)) * p.w (ix1 k)) (j 1) : ℝ) : EReal) := by
  unfold k0_pay17 k0_pay8
  pointwise
  simp only [pay15_up, pay11_up, pay10_up]
  simp (disch := norm_num) only [up_apply, mul_up, sub_up, sum_up, lit_1024, div_up, add_up]
  obtain ⟨a, b, rfl⟩ := exists_ix2 j
  rfl

end Cert.MlpBwdKIdeal.Block

end
-- ==== Proof.MlpArrays.lean ====
/-
  The arrays that the MLP's backward call reads, block by block, on finite arguments.
-/
module

public import proofs.«01_k».proof.Proof.MlpMath

@[expose] public section

set_option maxRecDepth 16384

noncomputable section

namespace Cert.MlpBwdKIdeal.Block

open Cert.MlpBwdKIdeal Cert.MlpBwdKIdeal.Gen Idealize.ShloMosaic Idealize.ShloMosaic.TcCoe Idealize.SL.Sem
open Cert.Reals
open Idealize.ShloMosaic.Pipeline (Dat)

variable (m : (ℓ : Loc nD τ sig) → Buf (Elt Ideal) ℓ) (c : Dev nD)
variable (p : Params) (D X : S4096x1024.Idx → ℝ)

theorem idx0 : ∀ t : Fin cfg0.N, (win0_0.index t = ![t.val, 0] ∧ win0_1.index t = ![t.val, 0])
    ∧ (win0_2.index t = ![0, 0] ∧ win0_3.index t = ![0, 0] ∧ win0_4.index t = ![0, 0] ∧ win0_5.index t = ![0, 0])
    ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, (win0_0.index t = ![t.val, 0] ∧ win0_1.index t = ![t.val, 0])
    ∧ (win0_2.index t = ![0, 0] ∧ win0_3.index t = ![0, 0] ∧ win0_4.index t = ![0, 0] ∧ win0_5.index t = ![0, 0])
    ∧ win0_6.index t = ![t.val, 0] ∧ win0_7.index t = ![t.val, 0] ∧ win0_8.index t = ![t.val, 0] ∧ win0_9.index t = ![t.val, 0] ∧ win0_10.index t = ![t.val, 0])

/-- Row `r` of block `t`, as a row of the array. -/
def row (t : Fin cfg0.N) (r : Fin 256) : Fin 4096 := ⟨t.val * 256 + r.val, by have h : t.val < 16 := lt_of_lt_of_eq t.isLt N_0; omega⟩

/-- The rows of block `t` of a matrix. -/
def blk (A : S4096x1024.Idx → ℝ) (t : Fin cfg0.N) (y : S256x1024.Idx) : ℝ := A (ix2 (row t (y 0)) (y 1))

/-- The finite arguments, as the launch finds them. -/
structure Finite : Prop where
  h0 : m ((c : Thread nD τ).loc main_arg0) = up D
  h1 : m ((c : Thread nD τ).loc main_arg1) = up X
  h2 : m ((c : Thread nD τ).loc main_arg2) = up p.w
  h3 : m ((c : Thread nD τ).loc main_arg3) = up p.c
  h4 : m ((c : Thread nD τ).loc main_arg4) = up p.s
  h5 : m ((c : Thread nD τ).loc main_arg5) = up p.g
  h6 : m ((c : Thread nD τ).loc main_arg6) = up p.wu
  h7 : m ((c : Thread nD τ).loc main_arg7) = up p.wd

/-- A vector reshaped to a matrix of one row. -/
theorem reshape_up (v : S1024.Idx → ℝ) : shapeCast S1x1024 (up v : FVec Ideal S1024 .f32) shapeCasts_S1024_S1x1024 = up (vrow v) := by
  funext j
  obtain ⟨a, b, rfl⟩ := exists_ix2 j
  pointwise
  show ((v _ : ℝ) : EReal) = ((v _ : ℝ) : EReal)
  congr 2
  first | rfl | blk_ext []

variable {m c p D X} (H : Finite m c p D X)
include H

/-- What the region finds in the operands that the host makes. -/
theorem V_host : V m c main_v0 = up (vrow p.w) ∧ V m c main_v1 = up (vrow p.c) ∧ V m c main_v2 = up (vrow p.s) ∧ V m c main_v3 = up (vrow p.g)
    ∧ V m c main_v4 = up p.wu .bf16 ∧ V m c main_v5 = up p.wd .bf16 := by
  have e : ∀ (x2 x3 x4 x5 : FVec Ideal S1024 .f32) (x6 : FVec Ideal S1024x4096 .f32) (x7 : FVec Ideal S4096x1024 .f32),
      m ((c : Thread nD τ).loc main_arg2) = x2 → m ((c : Thread nD τ).loc main_arg3) = x3 → m ((c : Thread nD τ).loc main_arg4) = x4
      → m ((c : Thread nD τ).loc main_arg5) = x5 → m ((c : Thread nD τ).loc main_arg6) = x6 → m ((c : Thread nD τ).loc main_arg7) = x7 →
      V m c main_v0 = shapeCast S1x1024 x2 shapeCasts_S1024_S1x1024 ∧ V m c main_v1 = shapeCast S1x1024 x3 shapeCasts_S1024_S1x1024
      ∧ V m c main_v2 = shapeCast S1x1024 x4 shapeCasts_S1024_S1x1024 ∧ V m c main_v3 = shapeCast S1x1024 x5 shapeCasts_S1024_S1x1024
      ∧ V m c main_v4 = truncf (F := Ideal) .bf16 x6 bitsLt_bf16_f32 ∧ V m c main_v5 = truncf (F := Ideal) .bf16 x7 bitsLt_bf16_f32 := by
    intro x2 x3 x4 x5 x6 x7 h2 h3 h4 h5 h6 h7
    subst h2 h3 h4 h5 h6 h7
    unfold V
    simp only [hostOps0, List.flatten_cons, List.flatten_nil, List.append_nil, List.cons_append, List.nil_append]
    refine ⟨?_, ?_, ?_, ?_, ?_, ?_⟩
    all_goals
      entry_read
      rfl
  obtain ⟨e0, e1, e2, e3, e4, e5⟩ := e _ _ _ _ _ _ H.h2 H.h3 H.h4 H.h5 H.h6 H.h7
  exact ⟨e0.trans (reshape_up _), e1.trans (reshape_up _), e2.trans (reshape_up _), e3.trans (reshape_up _), e4, e5⟩

theorem iblk0 (t : Fin cfg0.N) : iblk m c 0 t = up (blk D t) := by
  funext y
  have e := (idx0 t).1.1
  show V m c main_arg0 _ = _
  rw [V_main_arg0, H.h0]
  refine congrArg (fun i => ((D i : ℝ) : EReal)) ?_
  blk_ext [row, e]

theorem iblk1 (t : Fin cfg0.N) : iblk m c 1 t = up (blk X t) := by
  funext y
  have e := (idx0 t).1.2
  show V m c main_arg1 _ = _
  rw [V_main_arg1, H.h1]
  refine congrArg (fun i => ((X i : ℝ) : EReal)) ?_
  blk_ext [row, e]

theorem iblk2 (t : Fin cfg0.N) : iblk m c 2 t = up (vrow p.w) := by
  funext y
  have e := (idx0 t).2.1.1
  show V m c main_v0 _ = _
  rw [(V_host H).1]
  refine congrArg (fun i => ((vrow p.w i : ℝ) : EReal)) ?_
  blk_ext [e]

theorem iblk3 (t : Fin cfg0.N) : iblk m c 3 t = up (vrow p.c) := by
  funext y
  have e := (idx0 t).2.1.2.1
  show V m c main_v1 _ = _
  rw [(V_host H).2.1]
  refine congrArg (fun i => ((vrow p.c i : ℝ) : EReal)) ?_
  blk_ext [e]

theorem iblk4 (t : Fin cfg0.N) : iblk m c 4 t = up (vrow p.s) := by
  funext y
  have e := (idx0 t).2.1.2.2.1
  show V m c main_v2 _ = _
  rw [(V_host H).2.2.1]
  refine congrArg (fun i => ((vrow p.s i : ℝ) : EReal)) ?_
  blk_ext [e]

theorem iblk5 (t : Fin cfg0.N) : iblk m c 5 t = up (vrow p.g) := by
  funext y
  have e := (idx0 t).2.1.2.2.2
  show V m c main_v3 _ = _
  rw [(V_host H).2.2.2.1]
  refine congrArg (fun i => ((vrow p.g i : ℝ) : EReal)) ?_
  blk_ext [e]

/-- The two scratch arrays hold the matrices after every point: the first point copies them in, the others keep them. -/
theorem scratch : ∀ (n : Nat) (h : n < cfg0.N), (outsAt0 m c n h).2.2.2.2.2.2.2.2.1 = up p.wu .bf16 ∧ (outsAt0 m c n h).2.2.2.2.2.2.2.2.2 = up p.wd .bf16 := by
  intro n
  induction n with
  | zero =>
    intro h
    have hN : (0 : Nat) < 16 := by omega
    constructor
    · rw [outsAt0_A m c ⟨0, h⟩ (by show 0 % 16 = 0; omega) (by show 0 % 16 = 0; omega) (by show ¬ 1 ≤ 0; omega) (by show 0 % 16 = 0; omega) (by show ¬ 1 ≤ 0; omega) (by show 0 % 16 = 0; omega) (by show ¬ 1 ≤ 0; omega)]
      frame_out
      refine (canon_whole _).trans ?_
      exact (V_host H).2.2.2.2.1
    · rw [outsAt0_A m c ⟨0, h⟩ (by show 0 % 16 = 0; omega) (by show 0 % 16 = 0; omega) (by show ¬ 1 ≤ 0; omega) (by show 0 % 16 = 0; omega) (by show ¬ 1 ≤ 0; omega) (by show 0 % 16 = 0; omega) (by show ¬ 1 ≤ 0; omega)]
      frame_out
      refine (canon_whole _).trans ?_
      exact (V_host H).2.2.2.2.2
  | succ n ih =>
    intro h
    have hN : n + 1 < 16 := lt_of_lt_of_eq h N_0
    have g : ¬ (⟨n + 1, h⟩ : Fin cfg0.N).val % 16 = 0 := by show ¬ (n + 1) % 16 = 0; omega
    have g' : 1 ≤ (⟨n + 1, h⟩ : Fin cfg0.N).val := by show 1 ≤ n + 1; omega
    constructor
    · rw [outsAt0_B m c ⟨n + 1, h⟩ g g g' g g' g g']
      frame_out
      exact (ih _).1
    · rw [outsAt0_B m c ⟨n + 1, h⟩ g g g' g g' g g']
      frame_out
      exact (ih _).2

end Cert.MlpBwdKIdeal.Block

end
-- ==== Proof.MlpResults.lean ====
/-
  The eight result arrays of the MLP's backward call on finite arguments.
-/
module

public import proofs.«01_k».proof.Proof.MlpArrays
public import Idealize.ShloMosaic.Lib.Pipeline.ReadBack

@[expose] public section

set_option maxRecDepth 16384

noncomputable section

namespace Cert.MlpBwdKIdeal.Block

open Cert.MlpBwdKIdeal Cert.MlpBwdKIdeal.Gen Idealize.ShloMosaic Idealize.ShloMosaic.TcCoe Idealize.SL.Sem
open Cert.Reals
open Idealize.ShloMosaic.Pipeline (Dat)

variable {m : (ℓ : Loc nD τ sig) → Buf (Elt Ideal) ℓ} {c : Dev nD} {p : Params} {D X : S4096x1024.Idx → ℝ} (H : Finite m c p D X)

variable (p D X) in
def dnwAt (k : Fin 1024) : ℝ := ∑ R : Fin 4096, dhRow p (fun k => D (ix2 R k)) (fun k => X (ix2 R k)) k * (1 + p.c (ix1 k)) * (X (ix2 R k) * rinv (fun k => X (ix2 R k)))
variable (p D X) in
def dscAt (k : Fin 1024) : ℝ := ∑ R : Fin 4096, dhRow p (fun k => D (ix2 R k)) (fun k => X (ix2 R k)) k * (X (ix2 R k) * rinv (fun k => X (ix2 R k)) * p.w (ix1 k))
variable (p D X) in
def dshAt (k : Fin 1024) : ℝ := ∑ R : Fin 4096, dhRow p (fun k => D (ix2 R k)) (fun k => X (ix2 R k)) k

include H

/-- The first point reads from the scratch arrays what it has just copied in. -/
theorem copied0 : (View.whole cc0_scratch0).readCov [⟨Rect.whole S1024x4096, ReadAs.same.apply (View.read (Elt Ideal) (View.whole main_v4) (V m c main_v4))⟩]
    (Rect.unit ![0, 0] ![1024, 4096] inb_S1024x4096_S1024x4096_0_0).toLoadRect = up p.wu .bf16 :=
  readCov_whole _ _ _ _ (V_host H).2.2.2.2.1

theorem copied1 : (View.whole cc0_scratch1).readCov [⟨Rect.whole S4096x1024, ReadAs.same.apply (View.read (Elt Ideal) (View.whole main_v5) (V m c main_v5))⟩]
    (Rect.unit ![0, 0] ![4096, 1024] inb_S4096x1024_S4096x1024_0_0).toLoadRect = up p.wd .bf16 :=
  readCov_whole _ _ _ _ (V_host H).2.2.2.2.2

/-- The later points read what the point before left there. -/
theorem kept0 (n : Nat) (h : n < cfg0.N) : View.read (Elt Ideal) (View.whole cc0_scratch0) (Memref.IsWhole.unread (Memref.isWhole_whole _) (outsAt0 m c n h).2.2.2.2.2.2.2.2.1) = up p.wu .bf16 :=
  (read_unread_whole _ _ _).trans (scratch H n h).1

theorem kept1 (n : Nat) (h : n < cfg0.N) : View.read (Elt Ideal) (View.whole cc0_scratch1) (Memref.IsWhole.unread (Memref.isWhole_whole _) (outsAt0 m c n h).2.2.2.2.2.2.2.2.2) = up p.wd .bf16 :=
  (read_unread_whole _ _ _).trans (scratch H n h).2

/-- What a point leaves in its five tiles. -/
theorem after_tiles (t : Fin cfg0.N) :
    (outsAt0 m c t.val t.isLt).1 = up (fun y : S256x1024.Idx => dxRow p (line (blk D t) (y 0)) (line (blk X t) (y 0)) (y 1))
    ∧ (outsAt0 m c t.val t.isLt).2.1 = up (fun y : S256x1024.Idx => hRow p (line (blk X t) (y 0)) (y 1)) .bf16
    ∧ (outsAt0 m c t.val t.isLt).2.2.1 = up (fun y : S256x4096.Idx => duRow p (line (blk D t) (y 0)) (line (blk X t) (y 0)) (y 1)) .bf16
    ∧ (outsAt0 m c t.val t.isLt).2.2.2.1 = up (fun y : S256x4096.Idx => rRow p (line (blk X t) (y 0)) (y 1) * rRow p (line (blk X t) (y 0)) (y 1)) .bf16
    ∧ (outsAt0 m c t.val t.isLt).2.2.2.2.1 = up (blk D t) .bf16 := by
  have hN : t.val < 16 := lt_of_lt_of_eq t.isLt N_0
  by_cases h : t.val % 16 = 0
  · refine ⟨?_, ?_, ?_, ?_, ?_⟩ <;> rw [outsAt0_A m c t h h (by omega) h (by omega) h (by omega)] <;> frame_out
    · rw [copied0 H, copied1 H, iblk0 H, iblk1 H, iblk2 H, iblk3 H, iblk4 H, iblk5 H, pay3_up, pay7_up]
      funext j
      rw [pay17_up]
      obtain ⟨a, b, rfl⟩ := exists_ix2 j
      rfl
    · rw [iblk1 H, iblk2 H, iblk3 H, iblk4 H, pay2_up]
    · rw [copied0 H, copied1 H, iblk0 H, iblk1 H, iblk2 H, iblk3 H, iblk4 H, iblk5 H, pay3_up, pay6_up]
    · rw [copied0 H, iblk1 H, iblk2 H, iblk3 H, iblk4 H, pay3_up, pay4_up]
    · rw [iblk0 H]
      rfl
  · refine ⟨?_, ?_, ?_, ?_, ?_⟩ <;> rw [outsAt0_B m c t h h (by omega) h (by omega) h (by omega)] <;> frame_out
    · rw [kept0 H, kept1 H, iblk0 H, iblk1 H, iblk2 H, iblk3 H, iblk4 H, iblk5 H, pay3_up, pay7_up]
      funext j
      rw [pay17_up]
      obtain ⟨a, b, rfl⟩ := exists_ix2 j
      rfl
    · rw [iblk1 H, iblk2 H, iblk3 H, iblk4 H, pay2_up]
    · rw [kept0 H, kept1 H, iblk0 H, iblk1 H, iblk2 H, iblk3 H, iblk4 H, iblk5 H, pay3_up, pay6_up]
    · rw [kept0 H, iblk1 H, iblk2 H, iblk3 H, iblk4 H, pay3_up, pay4_up]
    · rw [iblk0 H]
      rfl

theorem final_dx : (dats m 0 c).arrAt 6 cfg0.N = up (fun i : S4096x1024.Idx => dxRow p (fun k => D (ix2 (i 0) k)) (fun k => X (ix2 (i 0) k)) (i 1)) := by
  refine (dats m 0 c).arrAt_eq_of_covers 6 _ (by decide +kernel) fun t hf y => ?_
  blk_simp
  rw [after0_6]
  refine (congrFun (after_tiles H t).1 y).trans ?_
  have e := (idx0 t).2.2.1
  refine congrArg (fun i : S4096x1024.Idx => ((dxRow p (fun k => D (ix2 (i 0) k)) (fun k => X (ix2 (i 0) k)) (i 1) : ℝ) : EReal)) (a₁ := ix2 (row t (y 0)) (y 1)) ?_
  blk_ext [row, e]

theorem final_h : (dats m 0 c).arrAt 7 cfg0.N = up (fun i : S4096x1024.Idx => hRow p (fun k => X (ix2 (i 0) k)) (i 1)) .bf16 := by
  refine (dats m 0 c).arrAt_eq_of_covers 7 _ (by decide +kernel) fun t hf y => ?_
  blk_simp
  rw [after0_7]
  refine (congrFun (after_tiles H t).2.1 y).trans ?_
  have e := (idx0 t).2.2.2.1
  refine congrArg (fun i : S4096x1024.Idx => ((hRow p (fun k => X (ix2 (i 0) k)) (i 1) : ℝ) : EReal)) (a₁ := ix2 (row t (y 0)) (y 1)) ?_
  blk_ext [row, e]

theorem final_du : (dats m 0 c).arrAt 8 cfg0.N = up (fun i : S4096x4096.Idx => duRow p (fun k => D (ix2 (i 0) k)) (fun k => X (ix2 (i 0) k)) (i 1)) .bf16 := by
  refine (dats m 0 c).arrAt_eq_of_covers 8 _ (by decide +kernel) fun t hf y => ?_
  blk_simp
  rw [after0_8]
  refine (congrFun (after_tiles H t).2.2.1 y).trans ?_
  have e := (idx0 t).2.2.2.2.1
  refine congrArg (fun i : S4096x4096.Idx => ((duRow p (fun k => D (ix2 (i 0) k)) (fun k => X (ix2 (i 0) k)) (i 1) : ℝ) : EReal)) (a₁ := ix2 (row t (y 0)) (y 1)) ?_
  blk_ext [row, e]

theorem final_act : (dats m 0 c).arrAt 9 cfg0.N = up (fun i : S4096x4096.Idx => rRow p (fun k => X (ix2 (i 0) k)) (i 1) * rRow p (fun k => X (ix2 (i 0) k)) (i 1)) .bf16 := by
  refine (dats m 0 c).arrAt_eq_of_covers 9 _ (by decide +kernel) fun t hf y => ?_
  blk_simp
  rw [after0_9]
  refine (congrFun (after_tiles H t).2.2.2.1 y).trans ?_
  have e := (idx0 t).2.2.2.2.2.1
  refine congrArg (fun i : S4096x4096.Idx => ((rRow p (fun k => X (ix2 (i 0) k)) (i 1) * rRow p (fun k => X (ix2 (i 0) k)) (i 1) : ℝ) : EReal)) (a₁ := ix2 (row t (y 0)) (y 1)) ?_
  blk_ext [row, e]

theorem final_ct : (dats m 0 c).arrAt 10 cfg0.N = up D .bf16 := by
  refine (dats m 0 c).arrAt_eq_of_covers 10 _ (by decide +kernel) fun t hf y => ?_
  blk_simp
  rw [after0_10]
  refine (congrFun (after_tiles H t).2.2.2.2 y).trans ?_
  have e := (idx0 t).2.2.2.2.2.2
  refine congrArg (fun i : S4096x1024.Idx => ((D i : ℝ) : EReal)) (a₁ := ix2 (row t (y 0)) (y 1)) ?_
  blk_ext [row, e]

theorem final_dnw : (dats m 0 c).arrAt 11 cfg0.N = up (fun i : S1x1024.Idx => dnwAt p D X (i 1)) := by
  refine (dats m 0 c).arrAt_eq_of_after_last 11 t0_15 (by decide +kernel) _ fun j => ?_
  blk_simp
  rw [after0_11]
  refine (Pipeline.eq_sum_fin_of_reset_step_apply_last (fun n h => (outsAt0 m c n h).2.2.2.2.2.1) 16 (fun _ => (0 : EReal))
    (fun t i => ((∑ r : Fin 256, dhRow p (line (blk D t) r) (line (blk X t) r) (i 1) * (1 + p.c (ix1 (i 1))) * (blk X t (ix2 r (i 1)) * rinv (line (blk X t) r)) : ℝ) : EReal)) ?_ ?_ (by decide) t0_15 rfl _).trans ?_
  · intro t h i
    have hN : t.val < 16 := lt_of_lt_of_eq t.isLt N_0
    rw [outsAt0_A m c t h h (by omega) h (by omega) h (by omega)]
    frame_out
    rw [copied0 H, copied1 H, iblk0 H, iblk1 H, iblk2 H, iblk3 H, iblk4 H, iblk5 H, pay3_up, pay7_up, pay16_up, zero_add]
    rfl
  · intro t h i
    have hN : t.val < 16 := lt_of_lt_of_eq t.isLt N_0
    rw [outsAt0_B m c t h h (by omega) h (by omega) h (by omega)]
    frame_out
    unfold k0_pay18
    rw [shapeCast_self]
    show _ + _ = _ + _
    rw [kept0 H, kept1 H, iblk0 H, iblk1 H, iblk2 H, iblk3 H, iblk4 H, iblk5 H, pay3_up, pay7_up, pay16_up]
    rfl
  · rw [sum_up, zero_add]
    show _ = ((dnwAt p D X (j 1) : ℝ) : EReal)
    congr 1
    exact Fin.sum_mul_add_fin 16 256 (fun R : Fin 4096 => dhRow p (fun k => D (ix2 R k)) (fun k => X (ix2 R k)) (j 1) * (1 + p.c (ix1 (j 1))) * (X (ix2 R (j 1)) * rinv (fun k => X (ix2 R k))))

theorem final_dsc : (dats m 0 c).arrAt 12 cfg0.N = up (fun i : S1x1024.Idx => dscAt p D X (i 1)) := by
  refine (dats m 0 c).arrAt_eq_of_after_last 12 t0_15 (by decide +kernel) _ fun j => ?_
  blk_simp
  rw [after0_12]
  refine (Pipeline.eq_sum_fin_of_reset_step_apply_last (fun n h => (outsAt0 m c n h).2.2.2.2.2.2.1) 16 (fun _ => (0 : EReal))
    (fun t i => ((∑ r : Fin 256, dhRow p (line (blk D t) r) (line (blk X t) r) (i 1) * (blk X t (ix2 r (i 1)) * rinv (line (blk X t) r) * p.w (ix1 (i 1))) : ℝ) : EReal)) ?_ ?_ (by decide) t0_15 rfl _).trans ?_
  · intro t h i
    have hN : t.val < 16 := lt_of_lt_of_eq t.isLt N_0
    rw [outsAt0_A m c t h h (by omega) h (by omega) h (by omega)]
    frame_out
    rw [copied0 H, copied1 H, iblk0 H, iblk1 H, iblk2 H, iblk3 H, iblk4 H, iblk5 H, pay3_up, pay7_up, pay14_up, zero_add]
    rfl
  · intro t h i
    have hN : t.val < 16 := lt_of_lt_of_eq t.isLt N_0
    rw [outsAt0_B m c t h h (by omega) h (by omega) h (by omega)]
    frame_out
    unfold k0_pay19
    rw [shapeCast_self]
    show _ + _ = _ + _
    rw [kept0 H, kept1 H, iblk0 H, iblk1 H, iblk2 H, iblk3 H, iblk4 H, iblk5 H, pay3_up, pay7_up, pay14_up]
    rfl
  · rw [sum_up, zero_add]
    show _ = ((dscAt p D X (j 1) : ℝ) : EReal)
    congr 1
    exact Fin.sum_mul_add_fin 16 256 (fun R : Fin 4096 => dhRow p (fun k => D (ix2 R k)) (fun k => X (ix2 R k)) (j 1) * (X (ix2 R (j 1)) * rinv (fun k => X (ix2 R k)) * p.w (ix1 (j 1))))

theorem final_dsh : (dats m 0 c).arrAt 13 cfg0.N = up (fun i : S1x1024.Idx => dshAt p D X (i 1)) := by
  refine (dats m 0 c).arrAt_eq_of_after_last 13 t0_15 (by decide +kernel) _ fun j => ?_
  blk_simp
  rw [after0_13]
  refine (Pipeline.eq_sum_fin_of_reset_step_apply_last (fun n h => (outsAt0 m c n h).2.2.2.2.2.2.2.1) 16 (fun _ => (0 : EReal))
    (fun t i => ((∑ r : Fin 256, dhRow p (line (blk D t) r) (line (blk X t) r) (i 1) : ℝ) : EReal)) ?_ ?_ (by decide) t0_15 rfl _).trans ?_
  · intro t h i
    have hN : t.val < 16 := lt_of_lt_of_eq t.isLt N_0
    rw [outsAt0_A m c t h h (by omega) h (by omega) h (by omega)]
    frame_out
    rw [copied0 H, copied1 H, iblk0 H, iblk1 H, iblk2 H, iblk3 H, iblk4 H, iblk5 H, pay3_up, pay7_up, pay13_up, zero_add]
    rfl
  · intro t h i
    have hN : t.val < 16 := lt_of_lt_of_eq t.isLt N_0
    rw [outsAt0_B m c t h h (by omega) h (by omega) h (by omega)]
    frame_out
    unfold k0_pay1
    rw [shapeCast_self]
    show _ + _ = _ + _
    rw [kept0 H, kept1 H, iblk0 H, iblk1 H, iblk2 H, iblk3 H, iblk4 H, iblk5 H, pay3_up, pay7_up, pay13_up]
    rfl
  · rw [sum_up, zero_add]
    show _ = ((dshAt p D X (j 1) : ℝ) : EReal)
    congr 1
    exact Fin.sum_mul_add_fin 16 256 (fun R : Fin 4096 => dhRow p (fun k => D (ix2 R k)) (fun k => X (ix2 R k)) (j 1))

end Cert.MlpBwdKIdeal.Block

end
-- ==== Proof.MlpRef.lean ====
/-
  The reference of the MLP's backward call on finite arguments, stage by stage, as real numbers; and that its results
  are the kernel's.
-/
module

public import proofs.«01_k».proof.Proof.MlpResults
public import proofs.«01_k».proof.Proof.Gen.MlpBwdRIdeal.Read

@[expose] public section

set_option maxRecDepth 16384

noncomputable section

namespace Cert.MlpBwdRIdeal.Stages

open Cert.MlpBwdRIdeal Cert.MlpBwdRIdeal.Gen Cert.MlpBwdRIdeal.Read Idealize.ShloMosaic Idealize.ShloMosaic.TcCoe Idealize.SL.Sem
open Cert.Reals
open Cert.MlpBwdKIdeal.Block (Params hRow uRow rRow duRow dhRow dxRow dnwAt dscAt dshAt)

variable (p : Params) (D X : S4096x1024.Idx → ℝ)

/-- A row of a matrix. -/
abbrev line (A : S4096x1024.Idx → ℝ) (r : Fin 4096) (k : Fin 1024) : ℝ := A (ix2 r k)

theorem v6_up (i : S4096x1.Idx) : val_main_v6 (F := Ideal) (up X) i = ((msq (line X (i 0)) : ℝ) : EReal) := by
  pointwise [val_main_v6, val_main_v5, val_main_v4, val_main_v3, val_main_v2, val_main_v1, val_main_v0, val_main_cst, val_main_cst_0, val_main_cst_1]
  simp (disch := norm_num) only [up_apply, mul_up, sum_up, lit_zero, lit_1024, lit_eps, div_up, add_up, zero_add]
  rfl

theorem v7_up (i : S4096x1.Idx) : val_main_v7 (F := Ideal) (up X) i = ((rinv (line X (i 0)) : ℝ) : EReal) := by
  pointwise [val_main_v7]
  rw [v6_up]
  exact rsqrt_up (msq_pos _)

theorem v10_up (i : S4096x1.Idx) : val_main_v10 (F := Ideal) (up X) i = ((-(1 / 2) * (rinv (line X (i 0)) / msq (line X (i 0))) : ℝ) : EReal) := by
  pointwise [val_main_v10, val_main_v9, val_main_v8, val_main_cst_2]
  rw [v6_up, v7_up, div_up (msq_pos _).ne', lit_neg_half, mul_up]

theorem v12_up (i : S4096x1024.Idx) : val_main_v12 (F := Ideal) (up X) i = ((X i * rinv (line X (i 0)) : ℝ) : EReal) := by
  pointwise [val_main_v12, val_main_v11]
  rw [v7_up, up_apply, mul_up]
  rfl

theorem v15_up (i : S4096x1024.Idx) : val_main_v15 (F := Ideal) (up X) (up p.w) i = ((X i * rinv (line X (i 0)) * p.w (ix1 (i 1)) : ℝ) : EReal) := by
  pointwise [val_main_v15, val_main_v14, val_main_v13]
  simp only [v12_up, up_apply, mul_up]

theorem v23_up : val_main_v23 (F := Ideal) (up X) (up p.w) (up p.c) (up p.s) = up (fun i : S4096x1024.Idx => hRow p (line X (i 0)) (i 1)) := by
  funext i
  pointwise [val_main_v23, val_main_v22, val_main_v21, val_main_v20, val_main_v19, val_main_v18, val_main_v17, val_main_v16, val_main_cst_3]
  simp only [v15_up, up_apply, lit_one, add_up, mul_up, ← EReal.coe_one]
  obtain ⟨a, b, rfl⟩ := exists_ix2 i
  rfl

theorem v24_up : val_main_v24 (F := Ideal) (up X) (up p.w) (up p.c) (up p.s) (up p.wu) = up (fun i : S4096x4096.Idx => uRow p (line X (i 0)) (i 1)) := by
  funext i
  pointwise [val_main_v24]
  rw [v23_up]
  simp only [up_apply, mul_up, sum_up]
  rfl

theorem v25_up : val_main_v25 (F := Ideal) (up X) (up p.w) (up p.c) (up p.s) (up p.wu) = up (fun i : S4096x4096.Idx => rRow p (line X (i 0)) (i 1)) := by
  funext i
  pointwise [val_main_v25, val_main_call0_v0, val_main_call0_cst]
  rw [v24_up]
  simp only [up_apply, lit_zero, max_up, ← EReal.coe_zero]
  rfl

theorem v38_up : val_main_v38 (F := Ideal) (up D) (up p.g) (up p.wd) = up (fun i : S4096x4096.Idx => ∑ k, D (ix2 (i 0) k) * p.g (ix1 k) * p.wd (ix2 (i 1) k)) := by
  funext i
  pointwise [val_main_v38, val_main_v37, val_main_v36, val_main_v33]
  simp only [up_apply, mul_up, sum_up]
  refine congrArg _ (Finset.sum_congr rfl fun k _ => ?_)
  rw [mul_comm (p.g _)]

/-- Where the first product is not positive the gradient is zero, and so is its positive part. -/
theorem v41_up : val_main_v41 (F := Ideal) (up D) (up X) (up p.w) (up p.c) (up p.s) (up p.g) (up p.wu) (up p.wd)
    = up (fun i : S4096x4096.Idx => duRow p (line D (i 0)) (line X (i 0)) (i 1)) := by
  funext i
  pointwise [val_main_v41, val_main_v40, val_main_v39, val_main_v31, val_main_v30, val_main_v27, val_main_v26, val_main_cst_4, val_main_cst_6, val_main_cst_7]
  rw [v38_up, v25_up, v24_up]
  simp only [up_apply, lit_two, mul_up]
  by_cases h : 0 < uRow p (line X (i 0)) (i 1)
  · rw [if_pos (EReal.coe_pos.mpr h)]
    rfl
  · rw [if_neg (fun h' => h (EReal.coe_pos.mp h'))]
    have z : rRow p (line X (i 0)) (i 1) = 0 := max_eq_right (not_lt.mp h)
    have e : duRow p (line D (i 0)) (line X (i 0)) (i 1) = 0 := by
      show _ * (2 * rRow p (line X (i 0)) (i 1)) = 0
      rw [z, mul_zero, mul_zero]
    exact (congrArg (fun r : ℝ => (r : EReal)) e).symm

theorem v42_up : val_main_v42 (F := Ideal) (up D) (up X) (up p.w) (up p.c) (up p.s) (up p.g) (up p.wu) (up p.wd)
    = up (fun i : S4096x1024.Idx => dhRow p (line D (i 0)) (line X (i 0)) (i 1)) := by
  funext i
  pointwise [val_main_v42]
  rw [v41_up]
  simp only [up_apply, mul_up, sum_up]
  rfl

theorem v50_up (i : S4096x1024.Idx) : val_main_v50 (F := Ideal) (up D) (up X) (up p.w) (up p.c) (up p.s) (up p.g) (up p.wu) (up p.wd) i
    = ((dhRow p (line D (i 0)) (line X (i 0)) (i 1) * (1 + p.c (ix1 (i 1))) : ℝ) : EReal) := by
  pointwise [val_main_v50, val_main_v49, val_main_v18, val_main_v17, val_main_v16, val_main_cst_3]
  simp only [v42_up, up_apply, lit_one, add_up, mul_up, ← EReal.coe_one]

theorem v56_up (i : S4096x1024.Idx) : val_main_v56 (F := Ideal) (up D) (up X) (up p.w) (up p.c) (up p.s) (up p.g) (up p.wu) (up p.wd) i
    = ((dhRow p (line D (i 0)) (line X (i 0)) (i 1) * (1 + p.c (ix1 (i 1))) * p.w (ix1 (i 1)) : ℝ) : EReal) := by
  pointwise [val_main_v56, val_main_v55, val_main_v13]
  simp only [v50_up, up_apply, mul_up]

theorem v68_up (i : S4096x1024.Idx) : val_main_v68 (F := Ideal) (up D) (up X) (up p.w) (up p.c) (up p.s) (up p.g) (up p.wu) (up p.wd) i
    = (((∑ k, X (ix2 (i 0) k) * (dhRow p (line D (i 0)) (line X (i 0)) k * (1 + p.c (ix1 k)) * p.w (ix1 k))) * (-(1 / 2) * (rinv (line X (i 0)) / msq (line X (i 0)))) / 1024 : ℝ) : EReal) := by
  pointwise [val_main_v68, val_main_v67, val_main_v66, val_main_v65, val_main_v64, val_main_v60, val_main_v59, val_main_v58, val_main_cst_14, val_main_cst_15, val_main_cst_16]
  simp (disch := norm_num) only [v56_up, v10_up, up_apply, mul_up, sum_up, lit_zero, lit_1024, div_up, add_up, zero_add]
  rw [Fin.sum_univ_one]
  rfl

/-- The reference's first result is the kernel's. -/
theorem v72_up : val_main_v72 (F := Ideal) (up D) (up X) (up p.w) (up p.c) (up p.s) (up p.g) (up p.wu) (up p.wd)
    = up (fun i : S4096x1024.Idx => dxRow p (line D (i 0)) (line X (i 0)) (i 1)) := by
  funext i
  pointwise [val_main_v72, val_main_v71, val_main_v70, val_main_v69, val_main_v63, val_main_v62, val_main_v61]
  simp (disch := norm_num) only [v56_up, v68_up, v7_up, up_apply, mul_up, add_up]
  obtain ⟨a, b, rfl⟩ := exists_ix2 i
  refine congrArg _ ?_
  rw [add_assoc, add_assoc, ← add_assoc (_ * _)]
  exact congrArg (D (ix2 a b) + ·) (rowBack_vjp (line X a) (fun k => dhRow p (line D a) (line X a) k * (1 + p.c (ix1 k)) * p.w (ix1 k)) b)

theorem v73_up : val_main_v73 (F := Ideal) (up X) (up p.w) (up p.c) (up p.s) = up (fun i : S4096x1024.Idx => hRow p (line X (i 0)) (i 1)) .bf16 := by
  funext i
  pointwise [val_main_v73]
  rw [v23_up]
  rfl

theorem v74_up : val_main_v74 (F := Ideal) (up D) (up X) (up p.w) (up p.c) (up p.s) (up p.g) (up p.wu) (up p.wd)
    = up (fun i : S4096x4096.Idx => duRow p (line D (i 0)) (line X (i 0)) (i 1)) .bf16 := by
  funext i
  pointwise [val_main_v74]
  rw [v41_up]
  rfl

theorem v75_up : val_main_v75 (F := Ideal) (up X) (up p.w) (up p.c) (up p.s) (up p.wu)
    = up (fun i : S4096x4096.Idx => rRow p (line X (i 0)) (i 1) * rRow p (line X (i 0)) (i 1)) .bf16 := by
  funext i
  pointwise [val_main_v75, val_main_v29]
  rw [v25_up]
  simp only [up_apply, mul_up]

theorem v76_up : val_main_v76 (F := Ideal) (up D) = up D .bf16 := rfl

theorem v77_up : val_main_v77 (F := Ideal) (up D) (up X) (up p.w) (up p.c) (up p.s) (up p.g) (up p.wu) (up p.wd) = up (fun i : S1x1024.Idx => dnwAt p D X (i 1)) := by
  funext i
  pointwise [val_main_v77, val_main_v57, val_main_v54, val_main_v53, val_main_v52, val_main_cst_12, val_main_cst_13]
  simp (disch := norm_num) only [v50_up, v12_up, up_apply, mul_up, sum_up, lit_zero, add_up, zero_add]
  congr 1
  rw [Fin.sum_univ_one]
  exact Finset.sum_congr rfl fun R _ => mul_comm _ _

theorem v78_up : val_main_v78 (F := Ideal) (up D) (up X) (up p.w) (up p.c) (up p.s) (up p.g) (up p.wu) (up p.wd) = up (fun i : S1x1024.Idx => dscAt p D X (i 1)) := by
  funext i
  pointwise [val_main_v78, val_main_v51, val_main_v48, val_main_v47, val_main_v46, val_main_cst_10, val_main_cst_11]
  simp (disch := norm_num) only [v42_up, v15_up, up_apply, mul_up, sum_up, lit_zero, add_up, zero_add]
  congr 1
  rw [Fin.sum_univ_one]
  exact Finset.sum_congr rfl fun R _ => mul_comm _ _

theorem v79_up : val_main_v79 (F := Ideal) (up D) (up X) (up p.w) (up p.c) (up p.s) (up p.g) (up p.wu) (up p.wd) = up (fun i : S1x1024.Idx => dshAt p D X (i 1)) := by
  funext i
  pointwise [val_main_v79, val_main_v45, val_main_v44, val_main_v43, val_main_cst_8, val_main_cst_9]
  simp (disch := norm_num) only [v42_up, up_apply, mul_up, sum_up, lit_zero, add_up, zero_add]
  rw [Fin.sum_univ_one]
  rfl

end Cert.MlpBwdRIdeal.Stages

end
-- ==== Proof.MlpClaim.lean ====
/-
  The MLP's backward call against the gradient of the modulated norm, the two products and the squared relu: the
  claims.
-/
module

public import proofs.«01_k».proof.Defs
public import proofs.«01_k».proof.Proof.MlpRef
public import proofs.«01_k».proof.Proof.Gen.MlpBwdRIdeal.Run
public import proofs.«01_k».proof.Proof.Gen.MlpBwdK.Frame
public import proofs.«01_k».proof.Proof.Gen.MlpBwdKIdeal.Frame
public import proofs.«01_k».proof.Proof.Gen.Pre_finite_mlpbwd
public import Idealize.ShloMosaic.Lib.Claim
public import Idealize.ShloMosaic.Lib.Quiescent

@[expose] public section

set_option maxRecDepth 16384

noncomputable section

namespace Cert.MlpClaim

open Idealize.ShloMosaic Idealize.ShloMosaic.TcCoe Idealize.SL.Sem Cert.Reals
open Cert.MlpBwdKIdeal.Block (Params Finite hRow rRow duRow dxRow dnwAt dscAt dshAt)

/-- The arguments are arrays of real numbers. -/
theorem finite (m : (ℓ : Loc Cert.MlpBwdKIdeal.nD Cert.MlpBwdKIdeal.τ Cert.MlpBwdKIdeal.sig) → Buf (Elt Ideal) ℓ)
    (h : Cert.Pre_MlpBwdKIdeal_finite_mlpbwd m) (c : Dev Cert.MlpBwdKIdeal.nD) :
    ∃ (p : Params) (D X : Cert.MlpBwdKIdeal.S4096x1024.Idx → ℝ), Finite m c p D X := by
  obtain ⟨h0, h1, h2, h3, h4, h5, h6, h7⟩ := h c
  obtain ⟨D, hD⟩ := exists_up h0
  obtain ⟨X, hX⟩ := exists_up h1
  obtain ⟨w, hw⟩ := exists_up h2
  obtain ⟨k, hk⟩ := exists_up h3
  obtain ⟨s, hs⟩ := exists_up h4
  obtain ⟨g, hg⟩ := exists_up h5
  obtain ⟨wu, hu⟩ := exists_up h6
  obtain ⟨wd, hd⟩ := exists_up h7
  exact ⟨⟨w, k, s, g, wu, wd⟩, D, X, ⟨hD, hX, hw, hk, hs, hg, hu, hd⟩⟩

set_option maxHeartbeats 1000000 in
/-- On finite arguments the backward call and the reference end with the same eight arrays. -/
theorem algebraic : Cert.algebraic_MlpBwdKIdeal_MlpBwdRIdeal_pre_finite_mlpbwd := by
  intro m g m' g' hpre hag
  choose p D X H using finite m hpre
  refine ⟨fun c => up (fun i : Cert.MlpBwdKIdeal.S4096x1024.Idx => dxRow (p c) (fun k => D c (ix2 (i 0) k)) (fun k => X c (ix2 (i 0) k)) (i 1)),
    fun c => up (fun i : Cert.MlpBwdKIdeal.S4096x1024.Idx => hRow (p c) (fun k => X c (ix2 (i 0) k)) (i 1)) .bf16,
    fun c => up (fun i : Cert.MlpBwdKIdeal.S4096x4096.Idx => duRow (p c) (fun k => D c (ix2 (i 0) k)) (fun k => X c (ix2 (i 0) k)) (i 1)) .bf16,
    fun c => up (fun i : Cert.MlpBwdKIdeal.S4096x4096.Idx => rRow (p c) (fun k => X c (ix2 (i 0) k)) (i 1) * rRow (p c) (fun k => X c (ix2 (i 0) k)) (i 1)) .bf16,
    fun c => up (D c) .bf16,
    fun c => up (fun i : Cert.MlpBwdKIdeal.S1x1024.Idx => dnwAt (p c) (D c) (X c) (i 1)),
    fun c => up (fun i : Cert.MlpBwdKIdeal.S1x1024.Idx => dscAt (p c) (D c) (X c) (i 1)),
    fun c => up (fun i : Cert.MlpBwdKIdeal.S1x1024.Idx => dshAt (p c) (D c) (X c) (i 1)), ?_, ?_⟩
  · refine (θ_run Cert.MlpBwdKIdeal.defs _ _).mono (fun _ h c => ?_) (Cert.MlpBwdKIdeal.Value.run_blocks (F := Ideal) m g)
    obtain ⟨r0, r1, r2, r3, r4, r5, r6, r7, rest⟩ := h c
    exact ⟨r0.trans (Cert.MlpBwdKIdeal.Block.final_dx (H c)), r1.trans (Cert.MlpBwdKIdeal.Block.final_h (H c)),
      r2.trans (Cert.MlpBwdKIdeal.Block.final_du (H c)), r3.trans (Cert.MlpBwdKIdeal.Block.final_act (H c)),
      r4.trans (Cert.MlpBwdKIdeal.Block.final_ct (H c)), r5.trans (Cert.MlpBwdKIdeal.Block.final_dnw (H c)),
      r6.trans (Cert.MlpBwdKIdeal.Block.final_dsc (H c)), r7.trans (Cert.MlpBwdKIdeal.Block.final_dsh (H c)), rest⟩
  · refine (θ_run Cert.MlpBwdRIdeal.defs _ _).mono (fun _ h c => ?_) (Cert.MlpBwdRIdeal.Value.run (F := Ideal) m' g')
    obtain ⟨e0, e1, e2, e3, e4, e5, e6, e7⟩ := hag c
    have h0 := e0.trans (H c).h0
    have h1 := e1.trans (H c).h1
    have h2 := e2.trans (H c).h2
    have h3 := e3.trans (H c).h3
    have h4 := e4.trans (H c).h4
    have h5 := e5.trans (H c).h5
    have h6 := e6.trans (H c).h6
    have h7 := e7.trans (H c).h7
    obtain ⟨r0, r1, r2, r3, r4, r5, r6, r7, rest⟩ := h c
    refine ⟨(r0.trans (Cert.MlpBwdRIdeal.Read.val_main_v72_eq ..)).trans ?_, (r1.trans (Cert.MlpBwdRIdeal.Read.val_main_v73_eq ..)).trans ?_,
      (r2.trans (Cert.MlpBwdRIdeal.Read.val_main_v74_eq ..)).trans ?_, (r3.trans (Cert.MlpBwdRIdeal.Read.val_main_v75_eq ..)).trans ?_,
      (r4.trans (Cert.MlpBwdRIdeal.Read.val_main_v76_eq ..)).trans ?_, (r5.trans (Cert.MlpBwdRIdeal.Read.val_main_v77_eq ..)).trans ?_,
      (r6.trans (Cert.MlpBwdRIdeal.Read.val_main_v78_eq ..)).trans ?_, (r7.trans (Cert.MlpBwdRIdeal.Read.val_main_v79_eq ..)).trans ?_, rest⟩
    · rw [h0, h1, h2, h3, h4, h5, h6, h7]; exact Cert.MlpBwdRIdeal.Stages.v72_up _ _ _
    · rw [h1, h2, h3, h4]; exact Cert.MlpBwdRIdeal.Stages.v73_up _ _
    · rw [h0, h1, h2, h3, h4, h5, h6, h7]; exact Cert.MlpBwdRIdeal.Stages.v74_up _ _ _
    · rw [h1, h2, h3, h4, h6]; exact Cert.MlpBwdRIdeal.Stages.v75_up _ _
    · rw [h0]; exact Cert.MlpBwdRIdeal.Stages.v76_up _
    · rw [h0, h1, h2, h3, h4, h5, h6, h7]; exact Cert.MlpBwdRIdeal.Stages.v77_up _ _ _
    · rw [h0, h1, h2, h3, h4, h5, h6, h7]; exact Cert.MlpBwdRIdeal.Stages.v78_up _ _ _
    · rw [h0, h1, h2, h3, h4, h5, h6, h7]; exact Cert.MlpBwdRIdeal.Stages.v79_up _ _ _

/-- The reference terminates, keeps its arguments and has no semaphore to leave. -/
theorem frame_ref : Cert.quiescent_MlpBwdRIdeal := fun m g _ =>
  (θ_run Cert.MlpBwdRIdeal.defs _ _).mono (fun r h => ⟨fun c => (h c).2.2.2.2.2.2.2.2, sem_eq_zero_of_no_sems rfl r.2⟩)
    (Cert.MlpBwdRIdeal.Value.run (F := Ideal) m g)

end Cert.MlpClaim

end
-- ==== Proof.DwMath.lean ====
/-
  The call that makes the gradients of the MLP's gate and of its second matrix: what each value of its body is on
  finite numbers.
-/
module

public import proofs.«01_k».proof.Proof.Reals
public import proofs.«01_k».proof.Proof.Gen.DwDownKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.DwDownKIdeal.Block

open Cert.DwDownKIdeal Cert.DwDownKIdeal.Gen Idealize.ShloMosaic Idealize.ShloMosaic.TcCoe Idealize.SL.Sem
open Cert.Reals

variable (A B : S2048x1024.Idx → ℝ) (G H W : S1024x1024.Idx → ℝ) (g : S1x1024.Idx → ℝ)

/-- The product of two tiles over their rows. -/
def prod (j : S1024x1024.Idx) : ℝ := ∑ q, A (ix2 q (j 0)) * B (ix2 q (j 1))

theorem pay1_up : k0_pay1 (F := Ideal) (up A .bf16) (up B .bf16) = up (prod A B) := by
  funext j
  unfold k0_pay1
  pointwise
  simp only [up_apply, mul_up, sum_up, lit_zero, add_up, add_zero]
  rfl

theorem pay2_up : k0_pay2 (F := Ideal) (up A .bf16) (up B .bf16) = up (prod A B) := by
  unfold k0_pay2
  rw [shapeCast_self, pay1_up]

theorem pay3_up : k0_pay3 (F := Ideal) (up A .bf16) (up B .bf16) (up H) = up (fun j => H j + prod A B j) := by
  unfold k0_pay3
  simp only [shapeCast_self]
  rw [pay1_up]
  funext j
  exact add_up _ _

theorem pay4_up : k0_pay4 (F := Ideal) (up G) (up W .bf16) = up (fun j : S1x1024.Idx => ∑ q, G (ix2 q (j 1)) * W (ix2 q (j 1))) := by
  funext j
  unfold k0_pay4
  pointwise
  simp (disch := norm_num) only [up_apply, mul_up, sum_up]

theorem pay6_up : k0_pay6 (F := Ideal) (up G) (up g) = up (fun j => G j * g (ix2 0 (j 1))) .bf16 := by
  funext j
  unfold k0_pay6
  pointwise
  simp (disch := norm_num) only [up_apply, mul_up]

theorem pay7_up : k0_pay7 (F := Ideal) (up G) (up g) = up (fun j : S1x1x512x1024.Idx => G (ix2 ⟨(j 2).val, by have : (j 2).val < 512 := (j 2).isLt; omega⟩ (j 3)) * g (ix2 0 (j 3))) .bf16 := by
  funext j
  unfold k0_pay7
  rw [pay6_up]
  pointwise
  rfl

theorem pay8_up : k0_pay8 (F := Ideal) (up G) (up g) = up (fun j : S1x1x512x1024.Idx => G (ix2 ⟨512 + (j 2).val, by have : (j 2).val < 512 := (j 2).isLt; omega⟩ (j 3)) * g (ix2 0 (j 3))) .bf16 := by
  funext j
  unfold k0_pay8
  rw [pay6_up]
  pointwise
  rfl

end Cert.DwDownKIdeal.Block

end
-- ==== Proof.DwArrays.lean ====
/-
  The call that makes the gradients of the MLP's gate and of its second matrix, on finite arguments: what it reads,
  block by block, and what its two outputs hold in the end.
-/
module

public import proofs.«01_k».proof.Proof.DwMath
public import Idealize.ShloMosaic.Lib.Pipeline.ReadBack

@[expose] public section

set_option maxRecDepth 16384

noncomputable section

namespace Cert.DwDownKIdeal.Block

open Cert.DwDownKIdeal Cert.DwDownKIdeal.Gen Idealize.ShloMosaic Idealize.ShloMosaic.TcCoe Idealize.SL.Sem
open Cert.Reals
open Idealize.ShloMosaic.Pipeline (Dat)

variable (m : (ℓ : Loc nD τ sig) → Buf (Elt Ideal) ℓ) (c : Dev nD)
variable (A : S4096x4096.Idx → ℝ) (C : S4096x1024.Idx → ℝ) (g : S1024.Idx → ℝ) (W : S4096x1024.Idx → ℝ)

theorem idx0 : ∀ t : Fin cfg0.N, (win0_0.index t = ![t.val % 2, t.val / 2] ∧ win0_1.index t = ![t.val % 2, 0])
    ∧ (win0_2.index t = ![0, 0] ∧ win0_3.index t = ![t.val / 2, 0]) ∧ win0_4.index t = ![0, t.val / 2, 0, 0] :=
  (by decide +kernel : ∀ t : Fin grid0.N, (win0_0.index t = ![t.val % 2, t.val / 2] ∧ win0_1.index t = ![t.val % 2, 0])
    ∧ (win0_2.index t = ![0, 0] ∧ win0_3.index t = ![t.val / 2, 0]) ∧ win0_4.index t = ![0, t.val / 2, 0, 0])

/-- The finite arguments, as the launch finds them. -/
structure Finite : Prop where
  h0 : m ((c : Thread nD τ).loc main_arg0) = up A
  h1 : m ((c : Thread nD τ).loc main_arg1) = up C
  h2 : m ((c : Thread nD τ).loc main_arg2) = up g
  h3 : m ((c : Thread nD τ).loc main_arg3) = up W

/-- A vector as a matrix of one row. -/
def vrow (v : S1024.Idx → ℝ) (y : S1x1024.Idx) : ℝ := v (ix1 (y 1))

/-- Row `q` of half `k` of the rows. -/
def half (k : Fin 2) (q : Fin 2048) : Fin 4096 := ⟨k.val * 2048 + q.val, by omega⟩

/-- Row `r` of block `b` of the result's rows. -/
def row (b : Fin 4) (r : Fin 1024) : Fin 4096 := ⟨b.val * 1024 + r.val, by omega⟩

/-- The block of the result's rows that point `t` is at, and the half of the terms that it adds. -/
def bOf (t : Fin cfg0.N) : Fin 4 := ⟨t.val / 2, by have h : t.val < 8 := lt_of_lt_of_eq t.isLt N_0; omega⟩
def kOf (t : Fin cfg0.N) : Fin 2 := ⟨t.val % 2, by omega⟩

def aBlk (b : Fin 4) (k : Fin 2) (y : S2048x1024.Idx) : ℝ := A (ix2 (half k (y 0)) (row b (y 1)))
def cBlk (k : Fin 2) (y : S2048x1024.Idx) : ℝ := C (ix2 (half k (y 0)) (y 1))
def wBlk (b : Fin 4) (y : S1024x1024.Idx) : ℝ := W (ix2 (row b (y 0)) (y 1))

/-- The product of the activation, transposed, and the cotangent. -/
def full (f : Fin 4096) (n : Fin 1024) : ℝ := ∑ R : Fin 4096, A (ix2 R f) * C (ix2 R n)

theorem full_blk (b : Fin 4) (j : S1024x1024.Idx) :
    prod (aBlk A b 0) (cBlk C 0) j + prod (aBlk A b 1) (cBlk C 1) j = full A C (row b (j 0)) (j 1) := by
  have e := Fin.sum_mul_add_fin 2 2048 (fun R : Fin 4096 => A (ix2 R (row b (j 0))) * C (ix2 R (j 1)))
  rw [Fin.sum_univ_two] at e
  exact e

theorem reshape_up (v : S1024.Idx → ℝ) : shapeCast S1x1024 (up v : FVec Ideal S1024 .f32) shapeCasts_S1024_S1x1024 = up (vrow v) := by
  funext j
  obtain ⟨a, b, rfl⟩ := exists_ix2 j
  pointwise
  show ((v _ : ℝ) : EReal) = ((v _ : ℝ) : EReal)
  congr 2
  first | rfl | blk_ext []

variable {m c A C g W} (H : Finite m c A C g W)
include H

/-- What the region finds in the operands that the host makes. -/
theorem V_host : V m c main_v0 = up A .bf16 ∧ V m c main_v1 = up C .bf16 ∧ V m c main_v2 = up (vrow g) ∧ V m c main_v3 = up W .bf16 := by
  have e : ∀ (x0 : FVec Ideal S4096x4096 .f32) (x1 x3 : FVec Ideal S4096x1024 .f32) (x2 : FVec Ideal S1024 .f32),
      m ((c : Thread nD τ).loc main_arg0) = x0 → m ((c : Thread nD τ).loc main_arg1) = x1 → m ((c : Thread nD τ).loc main_arg2) = x2
      → m ((c : Thread nD τ).loc main_arg3) = x3 →
      V m c main_v0 = truncf (F := Ideal) .bf16 x0 bitsLt_bf16_f32 ∧ V m c main_v1 = truncf (F := Ideal) .bf16 x1 bitsLt_bf16_f32
      ∧ V m c main_v2 = shapeCast S1x1024 x2 shapeCasts_S1024_S1x1024 ∧ V m c main_v3 = truncf (F := Ideal) .bf16 x3 bitsLt_bf16_f32 := by
    intro x0 x1 x3 x2 h0 h1 h2 h3
    subst h0 h1 h2 h3
    unfold V
    simp only [hostOps0, List.flatten_cons, List.flatten_nil, List.append_nil, List.cons_append, List.nil_append]
    refine ⟨?_, ?_, ?_, ?_⟩
    all_goals
      entry_read
      rfl
  obtain ⟨e0, e1, e2, e3⟩ := e _ _ _ _ H.h0 H.h1 H.h2 H.h3
  exact ⟨e0, e1, e2.trans (reshape_up _), e3⟩

theorem iblk0 (t : Fin cfg0.N) : iblk m c 0 t = up (aBlk A (bOf t) (kOf t)) .bf16 := by
  funext y
  have e := (idx0 t).1.1
  show V m c main_v0 _ = _
  rw [(V_host H).1]
  refine congrArg (fun i => ((A i : ℝ) : EReal)) ?_
  blk_ext [half, row, bOf, kOf, e]

theorem iblk1 (t : Fin cfg0.N) : iblk m c 1 t = up (cBlk C (kOf t)) .bf16 := by
  funext y
  have e := (idx0 t).1.2
  show V m c main_v1 _ = _
  rw [(V_host H).2.1]
  refine congrArg (fun i => ((C i : ℝ) : EReal)) ?_
  blk_ext [half, kOf, e]

theorem iblk2 (t : Fin cfg0.N) : iblk m c 2 t = up (vrow g) := by
  funext y
  have e := (idx0 t).2.1.1
  show V m c main_v2 _ = _
  rw [(V_host H).2.2.1]
  refine congrArg (fun i => ((vrow g i : ℝ) : EReal)) ?_
  blk_ext [e]

theorem iblk3 (t : Fin cfg0.N) : iblk m c 3 t = up (wBlk W (bOf t)) .bf16 := by
  funext y
  have e := (idx0 t).2.1.2
  show V m c main_v3 _ = _
  rw [(V_host H).2.2.2]
  refine congrArg (fun i => ((W i : ℝ) : EReal)) ?_
  blk_ext [row, bOf, e]

/-- After the first half the accumulator holds the first half of the product. -/
theorem acc_first (t : Fin cfg0.N) (h : t.val % 2 = 0) :
    (outsAt0 m c t.val t.isLt).2.2 = up (prod (aBlk A (bOf t) 0) (cBlk C 0)) := by
  have hN : t.val < 8 := lt_of_lt_of_eq t.isLt N_0
  have hk : kOf t = 0 := Fin.ext h
  rw [outsAt0_A m c t h (by omega) (by omega)]
  frame_out
  rw [iblk0 H, iblk1 H, pay2_up, hk]

/-- What the second half adds to is what the first half left. -/
theorem acc_before (t : Fin cfg0.N) (h : t.val % 2 = 1) (hb : t.val - 1 < cfg0.N) :
    (outsAt0 m c (t.val - 1) hb).2.2 = up (prod (aBlk A (bOf t) 0) (cBlk C 0)) := by
  have hN : t.val < 8 := lt_of_lt_of_eq t.isLt N_0
  have e := acc_first H ⟨t.val - 1, hb⟩ (by show (t.val - 1) % 2 = 0; omega)
  have hb' : bOf ⟨t.val - 1, hb⟩ = bOf t := Fin.ext (by show (t.val - 1) / 2 = t.val / 2; omega)
  rw [hb'] at e
  exact e

/-- What the accumulator holds when it is read: the block of the product. -/
theorem acc_read (t : Fin cfg0.N) (h : t.val % 2 = 1) (hb : t.val - 1 < cfg0.N) (x : Vec Ideal S1024x1024 .f32) (hx : x = (outsAt0 m c (t.val - 1) hb).2.2) :
    k0_pay3 (F := Ideal) (iblk m c 0 t) (iblk m c 1 t) x = up (fun j : S1024x1024.Idx => full A C (row (bOf t) (j 0)) (j 1)) := by
  have hk : kOf t = 1 := Fin.ext h
  rw [hx, acc_before H t h hb, iblk0 H, iblk1 H, pay3_up, hk]
  exact congrArg (fun f => up f) (funext fun j => full_blk A C (bOf t) j)

/-- The share of block `b` in the gate's gradient. -/
def part (A : S4096x4096.Idx → ℝ) (C W : S4096x1024.Idx → ℝ) (b : Fin 4) (n : Fin 1024) : ℝ :=
  ∑ r, full A C (row b r) n * W (ix2 (row b r) n)

/-- The gate's gradient after block `b`: the first starts it, the others add to it. -/
theorem dg_first (t : Fin cfg0.N) (h : t.val % 2 = 1) (hl : t.val < 2) (j : S1x1024.Idx) :
    (outsAt0 m c t.val t.isLt).2.1 j = ((part A C W (bOf t) (j 1) : ℝ) : EReal) := by
  have hN : t.val < 8 := lt_of_lt_of_eq t.isLt N_0
  rw [outsAt0_B m c t (by omega) (by omega) (by omega) (by omega) (by omega)]
  frame_out
  rw [read_unread_whole, acc_read H t h _ _ rfl, iblk3 H, pay4_up]
  rfl

theorem dg_later (t : Fin cfg0.N) (h : t.val % 2 = 1) (hl : ¬ t.val < 2) (j : S1x1024.Idx) (hb : t.val - 1 < cfg0.N) :
    (outsAt0 m c t.val t.isLt).2.1 j = (outsAt0 m c (t.val - 1) hb).2.1 j + ((part A C W (bOf t) (j 1) : ℝ) : EReal) := by
  have hN : t.val < 8 := lt_of_lt_of_eq t.isLt N_0
  rw [outsAt0_C m c t (by omega) (by omega) (by omega) (by omega) (by omega)]
  frame_out
  unfold k0_pay5
  simp only [shapeCast_self]
  show _ + _ = _ + _
  rw [read_unread_whole, acc_read H t h _ _ rfl, iblk3 H, pay4_up]
  rfl

/-- The first half of a block leaves the gate's gradient as it is. -/
theorem dg_keep (t : Fin cfg0.N) (h : t.val % 2 = 0) (hb : t.val - 1 < cfg0.N) :
    (outsAt0 m c t.val t.isLt).2.1 = (outsAt0 m c (t.val - 1) hb).2.1 := by
  have hN : t.val < 8 := lt_of_lt_of_eq t.isLt N_0
  rw [outsAt0_A m c t h (by omega) (by omega)]
  rfl

/-- The gate's gradient after the first `b + 1` blocks. -/
theorem dg_after (j : S1x1024.Idx) : ∀ (b n : Nat) (hn : n = 2 * b + 1) (h : n < cfg0.N),
    (outsAt0 m c n h).2.1 j = ((∑ a ∈ Finset.range (b + 1), if ha : a < 4 then part A C W ⟨a, ha⟩ (j 1) else 0 : ℝ) : EReal) := by
  intro b
  induction b with
  | zero =>
    intro n hn h
    have hb : bOf ⟨n, h⟩ = ⟨0, by omega⟩ := Fin.ext (by show n / 2 = 0; omega)
    refine (dg_first H ⟨n, h⟩ (by show n % 2 = 1; omega) (by show n < 2; omega) j).trans ?_
    rw [Finset.sum_range_one, dif_pos (by omega), hb]
  | succ b ih =>
    intro n hn h
    have hN : n < 8 := lt_of_lt_of_eq h N_0
    have k := dg_keep H ⟨n - 1, by omega⟩ (by show (n - 1) % 2 = 0; omega) (by show n - 1 - 1 < cfg0.N; omega)
    have l := dg_later H ⟨n, h⟩ (by show n % 2 = 1; omega) (by show ¬ n < 2; omega) j (by show n - 1 < cfg0.N; omega)
    have hb : bOf ⟨n, h⟩ = ⟨b + 1, by omega⟩ := Fin.ext (by show n / 2 = b + 1; omega)
    refine l.trans ?_
    rw [Finset.sum_range_succ, dif_pos (by omega : b + 1 < 4), ← add_up, hb]
    exact congrArg (· + _) ((congrFun k j).trans (ih (n - 1 - 1) (by omega) (by omega)))

/-- The gate's gradient: for each column the sum over the rows of the product with the weight. -/
theorem final_dg : (dats m 0 c).arrAt 5 cfg0.N = up (fun i : S1x1024.Idx => ∑ f : Fin 4096, full A C f (i 1) * W (ix2 f (i 1))) := by
  refine (dats m 0 c).arrAt_eq_of_after_last 5 t0_7 (by decide +kernel) _ fun j => ?_
  blk_simp
  rw [after0_5]
  refine (dg_after H j 3 7 rfl (lt_of_lt_of_eq (by omega) N_0.symm)).trans ?_
  refine congrArg (fun r : ℝ => (r : EReal)) ?_
  have e := Fin.sum_mul_add_fin 4 1024 (fun f : Fin 4096 => full A C f (j 1) * W (ix2 f (j 1)))
  refine Eq.trans ?_ e
  rw [Finset.sum_range]
  exact Finset.sum_congr rfl fun a _ => by rw [dif_pos a.isLt]; rfl

/-- The entry `(p, b, r, n)` of the gradient of the second matrix is the product at row `r` of half `p` of block `b`, times the gate. -/
def dwAt (A : S4096x4096.Idx → ℝ) (C : S4096x1024.Idx → ℝ) (g : S1024.Idx → ℝ) (i : S2x4x512x1024.Idx) : ℝ :=
  full A C ⟨(i 1).val * 1024 + (i 0).val * 512 + (i 2).val, by
    have h0 : (i 0).val < 2 := (i 0).isLt
    have h1 : (i 1).val < 4 := (i 1).isLt
    have h2 : (i 2).val < 512 := (i 2).isLt
    omega⟩ (i 3) * g (ix1 (i 3))

omit H in
/-- The two stores of a block, one for each half of its rows, leave the block of the gradient. -/
theorem stores (b : Fin 4) (y : S2x1x512x1024.Idx) {i1 i0}
    (P Q : (⟨4, ![1, 1, 512, 1024]⟩ : Shape).Idx → EReal)
    (hP : ∀ x, P x = ((full A C (row b ⟨512 + (x 2).val, by have : (x 2).val < 512 := (x 2).isLt; omega⟩) (x 3) * g (ix1 (x 3)) : ℝ) : EReal))
    (hQ : ∀ x, Q x = ((full A C (row b ⟨(x 2).val, by have : (x 2).val < 512 := (x 2).isLt; omega⟩) (x 3) * g (ix1 (x 3)) : ℝ) : EReal)) :
    View.canon (Val := Elt Ideal) (e := .bf16) [⟨Rect.unit (s := S2x1x512x1024) ![1, 0, 0, 0] ![1, 1, 512, 1024] i1, P⟩, ⟨Rect.unit (s := S2x1x512x1024) ![0, 0, 0, 0] ![1, 1, 512, 1024] i0, Q⟩] y
      = ((dwAt A C g (ix4 (y 0) b (y 2) (y 3)) : ℝ) : EReal) := by
  refine View.canon_apply_of_pieces (Val := Elt Ideal) (e := .bf16) (fun y : S2x1x512x1024.Idx => ((dwAt A C g (ix4 (y 0) b (y 2) (y 3)) : ℝ) : EReal)) _ ?_ y ?_
  · intro p hp x
    rcases List.mem_cons.mp hp with rfl | hp
    · refine (hP x).trans (congrArg (fun r : ℝ => (r : EReal)) ?_)
      have h0 : (x 0).val < 1 := (x 0).isLt
      refine congrArg₂ (· * ·) (congrArg₂ (full A C) (Fin.ext ?_) (Fin.ext ?_)) (congrArg g (congrArg ix1 (Fin.ext ?_)))
      · show b.val * 1024 + (512 + (x 2).val) = b.val * 1024 + (1 + 1 * (x 0).val) * 512 + (0 + 1 * (x 2).val)
        omega
      · show (x 3).val = 0 + 1 * (x 3).val
        omega
      · show (x 3).val = 0 + 1 * (x 3).val
        omega
    · obtain rfl := List.mem_singleton.mp hp
      refine (hQ x).trans (congrArg (fun r : ℝ => (r : EReal)) ?_)
      have h0 : (x 0).val < 1 := (x 0).isLt
      refine congrArg₂ (· * ·) (congrArg₂ (full A C) (Fin.ext ?_) (Fin.ext ?_)) (congrArg g (congrArg ix1 (Fin.ext ?_)))
      · show b.val * 1024 + (x 2).val = b.val * 1024 + (0 + 1 * (x 0).val) * 512 + (0 + 1 * (x 2).val)
        omega
      · show (x 3).val = 0 + 1 * (x 3).val
        omega
      · show (x 3).val = 0 + 1 * (x 3).val
        omega
  · have h0 : (y 0).val < 2 := (y 0).isLt
    have h1 : (y 1).val < 1 := (y 1).isLt
    have h2 : (y 2).val < 512 := (y 2).isLt
    have h3 : (y 3).val < 1024 := (y 3).isLt
    by_cases h : (y 0).val = 1
    · have hm : ∀ a : Fin 4, (![1, 0, 0, 0] : Fin 4 → ℕ) a ≤ (y a).val ∧ (y a).val < (![1, 0, 0, 0] : Fin 4 → ℕ) a + (![1, 1, 512, 1024] : Fin 4 → ℕ) a := fun a => by
        match a with
        | 0 => exact ⟨by show 1 ≤ (y 0).val; omega, by show (y 0).val < 1 + 1; omega⟩
        | 1 => exact ⟨Nat.zero_le _, by show (y 1).val < 0 + 1; omega⟩
        | 2 => exact ⟨Nat.zero_le _, by show (y 2).val < 0 + 512; omega⟩
        | 3 => exact ⟨Nat.zero_le _, by show (y 3).val < 0 + 1024; omega⟩
      exact ⟨⟨Rect.unit (s := S2x1x512x1024) ![1, 0, 0, 0] ![1, 1, 512, 1024] i1, P⟩, List.mem_cons_self, (Rect.mem_set_unit (inb := i1)).mpr hm⟩
    · have hm : ∀ a : Fin 4, (![0, 0, 0, 0] : Fin 4 → ℕ) a ≤ (y a).val ∧ (y a).val < (![0, 0, 0, 0] : Fin 4 → ℕ) a + (![1, 1, 512, 1024] : Fin 4 → ℕ) a := fun a => by
        match a with
        | 0 => exact ⟨by show 0 ≤ (y 0).val; omega, by show (y 0).val < 0 + 1; omega⟩
        | 1 => exact ⟨Nat.zero_le _, by show (y 1).val < 0 + 1; omega⟩
        | 2 => exact ⟨Nat.zero_le _, by show (y 2).val < 0 + 512; omega⟩
        | 3 => exact ⟨Nat.zero_le _, by show (y 3).val < 0 + 1024; omega⟩
      exact ⟨⟨Rect.unit (s := S2x1x512x1024) ![0, 0, 0, 0] ![1, 1, 512, 1024] i0, Q⟩, List.mem_cons_of_mem _ List.mem_cons_self, (Rect.mem_set_unit (inb := i0)).mpr hm⟩

theorem out_tile (t : Fin cfg0.N) (h : t.val % 2 = 1) (y : S2x1x512x1024.Idx) :
    (outsAt0 m c t.val t.isLt).1 y = ((dwAt A C g (ix4 (y 0) (bOf t) (y 2) (y 3)) : ℝ) : EReal) := by
  have hN : t.val < 8 := lt_of_lt_of_eq t.isLt N_0
  by_cases hl : t.val < 2
  · rw [outsAt0_B m c t (by omega) (by omega) (by omega) (by omega) (by omega)]
    frame_out
    rw [read_unread_whole, acc_read H t h _ _ rfl, iblk2 H, pay7_up, pay8_up]
    exact stores (bOf t) y _ _ (fun _ => rfl) (fun _ => rfl)
  · rw [outsAt0_C m c t (by omega) (by omega) (by omega) (by omega) (by omega)]
    frame_out
    rw [read_unread_whole, acc_read H t h _ _ rfl, iblk2 H, pay7_up, pay8_up]
    exact stores (bOf t) y _ _ (fun _ => rfl) (fun _ => rfl)

/-- The gradient of the second matrix. -/
theorem final_dw : (dats m 0 c).arrAt 4 cfg0.N = up (dwAt A C g) .bf16 := by
  refine (dats m 0 c).arrAt_eq_of_covers 4 _ (by decide +kernel) fun t hf y => ?_
  blk_simp
  rw [after0_4]
  have e := (idx0 t).2.2
  have h : t.val % 2 = 1 := (flush0_4 t).mp hf
  refine (out_tile H t h y).trans ?_
  refine congrArg (fun i : S2x4x512x1024.Idx => ((dwAt A C g i : ℝ) : EReal)) ?_
  blk_ext [bOf, e]

end Cert.DwDownKIdeal.Block

end
-- ==== Proof.DwRef.lean ====
/-
  The reference of the gradients of the MLP's gate and of its second matrix on finite arguments, stage by stage, as
  real numbers; and that its results are the kernel's.
-/
module

public import proofs.«01_k».proof.Proof.DwArrays
public import proofs.«01_k».proof.Proof.Gen.DwDownRIdeal.Read

@[expose] public section

set_option maxRecDepth 16384

noncomputable section

namespace Cert.DwDownRIdeal.Stages

open Cert.DwDownRIdeal Cert.DwDownRIdeal.Gen Cert.DwDownRIdeal.Read Idealize.ShloMosaic Idealize.ShloMosaic.TcCoe Idealize.SL.Sem
open Cert.Reals
open Cert.DwDownKIdeal.Block (full dwAt)

variable (A : S4096x4096.Idx → ℝ) (C W : S4096x1024.Idx → ℝ) (g : S1024.Idx → ℝ)

theorem v0_up : val_main_v0 (F := Ideal) (up A) (up W) = up (fun i : S4096x1024.Idx => ∑ f : Fin 4096, A (ix2 (i 0) f) * W (ix2 f (i 1))) := by
  funext i
  pointwise [val_main_v0]
  simp only [up_apply, mul_up, sum_up]

/-- The gate's gradient: the sum over the rows of the result may be taken before the one over the tokens. -/
theorem v15_up : val_main_v15 (F := Ideal) (up A) (up C) (up W) = up (fun i : S1x1024.Idx => ∑ f : Fin 4096, full A C f (i 1) * W (ix2 f (i 1))) := by
  funext i
  pointwise [val_main_v15, val_main_v9, val_main_v8, val_main_v7, val_main_v6, val_main_cst, val_main_cst_0]
  rw [v0_up]
  simp only [up_apply, mul_up, sum_up, lit_zero, add_up, zero_add, Fin.sum_univ_one]
  refine congrArg (fun r : ℝ => (r : EReal)) ?_
  show (∑ R : Fin 4096, C (ix2 R (i 1)) * ∑ f : Fin 4096, A (ix2 R f) * W (ix2 f (i 1))) = ∑ f : Fin 4096, full A C f (i 1) * W (ix2 f (i 1))
  simp only [full, Finset.mul_sum, Finset.sum_mul]
  rw [Finset.sum_comm]
  exact Finset.sum_congr rfl fun f _ => Finset.sum_congr rfl fun R _ => by ring

theorem v11_up : val_main_v11 (F := Ideal) (up A) (up C) (up g) = up (fun i : S4096x1024.Idx => full A C (i 0) (i 1) * g (ix1 (i 1))) := by
  funext i
  pointwise [val_main_v11, val_main_v10, val_main_v5, val_main_v4, val_main_v1]
  simp only [up_apply, mul_up, sum_up]
  refine congrArg (fun r : ℝ => (r : EReal)) ?_
  show (∑ R : Fin 4096, g (ix1 (i 1)) * C (ix2 R (i 1)) * A (ix2 R (i 0))) = full A C (i 0) (i 1) * g (ix1 (i 1))
  simp only [full, Finset.sum_mul]
  exact Finset.sum_congr rfl fun R _ => by ring

theorem v14_up : val_main_v14 (F := Ideal) (up A) (up C) (up g) = up (dwAt A C g) .bf16 := by
  funext i
  pointwise [val_main_v14, val_main_v13, val_main_v12]
  rw [v11_up]
  refine congrArg (fun i : S4096x1024.Idx => ((full A C (i 0) (i 1) * g (ix1 (i 1)) : ℝ) : EReal)) (a₂ := ix2 ⟨(i 1).val * 1024 + (i 0).val * 512 + (i 2).val, by
    have h0 : (i 0).val < 2 := (i 0).isLt
    have h1 : (i 1).val < 4 := (i 1).isLt
    have h2 : (i 2).val < 512 := (i 2).isLt
    omega⟩ (i 3)) ?_
  blk_ext []

end Cert.DwDownRIdeal.Stages

end
-- ==== Proof.DwClaim.lean ====
/-
  The call that makes the gradients of the MLP's gate and of its second matrix against the derivative: the claims.
-/
module

public import proofs.«01_k».proof.Defs
public import proofs.«01_k».proof.Proof.DwRef
public import proofs.«01_k».proof.Proof.Gen.DwDownRIdeal.Run
public import proofs.«01_k».proof.Proof.Gen.DwDownK.Frame
public import proofs.«01_k».proof.Proof.Gen.DwDownKIdeal.Frame
public import proofs.«01_k».proof.Proof.Gen.Pre_finite_dwdown
public import Idealize.ShloMosaic.Lib.Claim
public import Idealize.ShloMosaic.Lib.Quiescent

@[expose] public section

set_option maxRecDepth 16384

noncomputable section

namespace Cert.DwClaim

open Idealize.ShloMosaic Idealize.ShloMosaic.TcCoe Idealize.SL.Sem Cert.Reals
open Cert.DwDownKIdeal.Block (Finite full dwAt)

/-- The arguments are arrays of real numbers. -/
theorem finite (m : (ℓ : Loc Cert.DwDownKIdeal.nD Cert.DwDownKIdeal.τ Cert.DwDownKIdeal.sig) → Buf (Elt Ideal) ℓ)
    (h : Cert.Pre_DwDownKIdeal_finite_dwdown m) (c : Dev Cert.DwDownKIdeal.nD) :
    ∃ (A : Cert.DwDownKIdeal.S4096x4096.Idx → ℝ) (C : Cert.DwDownKIdeal.S4096x1024.Idx → ℝ) (g : Cert.DwDownKIdeal.S1024.Idx → ℝ)
      (W : Cert.DwDownKIdeal.S4096x1024.Idx → ℝ), Finite m c A C g W := by
  obtain ⟨h0, h1, h2, h3⟩ := h c
  obtain ⟨A, hA⟩ := exists_up h0
  obtain ⟨C, hC⟩ := exists_up h1
  obtain ⟨g, hg⟩ := exists_up h2
  obtain ⟨W, hW⟩ := exists_up h3
  exact ⟨A, C, g, W, ⟨hA, hC, hg, hW⟩⟩

/-- On finite arguments the call and the reference end with the same two gradients. -/
theorem algebraic : Cert.algebraic_DwDownKIdeal_DwDownRIdeal_pre_finite_dwdown := by
  intro m g m' g' hpre hag
  choose A C v W H using finite m hpre
  refine ⟨fun c => up (dwAt (A c) (C c) (v c)) .bf16,
    fun c => up (fun i : Cert.DwDownKIdeal.S1x1024.Idx => ∑ f : Fin 4096, full (A c) (C c) f (i 1) * W c (ix2 f (i 1))), ?_, ?_⟩
  · refine (θ_run Cert.DwDownKIdeal.defs _ _).mono (fun _ h c => ?_) (Cert.DwDownKIdeal.Value.run_blocks (F := Ideal) m g)
    obtain ⟨r0, r1, rest⟩ := h c
    exact ⟨r0.trans (Cert.DwDownKIdeal.Block.final_dw (H c)), r1.trans (Cert.DwDownKIdeal.Block.final_dg (H c)), rest⟩
  · refine (θ_run Cert.DwDownRIdeal.defs _ _).mono (fun _ h c => ?_) (Cert.DwDownRIdeal.Value.run (F := Ideal) m' g')
    obtain ⟨e0, e1, e2, e3⟩ := hag c
    have h0 := e0.trans (H c).h0
    have h1 := e1.trans (H c).h1
    have h2 := e2.trans (H c).h2
    have h3 := e3.trans (H c).h3
    obtain ⟨r0, r1, rest⟩ := h c
    refine ⟨(r0.trans (Cert.DwDownRIdeal.Read.val_main_v14_eq ..)).trans ?_, (r1.trans (Cert.DwDownRIdeal.Read.val_main_v15_eq ..)).trans ?_, rest⟩
    · rw [h0, h1, h2]; exact Cert.DwDownRIdeal.Stages.v14_up _ _ _
    · rw [h0, h1, h3]; exact Cert.DwDownRIdeal.Stages.v15_up _ _ _

/-- The reference terminates, keeps its arguments and has no semaphore to leave. -/
theorem frame_ref : Cert.quiescent_DwDownRIdeal := fun m g _ =>
  (θ_run Cert.DwDownRIdeal.defs _ _).mono (fun r h => ⟨fun c => (h c).2.2, sem_eq_zero_of_no_sems rfl r.2⟩)
    (Cert.DwDownRIdeal.Value.run (F := Ideal) m g)

end Cert.DwClaim

end
-- ==== Proof.ConvLMath.lean ====
/-
  One block of the gradient of the plain causal convolution, over the extended reals: the rows it reads, the gradient
  of the input, of the taps and of the bias.
-/
module

public import proofs.«01_k».proof.Proof.Reals
public import proofs.«01_k».proof.Proof.Gen.ConvLruKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.ConvLruKIdeal.Block

open Cert.ConvLruKIdeal Cert.ConvLruKIdeal.Gen Idealize.ShloMosaic Idealize.ShloMosaic.TcCoe Idealize.SL.Sem
open Cert.Reals

variable (W : S8x512.Idx → EReal) (P N : S8x512.Idx → EReal) (X : S512x512.Idx → EReal) (D : S512x512.Idx → EReal) (DN : S8x512.Idx → EReal)
variable (Y : S528x512.Idx → EReal) (E : S520x512.Idx → EReal) (i : grid0.Coords)

/-- A block with the eight rows before it (none before the first block) and the eight after it. -/
def rows528 (b : Prop) [Decidable b] (r : Fin 528) (k : Fin 512) : EReal :=
  if h : r.val < 8 then (if b then P (ix2 ⟨r.val, h⟩ k) else 0)
  else if h' : r.val - 8 < 512 then X (ix2 ⟨r.val - 8, h'⟩ k)
  else N (ix2 ⟨r.val - 8 - 512, by omega⟩ k)

/-- A block of the cotangent with the eight rows after it (none after the last block). -/
def rows520 (b : Prop) [Decidable b] (r : Fin 520) (k : Fin 512) : EReal :=
  if h : r.val < 512 then D (ix2 ⟨r.val, h⟩ k)
  else if b then DN (ix2 ⟨r.val - 512, by omega⟩ k) else 0

theorem first_iff : (Scalar.cmpi .sgt (BitVec.ofNat 32 (i 1).val) 0#32 = 1) = (0 < (i 1).val) :=
  (by decide +kernel : ∀ a : Fin 8, (Scalar.cmpi .sgt (BitVec.ofNat 32 a.val) 0#32 = 1) = (0 < a.val)) (i 1)

theorem last_iff : (Scalar.cmpi .slt (BitVec.ofNat 32 (i 1).val) 7#32 = 1) = ((i 1).val < 7) :=
  (by decide +kernel : ∀ a : Fin 8, (Scalar.cmpi .slt (BitVec.ofNat 32 a.val) 7#32 = 1) = (a.val < 7)) (i 1)

theorem pay3_eq : k0_pay3 (F := Ideal) i P X N = fun j : S528x512.Idx => rows528 P N X (0 < (i 1).val) (j 0) (j 1) := by
  funext j
  obtain ⟨a, b, rfl⟩ := exists_ix2 j
  unfold k0_pay3
  pointwise
  simp only [Scalar.select, first_iff]
  show _ = rows528 P N X (0 < (i 1).val) a b
  simp only [rows528]

theorem pay4_eq : k0_pay4 (F := Ideal) i D DN = fun j : S520x512.Idx => rows520 D DN ((i 1).val < 7) (j 0) (j 1) := by
  funext j
  obtain ⟨a, b, rfl⟩ := exists_ix2 j
  unfold k0_pay4
  pointwise
  simp only [Scalar.select, last_iff]
  show _ = rows520 D DN ((i 1).val < 7) a b
  simp only [rows520]

/-- The gradient of the input at row `r` of a block. -/
def back (r : Fin 512) (k : Fin 512) : EReal :=
  E (ix2 ⟨r.val, by omega⟩ k) * W (ix2 3 k) + E (ix2 ⟨r.val + 1, by omega⟩ k) * W (ix2 2 k) + E (ix2 ⟨r.val + 2, by omega⟩ k) * W (ix2 1 k)
    + E (ix2 ⟨r.val + 3, by omega⟩ k) * W (ix2 0 k)

theorem pay7_eq (h : k0_pay4 (F := Ideal) i D DN = E) : k0_pay7 (F := Ideal) (k0_pay5 i W D DN) (k0_pay6 i W D DN) = fun j : S512x512.Idx => back W E (j 0) (j 1) := by
  funext j
  obtain ⟨a, b, rfl⟩ := exists_ix2 j
  unfold k0_pay7 k0_pay5 k0_pay6 k0_pay2
  rw [h]
  simp only [shapeCast_self]
  pointwise
  refine congrArg₂ (· + ·) (congrArg₂ (· + ·) (congrArg₂ (· + ·) rfl ?_) ?_) ?_ <;>
    exact congrArg₂ (· * ·) (congrArg (fun r => E (ix2 r b)) (Fin.ext (by show _ = a.val + _; simp only []; omega))) rfl

/-- One tap of the gradient of the taps, from a block. -/
def tap (o : Fin 4) (k : Fin 512) : EReal := ∑ q : Fin 512, E (ix2 ⟨q.val, by omega⟩ k) * Y (ix2 ⟨q.val + 5 + o.val, by omega⟩ k)

theorem pay9_eq : k0_pay9 (F := Ideal) Y E = fun j : S8x512.Idx => if h : (j 0).val < 4 then tap Y E ⟨(j 0).val, h⟩ (j 1) else 0 := by
  funext j
  obtain ⟨a, b, rfl⟩ := exists_ix2 j
  unfold k0_pay9 k0_pay8
  pointwise
  show _ = if h : a.val < 4 then tap Y E ⟨a.val, h⟩ b else 0
  split_ifs <;> first
    | rfl
    | (exfalso; omega)
    | (refine Finset.sum_congr rfl fun q _ => congrArg₂ (· * ·) rfl (congrArg (fun r => Y (ix2 r b)) (Fin.ext ?_))
       simp only []
       omega)

theorem pay11_eq : k0_pay11 (F := Ideal) E = fun j : S1x512.Idx => ∑ q : Fin 512, E (ix2 ⟨q.val, by omega⟩ (j 1)) := by
  funext j
  obtain ⟨a, b, rfl⟩ := exists_ix2 j
  unfold k0_pay11 k0_pay8
  pointwise

end Cert.ConvLruKIdeal.Block

end
-- ==== Proof.ConvLArrays.lean ====
/-
  The gradient call of the plain causal convolution: what it reads, block by block, and what its three outputs hold in
  the end.
-/
module

public import proofs.«01_k».proof.Proof.ConvLMath

@[expose] public section

set_option maxRecDepth 16384

noncomputable section

namespace Cert.ConvLruKIdeal.Block

open Cert.ConvLruKIdeal Cert.ConvLruKIdeal.Gen Idealize.ShloMosaic Idealize.ShloMosaic.TcCoe Idealize.SL.Sem
open Cert.Reals
open Idealize.ShloMosaic.Pipeline (Dat)

variable (m : (ℓ : Loc nD τ sig) → Buf (Elt Ideal) ℓ) (c : Dev nD)
variable (P : S4096x3080.Idx → EReal) (w : S4x512.Idx → EReal) (D : S4096x512.Idx → EReal)

/-- Entry `s` of a column of the input, with the three zeros before it: row `s - 3`. -/
def seq (s : ℕ) (k : Fin 512) : EReal := if h : 3 ≤ s ∧ s < 4099 then P (ix2 ⟨s - 3, by omega⟩ ⟨k.val, by omega⟩) else 0

/-- The cotangent at row `s`, zero beyond the last row. -/
def ct (s : ℕ) (k : Fin 512) : EReal := if h : s < 4096 then D (ix2 ⟨s, h⟩ k) else 0

/-- The gradient of the input at row `s`. -/
def dxAt (s : ℕ) (k : Fin 512) : EReal := ct D s k * w (ix2 3 k) + ct D (s + 1) k * w (ix2 2 k) + ct D (s + 2) k * w (ix2 1 k) + ct D (s + 3) k * w (ix2 0 k)

/-- The gradient of tap `o`, and of the bias. -/
def dwAt (o : Fin 4) (k : Fin 512) : EReal := ∑ s : Fin 4096, ct D s.val k * seq P (s.val + o.val) k
def dbAt (k : Fin 512) : EReal := ∑ s : Fin 4096, D (ix2 s k)

/-- The arguments, as the launch finds them. -/
structure Given : Prop where
  h0 : m ((c : Thread nD τ).loc main_arg0) = P
  h1 : m ((c : Thread nD τ).loc main_arg1) = w
  h3 : m ((c : Thread nD τ).loc main_arg3) = D

/-- The input with its columns padded by zeros, and the taps with their rows padded by zeros. -/
def wide (j : S4096x3200.Idx) : EReal := if h : (j 1).val < 3080 then P (ix2 (j 0) ⟨(j 1).val, h⟩) else 0
def tall (j : S8x512.Idx) : EReal := if h : (j 0).val < 4 then w (ix2 ⟨(j 0).val, h⟩ (j 1)) else 0

theorem idx0 : ∀ t : Fin cfg0.N, (win0_0.index t = ![t.val, 0] ∧ win0_1.index t = ![t.val * 64 - 1, 0] ∧ win0_2.index t = ![min ((t.val + 1) * 64) 511, 0])
    ∧ (win0_3.index t = ![t.val, 0] ∧ win0_4.index t = ![min ((t.val + 1) * 64) 511, 0])
    ∧ win0_5.index t = ![0, 0] ∧ win0_7.index t = ![t.val, 0] ∧ (grid0.coords t 1).val = t.val :=
  (by decide +kernel : ∀ t : Fin grid0.N, (win0_0.index t = ![t.val, 0] ∧ win0_1.index t = ![t.val * 64 - 1, 0] ∧ win0_2.index t = ![min ((t.val + 1) * 64) 511, 0])
    ∧ (win0_3.index t = ![t.val, 0] ∧ win0_4.index t = ![min ((t.val + 1) * 64) 511, 0])
    ∧ win0_5.index t = ![0, 0] ∧ win0_7.index t = ![t.val, 0] ∧ (grid0.coords t 1).val = t.val)

/-- Row `r` of block `b` of 512 rows; of block `b` of eight rows. -/
def row (b : Fin 8) (r : Fin 512) : Fin 4096 := ⟨b.val * 512 + r.val, by omega⟩
def row8 (b : Fin 512) (r : Fin 8) : Fin 4096 := ⟨b.val * 8 + r.val, by omega⟩

def inBlk (b : Fin 8) (y : S512x512.Idx) : EReal := P (ix2 (row b (y 0)) ⟨(y 1).val, by have h : (y 1).val < 512 := (y 1).isLt; omega⟩)
def inBlk8 (b : Fin 512) (y : S8x512.Idx) : EReal := P (ix2 (row8 b (y 0)) ⟨(y 1).val, by have h : (y 1).val < 512 := (y 1).isLt; omega⟩)
def ctBlk (b : Fin 8) (y : S512x512.Idx) : EReal := D (ix2 (row b (y 0)) (y 1))
def ctBlk8 (b : Fin 512) (y : S8x512.Idx) : EReal := D (ix2 (row8 b (y 0)) (y 1))

/-- The block of rows that point `t` is at, and the eight rows before it and after it. -/
def iOf (t : Fin cfg0.N) : Fin 8 := ⟨t.val, lt_of_lt_of_eq t.isLt N_0⟩
def before (t : Fin cfg0.N) : Fin 512 := ⟨t.val * 64 - 1, by have h : t.val < 8 := lt_of_lt_of_eq t.isLt N_0; omega⟩
def after (t : Fin cfg0.N) : Fin 512 := ⟨min ((t.val + 1) * 64) 511, by omega⟩

theorem zero_word : FloatOps.sitofp (F := Ideal) .f32 0#32 = (0 : EReal) := by
  show (((0#32 : BitVec 32).toInt : ℝ) : EReal) = _
  simp

variable {m c P w D} (H : Given m c P w D)
include H

/-- What the region finds in the operands that the host makes. -/
theorem V_host : V m c main_v0 = wide P ∧ V m c main_v1 = tall w := by
  have e : ∀ (x0 : FVec Ideal S4096x3080 .f32) (x1 : FVec Ideal S4x512 .f32),
      m ((c : Thread nD τ).loc main_arg0) = x0 → m ((c : Thread nD τ).loc main_arg1) = x1 →
      V m c main_v0 = pad S4096x3200 ![0, 0] ![0, 120] ![0, 0] x0 (sitofp (F := Ideal) .f32 (constantI S_ 32 0#32)) pads_S4096x3080_S4096x3200_000_01200 h_S_
      ∧ V m c main_v1 = pad S8x512 ![0, 0] ![4, 0] ![0, 0] x1 (sitofp (F := Ideal) .f32 (constantI S_ 32 0#32)) pads_S4x512_S8x512_040_000 h_S_ := by
    intro x0 x1 h0 h1
    subst h0 h1
    unfold V
    simp only [hostOps0, hostOps0_1, hostOps0_2, hostOps0_3, List.flatten_cons, List.flatten_nil, List.append_nil, List.cons_append, List.nil_append]
    refine ⟨?_, ?_⟩
    all_goals
      entry_read
      rfl
  obtain ⟨e0, e1⟩ := e _ _ H.h0 H.h1
  refine ⟨e0.trans ?_, e1.trans ?_⟩
  · funext j
    obtain ⟨a, b, rfl⟩ := exists_ix2 j
    pointwise
    show _ = if h : b.val < 3080 then P (ix2 a ⟨b.val, h⟩) else 0
    split_ifs
    · rfl
    · exact zero_word
  · funext j
    obtain ⟨a, b, rfl⟩ := exists_ix2 j
    pointwise
    show _ = if h : a.val < 4 then w (ix2 ⟨a.val, h⟩ b) else 0
    split_ifs
    · rfl
    · exact zero_word

theorem X0 (t : Fin cfg0.N) : X0_0 m c t = inBlk P (iOf t) := by
  funext y
  have e := (idx0 t).1.1
  unfold X0_0 Pipeline.Window.fill
  rw [dif_pos (moved0_0 t y)]
  show V m c main_v0 _ = _
  rw [(V_host H).1]
  have hy : (y 1).val < 512 := (y 1).isLt
  refine (congrArg (wide P) (a₂ := ix2 (row (iOf t) (y 0)) ⟨(y 1).val, by omega⟩) ?_).trans ?_
  · blk_ext [row, iOf, e]
  · exact dif_pos (by show (y 1).val < 3080; omega)

theorem X1 (t : Fin cfg0.N) : X0_1 m c t = inBlk8 P (before t) := by
  funext y
  have e := (idx0 t).1.2.1
  unfold X0_1 Pipeline.Window.fill
  rw [dif_pos (moved0_1 t y)]
  show V m c main_v0 _ = _
  rw [(V_host H).1]
  have hy : (y 1).val < 512 := (y 1).isLt
  refine (congrArg (wide P) (a₂ := ix2 (row8 (before t) (y 0)) ⟨(y 1).val, by omega⟩) ?_).trans ?_
  · blk_ext [row8, before, e]
  · exact dif_pos (by show (y 1).val < 3080; omega)

theorem X2 (t : Fin cfg0.N) : X0_2 m c t = inBlk8 P (after t) := by
  funext y
  have e := (idx0 t).1.2.2
  unfold X0_2 Pipeline.Window.fill
  rw [dif_pos (moved0_2 t y)]
  show V m c main_v0 _ = _
  rw [(V_host H).1]
  have hy : (y 1).val < 512 := (y 1).isLt
  refine (congrArg (wide P) (a₂ := ix2 (row8 (after t) (y 0)) ⟨(y 1).val, by omega⟩) ?_).trans ?_
  · blk_ext [row8, after, e]
  · exact dif_pos (by show (y 1).val < 3080; omega)

theorem iblk3 (t : Fin cfg0.N) : iblk m c 3 t = ctBlk D (iOf t) := by
  funext y
  have e := (idx0 t).2.1.1
  show V m c main_arg3 _ = _
  rw [V_main_arg3, H.h3]
  refine congrArg D ?_
  blk_ext [row, iOf, e]

theorem iblk4 (t : Fin cfg0.N) : iblk m c 4 t = ctBlk8 D (after t) := by
  funext y
  have e := (idx0 t).2.1.2
  show V m c main_arg3 _ = _
  rw [V_main_arg3, H.h3]
  refine congrArg D ?_
  blk_ext [row8, after, e]

theorem iblk5 (t : Fin cfg0.N) : iblk m c 5 t = tall w := by
  funext y
  have e := (idx0 t).2.2.1
  show V m c main_v1 _ = _
  rw [(V_host H).2]
  refine congrArg (tall w) ?_
  blk_ext [e]

omit H in
/-- The rows that a block reads are the rows of the sequence. -/
theorem rows_eq (t : Fin cfg0.N) (r : Fin 528) (k : Fin 512) (h5 : 5 ≤ r.val) (h : r.val < 520) :
    rows528 (inBlk8 P (before t)) (inBlk8 P (after t)) (inBlk P (iOf t)) (0 < (grid0.coords t 1).val) r k
      = seq P (t.val * 512 + r.val - 5) k := by
  have e := (idx0 t).2.2.2.2
  have ht : t.val < 8 := lt_of_lt_of_eq t.isLt N_0
  unfold rows528 seq
  simp only [e]
  by_cases h8 : r.val < 8
  · rw [dif_pos h8]
    by_cases h0 : 0 < t.val
    · rw [if_pos h0, dif_pos (by omega)]
      exact congrArg P (congrArg₂ ix2 (Fin.ext (by show (t.val * 64 - 1) * 8 + r.val = t.val * 512 + r.val - 5 - 3; omega)) rfl)
    · rw [if_neg h0, dif_neg (by omega)]
  · rw [dif_neg h8, dif_pos (by omega), dif_pos (by omega)]
    exact congrArg P (congrArg₂ ix2 (Fin.ext (by show t.val * 512 + (r.val - 8) = t.val * 512 + r.val - 5 - 3; omega)) rfl)

/-- The cotangent in a block, from the whole. -/
def eBlk (D : S4096x512.Idx → EReal) (t : Fin cfg0.N) (j : S520x512.Idx) : EReal := ct D (t.val * 512 + (j 0).val) (j 1)

omit H in
theorem ct_eq (t : Fin cfg0.N) :
    (fun j : S520x512.Idx => rows520 (ctBlk D (iOf t)) (ctBlk8 D (after t)) ((grid0.coords t 1).val < 7) (j 0) (j 1)) = eBlk D t := by
  funext j
  obtain ⟨r, k, rfl⟩ := exists_ix2 j
  have e := (idx0 t).2.2.2.2
  have ht : t.val < 8 := lt_of_lt_of_eq t.isLt N_0
  have hr := r.isLt
  show rows520 _ _ _ r k = ct D (t.val * 512 + r.val) k
  unfold ct rows520
  by_cases h9 : r.val < 512
  · rw [dif_pos h9, dif_pos (by omega)]
    rfl
  · rw [dif_neg h9]
    by_cases h7 : t.val < 7
    · rw [if_pos (by rw [e]; exact h7), dif_pos (by omega)]
      exact congrArg D (congrArg₂ ix2 (Fin.ext (by show min ((t.val + 1) * 64) 511 * 8 + (r.val - 512) = t.val * 512 + r.val; omega)) rfl)
    · rw [if_neg (by rw [e]; exact h7), dif_neg (by omega)]

/-- The padded rows that point `t` reads. -/
def yBlk (P : S4096x3080.Idx → EReal) (t : Fin cfg0.N) (j : S528x512.Idx) : EReal :=
  rows528 (inBlk8 P (before t)) (inBlk8 P (after t)) (inBlk P (iOf t)) (0 < (grid0.coords t 1).val) (j 0) (j 1)

theorem rows_have (t : Fin cfg0.N) : k0_pay3 (F := Ideal) (grid0.coords t) (X0_1 m c t) (X0_0 m c t) (X0_2 m c t) = yBlk P t := by
  rw [X0 H, X1 H, X2 H, pay3_eq]
  rfl

theorem ct_have (t : Fin cfg0.N) : k0_pay4 (F := Ideal) (grid0.coords t) (iblk m c 3 t) (iblk m c 4 t) = eBlk D t := by
  rw [iblk3 H, iblk4 H, pay4_eq]
  exact ct_eq t

theorem after_dx (t : Fin cfg0.N) (y : S512x512.Idx) : (outsAt0 m c t.val t.isLt).1 y = dxAt w D (row (iOf t) (y 0)).val (y 1) := by
  have hN : t.val < 8 := lt_of_lt_of_eq t.isLt N_0
  have e : ∀ n : ℕ, t.val * 512 + ((y 0).val + n) = (row (iOf t) (y 0)).val + n := fun n => by show _ = t.val * 512 + (y 0).val + n; omega
  have key : k0_pay7 (F := Ideal) (k0_pay5 (grid0.coords t) (iblk m c 5 t) (iblk m c 3 t) (iblk m c 4 t)) (k0_pay6 (grid0.coords t) (iblk m c 5 t) (iblk m c 3 t) (iblk m c 4 t)) y
      = dxAt w D (row (iOf t) (y 0)).val (y 1) := by
    have h := ct_have H t
    rw [pay7_eq _ _ _ _ _ h, iblk5 H]
    show back (tall w) (eBlk D t) (y 0) (y 1) = _
    unfold dxAt back
    refine congrArg₂ (· + ·) (congrArg₂ (· + ·) (congrArg₂ (· + ·) ?_ ?_) ?_) ?_
    · exact congrArg₂ (· * ·) rfl rfl
    · exact congrArg₂ (· * ·) (congrArg (fun s => ct D s (y 1)) (e 1)) rfl
    · exact congrArg₂ (· * ·) (congrArg (fun s => ct D s (y 1)) (e 2)) rfl
    · exact congrArg₂ (· * ·) (congrArg (fun s => ct D s (y 1)) (e 3)) rfl
  by_cases h : t.val % 8 = 0
  · rw [outsAt0_A m c t h (by omega) h (by omega)]
    frame_out
    exact key
  · rw [outsAt0_B m c t h (by omega) h (by omega)]
    frame_out
    exact key

/-- The gradient of the input's columns, as an array. -/
def dxArr (w : S4x512.Idx → EReal) (D : S4096x512.Idx → EReal) (i : S4096x512.Idx) : EReal := dxAt w D (i 0).val (i 1)

/-- The first result array: the gradient of the input's columns. -/
theorem final_dx : (dats m 0 c).arrAt 7 cfg0.N = dxArr w D := by
  refine (dats m 0 c).arrAt_eq_of_covers 7 _ (by decide +kernel) fun t hf y => ?_
  blk_simp
  rw [after0_7]
  refine (after_dx H t y).trans ?_
  have e := (idx0 t).2.2.2.1
  refine congrArg (dxArr w D) (a₁ := ix2 (row (iOf t) (y 0)) (y 1)) ?_
  blk_ext [row, iOf, e]

/-- What point `t` adds to the gradients of the taps and of the bias. -/
def tapAdd (P : S4096x3080.Idx → EReal) (D : S4096x512.Idx → EReal) (t : Fin cfg0.N) (j : S8x512.Idx) : EReal :=
  if h : (j 0).val < 4 then tap (yBlk P t) (eBlk D t) ⟨(j 0).val, h⟩ (j 1) else 0
def biasAdd (D : S4096x512.Idx → EReal) (t : Fin cfg0.N) (j : S1x512.Idx) : EReal := ∑ q : Fin 512, D (ix2 (row (iOf t) q) (j 1))

theorem taps_have (t : Fin cfg0.N) :
    k0_pay9 (F := Ideal) (k0_pay3 (grid0.coords t) (X0_1 m c t) (X0_0 m c t) (X0_2 m c t)) (k0_pay4 (grid0.coords t) (iblk m c 3 t) (iblk m c 4 t)) = tapAdd P D t := by
  rw [rows_have H t, ct_have H t, pay9_eq]
  rfl

theorem bias_have (t : Fin cfg0.N) : k0_pay11 (F := Ideal) (k0_pay4 (grid0.coords t) (iblk m c 3 t) (iblk m c 4 t)) = biasAdd D t := by
  have hN : t.val < 8 := lt_of_lt_of_eq t.isLt N_0
  rw [ct_have H t, pay11_eq]
  funext j
  refine Finset.sum_congr rfl fun q _ => ?_
  exact dif_pos (by show t.val * 512 + q.val < 4096; omega)

omit H in
/-- The blocks add up to the gradient of the taps over all rows. -/
theorem taps_sum (i : S8x512.Idx) (hb : ∀ s : Fin 8, s.val < cfg0.N) :
    ∑ s : Fin 8, tapAdd P D ⟨s.val, hb s⟩ i = if h : (i 0).val < 4 then dwAt P D ⟨(i 0).val, h⟩ (i 1) else 0 := by
  by_cases h : (i 0).val < 4
  · rw [dif_pos h]
    refine Eq.trans ?_ (Fin.sum_mul_add_fin 8 512 (fun s : Fin 4096 => ct D s.val (i 1) * seq P (s.val + (i 0).val) (i 1)))
    refine Finset.sum_congr rfl fun s _ => ?_
    unfold tapAdd
    rw [dif_pos h]
    refine Finset.sum_congr rfl fun q _ => ?_
    refine congrArg₂ (· * ·) rfl ?_
    refine (rows_eq (P := P) ⟨s.val, hb s⟩ ⟨q.val + 5 + (i 0).val, by omega⟩ (i 1) (by show 5 ≤ q.val + 5 + (i 0).val; omega) (by show q.val + 5 + (i 0).val < 520; omega)).trans ?_
    refine congrArg (fun s => seq P s (i 1)) ?_
    show s.val * 512 + (q.val + 5 + (i 0).val) - 5 = s.val * 512 + q.val + (i 0).val
    omega
  · rw [dif_neg h]
    refine Finset.sum_eq_zero fun s _ => ?_
    unfold tapAdd
    rw [dif_neg h]

/-- The second result array: the gradient of the taps, with four rows of zeros below. -/
theorem final_dw : (dats m 0 c).arrAt 8 cfg0.N = fun i : S8x512.Idx => if h : (i 0).val < 4 then dwAt P D ⟨(i 0).val, h⟩ (i 1) else 0 := by
  refine (dats m 0 c).arrAt_eq_of_after_last 8 t0_7 (by decide +kernel) _ fun j => ?_
  blk_simp
  rw [after0_8]
  refine (Pipeline.eq_sum_fin_of_reset_step_apply_last (fun n h => (outsAt0 m c n h).2.1) 8 (fun _ => (0 : EReal)) (fun t i => tapAdd P D t i) ?_ ?_ (by decide) t0_7 rfl _).trans ?_
  · intro t h i
    have hN : t.val < 8 := lt_of_lt_of_eq t.isLt N_0
    rw [outsAt0_A m c t h (by omega) h (by omega)]
    frame_out
    rw [taps_have H, zero_add]
  · intro t h i
    have hN : t.val < 8 := lt_of_lt_of_eq t.isLt N_0
    rw [outsAt0_B m c t h (by omega) h (by omega)]
    frame_out
    unfold k0_pay10
    rw [shapeCast_self]
    show _ + _ = _ + _
    rw [taps_have H]
  · rw [zero_add]
    exact taps_sum _ _

/-- The third result array: the gradient of the bias. -/
theorem final_db : (dats m 0 c).arrAt 9 cfg0.N = fun i : S1x512.Idx => dbAt D (i 1) := by
  refine (dats m 0 c).arrAt_eq_of_after_last 9 t0_7 (by decide +kernel) _ fun j => ?_
  blk_simp
  rw [after0_9]
  refine (Pipeline.eq_sum_fin_of_reset_step_apply_last (fun n h => (outsAt0 m c n h).2.2) 8 (fun _ => (0 : EReal)) (fun t i => biasAdd D t i) ?_ ?_ (by decide) t0_7 rfl _).trans ?_
  · intro t h i
    have hN : t.val < 8 := lt_of_lt_of_eq t.isLt N_0
    rw [outsAt0_A m c t h (by omega) h (by omega)]
    frame_out
    rw [bias_have H, zero_add]
  · intro t h i
    have hN : t.val < 8 := lt_of_lt_of_eq t.isLt N_0
    rw [outsAt0_B m c t h (by omega) h (by omega)]
    frame_out
    unfold k0_pay1
    rw [shapeCast_self]
    show _ + _ = _ + _
    rw [bias_have H]
  · rw [zero_add]
    exact Fin.sum_mul_add_fin 8 512 (fun s : Fin 4096 => D (ix2 s (j 1)))

end Cert.ConvLruKIdeal.Block

end
-- ==== Proof.ConvLRef.lean ====
/-
  The reference of the plain causal convolution's gradient, stage by stage, over the extended reals.
-/
module

public import proofs.«01_k».proof.Proof.ConvLArrays
public import proofs.«01_k».proof.Proof.Gen.ConvLruRIdeal.Read

@[expose] public section

set_option maxRecDepth 16384

noncomputable section

namespace Cert.ConvLruRIdeal.Stages

open Cert.ConvLruRIdeal Cert.ConvLruRIdeal.Gen Cert.ConvLruRIdeal.Read Idealize.ShloMosaic Idealize.ShloMosaic.TcCoe Idealize.SL.Sem
open Cert.Reals
open Cert.ConvLruKIdeal.Block (seq ct dxAt dxArr dwAt dbAt)

variable (P : S4096x3080.Idx → EReal) (w : S4x512.Idx → EReal) (D : S4096x512.Idx → EReal)

theorem v2_eq : val_main_v2 (F := Ideal) P = fun i : S4099x512.Idx => seq P (i 0).val (i 1) := by
  funext i
  obtain ⟨a, b, rfl⟩ := exists_ix2 i
  pointwise [val_main_v2, val_main_v1, val_main_v0, val_main_cst]
  show _ = seq P a.val b
  unfold seq
  by_cases h : a.val < 3
  · rw [dif_pos h, dif_neg (by omega)]
  · rw [dif_neg h, dif_pos (by omega)]

/-- The rows of the sequence that a tap meets. -/
theorem v4_eq : val_main_v4 (F := Ideal) P = fun i : S4096x512.Idx => seq P ((i 0).val + 0) (i 1) := by
  funext i
  pointwise [val_main_v4]
  rw [v2_eq]
  exact congrArg (fun s => seq P s (i 1)) (by show (i 0).val = (i 0).val + 0; omega)

theorem v10_eq : val_main_v10 (F := Ideal) P = fun i : S4096x512.Idx => seq P ((i 0).val + 1) (i 1) := by
  funext i
  pointwise [val_main_v10]
  rw [v2_eq]
  exact congrArg (fun s => seq P s (i 1)) (by show 1 + (i 0).val = _; omega)

theorem v17_eq : val_main_v17 (F := Ideal) P = fun i : S4096x512.Idx => seq P ((i 0).val + 2) (i 1) := by
  funext i
  pointwise [val_main_v17]
  rw [v2_eq]
  exact congrArg (fun s => seq P s (i 1)) (by show 2 + (i 0).val = _; omega)

theorem v24_eq : val_main_v24 (F := Ideal) P = fun i : S4096x512.Idx => seq P ((i 0).val + 3) (i 1) := by
  funext i
  pointwise [val_main_v24]
  rw [v2_eq]
  exact congrArg (fun s => seq P s (i 1)) (by show 3 + (i 0).val = _; omega)

theorem ct_row (s : Fin 4096) (b : Fin 512) : ct D s.val b = D (ix2 s b) := by
  unfold ct
  rw [dif_pos s.isLt]

/-- What one tap hands back to a padded row. -/
def handed (n : ℕ) (o : Fin 4) (s : ℕ) (k : Fin 512) : EReal := if n ≤ s then ct D (s - n) k * w (ix2 o k) else 0

theorem v34_eq : val_main_v34 (F := Ideal) D = D := by
  unfold val_main_v34
  rw [shapeCast_self]

theorem v46_eq : val_main_v46 (F := Ideal) w D = fun i : S4099x512.Idx => handed w D 3 3 (i 0).val (i 1) := by
  funext i
  obtain ⟨a, b, rfl⟩ := exists_ix2 i
  pointwise [val_main_v46, val_main_cst_6, val_main_v42, val_main_v41, val_main_v27, val_main_v26, val_main_v25]
  rw [v34_eq]
  show _ = handed w D 3 3 a.val b
  unfold handed ct
  by_cases h : a.val - 3 < 4096 ∧ 3 ≤ a.val
  · rw [dif_pos (by omega), if_pos (by omega), dif_pos h.1]
  · rw [dif_neg (by omega)]
    split_ifs with h3 h4
    · exfalso; omega
    · exact (zero_mul _).symm
    · rfl

theorem v56_eq : val_main_v56 (F := Ideal) w D = fun i : S4099x512.Idx => handed w D 2 2 (i 0).val (i 1) := by
  funext i
  obtain ⟨a, b, rfl⟩ := exists_ix2 i
  pointwise [val_main_v56, val_main_cst_10, val_main_v51, val_main_v50, val_main_v20, val_main_v19, val_main_v18]
  rw [v34_eq]
  show _ = handed w D 2 2 a.val b
  unfold handed ct
  by_cases h : a.val - 2 < 4096 ∧ 2 ≤ a.val
  · rw [dif_pos (by omega), if_pos (by omega), dif_pos h.1]
  · rw [dif_neg (by omega)]
    split_ifs with h3 h4
    · exfalso; omega
    · exact (zero_mul _).symm
    · rfl

theorem v67_eq : val_main_v67 (F := Ideal) w D = fun i : S4099x512.Idx => handed w D 1 1 (i 0).val (i 1) := by
  funext i
  obtain ⟨a, b, rfl⟩ := exists_ix2 i
  pointwise [val_main_v67, val_main_cst_14, val_main_v62, val_main_v61, val_main_v13, val_main_v12, val_main_v11]
  rw [v34_eq]
  show _ = handed w D 1 1 a.val b
  unfold handed ct
  by_cases h : a.val - 1 < 4096 ∧ 1 ≤ a.val
  · rw [dif_pos (by omega), if_pos (by omega), dif_pos h.1]
  · rw [dif_neg (by omega)]
    split_ifs with h3 h4
    · exfalso; omega
    · exact (zero_mul _).symm
    · rfl

theorem v78_eq : val_main_v78 (F := Ideal) w D = fun i : S4099x512.Idx => handed w D 0 0 (i 0).val (i 1) := by
  funext i
  obtain ⟨a, b, rfl⟩ := exists_ix2 i
  pointwise [val_main_v78, val_main_cst_18, val_main_v73, val_main_v72, val_main_v7, val_main_v6, val_main_v5]
  rw [v34_eq]
  show _ = handed w D 0 0 a.val b
  unfold handed ct
  by_cases h : a.val - 0 < 4096 ∧ 0 ≤ a.val
  · rw [dif_pos (by omega), if_pos (by omega), dif_pos h.1]
    rfl
  · rw [dif_neg (by omega)]
    split_ifs with h3 h4
    · exfalso; omega
    · exact (zero_mul _).symm
    · rfl

/-- The gradient of the input's columns. -/
theorem v81_eq : val_main_v81 (F := Ideal) w D = dxArr w D := by
  funext i
  obtain ⟨a, b, rfl⟩ := exists_ix2 i
  pointwise [val_main_v81, val_main_v79, val_main_v68, val_main_v57]
  rw [v46_eq, v56_eq, v67_eq, v78_eq]
  show handed w D 3 3 (3 + a.val) b + handed w D 2 2 (3 + a.val) b + handed w D 1 1 (3 + a.val) b + handed w D 0 0 (3 + a.val) b = dxAt w D a.val b
  unfold handed dxAt
  rw [if_pos (by omega), if_pos (by omega), if_pos (by omega), if_pos (by omega), show 3 + a.val - 3 = a.val by omega, show 3 + a.val - 2 = a.val + 1 by omega,
    show 3 + a.val - 1 = a.val + 2 by omega, show 3 + a.val - 0 = a.val + 3 by omega]

theorem v45_eq : val_main_v45 (F := Ideal) P D = fun i : S4x512.Idx => if (i 0).val = 3 then dwAt P D 3 (i 1) else 0 := by
  funext i
  obtain ⟨a, b, rfl⟩ := exists_ix2 i
  pointwise [val_main_v45, val_main_v44, val_main_v43, val_main_v40, val_main_v39, val_main_v38, val_main_cst_3, val_main_cst_4, val_main_cst_5]
  rw [v34_eq, v24_eq]
  simp only [lit_zero, EReal.coe_zero, zero_add, Fin.sum_univ_one]
  show _ = if a.val = 3 then dwAt P D 3 b else 0
  by_cases h : a.val = 3
  · rw [dif_pos (by omega), if_pos h]
    exact Finset.sum_congr rfl fun s _ => (mul_comm _ _).trans (congrArg₂ (· * ·) (ct_row D s b).symm rfl)
  · rw [dif_neg (by omega), if_neg h]

theorem v54_eq : val_main_v54 (F := Ideal) P D = fun i : S4x512.Idx => if (i 0).val = 2 then dwAt P D 2 (i 1) else 0 := by
  funext i
  obtain ⟨a, b, rfl⟩ := exists_ix2 i
  pointwise [val_main_v54, val_main_v53, val_main_v52, val_main_v49, val_main_v48, val_main_v47, val_main_cst_7, val_main_cst_8, val_main_cst_9]
  rw [v34_eq, v17_eq]
  simp only [lit_zero, EReal.coe_zero, zero_add, Fin.sum_univ_one]
  show _ = if a.val = 2 then dwAt P D 2 b else 0
  by_cases h : a.val = 2
  · rw [dif_pos (by omega), if_pos h]
    exact Finset.sum_congr rfl fun s _ => (mul_comm _ _).trans (congrArg₂ (· * ·) (ct_row D s b).symm rfl)
  · rw [dif_neg (by omega), if_neg h]

theorem v65_eq : val_main_v65 (F := Ideal) P D = fun i : S4x512.Idx => if (i 0).val = 1 then dwAt P D 1 (i 1) else 0 := by
  funext i
  obtain ⟨a, b, rfl⟩ := exists_ix2 i
  pointwise [val_main_v65, val_main_v64, val_main_v63, val_main_v60, val_main_v59, val_main_v58, val_main_cst_11, val_main_cst_12, val_main_cst_13]
  rw [v34_eq, v10_eq]
  simp only [lit_zero, EReal.coe_zero, zero_add, Fin.sum_univ_one]
  show _ = if a.val = 1 then dwAt P D 1 b else 0
  by_cases h : a.val = 1
  · rw [dif_pos (by omega), if_pos h]
    exact Finset.sum_congr rfl fun s _ => (mul_comm _ _).trans (congrArg₂ (· * ·) (ct_row D s b).symm rfl)
  · rw [dif_neg (by omega), if_neg h]

theorem v76_eq : val_main_v76 (F := Ideal) P D = fun i : S4x512.Idx => if (i 0).val = 0 then dwAt P D 0 (i 1) else 0 := by
  funext i
  obtain ⟨a, b, rfl⟩ := exists_ix2 i
  pointwise [val_main_v76, val_main_v75, val_main_v74, val_main_v71, val_main_v70, val_main_v69, val_main_cst_15, val_main_cst_16, val_main_cst_17]
  rw [v34_eq, v4_eq]
  simp only [lit_zero, EReal.coe_zero, zero_add, Fin.sum_univ_one]
  show _ = if a.val = 0 then dwAt P D 0 b else 0
  by_cases h : a.val = 0
  · rw [dif_pos (by omega), if_pos h]
    exact Finset.sum_congr rfl fun s _ => (mul_comm _ _).trans (congrArg₂ (· * ·) (ct_row D s b).symm rfl)
  · rw [dif_neg (by omega), if_neg h]

/-- The gradient of the taps, with four rows of zeros below. -/
theorem v82_eq : val_main_v82 (F := Ideal) P D = fun i : S8x512.Idx => if h : (i 0).val < 4 then dwAt P D ⟨(i 0).val, h⟩ (i 1) else 0 := by
  funext i
  obtain ⟨a, b, rfl⟩ := exists_ix2 i
  pointwise [val_main_v82, val_main_v77, val_main_v66, val_main_v55, val_main_call0_v0, val_main_c]
  rw [v45_eq, v54_eq, v65_eq, v76_eq]
  show _ = if h : a.val < 4 then dwAt P D ⟨a.val, h⟩ b else 0
  by_cases h : a.val < 4
  · rw [dif_pos h, dif_pos h]
    obtain ⟨a, ha⟩ := a
    have : a = 0 ∨ a = 1 ∨ a = 2 ∨ a = 3 := by simp only [] at h; omega
    rcases this with rfl | rfl | rfl | rfl <;> simp <;> rfl
  · rw [dif_neg h, dif_neg h]
    exact Cert.ConvLruKIdeal.Block.zero_word

/-- The gradient of the bias. -/
theorem v83_eq : val_main_v83 (F := Ideal) D = fun i : S1x512.Idx => dbAt D (i 1) := by
  funext i
  obtain ⟨a, b, rfl⟩ := exists_ix2 i
  pointwise [val_main_v83, val_main_v37, val_main_v36, val_main_v35, val_main_cst_1, val_main_cst_2]
  simp only [lit_zero, EReal.coe_zero, zero_add, Fin.sum_univ_one]
  rfl

end Cert.ConvLruRIdeal.Stages

end
-- ==== Proof.ConvLClaim.lean ====
/-
  The gradient call of the plain causal convolution against the derivative: the claims.
-/
module

public import proofs.«01_k».proof.Defs
public import proofs.«01_k».proof.Proof.ConvLArrays
public import proofs.«01_k».proof.Proof.ConvLRef
public import proofs.«01_k».proof.Proof.Gen.ConvLruRIdeal.Run
public import proofs.«01_k».proof.Proof.Gen.ConvLruK.Frame
public import proofs.«01_k».proof.Proof.Gen.ConvLruKIdeal.Frame
public import Idealize.ShloMosaic.Lib.Claim
public import Idealize.ShloMosaic.Lib.Quiescent

@[expose] public section

set_option maxRecDepth 16384

noncomputable section

namespace Cert.ConvLClaim

open Idealize.ShloMosaic Idealize.ShloMosaic.TcCoe Idealize.SL.Sem Cert.Reals
open Cert.ConvLruKIdeal.Block (Given dxArr dwAt dbAt)

/-- The call and the reference end with the same three gradients, whatever their arguments. -/
theorem algebraic : Cert.algebraic_ConvLruKIdeal_ConvLruRIdeal := by
  intro m g m' g' _ hag
  have H : ∀ c, Given m c (m ((c.tc : Thread _ _).loc Cert.ConvLruKIdeal.main_arg0)) (m ((c.tc : Thread _ _).loc Cert.ConvLruKIdeal.main_arg1))
      (m ((c.tc : Thread _ _).loc Cert.ConvLruKIdeal.main_arg3)) := fun c => ⟨rfl, rfl, rfl⟩
  refine ⟨fun c => dxArr (m ((c.tc : Thread _ _).loc Cert.ConvLruKIdeal.main_arg1)) (m ((c.tc : Thread _ _).loc Cert.ConvLruKIdeal.main_arg3)),
    fun c i => if h : (i 0).val < 4 then dwAt (m ((c.tc : Thread _ _).loc Cert.ConvLruKIdeal.main_arg0)) (m ((c.tc : Thread _ _).loc Cert.ConvLruKIdeal.main_arg3)) ⟨(i 0).val, h⟩ (i 1) else (0 : EReal),
    fun c i => dbAt (m ((c.tc : Thread _ _).loc Cert.ConvLruKIdeal.main_arg3)) (i 1), ?_, ?_⟩
  · refine (θ_run Cert.ConvLruKIdeal.defs _ _).mono (fun _ h c => ?_) (Cert.ConvLruKIdeal.Value.run_blocks (F := Ideal) m g)
    obtain ⟨r0, r1, r2, rest⟩ := h c
    exact ⟨r0.trans (Cert.ConvLruKIdeal.Block.final_dx (H c)), r1.trans (Cert.ConvLruKIdeal.Block.final_dw (H c)), r2.trans (Cert.ConvLruKIdeal.Block.final_db (H c)), rest⟩
  · refine (θ_run Cert.ConvLruRIdeal.defs _ _).mono (fun _ h c => ?_) (Cert.ConvLruRIdeal.Value.run (F := Ideal) m' g')
    obtain ⟨e0, e1, e2, e3⟩ := hag c
    obtain ⟨r0, r1, r2, rest⟩ := h c
    refine ⟨(r0.trans (Cert.ConvLruRIdeal.Read.val_main_v81_eq ..)).trans ?_, (r1.trans (Cert.ConvLruRIdeal.Read.val_main_v82_eq ..)).trans ?_,
      (r2.trans (Cert.ConvLruRIdeal.Read.val_main_v83_eq ..)).trans ?_, rest⟩
    · rw [e1, e3]; exact Cert.ConvLruRIdeal.Stages.v81_eq _ _
    · rw [e0, e3]; exact Cert.ConvLruRIdeal.Stages.v82_eq _ _
    · rw [e3]; exact Cert.ConvLruRIdeal.Stages.v83_eq _

/-- The reference terminates, keeps its arguments and has no semaphore to leave. -/
theorem frame_ref : Cert.quiescent_ConvLruRIdeal := fun m g _ =>
  (θ_run Cert.ConvLruRIdeal.defs _ _).mono (fun r h => ⟨fun c => (h c).2.2.2, sem_eq_zero_of_no_sems rfl r.2⟩)
    (Cert.ConvLruRIdeal.Value.run (F := Ideal) m g)

end Cert.ConvLClaim

end
-- ==== Proof.ConvGMath.lean ====
/-
  The backward call of the delta rule's convolution: what each value of its body is on finite numbers.
-/
module

public import proofs.«01_k».proof.Proof.Reals
public import proofs.«01_k».proof.Proof.Gen.ConvGdnKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.ConvGdnKIdeal.Block

open Cert.ConvGdnKIdeal Cert.ConvGdnKIdeal.Gen Idealize.ShloMosaic Idealize.ShloMosaic.TcCoe Idealize.SL.Sem
open Cert.Reals

variable (W : S8x512.Idx → ℝ) (P N : S8x512.Idx → ℝ) (X : S512x512.Idx → ℝ) (D : S512x512.Idx → ℝ) (DN : S8x512.Idx → ℝ)
variable (Y : S528x512.Idx → ℝ) (E : S520x512.Idx → ℝ) (i : grid0.Coords)

/-- The logistic function, and the derivative of `z · logistic z`. -/
def sgm (z : ℝ) : ℝ := (1 + Real.exp (-z))⁻¹
def dsilu (z : ℝ) : ℝ := sgm z * (1 + z * (1 - sgm z))

/-- A block with the eight rows before it (none before the first block) and the eight after it. -/
def rows528 (b : Prop) [Decidable b] (r : Fin 528) (k : Fin 512) : ℝ :=
  if h : r.val < 8 then (if b then P (ix2 ⟨r.val, h⟩ k) else 0)
  else if h' : r.val - 8 < 512 then X (ix2 ⟨r.val - 8, h'⟩ k)
  else N (ix2 ⟨r.val - 8 - 512, by omega⟩ k)

/-- A block of the cotangent with the eight rows after it (none after the last block). -/
def rows520 (b : Prop) [Decidable b] (r : Fin 520) (k : Fin 512) : ℝ :=
  if h : r.val < 512 then D (ix2 ⟨r.val, h⟩ k)
  else if b then DN (ix2 ⟨r.val - 512, by omega⟩ k) else 0

theorem pay5_up : k0_pay5 (F := Ideal) (up W) = up W := by
  unfold k0_pay5
  rw [shapeCast_self]

theorem first_iff : (Scalar.cmpi .sgt (BitVec.ofNat 32 (i 1).val) 0#32 = 1) = (0 < (i 1).val) :=
  (by decide +kernel : ∀ a : Fin 8, (Scalar.cmpi .sgt (BitVec.ofNat 32 a.val) 0#32 = 1) = (0 < a.val)) (i 1)

theorem last_iff : (Scalar.cmpi .slt (BitVec.ofNat 32 (i 1).val) 7#32 = 1) = ((i 1).val < 7) :=
  (by decide +kernel : ∀ a : Fin 8, (Scalar.cmpi .slt (BitVec.ofNat 32 a.val) 7#32 = 1) = (a.val < 7)) (i 1)

theorem pay6_up : k0_pay6 (F := Ideal) i (up P) (up X) (up N) = up (fun j : S528x512.Idx => rows528 P N X (0 < (i 1).val) (j 0) (j 1)) := by
  funext j
  obtain ⟨a, b, rfl⟩ := exists_ix2 j
  unfold k0_pay6
  pointwise
  simp only [Scalar.select, first_iff, up_apply]
  show _ = ((rows528 P N X (0 < (i 1).val) a b : ℝ) : EReal)
  simp only [rows528]
  split_ifs <;> first | rfl | simp

theorem pay7_up : k0_pay7 (F := Ideal) i (up D) (up DN) = up (fun j : S520x512.Idx => rows520 D DN ((i 1).val < 7) (j 0) (j 1)) := by
  funext j
  obtain ⟨a, b, rfl⟩ := exists_ix2 j
  unfold k0_pay7
  pointwise
  simp only [Scalar.select, last_iff, up_apply]
  show _ = ((rows520 D DN ((i 1).val < 7) a b : ℝ) : EReal)
  simp only [rows520]
  split_ifs <;> first | rfl | simp

/-- The convolution at row `r` of a block: the taps of the rows three before it up to itself. -/
def conv (r : Fin 520) (k : Fin 512) : ℝ :=
  Y (ix2 ⟨r.val + 5, by omega⟩ k) * W (ix2 0 k) + Y (ix2 ⟨r.val + 6, by omega⟩ k) * W (ix2 1 k) + Y (ix2 ⟨r.val + 7, by omega⟩ k) * W (ix2 2 k)
    + Y (ix2 ⟨r.val + 8, by omega⟩ k) * W (ix2 3 k)

/-- The gradient before the activation, at a row of a block. -/
def pre (C : S520x512.Idx → ℝ) (j : S520x512.Idx) : ℝ := C j * dsilu (conv W Y (j 0) (j 1))

theorem pay10_up (C : S520x512.Idx → ℝ) (p n : Vec Ideal S8x512 .f32) (x : Vec Ideal S512x512 .f32) (h : k0_pay6 (F := Ideal) i p x n = up Y) :
    k0_pay10 (F := Ideal) (up C) (k0_pay8 (F := Ideal) i (up W) p x n) (k0_pay9 (F := Ideal) i (up W) p x n) (up fun _ => 0) = up (pre W Y C) := by
  have e : addf (F := Ideal) (k0_pay8 (F := Ideal) i (up W) p x n) (k0_pay9 (F := Ideal) i (up W) p x n) = up (fun j : S520x512.Idx => conv W Y (j 0) (j 1)) := by
    funext j
    obtain ⟨a, b, rfl⟩ := exists_ix2 j
    unfold k0_pay8 k0_pay9
    rw [h, pay5_up]
    pointwise
    simp only [up_apply, mul_up, add_up]
    refine congrArg (fun r : ℝ => (r : EReal)) ?_
    refine congrArg₂ (· + ·) (congrArg₂ (· + ·) (congrArg₂ (· + ·) ?_ ?_) ?_) ?_ <;>
      exact congrArg₂ (· * ·) (congrArg (fun r => Y (ix2 r b)) (Fin.ext (by show _ = a.val + _; simp only []; omega))) rfl
  funext j
  unfold k0_pay10
  rw [e]
  pointwise
  simp only [up_apply, add_up, add_zero]
  rw [Ideal.logistic_coe, ← EReal.coe_one]
  simp only [sub_up, mul_up, add_up]
  rfl

theorem pay11_up (A B C : Vec Ideal S520x512 .f32) (b : Vec Ideal S1x512 .f32) (h : k0_pay10 (F := Ideal) A B C b = up E) :
    k0_pay11 (F := Ideal) (up W) A B C b = up (fun j : S512x512.Idx => E (ix2 ⟨(j 0).val, by have : (j 0).val < 512 := (j 0).isLt; omega⟩ (j 1)) * W (ix2 3 (j 1)) + E (ix2 ⟨(j 0).val + 1, by have : (j 0).val < 512 := (j 0).isLt; omega⟩ (j 1)) * W (ix2 2 (j 1)) + E (ix2 ⟨(j 0).val + 2, by have : (j 0).val < 512 := (j 0).isLt; omega⟩ (j 1)) * W (ix2 1 (j 1))
      + E (ix2 ⟨(j 0).val + 3, by have : (j 0).val < 512 := (j 0).isLt; omega⟩ (j 1)) * W (ix2 0 (j 1))) := by
  funext j
  obtain ⟨a, b, rfl⟩ := exists_ix2 j
  unfold k0_pay11
  rw [h]
  pointwise
  simp only [up_apply, mul_up, add_up]
  refine congrArg (fun r : ℝ => (r : EReal)) ?_
  refine congrArg₂ (· + ·) (congrArg₂ (· + ·) (congrArg₂ (· + ·) rfl ?_) ?_) ?_ <;>
    exact congrArg₂ (· * ·) (congrArg (fun r => E (ix2 r b)) (Fin.ext (by show _ = a.val + _; simp only []; omega))) rfl

/-- One tap of the gradient of the taps, from a block. -/
def tap (o : Fin 4) (k : Fin 512) : ℝ := ∑ q : Fin 512, E (ix2 ⟨q.val, by omega⟩ k) * Y (ix2 ⟨q.val + 5 + o.val, by omega⟩ k)

theorem pay1_up (A B C : Vec Ideal S520x512 .f32) (b : Vec Ideal S1x512 .f32) (h : k0_pay10 (F := Ideal) A B C b = up E) :
    k0_pay1 (F := Ideal) (k0_pay12 (up Y)) (k0_pay13 A B C b) (k0_pay14 (up Y) A B C b) (k0_pay15 (up Y) A B C b)
      = up (fun j : S8x512.Idx => if h : (j 0).val < 4 then tap Y E ⟨(j 0).val, h⟩ (j 1) else 0) := by
  funext j
  obtain ⟨a, b, rfl⟩ := exists_ix2 j
  unfold k0_pay1 k0_pay14 k0_pay15 k0_pay13 k0_pay12
  rw [h]
  pointwise
  simp only [up_apply, mul_up, sum_up]
  show _ = ((if h : a.val < 4 then tap Y E ⟨a.val, h⟩ b else 0 : ℝ) : EReal)
  split_ifs <;> first
    | rfl
    | (exfalso; omega)
    | (refine congrArg (fun r : ℝ => (r : EReal)) (Finset.sum_congr rfl fun q _ => congrArg₂ (· * ·) rfl (congrArg (fun r => Y (ix2 r b)) (Fin.ext ?_)))
       simp only []
       omega)

end Cert.ConvGdnKIdeal.Block

end
-- ==== Proof.ConvGArrays.lean ====
/-
  The backward call of the delta rule's convolution, on finite arguments: what it reads, block by block, in terms of
  whole columns of the sequence.
-/
module

public import proofs.«01_k».proof.Proof.ConvGMath

@[expose] public section

set_option maxRecDepth 16384

noncomputable section

namespace Cert.ConvGdnKIdeal.Block

open Cert.ConvGdnKIdeal Cert.ConvGdnKIdeal.Gen Idealize.ShloMosaic Idealize.ShloMosaic.TcCoe Idealize.SL.Sem
open Cert.Reals
open Idealize.ShloMosaic.Pipeline (Dat)

variable (m : (ℓ : Loc nD τ sig) → Buf (Elt Ideal) ℓ) (c : Dev nD)
variable (P : S4096x3080.Idx → ℝ) (w : S4x1536.Idx → ℝ) (D : S4096x1536.Idx → ℝ)

/-- Entry `s` of a column of the input, with the three zeros before it: row `s - 3`. -/
def seq (s : ℕ) (k : Fin 1536) : ℝ := if h : 3 ≤ s ∧ s < 4099 then P (ix2 ⟨s - 3, by omega⟩ ⟨k.val + 1024, by omega⟩) else 0

/-- The convolution at row `s`. -/
def cv (s : ℕ) (k : Fin 1536) : ℝ := seq P s k * w (ix2 0 k) + seq P (s + 1) k * w (ix2 1 k) + seq P (s + 2) k * w (ix2 2 k) + seq P (s + 3) k * w (ix2 3 k)

/-- The gradient before the activation at row `s`, zero beyond the last row. -/
def eg (s : ℕ) (k : Fin 1536) : ℝ := if h : s < 4096 then D (ix2 ⟨s, h⟩ k) * dsilu (cv P w s k) else 0

/-- The gradient of the input at row `s`. -/
def dxAt (s : ℕ) (k : Fin 1536) : ℝ := eg P w D s k * w (ix2 3 k) + eg P w D (s + 1) k * w (ix2 2 k) + eg P w D (s + 2) k * w (ix2 1 k) + eg P w D (s + 3) k * w (ix2 0 k)

/-- The gradient of tap `o`. -/
def dwAt (o : Fin 4) (k : Fin 1536) : ℝ := ∑ s : Fin 4096, eg P w D s.val k * seq P (s.val + o.val) k

/-- The finite arguments, as the launch finds them. -/
structure Finite : Prop where
  h0 : m ((c : Thread nD τ).loc main_arg0) = up P
  h1 : m ((c : Thread nD τ).loc main_arg1) = up w
  h2 : m ((c : Thread nD τ).loc main_arg2) = up D

/-- The input with its columns padded by zeros, and the taps with their rows padded by zeros. -/
def wide (j : S4096x3200.Idx) : ℝ := if h : (j 1).val < 3080 then P (ix2 (j 0) ⟨(j 1).val, h⟩) else 0
def tall (j : S8x1536.Idx) : ℝ := if h : (j 0).val < 4 then w (ix2 ⟨(j 0).val, h⟩ (j 1)) else 0

theorem idx0 : ∀ t : Fin cfg0.N, (win0_0.index t = ![t.val % 8, t.val / 8 + 2] ∧ win0_1.index t = ![t.val % 8 * 64 - 1, t.val / 8 + 2]
      ∧ win0_2.index t = ![min ((t.val % 8 + 1) * 64) 511, t.val / 8 + 2])
    ∧ (win0_3.index t = ![t.val % 8, t.val / 8] ∧ win0_4.index t = ![min ((t.val % 8 + 1) * 64) 511, t.val / 8])
    ∧ (win0_5.index t = ![0, t.val / 8] ∧ win0_6.index t = ![0, t.val / 8]) ∧ win0_7.index t = ![t.val % 8, t.val / 8] ∧ win0_8.index t = ![0, t.val / 8]
    ∧ (grid0.coords t 1).val = t.val % 8 :=
  (by decide +kernel : ∀ t : Fin grid0.N, (win0_0.index t = ![t.val % 8, t.val / 8 + 2] ∧ win0_1.index t = ![t.val % 8 * 64 - 1, t.val / 8 + 2]
      ∧ win0_2.index t = ![min ((t.val % 8 + 1) * 64) 511, t.val / 8 + 2])
    ∧ (win0_3.index t = ![t.val % 8, t.val / 8] ∧ win0_4.index t = ![min ((t.val % 8 + 1) * 64) 511, t.val / 8])
    ∧ (win0_5.index t = ![0, t.val / 8] ∧ win0_6.index t = ![0, t.val / 8]) ∧ win0_7.index t = ![t.val % 8, t.val / 8] ∧ win0_8.index t = ![0, t.val / 8]
    ∧ (grid0.coords t 1).val = t.val % 8)

/-- The block of columns that point `t` is at, and a column of it as a column of the array. -/
def jOf (t : Fin cfg0.N) : Fin 3 := ⟨t.val / 8, by have h : t.val < 24 := lt_of_lt_of_eq t.isLt N_0; omega⟩
def iOf (t : Fin cfg0.N) : Fin 8 := ⟨t.val % 8, by omega⟩
def col (j : Fin 3) (k : Fin 512) : Fin 1536 := ⟨j.val * 512 + k.val, by omega⟩

/-- Row `r` of block `b` of 512 rows; of block `b` of eight rows. -/
def row (b : Fin 8) (r : Fin 512) : Fin 4096 := ⟨b.val * 512 + r.val, by omega⟩
def row8 (b : Fin 512) (r : Fin 8) : Fin 4096 := ⟨b.val * 8 + r.val, by omega⟩

def inBlk (b : Fin 8) (j : Fin 3) (y : S512x512.Idx) : ℝ := P (ix2 (row b (y 0)) ⟨(col j (y 1)).val + 1024, by omega⟩)
def inBlk8 (b : Fin 512) (j : Fin 3) (y : S8x512.Idx) : ℝ := P (ix2 (row8 b (y 0)) ⟨(col j (y 1)).val + 1024, by omega⟩)
def ctBlk (b : Fin 8) (j : Fin 3) (y : S512x512.Idx) : ℝ := D (ix2 (row b (y 0)) (col j (y 1)))
def ctBlk8 (b : Fin 512) (j : Fin 3) (y : S8x512.Idx) : ℝ := D (ix2 (row8 b (y 0)) (col j (y 1)))
def tapBlk (j : Fin 3) (y : S8x512.Idx) : ℝ := tall w (ix2 (y 0) (col j (y 1)))

/-- The eight rows before block `t` and after it. -/
def before (t : Fin cfg0.N) : Fin 512 := ⟨t.val % 8 * 64 - 1, by omega⟩
def after (t : Fin cfg0.N) : Fin 512 := ⟨min ((t.val % 8 + 1) * 64) 511, by omega⟩

variable {m c P w D} (H : Finite m c P w D)
include H

omit H in
theorem zero_word : FloatOps.sitofp (F := Ideal) .f32 0#32 = ((0 : ℝ) : EReal) := by
  show (((0#32 : BitVec 32).toInt : ℝ) : EReal) = _
  simp

/-- What the region finds in the operands that the host makes. -/
theorem V_host : V m c main_v1 = up (wide P) ∧ V m c main_v2 = up (tall w) ∧ V m c main_v0 = up (fun _ => 0) := by
  have e : ∀ (x0 : FVec Ideal S4096x3080 .f32) (x1 : FVec Ideal S4x1536 .f32),
      m ((c : Thread nD τ).loc main_arg0) = x0 → m ((c : Thread nD τ).loc main_arg1) = x1 →
      V m c main_v1 = pad S4096x3200 ![0, 0] ![0, 120] ![0, 0] x0 (sitofp (F := Ideal) .f32 (constantI S_ 32 0#32)) pads_S4096x3080_S4096x3200_000_01200 h_S_
      ∧ V m c main_v2 = pad S8x1536 ![0, 0] ![4, 0] ![0, 0] x1 (sitofp (F := Ideal) .f32 (constantI S_ 32 0#32)) pads_S4x1536_S8x1536_040_000 h_S_
      ∧ V m c main_v0 = broadcastInDim S1x1536 ![] bcast_S_S1x1536 (constant (F := Ideal) S_ .f32 0x00000000#32) := by
    intro x0 x1 h0 h1
    subst h0 h1
    unfold V
    simp only [hostOps0, hostOps0_1, hostOps0_2, hostOps0_3, List.flatten_cons, List.flatten_nil, List.append_nil, List.cons_append, List.nil_append]
    refine ⟨?_, ?_, ?_⟩
    all_goals
      entry_read
      rfl
  obtain ⟨e0, e1, e2⟩ := e _ _ H.h0 H.h1
  refine ⟨e0.trans ?_, e1.trans ?_, e2.trans ?_⟩
  · funext j
    obtain ⟨a, b, rfl⟩ := exists_ix2 j
    pointwise
    show _ = ((if h : b.val < 3080 then P (ix2 a ⟨b.val, h⟩) else 0 : ℝ) : EReal)
    split_ifs
    · rfl
    · exact zero_word
  · funext j
    obtain ⟨a, b, rfl⟩ := exists_ix2 j
    pointwise
    show _ = ((if h : a.val < 4 then w (ix2 ⟨a.val, h⟩ b) else 0 : ℝ) : EReal)
    split_ifs
    · rfl
    · exact zero_word
  · funext j
    pointwise
    exact EReal.coe_zero.symm

theorem X0 (t : Fin cfg0.N) : X0_0 m c t = up (inBlk P (iOf t) (jOf t)) := by
  funext y
  have e := (idx0 t).1.1
  unfold X0_0 Pipeline.Window.fill
  rw [dif_pos (moved0_0 t y)]
  show V m c main_v1 _ = _
  rw [(V_host H).1]
  have hy : (y 1).val < 512 := (y 1).isLt
  have ht : t.val < 24 := lt_of_lt_of_eq t.isLt N_0
  refine (congrArg (fun i => ((wide P i : ℝ) : EReal)) (a₂ := ix2 (row (iOf t) (y 0)) ⟨(t.val / 8 + 2) * 512 + (y 1).val, by omega⟩) ?_).trans ?_
  · blk_ext [row, iOf, e]
  · refine congrArg (fun r : ℝ => (r : EReal)) ((dif_pos (by show (t.val / 8 + 2) * 512 + (y 1).val < 3080; omega)).trans ?_)
    exact congrArg P (congrArg (ix2 _) (Fin.ext (by show (t.val / 8 + 2) * 512 + (y 1).val = t.val / 8 * 512 + (y 1).val + 1024; omega)))

theorem X1 (t : Fin cfg0.N) : X0_1 m c t = up (inBlk8 P (before t) (jOf t)) := by
  funext y
  have e := (idx0 t).1.2.1
  unfold X0_1 Pipeline.Window.fill
  rw [dif_pos (moved0_1 t y)]
  show V m c main_v1 _ = _
  rw [(V_host H).1]
  have hy : (y 1).val < 512 := (y 1).isLt
  have ht : t.val < 24 := lt_of_lt_of_eq t.isLt N_0
  refine (congrArg (fun i => ((wide P i : ℝ) : EReal)) (a₂ := ix2 (row8 (before t) (y 0)) ⟨(t.val / 8 + 2) * 512 + (y 1).val, by omega⟩) ?_).trans ?_
  · blk_ext [row8, before, e]
  · refine congrArg (fun r : ℝ => (r : EReal)) ((dif_pos (by show (t.val / 8 + 2) * 512 + (y 1).val < 3080; omega)).trans ?_)
    exact congrArg P (congrArg (ix2 _) (Fin.ext (by show (t.val / 8 + 2) * 512 + (y 1).val = t.val / 8 * 512 + (y 1).val + 1024; omega)))

theorem X2 (t : Fin cfg0.N) : X0_2 m c t = up (inBlk8 P (after t) (jOf t)) := by
  funext y
  have e := (idx0 t).1.2.2
  unfold X0_2 Pipeline.Window.fill
  rw [dif_pos (moved0_2 t y)]
  show V m c main_v1 _ = _
  rw [(V_host H).1]
  have hy : (y 1).val < 512 := (y 1).isLt
  have ht : t.val < 24 := lt_of_lt_of_eq t.isLt N_0
  refine (congrArg (fun i => ((wide P i : ℝ) : EReal)) (a₂ := ix2 (row8 (after t) (y 0)) ⟨(t.val / 8 + 2) * 512 + (y 1).val, by omega⟩) ?_).trans ?_
  · blk_ext [row8, after, e]
  · refine congrArg (fun r : ℝ => (r : EReal)) ((dif_pos (by show (t.val / 8 + 2) * 512 + (y 1).val < 3080; omega)).trans ?_)
    exact congrArg P (congrArg (ix2 _) (Fin.ext (by show (t.val / 8 + 2) * 512 + (y 1).val = t.val / 8 * 512 + (y 1).val + 1024; omega)))

theorem iblk3 (t : Fin cfg0.N) : iblk m c 3 t = up (ctBlk D (iOf t) (jOf t)) := by
  funext y
  have e := (idx0 t).2.1.1
  show V m c main_arg2 _ = _
  rw [V_main_arg2, H.h2]
  refine congrArg (fun i => ((D i : ℝ) : EReal)) ?_
  blk_ext [row, iOf, jOf, col, e]

theorem iblk4 (t : Fin cfg0.N) : iblk m c 4 t = up (ctBlk8 D (after t) (jOf t)) := by
  funext y
  have e := (idx0 t).2.1.2
  show V m c main_arg2 _ = _
  rw [V_main_arg2, H.h2]
  refine congrArg (fun i => ((D i : ℝ) : EReal)) ?_
  blk_ext [row8, after, jOf, col, e]

theorem iblk5 (t : Fin cfg0.N) : iblk m c 5 t = up (tapBlk w (jOf t)) := by
  funext y
  have e := (idx0 t).2.2.1.1
  show V m c main_v2 _ = _
  rw [(V_host H).2.1]
  refine congrArg (fun i => ((tall w i : ℝ) : EReal)) ?_
  blk_ext [jOf, col, e]

theorem iblk6 (t : Fin cfg0.N) : iblk m c 6 t = up (fun _ => 0) := by
  funext y
  show V m c main_v0 _ = _
  rw [(V_host H).2.2]
  rfl

omit H in
/-- The rows that a block reads are the rows of the sequence, as far as the convolution of a row of the sequence reaches. -/
theorem rows_eq (t : Fin cfg0.N) (r : Fin 528) (k : Fin 512) (h5 : 5 ≤ r.val) (h : r.val < 520 ∨ t.val % 8 < 7) :
    rows528 (inBlk8 P (before t) (jOf t)) (inBlk8 P (after t) (jOf t)) (inBlk P (iOf t) (jOf t)) (0 < (grid0.coords t 1).val) r k
      = seq P (t.val % 8 * 512 + r.val - 5) (col (jOf t) k) := by
  have e := (idx0 t).2.2.2.2.2
  have hr := r.isLt
  unfold rows528 seq
  simp only [e]
  by_cases h8 : r.val < 8
  · rw [dif_pos h8]
    by_cases h0 : 0 < t.val % 8
    · rw [if_pos h0, dif_pos (by omega)]
      exact congrArg P (congrArg₂ ix2 (Fin.ext (by show (t.val % 8 * 64 - 1) * 8 + r.val = t.val % 8 * 512 + r.val - 5 - 3; omega)) rfl)
    · rw [if_neg h0, dif_neg (by omega)]
  · rw [dif_neg h8]
    by_cases h9 : r.val - 8 < 512
    · rw [dif_pos h9, dif_pos (by omega)]
      exact congrArg P (congrArg₂ ix2 (Fin.ext (by show t.val % 8 * 512 + (r.val - 8) = t.val % 8 * 512 + r.val - 5 - 3; omega)) rfl)
    · rw [dif_neg h9, dif_pos (by omega)]
      exact congrArg P (congrArg₂ ix2 (Fin.ext (by show min ((t.val % 8 + 1) * 64) 511 * 8 + (r.val - 8 - 512) = t.val % 8 * 512 + r.val - 5 - 3; omega)) rfl)

omit H in
theorem conv_eq (t : Fin cfg0.N) (r : Fin 520) (k : Fin 512) (h : r.val < 512 ∨ t.val % 8 < 7) :
    conv (tapBlk w (jOf t)) (fun j => rows528 (inBlk8 P (before t) (jOf t)) (inBlk8 P (after t) (jOf t)) (inBlk P (iOf t) (jOf t)) (0 < (grid0.coords t 1).val) (j 0) (j 1)) r k
      = cv P w (t.val % 8 * 512 + r.val) (col (jOf t) k) := by
  have hr := r.isLt
  have f : ∀ (n : ℕ) (hn : n ≤ 3), rows528 (inBlk8 P (before t) (jOf t)) (inBlk8 P (after t) (jOf t)) (inBlk P (iOf t) (jOf t)) (0 < (grid0.coords t 1).val) ⟨r.val + (n + 5), by omega⟩ k
      = seq P (t.val % 8 * 512 + r.val + n) (col (jOf t) k) := fun n hn =>
    (rows_eq t ⟨r.val + (n + 5), by omega⟩ k (by show 5 ≤ r.val + (n + 5); omega) (by show r.val + (n + 5) < 520 ∨ _; omega)).trans
      (congrArg (fun s => seq P s (col (jOf t) k)) (by show t.val % 8 * 512 + (r.val + (n + 5)) - 5 = _; omega))
  unfold conv cv
  exact congrArg₂ (· + ·) (congrArg₂ (· + ·) (congrArg₂ (· + ·) (congrArg₂ (· * ·) (f 0 (by omega)) rfl) (congrArg₂ (· * ·) (f 1 (by omega)) rfl))
    (congrArg₂ (· * ·) (f 2 (by omega)) rfl)) (congrArg₂ (· * ·) (f 3 (by omega)) rfl)

/-- The gradient before the activation in a block, from the sequence. -/
def egBlk (P : S4096x3080.Idx → ℝ) (w : S4x1536.Idx → ℝ) (D : S4096x1536.Idx → ℝ) (t : Fin cfg0.N) (j : S520x512.Idx) : ℝ := eg P w D (t.val % 8 * 512 + (j 0).val) (col (jOf t) (j 1))

omit H in
theorem pre_eq (t : Fin cfg0.N) :
    pre (tapBlk w (jOf t)) (fun j => rows528 (inBlk8 P (before t) (jOf t)) (inBlk8 P (after t) (jOf t)) (inBlk P (iOf t) (jOf t)) (0 < (grid0.coords t 1).val) (j 0) (j 1))
      (fun j => rows520 (ctBlk D (iOf t) (jOf t)) (ctBlk8 D (after t) (jOf t)) ((grid0.coords t 1).val < 7) (j 0) (j 1)) = egBlk P w D t := by
  funext j
  obtain ⟨r, k, rfl⟩ := exists_ix2 j
  have e := (idx0 t).2.2.2.2.2
  have hr := r.isLt
  show rows520 _ _ _ r k * dsilu (conv _ _ r k) = eg P w D (t.val % 8 * 512 + r.val) (col (jOf t) k)
  unfold eg rows520
  by_cases h9 : r.val < 512
  · rw [dif_pos h9, dif_pos (by omega), conv_eq t r k (Or.inl h9)]
    rfl
  · rw [dif_neg h9]
    by_cases h7 : t.val % 8 < 7
    · rw [if_pos (by rw [e]; exact h7), dif_pos (by omega), conv_eq t r k (Or.inr h7)]
      exact congrArg₂ (· * ·) (congrArg D (congrArg₂ ix2 (Fin.ext (by show min ((t.val % 8 + 1) * 64) 511 * 8 + (r.val - 512) = t.val % 8 * 512 + r.val; omega)) rfl)) rfl
    · rw [if_neg (by rw [e]; exact h7), dif_neg (by omega), zero_mul]

end Cert.ConvGdnKIdeal.Block

end
-- ==== Proof.ConvGResults.lean ====
/-
  What the gradient call of the activated convolution leaves in its arrays, on finite arguments: the gradient of the
  input's columns, tile by tile, and the gradient of the taps, added up along the rows.
-/
module

public import proofs.«01_k».proof.Proof.ConvGArrays

@[expose] public section

set_option maxRecDepth 16384

noncomputable section

namespace Cert.ConvGdnKIdeal.Block

open Cert.ConvGdnKIdeal Cert.ConvGdnKIdeal.Gen Idealize.ShloMosaic Idealize.ShloMosaic.TcCoe Idealize.SL.Sem
open Cert.Reals
open Idealize.ShloMosaic.Pipeline (Dat)

variable {m : (ℓ : Loc nD τ sig) → Buf (Elt Ideal) ℓ} {c : Dev nD}
variable {P : S4096x3080.Idx → ℝ} {w : S4x1536.Idx → ℝ} {D : S4096x1536.Idx → ℝ} (H : Finite m c P w D)

/-- The padded rows that point `t` reads. -/
def yBlk (P : S4096x3080.Idx → ℝ) (t : Fin cfg0.N) (j : S528x512.Idx) : ℝ :=
  rows528 (inBlk8 P (before t) (jOf t)) (inBlk8 P (after t) (jOf t)) (inBlk P (iOf t) (jOf t)) (0 < (grid0.coords t 1).val) (j 0) (j 1)

/-- What point `t` adds to the gradient of the taps. -/
def tapAdd (P : S4096x3080.Idx → ℝ) (w : S4x1536.Idx → ℝ) (D : S4096x1536.Idx → ℝ) (t : Fin cfg0.N) (j : S8x512.Idx) : ℝ :=
  if h : (j 0).val < 4 then tap (yBlk P t) (egBlk P w D t) ⟨(j 0).val, h⟩ (j 1) else 0

include H

theorem rows_up (t : Fin cfg0.N) : k0_pay6 (F := Ideal) (grid0.coords t) (X0_1 m c t) (X0_0 m c t) (X0_2 m c t) = up (yBlk P t) := by
  rw [X0 H, X1 H, X2 H, pay6_up]
  rfl

theorem pre_up (t : Fin cfg0.N) :
    k0_pay10 (F := Ideal) (k0_pay7 (grid0.coords t) (iblk m c 3 t) (iblk m c 4 t)) (k0_pay8 (grid0.coords t) (iblk m c 5 t) (X0_1 m c t) (X0_0 m c t) (X0_2 m c t))
      (k0_pay9 (grid0.coords t) (iblk m c 5 t) (X0_1 m c t) (X0_0 m c t) (X0_2 m c t)) (iblk m c 6 t) = up (egBlk P w D t) := by
  rw [iblk3 H, iblk4 H, iblk5 H, iblk6 H, pay7_up]
  exact (pay10_up _ _ _ _ _ _ _ (rows_up H t)).trans (congrArg (fun f => up f) (pre_eq t))

theorem after_dx (t : Fin cfg0.N) (y : S512x512.Idx) :
    (outsAt0 m c t.val t.isLt).1 y = ((dxAt P w D (row (iOf t) (y 0)).val (col (jOf t) (y 1)) : ℝ) : EReal) := by
  have hN : t.val < 24 := lt_of_lt_of_eq t.isLt N_0
  have e : ∀ n : ℕ, t.val % 8 * 512 + ((y 0).val + n) = (row (iOf t) (y 0)).val + n := fun n => by show _ = t.val % 8 * 512 + (y 0).val + n; omega
  have key : k0_pay11 (F := Ideal) (k0_pay5 (iblk m c 5 t)) (k0_pay7 (grid0.coords t) (iblk m c 3 t) (iblk m c 4 t)) (k0_pay8 (grid0.coords t) (iblk m c 5 t) (X0_1 m c t) (X0_0 m c t) (X0_2 m c t))
      (k0_pay9 (grid0.coords t) (iblk m c 5 t) (X0_1 m c t) (X0_0 m c t) (X0_2 m c t)) (iblk m c 6 t) y = ((dxAt P w D (row (iOf t) (y 0)).val (col (jOf t) (y 1)) : ℝ) : EReal) := by
    have h := pre_up H t
    rw [iblk5 H] at h ⊢
    rw [pay5_up, pay11_up _ _ _ _ _ _ h]
    refine congrArg (fun r : ℝ => (r : EReal)) ?_
    unfold dxAt
    refine congrArg₂ (· + ·) (congrArg₂ (· + ·) (congrArg₂ (· + ·) ?_ ?_) ?_) ?_
    · exact congrArg₂ (· * ·) rfl rfl
    · exact congrArg₂ (· * ·) (congrArg (fun s => eg P w D s (col (jOf t) (y 1))) (e 1)) rfl
    · exact congrArg₂ (· * ·) (congrArg (fun s => eg P w D s (col (jOf t) (y 1))) (e 2)) rfl
    · exact congrArg₂ (· * ·) (congrArg (fun s => eg P w D s (col (jOf t) (y 1))) (e 3)) rfl
  by_cases h : t.val % 8 = 0
  · rw [outsAt0_A m c t h (by omega) h (by omega)]
    frame_out
    exact key
  · rw [outsAt0_B m c t h (by omega) h (by omega)]
    frame_out
    exact key

/-- The first result array: the gradient of the input's columns. -/
theorem final_dx : (dats m 0 c).arrAt 7 cfg0.N = up (fun i : S4096x1536.Idx => dxAt P w D (i 0).val (i 1)) := by
  refine (dats m 0 c).arrAt_eq_of_covers 7 _ (by decide +kernel) fun t hf y => ?_
  blk_simp
  rw [after0_7]
  refine (after_dx H t y).trans ?_
  have e := (idx0 t).2.2.2.1
  refine congrArg (fun i : S4096x1536.Idx => ((dxAt P w D (i 0).val (i 1) : ℝ) : EReal)) (a₁ := ix2 (row (iOf t) (y 0)) (col (jOf t) (y 1))) ?_
  blk_ext [row, col, iOf, jOf, e]

theorem taps_up (t : Fin cfg0.N) :
    k0_pay1 (F := Ideal) (k0_pay12 (k0_pay6 (grid0.coords t) (X0_1 m c t) (X0_0 m c t) (X0_2 m c t)))
      (k0_pay13 (k0_pay7 (grid0.coords t) (iblk m c 3 t) (iblk m c 4 t)) (k0_pay8 (grid0.coords t) (iblk m c 5 t) (X0_1 m c t) (X0_0 m c t) (X0_2 m c t))
        (k0_pay9 (grid0.coords t) (iblk m c 5 t) (X0_1 m c t) (X0_0 m c t) (X0_2 m c t)) (iblk m c 6 t))
      (k0_pay14 (k0_pay6 (grid0.coords t) (X0_1 m c t) (X0_0 m c t) (X0_2 m c t)) (k0_pay7 (grid0.coords t) (iblk m c 3 t) (iblk m c 4 t)) (k0_pay8 (grid0.coords t) (iblk m c 5 t) (X0_1 m c t) (X0_0 m c t) (X0_2 m c t))
        (k0_pay9 (grid0.coords t) (iblk m c 5 t) (X0_1 m c t) (X0_0 m c t) (X0_2 m c t)) (iblk m c 6 t))
      (k0_pay15 (k0_pay6 (grid0.coords t) (X0_1 m c t) (X0_0 m c t) (X0_2 m c t)) (k0_pay7 (grid0.coords t) (iblk m c 3 t) (iblk m c 4 t)) (k0_pay8 (grid0.coords t) (iblk m c 5 t) (X0_1 m c t) (X0_0 m c t) (X0_2 m c t))
        (k0_pay9 (grid0.coords t) (iblk m c 5 t) (X0_1 m c t) (X0_0 m c t) (X0_2 m c t)) (iblk m c 6 t)) = up (tapAdd P w D t) := by
  have h := pre_up H t
  rw [rows_up H t, pay1_up _ _ _ _ _ _ h]
  rfl

omit H in
/-- The blocks of a column of blocks add up to the gradient of the taps over all rows. -/
theorem taps_sum (b : Fin 3) (hb : ∀ s : Fin 8, 8 * b.val + s.val < cfg0.N) (i : S8x512.Idx) :
    ∑ s : Fin 8, tapAdd P w D ⟨8 * b.val + s.val, hb s⟩ i = if h : (i 0).val < 4 then dwAt P w D ⟨(i 0).val, h⟩ (col b (i 1)) else 0 := by
  by_cases h : (i 0).val < 4
  · rw [dif_pos h]
    refine Eq.trans ?_ (Fin.sum_mul_add_fin 8 512 (fun s : Fin 4096 => eg P w D s.val (col b (i 1)) * seq P (s.val + (i 0).val) (col b (i 1))))
    refine Finset.sum_congr rfl fun s _ => ?_
    unfold tapAdd
    rw [dif_pos h]
    refine Finset.sum_congr rfl fun q _ => ?_
    have e0 : (8 * b.val + s.val) % 8 = s.val := by omega
    have e1 : jOf ⟨8 * b.val + s.val, hb s⟩ = b := Fin.ext (by show (8 * b.val + s.val) / 8 = b.val; omega)
    refine congrArg₂ (· * ·) ?_ ?_
    · show eg P w D ((8 * b.val + s.val) % 8 * 512 + q.val) (col (jOf ⟨8 * b.val + s.val, hb s⟩) (i 1)) = _
      rw [e0, e1]
    · refine (rows_eq (P := P) ⟨8 * b.val + s.val, hb s⟩ ⟨q.val + 5 + (i 0).val, by omega⟩ (i 1) (by show 5 ≤ q.val + 5 + (i 0).val; omega) (Or.inl (by show q.val + 5 + (i 0).val < 520; omega))).trans ?_
      rw [e1]
      refine congrArg (fun s => seq P s (col b (i 1))) ?_
      show (8 * b.val + s.val) % 8 * 512 + (q.val + 5 + (i 0).val) - 5 = s.val * 512 + q.val + (i 0).val
      omega
  · rw [dif_neg h]
    refine Finset.sum_eq_zero fun s _ => ?_
    unfold tapAdd
    rw [dif_neg h]

/-- The second result array: the gradient of the taps, with four rows of zeros below. -/
theorem final_dw : (dats m 0 c).arrAt 8 cfg0.N = up (fun i : S8x1536.Idx => if h : (i 0).val < 4 then dwAt P w D ⟨(i 0).val, h⟩ (i 1) else 0) := by
  refine (dats m 0 c).arrAt_eq_of_covers 8 _ (by decide +kernel) fun t hf y => ?_
  have hN : t.val < 24 := lt_of_lt_of_eq t.isLt N_0
  have hr := (flush0_8 t).mp hf
  blk_simp
  rw [after0_8]
  refine (Pipeline.eq_sum_fin_of_reset_step_apply_of_flush (fun n h => (outsAt0 m c n h).2.1) 8 (fun _ => (0 : EReal))
    (fun t i => ((tapAdd P w D t i : ℝ) : EReal)) ?_ ?_ t hr _).trans ?_
  · intro t h i
    rw [outsAt0_A m c t h (by omega) h (by omega)]
    frame_out
    rw [taps_up H, zero_add]
    rfl
  · intro t h i
    rw [outsAt0_B m c t h (by omega) h (by omega)]
    frame_out
    unfold k0_pay2
    rw [shapeCast_self]
    show _ + _ = _ + _
    rw [taps_up H]
    rfl
  · rw [sum_up, zero_add]
    have e := (idx0 t).2.2.2.2.1
    refine (congrArg (fun r : ℝ => (r : EReal)) (taps_sum (jOf t) (fun s => Pipeline.run_point_lt_of_flush t hr s) _)).trans ?_
    refine congrArg (fun i : S8x1536.Idx => ((if h : (i 0).val < 4 then dwAt P w D ⟨(i 0).val, h⟩ (i 1) else 0 : ℝ) : EReal)) (a₁ := ix2 (y 0) (col (jOf t) (y 1))) ?_
    blk_ext [col, jOf, e]

end Cert.ConvGdnKIdeal.Block

end
-- ==== Proof.ConvGRef.lean ====
/-
  The reference of the activated convolution's gradient on finite arguments, stage by stage, as real numbers.
-/
module

public import proofs.«01_k».proof.Proof.ConvGArrays
public import proofs.«01_k».proof.Proof.Gen.ConvGdnRIdeal.Read

@[expose] public section

set_option maxRecDepth 16384

noncomputable section

namespace Cert.ConvGdnRIdeal.Stages

open Cert.ConvGdnRIdeal Cert.ConvGdnRIdeal.Gen Cert.ConvGdnRIdeal.Read Idealize.ShloMosaic Idealize.ShloMosaic.TcCoe Idealize.SL.Sem
open Cert.Reals
open Cert.ConvGdnKIdeal.Block (seq cv eg dxAt dwAt dsilu sgm)

variable (P : S4096x3080.Idx → ℝ) (w : S4x1536.Idx → ℝ) (D : S4096x1536.Idx → ℝ)

theorem v2_up : val_main_v2 (F := Ideal) (up P) = up (fun i : S4099x1536.Idx => seq P (i 0).val (i 1)) := by
  funext i
  obtain ⟨a, b, rfl⟩ := exists_ix2 i
  pointwise [val_main_v2, val_main_v1, val_main_v0, val_main_cst]
  show _ = ((seq P a.val b : ℝ) : EReal)
  unfold seq
  by_cases h : a.val < 3
  · rw [dif_pos h, dif_neg (by omega)]
    exact EReal.coe_zero.symm
  · rw [dif_neg h, dif_pos (by omega)]
    exact congrArg (fun k => ((P (ix2 _ k) : ℝ) : EReal)) (Fin.ext (by show 1024 + b.val = b.val + 1024; omega))

/-- The rows of the sequence that a tap meets. -/
theorem v4_up : val_main_v4 (F := Ideal) (up P) = up (fun i : S4096x1536.Idx => seq P (i 0).val (i 1)) := by
  funext i
  pointwise [val_main_v4]
  rw [v2_up]
  rfl

theorem v10_up : val_main_v10 (F := Ideal) (up P) = up (fun i : S4096x1536.Idx => seq P ((i 0).val + 1) (i 1)) := by
  funext i
  pointwise [val_main_v10]
  rw [v2_up]
  exact congrArg (fun s => ((seq P s (i 1) : ℝ) : EReal)) (by show 1 + (i 0).val = _; omega)

theorem v17_up : val_main_v17 (F := Ideal) (up P) = up (fun i : S4096x1536.Idx => seq P ((i 0).val + 2) (i 1)) := by
  funext i
  pointwise [val_main_v17]
  rw [v2_up]
  exact congrArg (fun s => ((seq P s (i 1) : ℝ) : EReal)) (by show 2 + (i 0).val = _; omega)

theorem v24_up : val_main_v24 (F := Ideal) (up P) = up (fun i : S4096x1536.Idx => seq P ((i 0).val + 3) (i 1)) := by
  funext i
  pointwise [val_main_v24]
  rw [v2_up]
  exact congrArg (fun s => ((seq P s (i 1) : ℝ) : EReal)) (by show 3 + (i 0).val = _; omega)

theorem v30_up : val_main_v30 (F := Ideal) (up P) (up w) = up (fun i : S4096x1536.Idx => cv P w (i 0).val (i 1)) := by
  funext i
  obtain ⟨a, b, rfl⟩ := exists_ix2 i
  pointwise [val_main_v30, val_main_v29, val_main_v28, val_main_v27, val_main_v26, val_main_v25, val_main_v23, val_main_v22, val_main_v21, val_main_v20,
    val_main_v19, val_main_v18, val_main_v16, val_main_v15, val_main_v14, val_main_v13, val_main_v12, val_main_v11, val_main_v9, val_main_v8, val_main_v7, val_main_v6, val_main_v5]
  rw [v4_up, v10_up, v17_up, v24_up]
  simp only [up_apply, mul_up, add_up]
  rfl

theorem sg_up : val_main_v31_2 (F := Ideal) (up P) (up w) = up (fun i : S4096x1536.Idx => sgm (cv P w (i 0).val (i 1))) := by
  funext i
  pointwise [val_main_v31_2, val_main_call0_v4, val_main_call0_v3, val_main_call0_v2, val_main_call0_v1, val_main_call0_v0, val_main_call0_cst, val_main_call0_cst_0]
  rw [v30_up]
  show Ideal.div 1 (1 + Ideal.exp (-((cv P w (i 0).val (i 1) : ℝ) : EReal))) = _
  rw [← EReal.coe_neg, Ideal.exp_coe, ← EReal.coe_one, add_up, div_up (by positivity : (1 : ℝ) + Real.exp (-cv P w (i 0).val (i 1)) ≠ 0), one_div]
  rfl

theorem v32_up : val_main_v32 (F := Ideal) (up P) (up w) (up D) = up (fun i : S4096x1536.Idx => eg P w D (i 0).val (i 1)) := by
  funext i
  obtain ⟨a, b, rfl⟩ := exists_ix2 i
  pointwise [val_main_v32, val_main_call1_v2, val_main_call1_v1, val_main_call1_v0, val_main_v31_1, val_main_call0_v7, val_main_call0_v6, val_main_call0_cst_1]
  rw [v30_up, sg_up, ← EReal.coe_one]
  simp only [up_apply, mul_up, add_up, sub_up]
  refine congrArg (fun r : ℝ => (r : EReal)) ?_
  show D (ix2 a b) * sgm (cv P w a.val b) + cv P w a.val b * D (ix2 a b) * (sgm (cv P w a.val b) * (1 - sgm (cv P w a.val b))) = eg P w D a.val b
  unfold eg dsilu
  rw [dif_pos a.isLt]
  ring

/-- What one tap hands back to a padded row. -/
def handed (n : ℕ) (o : Fin 4) (s : ℕ) (k : Fin 1536) : ℝ := if n ≤ s then eg P w D (s - n) k * w (ix2 o k) else 0

theorem v41_up : val_main_v41 (F := Ideal) (up P) (up w) (up D) = up (fun i : S4099x1536.Idx => handed P w D 3 3 (i 0).val (i 1)) := by
  funext i
  obtain ⟨a, b, rfl⟩ := exists_ix2 i
  pointwise [val_main_v41, val_main_cst_4, val_main_v37, val_main_v36, val_main_v27, val_main_v26, val_main_v25]
  rw [v32_up]
  show _ = ((handed P w D 3 3 a.val b : ℝ) : EReal)
  unfold handed
  by_cases h : a.val - 3 < 4096 ∧ 3 ≤ a.val
  · rw [dif_pos (by omega), if_pos (by omega)]
    exact mul_up _ _
  · rw [dif_neg (by omega)]
    split_ifs with h3
    · have e : eg P w D (a.val - 3) b = 0 := dif_neg (by omega)
      rw [e, zero_mul]
      exact EReal.coe_zero.symm
    · exact EReal.coe_zero.symm

theorem v51_up : val_main_v51 (F := Ideal) (up P) (up w) (up D) = up (fun i : S4099x1536.Idx => handed P w D 2 2 (i 0).val (i 1)) := by
  funext i
  obtain ⟨a, b, rfl⟩ := exists_ix2 i
  pointwise [val_main_v51, val_main_cst_8, val_main_v46, val_main_v45, val_main_v20, val_main_v19, val_main_v18]
  rw [v32_up]
  show _ = ((handed P w D 2 2 a.val b : ℝ) : EReal)
  unfold handed
  by_cases h : a.val - 2 < 4096 ∧ 2 ≤ a.val
  · rw [dif_pos (by omega), if_pos (by omega)]
    exact mul_up _ _
  · rw [dif_neg (by omega)]
    split_ifs with h3
    · have e : eg P w D (a.val - 2) b = 0 := dif_neg (by omega)
      rw [e, zero_mul]
      exact EReal.coe_zero.symm
    · exact EReal.coe_zero.symm

theorem v62_up : val_main_v62 (F := Ideal) (up P) (up w) (up D) = up (fun i : S4099x1536.Idx => handed P w D 1 1 (i 0).val (i 1)) := by
  funext i
  obtain ⟨a, b, rfl⟩ := exists_ix2 i
  pointwise [val_main_v62, val_main_cst_12, val_main_v57, val_main_v56, val_main_v13, val_main_v12, val_main_v11]
  rw [v32_up]
  show _ = ((handed P w D 1 1 a.val b : ℝ) : EReal)
  unfold handed
  by_cases h : a.val - 1 < 4096 ∧ 1 ≤ a.val
  · rw [dif_pos (by omega), if_pos (by omega)]
    exact mul_up _ _
  · rw [dif_neg (by omega)]
    split_ifs with h3
    · have e : eg P w D (a.val - 1) b = 0 := dif_neg (by omega)
      rw [e, zero_mul]
      exact EReal.coe_zero.symm
    · exact EReal.coe_zero.symm

theorem v73_up : val_main_v73 (F := Ideal) (up P) (up w) (up D) = up (fun i : S4099x1536.Idx => handed P w D 0 0 (i 0).val (i 1)) := by
  funext i
  obtain ⟨a, b, rfl⟩ := exists_ix2 i
  pointwise [val_main_v73, val_main_cst_16, val_main_v68, val_main_v67, val_main_v7, val_main_v6, val_main_v5]
  rw [v32_up]
  show _ = ((handed P w D 0 0 a.val b : ℝ) : EReal)
  unfold handed
  by_cases h : a.val - 0 < 4096 ∧ 0 ≤ a.val
  · rw [dif_pos (by omega), if_pos (by omega)]
    exact mul_up _ _
  · rw [dif_neg (by omega)]
    split_ifs with h3
    · have e : eg P w D (a.val - 0) b = 0 := dif_neg (by omega)
      rw [e, zero_mul]
      exact EReal.coe_zero.symm
    · exact EReal.coe_zero.symm

/-- The gradient of the input's columns. -/
theorem v76_up : val_main_v76 (F := Ideal) (up P) (up w) (up D) = up (fun i : S4096x1536.Idx => dxAt P w D (i 0).val (i 1)) := by
  funext i
  obtain ⟨a, b, rfl⟩ := exists_ix2 i
  pointwise [val_main_v76, val_main_v74, val_main_v63, val_main_v52]
  rw [v41_up, v51_up, v62_up, v73_up]
  simp only [up_apply, add_up]
  refine congrArg (fun r : ℝ => (r : EReal)) ?_
  show handed P w D 3 3 (3 + a.val) b + handed P w D 2 2 (3 + a.val) b + handed P w D 1 1 (3 + a.val) b + handed P w D 0 0 (3 + a.val) b = dxAt P w D a.val b
  unfold handed dxAt
  rw [if_pos (by omega), if_pos (by omega), if_pos (by omega), if_pos (by omega), show 3 + a.val - 3 = a.val by omega, show 3 + a.val - 2 = a.val + 1 by omega,
    show 3 + a.val - 1 = a.val + 2 by omega, show 3 + a.val - 0 = a.val + 3 by omega]

theorem v40_up : val_main_v40 (F := Ideal) (up P) (up w) (up D) = up (fun i : S4x1536.Idx => if (i 0).val = 3 then dwAt P w D 3 (i 1) else 0) := by
  funext i
  obtain ⟨a, b, rfl⟩ := exists_ix2 i
  pointwise [val_main_v40, val_main_v39, val_main_v38, val_main_v35, val_main_v34, val_main_v33, val_main_cst_1, val_main_cst_2, val_main_cst_3]
  rw [v32_up, v24_up]
  simp only [up_apply, mul_up, sum_up, lit_zero, add_up, zero_add, Fin.sum_univ_one]
  show _ = ((if a.val = 3 then dwAt P w D 3 b else 0 : ℝ) : EReal)
  by_cases h : a.val = 3
  · rw [dif_pos (by omega), if_pos h]
    exact congrArg (fun r : ℝ => (r : EReal)) (Finset.sum_congr rfl fun _ _ => mul_comm _ _)
  · rw [dif_neg (by omega), if_neg h]
    exact EReal.coe_zero.symm

theorem v49_up : val_main_v49 (F := Ideal) (up P) (up w) (up D) = up (fun i : S4x1536.Idx => if (i 0).val = 2 then dwAt P w D 2 (i 1) else 0) := by
  funext i
  obtain ⟨a, b, rfl⟩ := exists_ix2 i
  pointwise [val_main_v49, val_main_v48, val_main_v47, val_main_v44, val_main_v43, val_main_v42, val_main_cst_5, val_main_cst_6, val_main_cst_7]
  rw [v32_up, v17_up]
  simp only [up_apply, mul_up, sum_up, lit_zero, add_up, zero_add, Fin.sum_univ_one]
  show _ = ((if a.val = 2 then dwAt P w D 2 b else 0 : ℝ) : EReal)
  by_cases h : a.val = 2
  · rw [dif_pos (by omega), if_pos h]
    exact congrArg (fun r : ℝ => (r : EReal)) (Finset.sum_congr rfl fun _ _ => mul_comm _ _)
  · rw [dif_neg (by omega), if_neg h]
    exact EReal.coe_zero.symm

theorem v60_up : val_main_v60 (F := Ideal) (up P) (up w) (up D) = up (fun i : S4x1536.Idx => if (i 0).val = 1 then dwAt P w D 1 (i 1) else 0) := by
  funext i
  obtain ⟨a, b, rfl⟩ := exists_ix2 i
  pointwise [val_main_v60, val_main_v59, val_main_v58, val_main_v55, val_main_v54, val_main_v53, val_main_cst_9, val_main_cst_10, val_main_cst_11]
  rw [v32_up, v10_up]
  simp only [up_apply, mul_up, sum_up, lit_zero, add_up, zero_add, Fin.sum_univ_one]
  show _ = ((if a.val = 1 then dwAt P w D 1 b else 0 : ℝ) : EReal)
  by_cases h : a.val = 1
  · rw [dif_pos (by omega), if_pos h]
    exact congrArg (fun r : ℝ => (r : EReal)) (Finset.sum_congr rfl fun _ _ => mul_comm _ _)
  · rw [dif_neg (by omega), if_neg h]
    exact EReal.coe_zero.symm

theorem v71_up : val_main_v71 (F := Ideal) (up P) (up w) (up D) = up (fun i : S4x1536.Idx => if (i 0).val = 0 then dwAt P w D 0 (i 1) else 0) := by
  funext i
  obtain ⟨a, b, rfl⟩ := exists_ix2 i
  pointwise [val_main_v71, val_main_v70, val_main_v69, val_main_v66, val_main_v65, val_main_v64, val_main_cst_13, val_main_cst_14, val_main_cst_15]
  rw [v32_up, v4_up]
  simp only [up_apply, mul_up, sum_up, lit_zero, add_up, zero_add, Fin.sum_univ_one]
  show _ = ((if a.val = 0 then dwAt P w D 0 b else 0 : ℝ) : EReal)
  by_cases h : a.val = 0
  · rw [dif_pos (by omega), if_pos h]
    exact congrArg (fun r : ℝ => (r : EReal)) (Finset.sum_congr rfl fun _ _ => mul_comm _ _)
  · rw [dif_neg (by omega), if_neg h]
    exact EReal.coe_zero.symm

/-- The gradient of the taps, with four rows of zeros below. -/
theorem v77_up : val_main_v77 (F := Ideal) (up P) (up w) (up D) = up (fun i : S8x1536.Idx => if h : (i 0).val < 4 then dwAt P w D ⟨(i 0).val, h⟩ (i 1) else 0) := by
  funext i
  obtain ⟨a, b, rfl⟩ := exists_ix2 i
  pointwise [val_main_v77, val_main_v72, val_main_v61, val_main_v50, val_main_call2_v0, val_main_c]
  rw [v40_up, v49_up, v60_up, v71_up]
  show _ = ((if h : a.val < 4 then dwAt P w D ⟨a.val, h⟩ b else 0 : ℝ) : EReal)
  by_cases h : a.val < 4
  · rw [dif_pos h, dif_pos h]
    obtain ⟨a, ha⟩ := a
    simp only [up_apply, add_up]
    refine congrArg (fun r : ℝ => (r : EReal)) ?_
    have : a = 0 ∨ a = 1 ∨ a = 2 ∨ a = 3 := by simp only [] at h; omega
    rcases this with rfl | rfl | rfl | rfl <;> simp <;> rfl
  · rw [dif_neg h, dif_neg h]
    exact sitofp_zero

end Cert.ConvGdnRIdeal.Stages

end
-- ==== Proof.ConvGClaim.lean ====
/-
  The gradient call of the activated convolution against the derivative: the claims.
-/
module

public import proofs.«01_k».proof.Defs
public import proofs.«01_k».proof.Proof.ConvGResults
public import proofs.«01_k».proof.Proof.ConvGRef
public import proofs.«01_k».proof.Proof.Gen.ConvGdnRIdeal.Run
public import proofs.«01_k».proof.Proof.Gen.ConvGdnK.Frame
public import proofs.«01_k».proof.Proof.Gen.ConvGdnKIdeal.Frame
public import proofs.«01_k».proof.Proof.Gen.Pre_finite_convgdn
public import Idealize.ShloMosaic.Lib.Claim
public import Idealize.ShloMosaic.Lib.Quiescent

@[expose] public section

set_option maxRecDepth 16384

noncomputable section

namespace Cert.ConvGClaim

open Idealize.ShloMosaic Idealize.ShloMosaic.TcCoe Idealize.SL.Sem Cert.Reals
open Cert.ConvGdnKIdeal.Block (Finite dxAt dwAt)

/-- The arguments are arrays of real numbers. -/
theorem finite (m : (ℓ : Loc Cert.ConvGdnKIdeal.nD Cert.ConvGdnKIdeal.τ Cert.ConvGdnKIdeal.sig) → Buf (Elt Ideal) ℓ)
    (h : Cert.Pre_ConvGdnKIdeal_finite_convgdn m) (c : Dev Cert.ConvGdnKIdeal.nD) :
    ∃ (P : Cert.ConvGdnKIdeal.S4096x3080.Idx → ℝ) (w : Cert.ConvGdnKIdeal.S4x1536.Idx → ℝ) (D : Cert.ConvGdnKIdeal.S4096x1536.Idx → ℝ), Finite m c P w D := by
  obtain ⟨h0, h1, h2⟩ := h c
  obtain ⟨P, hP⟩ := exists_up h0
  obtain ⟨w, hw⟩ := exists_up h1
  obtain ⟨D, hD⟩ := exists_up h2
  exact ⟨P, w, D, ⟨hP, hw, hD⟩⟩

/-- On finite arguments the call and the reference end with the same two gradients. -/
theorem algebraic : Cert.algebraic_ConvGdnKIdeal_ConvGdnRIdeal_pre_finite_convgdn := by
  intro m g m' g' hpre hag
  choose P w D H using finite m hpre
  refine ⟨fun c => up (fun i : Cert.ConvGdnKIdeal.S4096x1536.Idx => dxAt (P c) (w c) (D c) (i 0).val (i 1)),
    fun c => up (fun i : Cert.ConvGdnKIdeal.S8x1536.Idx => if h : (i 0).val < 4 then dwAt (P c) (w c) (D c) ⟨(i 0).val, h⟩ (i 1) else 0), ?_, ?_⟩
  · refine (θ_run Cert.ConvGdnKIdeal.defs _ _).mono (fun _ h c => ?_) (Cert.ConvGdnKIdeal.Value.run_blocks (F := Ideal) m g)
    obtain ⟨r0, r1, r2, rest⟩ := h c
    exact ⟨r0.trans (Cert.ConvGdnKIdeal.Block.final_dx (H c)), r1.trans (Cert.ConvGdnKIdeal.Block.final_dw (H c)), rest⟩
  · refine (θ_run Cert.ConvGdnRIdeal.defs _ _).mono (fun _ h c => ?_) (Cert.ConvGdnRIdeal.Value.run (F := Ideal) m' g')
    obtain ⟨e0, e1, e2⟩ := hag c
    have h0 := e0.trans (H c).h0
    have h1 := e1.trans (H c).h1
    have h2 := e2.trans (H c).h2
    obtain ⟨r0, r1, rest⟩ := h c
    refine ⟨(r0.trans (Cert.ConvGdnRIdeal.Read.val_main_v76_eq ..)).trans ?_, (r1.trans (Cert.ConvGdnRIdeal.Read.val_main_v77_eq ..)).trans ?_, rest⟩
    · rw [h0, h1, h2]; exact Cert.ConvGdnRIdeal.Stages.v76_up _ _ _
    · rw [h0, h1, h2]; exact Cert.ConvGdnRIdeal.Stages.v77_up _ _ _

/-- The reference terminates, keeps its arguments and has no semaphore to leave. -/
theorem frame_ref : Cert.quiescent_ConvGdnRIdeal := fun m g _ =>
  (θ_run Cert.ConvGdnRIdeal.defs _ _).mono (fun r h => ⟨fun c => (h c).2.2, sem_eq_zero_of_no_sems rfl r.2⟩)
    (Cert.ConvGdnRIdeal.Value.run (F := Ideal) m g)

end Cert.ConvGClaim

end
-- ==== Proof.OutMath.lean ====
/-
  The backward call of the gated norm and the output projection: what one head's row of 128 columns gives, as real
  numbers, and that each value of the kernel's body is one of them.
-/
module

public import proofs.«01_k».proof.Proof.Reals
public import proofs.«01_k».proof.Proof.Gen.OutBwdKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.OutBwdKIdeal.Block

open Cert.OutBwdKIdeal Cert.OutBwdKIdeal.Gen Idealize.ShloMosaic Idealize.ShloMosaic.TcCoe Idealize.SL.Sem
open Cert.Reals

theorem lit_128 : Ideal.ofBits .f32 0x43000000#32 = ((128 : ℝ) : EReal) := by simp [Ideal.ofBits, Ideal.ieee, -EReal.coe_mul]; norm_num

/-! ## One head's row -/

section Row
variable (x z g w : Fin 128 → ℝ)

/-- The mean square of a row of 128 columns, with the small constant added. -/
def ms : ℝ := (∑ k, x k * x k) / 128 + eps

theorem ms_pos : 0 < ms x :=
  add_pos_of_nonneg_of_pos (div_nonneg (Finset.sum_nonneg fun k _ => mul_self_nonneg (x k)) (by norm_num)) eps_pos

/-- One over the root mean square. -/
def rs : ℝ := (√(ms x))⁻¹

theorem rsqrt_ms : Ideal.rsqrt ((ms x : ℝ) : EReal) = ((rs x : ℝ) : EReal) := rsqrt_up (ms_pos x)
theorem div_ms (a : ℝ) : Ideal.div ((a : ℝ) : EReal) ((ms x : ℝ) : EReal) = ((a / ms x : ℝ) : EReal) := div_up (ms_pos x).ne'

/-- The derivative of `rs` by the mean square. -/
def slope : ℝ := -(1 / 2) * (rs x / ms x)
/-- The normalised row. -/
def hat (k : Fin 128) : ℝ := x k * rs x
/-- The logistic function. -/
def lgs (v : ℝ) : ℝ := (1 + Real.exp (-v))⁻¹
/-- The gradient at the norm's result. -/
def dn (k : Fin 128) : ℝ := g k * (z k * lgs (z k))
/-- The gradient at the gate's activation. -/
def da (k : Fin 128) : ℝ := hat x k * w k * g k
/-- The gradient at the gate. -/
def dZ (k : Fin 128) : ℝ := da x g w k * lgs (z k) + z k * da x g w k * (lgs (z k) * (1 - lgs (z k)))
/-- What reaches the row through its mean square. -/
def back : ℝ := (∑ k, x k * (dn z g k * w k)) * slope x / 128
/-- The gradient at the row that the norm takes in. -/
def dO (k : Fin 128) : ℝ := dn z g k * w k * rs x + x k * back x z g w + back x z g w * x k
/-- The row's part of the gradient of the norm's weight. -/
def dW (k : Fin 128) : ℝ := hat x k * dn z g k

end Row

theorem logistic_up (v : ℝ) : Ideal.logistic ((v : ℝ) : EReal) = ((lgs v : ℝ) : EReal) := by rw [Ideal.logistic_coe]; rfl

/-! ## A block of 512 rows of four heads -/

/-- A vector as a matrix of one row. -/
def wrow (v : S128.Idx → ℝ) (y : S1x128.Idx) : ℝ := v (ix1 (y 1))
def grow (v : S1024.Idx → ℝ) (y : S1x1024.Idx) : ℝ := v (ix1 (y 1))
/-- A vector's entries. -/
abbrev ent (v : S128.Idx → ℝ) (k : Fin 128) : ℝ := v (ix1 k)

/-- Column `k` of head `h`, and the same among the columns that the output projection takes in. -/
def hc (h : Fin 4) (k : Fin 128) : Fin 512 := ⟨h.val * 128 + k.val, by omega⟩
def up512 (k : Fin 512) : Fin 1024 := ⟨512 + k.val, by omega⟩

variable (O Z : S512x512.Idx → ℝ) (E : S512x1024.Idx → ℝ) (w : S128.Idx → ℝ)

/-- The row of head `h`. -/
abbrev hd (O : S512x512.Idx → ℝ) (h : Fin 4) (r : Fin 512) (k : Fin 128) : ℝ := O (ix2 r (hc h k))
/-- The row of head `h` of the gradient at the projection's input. -/
abbrev hg (h : Fin 4) (r : Fin 512) (k : Fin 128) : ℝ := E (ix2 r (up512 (hc h k)))

/-- A function of a head's row and column, as an array. -/
abbrev arr (f : Fin 512 → Fin 128 → ℝ) : FVec Ideal S512x128 .f32 := up fun j : S512x128.Idx => f (j 0) (j 1)
/-- A function of a row, as an array of one column. -/
abbrev colm (f : Fin 512 → ℝ) : FVec Ideal S512x1 .f32 := up fun j : S512x1.Idx => f (j 0)

theorem o_up : k0_pay9 (up O) = arr (hd O 0) ∧ k0_pay19 (up O) = arr (hd O 1) ∧ k0_pay29 (up O) = arr (hd O 2) ∧ k0_pay40 (up O) = arr (hd O 3) := by
  refine ⟨?_, ?_, ?_, ?_⟩ <;>
  · funext j
    simp only [k0_pay9, k0_pay19, k0_pay29, k0_pay40]
    pointwise
    exact congrArg (fun i => ((O i : ℝ) : EReal)) (congrArg (ix2 _) (Fin.ext (by simp [hc, Nat.add_comm])))

theorem z_up : k0_pay15 (up Z) = arr (hd Z 0) ∧ k0_pay25 (up Z) = arr (hd Z 1) ∧ k0_pay36 (up Z) = arr (hd Z 2) ∧ k0_pay45 (up Z) = arr (hd Z 3) := by
  refine ⟨?_, ?_, ?_, ?_⟩ <;>
  · funext j
    simp only [k0_pay15, k0_pay25, k0_pay36, k0_pay45]
    pointwise
    exact congrArg (fun i => ((Z i : ℝ) : EReal)) (congrArg (ix2 _) (Fin.ext (by simp [hc, Nat.add_comm])))

theorem g_up : k0_pay49 (up E) = arr (hg E 0) ∧ k0_pay50 (up E) = arr (hg E 1) ∧ k0_pay51 (up E) = arr (hg E 2) ∧ k0_pay52 (up E) = arr (hg E 3) := by
  refine ⟨?_, ?_, ?_, ?_⟩ <;>
  · funext j
    simp only [k0_pay48, k0_pay49, k0_pay50, k0_pay51, k0_pay52]
    pointwise
    exact congrArg (fun i => ((E i : ℝ) : EReal)) (congrArg (ix2 _) (Fin.ext (by simp [hc, up512, Nat.add_comm, Nat.add_left_comm])))

theorem ms_up : k0_pay10 (up O) = colm (fun r => ms (hd O 0 r)) ∧ k0_pay20 (up O) = colm (fun r => ms (hd O 1 r))
    ∧ k0_pay31 (k0_pay30 (up O)) = colm (fun r => ms (hd O 2 r)) ∧ k0_pay41 (up O) = colm (fun r => ms (hd O 3 r)) := by
  obtain ⟨e0, e1, e2, e3⟩ := o_up O
  refine ⟨?_, ?_, ?_, ?_⟩ <;>
  · funext j
    simp only [k0_pay10, k0_pay20, k0_pay31, k0_pay30, k0_pay41, e0, e1, e2, e3]
    pointwise
    simp (disch := norm_num) only [up_apply, mul_up, sum_up, lit_128, div_up, lit_eps, add_up]
    rfl

theorem rs_up : k0_pay11 (up O) = colm (fun r => rs (hd O 0 r)) ∧ k0_pay21 (up O) = colm (fun r => rs (hd O 1 r))
    ∧ k0_pay32 (k0_pay30 (up O)) = colm (fun r => rs (hd O 2 r)) ∧ k0_pay42 (up O) = colm (fun r => rs (hd O 3 r)) := by
  obtain ⟨e0, e1, e2, e3⟩ := ms_up O
  refine ⟨?_, ?_, ?_, ?_⟩ <;>
  · funext j
    simp only [k0_pay11, k0_pay21, k0_pay32, k0_pay42, e0, e1, e2, e3]
    pointwise
    simp only [up_apply, rsqrt_ms]

theorem slope_up : k0_pay12 (up O) = colm (fun r => slope (hd O 0 r)) ∧ k0_pay22 (up O) = colm (fun r => slope (hd O 1 r))
    ∧ k0_pay33 (k0_pay30 (up O)) = colm (fun r => slope (hd O 2 r)) ∧ k0_pay43 (up O) = colm (fun r => slope (hd O 3 r)) := by
  obtain ⟨e0, e1, e2, e3⟩ := ms_up O
  obtain ⟨f0, f1, f2, f3⟩ := rs_up O
  refine ⟨?_, ?_, ?_, ?_⟩ <;>
  · funext j
    simp only [k0_pay12, k0_pay22, k0_pay33, k0_pay43, e0, e1, e2, e3, f0, f1, f2, f3]
    pointwise
    simp only [up_apply, div_ms, lit_neg_half, mul_up]
    rfl

theorem hat_up : k0_pay13 (up O) = arr (fun r => hat (hd O 0 r)) ∧ k0_pay23 (up O) = arr (fun r => hat (hd O 1 r))
    ∧ k0_pay34 (k0_pay29 (up O)) (k0_pay30 (up O)) = arr (fun r => hat (hd O 2 r)) ∧ k0_pay44 (up O) = arr (fun r => hat (hd O 3 r)) := by
  obtain ⟨e0, e1, e2, e3⟩ := o_up O
  obtain ⟨f0, f1, f2, f3⟩ := rs_up O
  refine ⟨?_, ?_, ?_, ?_⟩ <;>
  · funext j
    simp only [k0_pay13, k0_pay23, k0_pay34, k0_pay44, e0, e1, e2, e3, f0, f1, f2, f3]
    pointwise
    simp only [up_apply, mul_up]
    rfl

theorem lgs_up : k0_pay16 (up Z) = arr (fun r k => lgs (hd Z 0 r k)) ∧ k0_pay26 (up Z) = arr (fun r k => lgs (hd Z 1 r k))
    ∧ k0_pay37 (up Z) = arr (fun r k => lgs (hd Z 2 r k)) ∧ k0_pay46 (up Z) = arr (fun r k => lgs (hd Z 3 r k)) := by
  obtain ⟨e0, e1, e2, e3⟩ := z_up Z
  refine ⟨?_, ?_, ?_, ?_⟩ <;>
  · funext j
    simp only [k0_pay16, k0_pay26, k0_pay37, k0_pay46, e0, e1, e2, e3]
    pointwise
    simp only [up_apply, logistic_up]

theorem dlgs_up : k0_pay17 (up Z) = arr (fun r k => lgs (hd Z 0 r k) * (1 - lgs (hd Z 0 r k))) ∧ k0_pay27 (up Z) = arr (fun r k => lgs (hd Z 1 r k) * (1 - lgs (hd Z 1 r k)))
    ∧ k0_pay38 (up Z) = arr (fun r k => lgs (hd Z 2 r k) * (1 - lgs (hd Z 2 r k))) ∧ k0_pay47 (up Z) = arr (fun r k => lgs (hd Z 3 r k) * (1 - lgs (hd Z 3 r k))) := by
  obtain ⟨e0, e1, e2, e3⟩ := lgs_up Z
  refine ⟨?_, ?_, ?_, ?_⟩ <;>
  · funext j
    simp only [k0_pay17, k0_pay27, k0_pay38, k0_pay47, e0, e1, e2, e3]
    pointwise
    simp only [up_apply, ← EReal.coe_one, sub_up, mul_up]

theorem dn_up : k0_pay70 (k0_pay18 (up Z)) (k0_pay49 (up E)) = arr (fun r => dn (hd Z 0 r) (hg E 0 r))
    ∧ k0_pay65 (k0_pay28 (up Z)) (k0_pay50 (up E)) = arr (fun r => dn (hd Z 1 r) (hg E 1 r))
    ∧ k0_pay58 (k0_pay39 (up Z)) (k0_pay51 (up E)) = arr (fun r => dn (hd Z 2 r) (hg E 2 r))
    ∧ k0_pay54 (up E) (up Z) = arr (fun r => dn (hd Z 3 r) (hg E 3 r)) := by
  obtain ⟨e0, e1, e2, e3⟩ := z_up Z
  obtain ⟨f0, f1, f2, f3⟩ := lgs_up Z
  obtain ⟨g0, g1, g2, g3⟩ := g_up E
  refine ⟨?_, ?_, ?_, ?_⟩ <;>
  · funext j
    simp only [k0_pay70, k0_pay18, k0_pay65, k0_pay28, k0_pay58, k0_pay39, k0_pay54, e0, e1, e2, e3, f0, f1, f2, f3, g0, g1, g2, g3]
    pointwise
    simp only [up_apply, mul_up]
    rfl

theorem w_up : k0_pay8 (F := Ideal) (up (wrow w)) = up (wrow w) := by
  unfold k0_pay8
  simp only [shapeCast_self]

theorem nrm_up : k0_pay14 (up O) (up (wrow w)) = arr (fun r k => hat (hd O 0 r) k * ent w k)
    ∧ k0_pay24 (up O) (up (wrow w)) = arr (fun r k => hat (hd O 1 r) k * ent w k)
    ∧ k0_pay35 (up (wrow w)) (k0_pay29 (up O)) (k0_pay30 (up O)) = arr (fun r k => hat (hd O 2 r) k * ent w k) := by
  obtain ⟨e0, e1, e2, e3⟩ := hat_up O
  refine ⟨?_, ?_, ?_⟩ <;>
  · funext j
    simp only [k0_pay14, k0_pay24, k0_pay35, w_up, e0, e1, e2, e3]
    pointwise
    simp only [up_apply, mul_up]
    rfl

theorem da_up : k0_pay69 (k0_pay14 (up O) (up (wrow w))) (k0_pay49 (up E)) = arr (fun r => da (hd O 0 r) (hg E 0 r) (ent w))
    ∧ k0_pay53 (up E) (up O) (up (wrow w)) = arr (fun r => da (hd O 3 r) (hg E 3 r) (ent w)) := by
  obtain ⟨e0, e1, e2, e3⟩ := hat_up O
  obtain ⟨g0, g1, g2, g3⟩ := g_up E
  refine ⟨?_, ?_⟩ <;>
  · funext j
    simp only [k0_pay69, k0_pay53, nrm_up, e3, g0, g3]
    pointwise
    simp only [up_apply, mul_up]
    rfl

theorem da3_up : k0_pay55 (up E) (up O) (up Z) (up (wrow w)) = arr (fun r k => hd Z 3 r k * da (hd O 3 r) (hg E 3 r) (ent w) k)
    ∧ k0_pay56 (up E) (up O) (up Z) (up (wrow w)) = arr (fun r k => da (hd O 3 r) (hg E 3 r) (ent w) k * lgs (hd Z 3 r k)) := by
  refine ⟨?_, ?_⟩ <;>
  · funext j
    simp only [k0_pay55, k0_pay56, (da_up O E w).2, (z_up Z).2.2.2, (lgs_up Z).2.2.2]
    pointwise
    simp only [up_apply, mul_up]

end Cert.OutBwdKIdeal.Block

end
-- ==== Proof.OutSum.lean ====
/-
  The backward call of the gated norm and the output projection: the four heads' gradients, side by side.
-/
module

public import proofs.«01_k».proof.Proof.OutMath

@[expose] public section

set_option maxRecDepth 16384

noncomputable section

namespace Cert.OutBwdKIdeal.Block

open Cert.OutBwdKIdeal Cert.OutBwdKIdeal.Gen Idealize.ShloMosaic Idealize.ShloMosaic.TcCoe Idealize.SL.Sem
open Cert.Reals

variable (O Z V : S512x512.Idx → ℝ) (E : S512x1024.Idx → ℝ) (w : S128.Idx → ℝ) (x z g : Fin 512 → Fin 128 → ℝ)

/-- The columns of head `h`, and zero elsewhere. -/
def put (h : ℕ) (f : Fin 512 → Fin 128 → ℝ) (j : S512x512.Idx) : ℝ :=
  if (j 1).val / 128 = h then f (j 0) ⟨(j 1).val % 128, Nat.mod_lt _ (by norm_num)⟩ else 0

theorem put_of {h : ℕ} (f : Fin 512 → Fin 128 → ℝ) {a b : Fin 512} (k : Fin 128) (e : b.val = h * 128 + k.val) : put h f (ix2 a b) = f a k := by
  have hk : (⟨b.val % 128, Nat.mod_lt _ (by norm_num)⟩ : Fin 128) = k := Fin.ext (by show b.val % 128 = k.val; omega)
  exact (if_pos (show b.val / 128 = h by omega)).trans (congrArg (f a) hk)

theorem put_ne {h : ℕ} (f : Fin 512 → Fin 128 → ℝ) {a b : Fin 512} (e : b.val / 128 ≠ h) : put h f (ix2 a b) = 0 := if_neg e

/-- The four heads, side by side. -/
def heads (f : Fin 4 → Fin 512 → Fin 128 → ℝ) (j : S512x512.Idx) : ℝ :=
  f ⟨(j 1).val / 128, by have h : (j 1).val < 512 := (j 1).isLt; omega⟩ (j 0) ⟨(j 1).val % 128, Nat.mod_lt _ (by norm_num)⟩

theorem put_heads (f : Fin 4 → Fin 512 → Fin 128 → ℝ) (j : S512x512.Idx) :
    put 3 (f 3) j + put 2 (f 2) j + put 1 (f 1) j + put 0 (f 0) j = heads f j := by
  obtain ⟨a, b, rfl⟩ := exists_ix2 j
  have hb := b.isLt
  have key : ∀ h : Fin 4, b.val / 128 = h.val → heads f (ix2 a b) = f h a ⟨b.val % 128, Nat.mod_lt _ (by norm_num)⟩ :=
    fun h e => congrArg (fun h => f h a ⟨b.val % 128, Nat.mod_lt _ (by norm_num)⟩) (Fin.ext e)
  have hc : b.val / 128 = 0 ∨ b.val / 128 = 1 ∨ b.val / 128 = 2 ∨ b.val / 128 = 3 := by omega
  show (if b.val / 128 = 3 then _ else 0) + (if b.val / 128 = 2 then _ else 0) + (if b.val / 128 = 1 then _ else 0) + (if b.val / 128 = 0 then _ else (0 : ℝ)) = _
  rcases hc with h | h | h | h
  · rw [key 0 h]; simp [h, ix2]
  · rw [key 1 h]; simp [h, ix2]
  · rw [key 2 h]; simp [h, ix2]
  · rw [key 3 h]; simp [h, ix2]

theorem pay71_up : k0_pay71 (F := Ideal) (arr z) (arr fun r k => lgs (z r k)) (arr fun r k => lgs (z r k) * (1 - lgs (z r k))) (up V)
      (arr fun r => da (x r) (g r) (ent w)) = up fun j => V j + put 0 (fun r => dZ (x r) (z r) (g r) (ent w)) j := by
  funext j
  obtain ⟨a, b, rfl⟩ := exists_ix2 j
  unfold k0_pay71
  pointwise
  simp only [up_apply, mul_up, add_up]
  by_cases h : b.val < 128
  · rw [dif_pos h, put_of _ ⟨b.val, h⟩ (by simp)]
    simp only [add_zero, zero_add, add_up, EReal.coe_zero]
    try rfl
  · rw [dif_neg h, put_ne _ (by omega)]
    simp only [add_zero, zero_add, add_up, EReal.coe_zero]
    try rfl

theorem pay66_up : k0_pay66 (F := Ideal) (arr fun r k => hat (x r) k * ent w k) (arr z) (arr fun r k => lgs (z r k))
      (arr fun r k => lgs (z r k) * (1 - lgs (z r k))) (arr g) (up V) = up fun j => V j + put 1 (fun r => dZ (x r) (z r) (g r) (ent w)) j := by
  funext j
  obtain ⟨a, b, rfl⟩ := exists_ix2 j
  unfold k0_pay66
  pointwise
  simp only [up_apply, mul_up, add_up]
  by_cases h : b.val < 256
  · rw [dif_pos h]
    by_cases h' : b.val < 128
    · rw [dif_pos h', put_ne _ (by omega)]
      simp only [add_zero, zero_add, add_up, EReal.coe_zero]
      try rfl
    · rw [dif_neg h', put_of _ ⟨b.val - 128, by omega⟩ (by show b.val = 1 * 128 + (b.val - 128); omega)]
      simp only [add_zero, zero_add, add_up, EReal.coe_zero]
      try rfl
  · rw [dif_neg h, put_ne _ (by omega)]
    simp only [add_zero, zero_add, add_up, EReal.coe_zero]
    try rfl

theorem pay59_up (x' z' g' : Fin 512 → Fin 128 → ℝ) : k0_pay59 (F := Ideal) (arr fun r k => hat (x r) k * ent w k) (arr z) (arr fun r k => lgs (z r k))
      (arr fun r k => lgs (z r k) * (1 - lgs (z r k))) (arr fun r k => lgs (z' r k) * (1 - lgs (z' r k))) (arr g)
      (arr fun r k => z' r k * da (x' r) (g' r) (ent w) k) (arr fun r k => da (x' r) (g' r) (ent w) k * lgs (z' r k))
      = up fun j => put 3 (fun r => dZ (x' r) (z' r) (g' r) (ent w)) j + put 2 (fun r => dZ (x r) (z r) (g r) (ent w)) j := by
  funext j
  obtain ⟨a, b, rfl⟩ := exists_ix2 j
  have hb := b.isLt
  unfold k0_pay59
  pointwise
  simp only [up_apply, mul_up, add_up]
  by_cases h : b.val < 384
  · rw [dif_pos h, dif_pos h, put_ne (h := 3) _ (by omega)]
    by_cases h' : b.val < 256
    · rw [dif_pos h', put_ne _ (by omega)]
      simp only [add_zero, zero_add, add_up, EReal.coe_zero]
      try rfl
    · rw [dif_neg h', put_of _ ⟨b.val - 256, by omega⟩ (by show b.val = 2 * 128 + (b.val - 256); omega)]
      simp only [add_zero, zero_add, add_up, EReal.coe_zero]
      try rfl
  · rw [dif_neg h, dif_neg h, put_ne (h := 2) _ (by omega), put_of _ ⟨b.val - 384, by omega⟩ (by show b.val = 3 * 128 + (b.val - 384); omega)]
    simp only [add_zero, zero_add, add_up, EReal.coe_zero]
    try rfl

theorem pay73_up : k0_pay73 (F := Ideal) (up (wrow w)) (arr x) (colm fun r => rs (x r)) (colm fun r => slope (x r)) (up V)
      (arr fun r => dn (z r) (g r)) = up fun j => V j + put 0 (fun r => dO (x r) (z r) (g r) (ent w)) j := by
  funext j
  obtain ⟨a, b, rfl⟩ := exists_ix2 j
  unfold k0_pay73
  pointwise
  simp (disch := norm_num) only [up_apply, mul_up, sum_up, lit_128, div_up, add_up, Fin.sum_univ_one]
  by_cases h : b.val < 128
  · rw [dif_pos h, put_of _ ⟨b.val, h⟩ (by simp)]
    simp only [add_zero, zero_add, add_up, EReal.coe_zero]
    try rfl
  · rw [dif_neg h, put_ne _ (by omega)]
    simp only [add_zero, zero_add, add_up, EReal.coe_zero]
    try rfl

theorem pay57_up : k0_pay57 (F := Ideal) (up (wrow w)) (arr x) (colm fun r => rs (x r)) (colm fun r => slope (x r))
      (arr fun r => dn (z r) (g r)) = up (put 3 fun r => dO (x r) (z r) (g r) (ent w)) := by
  funext j
  obtain ⟨a, b, rfl⟩ := exists_ix2 j
  have hb := b.isLt
  unfold k0_pay57
  pointwise
  simp (disch := norm_num) only [up_apply, mul_up, sum_up, lit_128, div_up, add_up, Fin.sum_univ_one]
  by_cases h : b.val < 384
  · rw [dif_pos h, put_ne _ (by omega)]
    simp only [add_zero, zero_add, add_up, EReal.coe_zero]
    try rfl
  · rw [dif_neg h, put_of _ ⟨b.val - 384, by omega⟩ (by show b.val = 3 * 128 + (b.val - 384); omega)]; rfl

theorem pay68_up (x' z' g' : Fin 512 → Fin 128 → ℝ) (v74 v121 : FVec Ideal S512x128 .f32) (h1 : k0_pay65 v74 v121 = arr fun r => dn (z r) (g r)) :
    k0_pay68 (F := Ideal) (up (wrow w)) (arr x) (colm fun r => rs (x r)) (colm fun r => slope (x r)) v74 (arr x') v121 (up V)
      (arr fun r k => dn (z' r) (g' r) k * ent w k * rs (x' r)) (colm fun r => (∑ k, x' r k * (dn (z' r) (g' r) k * ent w k)) * slope (x' r)) k0_pay64
      = up fun j => V j + put 2 (fun r => dO (x' r) (z' r) (g' r) (ent w)) j + put 1 (fun r => dO (x r) (z r) (g r) (ent w)) j := by
  funext j
  obtain ⟨a, b, rfl⟩ := exists_ix2 j
  have hb := b.isLt
  unfold k0_pay68 k0_pay64
  pointwise
  simp only [h1]
  simp (disch := norm_num) only [up_apply, mul_up, sum_up, lit_128, div_up, add_up, Fin.sum_univ_one]
  by_cases h : b.val < 256
  · rw [dif_pos h, dif_pos (show b.val < 384 by omega), dif_pos h, put_ne (h := 2) _ (by omega)]
    by_cases h' : b.val < 128
    · rw [dif_pos h', put_ne _ (by omega)]
      simp only [add_zero, zero_add, add_up, EReal.coe_zero]
      try rfl
    · rw [dif_neg h', put_of _ ⟨b.val - 128, by omega⟩ (by show b.val = 1 * 128 + (b.val - 128); omega)]
      simp only [add_zero, zero_add, add_up, EReal.coe_zero]
      try rfl
  · rw [dif_neg h, put_ne (h := 1) _ (by omega)]
    by_cases h' : b.val < 384
    · rw [dif_pos h', dif_neg h, put_of _ ⟨b.val - 256, by omega⟩ (by show b.val = 2 * 128 + (b.val - 256); omega)]
      simp only [add_zero, zero_add, add_up, EReal.coe_zero]
      try rfl
    · rw [dif_neg h', put_ne _ (by omega)]
      simp only [add_zero, zero_add, add_up, EReal.coe_zero]
      try rfl

theorem pay62_up (v96 v122 : FVec Ideal S512x128 .f32) (h1 : k0_pay58 v96 v122 = arr fun r => dn (z r) (g r)) :
    k0_pay62 (F := Ideal) (up (wrow w)) (colm fun r => rs (x r)) v96 v122 = arr fun r k => dn (z r) (g r) k * ent w k * rs (x r) := by
  funext j
  unfold k0_pay62 k0_pay61
  pointwise
  simp only [h1]
  simp only [up_apply, mul_up]
  rfl

theorem pay63_up (v96 v122 : FVec Ideal S512x128 .f32) (h1 : k0_pay58 v96 v122 = arr fun r => dn (z r) (g r)) :
    k0_pay63 (F := Ideal) (up (wrow w)) (arr x) (colm fun r => slope (x r)) v96 v122
      = colm fun r => (∑ k, x r k * (dn (z r) (g r) k * ent w k)) * slope (x r) := by
  funext j
  unfold k0_pay63 k0_pay61
  pointwise
  simp only [h1]
  simp only [up_apply, mul_up, sum_up]
  rfl

/-- The sum over the rows of a head's part of the gradient of the norm's weight. -/
def colSum (f : Fin 512 → Fin 128 → ℝ) (j : S1x128.Idx) : ℝ := ∑ r, f r (j 1)

theorem pay60_up (x' z' g' : Fin 512 → Fin 128 → ℝ) (v96 v122 : FVec Ideal S512x128 .f32) (h1 : k0_pay58 v96 v122 = arr fun r => dn (z r) (g r)) :
    k0_pay60 (F := Ideal) (arr fun r => hat (x r)) v96 (arr fun r => hat (x' r)) v122 (arr fun r => dn (z' r) (g' r))
      = up fun j => colSum (fun r => dW (x' r) (z' r) (g' r)) j + colSum (fun r => dW (x r) (z r) (g r)) j := by
  funext j
  unfold k0_pay60
  pointwise
  simp only [h1]
  simp only [up_apply, mul_up, sum_up, add_up]
  rfl

theorem pay67_up (A : S1x128.Idx → ℝ) (v74 v121 : FVec Ideal S512x128 .f32) (h1 : k0_pay65 v74 v121 = arr fun r => dn (z r) (g r)) :
    k0_pay67 (F := Ideal) (arr fun r => hat (x r)) v74 v121 (up A) = up fun j => A j + colSum (fun r => dW (x r) (z r) (g r)) j := by
  funext j
  unfold k0_pay67
  pointwise
  simp only [h1]
  simp only [up_apply, mul_up, sum_up, add_up]
  rfl

theorem pay72_up (A : S1x128.Idx → ℝ) :
    k0_pay72 (F := Ideal) (arr fun r => hat (x r)) (up A) (arr fun r => dn (z r) (g r)) = up fun j => A j + colSum (fun r => dW (x r) (z r) (g r)) j := by
  funext j
  unfold k0_pay72
  pointwise
  simp only [up_apply, mul_up, sum_up, add_up]
  rfl

/-! ## The four heads -/

/-- The gradient at the norm's input, of the four heads of a block. -/
theorem do_up : k0_pay73 (up (wrow w)) (k0_pay9 (up O)) (k0_pay11 (up O)) (k0_pay12 (up O))
      (k0_pay68 (up (wrow w)) (k0_pay19 (up O)) (k0_pay21 (up O)) (k0_pay22 (up O)) (k0_pay28 (up Z)) (k0_pay29 (up O)) (k0_pay50 (up E))
        (k0_pay57 (up (wrow w)) (k0_pay40 (up O)) (k0_pay42 (up O)) (k0_pay43 (up O)) (k0_pay54 (up E) (up Z)))
        (k0_pay62 (up (wrow w)) (k0_pay32 (k0_pay30 (up O))) (k0_pay39 (up Z)) (k0_pay51 (up E)))
        (k0_pay63 (up (wrow w)) (k0_pay29 (up O)) (k0_pay33 (k0_pay30 (up O))) (k0_pay39 (up Z)) (k0_pay51 (up E))) k0_pay64)
      (k0_pay70 (k0_pay18 (up Z)) (k0_pay49 (up E))) = up (heads fun h r => dO (hd O h r) (hd Z h r) (hg E h r) (ent w)) := by
  obtain ⟨o0, o1, o2, o3⟩ := o_up O
  obtain ⟨r0, r1, r2, r3⟩ := rs_up O
  obtain ⟨s0, s1, s2, s3⟩ := slope_up O
  obtain ⟨d0, d1, d2, d3⟩ := dn_up Z E
  rw [o0, o1, o2, o3, r0, r1, r2, r3, s0, s1, s2, s3, d0, d3, pay57_up w (hd O 3) (hd Z 3) (hg E 3), pay62_up w (hd O 2) (hd Z 2) (hg E 2) _ _ d2,
    pay63_up w (hd O 2) (hd Z 2) (hg E 2) _ _ d2, pay68_up _ w (hd O 1) (hd Z 1) (hg E 1) (hd O 2) (hd Z 2) (hg E 2) _ _ d1,
    pay73_up _ w (hd O 0) (hd Z 0) (hg E 0)]
  exact congrArg (up (φ := .f32)) (funext fun j => put_heads (fun h r => dO (hd O h r) (hd Z h r) (hg E h r) (ent w)) j)

/-- The gradient at the gate, of the four heads of a block. -/
theorem dz_up : k0_pay71 (k0_pay15 (up Z)) (k0_pay16 (up Z)) (k0_pay17 (up Z))
      (k0_pay66 (k0_pay24 (up O) (up (wrow w))) (k0_pay25 (up Z)) (k0_pay26 (up Z)) (k0_pay27 (up Z)) (k0_pay50 (up E))
        (k0_pay59 (k0_pay35 (up (wrow w)) (k0_pay29 (up O)) (k0_pay30 (up O))) (k0_pay36 (up Z)) (k0_pay37 (up Z)) (k0_pay38 (up Z)) (k0_pay47 (up Z)) (k0_pay51 (up E))
          (k0_pay55 (up E) (up O) (up Z) (up (wrow w))) (k0_pay56 (up E) (up O) (up Z) (up (wrow w)))))
      (k0_pay69 (k0_pay14 (up O) (up (wrow w))) (k0_pay49 (up E))) = up (heads fun h r => dZ (hd O h r) (hd Z h r) (hg E h r) (ent w)) := by
  obtain ⟨z0, z1, z2, z3⟩ := z_up Z
  obtain ⟨l0, l1, l2, l3⟩ := lgs_up Z
  obtain ⟨m0, m1, m2, m3⟩ := dlgs_up Z
  obtain ⟨n0, n1, n2⟩ := nrm_up O w
  obtain ⟨g0, g1, g2, g3⟩ := g_up E
  obtain ⟨a0, a3⟩ := da_up O E w
  obtain ⟨b3, c3⟩ := da3_up O Z E w
  rw [a0, z0, z1, z2, l0, l1, l2, m0, m1, m2, m3, n1, n2, g1, g2, b3, c3,
    pay59_up w (hd O 2) (hd Z 2) (hg E 2) (hd O 3) (hd Z 3) (hg E 3), pay66_up _ w (hd O 1) (hd Z 1) (hg E 1), pay71_up _ w (hd O 0) (hd Z 0) (hg E 0)]
  exact congrArg (up (φ := .f32)) (funext fun j => put_heads (fun h r => dZ (hd O h r) (hd Z h r) (hg E h r) (ent w)) j)

/-- The gradient of the norm's weight from a block, over the four heads. -/
def wSum (j : S1x128.Idx) : ℝ := ∑ h : Fin 4, ∑ r : Fin 512, dW (hd O h r) (hd Z h r) (hg E h r) (j 1)

theorem dw_up : k0_pay72 (k0_pay13 (up O))
      (k0_pay67 (k0_pay23 (up O)) (k0_pay28 (up Z)) (k0_pay50 (up E))
        (k0_pay60 (k0_pay34 (k0_pay29 (up O)) (k0_pay30 (up O))) (k0_pay39 (up Z)) (k0_pay44 (up O)) (k0_pay51 (up E)) (k0_pay54 (up E) (up Z))))
      (k0_pay70 (k0_pay18 (up Z)) (k0_pay49 (up E))) = up (wSum O Z E) := by
  obtain ⟨t0, t1, t2, t3⟩ := hat_up O
  obtain ⟨d0, d1, d2, d3⟩ := dn_up Z E
  rw [t0, t1, t2, t3, d0, d3, pay60_up (hd O 2) (hd Z 2) (hg E 2) (hd O 3) (hd Z 3) (hg E 3) _ _ d2, pay67_up (hd O 1) (hd Z 1) (hg E 1) _ _ _ d1,
    pay72_up (hd O 0) (hd Z 0) (hg E 0)]
  refine congrArg (up (φ := .f32)) (funext fun j => ?_)
  unfold wSum
  rw [Fin.sum_univ_four]
  show colSum _ j + colSum _ j + colSum _ j + colSum _ j = colSum _ j + colSum _ j + colSum _ j + colSum _ j
  ring

/-! ## The products -/

variable (D C : S512x1024.Idx → ℝ) (gv : S1024.Idx → ℝ) (U : S1024x1024.Idx → ℝ)

theorem pay4_up : k0_pay4 (F := Ideal) (up D) (up (grow gv)) = up (fun j : S512x1024.Idx => D j * gv (ix1 (j 1))) .bf16 := by
  funext j
  obtain ⟨a, b, rfl⟩ := exists_ix2 j
  unfold k0_pay4
  pointwise
  simp only [up_apply, mul_up]
  rfl

/-- The gradient at the output projection's input. -/
def dcat (j : S512x1024.Idx) : ℝ := ∑ q : Fin 1024, D (ix2 (j 0) q) * gv (ix1 q) * U (ix2 (j 1) q)

theorem pay5_up : k0_pay5 (F := Ideal) (up D) (up (grow gv)) (up U .bf16) = up (dcat D gv U) := by
  funext j
  obtain ⟨a, b, rfl⟩ := exists_ix2 j
  unfold k0_pay5
  pointwise
  simp only [pay4_up, up_apply, mul_up, sum_up, lit_zero, add_up, add_zero, zero_add]
  rfl

theorem pay6_up : k0_pay6 (F := Ideal) (up D) (up (grow gv)) (up U .bf16) = up fun j : S512x512.Idx => dcat D gv U (ix2 (j 0) ⟨(j 1).val, by have h : (j 1).val < 512 := (j 1).isLt; omega⟩) := by
  funext j
  obtain ⟨a, b, rfl⟩ := exists_ix2 j
  unfold k0_pay6
  rw [pay5_up]
  pointwise
  rfl

theorem pay7_up : k0_pay7 (F := Ideal) (up Z) = up Z := by
  unfold k0_pay7
  simp only [shapeCast_self]

/-- A block's part of the gradient of the residual's gate. -/
def gSum (j : S1x1024.Idx) : ℝ := ∑ r : Fin 512, D (ix2 r (j 1)) * ∑ q : Fin 1024, C (ix2 r q) * U (ix2 q (j 1))

theorem pay2_up : k0_pay2 (F := Ideal) (up D) (up C .bf16) (up U .bf16) = up (gSum D C U) := by
  funext j
  obtain ⟨a, b, rfl⟩ := exists_ix2 j
  unfold k0_pay2
  pointwise
  simp only [up_apply, mul_up, sum_up, lit_zero, add_up, add_zero, zero_add]
  rfl

end Cert.OutBwdKIdeal.Block

end
-- ==== Proof.OutArrays.lean ====
/-
  The backward call of the gated norm and the output projection, on finite arguments: what it reads, block by block.
-/
module

public import proofs.«01_k».proof.Proof.OutSum
public import proofs.«01_k».proof.Proof.Gen.OutBwdRIdeal.Run
public import proofs.«01_k».proof.Proof.Gen.OutBwdRIdeal.Read

@[expose] public section

set_option maxRecDepth 16384

noncomputable section

namespace Cert.OutBwdKIdeal.Block

open Cert.OutBwdKIdeal Cert.OutBwdKIdeal.Gen Idealize.ShloMosaic Idealize.ShloMosaic.TcCoe Idealize.SL.Sem
open Cert.Reals
open Idealize.ShloMosaic.Pipeline (Dat)

/-- The finite arguments: the cotangent, the recurrence's output, the delta rule's output, the projection, the norm's
weight, the gate of the residual, and the projection's weight. -/
structure Data where
  D : S4096x1024.Idx → ℝ
  L : S4096x512.Idx → ℝ
  O : S4096x512.Idx → ℝ
  P : S4096x3080.Idx → ℝ
  w : S128.Idx → ℝ
  g : S1024.Idx → ℝ
  U : S1024x1024.Idx → ℝ

variable (p : Data)

/-- The row of head `h` that the norm takes in, and the gate's. -/
def oRow (h : Fin 4) (s : Fin 4096) (k : Fin 128) : ℝ := p.O (ix2 s (hc h k))
def zRow (h : Fin 4) (s : Fin 4096) (k : Fin 128) : ℝ := p.P (ix2 s ⟨2560 + (hc h k).val, by omega⟩)
/-- The gated norm of head `h`. -/
def gated (h : Fin 4) (s : Fin 4096) (k : Fin 128) : ℝ := hat (oRow p h s) k * ent p.w k * (zRow p h s k * lgs (zRow p h s k))
/-- What the output projection takes in. -/
def cat (s : Fin 4096) (q : Fin 1024) : ℝ :=
  if h : q.val < 512 then p.L (ix2 s ⟨q.val, h⟩)
  else gated p ⟨(q.val - 512) / 128, by omega⟩ s ⟨(q.val - 512) % 128, Nat.mod_lt _ (by norm_num)⟩

/-- The logistic function, spelt out. -/
theorem logistic_host (v : ℝ) : Ideal.div 1 (1 + Ideal.exp (-((v : ℝ) : EReal))) = ((lgs v : ℝ) : EReal) := by
  rw [← EReal.coe_neg, Ideal.exp_coe, ← EReal.coe_one, add_up, div_up (by positivity : (1 : ℝ) + Real.exp (-v) ≠ 0), one_div]
  rfl

section Host
open Cert.OutBwdRIdeal.Read

/-- A function of a head, its row and column, as an array. -/
abbrev arr3 (f : Fin 4 → Fin 4096 → Fin 128 → ℝ) : FVec Ideal S4096x4x128 .f32 := up fun j : S4096x4x128.Idx => f (j 1) (j 0) (j 2)

theorem ms_host : val_main_v8 (F := Ideal) (up p.O) = up fun j : S4096x4x1.Idx => ms (oRow p (j 1) (j 0)) := by
  funext j
  pointwise [val_main_v8, val_main_v7, val_main_v6, val_main_v5, val_main_v4, val_main_v3, val_main_v2, val_main_v1, val_main_cst, val_main_cst_0, val_main_cst_1]
  simp (disch := norm_num) only [up_apply, mul_up, sum_up, lit_128, div_up, lit_eps, add_up]
  rfl

theorem rs_host : val_main_v9 (F := Ideal) (up p.O) = up fun j : S4096x4x1.Idx => rs (oRow p (j 1) (j 0)) := by
  funext j
  pointwise [val_main_v9]
  simp only [ms_host, up_apply, rsqrt_ms]

theorem slope_host : val_main_v12 (F := Ideal) (up p.O) = up fun j : S4096x4x1.Idx => slope (oRow p (j 1) (j 0)) := by
  funext j
  pointwise [val_main_v12, val_main_v11, val_main_v10, val_main_cst_2]
  simp only [ms_host, rs_host, up_apply, div_ms, lit_neg_half, mul_up]
  rfl

theorem hat_host : val_main_v14 (F := Ideal) (up p.O) = arr3 fun h s => hat (oRow p h s) := by
  funext j
  pointwise [val_main_v14, val_main_v13, val_main_v1]
  simp only [rs_host, up_apply, mul_up]
  rfl

theorem nrm_host : val_main_v17 (F := Ideal) (up p.O) (up p.w) = arr3 fun h s k => hat (oRow p h s) k * ent p.w k := by
  funext j
  pointwise [val_main_v17, val_main_v16, val_main_v15]
  simp only [hat_host, up_apply, mul_up]

theorem z_host : val_main_v18 (F := Ideal) (up p.P) = arr3 (zRow p) := by
  funext j
  pointwise [val_main_v18, val_main_v0]
  rfl

theorem lgs_host : val_main_v19_2 (F := Ideal) (up p.P) = arr3 fun h s k => lgs (zRow p h s k) := by
  funext j
  pointwise [val_main_v19_2, val_main_call0_v4, val_main_call0_v3, val_main_call0_v2, val_main_call0_v1, val_main_call0_v0, val_main_call0_cst, val_main_call0_cst_0]
  simp only [z_host, up_apply]
  exact logistic_host _

theorem dlgs_host : val_main_v19_1 (F := Ideal) (up p.P) = arr3 fun h s k => lgs (zRow p h s k) * (1 - lgs (zRow p h s k)) := by
  funext j
  pointwise [val_main_v19_1, val_main_call0_v7, val_main_call0_v6, val_main_call0_cst_1]
  simp only [lgs_host, up_apply, ← EReal.coe_one, sub_up, mul_up]

theorem act_host : val_main_v19_0 (F := Ideal) (up p.P) = arr3 fun h s k => zRow p h s k * lgs (zRow p h s k) := by
  funext j
  pointwise [val_main_v19_0]
  simp only [lgs_host, z_host, up_apply, mul_up]

theorem cat_up : val_main_v22 (F := Ideal) (up p.L) (up p.O) (up p.P) (up p.w) = up fun j : S4096x1024.Idx => cat p (j 0) (j 1) := by
  funext j
  obtain ⟨a, b, rfl⟩ := exists_ix2 j
  pointwise [val_main_v22, val_main_v21, val_main_v20]
  simp only [nrm_host, act_host, up_apply, mul_up]
  show _ = ((cat p a b : ℝ) : EReal)
  unfold cat
  by_cases h : b.val < 512
  · rw [dif_pos h, dif_pos h]
  · rw [dif_neg h, dif_neg h]
    rfl

end Host

/-- The finite arguments, as the launch finds them. -/
structure Finite (m : (ℓ : Loc nD τ sig) → Buf (Elt Ideal) ℓ) (c : Dev nD) (p : Data) : Prop where
  h0 : m ((c : Thread nD τ).loc main_arg0) = up p.D
  h2 : m ((c : Thread nD τ).loc main_arg2) = up p.L
  h3 : m ((c : Thread nD τ).loc main_arg3) = up p.O
  h4 : m ((c : Thread nD τ).loc main_arg4) = up p.P
  h5 : m ((c : Thread nD τ).loc main_arg5) = up p.w
  h6 : m ((c : Thread nD τ).loc main_arg6) = up p.g
  h7 : m ((c : Thread nD τ).loc main_arg7) = up p.U

/-- The projection with its columns padded by zeros. -/
def wide (j : S4096x3200.Idx) : ℝ := if h : (j 1).val < 3080 then p.P (ix2 (j 0) ⟨(j 1).val, h⟩) else 0

variable {m : (ℓ : Loc nD τ sig) → Buf (Elt Ideal) ℓ} {c : Dev nD} {p} (H : Finite m c p)
include H

theorem V_host : V m c main_v20 = up (fun j : S4096x1024.Idx => cat p (j 0) (j 1)) .bf16 ∧ V m c main_v21 = up (wide p)
    ∧ V m c main_v22 = up (wrow p.w) ∧ V m c main_v23 = up (grow p.g) ∧ V m c main_v24 = up p.U .bf16 := by
  have e : ∀ (x2 x3 : FVec Ideal S4096x512 .f32) (x4 : FVec Ideal S4096x3080 .f32) (x5 : FVec Ideal S128 .f32) (x6 : FVec Ideal S1024 .f32) (x7 : FVec Ideal S1024x1024 .f32),
      m ((c : Thread nD τ).loc main_arg2) = x2 → m ((c : Thread nD τ).loc main_arg3) = x3 → m ((c : Thread nD τ).loc main_arg4) = x4 →
      m ((c : Thread nD τ).loc main_arg5) = x5 → m ((c : Thread nD τ).loc main_arg6) = x6 → m ((c : Thread nD τ).loc main_arg7) = x7 →
      V m c main_v20 = truncf (F := Ideal) .bf16 (Cert.OutBwdRIdeal.Read.val_main_v22 (F := Ideal) x2 x3 x4 x5) bitsLt_bf16_f32
      ∧ V m c main_v21 = pad S4096x3200 ![0, 0] ![0, 120] ![0, 0] x4 (sitofp (F := Ideal) .f32 (constantI S_ 32 0#32)) pads_S4096x3080_S4096x3200_000_01200 h_S_
      ∧ V m c main_v22 = shapeCast S1x128 x5 shapeCasts_S128_S1x128 ∧ V m c main_v23 = shapeCast S1x1024 x6 shapeCasts_S1024_S1x1024
      ∧ V m c main_v24 = truncf (F := Ideal) .bf16 x7 bitsLt_bf16_f32 := by
    intro x2 x3 x4 x5 x6 x7 h2 h3 h4 h5 h6 h7
    subst h2 h3 h4 h5 h6 h7
    unfold V
    simp only [hostOps0, hostOps0_1, hostOps0_2, hostOps0_3, hostOps0_4, List.flatten_cons, List.flatten_nil, List.append_nil, List.cons_append, List.nil_append]
    refine ⟨?_, ?_, ?_, ?_, ?_⟩
    all_goals
      entry_read
      rfl
  obtain ⟨e0, e1, e2, e3, e4⟩ := e _ _ _ _ _ _ H.h2 H.h3 H.h4 H.h5 H.h6 H.h7
  refine ⟨e0.trans ?_, e1.trans ?_, e2.trans ?_, e3.trans ?_, e4.trans ?_⟩
  · rw [cat_up]; rfl
  · funext j
    obtain ⟨a, b, rfl⟩ := exists_ix2 j
    pointwise
    show _ = ((if h : b.val < 3080 then p.P (ix2 a ⟨b.val, h⟩) else 0 : ℝ) : EReal)
    split_ifs
    · rfl
    · exact sitofp_zero
  · funext j
    pointwise
    rfl
  · funext j
    pointwise
    rfl
  · rfl

omit H

theorem idx0 : ∀ t : Fin cfg0.N, (win0_0.index t = ![t.val, 0] ∧ win0_1.index t = ![t.val, 0] ∧ win0_2.index t = ![t.val, 0] ∧ win0_3.index t = ![t.val, 5])
    ∧ (win0_4.index t = ![0, 0] ∧ win0_5.index t = ![0, 0] ∧ win0_6.index t = ![0, 0])
    ∧ (win0_7.index t = ![t.val, 0] ∧ win0_8.index t = ![t.val, 0] ∧ win0_9.index t = ![t.val, 0] ∧ win0_10.index t = ![t.val, 0])
    ∧ (win0_11.index t = ![0, 0] ∧ win0_12.index t = ![0, 0]) :=
  (by decide +kernel : ∀ t : Fin grid0.N, (win0_0.index t = ![t.val, 0] ∧ win0_1.index t = ![t.val, 0] ∧ win0_2.index t = ![t.val, 0] ∧ win0_3.index t = ![t.val, 5])
    ∧ (win0_4.index t = ![0, 0] ∧ win0_5.index t = ![0, 0] ∧ win0_6.index t = ![0, 0])
    ∧ (win0_7.index t = ![t.val, 0] ∧ win0_8.index t = ![t.val, 0] ∧ win0_9.index t = ![t.val, 0] ∧ win0_10.index t = ![t.val, 0])
    ∧ (win0_11.index t = ![0, 0] ∧ win0_12.index t = ![0, 0]))

/-- Row `r` of block `t` of 512 rows. -/
def row (t : Fin cfg0.N) (r : Fin 512) : Fin 4096 := ⟨t.val * 512 + r.val, by have h : t.val < 8 := lt_of_lt_of_eq t.isLt N_0; omega⟩

variable (p)
def dBlk (t : Fin cfg0.N) (y : S512x1024.Idx) : ℝ := p.D (ix2 (row t (y 0)) (y 1))
def catBlk (t : Fin cfg0.N) (y : S512x1024.Idx) : ℝ := cat p (row t (y 0)) (y 1)
def oBlk (t : Fin cfg0.N) (y : S512x512.Idx) : ℝ := p.O (ix2 (row t (y 0)) (y 1))
def zBlk (t : Fin cfg0.N) (y : S512x512.Idx) : ℝ := p.P (ix2 (row t (y 0)) ⟨2560 + (y 1).val, by have h : (y 1).val < 512 := (y 1).isLt; omega⟩)

variable {p}
include H

theorem iblk0 (t : Fin cfg0.N) : iblk m c 0 t = up (dBlk p t) := by
  funext y
  have e := (idx0 t).1.1
  show V m c main_arg0 _ = _
  rw [V_main_arg0, H.h0]
  refine congrArg (fun i => ((p.D i : ℝ) : EReal)) ?_
  blk_ext [row, e]

theorem iblk1 (t : Fin cfg0.N) : iblk m c 1 t = up (catBlk p t) .bf16 := by
  funext y
  have e := (idx0 t).1.2.1
  show V m c main_v20 _ = _
  rw [(V_host H).1]
  refine congrArg (fun i : S4096x1024.Idx => ((cat p (i 0) (i 1) : ℝ) : EReal)) (a₂ := ix2 (row t (y 0)) (y 1)) ?_
  blk_ext [row, e]

theorem iblk2 (t : Fin cfg0.N) : iblk m c 2 t = up (oBlk p t) := by
  funext y
  have e := (idx0 t).1.2.2.1
  show V m c main_arg3 _ = _
  rw [V_main_arg3, H.h3]
  refine congrArg (fun i => ((p.O i : ℝ) : EReal)) ?_
  blk_ext [row, e]

theorem X3 (t : Fin cfg0.N) : X0_3 m c t = up (zBlk p t) := by
  funext y
  have e := (idx0 t).1.2.2.2
  unfold X0_3 Pipeline.Window.fill
  rw [dif_pos (moved0_3 t y)]
  show V m c main_v21 _ = _
  rw [(V_host H).2.1]
  have hy : (y 1).val < 512 := (y 1).isLt
  refine (congrArg (fun i => ((wide p i : ℝ) : EReal)) (a₂ := ix2 (row t (y 0)) ⟨2560 + (y 1).val, by omega⟩) ?_).trans ?_
  · blk_ext [row, e]
  · exact congrArg (fun r : ℝ => (r : EReal)) (dif_pos (by show 2560 + (y 1).val < 3080; omega))

theorem iblk4 (t : Fin cfg0.N) : iblk m c 4 t = up (wrow p.w) := by
  funext y
  have e := (idx0 t).2.1.1
  show V m c main_v22 _ = _
  rw [(V_host H).2.2.1]
  refine congrArg (fun i => ((wrow p.w i : ℝ) : EReal)) ?_
  blk_ext [e]

theorem iblk5 (t : Fin cfg0.N) : iblk m c 5 t = up (grow p.g) := by
  funext y
  have e := (idx0 t).2.1.2.1
  show V m c main_v23 _ = _
  rw [(V_host H).2.2.2.1]
  refine congrArg (fun i => ((grow p.g i : ℝ) : EReal)) ?_
  blk_ext [e]

theorem iblk6 (t : Fin cfg0.N) : iblk m c 6 t = up p.U .bf16 := by
  funext y
  have e := (idx0 t).2.1.2.2
  show V m c main_v24 _ = _
  rw [(V_host H).2.2.2.2]
  refine congrArg (fun i => ((p.U i : ℝ) : EReal)) ?_
  blk_ext [e]

end Cert.OutBwdKIdeal.Block

end
-- ==== Proof.OutResults.lean ====
/-
  The backward call of the gated norm and the output projection, on finite arguments: what each result array holds.
-/
module

public import proofs.«01_k».proof.Proof.OutArrays

@[expose] public section

set_option maxRecDepth 16384

noncomputable section

namespace Cert.OutBwdKIdeal.Block

open Cert.OutBwdKIdeal Cert.OutBwdKIdeal.Gen Idealize.ShloMosaic Idealize.ShloMosaic.TcCoe Idealize.SL.Sem
open Cert.Reals
open Idealize.ShloMosaic.Pipeline (Dat)

variable (p : Data)

/-- The gradient at the output projection's input. -/
def dcatAt (s : Fin 4096) (q : Fin 1024) : ℝ := ∑ k : Fin 1024, p.D (ix2 s k) * p.g (ix1 k) * p.U (ix2 q k)
/-- Its part for head `h`. -/
def eRow (h : Fin 4) (s : Fin 4096) (k : Fin 128) : ℝ := dcatAt p s (up512 (hc h k))

/-- A function of a head, a row and a column, with the heads side by side. -/
def sides (f : Fin 4 → Fin 4096 → Fin 128 → ℝ) (i : S4096x512.Idx) : ℝ :=
  f ⟨(i 1).val / 128, by have h : (i 1).val < 512 := (i 1).isLt; omega⟩ (i 0) ⟨(i 1).val % 128, Nat.mod_lt _ (by norm_num)⟩

def dlruAt (i : S4096x512.Idx) : ℝ := dcatAt p (i 0) ⟨(i 1).val, by have h : (i 1).val < 512 := (i 1).isLt; omega⟩
def doAt : S4096x512.Idx → ℝ := sides fun h s => dO (oRow p h s) (zRow p h s) (eRow p h s) (ent p.w)
def dzAt : S4096x512.Idx → ℝ := sides fun h s => dZ (oRow p h s) (zRow p h s) (eRow p h s) (ent p.w)
def dmAt (i : S4096x1024.Idx) : ℝ := p.D i * p.g (ix1 (i 1))
def dwAt (k : Fin 128) : ℝ := ∑ s : Fin 4096, ∑ h : Fin 4, dW (oRow p h s) (zRow p h s) (eRow p h s) k
def dgAt (k : Fin 1024) : ℝ := ∑ s : Fin 4096, p.D (ix2 s k) * ∑ q : Fin 1024, cat p s q * p.U (ix2 q k)

variable {m : (ℓ : Loc nD τ sig) → Buf (Elt Ideal) ℓ} {c : Dev nD} {p} (H : Finite m c p)
include H

theorem after_dlru (t : Fin cfg0.N) (y : S512x512.Idx) :
    (outsAt0 m c t.val t.isLt).1 y = ((dlruAt p (ix2 (row t (y 0)) (y 1)) : ℝ) : EReal) := by
  have hN : t.val < 8 := lt_of_lt_of_eq t.isLt N_0
  by_cases h : t.val % 8 = 0
  · rw [outsAt0_A m c t h (by omega) h (by omega)]
    frame_out
    rw [iblk0 H, iblk5 H, iblk6 H, pay6_up]
    rfl
  · rw [outsAt0_B m c t h (by omega) h (by omega)]
    frame_out
    rw [iblk0 H, iblk5 H, iblk6 H, pay6_up]
    rfl

theorem after_do (t : Fin cfg0.N) (y : S512x512.Idx) :
    (outsAt0 m c t.val t.isLt).2.1 y = ((doAt p (ix2 (row t (y 0)) (y 1)) : ℝ) : EReal) := by
  have hN : t.val < 8 := lt_of_lt_of_eq t.isLt N_0
  by_cases h : t.val % 8 = 0
  · rw [outsAt0_A m c t h (by omega) h (by omega)]
    frame_out
    rw [iblk0 H, iblk2 H, X3 H, iblk4 H, iblk5 H, iblk6 H, pay5_up, w_up, pay7_up, do_up]
    rfl
  · rw [outsAt0_B m c t h (by omega) h (by omega)]
    frame_out
    rw [iblk0 H, iblk2 H, X3 H, iblk4 H, iblk5 H, iblk6 H, pay5_up, w_up, pay7_up, do_up]
    rfl

theorem after_dz (t : Fin cfg0.N) (y : S512x512.Idx) :
    (outsAt0 m c t.val t.isLt).2.2.1 y = ((dzAt p (ix2 (row t (y 0)) (y 1)) : ℝ) : EReal) := by
  have hN : t.val < 8 := lt_of_lt_of_eq t.isLt N_0
  by_cases h : t.val % 8 = 0
  · rw [outsAt0_A m c t h (by omega) h (by omega)]
    frame_out
    rw [iblk0 H, iblk2 H, X3 H, iblk4 H, iblk5 H, iblk6 H, pay5_up, w_up, pay7_up, dz_up]
    rfl
  · rw [outsAt0_B m c t h (by omega) h (by omega)]
    frame_out
    rw [iblk0 H, iblk2 H, X3 H, iblk4 H, iblk5 H, iblk6 H, pay5_up, w_up, pay7_up, dz_up]
    rfl

theorem after_dm (t : Fin cfg0.N) (y : S512x1024.Idx) :
    (outsAt0 m c t.val t.isLt).2.2.2.1 y = ((dmAt p (ix2 (row t (y 0)) (y 1)) : ℝ) : EReal) := by
  have hN : t.val < 8 := lt_of_lt_of_eq t.isLt N_0
  by_cases h : t.val % 8 = 0
  · rw [outsAt0_A m c t h (by omega) h (by omega)]
    frame_out
    rw [iblk0 H, iblk5 H, pay4_up]
    rfl
  · rw [outsAt0_B m c t h (by omega) h (by omega)]
    frame_out
    rw [iblk0 H, iblk5 H, pay4_up]
    rfl

theorem final_dlru : (dats m 0 c).arrAt 7 cfg0.N = up (dlruAt p) := by
  refine (dats m 0 c).arrAt_eq_of_covers 7 _ (by decide +kernel) fun t hf y => ?_
  blk_simp
  rw [after0_7]
  refine (after_dlru H t y).trans ?_
  have e := (idx0 t).2.2.1.1
  refine congrArg (fun i => ((dlruAt p i : ℝ) : EReal)) ?_
  blk_ext [row, e]

theorem final_do : (dats m 0 c).arrAt 8 cfg0.N = up (doAt p) := by
  refine (dats m 0 c).arrAt_eq_of_covers 8 _ (by decide +kernel) fun t hf y => ?_
  blk_simp
  rw [after0_8]
  refine (after_do H t y).trans ?_
  have e := (idx0 t).2.2.1.2.1
  refine congrArg (fun i => ((doAt p i : ℝ) : EReal)) ?_
  blk_ext [row, e]

theorem final_dz : (dats m 0 c).arrAt 9 cfg0.N = up (dzAt p) := by
  refine (dats m 0 c).arrAt_eq_of_covers 9 _ (by decide +kernel) fun t hf y => ?_
  blk_simp
  rw [after0_9]
  refine (after_dz H t y).trans ?_
  have e := (idx0 t).2.2.1.2.2.1
  refine congrArg (fun i => ((dzAt p i : ℝ) : EReal)) ?_
  blk_ext [row, e]

theorem final_dm : (dats m 0 c).arrAt 10 cfg0.N = up (dmAt p) .bf16 := by
  refine (dats m 0 c).arrAt_eq_of_covers 10 _ (by decide +kernel) fun t hf y => ?_
  blk_simp
  rw [after0_10]
  refine (after_dm H t y).trans ?_
  have e := (idx0 t).2.2.1.2.2.2
  refine congrArg (fun i => ((dmAt p i : ℝ) : EReal)) ?_
  blk_ext [row, e]

theorem final_dw : (dats m 0 c).arrAt 11 cfg0.N = up (fun i : S1x128.Idx => dwAt p (i 1)) := by
  refine (dats m 0 c).arrAt_eq_of_after_last 11 t0_7 (by decide +kernel) _ fun j => ?_
  blk_simp
  rw [after0_11]
  refine (Pipeline.eq_sum_fin_of_reset_step_apply_last (fun n h => (outsAt0 m c n h).2.2.2.2.1) 8 (fun _ => (0 : EReal))
    (fun t i => ((∑ r : Fin 512, ∑ h : Fin 4, dW (oRow p h (row t r)) (zRow p h (row t r)) (eRow p h (row t r)) (i 1) : ℝ) : EReal)) ?_ ?_ (by decide) t0_7 rfl _).trans ?_
  · intro t h i
    have hN : t.val < 8 := lt_of_lt_of_eq t.isLt N_0
    rw [outsAt0_A m c t h (by omega) h (by omega)]
    frame_out
    rw [iblk0 H, iblk2 H, X3 H, iblk5 H, iblk6 H, pay5_up, pay7_up, dw_up, zero_add]
    exact congrArg (fun r : ℝ => (r : EReal)) Finset.sum_comm
  · intro t h i
    have hN : t.val < 8 := lt_of_lt_of_eq t.isLt N_0
    rw [outsAt0_B m c t h (by omega) h (by omega)]
    frame_out
    unfold k0_pay1
    rw [shapeCast_self]
    show _ + _ = _ + _
    rw [iblk0 H, iblk2 H, X3 H, iblk5 H, iblk6 H, pay5_up, pay7_up, dw_up]
    refine congrArg (_ + ·) ?_
    exact congrArg (fun r : ℝ => (r : EReal)) Finset.sum_comm
  · rw [sum_up, zero_add]
    show _ = ((dwAt p (j 1) : ℝ) : EReal)
    congr 1
    exact Fin.sum_mul_add_fin 8 512 (fun s : Fin 4096 => ∑ h : Fin 4, dW (oRow p h s) (zRow p h s) (eRow p h s) (j 1))

theorem final_dg : (dats m 0 c).arrAt 12 cfg0.N = up (fun i : S1x1024.Idx => dgAt p (i 1)) := by
  refine (dats m 0 c).arrAt_eq_of_after_last 12 t0_7 (by decide +kernel) _ fun j => ?_
  blk_simp
  rw [after0_12]
  refine (Pipeline.eq_sum_fin_of_reset_step_apply_last (fun n h => (outsAt0 m c n h).2.2.2.2.2) 8 (fun _ => (0 : EReal))
    (fun t i => ((∑ r : Fin 512, p.D (ix2 (row t r) (i 1)) * ∑ q : Fin 1024, cat p (row t r) q * p.U (ix2 q (i 1)) : ℝ) : EReal)) ?_ ?_ (by decide) t0_7 rfl _).trans ?_
  · intro t h i
    have hN : t.val < 8 := lt_of_lt_of_eq t.isLt N_0
    rw [outsAt0_A m c t h (by omega) h (by omega)]
    frame_out
    rw [iblk0 H, iblk1 H, iblk6 H, pay2_up, zero_add]
    rfl
  · intro t h i
    have hN : t.val < 8 := lt_of_lt_of_eq t.isLt N_0
    rw [outsAt0_B m c t h (by omega) h (by omega)]
    frame_out
    unfold k0_pay3
    rw [shapeCast_self]
    show _ + _ = _ + _
    rw [iblk0 H, iblk1 H, iblk6 H, pay2_up]
    refine congrArg (_ + ·) ?_
    rfl
  · rw [sum_up, zero_add]
    show _ = ((dgAt p (j 1) : ℝ) : EReal)
    congr 1
    exact Fin.sum_mul_add_fin 8 512 (fun s : Fin 4096 => p.D (ix2 s (j 1)) * ∑ q : Fin 1024, cat p s q * p.U (ix2 q (j 1)))

end Cert.OutBwdKIdeal.Block

end
-- ==== Proof.OutRef.lean ====
/-
  The reference of the gated norm and the output projection, on finite arguments: what each of its results holds.
-/
module

public import proofs.«01_k».proof.Proof.OutResults

@[expose] public section

set_option maxRecDepth 16384

noncomputable section

namespace Cert.OutBwdRIdeal.Stages

open Cert.OutBwdRIdeal Cert.OutBwdRIdeal.Read Idealize.ShloMosaic Idealize.ShloMosaic.TcCoe Idealize.SL.Sem
open Cert.Reals
open Cert.OutBwdKIdeal.Block

variable (p : Data)

theorem v29_up : val_main_v29 (F := Ideal) (up p.D) (up p.g) = up (dmAt p) := by
  funext i
  obtain ⟨a, b, rfl⟩ := exists_ix2 i
  pointwise [val_main_v29, val_main_v28, val_main_v24]
  simp only [up_apply, mul_up]
  exact congrArg (fun r : ℝ => (r : EReal)) (mul_comm _ _)

theorem v34_up : val_main_v34 (F := Ideal) (up p.D) (up p.g) (up p.U) = up fun i : S4096x1024.Idx => dcatAt p (i 0) (i 1) := by
  funext i
  obtain ⟨a, b, rfl⟩ := exists_ix2 i
  pointwise [val_main_v34]
  simp only [v29_up, up_apply, mul_up, sum_up]
  rfl

theorem v35_up : val_main_v35 (F := Ideal) (up p.D) (up p.g) (up p.U) = up (dlruAt p) := by
  funext i
  obtain ⟨a, b, rfl⟩ := exists_ix2 i
  pointwise [val_main_v35]
  simp only [v34_up, up_apply]
  rfl

theorem v37_up : val_main_v37 (F := Ideal) (up p.D) (up p.g) (up p.U) = arr3 (eRow p) := by
  funext i
  pointwise [val_main_v37, val_main_v36]
  simp only [v34_up, up_apply]
  rfl

theorem v38_up : val_main_v38 (F := Ideal) (up p.D) (up p.O) (up p.w) (up p.g) (up p.U) = arr3 fun h s => da (oRow p h s) (eRow p h s) (ent p.w) := by
  funext i
  pointwise [val_main_v38]
  simp only [nrm_host, v37_up, up_apply, mul_up]
  rfl

theorem v39_up : val_main_v39 (F := Ideal) (up p.D) (up p.P) (up p.g) (up p.U) = arr3 fun h s => dn (zRow p h s) (eRow p h s) := by
  funext i
  pointwise [val_main_v39]
  simp only [act_host, v37_up, up_apply, mul_up]
  rfl

theorem v40_up : val_main_v40 (F := Ideal) (up p.D) (up p.O) (up p.P) (up p.w) (up p.g) (up p.U) = arr3 fun h s => dZ (oRow p h s) (zRow p h s) (eRow p h s) (ent p.w) := by
  funext i
  pointwise [val_main_v40, val_main_call1_v0, val_main_call1_v1, val_main_call1_v2]
  simp only [z_host, lgs_host, dlgs_host, v38_up, up_apply, mul_up, add_up]
  rfl

theorem v41_up : val_main_v41 (F := Ideal) (up p.D) (up p.O) (up p.P) (up p.w) (up p.g) (up p.U) = up (dzAt p) := by
  funext i
  obtain ⟨a, b, rfl⟩ := exists_ix2 i
  pointwise [val_main_v41]
  simp only [v40_up, up_apply]
  rfl

/-- A sum over the first two axes of an array of three. -/
theorem reduce01 {n0 n1 n2 : Nat} (h : (⟨3, ![n0, n1, n2]⟩ : Shape).ReducesTo [0, 1] ⟨1, ![n2]⟩) (v : (⟨3, ![n0, n1, n2]⟩ : Shape).Idx → EReal) (init : EReal)
    (k : Fin n2) : Ideal.hostReduceAdd h v init (ix1 k) = init + ∑ a : Fin n0, ∑ b : Fin n1, v (ix3 a b k) := by
  refine congrArg (init + ·) ((Finset.sum_filter_eq_sum_of_fiber _ (fun q : Fin n0 × Fin n1 => ix3 q.1 q.2 k)
    (fun _ _ e => Prod.ext (congrFun e 0) (congrFun e 1)) (fun i => ⟨fun e => ⟨(i 0, i 1), ?_⟩, ?_⟩) v).trans ?_)
  · funext a
    apply Fin.ext
    match a with
    | ⟨0, _⟩ => rfl
    | ⟨1, _⟩ => rfl
    | ⟨2, _⟩ => exact (congrArg Fin.val (congrFun e 0)).symm
  · rintro ⟨q, rfl⟩
    funext b
    apply Fin.ext
    match b with
    | ⟨0, _⟩ => rfl
  · simp only [Fintype.sum_prod_type]

theorem v46_up : val_main_v46 (F := Ideal) (up p.D) (up p.P) (up p.w) (up p.g) (up p.U) = arr3 fun h s k => dn (zRow p h s) (eRow p h s) k * ent p.w k := by
  funext i
  pointwise [val_main_v46, val_main_v45, val_main_v15]
  simp only [v39_up, up_apply, mul_up]

theorem v57_up : val_main_v57 (F := Ideal) (up p.D) (up p.O) (up p.P) (up p.w) (up p.g) (up p.U) = arr3 fun h s _ => back (oRow p h s) (zRow p h s) (eRow p h s) (ent p.w) := by
  funext i
  pointwise [val_main_v57, val_main_v56, val_main_v55, val_main_v54, val_main_v53, val_main_v50, val_main_v49, val_main_v48, val_main_v1, val_main_cst_7, val_main_cst_8, val_main_cst_9]
  simp (disch := norm_num) only [slope_host, v46_up, up_apply, mul_up, sum_up, lit_128, lit_zero, div_up, add_up, zero_add, Fin.sum_univ_one]
  rfl

theorem v61_up : val_main_v61 (F := Ideal) (up p.D) (up p.O) (up p.P) (up p.w) (up p.g) (up p.U) = arr3 fun h s => dO (oRow p h s) (zRow p h s) (eRow p h s) (ent p.w) := by
  funext i
  pointwise [val_main_v61, val_main_v60, val_main_v59, val_main_v58, val_main_v52, val_main_v51, val_main_v1]
  simp only [rs_host, v57_up, v46_up, up_apply, mul_up, add_up]
  rfl

theorem v62_up : val_main_v62 (F := Ideal) (up p.D) (up p.O) (up p.P) (up p.w) (up p.g) (up p.U) = up (doAt p) := by
  funext i
  obtain ⟨a, b, rfl⟩ := exists_ix2 i
  pointwise [val_main_v62]
  simp only [v61_up, up_apply]
  rfl

theorem v63_up : val_main_v63 (F := Ideal) (up p.D) (up p.g) = up (dmAt p) .bf16 := by
  funext i
  pointwise [val_main_v63]
  rw [v29_up]
  rfl

theorem v42_up : val_main_v42 (F := Ideal) (up p.D) (up p.O) (up p.P) (up p.g) (up p.U) = arr3 fun h s => dW (oRow p h s) (zRow p h s) (eRow p h s) := by
  funext i
  pointwise [val_main_v42]
  simp only [hat_host, v39_up, up_apply, mul_up]
  rfl

theorem v43_up (k : Fin 128) : val_main_v43 (F := Ideal) (up p.D) (up p.O) (up p.P) (up p.g) (up p.U) (ix1 k) = ((dwAt p k : ℝ) : EReal) := by
  refine (reduce01 _ _ _ k).trans ?_
  rw [v42_up]
  simp only [up_apply, sum_up]
  show Ideal.ofBits .f32 0x00000000#32 + _ = _
  rw [lit_zero, add_up, zero_add]
  rfl

theorem v47_up (k : Fin 128) : val_main_v47 (F := Ideal) (up p.D) (up p.O) (up p.P) (up p.g) (up p.U) (ix1 k) = ((dwAt p k : ℝ) : EReal) := by
  refine (reduce01 _ _ _ k).trans ?_
  simp only [Fin.sum_univ_one]
  have e : val_main_v44 (F := Ideal) (up p.D) (up p.O) (up p.P) (up p.g) (up p.U) (ix3 0 0 k) = ((dwAt p k : ℝ) : EReal) := by
    pointwise [val_main_v44]
    exact v43_up p k
  rw [e]
  show Ideal.ofBits .f32 0x00000000#32 + _ = _
  rw [lit_zero, add_up, zero_add]

theorem v64_up : val_main_v64 (F := Ideal) (up p.D) (up p.O) (up p.P) (up p.g) (up p.U) = up fun i : S1x128.Idx => dwAt p (i 1) := by
  funext i
  obtain ⟨a, b, rfl⟩ := exists_ix2 i
  pointwise [val_main_v64]
  exact v47_up p b

theorem v65_up : val_main_v65 (F := Ideal) (up p.D) (up p.L) (up p.O) (up p.P) (up p.w) (up p.U) = up fun i : S1x1024.Idx => dgAt p (i 1) := by
  funext i
  pointwise [val_main_v65, val_main_v33, val_main_v32, val_main_v31, val_main_v30, val_main_v23, val_main_cst_3, val_main_cst_4]
  simp only [cat_up, up_apply, mul_up, sum_up, lit_zero, add_up, zero_add, Fin.sum_univ_one]
  rfl

end Cert.OutBwdRIdeal.Stages

end
-- ==== Proof.OutClaim.lean ====
/-
  The claims about the backward call of the gated norm and the output projection: on finite arguments the kernel and
  the reference compute the same six gradients.
-/
module

public import proofs.«01_k».proof.Defs
public import proofs.«01_k».proof.Proof.OutResults
public import proofs.«01_k».proof.Proof.OutRef
public import proofs.«01_k».proof.Proof.Gen.OutBwdRIdeal.Run
public import proofs.«01_k».proof.Proof.Gen.OutBwdK.Frame
public import proofs.«01_k».proof.Proof.Gen.OutBwdKIdeal.Frame
public import proofs.«01_k».proof.Proof.Gen.Pre_finite_outbwd
public import Idealize.ShloMosaic.Lib.Claim
public import Idealize.ShloMosaic.Lib.Quiescent

@[expose] public section

set_option maxRecDepth 16384

noncomputable section

namespace Cert.OutClaim

open Idealize.ShloMosaic Idealize.ShloMosaic.TcCoe Idealize.SL.Sem Cert.Reals
open Cert.OutBwdKIdeal.Block (Finite Data dlruAt doAt dzAt dmAt dwAt dgAt)

/-- The arguments that the precondition names are arrays of real numbers. -/
theorem finite (m : (ℓ : Loc Cert.OutBwdKIdeal.nD Cert.OutBwdKIdeal.τ Cert.OutBwdKIdeal.sig) → Buf (Elt Ideal) ℓ)
    (h : Cert.Pre_OutBwdKIdeal_finite_outbwd m) (c : Dev Cert.OutBwdKIdeal.nD) : ∃ p : Data, Finite m c p := by
  obtain ⟨h0, h1, h2, h3, h4, h5, h6⟩ := h c
  obtain ⟨D, hD⟩ := exists_up h0
  obtain ⟨L, hL⟩ := exists_up h1
  obtain ⟨O, hO⟩ := exists_up h2
  obtain ⟨P, hP⟩ := exists_up h3
  obtain ⟨w, hw⟩ := exists_up h4
  obtain ⟨g, hg⟩ := exists_up h5
  obtain ⟨U, hU⟩ := exists_up h6
  exact ⟨⟨D, L, O, P, w, g, U⟩, ⟨hD, hL, hO, hP, hw, hg, hU⟩⟩

set_option maxHeartbeats 1000000 in
/-- On finite arguments the call and the reference end with the same six gradients. -/
theorem algebraic : Cert.algebraic_OutBwdKIdeal_OutBwdRIdeal_pre_finite_outbwd := by
  intro m g m' g' hpre hag
  choose p H using finite m hpre
  refine ⟨fun c => up (dlruAt (p c)), fun c => up (doAt (p c)), fun c => up (dzAt (p c)), fun c => up (dmAt (p c)) .bf16,
    fun c => up (fun i : Cert.OutBwdKIdeal.S1x128.Idx => dwAt (p c) (i 1)), fun c => up (fun i : Cert.OutBwdKIdeal.S1x1024.Idx => dgAt (p c) (i 1)), ?_, ?_⟩
  · refine (θ_run Cert.OutBwdKIdeal.defs _ _).mono (fun _ h c => ?_) (Cert.OutBwdKIdeal.Value.run_blocks (F := Ideal) m g)
    obtain ⟨r0, r1, r2, r3, r4, r5, rest⟩ := h c
    exact ⟨r0.trans (Cert.OutBwdKIdeal.Block.final_dlru (H c)), r1.trans (Cert.OutBwdKIdeal.Block.final_do (H c)),
      r2.trans (Cert.OutBwdKIdeal.Block.final_dz (H c)), r3.trans (Cert.OutBwdKIdeal.Block.final_dm (H c)),
      r4.trans (Cert.OutBwdKIdeal.Block.final_dw (H c)), r5.trans (Cert.OutBwdKIdeal.Block.final_dg (H c)), rest⟩
  · refine (θ_run Cert.OutBwdRIdeal.defs _ _).mono (fun _ h c => ?_) (Cert.OutBwdRIdeal.Value.run (F := Ideal) m' g')
    obtain ⟨e0, e1, e2, e3, e4, e5, e6, e7⟩ := hag c
    have h0 := e0.trans (H c).h0
    have h2 := e2.trans (H c).h2
    have h3 := e3.trans (H c).h3
    have h4 := e4.trans (H c).h4
    have h5 := e5.trans (H c).h5
    have h6 := e6.trans (H c).h6
    have h7 := e7.trans (H c).h7
    obtain ⟨r0, r1, r2, r3, r4, r5, rest⟩ := h c
    refine ⟨(r0.trans (Cert.OutBwdRIdeal.Read.val_main_v35_eq ..)).trans ?_, (r1.trans (Cert.OutBwdRIdeal.Read.val_main_v62_eq ..)).trans ?_,
      (r2.trans (Cert.OutBwdRIdeal.Read.val_main_v41_eq ..)).trans ?_, (r3.trans (Cert.OutBwdRIdeal.Read.val_main_v63_eq ..)).trans ?_,
      (r4.trans (Cert.OutBwdRIdeal.Read.val_main_v64_eq ..)).trans ?_, (r5.trans (Cert.OutBwdRIdeal.Read.val_main_v65_eq ..)).trans ?_, rest⟩
    · rw [h0, h6, h7]; exact Cert.OutBwdRIdeal.Stages.v35_up _
    · rw [h0, h3, h4, h5, h6, h7]; exact Cert.OutBwdRIdeal.Stages.v62_up _
    · rw [h0, h3, h4, h5, h6, h7]; exact Cert.OutBwdRIdeal.Stages.v41_up _
    · rw [h0, h6]; exact Cert.OutBwdRIdeal.Stages.v63_up _
    · rw [h0, h3, h4, h6, h7]; exact Cert.OutBwdRIdeal.Stages.v64_up _
    · rw [h0, h2, h3, h4, h5, h7]; exact Cert.OutBwdRIdeal.Stages.v65_up _

/-- The reference terminates, keeps its arguments and has no semaphore to leave. -/
theorem frame_ref : Cert.quiescent_OutBwdRIdeal := fun m g _ =>
  (θ_run Cert.OutBwdRIdeal.defs _ _).mono (fun r h => ⟨fun c => (h c).2.2.2.2.2.2, sem_eq_zero_of_no_sems rfl r.2⟩)
    (Cert.OutBwdRIdeal.Value.run (F := Ideal) m g)

end Cert.OutClaim

end
-- ==== Proof.LruMath.lean ====
/-
  The gated linear recurrence `h t = a t * h (t - 1) + b t` and its gradient, as real numbers: the gates of one
  element, the gated norm of one row, and two ways to run a linear recurrence by doubling steps.
-/
module

public import proofs.«01_k».proof.Proof.Reals
public import Mathlib.Analysis.SpecialFunctions.Trigonometric.DerivHyp

@[expose] public section

noncomputable section

namespace Cert.LruMath

open Idealize.ShloMosaic Cert.Reals

/-! ## Literals -/

/-- The floor under the square root. -/
def tiny : ℝ := 9223372 / 2 ^ 63
theorem tiny_pos : 0 < tiny := by unfold tiny; norm_num
/-- The two constants of the tanh form of the GELU. -/
def gA : ℝ := 13386282 / 2 ^ 24
def gB : ℝ := 12003091 / 2 ^ 28

theorem lit_tiny : Ideal.ofBits .f32 0x2B8CBCCC#32 = ((tiny : ℝ) : EReal) := by
  unfold tiny; simp [Ideal.ofBits, Ideal.ieee, -EReal.coe_mul]; norm_num
theorem lit_gA : Ideal.ofBits .f32 0x3F4C422A#32 = ((gA : ℝ) : EReal) := by
  unfold gA; simp [Ideal.ofBits, Ideal.ieee, -EReal.coe_mul]; norm_num
theorem lit_gB : Ideal.ofBits .f32 0x3D372713#32 = ((gB : ℝ) : EReal) := by
  unfold gB; simp [Ideal.ofBits, Ideal.ieee, -EReal.coe_mul]; norm_num
theorem lit_8 : Ideal.ofBits .f32 0x41000000#32 = ((8 : ℝ) : EReal) := by simp [Ideal.ofBits, Ideal.ieee, -EReal.coe_mul]; norm_num
theorem lit_3 : Ideal.ofBits .f32 0x40400000#32 = ((3 : ℝ) : EReal) := by simp [Ideal.ofBits, Ideal.ieee, -EReal.coe_mul]; norm_num
theorem lit_neg_2 : Ideal.ofBits .f32 0xC0000000#32 = ((-2 : ℝ) : EReal) := by simp [Ideal.ofBits, Ideal.ieee, -EReal.coe_mul]; norm_num
theorem lit_512 : Ideal.ofBits .f32 0x44000000#32 = ((512 : ℝ) : EReal) := by simp [Ideal.ofBits, Ideal.ieee, -EReal.coe_mul]; norm_num

/-! ## One element's gates -/

/-- The logistic function. -/
def lgs (v : ℝ) : ℝ := (1 + Real.exp (-v))⁻¹

/-- `log (1 + exp v)`, in the form that does not overflow. -/
def softplus (v : ℝ) : ℝ := max v 0 + Real.log (1 + Real.exp (-|v|))

/-- The logarithm of the logistic function. -/
def ls (lam : ℝ) : ℝ := -softplus (-lam)
/-- The logarithm of the decay, the decay, and the square of the decay. -/
def la (pa lam : ℝ) : ℝ := 8 * lgs pa * ls lam
def aa (pa lam : ℝ) : ℝ := Real.exp (la pa lam)
def sq (pa lam : ℝ) : ℝ := Real.exp (2 * la pa lam)
/-- What the square root is taken of, and the root. -/
def mm (pa lam : ℝ) : ℝ := max (1 - sq pa lam) tiny
def mu (pa lam : ℝ) : ℝ := √(mm pa lam)
theorem mm_pos (pa lam : ℝ) : 0 < mm pa lam := lt_of_lt_of_le tiny_pos (le_max_right _ _)
theorem mu_pos (pa lam : ℝ) : 0 < mu pa lam := Real.sqrt_pos.mpr (mm_pos pa lam)
/-- The derivative of the maximum with the floor. -/
def sel (pa lam : ℝ) : ℝ := if tiny < 1 - sq pa lam then 1 else if 1 - sq pa lam = tiny then 1 / 2 else 0
/-- What the recurrence adds. -/
def bb (pa px lam x : ℝ) : ℝ := mu pa lam * (lgs px * x)

/-- The gradient at the logarithm of the decay: `G` is the gradient at the recurrence's addend, `p` the state before. -/
def dla (pa px lam x G p : ℝ) : ℝ :=
  2 * (-(G * (lgs px * x) * (1 / 2 / mu pa lam) * sel pa lam) * sq pa lam) + G * p * aa pa lam
/-- The gradients at the two gates' logits, and at the element through the addend. -/
def dpa (pa px lam x G p : ℝ) : ℝ := 8 * (dla pa px lam x G p * ls lam) * (lgs pa * (1 - lgs pa))
def dpx (pa px lam x G : ℝ) : ℝ := mu pa lam * G * x * (lgs px * (1 - lgs px))
def dx0 (pa px lam G : ℝ) : ℝ := lgs px * (mu pa lam * G)

theorem tanh_sq (y : ℝ) : Real.tanh y = (Real.exp (2 * y) - 1) / (Real.exp (2 * y) + 1) := by
  rw [Real.tanh_eq_sinh_div_cosh, Real.sinh_eq, Real.cosh_eq, show 2 * y = y + y by ring, Real.exp_add, Real.exp_neg]
  have h := Real.exp_pos y
  field_simp

theorem one_sub_tanh (y : ℝ) : 1 - Real.tanh y = 2 / (Real.exp (2 * y) + 1) := by
  rw [tanh_sq]
  have h := Real.exp_pos (2 * y)
  field_simp
  ring

theorem one_sub_tanh_pos (y : ℝ) : 0 < 1 - Real.tanh y := by
  rw [one_sub_tanh]; have h := Real.exp_pos (2 * y); positivity

/-- `1 - exp (2 y)` by the hyperbolic tangent. -/
theorem one_sub_sq (y : ℝ) : -2 * Real.tanh y / (1 - Real.tanh y) = 1 - Real.exp (2 * y) := by
  rw [one_sub_tanh, tanh_sq]
  have h := Real.exp_pos (2 * y)
  field_simp
  ring

/-- The derivative of `1 - exp (2 y)`, by the quotient rule on the form with the hyperbolic tangent. -/
theorem slope_tanh (y s : ℝ) :
    ((0 - (0 - s * (1 / ((1 - Real.tanh y) * (1 - Real.tanh y))) * (-2 * Real.tanh y))) + -2 * (s / (1 - Real.tanh y))) * ((1 + Real.tanh y) * (1 - Real.tanh y))
      = 2 * (-s * Real.exp (2 * y)) := by
  have h0 := (one_sub_tanh_pos y).ne'
  have h1 : Real.exp (2 * y) = (1 + Real.tanh y) / (1 - Real.tanh y) := by
    have := one_sub_sq y
    field_simp at this ⊢
    linarith
  rw [h1]
  field_simp
  ring

/-- The logistic function at `v ≠ 0`, by the slopes of the two parts of `softplus v`. -/
theorem slope_softplus {v : ℝ} (hv : v ≠ 0) (e : ℝ) :
    ((if 0 ≤ v then (0 - e / (1 + Real.exp (0 - |v|)) * Real.exp (0 - |v|)) else 0) + (0 - if 0 ≤ v then 0 else (0 - e / (1 + Real.exp (0 - |v|)) * Real.exp (0 - |v|))))
      + e * (if 0 < v then 1 else if v = 0 then 1 / 2 else 0) = e * lgs v := by
  unfold lgs
  rcases lt_or_gt_of_ne hv with h | h
  · rw [if_neg (not_le.mpr h), if_neg (not_le.mpr h), if_neg (not_lt.mpr h.le), if_neg hv, abs_of_neg h]
    have h1 : Real.exp (0 - -v) = (Real.exp (-v))⁻¹ := by rw [← Real.exp_neg]; congr 1; ring_nf
    rw [h1]
    have h2 := Real.exp_pos (-v)
    field_simp
    ring
  · rw [if_pos h.le, if_pos h.le, if_pos h, abs_of_pos h, zero_sub]
    have h2 := Real.exp_pos (-v)
    field_simp
    ring

/-- The logistic function from the softplus. -/
theorem exp_sub_softplus (v : ℝ) : Real.exp (v - softplus v) = lgs v := by
  have h : softplus v = Real.log (1 + Real.exp v) := by
    unfold softplus
    rcases le_total 0 v with h | h
    · rw [max_eq_left h, abs_of_nonneg h]
      have : 1 + Real.exp v = Real.exp v * (1 + Real.exp (-v)) := by rw [mul_add, ← Real.exp_add]; simp [add_comm]
      rw [this, Real.log_mul (Real.exp_pos v).ne' (by positivity), Real.log_exp]
    · rw [max_eq_right h, abs_of_nonpos h, neg_neg, zero_add]
  rw [h, Real.exp_sub, Real.exp_log (by positivity)]
  unfold lgs
  rw [Real.exp_neg]
  have h2 := Real.exp_pos v
  field_simp
  ring

/-! ## One row's gated norm -/

/-- The hyperbolic tangent inside the GELU, and the factor of the GELU's argument. -/
def th (y : ℝ) : ℝ := Real.tanh (gA * (y + gB * (y * (y * y))))
def hf (y : ℝ) : ℝ := 1 / 2 * (1 + th y)
/-- The GELU. -/
def gl (y : ℝ) : ℝ := y * hf y
/-- The gradient at the GELU's argument, from the gradient `e` at its value. -/
def dgl (y e : ℝ) : ℝ :=
  e * hf y + gA * (1 / 2 * (y * e) * ((1 + th y) * (1 - th y)))
    + gB * (gA * (1 / 2 * (y * e) * ((1 + th y) * (1 - th y)))) * (3 * (y * y))

section Row
variable (h y d w : Fin 512 → ℝ)

/-- The gated row. -/
def q (k : Fin 512) : ℝ := h k * gl (y k)
/-- Its mean square, with the small constant added. -/
def ms : ℝ := (∑ k, q h y k * q h y k) / 512 + eps
theorem ms_pos : 0 < ms h y :=
  add_pos_of_nonneg_of_pos (div_nonneg (Finset.sum_nonneg fun k _ => mul_self_nonneg (q h y k)) (by norm_num)) eps_pos
/-- One over the root mean square. -/
def rs : ℝ := (√(ms h y))⁻¹
theorem rsqrt_ms : Ideal.rsqrt ((ms h y : ℝ) : EReal) = ((rs h y : ℝ) : EReal) := rsqrt_up (ms_pos h y)
theorem div_ms (a : ℝ) : Ideal.div ((a : ℝ) : EReal) ((ms h y : ℝ) : EReal) = ((a / ms h y : ℝ) : EReal) := div_up (ms_pos h y).ne'
/-- What reaches the row through its mean square. -/
def back : ℝ := (∑ k, q h y k * (d k * w k)) * (-(1 / 2) * (rs h y / ms h y)) / 512
/-- The gradient at the gated row. -/
def dq (k : Fin 512) : ℝ := d k * w k * rs h y + q h y k * back h y d w + back h y d w * q h y k
/-- The gradient at the state. -/
def dh (k : Fin 512) : ℝ := dq h y d w k * gl (y k)
/-- The gradient at the gate. -/
def dly (k : Fin 512) : ℝ := dgl (y k) (h k * dq h y d w k)
/-- The row's part of the gradient of the norm's weight. -/
def dlnw (k : Fin 512) : ℝ := q h y k * rs h y * d k

end Row

/-! ## The recurrence by doubling steps, within blocks of 32 -/

section Scan
variable {N : ℕ} (A B : Fin N → ℝ)

/-- One doubling step upwards over the distance `d` within blocks of 32: the factors, and the addends. -/
def upA (d : ℕ) (r : Fin N) : ℝ := A r * (if h : r.val % 32 + d < 32 ∧ r.val + d < N then A ⟨r.val + d, h.2⟩ else 1)
def upB (d : ℕ) (r : Fin N) : ℝ := A r * (if h : r.val % 32 + d < 32 ∧ r.val + d < N then B ⟨r.val + d, h.2⟩ else 0) + B r

/-- The pair says how the sequence `G` at a row follows from `G` at the row `d` further on, or at the block's end. -/
def Holds (G : ℕ → ℝ) (d : ℕ) : Prop := ∀ r : Fin N, G r.val = B r + A r * G (min (r.val + d) (r.val / 32 * 32 + 32))

theorem holds_step {G : ℕ → ℝ} (d : ℕ) (hN : N % 32 = 0) (h : Holds A B G d) : Holds (upA A d) (upB A B d) G (2 * d) := by
  intro r
  have hr := r.isLt
  have h0 := h r
  unfold upA upB
  by_cases c : r.val % 32 + d < 32
  · have c' : r.val % 32 + d < 32 ∧ r.val + d < N := ⟨c, by omega⟩
    rw [dif_pos c', dif_pos c']
    have h1 := h ⟨r.val + d, c'.2⟩
    rw [show min (r.val + d) (r.val / 32 * 32 + 32) = r.val + d by omega] at h0
    rw [show min ((⟨r.val + d, c'.2⟩ : Fin N).val + d) ((⟨r.val + d, c'.2⟩ : Fin N).val / 32 * 32 + 32) = min (r.val + 2 * d) (r.val / 32 * 32 + 32) by
      simp only; omega] at h1
    rw [h0, h1]; ring
  · have c' : ¬ (r.val % 32 + d < 32 ∧ r.val + d < N) := fun c' => c c'.1
    rw [dif_neg c', dif_neg c', h0]
    rw [show min (r.val + d) (r.val / 32 * 32 + 32) = min (r.val + 2 * d) (r.val / 32 * 32 + 32) by omega]
    ring

/-- Once the distance is a whole block, the pair leads to the block's end. -/
theorem holds_block {G : ℕ → ℝ} (d : ℕ) (hd : 32 ≤ d) (h : Holds A B G d) (r : Fin N) :
    G r.val = B r + A r * G (r.val / 32 * 32 + 32) := by
  have := h r
  rwa [show min (r.val + d) (r.val / 32 * 32 + 32) = r.val / 32 * 32 + 32 by omega] at this

end Scan

/-! ## The recurrence by doubling steps, over the whole sequence -/

section Whole
variable {N : ℕ}

/-- The entry `d` places before, or `z`. -/
def dn (z : ℝ) (d : ℕ) (A : Fin N → ℝ) (t : Fin N) : ℝ := if h : d ≤ t.val then A ⟨t.val - d, by omega⟩ else z
/-- The entry `d` places on, or zero. -/
def nx (d : ℕ) (A : Fin N → ℝ) (t : Fin N) : ℝ := if h : t.val + d < N then A ⟨t.val + d, h⟩ else 0

/-- One doubling step: the factors, and the addends. -/
def stA (d : ℕ) (A : Fin N → ℝ) (t : Fin N) : ℝ := dn 1 d A t * A t
def stB (d : ℕ) (A B : Fin N → ℝ) (t : Fin N) : ℝ := A t * dn 0 d B t + B t

/-- The pair says how the state follows from the state `d` before (zero before the start). -/
def Fwd (h : Fin N → ℝ) (d : ℕ) (A B : Fin N → ℝ) : Prop := ∀ t, h t = B t + A t * dn 0 d h t

theorem fwd_step {h : Fin N → ℝ} {d : ℕ} {A B : Fin N → ℝ} (H : Fwd h d A B) : Fwd h (2 * d) (stA d A) (stB d A B) := by
  intro t
  have h0 := H t
  unfold stA stB dn at *
  by_cases c : d ≤ t.val
  · rw [dif_pos c] at h0
    rw [dif_pos c, dif_pos c]
    have h1 := H ⟨t.val - d, by omega⟩
    rw [h0, h1]
    by_cases c2 : 2 * d ≤ t.val
    · rw [dif_pos c2]
      unfold dn
      rw [dif_pos (show d ≤ (⟨t.val - d, by omega⟩ : Fin N).val by simp only; omega)]
      rw [show (⟨(⟨t.val - d, by omega⟩ : Fin N).val - d, by omega⟩ : Fin N) = ⟨t.val - 2 * d, by omega⟩ from Fin.ext (by simp only; omega)]
      ring
    · rw [dif_neg c2]
      unfold dn
      rw [dif_neg (show ¬ d ≤ (⟨t.val - d, by omega⟩ : Fin N).val by simp only; omega)]
      ring
  · rw [dif_neg c] at h0
    rw [dif_neg c, dif_neg c, dif_neg (by omega), h0]
    ring

/-- Once the distance is the whole length, the addends are the state. -/
theorem fwd_last {h : Fin N → ℝ} {d : ℕ} {A B : Fin N → ℝ} (hd : N ≤ d) (H : Fwd h d A B) (t : Fin N) : B t = h t := by
  have h0 := H t
  have ht := t.isLt
  unfold dn at h0
  rw [dif_neg (by omega)] at h0
  rw [h0]; ring

/-- The gradients at a pair, from those at the pair one doubling step on. -/
def bkA (d : ℕ) (A B P Q : Fin N → ℝ) (t : Fin N) : ℝ := P t * dn 0 d B t + dn 1 d A t * Q t + nx d (fun u => Q u * A u) t
def bkB (d : ℕ) (A P : Fin N → ℝ) (t : Fin N) : ℝ := P t + nx d (fun u => A u * P u) t

/-- What the gradients `P` at the addends and `Q` at the factors are: `P` runs back over the distance `d` from the
    gradient `g` at the state, and `Q` is `P` times the state `d` before. -/
def Bwd (h g : Fin N → ℝ) (d : ℕ) (A P Q : Fin N → ℝ) : Prop :=
  (∀ t, P t = g t + nx d (fun u => A u * P u) t) ∧ ∀ t, Q t = P t * dn 0 d h t

theorem bwd_step {h g : Fin N → ℝ} {d : ℕ} {A B P Q : Fin N → ℝ} (F : Fwd h d A B) (H : Bwd h g (2 * d) (stA d A) P Q) :
    Bwd h g d A (bkB d A P) (bkA d A B P Q) := by
  obtain ⟨hP, hQ⟩ := H
  have key : ∀ t, bkB d A P t = P t + nx d (fun u => A u * P u) t := fun t => rfl
  constructor
  · intro t
    rw [key, hP t, add_assoc]
    congr 1
    unfold nx
    by_cases c : t.val + d < N
    · rw [dif_pos c, dif_pos c]
      beta_reduce
      rw [key]
      unfold nx
      by_cases c2 : t.val + 2 * d < N
      · rw [dif_pos c2, dif_pos (show (⟨t.val + d, c⟩ : Fin N).val + d < N by simp only; omega)]
        simp only
        have e : (⟨t.val + d + d, by omega⟩ : Fin N) = ⟨t.val + 2 * d, c2⟩ := Fin.ext (by simp only; omega)
        rw [e]
        unfold stA dn
        rw [dif_pos (show d ≤ (⟨t.val + 2 * d, c2⟩ : Fin N).val by simp only; omega)]
        rw [show (⟨(⟨t.val + 2 * d, c2⟩ : Fin N).val - d, by simp only; omega⟩ : Fin N) = ⟨t.val + d, c⟩ from Fin.ext (by simp only; omega)]
        ring
      · rw [dif_neg c2, dif_neg (show ¬ (⟨t.val + d, c⟩ : Fin N).val + d < N by simp only; omega)]
        ring
    · rw [dif_neg c, dif_neg c, dif_neg (by omega)]
      ring
  · intro t
    have e1 : nx d (fun u => Q u * A u) t = nx d (fun u => A u * P u) t * dn 0 d h t ∨ ¬ d ≤ t.val := by
      by_cases cd : d ≤ t.val
      · left
        unfold nx
        by_cases c : t.val + d < N
        · rw [dif_pos c, dif_pos c]
          beta_reduce
          rw [hQ]
          unfold dn
          rw [dif_pos (show 2 * d ≤ (⟨t.val + d, c⟩ : Fin N).val by simp only; omega), dif_pos cd]
          rw [show (⟨(⟨t.val + d, c⟩ : Fin N).val - 2 * d, by simp only; omega⟩ : Fin N) = ⟨t.val - d, by omega⟩ from Fin.ext (by simp only; omega)]
          ring
        · rw [dif_neg c, dif_neg c]; ring
      · exact Or.inr cd
    unfold bkA
    rw [hQ t, key]
    by_cases cd : d ≤ t.val
    · rcases e1 with e1 | e1
      · rw [e1]
        unfold dn
        rw [dif_pos cd, dif_pos cd, dif_pos cd]
        have h1 := F ⟨t.val - d, by omega⟩
        unfold dn at h1
        rw [h1]
        by_cases c2 : 2 * d ≤ t.val
        · rw [dif_pos c2, dif_pos (show d ≤ (⟨t.val - d, by omega⟩ : Fin N).val by simp only; omega)]
          rw [show (⟨(⟨t.val - d, by omega⟩ : Fin N).val - d, by simp only; omega⟩ : Fin N) = ⟨t.val - 2 * d, by omega⟩ from Fin.ext (by simp only; omega)]
          ring
        · rw [dif_neg c2, dif_neg (show ¬ d ≤ (⟨t.val - d, by omega⟩ : Fin N).val by simp only; omega)]
          ring
      · exact absurd cd e1
    · have e2 : nx d (fun u => Q u * A u) t = 0 := by
        unfold nx
        by_cases c : t.val + d < N
        · rw [dif_pos c]
          beta_reduce
          rw [hQ]
          unfold dn
          rw [dif_neg (show ¬ 2 * d ≤ (⟨t.val + d, c⟩ : Fin N).val by simp only; omega)]
          ring
        · rw [dif_neg c]
      rw [e2]
      unfold dn
      rw [dif_neg cd, dif_neg cd, dif_neg cd, dif_neg (by omega)]
      ring

/-- Where the distance is the whole length the gradient at the addends is the one at the state. -/
theorem bwd_last {h g : Fin N → ℝ} {d : ℕ} (hd : N ≤ d) (A : Fin N → ℝ) : Bwd h g d A g (fun _ => 0) := by
  constructor
  · intro t
    unfold nx
    rw [dif_neg (by omega), add_zero]
  · intro t
    have ht := t.isLt
    unfold dn
    rw [dif_neg (by omega), mul_zero]

end Whole

/-! ## The recurrence itself -/

section Recurrence
variable {N : ℕ} (a b g : Fin N → ℝ)

/-- An array's entry, or zero outside. -/
def ext (f : Fin N → ℝ) (n : ℕ) : ℝ := if h : n < N then f ⟨n, h⟩ else 0

theorem ext_of_lt (f : Fin N → ℝ) {n : ℕ} (h : n < N) : ext f n = f ⟨n, h⟩ := dif_pos h

/-- The state after `n` steps. -/
def run : ℕ → ℝ
  | 0 => 0
  | n + 1 => ext a n * run n + ext b n
/-- The states. -/
def hs (t : Fin N) : ℝ := run a b (t.val + 1)

/-- The gradient at the addends, counted from the end: `n` steps back. -/
def adj : ℕ → ℝ
  | 0 => 0
  | n + 1 => ext g (N - 1 - n) + ext a (N - n) * adj n
/-- The gradient at the addend of the row `n`. -/
def gs (n : ℕ) : ℝ := adj a g (N - n)

theorem gs_step {n : ℕ} (h : n < N) : gs a g n = g ⟨n, h⟩ + ext a (n + 1) * gs a g (n + 1) := by
  unfold gs
  obtain ⟨k, hk⟩ : ∃ k, N - n = k + 1 := ⟨N - n - 1, by omega⟩
  rw [hk, show N - (n + 1) = k by omega]
  show ext g (N - 1 - k) + ext a (N - k) * adj a g k = _
  rw [show N - 1 - k = n by omega, show N - k = n + 1 by omega, ext_of_lt g h]

theorem gs_end : gs a g N = 0 := by unfold gs; rw [Nat.sub_self]; rfl

theorem hs_fwd : Fwd (hs a b) 1 a b := by
  intro t
  show ext a t.val * run a b t.val + ext b t.val = _
  rw [ext_of_lt a t.isLt, ext_of_lt b t.isLt]
  unfold dn
  by_cases c : 1 ≤ t.val
  · rw [dif_pos c]
    unfold hs
    rw [show (⟨t.val - 1, by omega⟩ : Fin N).val + 1 = t.val by simp only; omega]
    ring
  · rw [dif_neg c]
    have e : run a b t.val = 0 := by rw [show t.val = 0 by omega]; rfl
    rw [e]
    ring

/-- A sequence that runs back from `g` by the factors `a` is the gradient. -/
theorem eq_gs {P : Fin N → ℝ} (h : ∀ t, P t = g t + nx 1 (fun u => a u * P u) t) (t : Fin N) : P t = gs a g t.val := by
  have key : ∀ k, ∀ t : Fin N, N - t.val = k → P t = gs a g t.val := by
    intro k
    induction k with
    | zero => intro t ht; omega
    | succ k ih =>
      intro t ht
      rw [h t, gs_step a g t.isLt]
      congr 1
      unfold nx
      by_cases c : t.val + 1 < N
      · rw [dif_pos c, ext_of_lt a c]
        beta_reduce
        rw [ih ⟨t.val + 1, c⟩ (by simp only; omega)]
      · rw [dif_neg c, show t.val + 1 = N by omega, gs_end, mul_zero]
  exact key _ t rfl

end Recurrence

end Cert.LruMath

end
-- ==== Proof.LruHost.lean ====
/-
  The gated linear recurrence on the host, on finite arguments: the gates, the factors and addends of the recurrence, and its states.
-/
module

public import proofs.«01_k».proof.Proof.LruMath
public import proofs.«01_k».proof.Proof.Gen.LruBwdRIdeal.Read
public import Idealize.ShloMosaic.Lib.Pipeline.Value
public import Idealize.ShloMosaic.Lib.Pipeline.ValueKit
public import Idealize.ShloMosaic.Lib.Tactic

@[expose] public section

set_option maxRecDepth 16384

noncomputable section

namespace Cert.LruBwdRIdeal.Stages

open Cert.LruBwdRIdeal Cert.LruBwdRIdeal.Read Idealize.ShloMosaic Idealize.ShloMosaic.TcCoe Idealize.SL.Sem
open Cert.Reals Cert.LruMath

/-- The arguments as real arrays. -/
structure Data where
  D : S4096x512.Idx → ℝ
  X : S4096x512.Idx → ℝ
  P : S4096x3080.Idx → ℝ
  WA : S8x64x64.Idx → ℝ
  BA : S512.Idx → ℝ
  WX : S8x64x64.Idx → ℝ
  BX : S512.Idx → ℝ
  L : S512.Idx → ℝ
  W : S512.Idx → ℝ

/-- A function of a row and a column, and of a column, as arrays. -/
abbrev big (f : Fin 4096 → Fin 512 → ℝ) : FVec Ideal S4096x512 .f32 := up fun j : S4096x512.Idx => f (j 0) (j 1)
abbrev vec (v : Fin 512 → ℝ) : FVec Ideal S512 .f32 := up fun j : S512.Idx => v (j 0)

/-- The square matrix with the eight blocks `W` on its diagonal. -/
def dense (W : S8x64x64.Idx → ℝ) (i j : Fin 512) : ℝ :=
  if i.val / 64 = j.val / 64 then W (ix3 ⟨j.val / 64, by omega⟩ ⟨i.val % 64, by omega⟩ ⟨j.val % 64, by omega⟩) else 0

/-- A sum over the rows of one column of that matrix has the 64 terms of the column's block. -/
theorem sum_dense (W : S8x64x64.Idx → ℝ) (x : Fin 512 → ℝ) (j : Fin 512) :
    ∑ i, x i * dense W i j = ∑ s : Fin 64, x ⟨64 * (j.val / 64) + s.val, by omega⟩ * W (ix3 ⟨j.val / 64, by omega⟩ s ⟨j.val % 64, by omega⟩) := by
  rw [← Fin.sum_mul_add_fin 8 64 (fun i => x i * dense W i j), Finset.sum_eq_single (⟨j.val / 64, by omega⟩ : Fin 8)]
  · refine Finset.sum_congr rfl fun s _ => ?_
    have hs := s.isLt
    have e : (⟨64 * (j.val / 64) + s.val, by omega⟩ : Fin 512) = ⟨(⟨j.val / 64, by omega⟩ : Fin 8).val * 64 + s.val, by simp only; omega⟩ := Fin.ext (by simp only; omega)
    rw [e]
    unfold dense
    rw [if_pos (by simp only; omega)]
    refine congrArg (fun i => _ * W (ix3 _ i _)) (Fin.ext ?_)
    show (j.val / 64 * 64 + s.val) % 64 = s.val
    omega
  · intro g _ hg
    refine Finset.sum_eq_zero fun s _ => ?_
    have hs := s.isLt
    have hg' : g.val ≠ j.val / 64 := fun e => hg (Fin.ext e)
    unfold dense
    rw [if_neg (by simp only; omega), mul_zero]
  · intro h; exact absurd (Finset.mem_univ _) h

variable (p : Data)

def bias (b : S512.Idx → ℝ) (j : Fin 512) : ℝ := b (ix1 j)
def gate (W : S8x64x64.Idx → ℝ) (b : S512.Idx → ℝ) (t : Fin 4096) (j : Fin 512) : ℝ := (∑ i, p.X (ix2 t i) * dense W i j) + b (ix1 j)
abbrev pa : Fin 4096 → Fin 512 → ℝ := gate p p.WA p.BA
abbrev px : Fin 4096 → Fin 512 → ℝ := gate p p.WX p.BX

theorem v7_up : val_main_v7 (F := Ideal) (up p.X) (up p.WA) (up p.BA) = big (pa p) := by
  funext i
  obtain ⟨a, b, rfl⟩ := exists_ix2 i
  pointwise [val_main_v7, val_main_v6, val_main_v5, val_main_v4, val_main_v3, val_main_v2, val_main_v1]
  simp only [up_apply, mul_up, sum_up, add_up]
  refine congrArg (fun x : ℝ => (x : EReal)) ?_
  show _ = (∑ i, p.X (ix2 a i) * dense p.WA i b) + p.BA (ix1 b)
  rw [sum_dense]
  refine congrArg (· + _) (Finset.sum_congr rfl fun s _ => ?_)
  rw [mul_comm]
  refine congrArg (fun i => p.X (ix2 a i) * _) (Fin.ext ?_)
  show b.val / 64 * 64 + s.val = 64 * (b.val / 64) + s.val
  omega

/-- The logistic function, spelt out. -/
theorem logistic_host (v : ℝ) : Ideal.div 1 (1 + Ideal.exp (-((v : ℝ) : EReal))) = ((lgs v : ℝ) : EReal) := by
  rw [← EReal.coe_neg, Ideal.exp_coe, ← EReal.coe_one, add_up, div_up (by positivity : (1 : ℝ) + Real.exp (-v) ≠ 0), one_div]
  rfl

theorem v19_up : val_main_v19 (F := Ideal) (up p.X) (up p.WA) (up p.BA) = big fun t j => lgs (pa p t j) := by
  funext j
  pointwise [val_main_v19, val_main_v18, val_main_v17, val_main_v16, val_main_v15, val_main_v14, val_main_cst, val_main_cst_0]
  rw [v7_up]
  exact logistic_host _
theorem v28_up : val_main_v28 (F := Ideal) (up p.X) (up p.WX) (up p.BX) = big fun t j => lgs (px p t j) := v19_up { p with WA := p.WX, BA := p.BX }
theorem v22_up : val_main_v22 (F := Ideal) (up p.X) (up p.WA) (up p.BA) = big fun t j => lgs (pa p t j) * (1 - lgs (pa p t j)) := by
  funext j
  pointwise [val_main_v22, val_main_v21, val_main_v20, val_main_cst_1]
  simp only [v19_up, up_apply, ← EReal.coe_one, sub_up, mul_up]
theorem v31_up : val_main_v31 (F := Ideal) (up p.X) (up p.WX) (up p.BX) = big fun t j => lgs (px p t j) * (1 - lgs (px p t j)) := v22_up { p with WA := p.WX, BA := p.BX }
theorem v33_up : val_main_v33 (F := Ideal) (up p.X) (up p.WA) (up p.BA) = big fun t j => 8 * lgs (pa p t j) := by
  funext j
  pointwise [val_main_v33, val_main_v32, val_main_cst_5]
  simp only [v19_up, up_apply, lit_8, mul_up]

theorem ite_up (p : Prop) [Decidable p] (a b : ℝ) : (if p then ((a : ℝ) : EReal) else ((b : ℝ) : EReal)) = (((if p then a else b) : ℝ) : EReal) := by
  split <;> rfl

/-- The parameter of the decay in one column. -/
def lam (j : Fin 512) : ℝ := p.L (ix1 j)

theorem abs_up (a : ℝ) : FloatOps.absf (F := Ideal) (φ := .f32) ((a : ℝ) : EReal) = ((|a| : ℝ) : EReal) := by
  show max ((a : ℝ) : EReal) (-((a : ℝ) : EReal)) = _
  rw [← EReal.coe_neg, max_up]; rfl

theorem sp_up : val_main_call0_v1_0 (F := Ideal) (up p.L) = vec fun j => softplus (-lam p j) := by
  funext i
  obtain ⟨j, rfl⟩ : ∃ j, i = ix1 j := ⟨i 0, by funext k; fin_cases k; rfl⟩
  pointwise [val_main_call0_v1_0, val_main_call0_call0_v11, val_main_call0_call0_v10, val_main_call0_call0_v9, val_main_call0_call0_v8, val_main_call0_call0_v7, val_main_call0_call0_v6, val_main_call0_call0_v5,
    val_main_call0_call0_v4, val_main_call0_call0_v3, val_main_call0_call0_v2, val_main_call0_call0_v1, val_main_call0_call0_v0, val_main_call0_call0_cst, val_main_call0_v0]
  simp only [up_apply]
  refine (if_neg (fun h => h rfl)).trans ?_
  rw [neg_up, abs_up, neg_up, Ideal.exp_coe, ← EReal.coe_zero, max_up]
  unfold Ideal.log1p
  rw [← EReal.coe_one, add_up, Ideal.log_coe, if_neg (not_le.mpr (by positivity)), add_up]
  rfl

theorem ls_up : val_main_v34_0 (F := Ideal) (up p.L) = vec fun j => ls (lam p j) := by
  funext i
  pointwise [val_main_v34_0]
  rw [sp_up]
  simp only [up_apply, neg_up]
  rfl

theorem up_ne_top (a : ℝ) : ((a : ℝ) : EReal) ≠ ⊤ := EReal.coe_ne_top a

theorem slope_up : val_main_v34_1 (F := Ideal) (up p.L) = vec fun j => lgs (-lam p j) := by
  funext i
  obtain ⟨j, rfl⟩ : ∃ j, i = ix1 j := ⟨i 0, by funext k; fin_cases k; rfl⟩
  pointwise [val_main_v34_1, val_main_call0_call0_v21, val_main_call0_call0_v20, val_main_call0_call0_v19, val_main_call0_call0_v18, val_main_call0_call0_v17, val_main_call0_call0_v16,
    val_main_call0_call0_v15, val_main_call0_call0_v14, val_main_call0_call0_v13, val_main_call0_call0_cst_0, val_main_call0_call0_cst_1, val_main_call0_call0_cst_2, val_main_call0_call0_cst_3, val_main_call0_v0]
  rw [sp_up]
  simp only [up_apply]
  refine (congrArg Ideal.exp (congrArg₂ (fun a b : EReal => a - b) (if_neg ?_) (if_neg ?_))).trans ?_
  · rw [neg_up]; exact fun h => up_ne_top _ (h.trans lit_top)
  · exact fun h => up_ne_top _ (h.trans lit_top)
  · rw [neg_up, sub_up, Ideal.exp_coe]
    exact congrArg (fun x : ℝ => (x : EReal)) (exp_sub_softplus (-lam p j))

theorem la_up : val_main_v37 (F := Ideal) (up p.X) (up p.WA) (up p.BA) (up p.L) = big fun t j => la (pa p t j) (lam p j) := by
  funext i
  obtain ⟨a, b, rfl⟩ := exists_ix2 i
  pointwise [val_main_v37, val_main_v36, val_main_v35]
  simp only [v33_up, ls_up, up_apply, mul_up]
  rfl
theorem aa_up : val_main_v38 (F := Ideal) (up p.X) (up p.WA) (up p.BA) (up p.L) = big fun t j => aa (pa p t j) (lam p j) := by
  funext i
  pointwise [val_main_v38]
  simp only [la_up, up_apply, Ideal.exp_coe]
  rfl
theorem sq_up : val_main_v42 (F := Ideal) (up p.X) (up p.WA) (up p.BA) (up p.L) = big fun t j => sq (pa p t j) (lam p j) := by
  funext i
  pointwise [val_main_v42, val_main_v40, val_main_v39, val_main_cst_6]
  simp only [la_up, up_apply, lit_two, mul_up, Ideal.exp_coe]
  rfl
theorem om_up : val_main_v43 (F := Ideal) (up p.X) (up p.WA) (up p.BA) (up p.L) = big fun t j => 1 - sq (pa p t j) (lam p j) := by
  funext i
  pointwise [val_main_v43, val_main_v41, val_main_v40, val_main_v39, val_main_cst_6]
  simp only [la_up, up_apply, lit_two, mul_up]
  simp only [Ideal.exp_coe, ← EReal.coe_one, sub_up, neg_up, neg_sub]
  rfl
theorem mm_up : val_main_v45 (F := Ideal) (up p.X) (up p.WA) (up p.BA) (up p.L) = big fun t j => mm (pa p t j) (lam p j) := by
  funext i
  pointwise [val_main_v45, val_main_v44, val_main_cst_7]
  simp only [om_up, up_apply, lit_tiny, max_up]
  rfl
theorem sel_up : val_main_v54 (F := Ideal) (up p.X) (up p.WA) (up p.BA) (up p.L) = big fun t j => sel (pa p t j) (lam p j) := by
  funext i
  pointwise [val_main_v54, val_main_v53, val_main_v52, val_main_v51, val_main_v50, val_main_v49, val_main_v48, val_main_v47, val_main_v46, val_main_cst_8, val_main_cst_9, val_main_cst_10, val_main_cst_11, val_main_cst_12]
  simp only [om_up, up_apply, ← EReal.coe_zero, ← EReal.coe_one, lit_half, lit_tiny]
  simp only [EReal.coe_lt_coe_iff, EReal.coe_eq_coe_iff, ite_up]
  rfl
theorem mu_up : val_main_v55 (F := Ideal) (up p.X) (up p.WA) (up p.BA) (up p.L) = big fun t j => mu (pa p t j) (lam p j) := by
  funext i
  pointwise [val_main_v55]
  simp only [mm_up, up_apply]
  rw [Ideal.sqrt_coe, if_neg (not_lt.mpr (mm_pos _ _).le)]
  rfl
theorem hmu_up : val_main_v57 (F := Ideal) (up p.X) (up p.WA) (up p.BA) (up p.L) = big fun t j => 1 / 2 / mu (pa p t j) (lam p j) := by
  funext i
  pointwise [val_main_v57, val_main_v56, val_main_cst_13]
  simp only [mu_up, up_apply, lit_half, div_up (mu_pos _ _).ne']
theorem ix_up : val_main_v58 (F := Ideal) (up p.X) (up p.WX) (up p.BX) = big fun t j => lgs (px p t j) * p.X (ix2 t j) := by
  funext i
  obtain ⟨a, b, rfl⟩ := exists_ix2 i
  pointwise [val_main_v58]
  simp only [v28_up, up_apply, mul_up]
  rfl
theorem bb_up : val_main_v59 (F := Ideal) (up p.X) (up p.WA) (up p.BA) (up p.WX) (up p.BX) (up p.L) = big fun t j => bb (pa p t j) (px p t j) (lam p j) (p.X (ix2 t j)) := by
  funext i
  pointwise [val_main_v59]
  simp only [mu_up, ix_up, up_apply, mul_up]
  rfl

/-! ## The doubling steps -/

section Steps
variable {d n : ℕ} (f : Fin 4096 → Fin 512 → ℝ)

theorem shifted (c : ℝ) (x : FVec Ideal ⟨2, ![d, 512]⟩ .f32) (hx : ∀ i, x i = ((c : ℝ) : EReal))
    (hs : S4096x512.Slices ![0, 0] ⟨2, ![n, 512]⟩) (hc : Shape.Concatenates [⟨2, ![d, 512]⟩, ⟨2, ![n, 512]⟩] S4096x512 0) :
    concatenate S4096x512 0 [⟨⟨2, ![d, 512]⟩, x⟩, ⟨⟨2, ![n, 512]⟩, extractStridedSlice ⟨2, ![n, 512]⟩ ![0, 0] (big f) hs⟩] hc
      = big fun t j => dn c d (fun u => f u j) t := by
  funext i
  obtain ⟨a, b, rfl⟩ := exists_ix2 i
  pointwise
  by_cases c1 : a.val < d
  · refine (dif_pos c1).trans ((hx _).trans (congrArg (fun x : ℝ => (x : EReal)) ?_))
    show c = if h : d ≤ a.val then f ⟨a.val - d, by omega⟩ b else c
    rw [dif_neg (not_le.mpr c1)]
  · refine (dif_neg c1).trans (congrArg (fun x : ℝ => (x : EReal)) ?_)
    refine Eq.trans ?_ (dif_pos (not_lt.mp c1)).symm
    rfl

theorem padded (hd : d + n = 4096) (z : FVec Ideal S_ .f32) (hz : ∀ i, z i = ((0 : ℝ) : EReal))
    (hs : S4096x512.Slices ![d, 0] ⟨2, ![n, 512]⟩) (hp : (⟨2, ![n, 512]⟩ : Shape).Pads (![0, 0] : Fin 2 → Nat) ![d, 0] ![0, 0] S4096x512) :
    pad S4096x512 ![0, 0] ![d, 0] ![0, 0] (extractStridedSlice ⟨2, ![n, 512]⟩ ![d, 0] (big f) hs) z hp
      = big fun t j => nx d (fun u => f u j) t := by
  funext i
  obtain ⟨a, b, rfl⟩ := exists_ix2 i
  pointwise
  by_cases c1 : a.val < n
  · refine (dif_pos c1).trans (congrArg (fun x : ℝ => (x : EReal)) ?_)
    refine Eq.trans ?_ (dif_pos (by omega : a.val + d < 4096)).symm
    refine congrArg₂ f (Fin.ext ?_) (Fin.ext ?_)
    · show d + (a.val - 0) / (0 + 1) = a.val + d
      omega
    · show (b.val - 0) / (0 + 1) = b.val
      omega
  · refine (dif_neg c1).trans ((hz _).trans (congrArg (fun x : ℝ => (x : EReal)) ?_))
    show (0 : ℝ) = if h : a.val + d < 4096 then f ⟨a.val + d, h⟩ b else 0
    rw [dif_neg (by omega)]
end Steps

end Cert.LruBwdRIdeal.Stages

end
-- ==== Proof.LruFwd.lean ====
/-
  The gated linear recurrence on the host: twelve doubling steps lead from the factors and the addends to the states.
-/
module

public import proofs.«01_k».proof.Proof.LruHost

@[expose] public section

set_option maxRecDepth 16384

noncomputable section

namespace Cert.LruBwdRIdeal.Stages

open Cert.LruBwdRIdeal Cert.LruBwdRIdeal.Read Idealize.ShloMosaic Idealize.ShloMosaic.TcCoe Idealize.SL.Sem
open Cert.Reals Cert.LruMath

variable (p : Data)

/-- The factors and the addends of the recurrence. -/
def fa (t : Fin 4096) (j : Fin 512) : ℝ := aa (pa p t j) (lam p j)
def fb (t : Fin 4096) (j : Fin 512) : ℝ := bb (pa p t j) (px p t j) (lam p j) (p.X (ix2 t j))
/-- Its states. -/
def st (t : Fin 4096) (j : Fin 512) : ℝ := hs (fun u => fa p u j) (fun u => fb p u j) t

/-- The factors and the addends after `k` doubling steps, -/
def LAB : ℕ → (Fin 4096 → Fin 512 → ℝ) × (Fin 4096 → Fin 512 → ℝ)
  | 0 => (fa p, fb p)
  | k + 1 => (fun t j => stA (2 ^ k) (fun u => (LAB k).1 u j) t, fun t j => stB (2 ^ k) (fun u => (LAB k).1 u j) (fun u => (LAB k).2 u j) t)
def LA (k : ℕ) : Fin 4096 → Fin 512 → ℝ := (LAB p k).1
def LB (k : ℕ) : Fin 4096 → Fin 512 → ℝ := (LAB p k).2
/-- and the same moved down by the step's distance. -/
def SA (k : ℕ) (t : Fin 4096) (j : Fin 512) : ℝ := dn 1 (2 ^ k) (fun u => LA p k u j) t
def SB (k : ℕ) (t : Fin 4096) (j : Fin 512) : ℝ := dn 0 (2 ^ k) (fun u => LB p k u j) t

theorem fwd (k : ℕ) (j : Fin 512) : Fwd (fun t => st p t j) (2 ^ k) (fun u => LA p k u j) (fun u => LB p k u j) := by
  induction k with
  | zero => exact hs_fwd _ _
  | succ k ih =>
    rw [pow_succ, Nat.mul_comm]
    exact fwd_step ih

theorem LB_last : LB p 12 = st p := by
  funext t j
  exact fwd_last (by norm_num : 4096 ≤ 2 ^ 12) (fwd p 12 j) t

/-- What one doubling step finds and leaves. -/
def Level (k : ℕ) (sa sb va vb : FVec Ideal S4096x512 .f32) : Prop :=
  sa = big (SA p k) ∧ sb = big (SB p k) ∧ va = big (LA p (k + 1)) ∧ vb = big (LB p (k + 1))

/-- What a buffer of a shape holds. -/
abbrev Arr (S : Shape) := BufTy.Contents (Elt Ideal) ⟨S, .f32⟩

theorem level {d n : ℕ} (k : ℕ) (hd : 2 ^ k = d) {sa sb va vb va' vb' : FVec Ideal S4096x512 .f32} (ha : va = big (LA p k)) (hb : vb = big (LB p k))
    (x1 x0 : Arr ⟨2, ![d, 512]⟩) (h1 : ∀ i, x1 i = ((1 : ℝ) : EReal)) (h0 : ∀ i, x0 i = ((0 : ℝ) : EReal))
    (hs : S4096x512.Slices ![0, 0] ⟨2, ![n, 512]⟩) (hc : Shape.Concatenates [⟨2, ![d, 512]⟩, ⟨2, ![n, 512]⟩] S4096x512 0)
    (e1 : sa = concatenate S4096x512 0 [⟨⟨2, ![d, 512]⟩, x1⟩, ⟨⟨2, ![n, 512]⟩, extractStridedSlice ⟨2, ![n, 512]⟩ ![0, 0] va hs⟩] hc)
    (e2 : sb = concatenate S4096x512 0 [⟨⟨2, ![d, 512]⟩, x0⟩, ⟨⟨2, ![n, 512]⟩, extractStridedSlice ⟨2, ![n, 512]⟩ ![0, 0] vb hs⟩] hc)
    (e3 : va' = mulf sa va) (e4 : vb' = addf (mulf va sb) vb) : Level p k sa sb va' vb' := by
  subst hd
  have r1 : sa = big (SA p k) := e1.trans (by rw [ha]; exact shifted (LA p k) 1 x1 h1 hs hc)
  have r2 : sb = big (SB p k) := e2.trans (by rw [hb]; exact shifted (LB p k) 0 x0 h0 hs hc)
  refine ⟨r1, r2, ?_, ?_⟩
  · rw [e3, r1, ha]
    funext i
    pointwise
    simp only [up_apply, mul_up]
    rfl
  · rw [e4, r2, ha, hb]
    funext i
    pointwise
    simp only [up_apply, mul_up, add_up]
    rfl

/-- A stage of the factors, and one of the addends, at the arguments. -/
abbrev AtA (f : Arr S4096x512 → Arr S8x64x64 → Arr S512 → Arr S512 → Arr S4096x512) : FVec Ideal S4096x512 .f32 :=
  f (up p.X) (up p.WA) (up p.BA) (up p.L)
abbrev AtB (f : Arr S4096x512 → Arr S8x64x64 → Arr S512 → Arr S8x64x64 → Arr S512 → Arr S512 → Arr S4096x512) : FVec Ideal S4096x512 .f32 :=
  f (up p.X) (up p.WA) (up p.BA) (up p.WX) (up p.BX) (up p.L)

theorem level0 : Level p 0 (AtA p val_main_v62) (AtB p val_main_v66) (AtA p val_main_v68) (AtB p val_main_v70) :=
  level (d := 1) (n := 4095) p 0 rfl (aa_up p) (bb_up p) val_main_v60 val_main_v64 (fun _ => lit_one) (fun _ => lit_zero) _ _ rfl rfl rfl rfl
theorem level1 : Level p 1 (AtA p val_main_v73) (AtB p val_main_v77) (AtA p val_main_v79) (AtB p val_main_v81) :=
  level (d := 2) (n := 4094) p 1 rfl (level0 p).2.2.1 (level0 p).2.2.2 val_main_v71 val_main_v75 (fun _ => lit_one) (fun _ => lit_zero) _ _ rfl rfl rfl rfl
theorem level2 : Level p 2 (AtA p val_main_v84) (AtB p val_main_v88) (AtA p val_main_v90) (AtB p val_main_v92) :=
  level (d := 4) (n := 4092) p 2 rfl (level1 p).2.2.1 (level1 p).2.2.2 val_main_v82 val_main_v86 (fun _ => lit_one) (fun _ => lit_zero) _ _ rfl rfl rfl rfl
theorem level3 : Level p 3 (AtA p val_main_v95) (AtB p val_main_v99) (AtA p val_main_v101) (AtB p val_main_v103) :=
  level (d := 8) (n := 4088) p 3 rfl (level2 p).2.2.1 (level2 p).2.2.2 val_main_v93 val_main_v97 (fun _ => lit_one) (fun _ => lit_zero) _ _ rfl rfl rfl rfl
theorem level4 : Level p 4 (AtA p val_main_v106) (AtB p val_main_v110) (AtA p val_main_v112) (AtB p val_main_v114) :=
  level (d := 16) (n := 4080) p 4 rfl (level3 p).2.2.1 (level3 p).2.2.2 val_main_v104 val_main_v108 (fun _ => lit_one) (fun _ => lit_zero) _ _ rfl rfl rfl rfl
theorem level5 : Level p 5 (AtA p val_main_v117) (AtB p val_main_v121) (AtA p val_main_v123) (AtB p val_main_v125) :=
  level (d := 32) (n := 4064) p 5 rfl (level4 p).2.2.1 (level4 p).2.2.2 val_main_v115 val_main_v119 (fun _ => lit_one) (fun _ => lit_zero) _ _ rfl rfl rfl rfl
theorem level6 : Level p 6 (AtA p val_main_v128) (AtB p val_main_v132) (AtA p val_main_v134) (AtB p val_main_v136) :=
  level (d := 64) (n := 4032) p 6 rfl (level5 p).2.2.1 (level5 p).2.2.2 val_main_v126 val_main_v130 (fun _ => lit_one) (fun _ => lit_zero) _ _ rfl rfl rfl rfl
theorem level7 : Level p 7 (AtA p val_main_v139) (AtB p val_main_v143) (AtA p val_main_v145) (AtB p val_main_v147) :=
  level (d := 128) (n := 3968) p 7 rfl (level6 p).2.2.1 (level6 p).2.2.2 val_main_v137 val_main_v141 (fun _ => lit_one) (fun _ => lit_zero) _ _ rfl rfl rfl rfl
theorem level8 : Level p 8 (AtA p val_main_v150) (AtB p val_main_v154) (AtA p val_main_v156) (AtB p val_main_v158) :=
  level (d := 256) (n := 3840) p 8 rfl (level7 p).2.2.1 (level7 p).2.2.2 val_main_v148 val_main_v152 (fun _ => lit_one) (fun _ => lit_zero) _ _ rfl rfl rfl rfl
theorem level9 : Level p 9 (AtA p val_main_v161) (AtB p val_main_v165) (AtA p val_main_v167) (AtB p val_main_v169) :=
  level (d := 512) (n := 3584) p 9 rfl (level8 p).2.2.1 (level8 p).2.2.2 val_main_v159 val_main_v163 (fun _ => lit_one) (fun _ => lit_zero) _ _ rfl rfl rfl rfl
theorem level10 : Level p 10 (AtA p val_main_v172) (AtB p val_main_v176) (AtA p val_main_v178) (AtB p val_main_v180) :=
  level (d := 1024) (n := 3072) p 10 rfl (level9 p).2.2.1 (level9 p).2.2.2 val_main_v170 val_main_v174 (fun _ => lit_one) (fun _ => lit_zero) _ _ rfl rfl rfl rfl
theorem level11 : Level p 11 (AtA p val_main_v183) (AtB p val_main_v187) (AtA p val_main_v189) (AtB p val_main_v191) :=
  level (d := 2048) (n := 2048) p 11 rfl (level10 p).2.2.1 (level10 p).2.2.2 val_main_v181 val_main_v185 (fun _ => lit_one) (fun _ => lit_zero) _ _ rfl rfl rfl rfl

/-- The states, as the last step leaves them. -/
theorem st_up : val_main_v191 (F := Ideal) (up p.X) (up p.WA) (up p.BA) (up p.WX) (up p.BX) (up p.L) = big (st p) := by
  rw [← LB_last]
  exact (level11 p).2.2.2

end Cert.LruBwdRIdeal.Stages

end
-- ==== Proof.LruTop.lean ====
/-
  The gated linear recurrence on the host: the gated and normed output, and the gradients at the states, at the gate and at the norm's weight.
-/
module

public import proofs.«01_k».proof.Proof.LruFwd

@[expose] public section

set_option maxRecDepth 16384

noncomputable section

namespace Cert.LruBwdRIdeal.Stages

open Cert.LruBwdRIdeal Cert.LruBwdRIdeal.Read Idealize.ShloMosaic Idealize.ShloMosaic.TcCoe Idealize.SL.Sem
open Cert.Reals Cert.LruMath

variable (p : Data)

/-- The gate's argument, the cotangent and the norm's weight by row and column. -/
def gy (t : Fin 4096) (k : Fin 512) : ℝ := p.P (ix2 t ⟨512 + k.val, by omega⟩)
def ct (t : Fin 4096) (k : Fin 512) : ℝ := p.D (ix2 t k)
def nw (k : Fin 512) : ℝ := p.W (ix1 k)

theorem v0_up : val_main_v0 (F := Ideal) (up p.P) = big (gy p) := by
  funext i
  obtain ⟨a, b, rfl⟩ := exists_ix2 i
  pointwise [val_main_v0]
  simp only [up_apply]
  rfl

theorem th_host : val_main_v202 (F := Ideal) (up p.P) = big fun t k => th (gy p t k) := by
  funext i
  pointwise [val_main_v202, val_main_v201, val_main_v200, val_main_v199, val_main_v198, val_main_v197, val_main_v193, val_main_v192, val_main_cst_63, val_main_cst_64]
  simp only [v0_up, up_apply, lit_gA, lit_gB, mul_up, add_up, Ideal.tanh_coe]
  unfold th
  rw [mul_comm (gy p (i 0) (i 1) * gy p (i 0) (i 1))]
theorem th1_host : val_main_v207 (F := Ideal) (up p.P) = big fun t k => (1 + th (gy p t k)) * (1 - th (gy p t k)) := by
  funext i
  pointwise [val_main_v207, val_main_v206, val_main_v205, val_main_v204, val_main_v203, val_main_cst_65, val_main_cst_66]
  simp only [th_host, up_apply, ← EReal.coe_one, sub_up, add_up, mul_up]
theorem hf_host : val_main_v211 (F := Ideal) (up p.P) = big fun t k => hf (gy p t k) := by
  funext i
  pointwise [val_main_v211, val_main_v210, val_main_v209, val_main_v208, val_main_cst_67, val_main_cst_68]
  simp only [th_host, up_apply, ← EReal.coe_one, lit_half, add_up, mul_up]
  rfl
theorem gl_host : val_main_v212 (F := Ideal) (up p.P) = big fun t k => gl (gy p t k) := by
  funext i
  pointwise [val_main_v212]
  simp only [v0_up, hf_host, up_apply, mul_up]
  rfl
theorem sq3_host : val_main_v196 (F := Ideal) (up p.P) = big fun t k => 3 * (gy p t k * gy p t k) := by
  funext i
  pointwise [val_main_v196, val_main_v195, val_main_v194, val_main_cst_62]
  simp only [v0_up, up_apply, lit_3, mul_up]

theorem q_host : val_main_v213 (F := Ideal) (up p.X) (up p.P) (up p.WA) (up p.BA) (up p.WX) (up p.BX) (up p.L) = big fun t => q (st p t) (gy p t) := by
  funext i
  pointwise [val_main_v213]
  simp only [st_up, gl_host, up_apply, mul_up]
  rfl
theorem ms_host : val_main_v220 (F := Ideal) (up p.X) (up p.P) (up p.WA) (up p.BA) (up p.WX) (up p.BX) (up p.L)
    = up fun i : S4096x1.Idx => ms (st p (i 0)) (gy p (i 0)) := by
  funext i
  pointwise [val_main_v220, val_main_v219, val_main_v218, val_main_v217, val_main_v216, val_main_v215, val_main_v214, val_main_cst_69, val_main_cst_70, val_main_cst_71]
  simp (disch := norm_num) only [q_host, up_apply, mul_up, sum_up, lit_zero, lit_512, lit_eps, add_up, zero_add, div_up]
  rfl
theorem rs_host : val_main_v221 (F := Ideal) (up p.X) (up p.P) (up p.WA) (up p.BA) (up p.WX) (up p.BX) (up p.L)
    = up fun i : S4096x1.Idx => rs (st p (i 0)) (gy p (i 0)) := by
  funext i
  pointwise [val_main_v221]
  simp only [ms_host, up_apply, rsqrt_ms]
theorem slope_host : val_main_v224 (F := Ideal) (up p.X) (up p.P) (up p.WA) (up p.BA) (up p.WX) (up p.BX) (up p.L)
    = up fun i : S4096x1.Idx => -(1 / 2) * (rs (st p (i 0)) (gy p (i 0)) / ms (st p (i 0)) (gy p (i 0))) := by
  funext i
  pointwise [val_main_v224, val_main_v223, val_main_v222, val_main_cst_72]
  simp only [ms_host, rs_host, up_apply, div_ms, lit_neg_half, mul_up]
theorem nrm_host : val_main_v226 (F := Ideal) (up p.X) (up p.P) (up p.WA) (up p.BA) (up p.WX) (up p.BX) (up p.L)
    = big fun t k => q (st p t) (gy p t) k * rs (st p t) (gy p t) := by
  funext i
  pointwise [val_main_v226, val_main_v225]
  simp only [q_host, rs_host, up_apply, mul_up]
  rfl
theorem dw_host : val_main_v234 (F := Ideal) (up p.D) (up p.W) = big fun t k => ct p t k * nw p k := by
  funext i
  obtain ⟨a, b, rfl⟩ := exists_ix2 i
  pointwise [val_main_v234, val_main_v233, val_main_v227]
  simp only [up_apply, mul_up]
  rfl
theorem back_host : val_main_v245 (F := Ideal) (up p.D) (up p.X) (up p.P) (up p.WA) (up p.BA) (up p.WX) (up p.BX) (up p.L) (up p.W)
    = big fun t _ => back (st p t) (gy p t) (ct p t) (nw p) := by
  funext i
  pointwise [val_main_v245, val_main_v244, val_main_v243, val_main_v242, val_main_v241, val_main_v238, val_main_v237, val_main_v236, val_main_cst_75, val_main_cst_76, val_main_cst_77]
  simp (disch := norm_num) only [slope_host, q_host, dw_host, up_apply, mul_up, sum_up, lit_512, lit_zero, div_up, add_up, zero_add, Fin.sum_univ_one]
  rfl
theorem dq_host : val_main_v249 (F := Ideal) (up p.D) (up p.X) (up p.P) (up p.WA) (up p.BA) (up p.WX) (up p.BX) (up p.L) (up p.W)
    = big fun t => dq (st p t) (gy p t) (ct p t) (nw p) := by
  funext i
  pointwise [val_main_v249, val_main_v248, val_main_v247, val_main_v246, val_main_v240, val_main_v239]
  simp only [back_host, q_host, dw_host, rs_host, up_apply, mul_up, add_up]
  rfl

/-- The gradient at the states, before it runs back through the recurrence. -/
def gh (t : Fin 4096) (k : Fin 512) : ℝ := dh (st p t) (gy p t) (ct p t) (nw p) k

theorem dh_host : val_main_v251 (F := Ideal) (up p.D) (up p.X) (up p.P) (up p.WA) (up p.BA) (up p.WX) (up p.BX) (up p.L) (up p.W) = big (gh p) := by
  funext i
  pointwise [val_main_v251]
  simp only [dq_host, gl_host, up_apply, mul_up]
  rfl
theorem dly_host : val_main_v263 (F := Ideal) (up p.D) (up p.X) (up p.P) (up p.WA) (up p.BA) (up p.WX) (up p.BX) (up p.L) (up p.W)
    = big fun t => dly (st p t) (gy p t) (ct p t) (nw p) := by
  funext i
  pointwise [val_main_v263, val_main_v262, val_main_v261, val_main_v260, val_main_v259, val_main_v258, val_main_v257, val_main_v256, val_main_v255, val_main_v254, val_main_v253, val_main_v252, val_main_v250,
    val_main_cst_78, val_main_cst_79, val_main_cst_80]
  simp only [dq_host, st_up, v0_up, hf_host, th1_host, sq3_host, up_apply, lit_half, lit_gA, lit_gB, mul_up, add_up]
  rfl

/-- The gradient at the norm's weight. -/
def dnw (k : Fin 512) : ℝ := ∑ t, dlnw (st p t) (gy p t) (ct p t) k

theorem dnw_host : val_main_v460 (F := Ideal) (up p.D) (up p.X) (up p.P) (up p.WA) (up p.BA) (up p.WX) (up p.BX) (up p.L) = up fun i : S1x512.Idx => dnw p (i 1) := by
  funext i
  obtain ⟨a, b, rfl⟩ := exists_ix2 i
  pointwise [val_main_v460, val_main_v235, val_main_v232, val_main_v231, val_main_v230, val_main_cst_73, val_main_cst_74]
  simp only [nrm_host, up_apply, mul_up, sum_up, lit_zero, add_up, zero_add, Fin.sum_univ_one]
  rfl

end Cert.LruBwdRIdeal.Stages

end
-- ==== Proof.LruBack.lean ====
/-
  The gated linear recurrence on the host: the gradients at the states run back through the twelve doubling steps.
-/
module

public import proofs.«01_k».proof.Proof.LruTop

@[expose] public section

set_option maxRecDepth 16384

noncomputable section

namespace Cert.LruBwdRIdeal.Stages

open Cert.LruBwdRIdeal Cert.LruBwdRIdeal.Read Idealize.ShloMosaic Idealize.ShloMosaic.TcCoe Idealize.SL.Sem
open Cert.Reals Cert.LruMath

variable (p : Data)

/-- The gradients at the addends and at the factors, `m` steps back from the last doubling step. -/
def PQ : ℕ → (Fin 4096 → Fin 512 → ℝ) × (Fin 4096 → Fin 512 → ℝ)
  | 0 => (gh p, fun _ _ => 0)
  | m + 1 => (fun t j => bkB (2 ^ (11 - m)) (fun u => LA p (11 - m) u j) (fun u => (PQ m).1 u j) t,
      fun t j => bkA (2 ^ (11 - m)) (fun u => LA p (11 - m) u j) (fun u => LB p (11 - m) u j) (fun u => (PQ m).1 u j) (fun u => (PQ m).2 u j) t)
def PP (m : ℕ) : Fin 4096 → Fin 512 → ℝ := (PQ p m).1
def QQ (m : ℕ) : Fin 4096 → Fin 512 → ℝ := (PQ p m).2

theorem bwd (m : ℕ) (hm : m ≤ 12) (j : Fin 512) :
    Bwd (fun t => st p t j) (fun t => gh p t j) (2 ^ (12 - m)) (fun u => LA p (12 - m) u j) (fun u => PP p m u j) (fun u => QQ p m u j) := by
  induction m with
  | zero => exact bwd_last (by norm_num) _
  | succ m ih =>
    have ih' := ih (by omega)
    rw [show 12 - m = (11 - m) + 1 by omega, pow_succ, Nat.mul_comm] at ih'
    rw [show 12 - (m + 1) = 11 - m by omega]
    exact bwd_step (fwd p (11 - m) j) ih'

/-- The gradient at the addend of a row, and at its factor. -/
def ga (t : Fin 4096) (j : Fin 512) : ℝ := gs (fun u => fa p u j) (fun u => gh p u j) t.val
def gf (t : Fin 4096) (j : Fin 512) : ℝ := ga p t j * dn 0 1 (fun u => st p u j) t

theorem PP_last : PP p 12 = ga p := by
  funext t j
  exact eq_gs _ _ (bwd p 12 le_rfl j).1 t
theorem QQ_last : QQ p 12 = gf p := by
  funext t j
  refine ((bwd p 12 le_rfl j).2 t).trans ?_
  show PP p 12 t j * _ = _
  rw [PP_last]
  rfl

section Step
variable {d n : ℕ} {va sa sb P Q P' Q' : FVec Ideal S4096x512 .f32}

theorem back_addend (k m : ℕ) (hk : 11 - m = k) (hd : 2 ^ k = d) (hn : d + n = 4096) (hva : va = big (LA p k)) (hP : P = big (PP p m))
    (z : Arr S_) (hz : ∀ i, z i = ((0 : ℝ) : EReal))
    (hs : S4096x512.Slices ![d, 0] ⟨2, ![n, 512]⟩) (hp : (⟨2, ![n, 512]⟩ : Shape).Pads (![0, 0] : Fin 2 → Nat) ![d, 0] ![0, 0] S4096x512)
    (e : P' = addf P (pad S4096x512 ![0, 0] ![d, 0] ![0, 0] (extractStridedSlice ⟨2, ![n, 512]⟩ ![d, 0] (mulf va P) hs) z hp)) : P' = big (PP p (m + 1)) := by
  subst hk hd
  have h : mulf va P = big fun t j => LA p (11 - m) t j * PP p m t j := by
    rw [hva, hP]; funext i; pointwise; simp only [up_apply, mul_up]
  rw [e, h, padded _ hn z hz hs hp, hP]
  funext i
  pointwise
  simp only [up_apply, add_up]
  rfl

theorem back_factor (k m : ℕ) (hk : 11 - m = k) (hd : 2 ^ k = d) (hn : d + n = 4096) (hva : va = big (LA p k)) (hsa : sa = big (SA p k)) (hsb : sb = big (SB p k))
    (hP : P = big (PP p m)) (hQ : Q = big (QQ p m))
    (z : Arr S_) (hz : ∀ i, z i = ((0 : ℝ) : EReal))
    (hs : S4096x512.Slices ![d, 0] ⟨2, ![n, 512]⟩) (hp : (⟨2, ![n, 512]⟩ : Shape).Pads (![0, 0] : Fin 2 → Nat) ![d, 0] ![0, 0] S4096x512)
    (e : Q' = addf (addf (mulf P sb) (mulf sa Q)) (pad S4096x512 ![0, 0] ![d, 0] ![0, 0] (extractStridedSlice ⟨2, ![n, 512]⟩ ![d, 0] (mulf Q va) hs) z hp)) :
    Q' = big (QQ p (m + 1)) := by
  subst hk hd
  have h : mulf Q va = big fun t j => QQ p m t j * LA p (11 - m) t j := by
    rw [hva, hQ]; funext i; pointwise; simp only [up_apply, mul_up]
  rw [e, h, padded _ hn z hz hs hp, hP, hQ, hsa, hsb]
  funext i
  pointwise
  simp only [up_apply, mul_up, add_up]
  rfl

/-- At the last step nothing has reached the factors yet. -/
theorem back_top (hP : P = big (PP p 0)) (hsb : sb = big (SB p 11)) (e : Q' = mulf P sb) : Q' = big (QQ p 1) := by
  rw [e, hP, hsb]
  funext i
  pointwise
  simp only [up_apply, mul_up]
  refine congrArg (fun x : ℝ => (x : EReal)) ?_
  show _ = PP p 0 (i 0) (i 1) * SB p 11 (i 0) (i 1) + _ * 0 + nx (2 ^ 11) (fun u => 0 * LA p 11 u (i 1)) (i 0)
  simp only [zero_mul, mul_zero, add_zero]
  unfold nx
  rw [show (if h : (i 0).val + 2 ^ 11 < 4096 then (0 : ℝ) else 0) = 0 by split_ifs <;> rfl, add_zero]

end Step

/-- A stage of the gradients at the arguments. -/
abbrev AtG (f : Arr S4096x512 → Arr S4096x512 → Arr S4096x3080 → Arr S8x64x64 → Arr S512 → Arr S8x64x64 → Arr S512 → Arr S512 → Arr S512 → Arr S4096x512) :
    FVec Ideal S4096x512 .f32 :=
  f (up p.D) (up p.X) (up p.P) (up p.WA) (up p.BA) (up p.WX) (up p.BX) (up p.L) (up p.W)

theorem addend0 : AtG p val_main_v269 = big (PP p 1) :=
  back_addend (d := 2048) (n := 2048) p 11 0 rfl rfl rfl (level10 p).2.2.1 (dh_host p) val_main_cst_81 (fun _ => lit_zero) _ _ rfl
theorem factor0 : AtG p val_main_v265 = big (QQ p 1) := back_top p (dh_host p) (level11 p).2.1 rfl
theorem addend1 : AtG p val_main_v278 = big (PP p 2) :=
  back_addend (d := 1024) (n := 3072) p 10 1 rfl rfl rfl (level9 p).2.2.1 (addend0 p) val_main_cst_82 (fun _ => lit_zero) _ _ rfl
theorem factor1 : AtG p val_main_v282 = big (QQ p 2) :=
  back_factor (d := 1024) (n := 3072) p 10 1 rfl rfl rfl (level9 p).2.2.1 (level10 p).1 (level10 p).2.1 (addend0 p) (factor0 p) val_main_cst_83 (fun _ => lit_zero) _ _ rfl
theorem addend2 : AtG p val_main_v291 = big (PP p 3) :=
  back_addend (d := 512) (n := 3584) p 9 2 rfl rfl rfl (level8 p).2.2.1 (addend1 p) val_main_cst_84 (fun _ => lit_zero) _ _ rfl
theorem factor2 : AtG p val_main_v295 = big (QQ p 3) :=
  back_factor (d := 512) (n := 3584) p 9 2 rfl rfl rfl (level8 p).2.2.1 (level9 p).1 (level9 p).2.1 (addend1 p) (factor1 p) val_main_cst_85 (fun _ => lit_zero) _ _ rfl
theorem addend3 : AtG p val_main_v304 = big (PP p 4) :=
  back_addend (d := 256) (n := 3840) p 8 3 rfl rfl rfl (level7 p).2.2.1 (addend2 p) val_main_cst_86 (fun _ => lit_zero) _ _ rfl
theorem factor3 : AtG p val_main_v308 = big (QQ p 4) :=
  back_factor (d := 256) (n := 3840) p 8 3 rfl rfl rfl (level7 p).2.2.1 (level8 p).1 (level8 p).2.1 (addend2 p) (factor2 p) val_main_cst_87 (fun _ => lit_zero) _ _ rfl
theorem addend4 : AtG p val_main_v317 = big (PP p 5) :=
  back_addend (d := 128) (n := 3968) p 7 4 rfl rfl rfl (level6 p).2.2.1 (addend3 p) val_main_cst_88 (fun _ => lit_zero) _ _ rfl
theorem factor4 : AtG p val_main_v321 = big (QQ p 5) :=
  back_factor (d := 128) (n := 3968) p 7 4 rfl rfl rfl (level6 p).2.2.1 (level7 p).1 (level7 p).2.1 (addend3 p) (factor3 p) val_main_cst_89 (fun _ => lit_zero) _ _ rfl
theorem addend5 : AtG p val_main_v330 = big (PP p 6) :=
  back_addend (d := 64) (n := 4032) p 6 5 rfl rfl rfl (level5 p).2.2.1 (addend4 p) val_main_cst_90 (fun _ => lit_zero) _ _ rfl
theorem factor5 : AtG p val_main_v334 = big (QQ p 6) :=
  back_factor (d := 64) (n := 4032) p 6 5 rfl rfl rfl (level5 p).2.2.1 (level6 p).1 (level6 p).2.1 (addend4 p) (factor4 p) val_main_cst_91 (fun _ => lit_zero) _ _ rfl
theorem addend6 : AtG p val_main_v343 = big (PP p 7) :=
  back_addend (d := 32) (n := 4064) p 5 6 rfl rfl rfl (level4 p).2.2.1 (addend5 p) val_main_cst_92 (fun _ => lit_zero) _ _ rfl
theorem factor6 : AtG p val_main_v347 = big (QQ p 7) :=
  back_factor (d := 32) (n := 4064) p 5 6 rfl rfl rfl (level4 p).2.2.1 (level5 p).1 (level5 p).2.1 (addend5 p) (factor5 p) val_main_cst_93 (fun _ => lit_zero) _ _ rfl
theorem addend7 : AtG p val_main_v356 = big (PP p 8) :=
  back_addend (d := 16) (n := 4080) p 4 7 rfl rfl rfl (level3 p).2.2.1 (addend6 p) val_main_cst_94 (fun _ => lit_zero) _ _ rfl
theorem factor7 : AtG p val_main_v360 = big (QQ p 8) :=
  back_factor (d := 16) (n := 4080) p 4 7 rfl rfl rfl (level3 p).2.2.1 (level4 p).1 (level4 p).2.1 (addend6 p) (factor6 p) val_main_cst_95 (fun _ => lit_zero) _ _ rfl
theorem addend8 : AtG p val_main_v369 = big (PP p 9) :=
  back_addend (d := 8) (n := 4088) p 3 8 rfl rfl rfl (level2 p).2.2.1 (addend7 p) val_main_cst_96 (fun _ => lit_zero) _ _ rfl
theorem factor8 : AtG p val_main_v373 = big (QQ p 9) :=
  back_factor (d := 8) (n := 4088) p 3 8 rfl rfl rfl (level2 p).2.2.1 (level3 p).1 (level3 p).2.1 (addend7 p) (factor7 p) val_main_cst_97 (fun _ => lit_zero) _ _ rfl
theorem addend9 : AtG p val_main_v382 = big (PP p 10) :=
  back_addend (d := 4) (n := 4092) p 2 9 rfl rfl rfl (level1 p).2.2.1 (addend8 p) val_main_cst_98 (fun _ => lit_zero) _ _ rfl
theorem factor9 : AtG p val_main_v386 = big (QQ p 10) :=
  back_factor (d := 4) (n := 4092) p 2 9 rfl rfl rfl (level1 p).2.2.1 (level2 p).1 (level2 p).2.1 (addend8 p) (factor8 p) val_main_cst_99 (fun _ => lit_zero) _ _ rfl
theorem addend10 : AtG p val_main_v395 = big (PP p 11) :=
  back_addend (d := 2) (n := 4094) p 1 10 rfl rfl rfl (level0 p).2.2.1 (addend9 p) val_main_cst_100 (fun _ => lit_zero) _ _ rfl
theorem factor10 : AtG p val_main_v399 = big (QQ p 11) :=
  back_factor (d := 2) (n := 4094) p 1 10 rfl rfl rfl (level0 p).2.2.1 (level1 p).1 (level1 p).2.1 (addend9 p) (factor9 p) val_main_cst_101 (fun _ => lit_zero) _ _ rfl
theorem addend11 : AtG p val_main_v408 = big (PP p 12) :=
  back_addend (d := 1) (n := 4095) p 0 11 rfl rfl rfl (aa_up p) (addend10 p) val_main_cst_102 (fun _ => lit_zero) _ _ rfl
theorem factor11 : AtG p val_main_v412 = big (QQ p 12) :=
  back_factor (d := 1) (n := 4095) p 0 11 rfl rfl rfl (aa_up p) (level0 p).1 (level0 p).2.1 (addend10 p) (factor10 p) val_main_cst_103 (fun _ => lit_zero) _ _ rfl

theorem ga_host : AtG p val_main_v408 = big (ga p) := (addend11 p).trans (congrArg big (PP_last p))
theorem gf_host : AtG p val_main_v412 = big (gf p) := (factor11 p).trans (congrArg big (QQ_last p))

end Cert.LruBwdRIdeal.Stages

end
-- ==== Proof.LruEnd.lean ====
/-
  The gated linear recurrence on the host: the gradients at the inputs, at the gates' weights and biases and at the decay's parameter.
-/
module

public import proofs.«01_k».proof.Proof.LruBack

@[expose] public section

set_option maxRecDepth 16384

noncomputable section

namespace Cert.LruBwdRIdeal.Stages

open Cert.LruBwdRIdeal Cert.LruBwdRIdeal.Read Idealize.ShloMosaic Idealize.ShloMosaic.TcCoe Idealize.SL.Sem
open Cert.Reals Cert.LruMath

/-- A sum over the columns of one row of the block matrix has the 64 terms of the row's block. -/
theorem sum_dense_row (W : S8x64x64.Idx → ℝ) (x : Fin 512 → ℝ) (i : Fin 512) :
    ∑ j, x j * dense W i j = ∑ s : Fin 64, x ⟨i.val / 64 * 64 + s.val, by omega⟩ * W (ix3 ⟨i.val / 64, by omega⟩ ⟨i.val % 64, by omega⟩ s) := by
  rw [← Fin.sum_mul_add_fin 8 64 (fun j => x j * dense W i j), Finset.sum_eq_single (⟨i.val / 64, by omega⟩ : Fin 8)]
  · refine Finset.sum_congr rfl fun s _ => ?_
    have hs := s.isLt
    unfold dense
    rw [if_pos (by simp only; omega)]
    refine congrArg (x _ * ·) (congrArg W ?_)
    refine congrArg₂ (fun a b => ix3 a _ b) (Fin.ext ?_) (Fin.ext ?_)
    · show (i.val / 64 * 64 + s.val) / 64 = i.val / 64
      omega
    · show (i.val / 64 * 64 + s.val) % 64 = s.val
      omega
  · intro g _ hg
    refine Finset.sum_eq_zero fun s _ => ?_
    have hg' : g.val ≠ i.val / 64 := fun e => hg (Fin.ext e)
    unfold dense
    rw [if_neg (by simp only; omega), mul_zero]
  · intro h; exact absurd (Finset.mem_univ _) h

variable (p : Data)

/-- The input and the state of the row before, by row and column. -/
def xx (t : Fin 4096) (j : Fin 512) : ℝ := p.X (ix2 t j)
def before (t : Fin 4096) (j : Fin 512) : ℝ := dn 0 1 (fun u => st p u j) t
/-- The gradients at the logarithm of the decay, at the two gates' logits and at the input through the addend. -/
def gla (t : Fin 4096) (j : Fin 512) : ℝ := dla (pa p t j) (px p t j) (lam p j) (xx p t j) (ga p t j) (before p t j)
def gpa (t : Fin 4096) (j : Fin 512) : ℝ := dpa (pa p t j) (px p t j) (lam p j) (xx p t j) (ga p t j) (before p t j)
def gpx (t : Fin 4096) (j : Fin 512) : ℝ := dpx (pa p t j) (px p t j) (lam p j) (xx p t j) (ga p t j)
def gx0 (t : Fin 4096) (j : Fin 512) : ℝ := dx0 (pa p t j) (px p t j) (lam p j) (ga p t j)

theorem at_args {p : Data} {f : Arr S4096x512 → Arr S4096x512 → Arr S4096x3080 → Arr S8x64x64 → Arr S512 → Arr S8x64x64 → Arr S512 → Arr S512 → Arr S512 → Arr S4096x512}
    {r : FVec Ideal S4096x512 .f32} (h : AtG p f = r) : f (up p.D) (up p.X) (up p.P) (up p.WA) (up p.BA) (up p.WX) (up p.BX) (up p.L) (up p.W) = r := h

theorem mug_host : AtG p val_main_v413 = big fun t j => mu (pa p t j) (lam p j) * ga p t j := by
  funext i
  pointwise [val_main_v413]
  rw [at_args (ga_host p)]
  simp only [mu_up, up_apply, mul_up]

theorem gx0_host : AtG p val_main_v415 = big (gx0 p) := by
  funext i
  pointwise [val_main_v415]
  rw [at_args (mug_host p)]
  simp only [v28_up, up_apply, mul_up]
  rfl

theorem gpx_host : AtG p val_main_v434 = big (gpx p) := by
  funext i
  obtain ⟨a, b, rfl⟩ := exists_ix2 i
  pointwise [val_main_v434, val_main_v416]
  rw [at_args (mug_host p)]
  simp only [v31_up, up_apply, mul_up]
  rfl

theorem gla_host : AtG p val_main_v424 = big (gla p) := by
  funext i
  obtain ⟨a, b, rfl⟩ := exists_ix2 i
  pointwise [val_main_v424, val_main_v423, val_main_v422, val_main_v421, val_main_v420, val_main_v419, val_main_v418, val_main_v417, val_main_v414, val_main_cst_104]
  rw [at_args (ga_host p),
    at_args (gf_host p)]
  simp only [ix_up, hmu_up, sel_up, sq_up, aa_up, up_apply, lit_two, mul_up, neg_up, add_up]
  rfl

theorem gpa_host : AtG p val_main_v435 = big (gpa p) := by
  funext i
  obtain ⟨a, b, rfl⟩ := exists_ix2 i
  pointwise [val_main_v435, val_main_v433, val_main_v432, val_main_v429, val_main_v428, val_main_v35, val_main_cst_107]
  rw [at_args (gla_host p)]
  simp only [v22_up, ls_up, up_apply, lit_8, mul_up]
  rfl

/-- The gradients at the biases and at the decay's parameter. -/
def gba (j : Fin 512) : ℝ := ∑ t, gpa p t j
def gbx (j : Fin 512) : ℝ := ∑ t, gpx p t j
def glam (j : Fin 512) : ℝ := (∑ t, 8 * lgs (pa p t j) * gla p t j) * lgs (-lam p j)
/-- The gradients at the gates' weights, -/
def gwa (g : Fin 8) (i j : Fin 64) : ℝ := ∑ t, gpa p t ⟨g.val * 64 + j.val, by omega⟩ * xx p t ⟨g.val * 64 + i.val, by omega⟩
def gwx (g : Fin 8) (i j : Fin 64) : ℝ := ∑ t, gpx p t ⟨g.val * 64 + j.val, by omega⟩ * xx p t ⟨g.val * 64 + i.val, by omega⟩
/-- and at the input. -/
def gxr (t : Fin 4096) (i : Fin 512) : ℝ := gx0 p t i + ((∑ j, gpx p t j * dense p.WX i j) + ∑ j, gpa p t j * dense p.WA i j)

abbrev AtR {s : Shape} (f : Arr S4096x512 → Arr S4096x512 → Arr S4096x3080 → Arr S8x64x64 → Arr S512 → Arr S8x64x64 → Arr S512 → Arr S512 → Arr S512 → Arr s) :
    FVec Ideal s .f32 :=
  f (up p.D) (up p.X) (up p.P) (up p.WA) (up p.BA) (up p.WX) (up p.BX) (up p.L) (up p.W)

theorem gba_host : AtR p val_main_v457 = up fun i : S1x512.Idx => gba p (i 1) := by
  funext i
  obtain ⟨a, b, rfl⟩ := exists_ix2 i
  pointwise [val_main_v457, val_main_v447, val_main_v446, val_main_v445, val_main_cst_110, val_main_cst_111]
  rw [at_args (gpa_host p)]
  simp only [up_apply, sum_up, lit_zero, add_up, zero_add, Fin.sum_univ_one]
  rfl
theorem gbx_host : AtR p val_main_v458 = up fun i : S1x512.Idx => gbx p (i 1) := by
  funext i
  obtain ⟨a, b, rfl⟩ := exists_ix2 i
  pointwise [val_main_v458, val_main_v438, val_main_v437, val_main_v436, val_main_cst_108, val_main_cst_109]
  rw [at_args (gpx_host p)]
  simp only [up_apply, sum_up, lit_zero, add_up, zero_add, Fin.sum_univ_one]
  rfl
theorem glam_host : AtR p val_main_v459 = up fun i : S1x512.Idx => glam p (i 1) := by
  funext i
  obtain ⟨a, b, rfl⟩ := exists_ix2 i
  pointwise [val_main_v459, val_main_v431, val_main_call1_v1, val_main_call1_v0, val_main_v430, val_main_v427, val_main_v426, val_main_v425, val_main_cst_105, val_main_cst_106]
  rw [at_args (gla_host p)]
  simp only [v33_up, slope_up, up_apply, mul_up, sum_up, lit_zero, add_up, zero_add, Fin.sum_univ_one, neg_up]
  refine congrArg (fun x : ℝ => (x : EReal)) ?_
  show -(-_ * _) = glam p b
  rw [neg_mul, neg_neg]
  rfl
theorem gwa_host : AtR p val_main_v454 = up fun i : S8x64x64.Idx => gwa p (i 0) (i 1) (i 2) := by
  funext i
  pointwise [val_main_v454, val_main_v453, val_main_v449, val_main_v448, val_main_v1]
  rw [at_args (gpa_host p)]
  simp only [up_apply, mul_up, sum_up]
  rfl
theorem gwx_host : AtR p val_main_v444 = up fun i : S8x64x64.Idx => gwx p (i 0) (i 1) (i 2) := by
  funext i
  pointwise [val_main_v444, val_main_v443, val_main_v440, val_main_v439, val_main_v1]
  rw [at_args (gpx_host p)]
  simp only [up_apply, mul_up, sum_up]
  rfl
theorem gxr_host : AtG p val_main_v456 = big (gxr p) := by
  funext i
  obtain ⟨a, b, rfl⟩ := exists_ix2 i
  pointwise [val_main_v456, val_main_v455, val_main_v452, val_main_v451, val_main_v450, val_main_v449, val_main_v448, val_main_v442, val_main_v441, val_main_v440, val_main_v439]
  rw [at_args (gpa_host p),
    at_args (gpx_host p),
    at_args (gx0_host p)]
  simp only [up_apply, mul_up, sum_up, add_up]
  refine congrArg (fun x : ℝ => (x : EReal)) ?_
  show _ = gx0 p a b + ((∑ j, gpx p a j * dense p.WX b j) + ∑ j, gpa p a j * dense p.WA b j)
  rw [sum_dense_row, sum_dense_row]
  rfl

end Cert.LruBwdRIdeal.Stages

end
-- ==== Proof.LruPay.lean ====
/-
  The backward call of the gated linear recurrence: each value of the kernel's body, as real numbers.
-/
module

public import proofs.«01_k».proof.Proof.LruMath
public import proofs.«01_k».proof.Proof.Gen.LruBwdKIdeal.Skeleton
public import Idealize.ShloMosaic.Lib.Pipeline.Value
public import Idealize.ShloMosaic.Lib.Pipeline.ValueKit
public import Idealize.ShloMosaic.Lib.Tactic

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath

/-- A function of a row of the block and a column, a function of a column, a function of a row, a square matrix, as arrays. -/
abbrev arr (f : Fin 256 → Fin 512 → ℝ) : FVec Ideal S256x512 .f32 := up fun j : S256x512.Idx => f (j 0) (j 1)
abbrev row (v : Fin 512 → ℝ) : FVec Ideal S1x512 .f32 := up fun j : S1x512.Idx => v (j 1)
abbrev colm (f : Fin 256 → ℝ) : FVec Ideal S256x1 .f32 := up fun j : S256x1.Idx => f (j 0)
abbrev mat (W : Fin 512 → Fin 512 → ℝ) : FVec Ideal S512x512 .bf16 := up fun j : S512x512.Idx => W (j 0) (j 1)
abbrev mat32 (W : Fin 512 → Fin 512 → ℝ) : FVec Ideal S512x512 .f32 := up fun j : S512x512.Idx => W (j 0) (j 1)

/-- A gate's logits. -/
def lg (X : Fin 256 → Fin 512 → ℝ) (W : Fin 512 → Fin 512 → ℝ) (b : Fin 512 → ℝ) (r : Fin 256) (j : Fin 512) : ℝ :=
  ∑ k, X r k * W k j + b j

theorem logistic_up (v : ℝ) : Ideal.logistic ((v : ℝ) : EReal) = ((lgs v : ℝ) : EReal) := by rw [Ideal.logistic_coe]; rfl
theorem ite_up (p : Prop) [Decidable p] (a b : ℝ) : (if p then ((a : ℝ) : EReal) else ((b : ℝ) : EReal)) = (((if p then a else b) : ℝ) : EReal) := by
  split <;> rfl
theorem abs_up (a : ℝ) : FloatOps.absf (F := Ideal) (φ := .f32) ((a : ℝ) : EReal) = ((|a| : ℝ) : EReal) := by
  show max ((a : ℝ) : EReal) (-((a : ℝ) : EReal)) = _
  rw [← EReal.coe_neg, max_up]; rfl

variable (X : Fin 256 → Fin 512 → ℝ) (A : Fin 512 → Fin 512 → ℝ) (b lam lw : Fin 512 → ℝ)

/-! ## The gates -/

theorem x_up : k0_pay12 (F := Ideal) (arr X) = up (fun j : S256x512.Idx => X (j 0) (j 1)) .bf16 := rfl

theorem ga_up : k0_pay13 (arr X) (mat A) (row b) = arr (fun r j => lgs (lg X A b r j)) := by
  funext j
  unfold k0_pay13
  rw [x_up]
  pointwise
  simp only [up_apply, mul_up, sum_up, zero_add, add_up, logistic_up]
  rfl

theorem gx_up : k0_pay15 (arr X) (mat A) (row b) = arr (fun r j => lgs (lg X A b r j)) := by
  funext j
  unfold k0_pay15
  rw [x_up]
  pointwise
  simp only [up_apply, mul_up, sum_up, zero_add, add_up, logistic_up]
  rfl

theorem dga_up : k0_pay14 (arr X) (mat A) (row b) = arr (fun r j => lgs (lg X A b r j) * (1 - lgs (lg X A b r j))) := by
  funext j
  unfold k0_pay14
  rw [ga_up]
  pointwise
  simp only [up_apply, ← EReal.coe_one, sub_up, mul_up]

theorem dgx_up : k0_pay16 (arr X) (mat A) (row b) = arr (fun r j => lgs (lg X A b r j) * (1 - lgs (lg X A b r j))) := by
  funext j
  unfold k0_pay16
  rw [gx_up]
  pointwise
  simp only [up_apply, ← EReal.coe_one, sub_up, mul_up]

theorem nl_up : k0_pay17 (row lam) = row (fun j => -lam j) := by
  funext j
  unfold k0_pay17
  pointwise
  simp only [up_apply, zero_sub, neg_up]

theorem mx_up : k0_pay18 (row lam) = row (fun j => max (-lam j) 0) := by
  funext j
  unfold k0_pay18
  rw [nl_up]
  pointwise
  simp only [up_apply, ← EReal.coe_zero, max_up]

theorem slope_up : k0_pay21 (row fun j => -lam j) (k0_pay19 (F := Ideal) (row lam)) (k0_pay20 (F := Ideal)) = row (fun j => if 0 < -lam j then 1 else if -lam j = 0 then 1 / 2 else 0) := by
  funext j
  unfold k0_pay21 k0_pay19 k0_pay20
  rw [nl_up]
  pointwise
  simp only [up_apply, ← EReal.coe_zero, ← EReal.coe_one, lit_half]
  simp only [EReal.coe_lt_coe_iff, EReal.coe_eq_coe_iff, ite_up]

theorem ex_up (v : Fin 512 → ℝ) : k0_pay23 (row v) = row (fun j => Real.exp (0 - |v j|)) := by
  funext j
  unfold k0_pay23
  pointwise
  simp only [up_apply]
  rw [abs_up]
  simp only [← EReal.coe_zero, sub_up, Ideal.exp_coe]

theorem sp_up (v : Fin 512 → ℝ) : k0_pay25 (row v) (row fun j => max (v j) 0) = row (fun j => -softplus (v j)) := by
  funext j
  unfold k0_pay25
  rw [ex_up]
  pointwise
  simp only [up_apply, Ideal.log1p]
  rw [← EReal.coe_one, add_up, Ideal.log_coe, if_neg (not_le.mpr (by positivity)), add_up, zero_sub, neg_up]
  unfold softplus
  rw [zero_sub]

theorem ls_up : k0_pay25 (row fun j => -lam j) (row fun j => max (-lam j) 0) = row (fun j => ls (lam j)) := sp_up fun j => -lam j

section Gate
variable (pa : Fin 256 → Fin 512 → ℝ)

/-- The three values that the decay's gate is made of. -/
abbrev R : FVec Ideal S256x512 .f32 := arr fun r j => lgs (pa r j)
abbrev NL : FVec Ideal S1x512 .f32 := row fun j => -lam j
abbrev MX : FVec Ideal S1x512 .f32 := row fun j => max (-lam j) 0

theorem r8_up : k0_pay26 (R pa) = arr (fun r j => 8 * lgs (pa r j)) := by
  funext j
  unfold k0_pay26
  pointwise
  simp only [up_apply, lit_8, mul_up]

theorem la_up : k0_pay27 (R pa) (NL lam) (MX lam) = arr (fun r j => la (pa r j) (lam j)) := by
  funext j
  unfold k0_pay27
  rw [r8_up, ls_up]
  pointwise
  simp only [up_apply, mul_up]
  rfl

theorem a_up : k0_pay28 (R pa) (NL lam) (MX lam) = arr (fun r j => aa (pa r j) (lam j)) := by
  funext j
  unfold k0_pay28
  rw [la_up]
  pointwise
  simp only [up_apply, Ideal.exp_coe]
  rfl

theorem t_up : k0_pay29 (R pa) (NL lam) (MX lam) = arr (fun r j => Real.tanh (la (pa r j) (lam j))) := by
  funext j
  unfold k0_pay29
  rw [la_up]
  pointwise
  simp only [up_apply, Ideal.tanh_coe]

theorem t1_up : k0_pay30 (R pa) (NL lam) (MX lam) = arr (fun r j => (1 + Real.tanh (la (pa r j) (lam j))) * (1 - Real.tanh (la (pa r j) (lam j)))) := by
  funext j
  unfold k0_pay30
  rw [t_up]
  pointwise
  simp only [up_apply, ← EReal.coe_one, add_up, sub_up, mul_up]

theorem t2_up : k0_pay31 (R pa) (NL lam) (MX lam) = arr (fun r j => -2 * Real.tanh (la (pa r j) (lam j))) := by
  funext j
  unfold k0_pay31
  rw [t_up]
  pointwise
  simp only [up_apply, lit_neg_2, mul_up]

theorem t3_up : k0_pay32 (R pa) (NL lam) (MX lam) = arr (fun r j => 1 - Real.tanh (la (pa r j) (lam j))) := by
  funext j
  unfold k0_pay32
  rw [t_up]
  pointwise
  simp only [up_apply, ← EReal.coe_one, sub_up]

theorem t4_up : k0_pay33 (R pa) (NL lam) (MX lam) = arr (fun r j => 1 - sq (pa r j) (lam j)) := by
  funext j
  unfold k0_pay33
  rw [t2_up, t3_up]
  pointwise
  simp only [up_apply]
  rw [div_up (one_sub_tanh_pos _).ne', one_sub_sq]
  rfl

theorem t5_up : k0_pay34 (R pa) (NL lam) (MX lam) = arr (fun r j => 1 / ((1 - Real.tanh (la (pa r j) (lam j))) * (1 - Real.tanh (la (pa r j) (lam j))))) := by
  funext j
  unfold k0_pay34
  rw [t3_up]
  pointwise
  simp only [up_apply, mul_up, ← EReal.coe_one]
  rw [div_up (mul_pos (one_sub_tanh_pos _) (one_sub_tanh_pos _)).ne']

theorem mm_up : k0_pay35 (R pa) (NL lam) (MX lam) = arr (fun r j => mm (pa r j) (lam j)) := by
  funext j
  unfold k0_pay35
  rw [t4_up]
  pointwise
  simp only [up_apply, lit_tiny, max_up]
  rfl

theorem sel_up : k0_pay38 (k0_pay36 (F := Ideal) (R pa) (NL lam) (MX lam)) (k0_pay37 (F := Ideal) (R pa) (NL lam) (MX lam)) (Scalar.ofBits .f32 0x3F800000#32)
    = arr (fun r j => sel (pa r j) (lam j)) := by
  funext j
  unfold k0_pay38 k0_pay36 k0_pay37
  rw [t4_up]
  pointwise
  simp only [up_apply, ← EReal.coe_zero, ← EReal.coe_one, lit_half, lit_tiny]
  simp only [EReal.coe_lt_coe_iff, EReal.coe_eq_coe_iff, ite_up]
  rfl

theorem mu_up : k0_pay39 (arr fun r j => mm (pa r j) (lam j)) = arr (fun r j => mu (pa r j) (lam j)) := by
  funext j
  unfold k0_pay39
  pointwise
  simp only [up_apply]
  rw [Ideal.sqrt_coe, if_neg (not_lt.mpr (mm_pos _ _).le)]
  rfl

theorem hmu_up : k0_pay40 (arr fun r j => mm (pa r j) (lam j)) = arr (fun r j => 1 / 2 / mu (pa r j) (lam j)) := by
  funext j
  unfold k0_pay40
  rw [mu_up]
  pointwise
  simp only [up_apply, lit_half]
  rw [div_up (mu_pos _ _).ne']

end Gate

section Elements
variable (f g h : Fin 256 → Fin 512 → ℝ)

theorem ix_up : k0_pay41 (arr f) (arr g) = arr (fun r j => g r j * f r j) := by
  funext j
  unfold k0_pay41
  pointwise
  simp only [up_apply, mul_up]

theorem h_up : k0_pay42 (F := Ideal) (arr f) = arr f := by unfold k0_pay42; simp only [shapeCast_self]
theorem ly_up : k0_pay43 (F := Ideal) (arr f) = arr f := by unfold k0_pay43; simp only [shapeCast_self]
theorem lw_up (w : Fin 512 → ℝ) : k0_pay44 (F := Ideal) (row w) = row w := by unfold k0_pay44; simp only [shapeCast_self]

theorem sq3_up : k0_pay45 (arr f) = arr (fun r j => 3 * (f r j * f r j)) := by
  funext j
  unfold k0_pay45
  rw [ly_up]
  pointwise
  simp only [up_apply, mul_up, lit_3]

theorem th_up : k0_pay46 (arr f) = arr (fun r j => th (f r j)) := by
  funext j
  unfold k0_pay46
  rw [ly_up]
  pointwise
  simp only [up_apply, mul_up, lit_gA, lit_gB, add_up, Ideal.tanh_coe]
  rfl

theorem th1_up : k0_pay47 (arr f) = arr (fun r j => (1 + th (f r j)) * (1 - th (f r j))) := by
  funext j
  unfold k0_pay47
  rw [th_up]
  pointwise
  simp only [up_apply, ← EReal.coe_one, add_up, sub_up, mul_up]

theorem hf_up : k0_pay48 (arr f) = arr (fun r j => hf (f r j)) := by
  funext j
  unfold k0_pay48
  rw [th_up]
  pointwise
  simp only [up_apply, ← EReal.coe_one, add_up, lit_half, mul_up]
  rfl

theorem gl_up : k0_pay49 (arr f) = arr (fun r j => gl (f r j)) := by
  funext j
  unfold k0_pay49
  rw [ly_up, hf_up]
  pointwise
  simp only [up_apply, mul_up]
  rfl

theorem q_up : k0_pay50 (arr f) (arr g) = arr (fun r => q (f r) (g r)) := by
  funext j
  unfold k0_pay50
  rw [h_up, gl_up]
  pointwise
  simp only [up_apply, mul_up]
  rfl

theorem ms0_up : k0_pay51 (arr f) (arr g) = colm (fun r => (∑ k, q (f r) (g r) k * q (f r) (g r) k) / 512) := by
  funext j
  unfold k0_pay51
  rw [q_up]
  pointwise
  simp (disch := norm_num) only [up_apply, mul_up, sum_up, lit_512, div_up]
  rfl

/-- The mean square without the small constant. -/
abbrev MS : FVec Ideal S256x1 .f32 := colm fun r => (∑ k, q (f r) (g r) k * q (f r) (g r) k) / 512

theorem ms_up : k0_pay52 (MS f g) = colm (fun r => ms (f r) (g r)) := by
  funext j
  unfold k0_pay52
  pointwise
  simp only [up_apply, lit_eps, add_up]
  rfl

theorem rs_up : k0_pay53 (MS f g) = colm (fun r => rs (f r) (g r)) := by
  funext j
  unfold k0_pay53
  rw [ms_up]
  pointwise
  simp only [up_apply, rsqrt_ms]

theorem dlnw_up : k0_pay54 (arr fun r => q (f r) (g r)) (MS f g) (arr h) = row (fun k => ∑ r, dlnw (f r) (g r) (h r) k) := by
  funext j
  unfold k0_pay54
  rw [rs_up]
  pointwise
  simp only [up_apply, mul_up, sum_up]
  rfl

theorem dq_up (w : Fin 512 → ℝ) : k0_pay55 (row w) (arr fun r => q (f r) (g r)) (MS f g) (arr h) = arr (fun r => dq (f r) (g r) (h r) w) := by
  funext j
  obtain ⟨r, k, rfl⟩ := exists_ix2 j
  unfold k0_pay55
  rw [ms_up, rs_up]
  pointwise
  simp (disch := norm_num) only [up_apply, div_ms, lit_neg_half, mul_up, sum_up, lit_512, div_up, add_up, Fin.sum_univ_one]
  rfl

theorem dh_up (w : Fin 512 → ℝ) : k0_pay56 (row w) (arr fun r j => gl (g r j)) (arr fun r => q (f r) (g r)) (MS f g) (arr h) = arr (fun r => dh (f r) (g r) (h r) w) := by
  funext j
  unfold k0_pay56
  rw [dq_up]
  pointwise
  simp only [up_apply, mul_up]
  rfl

theorem dly_up (w : Fin 512 → ℝ) :
    k0_pay57 (arr f) (arr g) (row w) (arr fun r j => 3 * (g r j * g r j)) (arr fun r j => (1 + th (g r j)) * (1 - th (g r j)))
      (arr fun r j => hf (g r j)) (arr fun r => q (f r) (g r)) (MS f g) (arr h) = arr (fun r => dly (f r) (g r) (h r) w) := by
  funext j
  unfold k0_pay57
  rw [dq_up]
  pointwise
  simp only [up_apply, mul_up, lit_half, lit_gA, lit_gB, add_up]
  rfl

end Elements

end Cert.LruBwdKIdeal.Block

end
-- ==== Proof.LruScan.lean ====
/-
  The backward call of the gated linear recurrence: the scan over one block of 256 rows.
-/
module

public import proofs.«01_k».proof.Proof.LruPay

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath

/-- The rows' numbers. -/
abbrev rows : IVec S256x512 32 := iota .tc S256x512 32 [0] iota_S256x512_d0_w32

/-- The factors one row on; the last row's comes from the block after. -/
def nxt (a : Fin 256 → Fin 512 → ℝ) (v : Fin 512 → ℝ) (r : Fin 256) (j : Fin 512) : ℝ :=
  if h : r.val + 1 < 256 then a ⟨r.val + 1, h⟩ j else v j

/-- One doubling step in every column. -/
def cA (d : ℕ) (A : Fin 256 → Fin 512 → ℝ) (r : Fin 256) (j : Fin 512) : ℝ := upA (fun r => A r j) d r
def cB (d : ℕ) (A B : Fin 256 → Fin 512 → ℝ) (r : Fin 256) (j : Fin 512) : ℝ := upB (fun r => A r j) (fun r => B r j) d r

theorem is_last : ∀ r : Fin 256, (IntOp.cmpi .eq (BitVec.ofNat 32 r.val) 255#32 = 1) = (r.val = 255) := by decide +kernel
theorem is_first : ∀ r : Fin 256, (IntOp.cmpi .eq (BitVec.ofNat 32 r.val) 0#32 = 1) = (r.val = 0) := by decide +kernel

theorem nxt_up (a : Fin 256 → Fin 512 → ℝ) (v : Fin 512 → ℝ) : k0_pay58 (arr a) rows 255#32 (row v) = arr (nxt a v) := by
  funext j
  obtain ⟨r, k, rfl⟩ := exists_ix2 j
  unfold k0_pay58
  pointwise
  simp only [Scalar.select, is_last, up_apply]
  unfold nxt
  by_cases h : r.val = 255
  · rw [if_pos h]
    show ((v k : ℝ) : EReal) = ((if h : r.val + 1 < 256 then a ⟨r.val + 1, h⟩ k else v k : ℝ) : EReal)
    rw [dif_neg (by omega)]
  · have h' : r.val + 1 < 256 := by omega
    rw [if_neg h]
    refine Eq.trans ?_ (congrArg (fun x : ℝ => (x : EReal)) (dif_pos h').symm)
    refine congrArg (fun i => ((a i k : ℝ) : EReal)) (Fin.ext ?_)
    show (r.val + 256 - 255) % 256 = r.val + 1
    omega

section Step
variable (A B : Fin 256 → Fin 512 → ℝ)

theorem keep : ∀ r : Fin 256,
    ((IntOp.cmpi .slt (IntOp.andi (BitVec.ofNat 32 r.val) 31#32) 31#32 = 1) = (r.val % 32 + 1 < 32))
    ∧ ((IntOp.cmpi .slt (IntOp.andi (BitVec.ofNat 32 r.val) 31#32) 30#32 = 1) = (r.val % 32 + 2 < 32))
    ∧ ((IntOp.cmpi .slt (IntOp.andi (BitVec.ofNat 32 r.val) 31#32) 28#32 = 1) = (r.val % 32 + 4 < 32))
    ∧ ((IntOp.cmpi .slt (IntOp.andi (BitVec.ofNat 32 r.val) 31#32) 24#32 = 1) = (r.val % 32 + 8 < 32))
    ∧ ((IntOp.cmpi .slt (IntOp.andi (BitVec.ofNat 32 r.val) 31#32) 16#32 = 1) = (r.val % 32 + 16 < 32)) := by decide +kernel

/-- A value moved up `d` rows and masked, read at a row. -/
theorem moved (d : ℕ) (z : ℝ) (r : Fin 256) (k : Fin 512) (i : Fin 256) (hi : r.val % 32 + d < 32 → i.val = r.val + d) :
    (if r.val % 32 + d < 32 then ((A i k : ℝ) : EReal) else ((z : ℝ) : EReal))
      = (((if h : r.val % 32 + d < 32 ∧ r.val + d < 256 then A ⟨r.val + d, h.2⟩ k else z) : ℝ) : EReal) := by
  have hr := r.isLt
  by_cases c : r.val % 32 + d < 32
  · have c' : r.val % 32 + d < 32 ∧ r.val + d < 256 := ⟨c, by omega⟩
    rw [if_pos c, dif_pos c', show i = ⟨r.val + d, c'.2⟩ from Fin.ext (hi c)]
  · rw [if_neg c, dif_neg (fun h => c h.1)]

/-- The rows `d` further on within a block of 32, or a constant. -/
def mv (d : ℕ) (z : ℝ) (r : Fin 256) (j : Fin 512) : ℝ := if h : r.val % 32 + d < 32 ∧ r.val + d < 256 then A ⟨r.val + d, h.2⟩ j else z

theorem mul_arr : mulf (arr A) (arr B) = arr (fun r j => A r j * B r j) := by
  funext j; pointwise; simp only [up_apply, mul_up]
theorem add_arr : addf (arr A) (arr B) = arr (fun r j => A r j + B r j) := by
  funext j; pointwise; simp only [up_apply, add_up]

theorem rot1 (c : Ideal .f32) (z : ℝ) (hc : c = ((z : ℝ) : EReal)) :
    select k0_pay60 (dynamicRotate 0 255#32 none (arr A) rotates_S256x512_d0) (broadcast S256x512 c) = arr (mv A 1 z) := by
  funext j
  obtain ⟨r, k, rfl⟩ := exists_ix2 j
  unfold k0_pay60 k0_pay59
  pointwise
  simp only [Scalar.select, (keep r).1, up_apply, hc]
  exact moved A 1 z r k _ fun h => by show (r.val + 256 - 255) % 256 = _; omega
theorem rot2 (c : Ideal .f32) (z : ℝ) (hc : c = ((z : ℝ) : EReal)) :
    select k0_pay62 (dynamicRotate 0 254#32 none (arr A) rotates_S256x512_d0) (broadcast S256x512 c) = arr (mv A 2 z) := by
  funext j
  obtain ⟨r, k, rfl⟩ := exists_ix2 j
  unfold k0_pay62 k0_pay59
  pointwise
  simp only [Scalar.select, (keep r).2.1, up_apply, hc]
  exact moved A 2 z r k _ fun h => by show (r.val + 256 - 254) % 256 = _; omega
theorem rot4 (c : Ideal .f32) (z : ℝ) (hc : c = ((z : ℝ) : EReal)) :
    select k0_pay65 (dynamicRotate 0 252#32 none (arr A) rotates_S256x512_d0) (broadcast S256x512 c) = arr (mv A 4 z) := by
  funext j
  obtain ⟨r, k, rfl⟩ := exists_ix2 j
  unfold k0_pay65 k0_pay59
  pointwise
  simp only [Scalar.select, (keep r).2.2.1, up_apply, hc]
  exact moved A 4 z r k _ fun h => by show (r.val + 256 - 252) % 256 = _; omega
theorem rot8 (c : Ideal .f32) (z : ℝ) (hc : c = ((z : ℝ) : EReal)) :
    select (k0_pay69 k0_pay59) (dynamicRotate 0 248#32 none (arr A) rotates_S256x512_d0) (broadcast S256x512 c) = arr (mv A 8 z) := by
  funext j
  obtain ⟨r, k, rfl⟩ := exists_ix2 j
  unfold k0_pay69 k0_pay59
  pointwise
  simp only [Scalar.select, (keep r).2.2.2.1, up_apply, hc]
  exact moved A 8 z r k _ fun h => by show (r.val + 256 - 248) % 256 = _; omega
theorem rot16 (c : Ideal .f32) (z : ℝ) (hc : c = ((z : ℝ) : EReal)) :
    select (k0_pay71 k0_pay59) (dynamicRotate 0 240#32 none (arr A) rotates_S256x512_d0) (broadcast S256x512 c) = arr (mv A 16 z) := by
  funext j
  obtain ⟨r, k, rfl⟩ := exists_ix2 j
  unfold k0_pay71 k0_pay59
  pointwise
  simp only [Scalar.select, (keep r).2.2.2.2, up_apply, hc]
  exact moved A 16 z r k _ fun h => by show (r.val + 256 - 240) % 256 = _; omega

theorem one_eq : (Scalar.ofBits .f32 0x3F800000#32 : Ideal .f32) = (((1 : ℝ) : ℝ) : EReal) := lit_one
theorem zero_eq : (Scalar.ofBits .f32 0x00000000#32 : Ideal .f32) = (((0 : ℝ) : ℝ) : EReal) := lit_zero

theorem mul_mv (d : ℕ) : mulf (arr A) (arr (mv A d 1)) = arr (cA d A) := mul_arr A _
theorem fma_mv (d : ℕ) : addf (mulf (arr A) (arr (mv B d 0))) (arr B) = arr (cB d A B) := by
  rw [mul_arr, add_arr]; rfl

end Step

section Chain
variable (a : Fin 256 → Fin 512 → ℝ) (v : Fin 512 → ℝ) (g : Fin 256 → Fin 512 → ℝ)

/-- The factors and the addends after each doubling step. -/
def A0 : Fin 256 → Fin 512 → ℝ := nxt a v
def A1 : Fin 256 → Fin 512 → ℝ := cA 1 (A0 a v)
def A2 : Fin 256 → Fin 512 → ℝ := cA 2 (A1 a v)
def A3 : Fin 256 → Fin 512 → ℝ := cA 4 (A2 a v)
def A4 : Fin 256 → Fin 512 → ℝ := cA 8 (A3 a v)
def A5 : Fin 256 → Fin 512 → ℝ := cA 16 (A4 a v)
def B1 : Fin 256 → Fin 512 → ℝ := cB 1 (A0 a v) g
def B2 : Fin 256 → Fin 512 → ℝ := cB 2 (A1 a v) (B1 a v g)
def B3 : Fin 256 → Fin 512 → ℝ := cB 4 (A2 a v) (B2 a v g)
def B4 : Fin 256 → Fin 512 → ℝ := cB 8 (A3 a v) (B3 a v g)
def B5 : Fin 256 → Fin 512 → ℝ := cB 16 (A4 a v) (B4 a v g)

theorem A0_up : k0_pay58 (arr a) rows 255#32 (row v) = arr (A0 a v) := nxt_up a v

theorem A1_up : k0_pay61 (arr a) rows 255#32 (row v) = arr (A1 a v) := by
  unfold k0_pay61
  simp only [A0_up, rot1 _ _ _ one_eq, mul_mv]
  rfl

theorem A2_up : k0_pay64 (arr a) rows 255#32 (row v) = arr (A2 a v) := by
  unfold k0_pay64
  simp only [A1_up, rot2 _ _ _ one_eq, mul_mv]
  rfl

theorem B2_up : k0_pay63 (arr a) (arr g) rows 255#32 (row v) = arr (B2 a v g) := by
  unfold k0_pay63
  simp only [A0_up, A1_up, rot1 _ _ _ zero_eq, fma_mv, rot2 _ _ _ zero_eq]
  rfl

theorem A2m_up : k0_pay66 (arr a) rows 255#32 (row v) = arr (mv (A2 a v) 4 1) := by
  unfold k0_pay66
  simp only [A2_up, rot4 _ _ _ one_eq]

theorem B2m_up : k0_pay67 (arr a) (arr g) rows 255#32 (row v) = arr (fun r j => A2 a v r j * mv (B2 a v g) 4 0 r j) := by
  unfold k0_pay67
  simp only [A2_up, B2_up, rot4 _ _ _ zero_eq, mul_arr]

theorem A3_up : k0_pay68 (arr (A2 a v)) (arr (mv (A2 a v) 4 1)) = arr (A3 a v) := by
  unfold k0_pay68
  simp only [mul_mv]
  rfl

theorem A4_up : k0_pay70 k0_pay59 (arr (A2 a v)) (arr (mv (A2 a v) 4 1)) = arr (A4 a v) := by
  unfold k0_pay70
  simp only [A3_up, rot8 _ _ _ one_eq, mul_mv]
  rfl

theorem A5_up : k0_pay73 k0_pay59 (arr (A2 a v)) (arr (mv (A2 a v) 4 1)) = arr (A5 a v) := by
  unfold k0_pay73
  simp only [A4_up, rot16 _ _ _ one_eq, mul_mv]
  rfl

theorem B5_up : k0_pay72 k0_pay59 (arr (B2 a v g)) (arr (A2 a v)) (arr (mv (A2 a v) 4 1)) (arr fun r j => A2 a v r j * mv (B2 a v g) 4 0 r j) = arr (B5 a v g) := by
  unfold k0_pay72
  rw [← mul_arr, fma_mv]
  simp only [A3_up, A4_up, rot8 _ _ _ zero_eq, rot16 _ _ _ zero_eq]
  rw [show cB 4 (A2 a v) (B2 a v g) = B3 a v g from rfl]
  simp only [rot8 _ _ _ zero_eq, fma_mv]
  rw [show cB 8 (A3 a v) (B3 a v g) = B4 a v g from rfl]
  simp only [rot16 _ _ _ zero_eq, fma_mv]
  rfl

/-- After the doubling steps a sequence that runs back by the factors follows from its value at the end of the block of 32. -/
theorem block_end {G : ℕ → ℝ} (k : Fin 512) (h : ∀ r : Fin 256, G r.val = g r k + nxt a v r k * G (r.val + 1)) (r : Fin 256) :
    G r.val = B5 a v g r k + A5 a v r k * G (r.val / 32 * 32 + 32) := by
  have h0 : Holds (fun r => A0 a v r k) (fun r => g r k) G 1 := fun r => by
    have hr := r.isLt
    rw [show min (r.val + 1) (r.val / 32 * 32 + 32) = r.val + 1 by omega]
    exact h r
  have h1 := holds_step _ _ 1 (by norm_num) h0
  have h2 := holds_step _ _ 2 (by norm_num) h1
  have h3 := holds_step _ _ 4 (by norm_num) h2
  have h4 := holds_step _ _ 8 (by norm_num) h3
  have h5 := holds_step _ _ 16 (by norm_num) h4
  exact holds_block _ _ 32 (by norm_num) h5 r

/-! ## From block to block -/

/-- The blocks of 32 from the last one on, each chained to the one after. -/
abbrev arr32 (f : Fin 32 → Fin 512 → ℝ) : FVec Ideal S32x512 .f32 := up fun j : S32x512.Idx => f (j 0) (j 1)
/-- Row `s` of the `n`-th block from the end. -/
def at32 (n : ℕ) (s : Fin 32) : Fin 256 := ⟨32 * (7 - n) + s.val, by omega⟩
def sA : ℕ → Fin 32 → Fin 512 → ℝ
  | 0 => fun s j => A5 a v (at32 0 s) j
  | n + 1 => fun s j => A5 a v (at32 (n + 1) s) j * sA n 0 j
def sB : ℕ → Fin 32 → Fin 512 → ℝ
  | 0 => fun s j => B5 a v g (at32 0 s) j
  | n + 1 => fun s j => B5 a v g (at32 (n + 1) s) j + A5 a v (at32 (n + 1) s) j * sB n 0 j

theorem chained {G : ℕ → ℝ} (k : Fin 512) (h : ∀ r : Fin 256, G r.val = g r k + nxt a v r k * G (r.val + 1)) :
    ∀ n, n < 8 → ∀ s, G (at32 n s).val = sB a v g n s k + sA a v n s k * G 256 := by
  intro n
  induction n with
  | zero =>
    intro _ s
    have e := block_end a v g k h (at32 0 s)
    have hs := s.isLt
    rwa [show (at32 0 s).val / 32 * 32 + 32 = 256 by show (32 * (7 - 0) + s.val) / 32 * 32 + 32 = 256; omega] at e
  | succ n ih =>
    intro hn s
    have e := block_end a v g k h (at32 (n + 1) s)
    have hs := s.isLt
    rw [show (at32 (n + 1) s).val / 32 * 32 + 32 = (at32 n 0).val by
      show (32 * (7 - (n + 1)) + s.val) / 32 * 32 + 32 = 32 * (7 - n) + 0
      omega, ih (by omega) 0] at e
    rw [e]
    show _ = B5 a v g (at32 (n + 1) s) k + A5 a v (at32 (n + 1) s) k * sB a v g n 0 k + A5 a v (at32 (n + 1) s) k * sA a v n 0 k * G 256
    ring

/-- A product with one row, and with an added array. -/
theorem chainA (P : FVec Ideal S32x512 .f32) (n : ℕ) (hP : P = arr32 fun s => A5 a v (at32 (n + 1) s)) :
    mulf P (broadcastTo S32x512 (extractStridedSlice S1x512 ![0, 0] (arr32 (sA a v n)) slices_S32x512_o0_0_S1x512) broadcasts_S1x512_S32x512) = arr32 (sA a v (n + 1)) := by
  subst hP
  funext j
  obtain ⟨s, k, rfl⟩ := exists_ix2 j
  pointwise
  simp only [up_apply, mul_up]
  rfl
theorem chainB (P Q : FVec Ideal S32x512 .f32) (n : ℕ) (hP : P = arr32 fun s => A5 a v (at32 (n + 1) s)) (hQ : Q = arr32 fun s => B5 a v g (at32 (n + 1) s)) :
    addf Q (mulf P (broadcastTo S32x512 (extractStridedSlice S1x512 ![0, 0] (arr32 (sB a v g n)) slices_S32x512_o0_0_S1x512) broadcasts_S1x512_S32x512)) = arr32 (sB a v g (n + 1)) := by
  subst hP hQ
  funext j
  obtain ⟨s, k, rfl⟩ := exists_ix2 j
  pointwise
  simp only [up_apply, mul_up, add_up]
  rfl

/-- A block of 32 rows of a whole block. -/
theorem slice_at (f : Fin 256 → Fin 512 → ℝ) (n : ℕ) (o : ℕ) (h : S256x512.Slices ![o, 0] S32x512) (ho : o = 32 * (7 - n)) :
    extractStridedSlice S32x512 ![o, 0] (arr f) h = arr32 fun s => f (at32 n s) := by
  subst ho
  funext j
  obtain ⟨s, k, rfl⟩ := exists_ix2 j
  pointwise
  rfl

/-- The kernel's values from block to block. -/
abbrev k197 : FVec Ideal S256x512 .f32 := arr (A2 a v)
abbrev k202 : FVec Ideal S256x512 .f32 := arr (mv (A2 a v) 4 1)
abbrev k196 : FVec Ideal S256x512 .f32 := arr (B2 a v g)
abbrev k206 : FVec Ideal S256x512 .f32 := arr fun r j => A2 a v r j * mv (B2 a v g) 4 0 r j

theorem s0A : k0_pay74 k0_pay59 (k197 a v) (k202 a v) = arr32 (sA a v 0) := by
  unfold k0_pay74; rw [A5_up]; exact slice_at _ 0 224 _ rfl
theorem s0B : k0_pay75 k0_pay59 (k196 a v g) (k197 a v) (k202 a v) (k206 a v g) = arr32 (sB a v g 0) := by
  unfold k0_pay75; rw [B5_up]; exact slice_at _ 0 224 _ rfl
theorem s1B : k0_pay77 k0_pay59 (k196 a v g) (k197 a v) (k202 a v) (k206 a v g) = arr32 (sB a v g 1) := by
  unfold k0_pay77 k0_pay76
  rw [s0B, B5_up, A5_up]
  exact chainB a v g _ _ 0 (slice_at _ 1 192 _ rfl) (slice_at _ 1 192 _ rfl)
theorem s1A : k0_pay78 k0_pay59 (k197 a v) (k202 a v) = arr32 (sA a v 1) := by
  unfold k0_pay78 k0_pay76
  rw [s0A, A5_up]
  exact chainA a v _ 0 (slice_at _ 1 192 _ rfl)
theorem s2B : k0_pay80 k0_pay59 (k196 a v g) (k197 a v) (k202 a v) (k206 a v g) = arr32 (sB a v g 2) := by
  unfold k0_pay80 k0_pay79
  rw [s1B, B5_up, A5_up]
  exact chainB a v g _ _ 1 (slice_at _ 2 160 _ rfl) (slice_at _ 2 160 _ rfl)
theorem s2A : k0_pay81 k0_pay59 (k197 a v) (k202 a v) = arr32 (sA a v 2) := by
  unfold k0_pay81 k0_pay79
  rw [s1A, A5_up]
  exact chainA a v _ 1 (slice_at _ 2 160 _ rfl)
theorem s3 : k0_pay82 k0_pay59 (k197 a v) (k202 a v) = arr32 fun s => A5 a v (at32 3 s) := by
  unfold k0_pay82
  rw [A5_up]
  exact slice_at _ 3 128 _ rfl
theorem s3B : k0_pay83 k0_pay59 (k196 a v g) (k197 a v) (k202 a v) (k206 a v g) = arr32 (sB a v g 3) := by
  unfold k0_pay83
  rw [s2B, B5_up, s3]
  exact chainB a v g _ _ 2 rfl (slice_at _ 3 128 _ rfl)

/-- Eight blocks one after the other. -/
theorem joined (f : ℕ → Fin 32 → Fin 512 → ℝ) :
    concatenate S256x512 0 [⟨S32x512, arr32 (f 7)⟩, ⟨S32x512, arr32 (f 6)⟩, ⟨S32x512, arr32 (f 5)⟩, ⟨S32x512, arr32 (f 4)⟩, ⟨S32x512, arr32 (f 3)⟩,
        ⟨S32x512, arr32 (f 2)⟩, ⟨S32x512, arr32 (f 1)⟩, ⟨S32x512, arr32 (f 0)⟩]
        concatenates_S32x512_S32x512_S32x512_S32x512_S32x512_S32x512_S32x512_S32x512_S256x512_d0
      = arr (fun r k => f (7 - r.val / 32) ⟨r.val % 32, Nat.mod_lt _ (by norm_num)⟩ k) := by
  funext j
  obtain ⟨r, k, rfl⟩ := exists_ix2 j
  have hr := r.isLt
  have key : ∀ (n : ℕ) (s : Fin 32), r.val = 32 * (7 - n) + s.val → n < 8 →
      arr32 (f n) (ix2 s k) = arr (fun r k => f (7 - r.val / 32) ⟨r.val % 32, Nat.mod_lt _ (by norm_num)⟩ k) (ix2 r k) := fun n s e hn => by
    have hs := s.isLt
    have e1 : 7 - r.val / 32 = n := by omega
    have e2 : (⟨r.val % 32, Nat.mod_lt _ (by norm_num)⟩ : Fin 32) = s := Fin.ext (by show r.val % 32 = s.val; omega)
    show _ = ((f (7 - r.val / 32) ⟨r.val % 32, Nat.mod_lt _ (by norm_num)⟩ k : ℝ) : EReal)
    rw [e1, e2]
    rfl
  pointwise
  by_cases c7 : r.val < 32
  · rw [dif_pos c7]
    refine key 7 _ ?_ (by norm_num)
    show r.val = 32 * (7 - 7) + (r.val)
    omega
  rw [dif_neg c7]
  by_cases c6 : r.val - 32 < 32
  · rw [dif_pos c6]
    refine key 6 _ ?_ (by norm_num)
    show r.val = 32 * (7 - 6) + (r.val - 32)
    omega
  rw [dif_neg c6]
  by_cases c5 : r.val - 32 - 32 < 32
  · rw [dif_pos c5]
    refine key 5 _ ?_ (by norm_num)
    show r.val = 32 * (7 - 5) + (r.val - 32 - 32)
    omega
  rw [dif_neg c5]
  by_cases c4 : r.val - 32 - 32 - 32 < 32
  · rw [dif_pos c4]
    refine key 4 _ ?_ (by norm_num)
    show r.val = 32 * (7 - 4) + (r.val - 32 - 32 - 32)
    omega
  rw [dif_neg c4]
  by_cases c3 : r.val - 32 - 32 - 32 - 32 < 32
  · rw [dif_pos c3]
    refine key 3 _ ?_ (by norm_num)
    show r.val = 32 * (7 - 3) + (r.val - 32 - 32 - 32 - 32)
    omega
  rw [dif_neg c3]
  by_cases c2 : r.val - 32 - 32 - 32 - 32 - 32 < 32
  · rw [dif_pos c2]
    refine key 2 _ ?_ (by norm_num)
    show r.val = 32 * (7 - 2) + (r.val - 32 - 32 - 32 - 32 - 32)
    omega
  rw [dif_neg c2]
  by_cases c1 : r.val - 32 - 32 - 32 - 32 - 32 - 32 < 32
  · rw [dif_pos c1]
    refine key 1 _ ?_ (by norm_num)
    show r.val = 32 * (7 - 1) + (r.val - 32 - 32 - 32 - 32 - 32 - 32)
    omega
  rw [dif_neg c1]
  refine key 0 _ ?_ (by norm_num)
  show r.val = 32 * (7 - 0) + (r.val - 32 - 32 - 32 - 32 - 32 - 32 - 32)
  omega

theorem G_up (c : Fin 512 → ℝ) (G : Fin 512 → ℕ → ℝ)
    (h : ∀ k, ∀ r : Fin 256, G k r.val = g r k + nxt a v r k * G k (r.val + 1)) (hc : ∀ k, G k 256 = c k) :
    k0_pay84 (arr (B5 a v g)) (arr (A5 a v)) (arr32 (sA a v 0)) (arr32 (sB a v g 0)) (arr32 (sB a v g 1)) (arr32 (sA a v 1)) (arr32 (sB a v g 2)) (arr32 (sA a v 2))
        (arr32 fun s => A5 a v (at32 3 s)) (arr32 (sB a v g 3)) (row c)
      = arr (fun r k => G k r.val) := by
  unfold k0_pay84
  rw [slice_at (A5 a v) 4 96 _ rfl, slice_at (A5 a v) 5 64 _ rfl, slice_at (A5 a v) 6 32 _ rfl, slice_at (A5 a v) 7 0 _ rfl,
    slice_at (B5 a v g) 4 96 _ rfl, slice_at (B5 a v g) 5 64 _ rfl, slice_at (B5 a v g) 6 32 _ rfl, slice_at (B5 a v g) 7 0 _ rfl]
  dsimp only
  rw [chainA a v (arr32 fun s => A5 a v (at32 3 s)) 2 rfl, chainA a v (arr32 fun s => A5 a v (at32 4 s)) 3 rfl,
    chainA a v (arr32 fun s => A5 a v (at32 5 s)) 4 rfl, chainA a v (arr32 fun s => A5 a v (at32 6 s)) 5 rfl, chainA a v (arr32 fun s => A5 a v (at32 7 s)) 6 rfl,
    chainB a v g (arr32 fun s => A5 a v (at32 4 s)) (arr32 fun s => B5 a v g (at32 4 s)) 3 rfl rfl,
    chainB a v g (arr32 fun s => A5 a v (at32 5 s)) (arr32 fun s => B5 a v g (at32 5 s)) 4 rfl rfl,
    chainB a v g (arr32 fun s => A5 a v (at32 6 s)) (arr32 fun s => B5 a v g (at32 6 s)) 5 rfl rfl,
    chainB a v g (arr32 fun s => A5 a v (at32 7 s)) (arr32 fun s => B5 a v g (at32 7 s)) 6 rfl rfl]
  refine (congrArg₂ (fun P Q => addf P (mulf Q (broadcastTo S256x512 (row c) broadcasts_S1x512_S256x512))) (joined (sB a v g)) (joined (sA a v))).trans ?_
  funext j
  obtain ⟨r, k, rfl⟩ := exists_ix2 j
  have hr := r.isLt
  have e := chained a v g k (h k) (7 - r.val / 32) (by omega) ⟨r.val % 32, Nat.mod_lt _ (by norm_num)⟩
  have er : (at32 (7 - r.val / 32) ⟨r.val % 32, Nat.mod_lt _ (by norm_num)⟩).val = r.val := by
    show 32 * (7 - (7 - r.val / 32)) + r.val % 32 = r.val
    omega
  rw [er, hc] at e
  pointwise
  simp only [up_apply, mul_up, add_up]
  exact congrArg (fun x : ℝ => (x : EReal)) ((congrArg _ (mul_comm _ _)).trans (by rw [mul_comm]; exact e.symm))

end Chain

end Cert.LruBwdKIdeal.Block

end
-- ==== Proof.LruGrad.lean ====
/-
  The backward call of the gated linear recurrence: the gradients of one block of 256 rows, from the scanned gradient.
-/
module

public import proofs.«01_k».proof.Proof.LruScan

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath

/-- The rows shifted by one: the first row is given apart. -/
def bef (h : Fin 256 → Fin 512 → ℝ) (v : Fin 512 → ℝ) (r : Fin 256) (j : Fin 512) : ℝ :=
  if h1 : 1 ≤ r.val then h ⟨r.val - 1, by omega⟩ j else v j

section Decay
variable (pa gx hm sl G h : Fin 256 → Fin 512 → ℝ) (lam hb v : Fin 512 → ℝ) (i : BitVec 32)

/-- The operations of one element of that gradient. -/
def decayForm (G x m s t u d n a b : EReal) : EReal :=
  (0 - (0 - G * x * m * s * t * u) + ((-2 : ℝ) : EReal) * Ideal.div (G * x * m * s) d) * n + G * b * a

/-- The gradient at the logarithm of the decay. -/
def dl (r : Fin 256) (j : Fin 512) : ℝ :=
  2 * (-(G r j * gx r j * hm r j * sl r j) * sq (pa r j) (lam j)) + G r j * bef h v r j * aa (pa r j) (lam j)

theorem dl_up (hv : ∀ j, v j = if i = 15#32 then 0 else hb j) :
    k0_pay90 i (arr fun r j => aa (pa r j) (lam j)) (arr fun r j => (1 + Real.tanh (la (pa r j) (lam j))) * (1 - Real.tanh (la (pa r j) (lam j))))
        (arr fun r j => -2 * Real.tanh (la (pa r j) (lam j))) (arr fun r j => 1 - Real.tanh (la (pa r j) (lam j)))
        (arr fun r j => 1 / ((1 - Real.tanh (la (pa r j) (lam j))) * (1 - Real.tanh (la (pa r j) (lam j)))))
        (arr sl) (arr hm) (arr gx) (arr h) rows (arr G) (row hb)
      = arr (dl pa gx hm sl G h lam v) := by
  have first : Scalar.select (Scalar.cmpi .eq i 15#32) (broadcast S1x512 (Scalar.ofBits (F := Ideal) .f32 0x00000000#32)) (shapeCast S1x512 (row hb) rfl) = row v := by
    funext j
    obtain ⟨r, k, rfl⟩ := exists_ix2 j
    unfold Scalar.select Scalar.cmpi
    show _ = ((v k : ℝ) : EReal)
    rw [hv]
    by_cases c : i = 15#32
    · rw [if_pos c, c]; simp [IntOp.cmpi]; rfl
    · have c' : (i == 15#32) = false := beq_eq_false_iff_ne.mpr c
      rw [if_neg c, shapeCast_self]; simp [IntOp.cmpi, c']; rfl
  funext j
  obtain ⟨r, k, rfl⟩ := exists_ix2 j
  unfold k0_pay90
  dsimp only
  rw [first]
  pointwise
  simp only [Scalar.select, is_first, up_apply, lit_zero, lit_neg_2, shapeCast_self]
  have hb : (if r.val = 0 then ((v k : ℝ) : EReal) else ((h ⟨(r.val + 256 - 1) % 256, Nat.mod_lt _ (by norm_num)⟩ k : ℝ) : EReal)) = ((bef h v r k : ℝ) : EReal) := by
    have hr := r.isLt
    unfold bef
    by_cases c : r.val = 0
    · rw [if_pos c, dif_neg (by omega)]
    · rw [if_neg c, dif_pos (by omega : 1 ≤ r.val)]
      refine congrArg (fun i => ((h i k : ℝ) : EReal)) (Fin.ext ?_)
      show (r.val + 256 - 1) % 256 = r.val - 1
      omega
  show decayForm (G r k) (gx r k) (hm r k) (sl r k) ((1 / ((1 - Real.tanh (la (pa r k) (lam k))) * (1 - Real.tanh (la (pa r k) (lam k)))) : ℝ)) ((-2 * Real.tanh (la (pa r k) (lam k)) : ℝ))
    ((1 - Real.tanh (la (pa r k) (lam k)) : ℝ)) (((1 + Real.tanh (la (pa r k) (lam k))) * (1 - Real.tanh (la (pa r k) (lam k))) : ℝ)) (aa (pa r k) (lam k))
    (if r.val = 0 then ((v k : ℝ) : EReal) else ((h ⟨(r.val + 256 - 1) % 256, Nat.mod_lt _ (by norm_num)⟩ k : ℝ) : EReal)) = _
  rw [hb]
  unfold decayForm
  simp only [← EReal.coe_zero, mul_up, sub_up, add_up, div_up (one_sub_tanh_pos _).ne', slope_tanh]
  rfl

end Decay

section Sums
variable (f g : Fin 256 → Fin 512 → ℝ) (v w : Fin 512 → ℝ)

theorem mug_up : k0_pay87 (arr f) (arr g) = arr (fun r j => f r j * g r j) := by
  funext j
  unfold k0_pay87
  pointwise
  simp only [up_apply, mul_up]
theorem dx0_up (e : Fin 256 → Fin 512 → ℝ) : k0_pay88 (arr e) (arr f) (arr g) = arr (fun r j => e r j * (f r j * g r j)) := by
  funext j
  unfold k0_pay88
  rw [mug_up]
  pointwise
  simp only [up_apply, mul_up]
theorem mugx_up (e : Fin 256 → Fin 512 → ℝ) : k0_pay89 (arr e) (arr f) (arr g) = arr (fun r j => f r j * g r j * e r j) := by
  funext j
  unfold k0_pay89
  rw [mug_up]
  pointwise
  simp only [up_apply, mul_up]
theorem dpx_up : k0_pay96 (arr f) (arr g) = arr (fun r j => g r j * f r j) := by
  funext j
  unfold k0_pay96
  pointwise
  simp only [up_apply, mul_up]
theorem dpa_up : k0_pay97 (arr f) (arr g) = arr (fun r j => g r j * f r j) := by
  funext j
  unfold k0_pay97
  pointwise
  simp only [up_apply, mul_up]

theorem dxr_up (e : Fin 256 → Fin 512 → ℝ) (A B : Fin 512 → Fin 512 → ℝ) (f' g' : Fin 256 → Fin 512 → ℝ) :
    k0_pay100 (arr f) (arr f') (arr e) (arr g') (arr g) (mat A) (mat B)
      = arr (fun r j => e r j + (∑ k, g r k * f r k * A j k) + ∑ k, g' r k * f' r k * B j k) := by
  funext j
  unfold k0_pay100 k0_pay98 k0_pay99
  rw [dpa_up, dpx_up]
  pointwise
  simp only [up_apply, mul_up, sum_up, add_up]
  rfl
theorem dwa_up (x : Fin 256 → Fin 512 → ℝ) (u : Fin 512 → Fin 512 → ℝ) :
    k0_pay103 (up (fun j : S256x512.Idx => x (j 0) (j 1)) .bf16) (arr f) (arr g) (mat32 u) = mat32 (fun i j => u i j + ∑ r, x r i * (g r j * f r j)) := by
  funext j
  unfold k0_pay103 k0_pay98
  rw [dpa_up]
  pointwise
  simp only [up_apply, mul_up, sum_up, add_up]
  rfl
theorem dwx_up (x : Fin 256 → Fin 512 → ℝ) (u : Fin 512 → Fin 512 → ℝ) :
    k0_pay104 (up (fun j : S256x512.Idx => x (j 0) (j 1)) .bf16) (arr f) (arr g) (mat32 u) = mat32 (fun i j => u i j + ∑ r, x r i * (g r j * f r j)) := by
  funext j
  unfold k0_pay104 k0_pay99
  rw [dpx_up]
  pointwise
  simp only [up_apply, mul_up, sum_up, add_up]
  rfl
theorem dba_up : k0_pay101 (arr f) (arr g) = row (fun j => ∑ r, g r j * f r j) := by
  funext j
  unfold k0_pay101
  rw [dpa_up]
  pointwise
  simp only [up_apply, mul_up, sum_up, add_up]
  rfl
theorem dbx_up : k0_pay102 (arr f) (arr g) = row (fun j => ∑ r, g r j * f r j) := by
  funext j
  unfold k0_pay102
  rw [dpx_up]
  pointwise
  simp only [up_apply, mul_up, sum_up, add_up]
  rfl

theorem row0_up : k0_pay85 (arr f) = row (f 0) := by
  funext j
  obtain ⟨r, k, rfl⟩ := exists_ix2 j
  unfold k0_pay85
  pointwise
  rfl

end Sums

/-! ## The gradients at the gate's logits and at the parameter of the decay -/

section Lambda
variable (i : BitVec 32) (va t1 t2 t3 t5 sl hm gx h G : FVec Ideal S256x512 .f32) (hb : FVec Ideal S1x512 .f32) (D : Fin 256 → Fin 512 → ℝ)
  (hD : k0_pay90 i va t1 t2 t3 t5 sl hm gx h rows G hb = arr D)
include hD

theorem dr_up (l : Fin 512 → ℝ) : k0_pay91 i (row l) va t1 t2 t3 t5 sl hm gx h rows G hb = arr (fun r j => 8 * (D r j * l j)) := by
  funext j
  unfold k0_pay91
  rw [hD]
  pointwise
  simp only [up_apply, mul_up, lit_8]
  rfl

theorem de_up (f : Fin 256 → Fin 512 → ℝ) : k0_pay92 i (arr f) va t1 t2 t3 t5 sl hm gx h rows G hb = row (fun j => 0 - ∑ r, f r j * D r j) := by
  funext j
  unfold k0_pay92
  rw [hD]
  pointwise
  simp only [up_apply, mul_up, lit_zero, sum_up, ← EReal.coe_zero, sub_up]
  rfl

theorem dlam_up (f : Fin 256 → Fin 512 → ℝ) (v : Fin 512 → ℝ) (hv : ∀ j, v j ≠ 0) :
    k0_pay95 (row fun j => if 0 < v j then 1 else if v j = 0 then 1 / 2 else 0) (k0_pay22 (F := Ideal) (row v))
        (k0_pay92 i (arr f) va t1 t2 t3 t5 sl hm gx h rows G hb)
        (k0_pay93 i (k0_pay23 (F := Ideal) (row v)) (k0_pay24 (F := Ideal) (row v)) (arr f) va t1 t2 t3 t5 sl hm gx h rows G hb) (k0_pay94 (F := Ideal))
      = row (fun j => (∑ r, f r j * D r j) * lgs (v j)) := by
  funext j
  unfold k0_pay95 k0_pay93 k0_pay22 k0_pay24 k0_pay94
  rw [de_up i va t1 t2 t3 t5 sl hm gx h G hb D hD, ex_up]
  pointwise
  simp only [up_apply, mul_up, lit_zero, lit_one, ← EReal.coe_zero, ← EReal.coe_one, sub_up, add_up]
  have hp : Real.exp (0 - |v (j 1)|) + 1 ≠ 0 := by positivity
  simp only [EReal.coe_le_coe_iff, div_up hp, mul_up, sub_up, ite_up, add_up]
  have e := slope_softplus (hv (j 1)) (0 - ∑ r, f r (j 1) * D r (j 1))
  rw [add_comm (1 : ℝ)] at e
  rw [e]
  refine congrArg (fun x : ℝ => (x : EReal)) ?_
  ring
end Lambda

end Cert.LruBwdKIdeal.Block

end
-- ==== Proof.LruArrays.lean ====
/-
  The backward call of the gated linear recurrence, on finite arguments: what it reads, block by block.
-/
module

public import proofs.«01_k».proof.Proof.LruEnd
public import proofs.«01_k».proof.Proof.LruGrad
public import proofs.«01_k».proof.Proof.Gen.LruBwdKIdeal.Frame

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath
open Cert.LruBwdRIdeal.Stages (Data dense st st_up lam gy ct nw xx)
open Idealize.ShloMosaic.Pipeline (Dat)

/-- The finite arguments, as the launch finds them. -/
structure Finite (m : (ℓ : Loc nD τ sig) → Buf (Elt Ideal) ℓ) (c : Dev nD) (p : Data) : Prop where
  h0 : m ((c : Thread nD τ).loc main_arg0) = up p.D
  h1 : m ((c : Thread nD τ).loc main_arg1) = up p.X
  h2 : m ((c : Thread nD τ).loc main_arg2) = up p.P
  h3 : m ((c : Thread nD τ).loc main_arg3) = up p.WA
  h4 : m ((c : Thread nD τ).loc main_arg4) = up p.BA
  h5 : m ((c : Thread nD τ).loc main_arg5) = up p.WX
  h6 : m ((c : Thread nD τ).loc main_arg6) = up p.BX
  h7 : m ((c : Thread nD τ).loc main_arg7) = up p.L
  h8 : m ((c : Thread nD τ).loc main_arg8) = up p.W

variable (p : Data)

/-- The projection with its columns padded by zeros. -/
def wide (j : S4096x3200.Idx) : ℝ := if h : (j 1).val < 3080 then p.P (ix2 (j 0) ⟨(j 1).val, h⟩) else 0
/-- The states as an array. -/
def hArr (j : S4096x512.Idx) : ℝ := st p (j 0) (j 1)
/-- A vector as an array of one row. -/
def oneRow (v : S512.Idx → ℝ) (j : S1x512.Idx) : ℝ := v (ix1 (j 1))
def mArr (W : S8x64x64.Idx → ℝ) (j : S512x512.Idx) : ℝ := dense W (j 0) (j 1)

theorem eye_mask : ∀ a b : Fin 8, IntOp.cmpi .eq (IntOp.addi (BitVec.ofNat 32 a.val) 0#32) (BitVec.ofNat 32 b.val) = if a = b then 1#1 else 0#1 := by decide +kernel
theorem uitofp_one : FloatOps.uitofp (F := Ideal) .f32 (1#1 : BitVec 1) = ((1 : ℝ) : EReal) := by
  show (((1#1 : BitVec 1).toNat : ℝ) : EReal) = _
  norm_num
theorem uitofp_no : FloatOps.uitofp (F := Ideal) .f32 (0#1 : BitVec 1) = ((0 : ℝ) : EReal) := by
  show (((0#1 : BitVec 1).toNat : ℝ) : EReal) = _
  norm_num

/-- The block matrix as the host builds it: one where the two block numbers agree, times the block. -/
def spread (x : FVec Ideal S8x64x64 .f32) : FVec Ideal S512x512 .f32 :=
    shapeCast S512x512 (mulf
      (broadcastInDim S8x64x8x64 ![0, 1, 2, 3] bcast_S8x1x8x1_S8x64x8x64_0_1_2_3 (broadcastInDim S8x1x8x1 ![0, 2] bcast_S8x8_S8x1x8x1_0_2
        (uitofp (F := Ideal) .f32 (cmpi .eq (addi (iotaInDim S8x8 32 0) (broadcastInDim S8x8 ![] bcast_S_S8x8 (constantI S_ 32 0#32))) (iotaInDim S8x8 32 1)))))
      (broadcastInDim S8x64x8x64 ![0, 1, 2, 3] bcast_S8x64x1x64_S8x64x8x64_0_1_2_3 (broadcastInDim S8x64x1x64 ![0, 1, 3] bcast_S8x64x64_S8x64x1x64_0_1_3 x)))
      shapeCasts_S8x64x8x64_S512x512

theorem spread_up (W : S8x64x64.Idx → ℝ) : spread (up W) = up (mArr W) := by
  unfold spread
  funext j
  obtain ⟨a, b, rfl⟩ := exists_ix2 j
  pointwise
  have t := eye_mask ⟨a.val / 64, by omega⟩ ⟨b.val / 64, by omega⟩
  simp only at t
  rw [t]
  show _ * ((W _ : ℝ) : EReal) = ((dense W a b : ℝ) : EReal)
  unfold dense
  by_cases h : a.val / 64 = b.val / 64
  · rw [if_pos (Fin.ext h), if_pos h, uitofp_one, mul_up, one_mul]
    refine congrArg (fun i => ((W i : ℝ) : EReal)) ?_
    exact congrArg (fun g => ix3 g _ _) (Fin.ext h)
  · rw [if_neg (fun e => h (congrArg Fin.val e)), if_neg h, uitofp_no, mul_up, zero_mul]

variable {m : (ℓ : Loc nD τ sig) → Buf (Elt Ideal) ℓ} {c : Dev nD} {p} (H : Finite m c p)
include H

theorem V_gates : V m c main_v13 = up (mArr p.WA) .bf16 ∧ V m c main_v27 = up (mArr p.WX) .bf16 ∧ V m c main_v0 = up (wide p) := by
  have e : ∀ (x2 : FVec Ideal S4096x3080 .f32) (x3 x5 : FVec Ideal S8x64x64 .f32),
      m ((c : Thread nD τ).loc main_arg2) = x2 → m ((c : Thread nD τ).loc main_arg3) = x3 → m ((c : Thread nD τ).loc main_arg5) = x5 →
      V m c main_v13 = truncf (F := Ideal) .bf16 (spread x3) bitsLt_bf16_f32 ∧ V m c main_v27 = truncf (F := Ideal) .bf16 (spread x5) bitsLt_bf16_f32
      ∧ V m c main_v0 = pad S4096x3200 ![0, 0] ![0, 120] ![0, 0] x2 (sitofp (F := Ideal) .f32 (constantI S_ 32 0#32)) pads_S4096x3080_S4096x3200_000_01200 h_S_ := by
    intro x2 x3 x5 h2 h3 h5
    subst h2 h3 h5
    unfold V V0 spread
    simp only [hostOps0, hostOps0_1, hostOps0_2, hostOps0_3, hostOps0_4, List.flatten_cons, List.flatten_nil, List.append_nil, List.cons_append, List.nil_append]
    refine ⟨?_, ?_, ?_⟩
    all_goals
      entry_read
      rfl
  obtain ⟨e0, e1, e2⟩ := e _ _ _ H.h2 H.h3 H.h5
  refine ⟨e0.trans ?_, e1.trans ?_, e2.trans ?_⟩
  · rw [spread_up]; rfl
  · rw [spread_up]; rfl
  · funext j
    obtain ⟨a, b, rfl⟩ := exists_ix2 j
    pointwise
    show _ = ((if h : b.val < 3080 then p.P (ix2 a ⟨b.val, h⟩) else 0 : ℝ) : EReal)
    split_ifs
    · rfl
    · exact sitofp_zero

theorem V_rows : V m c main_v14 = up (oneRow p.BA) ∧ V m c main_v28 = up (oneRow p.BX) ∧ V m c main_v29 = up (oneRow p.L) ∧ V m c main_v30 = up (oneRow p.W) := by
  have e : ∀ (x4 x6 x7 x8 : FVec Ideal S512 .f32),
      m ((c : Thread nD τ).loc main_arg4) = x4 → m ((c : Thread nD τ).loc main_arg6) = x6 → m ((c : Thread nD τ).loc main_arg7) = x7 → m ((c : Thread nD τ).loc main_arg8) = x8 →
      V m c main_v14 = shapeCast S1x512 x4 shapeCasts_S512_S1x512 ∧ V m c main_v28 = shapeCast S1x512 x6 shapeCasts_S512_S1x512
      ∧ V m c main_v29 = shapeCast S1x512 x7 shapeCasts_S512_S1x512 ∧ V m c main_v30 = shapeCast S1x512 x8 shapeCasts_S512_S1x512 := by
    intro x4 x6 x7 x8 h4 h6 h7 h8
    subst h4 h6 h7 h8
    unfold V V0
    simp only [hostOps0, hostOps0_1, hostOps0_2, hostOps0_3, hostOps0_4, List.flatten_cons, List.flatten_nil, List.append_nil, List.cons_append, List.nil_append]
    refine ⟨?_, ?_, ?_, ?_⟩
    all_goals
      entry_read
      rfl
  obtain ⟨e0, e1, e2, e3⟩ := e _ _ _ _ H.h4 H.h6 H.h7 H.h8
  refine ⟨e0.trans ?_, e1.trans ?_, e2.trans ?_, e3.trans ?_⟩
  all_goals
    funext j
    obtain ⟨a, b, rfl⟩ := exists_ix2 j
    pointwise
    rfl

omit H

theorem idx0 : ∀ t : Fin cfg0.N, (win0_0.index t = ![15 - t.val, 0] ∧ win0_1.index t = ![15 - t.val, 0] ∧ win0_2.index t = ![15 - t.val, 1] ∧ win0_3.index t = ![15 - t.val, 0] ∧ win0_4.index t = ![(15 - t.val) * 32 - 1, 0])
    ∧ (win0_5.index t = ![0, 0] ∧ win0_6.index t = ![0, 0] ∧ win0_7.index t = ![0, 0] ∧ win0_8.index t = ![0, 0] ∧ win0_9.index t = ![0, 0] ∧ win0_10.index t = ![0, 0])
    ∧ (win0_11.index t = ![15 - t.val, 0] ∧ win0_12.index t = ![15 - t.val, 0])
    ∧ (win0_13.index t = ![0, 0] ∧ win0_14.index t = ![0, 0] ∧ win0_15.index t = ![0, 0] ∧ win0_16.index t = ![0, 0] ∧ win0_17.index t = ![0, 0] ∧ win0_18.index t = ![0, 0]) :=
  (by decide +kernel : ∀ t : Fin grid0.N, (win0_0.index t = ![15 - t.val, 0] ∧ win0_1.index t = ![15 - t.val, 0] ∧ win0_2.index t = ![15 - t.val, 1] ∧ win0_3.index t = ![15 - t.val, 0] ∧ win0_4.index t = ![(15 - t.val) * 32 - 1, 0])
    ∧ (win0_5.index t = ![0, 0] ∧ win0_6.index t = ![0, 0] ∧ win0_7.index t = ![0, 0] ∧ win0_8.index t = ![0, 0] ∧ win0_9.index t = ![0, 0] ∧ win0_10.index t = ![0, 0])
    ∧ (win0_11.index t = ![15 - t.val, 0] ∧ win0_12.index t = ![15 - t.val, 0])
    ∧ (win0_13.index t = ![0, 0] ∧ win0_14.index t = ![0, 0] ∧ win0_15.index t = ![0, 0] ∧ win0_16.index t = ![0, 0] ∧ win0_17.index t = ![0, 0] ∧ win0_18.index t = ![0, 0]))

/-- Row `r` of the block that point `t` reads: the blocks come last first. -/
def rowOf (t : Fin cfg0.N) (r : Fin 256) : Fin 4096 := ⟨(15 - t.val) * 256 + r.val, by omega⟩
/-- Row `r` of the eight rows before that block. -/
def row8 (t : Fin cfg0.N) (r : Fin 8) : Fin 4096 := ⟨((15 - t.val) * 32 - 1) * 8 + r.val, by omega⟩

include H

theorem iblk0 (t : Fin cfg0.N) : iblk m c 0 t = up fun y : S256x512.Idx => ct p (rowOf t (y 0)) (y 1) := by
  funext y
  have e := (idx0 t).1.1
  show V m c main_arg0 _ = _
  rw [V_main_arg0, H.h0]
  refine congrArg (fun i => ((p.D i : ℝ) : EReal)) (a₂ := ix2 (rowOf t (y 0)) (y 1)) ?_
  blk_ext [rowOf, e]

theorem iblk1 (t : Fin cfg0.N) : iblk m c 1 t = up fun y : S256x512.Idx => xx p (rowOf t (y 0)) (y 1) := by
  funext y
  have e := (idx0 t).1.2.1
  show V m c main_arg1 _ = _
  rw [V_main_arg1, H.h1]
  refine congrArg (fun i => ((p.X i : ℝ) : EReal)) (a₂ := ix2 (rowOf t (y 0)) (y 1)) ?_
  blk_ext [rowOf, e]

theorem X2 (t : Fin cfg0.N) : X0_2 m c t = up fun y : S256x512.Idx => gy p (rowOf t (y 0)) (y 1) := by
  funext y
  have e := (idx0 t).1.2.2.1
  unfold X0_2 Pipeline.Window.fill
  rw [dif_pos (moved0_2 t y)]
  show V m c main_v0 _ = _
  rw [(V_gates H).2.2]
  have hy : (y 1).val < 512 := (y 1).isLt
  refine (congrArg (fun i => ((wide p i : ℝ) : EReal)) (a₂ := ix2 (rowOf t (y 0)) ⟨512 + (y 1).val, by omega⟩) ?_).trans ?_
  · blk_ext [rowOf, e]
  · exact congrArg (fun r : ℝ => (r : EReal)) (dif_pos (by show 512 + (y 1).val < 3080; omega))

theorem iblk5 (t : Fin cfg0.N) : iblk m c 5 t = up (mArr p.WA) .bf16 := by
  funext y
  have e := (idx0 t).2.1.1
  show V m c main_v13 _ = _
  rw [(V_gates H).1]
  refine congrArg (fun i => ((mArr p.WA i : ℝ) : EReal)) ?_
  blk_ext [e]

theorem iblk6 (t : Fin cfg0.N) : iblk m c 6 t = up (oneRow p.BA) := by
  funext y
  have e := (idx0 t).2.1.2.1
  show V m c main_v14 _ = _
  rw [(V_rows H).1]
  refine congrArg (fun i => ((oneRow p.BA i : ℝ) : EReal)) ?_
  blk_ext [e]

theorem iblk7 (t : Fin cfg0.N) : iblk m c 7 t = up (mArr p.WX) .bf16 := by
  funext y
  have e := (idx0 t).2.1.2.2.1
  show V m c main_v27 _ = _
  rw [(V_gates H).2.1]
  refine congrArg (fun i => ((mArr p.WX i : ℝ) : EReal)) ?_
  blk_ext [e]

theorem iblk8 (t : Fin cfg0.N) : iblk m c 8 t = up (oneRow p.BX) := by
  funext y
  have e := (idx0 t).2.1.2.2.2.1
  show V m c main_v28 _ = _
  rw [(V_rows H).2.1]
  refine congrArg (fun i => ((oneRow p.BX i : ℝ) : EReal)) ?_
  blk_ext [e]

theorem iblk9 (t : Fin cfg0.N) : iblk m c 9 t = up (oneRow p.L) := by
  funext y
  have e := (idx0 t).2.1.2.2.2.2.1
  show V m c main_v29 _ = _
  rw [(V_rows H).2.2.1]
  refine congrArg (fun i => ((oneRow p.L i : ℝ) : EReal)) ?_
  blk_ext [e]

theorem iblk10 (t : Fin cfg0.N) : iblk m c 10 t = up (oneRow p.W) := by
  funext y
  have e := (idx0 t).2.1.2.2.2.2.2
  show V m c main_v30 _ = _
  rw [(V_rows H).2.2.2]
  refine congrArg (fun i => ((oneRow p.W i : ℝ) : EReal)) ?_
  blk_ext [e]

end Cert.LruBwdKIdeal.Block

end
-- ==== Proof.LruSaved.lean ====
/-
  The backward call of the gated linear recurrence, on finite arguments: the saved states are those of the forward lines.
-/
module

public import proofs.«01_k».proof.Proof.LruArrays
public import Idealize.ShloMosaic.Lib.StableHlo.RunRead

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath
open Cert.LruBwdRIdeal.Stages (Data st fa fb LA LB level LB_last aa_up bb_up big)
open Idealize.ShloMosaic.Pipeline (Dat)

open StableHlo (after upto)

/-- A line run to a later position: the operations between, run from the earlier one. -/
theorem upto_add (ops : List (HloOp τ sig (Elt Ideal))) (U : Valuation τ sig (Elt Ideal)) (n k : ℕ) :
    upto ops U (n + k) = after ((ops.drop n).take k) (upto ops U n) := by
  show after (ops.take (n + k)) U = after _ (after (ops.take n) U)
  rw [← StableHlo.after_append, List.take_add]

section Levels
variable (p : Data) (U : Valuation τ sig (Elt Ideal))

/-- After `n` lines, two buffers hold the factors and the addends of `k` doubling steps. -/
abbrev Two (n : ℕ) (a b : Valuation τ sig (Elt Ideal) → FVec Ideal S4096x512 .f32) (k : ℕ) : Prop :=
  a (upto hostOps0_4 U n) = big (LA p k) ∧ b (upto hostOps0_4 U n) = big (LB p k)

/-- One doubling step of the host's lines after the other: eleven lines that move the two arrays down by `d` rows and combine. -/
theorem step {p : Data} {U : Valuation τ sig (Elt Ideal)} {d n k N : ℕ} {a b a' b' : Valuation τ sig (Elt Ideal) → FVec Ideal S4096x512 .f32} (h : Two p U N a b k) (hd : 2 ^ k = d)
    (hb : S_.BroadcastsInDim ⟨2, ![d, 512]⟩ ![]) (hs : S4096x512.Slices ![0, 0] ⟨2, ![n, 512]⟩) (hc : Shape.Concatenates [⟨2, ![d, 512]⟩, ⟨2, ![n, 512]⟩] S4096x512 0)
    (ea : ∀ σ, a' (after ((hostOps0_4.drop N).take 11) σ) = mulf (concatenate S4096x512 0 [⟨⟨2, ![d, 512]⟩, broadcastInDim ⟨2, ![d, 512]⟩ ![] hb (constant S_ .f32 0x3F800000#32)⟩,
      ⟨⟨2, ![n, 512]⟩, extractStridedSlice ⟨2, ![n, 512]⟩ ![0, 0] (a σ) hs⟩] hc) (a σ))
    (eb : ∀ σ, b' (after ((hostOps0_4.drop N).take 11) σ) = addf (mulf (a σ) (concatenate S4096x512 0 [⟨⟨2, ![d, 512]⟩, broadcastInDim ⟨2, ![d, 512]⟩ ![] hb (constant S_ .f32 0x00000000#32)⟩,
      ⟨⟨2, ![n, 512]⟩, extractStridedSlice ⟨2, ![n, 512]⟩ ![0, 0] (b σ) hs⟩] hc)) (b σ)) : Two p U (N + 11) a' b' (k + 1) := by
  have e := (level p k hd h.1 h.2 _ _ (fun _ => Cert.Reals.lit_one) (fun _ => Cert.Reals.lit_zero) hs hc rfl rfl rfl rfl).2.2
  unfold Two
  rw [upto_add]
  exact ⟨(ea _).trans e.1, (eb _).trans e.2⟩

theorem at1 (h : Two p U 15 (· (Proc.devRef .tc main_v62)) (· (Proc.devRef .tc main_v71)) 0) : Two p U 26 (· (Proc.devRef .tc main_v78)) (· (Proc.devRef .tc main_v80)) 1 := by
  refine step h rfl bcast_S_S1x512 slices_S4096x512_S4095x512_0_0 concatenates_S1x512_S4095x512_S4096x512_d0 (fun σ => ?_) fun σ => ?_
  all_goals
    simp only [hostOps0_4, List.drop_succ_cons, List.drop_zero, List.take_succ_cons, List.take_zero]
    entry_read
    rfl
theorem at2 (h : Two p U 26 (· (Proc.devRef .tc main_v78)) (· (Proc.devRef .tc main_v80)) 1) : Two p U 37 (· (Proc.devRef .tc main_v87)) (· (Proc.devRef .tc main_v89)) 2 := by
  refine step h rfl bcast_S_S2x512 slices_S4096x512_S4094x512_0_0 concatenates_S2x512_S4094x512_S4096x512_d0 (fun σ => ?_) fun σ => ?_
  all_goals
    simp only [hostOps0_4, List.drop_succ_cons, List.drop_zero, List.take_succ_cons, List.take_zero]
    entry_read
    rfl
theorem at3 (h : Two p U 37 (· (Proc.devRef .tc main_v87)) (· (Proc.devRef .tc main_v89)) 2) : Two p U 48 (· (Proc.devRef .tc main_v96)) (· (Proc.devRef .tc main_v98)) 3 := by
  refine step h rfl bcast_S_S4x512 slices_S4096x512_S4092x512_0_0 concatenates_S4x512_S4092x512_S4096x512_d0 (fun σ => ?_) fun σ => ?_
  all_goals
    simp only [hostOps0_4, List.drop_succ_cons, List.drop_zero, List.take_succ_cons, List.take_zero]
    entry_read
    rfl
theorem at4 (h : Two p U 48 (· (Proc.devRef .tc main_v96)) (· (Proc.devRef .tc main_v98)) 3) : Two p U 59 (· (Proc.devRef .tc main_v105)) (· (Proc.devRef .tc main_v107)) 4 := by
  refine step h rfl bcast_S_S8x512 slices_S4096x512_S4088x512_0_0 concatenates_S8x512_S4088x512_S4096x512_d0 (fun σ => ?_) fun σ => ?_
  all_goals
    simp only [hostOps0_4, List.drop_succ_cons, List.drop_zero, List.take_succ_cons, List.take_zero]
    entry_read
    rfl
theorem at5 (h : Two p U 59 (· (Proc.devRef .tc main_v105)) (· (Proc.devRef .tc main_v107)) 4) : Two p U 70 (· (Proc.devRef .tc main_v114)) (· (Proc.devRef .tc main_v116)) 5 := by
  refine step h rfl bcast_S_S16x512 slices_S4096x512_S4080x512_0_0 concatenates_S16x512_S4080x512_S4096x512_d0 (fun σ => ?_) fun σ => ?_
  all_goals
    simp only [hostOps0_4, List.drop_succ_cons, List.drop_zero, List.take_succ_cons, List.take_zero]
    entry_read
    rfl
theorem at6 (h : Two p U 70 (· (Proc.devRef .tc main_v114)) (· (Proc.devRef .tc main_v116)) 5) : Two p U 81 (· (Proc.devRef .tc main_v123)) (· (Proc.devRef .tc main_v125)) 6 := by
  refine step h rfl bcast_S_S32x512 slices_S4096x512_S4064x512_0_0 concatenates_S32x512_S4064x512_S4096x512_d0 (fun σ => ?_) fun σ => ?_
  all_goals
    simp only [hostOps0_4, List.drop_succ_cons, List.drop_zero, List.take_succ_cons, List.take_zero]
    entry_read
    rfl
theorem at7 (h : Two p U 81 (· (Proc.devRef .tc main_v123)) (· (Proc.devRef .tc main_v125)) 6) : Two p U 92 (· (Proc.devRef .tc main_v132)) (· (Proc.devRef .tc main_v134)) 7 := by
  refine step h rfl bcast_S_S64x512 slices_S4096x512_S4032x512_0_0 concatenates_S64x512_S4032x512_S4096x512_d0 (fun σ => ?_) fun σ => ?_
  all_goals
    simp only [hostOps0_4, List.drop_succ_cons, List.drop_zero, List.take_succ_cons, List.take_zero]
    entry_read
    rfl
theorem at8 (h : Two p U 92 (· (Proc.devRef .tc main_v132)) (· (Proc.devRef .tc main_v134)) 7) : Two p U 103 (· (Proc.devRef .tc main_v141)) (· (Proc.devRef .tc main_v143)) 8 := by
  refine step h rfl bcast_S_S128x512 slices_S4096x512_S3968x512_0_0 concatenates_S128x512_S3968x512_S4096x512_d0 (fun σ => ?_) fun σ => ?_
  all_goals
    simp only [hostOps0_4, List.drop_succ_cons, List.drop_zero, List.take_succ_cons, List.take_zero]
    entry_read
    rfl
theorem at9 (h : Two p U 103 (· (Proc.devRef .tc main_v141)) (· (Proc.devRef .tc main_v143)) 8) : Two p U 114 (· (Proc.devRef .tc main_v150)) (· (Proc.devRef .tc main_v152)) 9 := by
  refine step h rfl bcast_S_S256x512 slices_S4096x512_S3840x512_0_0 concatenates_S256x512_S3840x512_S4096x512_d0 (fun σ => ?_) fun σ => ?_
  all_goals
    simp only [hostOps0_4, List.drop_succ_cons, List.drop_zero, List.take_succ_cons, List.take_zero]
    entry_read
    rfl
theorem at10 (h : Two p U 114 (· (Proc.devRef .tc main_v150)) (· (Proc.devRef .tc main_v152)) 9) : Two p U 125 (· (Proc.devRef .tc main_v159)) (· (Proc.devRef .tc main_v161)) 10 := by
  refine step h rfl bcast_S_S512x512 slices_S4096x512_S3584x512_0_0 concatenates_S512x512_S3584x512_S4096x512_d0 (fun σ => ?_) fun σ => ?_
  all_goals
    simp only [hostOps0_4, List.drop_succ_cons, List.drop_zero, List.take_succ_cons, List.take_zero]
    entry_read
    rfl
theorem at11 (h : Two p U 125 (· (Proc.devRef .tc main_v159)) (· (Proc.devRef .tc main_v161)) 10) : Two p U 136 (· (Proc.devRef .tc main_v168)) (· (Proc.devRef .tc main_v170)) 11 := by
  refine step h rfl bcast_S_S1024x512 slices_S4096x512_S3072x512_0_0 concatenates_S1024x512_S3072x512_S4096x512_d0 (fun σ => ?_) fun σ => ?_
  all_goals
    simp only [hostOps0_4, List.drop_succ_cons, List.drop_zero, List.take_succ_cons, List.take_zero]
    entry_read
    rfl
theorem at12 (h : Two p U 136 (· (Proc.devRef .tc main_v168)) (· (Proc.devRef .tc main_v170)) 11) : Two p U 147 (· (Proc.devRef .tc main_v177)) (· (Proc.devRef .tc main_v179)) 12 := by
  refine step h rfl bcast_S_S2048x512 slices_S4096x512_S2048x512_0_0 concatenates_S2048x512_S2048x512_S4096x512_d0 (fun σ => ?_) fun σ => ?_
  all_goals
    simp only [hostOps0_4, List.drop_succ_cons, List.drop_zero, List.take_succ_cons, List.take_zero]
    entry_read
    rfl

end Levels

variable {m : (ℓ : Loc nD τ sig) → Buf (Elt Ideal) ℓ} {c : Dev nD} {p : Data} (H : Finite m c p)
include H

/-- What the doubling steps begin with: the decays and the addends. -/
theorem start : upto (hostOps0_4 (F := Ideal)) (after (List.flatten [hostOps0, hostOps0_1, hostOps0_2, hostOps0_3]) (fun b => m (c, b))) 15 (Proc.devRef .tc main_v62) = big (LA p 0)
    ∧ upto (hostOps0_4 (F := Ideal)) (after (List.flatten [hostOps0, hostOps0_1, hostOps0_2, hostOps0_3]) (fun b => m (c, b))) 15 (Proc.devRef .tc main_v71) = big (LB p 0) := by
  have e : ∀ (x1 : FVec Ideal S4096x512 .f32) (x3 x5 : FVec Ideal S8x64x64 .f32) (x4 x6 x7 : FVec Ideal S512 .f32),
      m ((c : Thread nD τ).loc main_arg1) = x1 → m ((c : Thread nD τ).loc main_arg3) = x3 → m ((c : Thread nD τ).loc main_arg4) = x4 →
      m ((c : Thread nD τ).loc main_arg5) = x5 → m ((c : Thread nD τ).loc main_arg6) = x6 → m ((c : Thread nD τ).loc main_arg7) = x7 →
      upto (hostOps0_4 (F := Ideal)) (after (List.flatten [hostOps0, hostOps0_1, hostOps0_2, hostOps0_3]) (fun b => m (c, b))) 15 (Proc.devRef .tc main_v62)
          = Cert.LruBwdRIdeal.Read.val_main_v38 (F := Ideal) x1 x3 x4 x7
      ∧ upto (hostOps0_4 (F := Ideal)) (after (List.flatten [hostOps0, hostOps0_1, hostOps0_2, hostOps0_3]) (fun b => m (c, b))) 15 (Proc.devRef .tc main_v71)
          = Cert.LruBwdRIdeal.Read.val_main_v59 (F := Ideal) x1 x3 x4 x5 x6 x7 := by
    intro x1 x3 x5 x4 x6 x7 h1 h3 h4 h5 h6 h7
    subst h1 h3 h4 h5 h6 h7
    unfold upto
    rw [← StableHlo.after_append]
    simp only [hostOps0, hostOps0_1, hostOps0_2, hostOps0_3, hostOps0_4, List.flatten_cons, List.flatten_nil, List.append_nil, List.cons_append, List.nil_append, List.take_succ_cons, List.take_zero]
    refine ⟨?_, ?_⟩
    all_goals
      entry_read
      rfl
  exact ⟨(e _ _ _ _ _ _ H.h1 H.h3 H.h4 H.h5 H.h6 H.h7).1.trans (aa_up p), (e _ _ _ _ _ _ H.h1 H.h3 H.h4 H.h5 H.h6 H.h7).2.trans (bb_up p)⟩

theorem V_h : V m c main_v179 = up (hArr p) := by
  have e : V m c main_v179 = upto (hostOps0_4 (F := Ideal)) (after (List.flatten [hostOps0, hostOps0_1, hostOps0_2, hostOps0_3]) (fun b => m (c, b))) 147 (Proc.devRef .tc main_v179) := by
    unfold V V0 upto
    rw [← StableHlo.after_append]
    rfl
  exact e.trans ((at12 p _ (at11 p _ (at10 p _ (at9 p _ (at8 p _ (at7 p _ (at6 p _ (at5 p _ (at4 p _ (at3 p _ (at2 p _ (at1 p _ (start H))))))))))))).2.trans (congrArg big (LB_last p)))

end Cert.LruBwdKIdeal.Block

end
-- ==== Proof.LruState.lean ====
/-
  The backward call of the gated linear recurrence, on finite arguments: the saved states that it reads.
-/
module

public import proofs.«01_k».proof.Proof.LruSaved

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath
open Cert.LruBwdRIdeal.Stages (Data dense st st_up lam gy ct nw xx)
open Idealize.ShloMosaic.Pipeline (Dat)

variable {m : (ℓ : Loc nD τ sig) → Buf (Elt Ideal) ℓ} {c : Dev nD} {p : Data} (H : Finite m c p)
include H

theorem iblk3 (t : Fin cfg0.N) : iblk m c 3 t = up fun y : S256x512.Idx => st p (rowOf t (y 0)) (y 1) := by
  funext y
  have e := (idx0 t).1.2.2.2.1
  show V m c main_v179 _ = _
  rw [V_h H]
  refine congrArg (fun i => ((hArr p i : ℝ) : EReal)) (a₂ := ix2 (rowOf t (y 0)) (y 1)) ?_
  blk_ext [rowOf, e]

theorem iblk4 (t : Fin cfg0.N) : iblk m c 4 t = up fun y : S8x512.Idx => st p (row8 t (y 0)) (y 1) := by
  funext y
  have e := (idx0 t).1.2.2.2.2
  show V m c main_v179 _ = _
  rw [V_h H]
  refine congrArg (fun i => ((hArr p i : ℝ) : EReal)) (a₂ := ix2 (row8 t (y 0)) (y 1)) ?_
  blk_ext [row8, e]

end Cert.LruBwdKIdeal.Block

end
-- ==== Proof.LruPoint.lean ====
/-
  The backward call of the gated linear recurrence, on finite arguments: the values inside one grid point.
-/
module

public import proofs.«01_k».proof.Proof.LruState

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath
open Cert.LruBwdRIdeal.Stages (Data dense st lam gy ct nw xx pa px fa ga gh gla gpa gpx gx0 before)
open Idealize.ShloMosaic.Pipeline (Dat)

variable (p : Data)

/-- The rows of a whole array that the block of a point has. -/
def blk (f : Fin 4096 → Fin 512 → ℝ) (t : Fin cfg0.N) (r : Fin 256) (j : Fin 512) : ℝ := f (rowOf t r) j

/-- The decay of the first row after the block, and the gradient at that row's addend: zero where there is no such row. -/
def nextA (t : Fin cfg0.N) (j : Fin 512) : ℝ := ext (fun u => fa p u j) ((15 - t.val) * 256 + 256)
def nextG (t : Fin cfg0.N) (j : Fin 512) : ℝ := gs (fun u => fa p u j) (fun u => gh p u j) ((15 - t.val) * 256 + 256)

theorem next_step (t : Fin cfg0.N) (k : Fin 512) (r : Fin 256) :
    gs (fun u => fa p u k) (fun u => gh p u k) ((15 - t.val) * 256 + r.val)
      = blk (gh p) t r k + nxt (blk (fa p) t) (nextA p t) r k * gs (fun u => fa p u k) (fun u => gh p u k) ((15 - t.val) * 256 + (r.val + 1)) := by
  have hr := r.isLt
  refine (gs_step _ _ (by omega : (15 - t.val) * 256 + r.val < 4096)).trans ?_
  refine congrArg (fun x : ℝ => blk (gh p) t r k + x * _) ?_
  unfold nxt nextA
  by_cases h : r.val < 255
  · rw [ext_of_lt _ (by omega : (15 - t.val) * 256 + r.val + 1 < 4096)]
    first
      | rw [dif_pos (by omega)]; rfl
      | rw [dif_neg (by omega)]; rfl
  · have e : (15 - t.val) * 256 + r.val + 1 = (15 - t.val) * 256 + 256 := by omega
    rw [e]
    first
      | rw [dif_neg (by omega)]
      | rw [dif_pos (by omega)]

/-- The gradients at the addends of the block, from the values of the rows after it. -/
theorem grads (t : Fin cfg0.N) :
    k0_pay84 (k0_pay72 k0_pay59 (k0_pay63 (arr (blk (fa p) t)) (arr (blk (gh p) t)) rows 255#32 (row (nextA p t))) (k0_pay64 (arr (blk (fa p) t)) rows 255#32 (row (nextA p t)))
          (k0_pay66 (arr (blk (fa p) t)) rows 255#32 (row (nextA p t))) (k0_pay67 (arr (blk (fa p) t)) (arr (blk (gh p) t)) rows 255#32 (row (nextA p t))))
        (k0_pay73 k0_pay59 (k0_pay64 (arr (blk (fa p) t)) rows 255#32 (row (nextA p t))) (k0_pay66 (arr (blk (fa p) t)) rows 255#32 (row (nextA p t))))
        (k0_pay74 k0_pay59 (k0_pay64 (arr (blk (fa p) t)) rows 255#32 (row (nextA p t))) (k0_pay66 (arr (blk (fa p) t)) rows 255#32 (row (nextA p t))))
        (k0_pay75 k0_pay59 (k0_pay63 (arr (blk (fa p) t)) (arr (blk (gh p) t)) rows 255#32 (row (nextA p t))) (k0_pay64 (arr (blk (fa p) t)) rows 255#32 (row (nextA p t)))
          (k0_pay66 (arr (blk (fa p) t)) rows 255#32 (row (nextA p t))) (k0_pay67 (arr (blk (fa p) t)) (arr (blk (gh p) t)) rows 255#32 (row (nextA p t))))
        (k0_pay77 k0_pay59 (k0_pay63 (arr (blk (fa p) t)) (arr (blk (gh p) t)) rows 255#32 (row (nextA p t))) (k0_pay64 (arr (blk (fa p) t)) rows 255#32 (row (nextA p t)))
          (k0_pay66 (arr (blk (fa p) t)) rows 255#32 (row (nextA p t))) (k0_pay67 (arr (blk (fa p) t)) (arr (blk (gh p) t)) rows 255#32 (row (nextA p t))))
        (k0_pay78 k0_pay59 (k0_pay64 (arr (blk (fa p) t)) rows 255#32 (row (nextA p t))) (k0_pay66 (arr (blk (fa p) t)) rows 255#32 (row (nextA p t))))
        (k0_pay80 k0_pay59 (k0_pay63 (arr (blk (fa p) t)) (arr (blk (gh p) t)) rows 255#32 (row (nextA p t))) (k0_pay64 (arr (blk (fa p) t)) rows 255#32 (row (nextA p t)))
          (k0_pay66 (arr (blk (fa p) t)) rows 255#32 (row (nextA p t))) (k0_pay67 (arr (blk (fa p) t)) (arr (blk (gh p) t)) rows 255#32 (row (nextA p t))))
        (k0_pay81 k0_pay59 (k0_pay64 (arr (blk (fa p) t)) rows 255#32 (row (nextA p t))) (k0_pay66 (arr (blk (fa p) t)) rows 255#32 (row (nextA p t))))
        (k0_pay82 k0_pay59 (k0_pay64 (arr (blk (fa p) t)) rows 255#32 (row (nextA p t))) (k0_pay66 (arr (blk (fa p) t)) rows 255#32 (row (nextA p t))))
        (k0_pay83 k0_pay59 (k0_pay63 (arr (blk (fa p) t)) (arr (blk (gh p) t)) rows 255#32 (row (nextA p t))) (k0_pay64 (arr (blk (fa p) t)) rows 255#32 (row (nextA p t)))
          (k0_pay66 (arr (blk (fa p) t)) rows 255#32 (row (nextA p t))) (k0_pay67 (arr (blk (fa p) t)) (arr (blk (gh p) t)) rows 255#32 (row (nextA p t))))
        (row (nextG p t))
      = arr (blk (ga p) t) := by
  rw [A2_up, B2_up, A2m_up, B2m_up, B5_up, A5_up, s0A, s0B, s1B, s1A, s2B, s2A, s3, s3B,
    G_up _ _ _ (nextG p t) (fun k n => gs (fun u => fa p u k) (fun u => gh p u k) ((15 - t.val) * 256 + n)) (fun k r => next_step p t k r) (fun k => rfl)]
  rfl

/-- The first row of those gradients, as the point hands it on. -/
theorem first_grad (x1 x2 : FVec Ideal S256x512 .f32) (x3 x4 x5 x6 x7 x8 x9 x10 : FVec Ideal S32x512 .f32) (x11 : FVec Ideal S1x512 .f32) (f : Fin 256 → Fin 512 → ℝ)
    (h : k0_pay84 x1 x2 x3 x4 x5 x6 x7 x8 x9 x10 x11 = arr f) : k0_pay86 x1 x2 x3 x4 x5 x6 x7 x8 x9 x10 x11 = row (f 0) := by
  funext j
  obtain ⟨r, k, rfl⟩ := exists_ix2 j
  unfold k0_pay86
  rw [h]
  pointwise
  rfl

theorem last_point : ∀ t : Fin cfg0.N, (BitVec.ofNat 32 (grid0.coords t 0).val = 15#32) ↔ t.val = 15 :=
  (by decide +kernel : ∀ t : Fin grid0.N, (BitVec.ofNat 32 (grid0.coords t 0).val = 15#32) ↔ t.val = 15)

theorem bef_before (t : Fin cfg0.N) (r : Fin 256) (j : Fin 512) : bef (blk (st p) t) (before p (rowOf t 0)) r j = before p (rowOf t r) j := by
  unfold bef before dn
  have hr := r.isLt
  by_cases c : 1 ≤ r.val
  · rw [dif_pos c, dif_pos (show 1 ≤ (rowOf t r).val by show 1 ≤ _ + r.val; omega)]
    refine congrArg (fun u => st p u j) (Fin.ext ?_)
    show (15 - t.val) * 256 + (r.val - 1) = (15 - t.val) * 256 + r.val - 1
    omega
  · have e : r = 0 := Fin.ext (by show r.val = 0; omega)
    rw [dif_neg c, e]

/-- The gradient at the logarithm of the decay, on the block. -/
theorem log_grads (t : Fin cfg0.N) :
    k0_pay90 (BitVec.ofNat 32 (grid0.coords t 0).val) (arr (blk (fa p) t)) (arr fun r j => (1 + Real.tanh (la (blk (pa p) t r j) (lam p j))) * (1 - Real.tanh (la (blk (pa p) t r j) (lam p j))))
        (arr fun r j => -2 * Real.tanh (la (blk (pa p) t r j) (lam p j))) (arr fun r j => 1 - Real.tanh (la (blk (pa p) t r j) (lam p j)))
        (arr fun r j => 1 / ((1 - Real.tanh (la (blk (pa p) t r j) (lam p j))) * (1 - Real.tanh (la (blk (pa p) t r j) (lam p j)))))
        (arr fun r j => sel (blk (pa p) t r j) (lam p j)) (arr fun r j => 1 / 2 / mu (blk (pa p) t r j) (lam p j))
        (arr fun r j => lgs (blk (px p) t r j) * blk (xx p) t r j) (arr (blk (st p) t)) rows (arr (blk (ga p) t)) (row (st p (row8 t 7)))
      = arr (blk (gla p) t) := by
  refine (dl_up (blk (pa p) t) _ _ _ _ _ (lam p) _ (before p (rowOf t 0)) _ fun j => ?_).trans ?_
  · have ht : t.val < 16 := lt_of_lt_of_eq t.isLt N_0
    unfold before dn
    by_cases c : t.val = 15
    · rw [if_pos ((last_point t).mpr c), dif_neg (show ¬ 1 ≤ (rowOf t 0).val by show ¬ 1 ≤ (15 - t.val) * 256 + 0; omega)]
    · rw [if_neg (fun e => c ((last_point t).mp e)), dif_pos (show 1 ≤ (rowOf t 0).val by show 1 ≤ (15 - t.val) * 256 + 0; omega)]
      refine congrArg (fun u => st p u j) (Fin.ext ?_)
      show (15 - t.val) * 256 + 0 - 1 = ((15 - t.val) * 32 - 1) * 8 + 7
      omega
  · refine congrArg arr (funext fun r => funext fun j => ?_)
    show dl _ _ _ _ _ _ _ _ r j = dla _ _ _ _ _ _
    unfold dl
    rw [bef_before]
    rfl

variable {m : (ℓ : Loc nD τ sig) → Buf (Elt Ideal) ℓ} {c : Dev nD} {p} (H : Finite m c p)
include H

/-! ## What the blocks of the operands give -/

theorem e13 (t : Fin cfg0.N) : k0_pay13 (iblk m c 1 t) (iblk m c 5 t) (iblk m c 6 t) = arr fun r j => lgs (blk (pa p) t r j) := by
  rw [iblk1 H, iblk5 H, iblk6 H]; exact ga_up (blk (xx p) t) (dense p.WA) (fun j => p.BA (ix1 j))
theorem e14 (t : Fin cfg0.N) : k0_pay14 (iblk m c 1 t) (iblk m c 5 t) (iblk m c 6 t) = arr fun r j => lgs (blk (pa p) t r j) * (1 - lgs (blk (pa p) t r j)) := by
  rw [iblk1 H, iblk5 H, iblk6 H]; exact dga_up (blk (xx p) t) (dense p.WA) (fun j => p.BA (ix1 j))
theorem e15 (t : Fin cfg0.N) : k0_pay15 (iblk m c 1 t) (iblk m c 7 t) (iblk m c 8 t) = arr fun r j => lgs (blk (px p) t r j) := by
  rw [iblk1 H, iblk7 H, iblk8 H]; exact gx_up (blk (xx p) t) (dense p.WX) (fun j => p.BX (ix1 j))
theorem e16 (t : Fin cfg0.N) : k0_pay16 (iblk m c 1 t) (iblk m c 7 t) (iblk m c 8 t) = arr fun r j => lgs (blk (px p) t r j) * (1 - lgs (blk (px p) t r j)) := by
  rw [iblk1 H, iblk7 H, iblk8 H]; exact dgx_up (blk (xx p) t) (dense p.WX) (fun j => p.BX (ix1 j))
theorem e12 (t : Fin cfg0.N) : k0_pay12 (iblk m c 1 t) = up (fun j : S256x512.Idx => blk (xx p) t (j 0) (j 1)) .bf16 := by
  rw [iblk1 H]; rfl
theorem b9 (t : Fin cfg0.N) : iblk m c 9 t = row (lam p) := iblk9 H t
theorem b10 (t : Fin cfg0.N) : iblk m c 10 t = row (nw p) := iblk10 H t
theorem b3 (t : Fin cfg0.N) : iblk m c 3 t = arr (blk (st p) t) := iblk3 H t
theorem b0 (t : Fin cfg0.N) : iblk m c 0 t = arr (blk (ct p) t) := iblk0 H t
theorem b1 (t : Fin cfg0.N) : iblk m c 1 t = arr (blk (xx p) t) := iblk1 H t
theorem b2 (t : Fin cfg0.N) : X0_2 m c t = arr (blk (gy p) t) := X2 H t
theorem b5 (t : Fin cfg0.N) : iblk m c 5 t = mat (dense p.WA) := iblk5 H t
theorem b7 (t : Fin cfg0.N) : iblk m c 7 t = mat (dense p.WX) := iblk7 H t
theorem ld4 (t : Fin cfg0.N) : View.ld (iblk m c 4 t) (Rect.unit ![7, 0] ![1, 512] inb_S8x512_S1x512_7_0) = row (st p (row8 t 7)) := by
  rw [iblk4 H]
  funext j
  obtain ⟨r, k, rfl⟩ := exists_ix2 j
  refine congrArg (fun i : S8x512.Idx => ((st p (row8 t (i 0)) (i 1) : ℝ) : EReal)) (a₂ := ix2 7 k) ?_
  obtain rfl : r = 0 := Subsingleton.elim _ _
  funext a
  fin_cases a
  · rfl
  · exact Fin.ext (by simp [ix2])

/-- The decays of the block, and the gradients at its states. -/
theorem e28 (t : Fin cfg0.N) : k0_pay28 (k0_pay13 (iblk m c 1 t) (iblk m c 5 t) (iblk m c 6 t)) (k0_pay17 (iblk m c 9 t)) (k0_pay18 (iblk m c 9 t)) = arr (blk (fa p) t) := by
  rw [e13 H, b9 H, nl_up, mx_up]; exact a_up (lam p) (blk (pa p) t)
theorem e56 (t : Fin cfg0.N) : k0_pay56 (k0_pay44 (iblk m c 10 t)) (k0_pay49 (X0_2 m c t)) (k0_pay50 (iblk m c 3 t) (X0_2 m c t)) (k0_pay51 (iblk m c 3 t) (X0_2 m c t)) (iblk m c 0 t)
    = arr (blk (gh p) t) := by
  rw [b10 H, b2 H, b3 H, b0 H, lw_up, gl_up, q_up, ms0_up]; exact dh_up (blk (st p) t) (blk (gy p) t) (blk (ct p) t) (nw p)
/-- The gradient at the decay's gate, on the block. -/
theorem e91 (t : Fin cfg0.N) :
    k0_pay91 (BitVec.ofNat 32 (grid0.coords t 0).val) (k0_pay25 (k0_pay17 (iblk m c 9 t)) (k0_pay18 (iblk m c 9 t))) (arr (blk (fa p) t))
        (k0_pay30 (k0_pay13 (iblk m c 1 t) (iblk m c 5 t) (iblk m c 6 t)) (k0_pay17 (iblk m c 9 t)) (k0_pay18 (iblk m c 9 t)))
        (k0_pay31 (k0_pay13 (iblk m c 1 t) (iblk m c 5 t) (iblk m c 6 t)) (k0_pay17 (iblk m c 9 t)) (k0_pay18 (iblk m c 9 t)))
        (k0_pay32 (k0_pay13 (iblk m c 1 t) (iblk m c 5 t) (iblk m c 6 t)) (k0_pay17 (iblk m c 9 t)) (k0_pay18 (iblk m c 9 t)))
        (k0_pay34 (k0_pay13 (iblk m c 1 t) (iblk m c 5 t) (iblk m c 6 t)) (k0_pay17 (iblk m c 9 t)) (k0_pay18 (iblk m c 9 t)))
        (k0_pay38 (k0_pay36 (k0_pay13 (iblk m c 1 t) (iblk m c 5 t) (iblk m c 6 t)) (k0_pay17 (iblk m c 9 t)) (k0_pay18 (iblk m c 9 t)))
          (k0_pay37 (k0_pay13 (iblk m c 1 t) (iblk m c 5 t) (iblk m c 6 t)) (k0_pay17 (iblk m c 9 t)) (k0_pay18 (iblk m c 9 t))) (FloatOps.ofBits FTy.f32 1065353216#32))
        (k0_pay40 (k0_pay35 (k0_pay13 (iblk m c 1 t) (iblk m c 5 t) (iblk m c 6 t)) (k0_pay17 (iblk m c 9 t)) (k0_pay18 (iblk m c 9 t))))
        (k0_pay41 (iblk m c 1 t) (k0_pay15 (iblk m c 1 t) (iblk m c 7 t) (iblk m c 8 t))) (k0_pay42 (iblk m c 3 t)) rows (arr (blk (ga p) t))
        (View.ld (iblk m c 4 t) (Rect.unit ![7, 0] ![1, 512] inb_S8x512_S1x512_7_0))
      = arr (fun r j => 8 * (blk (gla p) t r j * ls (lam p j))) := by
  rw [e13 H, e15 H, b9 H, b1 H, b3 H, ld4 H, nl_up, mx_up, ls_up, t1_up, t2_up, t3_up, t5_up, mm_up, hmu_up, ix_up, h_up]
  rw [show k0_pay38 _ _ (FloatOps.ofBits FTy.f32 1065353216#32) = arr (fun r j => sel (blk (pa p) t r j) (lam p j)) from sel_up (lam p) (blk (pa p) t)]
  exact dr_up _ _ _ _ _ _ _ _ _ _ _ _ _ (log_grads p t) _

end Cert.LruBwdKIdeal.Block

end
-- ==== Proof.LruCarry.lean ====
/-
  The backward call of the gated linear recurrence, on finite arguments: what one grid point hands to the next.
-/
module

public import proofs.«01_k».proof.Proof.LruPoint
public import Idealize.ShloMosaic.Lib.Pipeline.ReadBack

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath
open Cert.LruBwdRIdeal.Stages (Data fa ga gh)
open Idealize.ShloMosaic.Pipeline (Dat)

/-- The two rows of the scratch: the decay, and the gradient, of the first row of the block before. -/
abbrev R0 : Rect S8x512 := Rect.unit ![0, 0] ![1, 512] inb_S8x512_S1x512_0_0
abbrev R1 : Rect S8x512 := Rect.unit ![1, 0] ![1, 512] inb_S8x512_S1x512_1_0
abbrev whole8 : Rect S8x512 := Rect.unit ![0, 0] ![8, 512] inb_S8x512_S8x512_0_0

/-! A load of the rectangle of the last store reads that store; a load apart from it reads what was there before. -/

section Loads
variable {Val : EltTy → Type} [∀ e, Nonempty (Val e)] {sg : RefSig} {κ : Kind} {sp : Space} {s : Shape} {e : EltTy} (v : View sg κ sp s e) (f : v.ty.Contents Val)
  (r q : Rect s) (w : r.shape.Idx → Val e) (L : List (View.Piece Val s e))

theorem ld_last : View.ld (View.read Val v (v.writes Val f (⟨r, w⟩ :: L))) r = w := funext fun j => View.read_writes_cons_emb v f r w L j
theorem ld_under (h : LoadRect.disj r q.toLoadRect = true) :
    View.ld (View.read Val v (v.writes Val f (⟨r, w⟩ :: L))) q = View.ld (View.read Val v (v.writes Val f L)) q := by
  funext j
  rw [View.writes_cons]
  exact View.read_slice_write_of_not_mem r _ _ _ (by rw [Rect.map_emb_univ]; exact LoadRect.idx_not_mem_of_disj h j)
theorem ld_canon_last : View.ld (View.canon (⟨r, w⟩ :: L)) r = w := funext fun j => View.canon_cons_emb r w L j
theorem ld_canon_under (h : LoadRect.disj r q.toLoadRect = true) : View.ld (View.canon (⟨r, w⟩ :: L)) q = View.ld (View.canon L) q :=
  funext fun j => View.canon_cons_of_not_mem ⟨r, w⟩ L (LoadRect.idx_not_mem_of_disj h j)
end Loads

section Rows
variable (a b : FVec Ideal S1x512 .f32) (x : FVec Ideal S8x512 .f32)

theorem apart : LoadRect.disj R1 R0.toLoadRect = true := by decide

theorem zero_row0 : (View.whole cc0_scratch0).readCov (Val := Elt Ideal) [⟨whole8, k0_pay5 (F := Ideal)⟩] R0.toLoadRect = row fun _ => 0 := by
  refine (View.readCov_fill (Val := Elt Ideal) (View.whole cc0_scratch0) inb_S8x512_S8x512_0_0 (k0_pay5 (F := Ideal)) [] R0 (by decide)).trans ?_
  funext j
  exact lit_zero
theorem zero_row1 : (View.whole cc0_scratch0).readCov (Val := Elt Ideal) [⟨whole8, k0_pay5 (F := Ideal)⟩] R1.toLoadRect = row fun _ => 0 := by
  refine (View.readCov_fill (Val := Elt Ideal) (View.whole cc0_scratch0) inb_S8x512_S8x512_0_0 (k0_pay5 (F := Ideal)) [] R1 (by decide)).trans ?_
  funext j
  exact lit_zero

end Rows

variable (p : Data)
theorem nextA_end (t : Fin cfg0.N) (h : t.val % 16 = 0) : (row fun _ => 0) = row (nextA p t) := by
  have ht : t.val < 16 := lt_of_lt_of_eq t.isLt N_0
  refine congrArg row (funext fun j => ?_)
  unfold nextA ext
  rw [dif_neg (by omega)]
theorem nextG_end (t : Fin cfg0.N) (h : t.val % 16 = 0) : (row fun _ => 0) = row (nextG p t) := by
  have ht : t.val < 16 := lt_of_lt_of_eq t.isLt N_0
  refine congrArg row (funext fun j => ?_)
  unfold nextG
  rw [show (15 - t.val) * 256 + 256 = 4096 by omega, gs_end]
theorem nextA_succ (n : ℕ) (h : n + 1 < cfg0.N) : row (blk (fa p) ⟨n, by omega⟩ 0) = row (nextA p ⟨n + 1, h⟩) := by
  have ht : n + 1 < 16 := lt_of_lt_of_eq h N_0
  refine congrArg row (funext fun j => ?_)
  unfold nextA
  rw [ext_of_lt _ (show (15 - (n + 1)) * 256 + 256 < 4096 by omega)]
  refine congrArg (fun u => fa p u j) (Fin.ext ?_)
  show (15 - n) * 256 + 0 = (15 - (n + 1)) * 256 + 256
  omega
theorem nextG_succ (n : ℕ) (h : n + 1 < cfg0.N) : row (blk (ga p) ⟨n, by omega⟩ 0) = row (nextG p ⟨n + 1, h⟩) := by
  have ht : n + 1 < 16 := lt_of_lt_of_eq h N_0
  refine congrArg row (funext fun j => ?_)
  unfold nextG
  refine congrArg (fun u : ℕ => gs (fun u => fa p u j) (fun u => gh p u j) u) ?_
  show (15 - n) * 256 + 0 = (15 - (n + 1)) * 256 + 256
  omega

variable {m : (ℓ : Loc nD τ sig) → Buf (Elt Ideal) ℓ} {c : Dev nD} {p} (H : Finite m c p)
include H

theorem start_A (t : Fin cfg0.N) (h : t.val % 16 = 0) : (View.whole cc0_scratch0).readCov (Val := Elt Ideal) [⟨whole8, k0_pay5 (F := Ideal)⟩] R0.toLoadRect = row (nextA p t) := zero_row0.trans (nextA_end p t h)
theorem start_G (t : Fin cfg0.N) (h : t.val % 16 = 0) : (View.whole cc0_scratch0).readCov (Val := Elt Ideal) [⟨whole8, k0_pay5 (F := Ideal)⟩] R1.toLoadRect = row (nextG p t) := zero_row1.trans (nextG_end p t h)

/-- After every point the scratch holds the decay and the gradient of the first row of its block. -/
theorem carried (n : ℕ) (h : n < cfg0.N) : View.ld (outsAt0 m c n h).2.2.2.2.2.2.2.2 R0 = row (blk (fa p) ⟨n, h⟩ 0) ∧ View.ld (outsAt0 m c n h).2.2.2.2.2.2.2.2 R1 = row (blk (ga p) ⟨n, h⟩ 0) := by
  induction n with
  | zero =>
    rw [show outsAt0 m c 0 h = _ from outsAt0_A m c ⟨0, h⟩ rfl]
    frame_out
    refine ⟨((ld_canon_under _ _ _ _ apart).trans (ld_canon_last _ _ _)).trans ?_, (ld_canon_last _ _ _).trans ?_⟩
    · rw [e28 H, row0_up]
    · rw [start_A H ⟨0, h⟩ rfl, start_G H ⟨0, h⟩ rfl, e28 H, e56 H]
      exact first_grad _ _ _ _ _ _ _ _ _ _ _ _ (grads p ⟨0, h⟩)
  | succ n ih =>
    have ht : n + 1 < 16 := lt_of_lt_of_eq h N_0
    have i := ih (by omega)
    rw [show outsAt0 m c (n + 1) h = _ from outsAt0_B m c ⟨n + 1, h⟩ (by show ¬ (n + 1) % 16 = 0; omega)]
    frame_out
    refine ⟨((ld_under _ _ _ _ _ _ apart).trans (ld_last _ _ _ _ _)).trans ?_, (ld_last _ _ _ _ _).trans ?_⟩
    · rw [e28 H, row0_up]
    · simp only [read_unread_whole]
      rw [show View.ld (outsAt0 m c (n + 1 - 1) _).2.2.2.2.2.2.2.2 R0 = row (nextA p ⟨n + 1, h⟩) from i.1.trans (nextA_succ p n h),
        show View.ld (outsAt0 m c (n + 1 - 1) _).2.2.2.2.2.2.2.2 R1 = row (nextG p ⟨n + 1, h⟩) from i.2.trans (nextG_succ p n h), e28 H, e56 H]
      exact first_grad _ _ _ _ _ _ _ _ _ _ _ _ (grads p ⟨n + 1, h⟩)

theorem go_A (t : Fin cfg0.N) (h : ¬ t.val % 16 = 0) (h' : t.val - 1 < cfg0.N) : View.ld (outsAt0 m c (t.val - 1) h').2.2.2.2.2.2.2.2 R0 = row (nextA p t) := by
  obtain ⟨n, hn⟩ := t
  obtain ⟨k, rfl⟩ : ∃ k, n = k + 1 := ⟨n - 1, by have : ¬ n % 16 = 0 := h; omega⟩
  exact (carried H k _).1.trans (nextA_succ p k hn)
theorem go_G (t : Fin cfg0.N) (h : ¬ t.val % 16 = 0) (h' : t.val - 1 < cfg0.N) : View.ld (outsAt0 m c (t.val - 1) h').2.2.2.2.2.2.2.2 R1 = row (nextG p t) := by
  obtain ⟨n, hn⟩ := t
  obtain ⟨k, rfl⟩ : ∃ k, n = k + 1 := ⟨n - 1, by have : ¬ n % 16 = 0 := h; omega⟩
  exact (carried H k _).2.trans (nextG_succ p k hn)

end Cert.LruBwdKIdeal.Block

end
-- ==== Proof.LruSums.lean ====
/-
  The backward call of the gated linear recurrence, on finite arguments: what every grid point leaves in its results.
-/
module

public import proofs.«01_k».proof.Proof.LruCarry

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath
open Cert.LruBwdRIdeal.Stages (Data dense st lam gy ct nw xx pa px fa ga gh gla gpa gpx gx0 gxr before)
open Idealize.ShloMosaic.Pipeline (Dat)

/-- The gradient at the gate's argument, on the whole array, and one row's part of the norm's weight. -/
def gly (p : Data) (t : Fin 4096) : Fin 512 → ℝ := dly (st p t) (gy p t) (ct p t) (nw p)
def glw (p : Data) (t : Fin 4096) : Fin 512 → ℝ := dlnw (st p t) (gy p t) (ct p t)
/-- One row's part of the gradient at the parameter of the decay, up to the last factor. -/
def gl8 (p : Data) (t : Fin 4096) (j : Fin 512) : ℝ := 8 * lgs (pa p t j) * gla p t j

theorem row_add (f g : Fin 512 → ℝ) : addf (row f) (row g) = row (fun j => f j + g j) := by
  funext j
  pointwise
  simp only [up_apply, add_up]
theorem sum1_up (f g : Fin 512 → ℝ) : k0_pay1 (row f) (row g) = row (fun j => g j + f j) := by
  unfold k0_pay1; simp only [shapeCast_self]; exact row_add g f
theorem sum2_up (f g : Fin 512 → ℝ) : k0_pay2 (row f) (row g) = row (fun j => g j + f j) := by
  unfold k0_pay2; simp only [shapeCast_self]; exact row_add g f
theorem sum3_up (f g : Fin 512 → ℝ) : k0_pay3 (row f) (row g) = row (fun j => g j + f j) := by
  unfold k0_pay3; simp only [shapeCast_self]; exact row_add g f
theorem sum4_up (f g : Fin 512 → ℝ) : k0_pay4 (row f) (row g) = row (fun j => g j + f j) := by
  unfold k0_pay4; simp only [shapeCast_self]; exact row_add g f
theorem zero6 : k0_pay6 (F := Ideal) = mat32 fun _ _ => 0 := funext fun _ => lit_zero
theorem zero7 : k0_pay7 (F := Ideal) = row fun _ => 0 := funext fun _ => lit_zero
theorem zero8 : k0_pay8 (F := Ideal) = mat32 fun _ _ => 0 := funext fun _ => lit_zero
theorem zero9 : k0_pay9 (F := Ideal) = row fun _ => 0 := funext fun _ => lit_zero
theorem zero10 : k0_pay10 (F := Ideal) = row fun _ => 0 := funext fun _ => lit_zero
theorem zero11 : k0_pay11 (F := Ideal) = row fun _ => 0 := funext fun _ => lit_zero

variable {m : (ℓ : Loc nD τ sig) → Buf (Elt Ideal) ℓ} {c : Dev nD} {p : Data} (H : Finite m c p)
include H

/-- The root's factor, on the block. -/
theorem e39 (t : Fin cfg0.N) : k0_pay39 (k0_pay35 (k0_pay13 (iblk m c 1 t) (iblk m c 5 t) (iblk m c 6 t)) (k0_pay17 (iblk m c 9 t)) (k0_pay18 (iblk m c 9 t)))
    = arr fun r j => mu (blk (pa p) t r j) (lam p j) := by
  rw [e13 H, b9 H, nl_up, mx_up, mm_up, mu_up]
theorem e89 (t : Fin cfg0.N) : k0_pay89 (iblk m c 1 t) (arr fun r j => mu (blk (pa p) t r j) (lam p j)) (arr (blk (ga p) t))
    = arr fun r j => mu (blk (pa p) t r j) (lam p j) * blk (ga p) t r j * blk (xx p) t r j := by
  rw [b1 H, mugx_up]
theorem e57 (t : Fin cfg0.N) :
    k0_pay57 (k0_pay42 (iblk m c 3 t)) (k0_pay43 (X0_2 m c t)) (k0_pay44 (iblk m c 10 t)) (k0_pay45 (X0_2 m c t))
      (k0_pay47 (X0_2 m c t)) (k0_pay48 (X0_2 m c t)) (k0_pay50 (iblk m c 3 t) (X0_2 m c t)) (k0_pay51 (iblk m c 3 t) (X0_2 m c t)) (iblk m c 0 t)
    = arr (blk (gly p) t) := by
  rw [b3 H, b2 H, b10 H, b0 H, h_up, ly_up, lw_up, sq3_up, th1_up, hf_up, q_up, ms0_up]
  exact dly_up (blk (st p) t) (blk (gy p) t) (blk (ct p) t) (nw p)
theorem e54 (t : Fin cfg0.N) : k0_pay54 (k0_pay50 (iblk m c 3 t) (X0_2 m c t)) (k0_pay51 (iblk m c 3 t) (X0_2 m c t)) (iblk m c 0 t)
    = row fun j => ∑ r, blk (glw p) t r j := by
  rw [b3 H, b2 H, b0 H, q_up, ms0_up]
  exact dlnw_up (blk (st p) t) (blk (gy p) t) (blk (ct p) t)

/-- The sums that one block adds. -/
theorem sum_a (t : Fin cfg0.N) : k0_pay101 (k0_pay14 (iblk m c 1 t) (iblk m c 5 t) (iblk m c 6 t)) (arr fun r j => 8 * (blk (gla p) t r j * ls (lam p j))) = row fun j => ∑ r, blk (gpa p) t r j := by
  rw [e14 H, dba_up]; rfl
theorem sum_x (t : Fin cfg0.N) : k0_pay102 (k0_pay16 (iblk m c 1 t) (iblk m c 7 t) (iblk m c 8 t)) (arr fun r j => mu (blk (pa p) t r j) (lam p j) * blk (ga p) t r j * blk (xx p) t r j)
    = row fun j => ∑ r, blk (gpx p) t r j := by
  rw [e16 H, dbx_up]; rfl
theorem prod_a (t : Fin cfg0.N) (u : Fin 512 → Fin 512 → ℝ) :
    k0_pay103 (k0_pay12 (iblk m c 1 t)) (k0_pay14 (iblk m c 1 t) (iblk m c 5 t) (iblk m c 6 t)) (arr fun r j => 8 * (blk (gla p) t r j * ls (lam p j))) (mat32 u)
      = mat32 fun i j => u i j + ∑ r, blk (xx p) t r i * blk (gpa p) t r j := by
  rw [e14 H, e12 H, dwa_up]; rfl
theorem prod_x (t : Fin cfg0.N) (u : Fin 512 → Fin 512 → ℝ) :
    k0_pay104 (k0_pay12 (iblk m c 1 t)) (k0_pay16 (iblk m c 1 t) (iblk m c 7 t) (iblk m c 8 t)) (arr fun r j => mu (blk (pa p) t r j) (lam p j) * blk (ga p) t r j * blk (xx p) t r j) (mat32 u)
      = mat32 fun i j => u i j + ∑ r, blk (xx p) t r i * blk (gpx p) t r j := by
  rw [e16 H, e12 H, dwx_up]; rfl

/-- The gradient at the input, on the block. -/
theorem input_grad (t : Fin cfg0.N) :
    k0_pay100 (k0_pay14 (iblk m c 1 t) (iblk m c 5 t) (iblk m c 6 t)) (k0_pay16 (iblk m c 1 t) (iblk m c 7 t) (iblk m c 8 t))
      (k0_pay88 (k0_pay15 (iblk m c 1 t) (iblk m c 7 t) (iblk m c 8 t)) (arr fun r j => mu (blk (pa p) t r j) (lam p j)) (arr (blk (ga p) t)))
      (arr fun r j => mu (blk (pa p) t r j) (lam p j) * blk (ga p) t r j * blk (xx p) t r j)
      (arr fun r j => 8 * (blk (gla p) t r j * ls (lam p j))) (iblk m c 5 t) (iblk m c 7 t) = arr (blk (gxr p) t) := by
  rw [e14 H, e16 H, e15 H, dx0_up, b5 H, b7 H, dxr_up]
  refine congrArg arr (funext fun r => funext fun j => ?_)
  exact (add_assoc _ _ _).trans (congrArg (gx0 p (rowOf t r) j + ·) (add_comm _ _))

/-! ## The results of a point -/

theorem out11 (t : Fin cfg0.N) : (outsAt0 m c t.val t.isLt).1 = arr (blk (gxr p) t) := by
  by_cases h : t.val % 16 = 0
  · rw [outsAt0_A m c t h]
    frame_out
    rw [start_A H t h, start_G H t h, e28 H, e56 H, grads, e39 H, e89 H]
    exact (congrArg (fun d => k0_pay100 _ _ _ _ d _ _) (e91 H t)).trans (input_grad H t)
  · rw [outsAt0_B m c t h]
    frame_out
    simp only [read_unread_whole]
    rw [go_A H t h, go_G H t h, e28 H, e56 H, grads, e39 H, e89 H]
    exact (congrArg (fun d => k0_pay100 _ _ _ _ d _ _) (e91 H t)).trans (input_grad H t)

theorem out12 (t : Fin cfg0.N) : (outsAt0 m c t.val t.isLt).2.1 = arr (blk (gly p) t) := by
  by_cases h : t.val % 16 = 0
  · rw [outsAt0_A m c t h]
    frame_out
    exact e57 H t
  · rw [outsAt0_B m c t h]
    frame_out
    exact e57 H t

theorem out13 (t : Fin cfg0.N) :
    (t.val % 16 = 0 → (outsAt0 m c t.val t.isLt).2.2.1 = mat32 fun i j => 0 + ∑ r, blk (xx p) t r i * blk (gpa p) t r j)
    ∧ ∀ u, ¬ t.val % 16 = 0 → (outsAt0 m c (t.val - 1) (lt_of_le_of_lt (Nat.sub_le _ _) t.isLt)).2.2.1 = mat32 u →
      (outsAt0 m c t.val t.isLt).2.2.1 = mat32 fun i j => u i j + ∑ r, blk (xx p) t r i * blk (gpa p) t r j := by
  refine ⟨fun h => ?_, fun u h hu => ?_⟩
  · rw [outsAt0_A m c t h]
    frame_out
    rw [start_A H t h, start_G H t h, e28 H, e56 H, grads, zero6]
    exact (congrArg (fun d => k0_pay103 _ _ d _) (e91 H t)).trans (prod_a H t _)
  · rw [outsAt0_B m c t h]
    frame_out
    simp only [read_unread_whole]
    rw [hu, go_A H t h, go_G H t h, e28 H, e56 H, grads]
    exact (congrArg (fun d => k0_pay103 _ _ d _) (e91 H t)).trans (prod_a H t _)

theorem out14 (t : Fin cfg0.N) :
    (t.val % 16 = 0 → (outsAt0 m c t.val t.isLt).2.2.2.1 = row fun j => 0 + ∑ r, blk (gpa p) t r j)
    ∧ ∀ u, ¬ t.val % 16 = 0 → (outsAt0 m c (t.val - 1) (lt_of_le_of_lt (Nat.sub_le _ _) t.isLt)).2.2.2.1 = row u →
      (outsAt0 m c t.val t.isLt).2.2.2.1 = row fun j => u j + ∑ r, blk (gpa p) t r j := by
  refine ⟨fun h => ?_, fun u h hu => ?_⟩
  · rw [outsAt0_A m c t h]
    frame_out
    rw [start_A H t h, start_G H t h, e28 H, e56 H, grads, zero7]
    exact (congrArg (fun d => k0_pay1 (k0_pay101 _ d) _) (e91 H t)).trans ((congrArg (k0_pay1 · _) (sum_a H t)).trans (sum1_up _ _))
  · rw [outsAt0_B m c t h]
    frame_out
    simp only [read_unread_whole]
    rw [hu, go_A H t h, go_G H t h, e28 H, e56 H, grads]
    exact (congrArg (fun d => k0_pay1 (k0_pay101 _ d) _) (e91 H t)).trans ((congrArg (k0_pay1 · _) (sum_a H t)).trans (sum1_up _ _))

theorem out15 (t : Fin cfg0.N) :
    (t.val % 16 = 0 → (outsAt0 m c t.val t.isLt).2.2.2.2.1 = mat32 fun i j => 0 + ∑ r, blk (xx p) t r i * blk (gpx p) t r j)
    ∧ ∀ u, ¬ t.val % 16 = 0 → (outsAt0 m c (t.val - 1) (lt_of_le_of_lt (Nat.sub_le _ _) t.isLt)).2.2.2.2.1 = mat32 u →
      (outsAt0 m c t.val t.isLt).2.2.2.2.1 = mat32 fun i j => u i j + ∑ r, blk (xx p) t r i * blk (gpx p) t r j := by
  refine ⟨fun h => ?_, fun u h hu => ?_⟩
  · rw [outsAt0_A m c t h]
    frame_out
    rw [start_A H t h, start_G H t h, e28 H, e56 H, grads, e39 H, e89 H, zero8]
    exact prod_x H t _
  · rw [outsAt0_B m c t h]
    frame_out
    simp only [read_unread_whole]
    rw [hu, go_A H t h, go_G H t h, e28 H, e56 H, grads, e39 H, e89 H]
    exact prod_x H t _

theorem out16 (t : Fin cfg0.N) :
    (t.val % 16 = 0 → (outsAt0 m c t.val t.isLt).2.2.2.2.2.1 = row fun j => 0 + ∑ r, blk (gpx p) t r j)
    ∧ ∀ u, ¬ t.val % 16 = 0 → (outsAt0 m c (t.val - 1) (lt_of_le_of_lt (Nat.sub_le _ _) t.isLt)).2.2.2.2.2.1 = row u →
      (outsAt0 m c t.val t.isLt).2.2.2.2.2.1 = row fun j => u j + ∑ r, blk (gpx p) t r j := by
  refine ⟨fun h => ?_, fun u h hu => ?_⟩
  · rw [outsAt0_A m c t h]
    frame_out
    rw [start_A H t h, start_G H t h, e28 H, e56 H, grads, e39 H, e89 H, zero9]
    exact (congrArg (k0_pay2 · _) (sum_x H t)).trans (sum2_up _ _)
  · rw [outsAt0_B m c t h]
    frame_out
    simp only [read_unread_whole]
    rw [hu, go_A H t h, go_G H t h, e28 H, e56 H, grads, e39 H, e89 H]
    exact (congrArg (k0_pay2 · _) (sum_x H t)).trans (sum2_up _ _)

theorem out18 (t : Fin cfg0.N) :
    (t.val % 16 = 0 → (outsAt0 m c t.val t.isLt).2.2.2.2.2.2.2.1 = row fun j => 0 + ∑ r, blk (glw p) t r j)
    ∧ ∀ u, ¬ t.val % 16 = 0 → (outsAt0 m c (t.val - 1) (lt_of_le_of_lt (Nat.sub_le _ _) t.isLt)).2.2.2.2.2.2.2.1 = row u →
      (outsAt0 m c t.val t.isLt).2.2.2.2.2.2.2.1 = row fun j => u j + ∑ r, blk (glw p) t r j := by
  refine ⟨fun h => ?_, fun u h hu => ?_⟩
  · rw [outsAt0_A m c t h]
    frame_out
    rw [e54 H, zero11, sum4_up]
  · rw [outsAt0_B m c t h]
    frame_out
    rw [hu, e54 H, sum4_up]

/-- The sum for the parameter of the decay from its parts, whatever the form in which they are read. -/
theorem e95 (hl : ∀ j, lam p j ≠ 0) (t : Fin cfg0.N) {s41 nl : FVec Ideal S1x512 .f32} {R va t1 t2 t3 t5 sl hm gx h G : FVec Ideal S256x512 .f32}
    {hb : FVec Ideal S1x512 .f32}
    (q0 : s41 = row fun j => if 0 < -lam p j then 1 else if -lam p j = 0 then 1 / 2 else 0) (q1 : nl = row fun j => -lam p j)
    (q2 : R = arr fun r j => 8 * lgs (blk (pa p) t r j)) (q3 : va = arr (blk (fa p) t))
    (q4 : t1 = arr fun r j => (1 + Real.tanh (la (blk (pa p) t r j) (lam p j))) * (1 - Real.tanh (la (blk (pa p) t r j) (lam p j))))
    (q5 : t2 = arr fun r j => -2 * Real.tanh (la (blk (pa p) t r j) (lam p j))) (q6 : t3 = arr fun r j => 1 - Real.tanh (la (blk (pa p) t r j) (lam p j)))
    (q7 : t5 = arr fun r j => 1 / ((1 - Real.tanh (la (blk (pa p) t r j) (lam p j))) * (1 - Real.tanh (la (blk (pa p) t r j) (lam p j)))))
    (q8 : sl = arr fun r j => sel (blk (pa p) t r j) (lam p j)) (q9 : hm = arr fun r j => 1 / 2 / mu (blk (pa p) t r j) (lam p j))
    (q10 : gx = arr fun r j => lgs (blk (px p) t r j) * blk (xx p) t r j) (q11 : h = arr (blk (st p) t)) (q12 : G = arr (blk (ga p) t)) (q13 : hb = row (st p (row8 t 7)))
    (u : Fin 512 → ℝ) :
    k0_pay3 (k0_pay95 s41 (k0_pay22 (F := Ideal) nl)
        (k0_pay92 (BitVec.ofNat 32 (grid0.coords t 0).val) R va t1 t2 t3 t5 sl hm gx h rows G hb)
        (k0_pay93 (BitVec.ofNat 32 (grid0.coords t 0).val) (k0_pay23 (F := Ideal) nl) (k0_pay24 (F := Ideal) nl) R va t1 t2 t3 t5 sl hm gx h rows G hb) (k0_pay94 (F := Ideal))) (row u)
      = row fun j => u j + (∑ r, blk (gl8 p) t r j) * lgs (-lam p j) := by
  subst q0 q1 q2 q3 q4 q5 q6 q7 q8 q9 q10 q11 q12 q13
  rw [dlam_up _ _ _ _ _ _ _ _ _ _ _ _ _ (log_grads p t) (fun r j => 8 * lgs (blk (pa p) t r j)) (fun j => -lam p j) fun j => neg_ne_zero.mpr (hl j), sum3_up]
  rfl

section
variable (t : Fin cfg0.N)
theorem f21 : k0_pay21 (k0_pay17 (iblk m c 9 t)) (k0_pay19 (F := Ideal) (iblk m c 9 t)) (k0_pay20 (F := Ideal)) = row fun j => if 0 < -lam p j then 1 else if -lam p j = 0 then 1 / 2 else 0 := by
  rw [b9 H, nl_up, slope_up]
theorem f17 : k0_pay17 (iblk m c 9 t) = row fun j => -lam p j := by rw [b9 H, nl_up]
theorem f26 : k0_pay26 (k0_pay13 (iblk m c 1 t) (iblk m c 5 t) (iblk m c 6 t)) = arr fun r j => 8 * lgs (blk (pa p) t r j) := by rw [e13 H, r8_up]
theorem f30 : k0_pay30 (k0_pay13 (iblk m c 1 t) (iblk m c 5 t) (iblk m c 6 t)) (k0_pay17 (iblk m c 9 t)) (k0_pay18 (iblk m c 9 t))
    = arr fun r j => (1 + Real.tanh (la (blk (pa p) t r j) (lam p j))) * (1 - Real.tanh (la (blk (pa p) t r j) (lam p j))) := by rw [e13 H, b9 H, nl_up, mx_up, t1_up]
theorem f31 : k0_pay31 (k0_pay13 (iblk m c 1 t) (iblk m c 5 t) (iblk m c 6 t)) (k0_pay17 (iblk m c 9 t)) (k0_pay18 (iblk m c 9 t))
    = arr fun r j => -2 * Real.tanh (la (blk (pa p) t r j) (lam p j)) := by rw [e13 H, b9 H, nl_up, mx_up, t2_up]
theorem f32' : k0_pay32 (k0_pay13 (iblk m c 1 t) (iblk m c 5 t) (iblk m c 6 t)) (k0_pay17 (iblk m c 9 t)) (k0_pay18 (iblk m c 9 t))
    = arr fun r j => 1 - Real.tanh (la (blk (pa p) t r j) (lam p j)) := by rw [e13 H, b9 H, nl_up, mx_up, t3_up]
theorem f34 : k0_pay34 (k0_pay13 (iblk m c 1 t) (iblk m c 5 t) (iblk m c 6 t)) (k0_pay17 (iblk m c 9 t)) (k0_pay18 (iblk m c 9 t))
    = arr fun r j => 1 / ((1 - Real.tanh (la (blk (pa p) t r j) (lam p j))) * (1 - Real.tanh (la (blk (pa p) t r j) (lam p j)))) := by rw [e13 H, b9 H, nl_up, mx_up, t5_up]
theorem f38 : k0_pay38 (k0_pay36 (k0_pay13 (iblk m c 1 t) (iblk m c 5 t) (iblk m c 6 t)) (k0_pay17 (iblk m c 9 t)) (k0_pay18 (iblk m c 9 t)))
      (k0_pay37 (k0_pay13 (iblk m c 1 t) (iblk m c 5 t) (iblk m c 6 t)) (k0_pay17 (iblk m c 9 t)) (k0_pay18 (iblk m c 9 t))) (Scalar.ofBits .f32 0x3F800000#32)
    = arr fun r j => sel (blk (pa p) t r j) (lam p j) := by rw [e13 H, b9 H, nl_up, mx_up, sel_up]
theorem f40 : k0_pay40 (k0_pay35 (k0_pay13 (iblk m c 1 t) (iblk m c 5 t) (iblk m c 6 t)) (k0_pay17 (iblk m c 9 t)) (k0_pay18 (iblk m c 9 t)))
    = arr fun r j => 1 / 2 / mu (blk (pa p) t r j) (lam p j) := by rw [e13 H, b9 H, nl_up, mx_up, mm_up, hmu_up]
theorem f41 : k0_pay41 (iblk m c 1 t) (k0_pay15 (iblk m c 1 t) (iblk m c 7 t) (iblk m c 8 t)) = arr fun r j => lgs (blk (px p) t r j) * blk (xx p) t r j := by
  rw [e15 H, b1 H, ix_up]
theorem f42 : k0_pay42 (iblk m c 3 t) = arr (blk (st p) t) := by rw [b3 H, h_up]
end

/-- The sum for the parameter of the decay, where that parameter is not zero. -/
theorem out17 (hl : ∀ j, lam p j ≠ 0) (t : Fin cfg0.N) :
    (t.val % 16 = 0 → (outsAt0 m c t.val t.isLt).2.2.2.2.2.2.1 = row fun j => 0 + (∑ r, blk (gl8 p) t r j) * lgs (-lam p j))
    ∧ ∀ u, ¬ t.val % 16 = 0 → (outsAt0 m c (t.val - 1) (lt_of_le_of_lt (Nat.sub_le _ _) t.isLt)).2.2.2.2.2.2.1 = row u →
      (outsAt0 m c t.val t.isLt).2.2.2.2.2.2.1 = row fun j => u j + (∑ r, blk (gl8 p) t r j) * lgs (-lam p j) := by
  refine ⟨fun h => ?_, fun u h hu => ?_⟩
  · rw [outsAt0_A m c t h]
    frame_out
    rw [start_A H t h, start_G H t h, e28 H, e56 H, grads, zero10]
    exact e95 H hl t (f21 H t) (f17 H t) (f26 H t) rfl (f30 H t) (f31 H t) (f32' H t) (f34 H t) (f38 H t) (f40 H t) (f41 H t) (f42 H t) rfl (ld4 H t) _
  · rw [outsAt0_B m c t h]
    frame_out
    simp only [read_unread_whole]
    rw [hu, go_A H t h, go_G H t h, e28 H, e56 H, grads]
    exact e95 H hl t (f21 H t) (f17 H t) (f26 H t) rfl (f30 H t) (f31 H t) (f32' H t) (f34 H t) (f38 H t) (f40 H t) (f41 H t) (f42 H t) rfl (ld4 H t) _

end Cert.LruBwdKIdeal.Block

end
-- ==== Proof.LruResults.lean ====
/-
  The backward call of the gated linear recurrence, on finite arguments: what its result arrays hold.
-/
module

public import proofs.«01_k».proof.Proof.LruSums

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath
open Cert.LruBwdRIdeal.Stages (Data dense st lam gy ct nw xx pa px fa ga gh gla gpa gpx gx0 gxr before)
open Idealize.ShloMosaic.Pipeline (Dat)

/-- A result that starts with its first point's term, and to which every later point adds its own, ends as the sum of all terms. -/
theorem fold {α β : Type} {N : ℕ} (f : (n : ℕ) → n < N → α) (mk : (β → ℝ) → α) (term : Fin N → β → ℝ)
    (h0 : ∀ t : Fin N, t.val % 16 = 0 → f t.val t.isLt = mk fun j => 0 + term t j)
    (hs : ∀ (t : Fin N) (u : β → ℝ), ¬ t.val % 16 = 0 → f (t.val - 1) (lt_of_le_of_lt (Nat.sub_le _ _) t.isLt) = mk u →
      f t.val t.isLt = mk fun j => u j + term t j) (hN : N ≤ 16) (t : Fin N) (ht : t.val + 1 = N) :
    f t.val t.isLt = mk fun j => ∑ s, term s j := by
  have key : ∀ (n : ℕ) (h : n < N), f n h = mk fun j => ∑ s ∈ Finset.range (n + 1), if h : s < N then term ⟨s, h⟩ j else 0 := by
    intro n
    induction n with
    | zero =>
      intro h
      refine (h0 ⟨0, h⟩ rfl).trans (congrArg mk (funext fun j => ?_))
      rw [zero_add, Finset.sum_range_one, dif_pos h]
    | succ n ih =>
      intro h
      refine (hs ⟨n + 1, h⟩ _ (show ¬ (n + 1) % 16 = 0 by omega) (ih (by omega))).trans (congrArg mk (funext fun j => ?_))
      rw [Finset.sum_range_succ _ (n + 1), dif_pos h]
  refine (key t.val t.isLt).trans (congrArg mk (funext fun j => ?_))
  rw [ht, Finset.sum_range]
  exact Finset.sum_congr rfl fun s _ => dif_pos s.isLt

/-- The blocks, last one first, cover all rows. -/
theorem rows_sum (f : Fin 4096 → ℝ) : ∑ t : Fin cfg0.N, ∑ r : Fin 256, f (rowOf t r) = ∑ s, f s := by
  refine (Equiv.sum_comp (Fin.revPerm (n := 16)) fun t : Fin 16 => ∑ r : Fin 256, f (rowOf t r)).symm.trans ?_
  refine Eq.trans ?_ (Fin.sum_mul_add_fin 16 256 f)
  refine Finset.sum_congr rfl fun t _ => Finset.sum_congr rfl fun r _ => congrArg f (Fin.ext ?_)
  show (15 - (16 - (t.val + 1))) * 256 + r.val = t.val * 256 + r.val
  have := t.isLt
  omega

variable {m : (ℓ : Loc nD τ sig) → Buf (Elt Ideal) ℓ} {c : Dev nD} {p : Data} (H : Finite m c p)
include H

theorem final_dxr : (dats m 0 c).arrAt 11 cfg0.N = up fun i : S4096x512.Idx => gxr p (i 0) (i 1) := by
  refine (dats m 0 c).arrAt_eq_of_covers 11 _ (by decide +kernel) fun t hf y => ?_
  blk_simp
  rw [after0_11, out11 H]
  have e := (idx0 t).2.2.1.1
  refine congrArg (fun i : S4096x512.Idx => ((gxr p (i 0) (i 1) : ℝ) : EReal)) (a₁ := ix2 (rowOf t (y 0)) (y 1)) ?_
  blk_ext [rowOf, e]

theorem final_dly : (dats m 0 c).arrAt 12 cfg0.N = up fun i : S4096x512.Idx => gly p (i 0) (i 1) := by
  refine (dats m 0 c).arrAt_eq_of_covers 12 _ (by decide +kernel) fun t hf y => ?_
  blk_simp
  rw [after0_12, out12 H]
  have e := (idx0 t).2.2.1.2
  refine congrArg (fun i : S4096x512.Idx => ((gly p (i 0) (i 1) : ℝ) : EReal)) (a₁ := ix2 (rowOf t (y 0)) (y 1)) ?_
  blk_ext [rowOf, e]

/-- The two weights' gradients, as whole matrices. -/
def outerSum (x g : Fin 4096 → Fin 512 → ℝ) (i j : Fin 512) : ℝ := ∑ t, x t i * g t j

theorem final_dwa : (dats m 0 c).arrAt 13 cfg0.N = mat32 (outerSum (xx p) (gpa p)) := by
  refine (dats m 0 c).arrAt_eq_of_after_last 13 t0_15 (by decide +kernel) _ fun j => ?_
  blk_simp
  rw [after0_13]
  have e := fold (fun n h => (outsAt0 m c n h).2.2.1) (fun u : Fin 512 × Fin 512 → ℝ => mat32 fun i j => u (i, j)) (fun t b => ∑ r, blk (xx p) t r b.1 * blk (gpa p) t r b.2)
    (fun t => (out13 H t).1) (fun t u => (out13 H t).2 fun i j => u (i, j)) (by decide) t0_15 rfl
  refine (congrFun e _).trans ?_
  exact congrArg (fun x : ℝ => (x : EReal)) (rows_sum fun s => xx p s (j 0) * gpa p s (j 1))

theorem final_dba : (dats m 0 c).arrAt 14 cfg0.N = up fun i : S1x512.Idx => ∑ t, gpa p t (i 1) := by
  refine (dats m 0 c).arrAt_eq_of_after_last 14 t0_15 (by decide +kernel) _ fun j => ?_
  blk_simp
  rw [after0_14]
  have e := fold (fun n h => (outsAt0 m c n h).2.2.2.1) (fun u : Fin 512 → ℝ => row u) (fun t b => ∑ r, blk (gpa p) t r b)
    (fun t => (out14 H t).1) (fun t => (out14 H t).2) (by decide) t0_15 rfl
  refine (congrFun e _).trans ?_
  exact congrArg (fun x : ℝ => (x : EReal)) (rows_sum fun s => gpa p s (j 1))

theorem final_dwx : (dats m 0 c).arrAt 15 cfg0.N = mat32 (outerSum (xx p) (gpx p)) := by
  refine (dats m 0 c).arrAt_eq_of_after_last 15 t0_15 (by decide +kernel) _ fun j => ?_
  blk_simp
  rw [after0_15]
  have e := fold (fun n h => (outsAt0 m c n h).2.2.2.2.1) (fun u : Fin 512 × Fin 512 → ℝ => mat32 fun i j => u (i, j)) (fun t b => ∑ r, blk (xx p) t r b.1 * blk (gpx p) t r b.2)
    (fun t => (out15 H t).1) (fun t u => (out15 H t).2 fun i j => u (i, j)) (by decide) t0_15 rfl
  refine (congrFun e _).trans ?_
  exact congrArg (fun x : ℝ => (x : EReal)) (rows_sum fun s => xx p s (j 0) * gpx p s (j 1))

theorem final_dbx : (dats m 0 c).arrAt 16 cfg0.N = up fun i : S1x512.Idx => ∑ t, gpx p t (i 1) := by
  refine (dats m 0 c).arrAt_eq_of_after_last 16 t0_15 (by decide +kernel) _ fun j => ?_
  blk_simp
  rw [after0_16]
  have e := fold (fun n h => (outsAt0 m c n h).2.2.2.2.2.1) (fun u : Fin 512 → ℝ => row u) (fun t b => ∑ r, blk (gpx p) t r b)
    (fun t => (out16 H t).1) (fun t => (out16 H t).2) (by decide) t0_15 rfl
  refine (congrFun e _).trans ?_
  exact congrArg (fun x : ℝ => (x : EReal)) (rows_sum fun s => gpx p s (j 1))

theorem final_dlam (hl : ∀ j, lam p j ≠ 0) :
    (dats m 0 c).arrAt 17 cfg0.N = up fun i : S1x512.Idx => (∑ t, gl8 p t (i 1)) * lgs (-lam p (i 1)) := by
  refine (dats m 0 c).arrAt_eq_of_after_last 17 t0_15 (by decide +kernel) _ fun j => ?_
  blk_simp
  rw [after0_17]
  have e := fold (fun n h => (outsAt0 m c n h).2.2.2.2.2.2.1) (fun u : Fin 512 → ℝ => row u) (fun t b => (∑ r, blk (gl8 p) t r b) * lgs (-lam p b))
    (fun t => (out17 H hl t).1) (fun t => (out17 H hl t).2) (by decide) t0_15 rfl
  refine (congrFun e _).trans ?_
  refine congrArg (fun x : ℝ => (x : EReal)) ?_
  show ∑ t : Fin cfg0.N, _ * _ = _
  rw [← Finset.sum_mul]
  exact congrArg (· * lgs (-lam p (j 1))) (rows_sum fun s => gl8 p s (j 1))

theorem final_dlnw : (dats m 0 c).arrAt 18 cfg0.N = up fun i : S1x512.Idx => ∑ t, glw p t (i 1) := by
  refine (dats m 0 c).arrAt_eq_of_after_last 18 t0_15 (by decide +kernel) _ fun j => ?_
  blk_simp
  rw [after0_18]
  have e := fold (fun n h => (outsAt0 m c n h).2.2.2.2.2.2.2.1) (fun u : Fin 512 → ℝ => row u) (fun t b => ∑ r, blk (glw p) t r b)
    (fun t => (out18 H t).1) (fun t => (out18 H t).2) (by decide) t0_15 rfl
  refine (congrFun e _).trans ?_
  exact congrArg (fun x : ℝ => (x : EReal)) (rows_sum fun s => glw p s (j 1))

end Cert.LruBwdKIdeal.Block

end
-- ==== Proof.LruTail.lean ====
/-
  The backward call of the gated linear recurrence: the host lines after the call keep the eight diagonal blocks of a gate's weight gradient.
-/
module

public import proofs.«01_k».proof.Proof.LruResults
public import Idealize.ShloMosaic.Lib.StableHlo.RunRead
public import Idealize.ShloMosaic.Lib.Claim

@[expose] public section

set_option maxRecDepth 16384

noncomputable section

namespace Cert.LruBwdKIdeal.Block

open Cert.LruBwdKIdeal Cert.LruBwdKIdeal.Gen Idealize.ShloMosaic Idealize.ShloMosaic.TcCoe Idealize.SL.Sem
open Cert.Reals Cert.LruMath
open Cert.LruBwdRIdeal.Stages (Data dense st lam gy ct nw xx pa px fa ga gh gla gpa gpx gx0 gxr before)
open Idealize.ShloMosaic.Pipeline (Dat)
open StableHlo (after upto)

/-- One diagonal block of a matrix, -/
def pieceOf (k : ℕ) (h : Shape.Slices S8x64x8x64 ![k, 0, k, 0] S1x64x1x64) (W : FVec Ideal S512x512 .f32) : FVec Ideal S1x64x64 .f32 :=
  broadcastInDim S1x64x64 ![1, 2] bcast_S64x64_S1x64x64_1_2 (shapeCast S64x64 (extractStridedSlice S1x64x1x64 ![k, 0, k, 0] (shapeCast S8x64x8x64 W shapeCasts_S512x512_S8x64x8x64) h) shapeCasts_S1x64x1x64_S64x64)

/-- and all eight of them, stacked. -/
def blocksOf (W : FVec Ideal S512x512 .f32) : FVec Ideal S8x64x64 .f32 :=
  concatenate S8x64x64 0 [⟨S1x64x64, pieceOf 0 slices_S8x64x8x64_S1x64x1x64_0_0_0_0 W⟩, ⟨S1x64x64, pieceOf 1 slices_S8x64x8x64_S1x64x1x64_1_0_1_0 W⟩, ⟨S1x64x64, pieceOf 2 slices_S8x64x8x64_S1x64x1x64_2_0_2_0 W⟩, ⟨S1x64x64, pieceOf 3 slices_S8x64x8x64_S1x64x1x64_3_0_3_0 W⟩, ⟨S1x64x64, pieceOf 4 slices_S8x64x8x64_S1x64x1x64_4_0_4_0 W⟩, ⟨S1x64x64, pieceOf 5 slices_S8x64x8x64_S1x64x1x64_5_0_5_0 W⟩, ⟨S1x64x64, pieceOf 6 slices_S8x64x8x64_S1x64x1x64_6_0_6_0 W⟩, ⟨S1x64x64, pieceOf 7 slices_S8x64x8x64_S1x64x1x64_7_0_7_0 W⟩]
    concatenates_S1x64x64_S1x64x64_S1x64x64_S1x64x64_S1x64x64_S1x64x64_S1x64x64_S1x64x64_S8x64x64_d0

theorem blocksOf_up (u : Fin 512 → Fin 512 → ℝ) :
    blocksOf (mat32 u) = up fun i : S8x64x64.Idx => u ⟨(i 0).val * 64 + (i 1).val, by have h0 : (i 0).val < 8 := (i 0).isLt; have h1 : (i 1).val < 64 := (i 1).isLt; omega⟩
      ⟨(i 0).val * 64 + (i 2).val, by have h0 : (i 0).val < 8 := (i 0).isLt; have h1 : (i 2).val < 64 := (i 2).isLt; omega⟩ := by
  funext i
  unfold blocksOf pieceOf
  pointwise
  rw [up_apply]
  fin_vals (i 0) with hk
  all_goals
    simp only [hk, Nat.reduceSub, Nat.reduceLT, ↓reduceDIte, up_apply]
    refine congrArg (fun x : ℝ => (x : EReal)) (congrArg₂ u (Fin.ext ?_) (Fin.ext ?_))
    · show _ = _ * 64 + _; simp [ix2]
    · show _ = _ * 64 + _; simp [ix2]

set_option maxHeartbeats 1000000 in
/-- The first gate's lines: the eight blocks, -/
theorem first_pieces (σ T : Valuation τ sig (Elt Ideal)) (W) (hT : upto (hostOps1 (F := Ideal)) σ 25 = T) (hW : σ (Proc.devRef .tc main_v180_2) = W) :
    T (Proc.devRef .tc main_v198) = pieceOf 0 slices_S8x64x8x64_S1x64x1x64_0_0_0_0 W ∧
    T (Proc.devRef .tc main_v199) = pieceOf 1 slices_S8x64x8x64_S1x64x1x64_1_0_1_0 W ∧
    T (Proc.devRef .tc main_v200) = pieceOf 2 slices_S8x64x8x64_S1x64x1x64_2_0_2_0 W ∧
    T (Proc.devRef .tc main_v201) = pieceOf 3 slices_S8x64x8x64_S1x64x1x64_3_0_3_0 W ∧
    T (Proc.devRef .tc main_v202) = pieceOf 4 slices_S8x64x8x64_S1x64x1x64_4_0_4_0 W ∧
    T (Proc.devRef .tc main_v203) = pieceOf 5 slices_S8x64x8x64_S1x64x1x64_5_0_5_0 W ∧
    T (Proc.devRef .tc main_v204) = pieceOf 6 slices_S8x64x8x64_S1x64x1x64_6_0_6_0 W ∧
    T (Proc.devRef .tc main_v205) = pieceOf 7 slices_S8x64x8x64_S1x64x1x64_7_0_7_0 W := by
  subst hT hW
  simp only [upto, hostOps1, List.take_succ_cons, List.take_zero]
  refine ⟨?_, ?_, ?_, ?_, ?_, ?_, ?_, ?_⟩
  all_goals
    entry_read
    rfl

/-- and the stack of them. -/
theorem first_stack (σ : Valuation τ sig (Elt Ideal)) :
    upto (hostOps1 (F := Ideal)) σ 26 (Proc.devRef .tc main_v206) = blocksOf (σ (Proc.devRef .tc main_v180_2)) := by
  obtain ⟨h0, h1, h2, h3, h4, h5, h6, h7⟩ := first_pieces σ _ _ rfl rfl
  rw [upto_add _ _ 25 1]
  generalize upto (hostOps1 (F := Ideal)) σ 25 = T at h0 h1 h2 h3 h4 h5 h6 h7 ⊢
  simp only [hostOps1, List.drop_succ_cons, List.drop_zero, List.take_succ_cons, List.take_zero]
  entry_read
  show concatenate S8x64x64 0 [⟨S1x64x64, T (Proc.devRef .tc main_v198)⟩, ⟨S1x64x64, T (Proc.devRef .tc main_v199)⟩, ⟨S1x64x64, T (Proc.devRef .tc main_v200)⟩, ⟨S1x64x64, T (Proc.devRef .tc main_v201)⟩, ⟨S1x64x64, T (Proc.devRef .tc main_v202)⟩, ⟨S1x64x64, T (Proc.devRef .tc main_v203)⟩, ⟨S1x64x64, T (Proc.devRef .tc main_v204)⟩, ⟨S1x64x64, T (Proc.devRef .tc main_v205)⟩] concatenates_S1x64x64_S1x64x64_S1x64x64_S1x64x64_S1x64x64_S1x64x64_S1x64x64_S1x64x64_S8x64x64_d0 = _
  rw [h0, h1, h2, h3, h4, h5, h6, h7]
  rfl

set_option maxHeartbeats 1000000 in
/-- The second gate's lines: the eight blocks, -/
theorem second_pieces (σ T : Valuation τ sig (Elt Ideal)) (W) (hT : upto (hostOps1 (F := Ideal)) σ 51 = T) (hW : σ (Proc.devRef .tc main_v180_4) = W) :
    T (Proc.devRef .tc main_v224) = pieceOf 0 slices_S8x64x8x64_S1x64x1x64_0_0_0_0 W ∧
    T (Proc.devRef .tc main_v225) = pieceOf 1 slices_S8x64x8x64_S1x64x1x64_1_0_1_0 W ∧
    T (Proc.devRef .tc main_v226) = pieceOf 2 slices_S8x64x8x64_S1x64x1x64_2_0_2_0 W ∧
    T (Proc.devRef .tc main_v227) = pieceOf 3 slices_S8x64x8x64_S1x64x1x64_3_0_3_0 W ∧
    T (Proc.devRef .tc main_v228) = pieceOf 4 slices_S8x64x8x64_S1x64x1x64_4_0_4_0 W ∧
    T (Proc.devRef .tc main_v229) = pieceOf 5 slices_S8x64x8x64_S1x64x1x64_5_0_5_0 W ∧
    T (Proc.devRef .tc main_v230) = pieceOf 6 slices_S8x64x8x64_S1x64x1x64_6_0_6_0 W ∧
    T (Proc.devRef .tc main_v231) = pieceOf 7 slices_S8x64x8x64_S1x64x1x64_7_0_7_0 W := by
  subst hT hW
  have keep : upto (hostOps1 (F := Ideal)) σ 26 (Proc.devRef .tc main_v180_4) = σ (Proc.devRef .tc main_v180_4) := by
    simp only [upto, hostOps1, List.take_succ_cons, List.take_zero]
    entry_read
    rfl
  rw [← keep, upto_add _ _ 26 25]
  generalize upto (hostOps1 (F := Ideal)) σ 26 = T
  simp only [hostOps1, List.drop_succ_cons, List.drop_zero, List.take_succ_cons, List.take_zero]
  refine ⟨?_, ?_, ?_, ?_, ?_, ?_, ?_, ?_⟩
  all_goals
    entry_read
    rfl

/-- and the stack of them. -/
theorem second_stack (σ : Valuation τ sig (Elt Ideal)) :
    upto (hostOps1 (F := Ideal)) σ 52 (Proc.devRef .tc main_v232) = blocksOf (σ (Proc.devRef .tc main_v180_4)) := by
  obtain ⟨h0, h1, h2, h3, h4, h5, h6, h7⟩ := second_pieces σ _ _ rfl rfl
  rw [upto_add _ _ 51 1]
  generalize upto (hostOps1 (F := Ideal)) σ 51 = T at h0 h1 h2 h3 h4 h5 h6 h7 ⊢
  simp only [hostOps1, List.drop_succ_cons, List.drop_zero, List.take_succ_cons, List.take_zero]
  entry_read
  show concatenate S8x64x64 0 [⟨S1x64x64, T (Proc.devRef .tc main_v224)⟩, ⟨S1x64x64, T (Proc.devRef .tc main_v225)⟩, ⟨S1x64x64, T (Proc.devRef .tc main_v226)⟩, ⟨S1x64x64, T (Proc.devRef .tc main_v227)⟩, ⟨S1x64x64, T (Proc.devRef .tc main_v228)⟩, ⟨S1x64x64, T (Proc.devRef .tc main_v229)⟩, ⟨S1x64x64, T (Proc.devRef .tc main_v230)⟩, ⟨S1x64x64, T (Proc.devRef .tc main_v231)⟩] concatenates_S1x64x64_S1x64x64_S1x64x64_S1x64x64_S1x64x64_S1x64x64_S1x64x64_S1x64x64_S8x64x64_d0 = _
  rw [h0, h1, h2, h3, h4, h5, h6, h7]
  rfl

/-- What the lines after the call leave, whatever they start from. -/
theorem tail (σ : Valuation τ sig (Elt Ideal)) :
    after (hostOps1 (F := Ideal)) σ (Proc.devRef .tc main_v206) = blocksOf (σ (Proc.devRef .tc main_v180_2))
    ∧ after (hostOps1 (F := Ideal)) σ (Proc.devRef .tc main_v232) = blocksOf (σ (Proc.devRef .tc main_v180_4)) := by
  refine ⟨?_, second_stack σ⟩
  rw [← first_stack σ, show after (hostOps1 (F := Ideal)) σ = upto (hostOps1 (F := Ideal)) σ (26 + 26) from rfl, upto_add]
  generalize upto (hostOps1 (F := Ideal)) σ 26 = T
  simp only [hostOps1, List.drop_succ_cons, List.drop_zero, List.take_succ_cons, List.take_zero]
  entry_read
  rfl

variable {m : (ℓ : Loc nD τ sig) → Buf (Elt Ideal) ℓ} {c : Dev nD} {p : Data} (H : Finite m c p)
include H

/-- A window's array after the call, as the lines after it find it. -/
theorem left (w : Fin 19) : Pipeline.withArrays (cfgs 0).spec c (V0 m c) (fun w => (dats m 0 c).arrAt w (cfgs 0).N) (Proc.devRef .tc (Pipeline.arrRef (cfgs 0).spec w)) = (dats m 0 c).arrAt w cfg0.N :=
  Pipeline.withArrays_arr_shared _ c _ _ (Pipeline.Dat.arrAt_sharedIn (dats m 0 c) sharedIn0 (V0 m c) (A_eq m c) _) w

theorem tail_dwa : Pipeline.afterTail₀ cfgs (dats m) 0 (V0 m) [hostOps1] c main_v206 = blocksOf (mat32 (outerSum (xx p) (gpa p))) := by
  unfold Pipeline.afterTail₀
  rw [show List.flatten [hostOps1 (F := Ideal)] = hostOps1 from List.append_nil _, ← final_dwa H]
  exact (tail _).1.trans (congrArg blocksOf (left H 13))

theorem tail_dwx : Pipeline.afterTail₀ cfgs (dats m) 0 (V0 m) [hostOps1] c main_v232 = blocksOf (mat32 (outerSum (xx p) (gpx p))) := by
  unfold Pipeline.afterTail₀
  rw [show List.flatten [hostOps1 (F := Ideal)] = hostOps1 from List.append_nil _, ← final_dwx H]
  exact (tail _).2.trans (congrArg blocksOf (left H 15))

end Cert.LruBwdKIdeal.Block

end
-- ==== Proof.LruClaim.lean ====
/-
  The claims about the backward call of the gated linear recurrence: on finite arguments with no zero among the decay's
  parameters the kernel and the reference compute the same eight gradients.
-/
module

public import proofs.«01_k».proof.Defs
public import proofs.«01_k».proof.Proof.LruTail
public import proofs.«01_k».proof.Proof.Gen.LruBwdRIdeal.Run
public import proofs.«01_k».proof.Proof.Gen.LruBwdK.Frame
public import proofs.«01_k».proof.Proof.Gen.LruBwdKIdeal.Frame
public import proofs.«01_k».proof.Proof.Gen.Pre_finite_lrubwd
public import Idealize.ShloMosaic.Lib.Claim
public import Idealize.ShloMosaic.Lib.Quiescent

@[expose] public section

set_option maxRecDepth 16384

noncomputable section

namespace Cert.LruClaim

open Idealize.ShloMosaic Idealize.ShloMosaic.TcCoe Idealize.SL.Sem Cert.Reals
open Cert.LruBwdKIdeal.Block (Finite)
open Cert.LruBwdRIdeal.Stages (Data lam gxr gba gbx glam gwa gwx dnw big st gy ct nw)
open Cert.LruMath (dly)

/-- A row, a matrix and a stack of matrices as arrays of the programs. -/
def asRow (f : Fin 512 → ℝ) : FVec Ideal Cert.LruBwdRIdeal.S1x512 .f32 := up fun i : Cert.LruBwdRIdeal.S1x512.Idx => f (i 1)
def asMat (f : Fin 4096 → Fin 512 → ℝ) : FVec Ideal Cert.LruBwdRIdeal.S4096x512 .f32 := big f
def asStack (f : Fin 8 → Fin 64 → Fin 64 → ℝ) : FVec Ideal Cert.LruBwdRIdeal.S8x64x64 .f32 := up fun i : Cert.LruBwdRIdeal.S8x64x64.Idx => f (i 0) (i 1) (i 2)

/-- Equal arguments give equal results. -/
theorem same {A0 A1 A2 A3 A4 A5 A6 A7 A8 B : Type} (f : A0 → A1 → A2 → A3 → A4 → A5 → A6 → A7 → A8 → B) {x0 y0 : A0} {x1 y1 : A1} {x2 y2 : A2} {x3 y3 : A3} {x4 y4 : A4}
    {x5 y5 : A5} {x6 y6 : A6} {x7 y7 : A7} {x8 y8 : A8} (h0 : x0 = y0) (h1 : x1 = y1) (h2 : x2 = y2) (h3 : x3 = y3) (h4 : x4 = y4) (h5 : x5 = y5) (h6 : x6 = y6)
    (h7 : x7 = y7) (h8 : x8 = y8) : f x0 x1 x2 x3 x4 x5 x6 x7 x8 = f y0 y1 y2 y3 y4 y5 y6 y7 y8 := by
  subst h0 h1 h2 h3 h4 h5 h6 h7 h8
  rfl

/-- Where an array's magnitude is greater than zero, the array is not zero. -/
theorem nonzero {s : Shape} (x : FVec Ideal s .f32) (b : FVec Ideal s .f32) (hb : ∀ i, b i = (0 : EReal))
    (h : cmpf .ogt (Host.absf x) b = fun _ => 1#1) (i : s.Idx) : (x i : EReal) ≠ ((0 : ℝ) : EReal) := by
  intro e
  have hi := congrFun h i
  rw [show cmpf .ogt (Host.absf x) b i = Ideal.cmp .ogt (max (x i : EReal) (-(x i : EReal))) (b i) from rfl, hb i, e] at hi
  simp [Ideal.cmp] at hi

/-- The arguments are arrays of real numbers, and no parameter of the decay is zero. -/
theorem finite (m : (ℓ : Loc Cert.LruBwdKIdeal.nD Cert.LruBwdKIdeal.τ Cert.LruBwdKIdeal.sig) → Buf (Elt Ideal) ℓ)
    (h : Cert.Pre_LruBwdKIdeal_finite_lrubwd m) (c : Dev Cert.LruBwdKIdeal.nD) : ∃ p : Data, Finite m c p ∧ ∀ j, lam p j ≠ 0 := by
  obtain ⟨h0, h1, h2, h3, h4, h5, h6, h7, hz, h8⟩ := h c
  obtain ⟨D, hD⟩ := exists_up h0
  obtain ⟨X, hX⟩ := exists_up h1
  obtain ⟨P, hP⟩ := exists_up h2
  obtain ⟨WA, hWA⟩ := exists_up h3
  obtain ⟨BA, hBA⟩ := exists_up h4
  obtain ⟨WX, hWX⟩ := exists_up h5
  obtain ⟨BX, hBX⟩ := exists_up h6
  obtain ⟨L, hL⟩ := exists_up h7
  obtain ⟨W, hW⟩ := exists_up h8
  refine ⟨⟨D, X, P, WA, BA, WX, BX, L, W⟩, ⟨hD, hX, hP, hWA, hBA, hWX, hBX, hL, hW⟩, fun j e => ?_⟩
  refine nonzero _ _ (fun i => by pointwise) hz (ix1 j) ((congrFun hL (ix1 j)).trans ?_)
  exact congrArg (fun r : ℝ => (r : EReal)) e

set_option maxHeartbeats 1000000 in
/-- On such arguments the call and the reference end with the same eight gradients. -/
theorem algebraic : Cert.algebraic_LruBwdKIdeal_LruBwdRIdeal_pre_finite_lrubwd := by
  intro m g m' g' hpre hag
  choose p H hl using finite m hpre
  refine ⟨fun c => asMat (gxr (p c)), fun c => asMat fun t => dly (st (p c) t) (gy (p c) t) (ct (p c) t) (nw (p c)), fun c => asStack (gwa (p c)), fun c => asRow (gba (p c)),
    fun c => asStack (gwx (p c)), fun c => asRow (gbx (p c)), fun c => asRow (glam (p c)), fun c => asRow (dnw (p c)), ?_, ?_⟩
  · refine (θ_run Cert.LruBwdKIdeal.defs _ _).mono (fun _ h c => ?_) (θ_run_and (Cert.LruBwdKIdeal.Gen.unchanged (F := Ideal) m g) (Cert.LruBwdKIdeal.Gen.run_main (F := Ideal) m g))
    have k := h.2 c
    refine ⟨(k.1 11).trans (Cert.LruBwdKIdeal.Block.final_dxr (H c)), (k.1 12).trans (Cert.LruBwdKIdeal.Block.final_dly (H c)),
      (k.2 Cert.LruBwdKIdeal.main_v206 (by decide)).trans ((Cert.LruBwdKIdeal.Block.tail_dwa (H c)).trans ((Cert.LruBwdKIdeal.Block.blocksOf_up _).trans ?_)),
      (k.1 14).trans (Cert.LruBwdKIdeal.Block.final_dba (H c)),
      (k.2 Cert.LruBwdKIdeal.main_v232 (by decide)).trans ((Cert.LruBwdKIdeal.Block.tail_dwx (H c)).trans ((Cert.LruBwdKIdeal.Block.blocksOf_up _).trans ?_)),
      (k.1 16).trans (Cert.LruBwdKIdeal.Block.final_dbx (H c)), (k.1 17).trans (Cert.LruBwdKIdeal.Block.final_dlam (H c) (hl c)),
      (k.1 18).trans (Cert.LruBwdKIdeal.Block.final_dlnw (H c)), h.1 c⟩
    all_goals
      refine congrArg (fun f => up (s := Cert.LruBwdKIdeal.S8x64x64) f) (funext fun i => ?_)
      exact Finset.sum_congr rfl fun t _ => mul_comm _ _
  · refine (θ_run Cert.LruBwdRIdeal.defs _ _).mono (fun _ h c => ?_) (Cert.LruBwdRIdeal.Value.run (F := Ideal) m' g')
    obtain ⟨e0, e1, e2, e3, e4, e5, e6, e7, e8⟩ := hag c
    have h0 := e0.trans (H c).h0
    have h1 := e1.trans (H c).h1
    have h2 := e2.trans (H c).h2
    have h3 := e3.trans (H c).h3
    have h4 := e4.trans (H c).h4
    have h5 := e5.trans (H c).h5
    have h6 := e6.trans (H c).h6
    have h7 := e7.trans (H c).h7
    have h8 := e8.trans (H c).h8
    obtain ⟨r0, r1, r2, r3, r4, r5, r6, r7, rest⟩ := h c
    refine ⟨(r0.trans (Cert.LruBwdRIdeal.Read.val_main_v456_eq ..)).trans ?_, (r1.trans (Cert.LruBwdRIdeal.Read.val_main_v263_eq ..)).trans ?_,
      (r2.trans (Cert.LruBwdRIdeal.Read.val_main_v454_eq ..)).trans ?_, (r3.trans (Cert.LruBwdRIdeal.Read.val_main_v457_eq ..)).trans ?_,
      (r4.trans (Cert.LruBwdRIdeal.Read.val_main_v444_eq ..)).trans ?_, (r5.trans (Cert.LruBwdRIdeal.Read.val_main_v458_eq ..)).trans ?_,
      (r6.trans (Cert.LruBwdRIdeal.Read.val_main_v459_eq ..)).trans ?_, (r7.trans (Cert.LruBwdRIdeal.Read.val_main_v460_eq ..)).trans ?_, rest⟩
    all_goals clear r0 r1 r2 r3 r4 r5 r6 r7 rest
    · exact (same (Cert.LruBwdRIdeal.Read.val_main_v456 (F := Ideal)) h0 h1 h2 h3 h4 h5 h6 h7 h8).trans (Cert.LruBwdRIdeal.Stages.gxr_host _)
    · exact (same (Cert.LruBwdRIdeal.Read.val_main_v263 (F := Ideal)) h0 h1 h2 h3 h4 h5 h6 h7 h8).trans (Cert.LruBwdRIdeal.Stages.dly_host _)
    · exact (same (Cert.LruBwdRIdeal.Read.val_main_v454 (F := Ideal)) h0 h1 h2 h3 h4 h5 h6 h7 h8).trans (Cert.LruBwdRIdeal.Stages.gwa_host _)
    · exact (same (Cert.LruBwdRIdeal.Read.val_main_v457 (F := Ideal)) h0 h1 h2 h3 h4 h5 h6 h7 h8).trans (Cert.LruBwdRIdeal.Stages.gba_host _)
    · exact (same (Cert.LruBwdRIdeal.Read.val_main_v444 (F := Ideal)) h0 h1 h2 h3 h4 h5 h6 h7 h8).trans (Cert.LruBwdRIdeal.Stages.gwx_host _)
    · exact (same (Cert.LruBwdRIdeal.Read.val_main_v458 (F := Ideal)) h0 h1 h2 h3 h4 h5 h6 h7 h8).trans (Cert.LruBwdRIdeal.Stages.gbx_host _)
    · exact (same (Cert.LruBwdRIdeal.Read.val_main_v459 (F := Ideal)) h0 h1 h2 h3 h4 h5 h6 h7 h8).trans (Cert.LruBwdRIdeal.Stages.glam_host _)
    · exact (same (fun a b c d e f g h (_ : Unit) => Cert.LruBwdRIdeal.Read.val_main_v460 (F := Ideal) a b c d e f g h) h0 h1 h2 h3 h4 h5 h6 h7 (rfl : () = ())).trans (Cert.LruBwdRIdeal.Stages.dnw_host _)

/-- The reference terminates, keeps its arguments and has no semaphore to leave. -/
theorem frame_ref : Cert.quiescent_LruBwdRIdeal := fun m g _ =>
  (θ_run Cert.LruBwdRIdeal.defs _ _).mono (fun r h => ⟨fun c => (h c).2.2.2.2.2.2.2.2, sem_eq_zero_of_no_sems rfl r.2⟩)
    (Cert.LruBwdRIdeal.Value.run (F := Ideal) m g)

end Cert.LruClaim

end
-- ==== Proof.GdnMath.lean ====
/-
  The gated delta rule over 128 rows: the inverse of a unit lower triangular matrix by doubling blocks, and the rows'
  updates, solved together, against the recurrence that goes through the rows one by one.
-/
module

public import Mathlib.Analysis.SpecialFunctions.Exp
public import Mathlib.Data.Matrix.Mul
public import Mathlib.Tactic.Ring
public import Mathlib.Tactic.Linarith

@[expose] public section

noncomputable section

namespace Cert.GdnMath

/-! ## The inverse -/

section Inverse

/-- The entries of `L` between the lower half and the upper half of one block of `2 s` rows. -/
def corner (s : ℕ) (L : Matrix (Fin 128) (Fin 128) ℝ) : Matrix (Fin 128) (Fin 128) ℝ := fun i j =>
  if (i.val / (2 * s) = j.val / (2 * s) ∧ i.val / s % 2 = 1) ∧ j.val / s % 2 = 0 then L i j else 0

/-- The entries of `L` inside the blocks of `s` rows. -/
def blocks (s : ℕ) (L : Matrix (Fin 128) (Fin 128) ℝ) : Matrix (Fin 128) (Fin 128) ℝ := fun i j =>
  if i.val / s = j.val / s then L i j else 0

/-- One doubling. -/
def merge (s : ℕ) (L X : Matrix (Fin 128) (Fin 128) ℝ) : Matrix (Fin 128) (Fin 128) ℝ := X - X * corner s L * X

/-- The inverse of `1 + L`. -/
def inverse (L : Matrix (Fin 128) (Fin 128) ℝ) : Matrix (Fin 128) (Fin 128) ℝ :=
  merge 64 L (merge 32 L (merge 16 L (merge 8 L (merge 4 L (merge 2 L (1 - corner 1 L))))))

variable (L : Matrix (Fin 128) (Fin 128) ℝ)

/-- What a doubling keeps: the blocks of `s` rows are inverted. -/
def Inverts (s : ℕ) (X : Matrix (Fin 128) (Fin 128) ℝ) : Prop :=
  (1 + blocks s L) * X = 1 ∧ ∀ i j : Fin 128, i.val / s ≠ j.val / s → X i j = 0

variable {L}

theorem half (n s : ℕ) : n / (2 * s) = n / s / 2 := by rw [Nat.div_div_eq_div_mul, mul_comm]

theorem blocks_two (hL : ∀ i j : Fin 128, i ≤ j → L i j = 0) (s : ℕ) : blocks (2 * s) L = blocks s L + corner s L := by
  ext i j
  simp only [blocks, corner, Matrix.add_apply, half]
  by_cases h : i.val / s = j.val / s
  · rw [if_pos (by rw [h]), if_pos h, if_neg (by rw [h]; omega), add_zero]
  · rw [if_neg h, zero_add]
    by_cases e : i.val / s / 2 = j.val / s / 2
    · rw [if_pos e]
      by_cases g : i.val / s % 2 = 1 ∧ j.val / s % 2 = 0
      · rw [if_pos ⟨⟨e, g.1⟩, g.2⟩]
      · rw [if_neg fun q => g ⟨q.1.2, q.2⟩]
        refine hL i j (not_lt.mp fun hlt => g ?_)
        have := Nat.div_le_div_right (c := s) (Fin.lt_def.mp hlt).le
        omega
    · rw [if_neg e, if_neg fun q => e q.1.1]

theorem corner_zero {s : ℕ} {i j : Fin 128} (h : corner s L i j ≠ 0) :
    i.val / s / 2 = j.val / s / 2 ∧ i.val / s % 2 = 1 ∧ j.val / s % 2 = 0 := by
  by_contra g
  refine h (if_neg fun q => g ?_)
  rw [half, half] at q
  exact ⟨q.1.1, q.1.2, q.2⟩

/-- The part between two halves, twice, is zero. -/
theorem corner_corner {s : ℕ} {X : Matrix (Fin 128) (Fin 128) ℝ} (hX : ∀ i j : Fin 128, i.val / s ≠ j.val / s → X i j = 0) :
    corner s L * X * corner s L = 0 := by
  ext i j
  rw [Matrix.mul_apply]
  refine Finset.sum_eq_zero fun b _ => ?_
  rw [Matrix.mul_apply, Finset.sum_mul]
  refine Finset.sum_eq_zero fun a _ => ?_
  by_contra h
  have h1 := corner_zero (left_ne_zero_of_mul (left_ne_zero_of_mul h))
  have h3 := corner_zero (right_ne_zero_of_mul h)
  have h2 : a.val / s = b.val / s := by
    by_contra g
    exact right_ne_zero_of_mul (left_ne_zero_of_mul h) (hX a b g)
  omega

theorem inverts_merge (hL : ∀ i j : Fin 128, i ≤ j → L i j = 0) {s : ℕ} {X : Matrix (Fin 128) (Fin 128) ℝ} (h : Inverts L s X) :
    Inverts L (2 * s) (merge s L X) := by
  obtain ⟨h1, h2⟩ := h
  refine ⟨?_, fun i j hij => ?_⟩
  · rw [blocks_two hL, ← add_assoc, add_mul]
    unfold merge
    have e : corner s L * (X - X * corner s L * X) = corner s L * X := by
      rw [mul_sub, ← mul_assoc, ← mul_assoc, corner_corner h2, zero_mul, sub_zero]
    rw [e, mul_sub, h1, ← mul_assoc, ← mul_assoc, h1, one_mul, sub_add_cancel]
  · rw [half, half] at hij
    have z : X i j = 0 := h2 i j fun g => hij (by rw [g])
    show X i j - (X * corner s L * X) i j = 0
    rw [z, zero_sub, neg_eq_zero, Matrix.mul_apply]
    refine Finset.sum_eq_zero fun b _ => ?_
    rw [Matrix.mul_apply, Finset.sum_mul]
    refine Finset.sum_eq_zero fun a _ => ?_
    by_contra h
    have g1 : i.val / s = a.val / s := by
      by_contra g
      exact left_ne_zero_of_mul (left_ne_zero_of_mul h) (h2 i a g)
    have g2 := corner_zero (right_ne_zero_of_mul (left_ne_zero_of_mul h))
    have g3 : b.val / s = j.val / s := by
      by_contra g
      exact right_ne_zero_of_mul h (h2 b j g)
    omega

theorem inverts_one (hL : ∀ i j : Fin 128, i ≤ j → L i j = 0) : Inverts L 1 1 := by
  refine ⟨?_, fun i j h => Matrix.one_apply_ne fun e => h (by rw [e])⟩
  have e : blocks 1 L = 0 := by
    ext i j
    simp only [blocks, Nat.div_one, Matrix.zero_apply]
    split
    · exact hL i j (Fin.le_def.mpr (by omega))
    · rfl
  rw [e, add_zero, one_mul]

theorem inverse_spec (hL : ∀ i j : Fin 128, i ≤ j → L i j = 0) : (1 + L) * inverse L = 1 := by
  have h2 : Inverts L (2 * 1) (1 - corner 1 L) := by
    have e : merge 1 L 1 = 1 - corner 1 L := by
      unfold merge
      rw [one_mul (corner 1 L), mul_one (corner 1 L)]
    exact e ▸ inverts_merge hL (inverts_one hL)
  have h := (inverts_merge hL (inverts_merge hL (inverts_merge hL (inverts_merge hL (inverts_merge hL (inverts_merge hL h2)))))).1
  have e : blocks (2 * (2 * (2 * (2 * (2 * (2 * (2 * 1))))))) L = L := by
    ext i j
    exact if_pos (by omega)
  rw [e] at h
  exact h

end Inverse

/-! ## The recurrence -/

section Rule
variable (q k v : ℕ → Fin 128 → ℝ) (g β : ℕ → ℝ)

/-- What row `t` adds to the state `S` that it finds, decayed. -/
def upd (t : ℕ) (S : Fin 128 → Fin 128 → ℝ) (b : Fin 128) : ℝ :=
  β t * (v t b - ∑ a, k t a * (Real.exp (g t) * S a b))
/-- The state after row `t`. -/
def next (t : ℕ) (S : Fin 128 → Fin 128 → ℝ) (a b : Fin 128) : ℝ :=
  Real.exp (g t) * S a b + k t a * upd k v g β t S b
/-- The state after `n` rows from row `r` on. -/
def after (r : ℕ) (S : Fin 128 → Fin 128 → ℝ) : ℕ → Fin 128 → Fin 128 → ℝ
  | 0 => S
  | n + 1 => next k v g β (r + n) (after r S n)
/-- Row `r + n` of the result. -/
def out (r : ℕ) (S : Fin 128 → Fin 128 → ℝ) (n : ℕ) (b : Fin 128) : ℝ := ∑ a, q (r + n) a * after k v g β r S (n + 1) a b

theorem after_add (r : ℕ) (S : Fin 128 → Fin 128 → ℝ) (m n : ℕ) :
    after k v g β r S (m + n) = after k v g β (r + m) (after k v g β r S m) n := by
  induction n with
  | zero => rfl
  | succ n ih => rw [← add_assoc, after, after, ih, add_assoc]

theorem out_add (r : ℕ) (S : Fin 128 → Fin 128 → ℝ) (m n : ℕ) :
    out q k v g β r S (m + n) = out q k v g β (r + m) (after k v g β r S m) n := by
  funext b
  unfold out
  rw [add_assoc m n 1, after_add, add_assoc r m n]

/-- The sum of the first `n` logarithms of the decays. -/
def cum (r n : ℕ) : ℝ := ∑ i ∈ Finset.range n, g (r + i)

variable {q k v g β}

/-- The state as what is left of the first one and of each row's update, for any updates `U` that solve the rows' equations. -/
theorem after_eq (r : ℕ) (S : Fin 128 → Fin 128 → ℝ) (U : ℕ → Fin 128 → ℝ) (N : ℕ)
    (hU : ∀ t < N, ∀ b, U t b + ∑ j ∈ Finset.range t, β (r + t) * (∑ a, k (r + t) a * k (r + j) a) * Real.exp (cum g r (t + 1) - cum g r (j + 1)) * U j b =
      β (r + t) * v (r + t) b - ∑ a, β (r + t) * k (r + t) a * Real.exp (cum g r (t + 1)) * S a b) (n : ℕ) (hn : n ≤ N) (a b : Fin 128) :
    after k v g β r S n a b = Real.exp (cum g r n) * S a b + ∑ j ∈ Finset.range n, Real.exp (cum g r n - cum g r (j + 1)) * k (r + j) a * U j b := by
  induction n generalizing a b with
  | zero => simp [after, cum]
  | succ n ih =>
    have ih := ih (by omega)
    have ce : cum g r (n + 1) = cum g r n + g (r + n) := Finset.sum_range_succ _ _
    have dec : ∀ a b, Real.exp (g (r + n)) * after k v g β r S n a b =
        Real.exp (cum g r (n + 1)) * S a b + ∑ j ∈ Finset.range n, Real.exp (cum g r (n + 1) - cum g r (j + 1)) * k (r + j) a * U j b := by
      intro a b
      rw [ih a b, mul_add, Finset.mul_sum, ← mul_assoc, ← Real.exp_add]
      refine congrArg₂ (· + ·) (by rw [ce, add_comm]) (Finset.sum_congr rfl fun j _ => ?_)
      rw [← mul_assoc, ← mul_assoc, ← Real.exp_add]
      congr 3
      rw [ce]; ring
    have hu : upd k v g β (r + n) (after k v g β r S n) b = U n b := by
      have e := hU n (by omega) b
      unfold upd
      simp only [dec]
      have : ∑ a, k (r + n) a * (Real.exp (cum g r (n + 1)) * S a b + ∑ j ∈ Finset.range n, Real.exp (cum g r (n + 1) - cum g r (j + 1)) * k (r + j) a * U j b) =
          (∑ a, k (r + n) a * (Real.exp (cum g r (n + 1)) * S a b)) +
          ∑ j ∈ Finset.range n, (∑ a, k (r + n) a * k (r + j) a) * Real.exp (cum g r (n + 1) - cum g r (j + 1)) * U j b := by
        simp only [mul_add, Finset.sum_add_distrib, Finset.mul_sum, Finset.sum_mul]
        refine congrArg (_ + ·) ?_
        rw [Finset.sum_comm]
        exact Finset.sum_congr rfl fun j _ => Finset.sum_congr rfl fun a _ => by ring
      rw [this, mul_sub, mul_add, Finset.mul_sum, Finset.mul_sum]
      have e1 : ∑ a, β (r + n) * k (r + n) a * Real.exp (cum g r (n + 1)) * S a b = ∑ a, β (r + n) * (k (r + n) a * (Real.exp (cum g r (n + 1)) * S a b)) :=
        Finset.sum_congr rfl fun a _ => by ring
      have e2 : ∑ j ∈ Finset.range n, β (r + n) * (∑ a, k (r + n) a * k (r + j) a) * Real.exp (cum g r (n + 1) - cum g r (j + 1)) * U j b =
          ∑ j ∈ Finset.range n, β (r + n) * ((∑ a, k (r + n) a * k (r + j) a) * Real.exp (cum g r (n + 1) - cum g r (j + 1)) * U j b) :=
        Finset.sum_congr rfl fun a _ => by ring
      rw [e1, e2] at e
      linarith
    show next k v g β (r + n) (after k v g β r S n) a b = _
    unfold next
    rw [hu, dec, Finset.sum_range_succ, sub_self, Real.exp_zero, one_mul, add_assoc]

end Rule

/-! ## 128 rows at once -/

section Chunk
variable (q k v : ℕ → Fin 128 → ℝ) (g β : ℕ → ℝ) (r : ℕ) (S : Fin 128 → Fin 128 → ℝ)

/-- The logarithm of the decay up to and with row `i`. -/
def gc (i : Fin 128) : ℝ := cum g r (i.val + 1)
/-- The decay from row `j` to row `i`. -/
def dk (i j : Fin 128) : ℝ := if j ≤ i then Real.exp (gc g r i - gc g r j) else 0
/-- How much of the update of row `j` row `i` takes off its own. -/
def lo : Matrix (Fin 128) (Fin 128) ℝ := fun i j =>
  if j < i then (∑ a, k (r + i.val) a * β (r + i.val) * k (r + j.val) a) * dk g r i j else 0
/-- How much of the update of row `j` row `i` of the result sees. -/
def attn : Matrix (Fin 128) (Fin 128) ℝ := fun i j => if j ≤ i then (∑ a, q (r + i.val) a * k (r + j.val) a) * dk g r i j else 0
/-- The rows' updates. -/
def vnew : Matrix (Fin 128) (Fin 128) ℝ :=
  inverse (lo k g β r) * Matrix.of (fun (i b : Fin 128) => v (r + i.val) b * β (r + i.val)) -
    inverse (lo k g β r) * Matrix.of (fun (i a : Fin 128) => k (r + i.val) a * β (r + i.val) * Real.exp (gc g r i)) * Matrix.of S
/-- The rows of the result. -/
def outs (i b : Fin 128) : ℝ :=
  (∑ a, q (r + i.val) a * Real.exp (gc g r i) * S a b) + ∑ j, attn q k g r i j * vnew k v g β r S j b
/-- The last state. -/
def last (a b : Fin 128) : ℝ :=
  S a b * Real.exp (gc g r 127) + ∑ j : Fin 128, k (r + j.val) a * Real.exp (gc g r 127 - gc g r j) * vnew k v g β r S j b

theorem lo_zero (i j : Fin 128) (h : i ≤ j) : lo k g β r i j = 0 := if_neg (not_lt.mpr h)

/-- The rows' updates, by number. -/
def vn (t : ℕ) (b : Fin 128) : ℝ := if h : t < 128 then vnew k v g β r S ⟨t, h⟩ b else 0

theorem vn_fin (i : Fin 128) (b : Fin 128) : vn k v g β r S i.val b = vnew k v g β r S i b := dif_pos i.isLt

/-- A sum up to a row is a sum over all rows of what counts. -/
theorem sum_below (f : ℕ → ℝ) (n : ℕ) (hn : n ≤ 128) : ∑ j ∈ Finset.range n, f j = ∑ j : Fin 128, if j.val < n then f j.val else 0 := by
  rw [Fin.sum_univ_eq_sum_range (fun j => if j < n then f j else 0) 128, ← Finset.sum_filter]
  refine Finset.sum_congr ?_ fun _ _ => rfl
  ext x
  simp only [Finset.mem_range, Finset.mem_filter]
  omega

theorem vn_solves (t : ℕ) (ht : t < 128) (b : Fin 128) :
    vn k v g β r S t b + ∑ j ∈ Finset.range t, β (r + t) * (∑ a, k (r + t) a * k (r + j) a) * Real.exp (cum g r (t + 1) - cum g r (j + 1)) * vn k v g β r S j b =
      β (r + t) * v (r + t) b - ∑ a, β (r + t) * k (r + t) a * Real.exp (cum g r (t + 1)) * S a b := by
  have e : (1 + lo k g β r) * vnew k v g β r S =
      Matrix.of (fun (i b : Fin 128) => v (r + i.val) b * β (r + i.val)) - Matrix.of (fun (i a : Fin 128) => k (r + i.val) a * β (r + i.val) * Real.exp (gc g r i)) * Matrix.of S := by
    unfold vnew
    rw [mul_sub, ← mul_assoc, ← mul_assoc, ← mul_assoc, inverse_spec (lo_zero k g β r), one_mul, one_mul]
  have h := congrFun (congrFun e ⟨t, ht⟩) b
  rw [add_mul, one_mul] at h
  simp only [Matrix.add_apply, Matrix.sub_apply, Matrix.mul_apply, Matrix.of_apply] at h
  rw [sum_below _ t ht.le]
  refine Eq.trans (congrArg₂ (· + ·) (vn_fin k v g β r S ⟨t, ht⟩ b) (Finset.sum_congr rfl fun j _ => ?_)) (h.trans ?_)
  · unfold lo dk gc
    by_cases c : j.val < t
    · rw [if_pos c, if_pos (Fin.lt_def.mpr c), if_pos (Fin.le_def.mpr c.le), vn_fin, Finset.mul_sum]
      exact congrArg (fun s => s * _ * _) (Finset.sum_congr rfl fun a _ => by ring)
    · rw [if_neg c, if_neg fun h => c (Fin.lt_def.mp h), zero_mul]
  · unfold gc
    exact congrArg₂ (· - ·) (mul_comm _ _) (Finset.sum_congr rfl fun a _ => by ring)

theorem after_vn (n : ℕ) (hn : n ≤ 128) (a b : Fin 128) :
    after k v g β r S n a b = Real.exp (cum g r n) * S a b + ∑ j ∈ Finset.range n, Real.exp (cum g r n - cum g r (j + 1)) * k (r + j) a * vn k v g β r S j b :=
  after_eq r S (vn k v g β r S) 128 (vn_solves k v g β r S) n hn a b

/-- 128 rows at once give the rows of the recurrence. -/
theorem outs_eq (i b : Fin 128) : outs q k v g β r S i b = out q k v g β r S i.val b := by
  unfold out outs
  simp only [after_vn k v g β r S (i.val + 1) (by omega), mul_add, Finset.sum_add_distrib]
  refine congrArg₂ (· + ·) (Finset.sum_congr rfl fun a _ => by unfold gc; ring) ?_
  simp only [Finset.mul_sum]
  rw [Finset.sum_comm, sum_below _ (i.val + 1) (by omega)]
  refine Finset.sum_congr rfl fun j _ => ?_
  unfold attn dk gc
  by_cases c : j ≤ i
  · rw [if_pos c, if_pos c, if_pos (by have := Fin.le_def.mp c; omega), vn_fin, Finset.sum_mul, Finset.sum_mul]
    exact Finset.sum_congr rfl fun a _ => by ring
  · rw [if_neg c, if_neg (by have := fun h => c (Fin.le_def.mpr h); omega), zero_mul]

/-- 128 rows at once give the state after them. -/
theorem last_eq (a b : Fin 128) : last k v g β r S a b = after k v g β r S 128 a b := by
  rw [after_vn k v g β r S 128 le_rfl, sum_below _ 128 le_rfl]
  unfold last gc
  refine congrArg₂ (· + ·) (mul_comm _ _) (Finset.sum_congr rfl fun j _ => ?_)
  rw [if_pos j.isLt, vn_fin]
  exact congrArg (· * _) (mul_comm _ _)

end Chunk

end Cert.GdnMath

end
-- ==== Proof.GdnItem.lean ====
/-
  The forward call of the gated delta rule: what its body computes of 128 rows of one head, as values of any floats.
-/
module

public import proofs.«01_k».proof.Proof.Gen.GdnFwdKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.GdnFwdKIdeal.Item

open Cert.GdnFwdKIdeal Cert.GdnFwdKIdeal.Gen Idealize.ShloMosaic Idealize.ShloMosaic.TcCoe Idealize.SL.Sem

variable {F : FTy → Type} [FloatOps F]

/-- A square of 128 rows and a column of 128 rows. -/
abbrev Sq (F : FTy → Type) := FVec F S128x128 .f32
abbrev Col (F : FTy → Type) := FVec F S128x1 .f32

/-- The square of zeros, the row numbers and the column numbers. -/
def zero : Sq F := broadcast S128x128 (Scalar.ofBits .f32 0x00000000#32 : F .f32)
def zcol : Col F := broadcast S128x1 (Scalar.ofBits .f32 0x00000000#32 : F .f32)
def ri : IVec S128x128 32 := iota .tc S128x128 32 [0] iota_S128x128_d0_w32
def ci : IVec S128x128 32 := iota .tc S128x128 32 [1] iota_S128x128_d1_w32

/-- On or below the diagonal, and below it. -/
def causal : IVec S128x128 1 := cmpi .sge ri ci
def strict : IVec S128x128 1 := cmpi .sgt ri ci

/-- The factors of a product as they enter it, and the products: of two squares, of one with the other turned, of one turned with the other. -/
def hi (a : Sq F) : FVec F S128x128 .bf16 := truncf .bf16 a bitsLt_bf16_f32
def rest (a : Sq F) : FVec F S128x128 .bf16 := hi (subf a (extf .f32 (hi a) bitsLt_bf16_f32))
def mm (a b : FVec F S128x128 .bf16) : Sq F := matmul dot_S128x128_S128x128_S128x128_1_0_0_1_n_n none a b (constant S128x128 .f32 0x00000000#32)
def mmT (a b : FVec F S128x128 .bf16) : Sq F := matmul dot_S128x128_S128x128_S128x128_1_1_0_0_n_n none a b (constant S128x128 .f32 0x00000000#32)
def mTm (a b : FVec F S128x128 .bf16) : Sq F := matmul dot_S128x128_S128x128_S128x128_0_0_1_1_n_n none a b (constant S128x128 .f32 0x00000000#32)
/-- The product in three passes. -/
def mm3 (a b : Sq F) : Sq F := addf (mm (hi a) (hi b)) (addf (mm (hi a) (rest b)) (mm (rest a) (hi b)))

/-- The column of a lane of a square, and the entry of a lane of a row. -/
def lane (x : Sq F) (b : BitVec 32) : Col F :=
  shapeCast S128x1 (multiReduction .add [1] S128 (select (cmpi .eq ci (broadcast S128x128 b)) x zero) 0x00000000#32 reduces_S128x128_S128 (.inl rfl) rfl) shapeCasts_S128_S128x1
def lane1 (x : FVec F S1x128 .f32) (b : BitVec 32) : FVec F S1x1 .f32 :=
  shapeCast S1x1 (multiReduction .add [1] S1 (select (cmpi .eq (iota .tc S1x128 32 [1] iota_S1x128_d1_w32) (broadcast S1x128 b)) x
    (broadcast S1x128 (Scalar.ofBits .f32 0x00000000#32 : F .f32))) 0x00000000#32 reduces_S1x128_S1 (.inl rfl) rfl) shapeCasts_S1_S1x1

/-- A column over all lanes. -/
def wide (x : Col F) : Sq F := broadcastTo S128x128 x broadcasts_S128x1_S128x128

/-- Each row over its length. -/
def unit (x : Sq F) : Sq F :=
  mulf x (wide (rsqrt (addf (shapeCast S128x1 (multiReduction .add [1] S128 (mulf x x) 0x00000000#32 reduces_S128x128_S128 (.inl rfl) rfl) shapeCasts_S128_S128x1)
    (broadcast S128x1 (Scalar.ofBits .f32 0x358637BD#32 : F .f32)))))
def unitq (x : Sq F) : Sq F := mulf (unit x) (broadcast S128x128 (Scalar.ofBits .f32 0x3DB504F3#32 : F .f32))

/-- The logarithm of softplus' argument, its value, and the logarithms of the rows' decays. -/
def softplus (x : Col F) : Col F := addf (maximumf x zcol) (log1p (exp (subf zcol (absf x))))
def decayLog (ba : Sq F) (al dt : FVec F S1x128 .f32) (b b4 : BitVec 32) : Col F :=
  mulf (broadcastTo S128x1 (subf (broadcast S1x1 (Scalar.ofBits .f32 0x00000000#32 : F .f32)) (exp (lane1 al b))) broadcasts_S1x1_S128x1)
    (softplus (addf (lane ba b4) (broadcastTo S128x1 (lane1 dt b) broadcasts_S1x1_S128x1)))

/-- The sums of a column's first entries, over all lanes. -/
def sums (g : Col F) : Sq F :=
  matmul dot_S128x128_S128x128_S128x128_1_0_0_1_n_n (some .fp32) (sitofp .f32 (extui 32 causal natLt_1_32)) (wide (shapeCast S128x1 g shapeCasts_S128x1_S128x1))
    (constant S128x128 .f32 0x00000000#32)

/-- The decay from each row to each later one. -/
def decay (c : Sq F) : Sq F :=
  select causal (exp (select causal (subf c (transpose S128x128 [1, 0] c transposes_S128x128_p1_0_S128x128)) zero)) zero

/-- The mask between the two halves of the blocks of `2 s` rows. -/
def between (s h : BitVec 32) : IVec S128x128 1 :=
  andi (andi (cmpi .eq (andi ri (broadcast S128x128 h)) (andi ci (broadcast S128x128 h))) (cmpi .ne (andi ri (broadcast S128x128 s)) (broadcast S128x128 0#32)))
    (cmpi .eq (andi ci (broadcast S128x128 s)) (broadcast S128x128 0#32))
def corner (s h : BitVec 32) (l : Sq F) : Sq F := select (between s h) l zero
def merge (s h : BitVec 32) (l x : Sq F) : Sq F := subf x (mm3 (mm3 x (corner s h l)) x)
def eye : Sq F := sitofp .f32 (extui 32 (cmpi .eq ri ci) natLt_1_32)
/-- The inverse of one plus a square below the diagonal. -/
def inverse (l : Sq F) : Sq F :=
  merge 64#32 4294967168#32 l (merge 32#32 4294967232#32 l (merge 16#32 4294967264#32 l (merge 8#32 4294967280#32 l (merge 4#32 4294967288#32 l
    (merge 2#32 4294967292#32 l (subf eye (corner 1#32 4294967294#32 l)))))))

section Rows
variable (q k v ba : Sq F) (al dt : FVec F S1x128 .f32) (b b4 : BitVec 32) (S : Sq F)

/-- The rows' keys and values times their weights. -/
def beta : Col F := logistic (lane ba b)
def cum : Sq F := sums (decayLog ba al dt b b4)
def keys : Sq F := mulf (unit k) (wide (beta ba b))
def vals : Sq F := mulf v (wide (beta ba b))
def low : Sq F := select strict (mulf (mmT (hi (keys k ba b)) (hi (unit k))) (decay (cum ba al dt b b4))) zero
def attn : Sq F := select causal (mulf (mmT (hi (unitq q)) (hi (unit k))) (decay (cum ba al dt b b4))) zero
/-- The rows' updates. -/
def news : Sq F :=
  subf (mm3 (inverse (low k ba al dt b b4)) (vals v ba b))
    (mm (hi (mm3 (inverse (low k ba al dt b b4)) (mulf (keys k ba b) (exp (cum ba al dt b b4))))) (hi S))
/-- The rows of the result, and the state after them. -/
def outs : Sq F :=
  addf (mm (hi (mulf (unitq q) (exp (cum ba al dt b b4)))) (hi S)) (mm (hi (attn q k ba al dt b b4)) (hi (news k v ba al dt b b4 S)))
def lastRow : FVec F S1x128 .f32 := extractStridedSlice S1x128 ![127, 0] (cum ba al dt b b4) slices_S128x128_o127_0_S1x128
def state : Sq F :=
  addf (mulf S (broadcastTo S128x128 (exp (lastRow ba al dt b b4)) broadcasts_S1x128_S128x128))
    (mTm (hi (mulf (unit k) (exp (subf (broadcastTo S128x128 (lastRow ba al dt b b4) broadcasts_S1x128_S128x128) (cum ba al dt b b4)))))
      (hi (news k v ba al dt b b4 S)))

end Rows

end Cert.GdnFwdKIdeal.Item

end
-- ==== Proof.GdnReal.lean ====
/-
  The forward call of the gated delta rule: what its body computes of 128 rows of one head, as real numbers.
-/
module

public import proofs.«01_k».proof.Proof.Reals
public import proofs.«01_k».proof.Proof.GdnMath
public import proofs.«01_k».proof.Proof.GdnItem

@[expose] public section

set_option maxRecDepth 16384

noncomputable section

namespace Cert.GdnFwdKIdeal.Item

open Cert.GdnFwdKIdeal Cert.GdnFwdKIdeal.Gen Idealize.ShloMosaic Idealize.ShloMosaic.TcCoe Idealize.SL.Sem
open Cert.Reals Cert.GdnMath

/-- A square of real numbers, the same as a factor of a product, a column and a row. -/
abbrev mat (A : Fin 128 → Fin 128 → ℝ) : Sq Ideal := up fun j : S128x128.Idx => A (j 0) (j 1)
abbrev fac (A : Fin 128 → Fin 128 → ℝ) : FVec Ideal S128x128 .bf16 := up (fun j : S128x128.Idx => A (j 0) (j 1)) .bf16
abbrev col (f : Fin 128 → ℝ) : Col Ideal := up fun j : S128x1.Idx => f (j 0)
abbrev row (f : Fin 128 → ℝ) : FVec Ideal S1x128 .f32 := up fun j : S1x128.Idx => f (j 1)
abbrev one (x : ℝ) : FVec Ideal S1x1 .f32 := up fun j : S1x1.Idx => x

def lgs (v : ℝ) : ℝ := (1 + Real.exp (-v))⁻¹
def sp (v : ℝ) : ℝ := max v 0 + Real.log (1 + Real.exp (0 - |v|))
/-- The constant that a query is multiplied by: the rational number that its word names. -/
def qs : ℝ := 11863283 / 2 ^ 27

theorem logistic_up (v : ℝ) : Ideal.logistic ((v : ℝ) : EReal) = ((lgs v : ℝ) : EReal) := by rw [Ideal.logistic_coe]; rfl
theorem ite_up (p : Prop) [Decidable p] (a b : ℝ) : (if p then ((a : ℝ) : EReal) else ((b : ℝ) : EReal)) = (((if p then a else b) : ℝ) : EReal) := by
  split <;> rfl
theorem abs_up (a : ℝ) : FloatOps.absf (F := Ideal) (φ := .f32) ((a : ℝ) : EReal) = ((|a| : ℝ) : EReal) := by
  show max ((a : ℝ) : EReal) (-((a : ℝ) : EReal)) = _
  rw [← EReal.coe_neg, max_up]; rfl
theorem lit_qs : Ideal.ofBits .f32 0x3DB504F3#32 = ((qs : ℝ) : EReal) := by
  unfold qs; simp [Ideal.ofBits, Ideal.ieee, -EReal.coe_mul]; norm_num

/-! ## The masks -/

theorem cmpi_eq (a b : BitVec 32) : (IntOp.cmpi .eq a b = 1) = (a = b) := by
  by_cases h : a = b
  · simp [IntOp.cmpi, h]
  · simp only [IntOp.cmpi, h, beq_eq_false_iff_ne.mpr h, eq_iff_iff, iff_false]; decide
theorem andi_one (p q : BitVec 1) : (IntOp.andi p q = 1) = (p = 1 ∧ q = 1) := by
  revert p q
  decide
theorem bit (p : BitVec 1) : p = if p = 1 then 1#1 else 0#1 := by
  revert p
  decide
theorem causal_iff : ∀ i j : Fin 128, (IntOp.cmpi .sge (BitVec.ofNat 32 i.val) (BitVec.ofNat 32 j.val) = 1) = (j ≤ i) := by decide +kernel
theorem strict_iff : ∀ i j : Fin 128, (IntOp.cmpi .sgt (BitVec.ofNat 32 i.val) (BitVec.ofNat 32 j.val) = 1) = (j < i) := by decide +kernel
theorem eq_iff (i j : Fin 128) : (IntOp.cmpi .eq (BitVec.ofNat 32 i.val) (BitVec.ofNat 32 j.val) = 1) = (i = j) := by
  rw [cmpi_eq, ← BitVec.toNat_inj, BitVec.toNat_ofNat, BitVec.toNat_ofNat, Fin.ext_iff]
  exact propext (by omega)
theorem causal_num (i j : Fin 128) : IntOp.cmpi .sge (BitVec.ofNat 32 i.val) (BitVec.ofNat 32 j.val) = if j ≤ i then 1#1 else 0#1 := by
  rw [bit (IntOp.cmpi _ _ _)]
  simp only [causal_iff]
theorem eq_num (i j : Fin 128) : IntOp.cmpi .eq (BitVec.ofNat 32 i.val) (BitVec.ofNat 32 j.val) = if i = j then 1#1 else 0#1 := by
  rw [bit (IntOp.cmpi _ _ _)]
  simp only [eq_iff]

/-- What a pair of words does to the number of a row. -/
def Masks (s : ℕ) (b h : BitVec 32) : Prop := ∀ i : Fin 128, (IntOp.andi (BitVec.ofNat 32 i.val) h).toNat = i.val / (2 * s) * (2 * s) ∧
  (IntOp.cmpi .ne (IntOp.andi (BitVec.ofNat 32 i.val) b) 0#32 = 1) = (i.val / s % 2 = 1) ∧
  (IntOp.cmpi .eq (IntOp.andi (BitVec.ofNat 32 i.val) b) 0#32 = 1) = (i.val / s % 2 = 0)
instance (s : ℕ) (b h : BitVec 32) : Decidable (Masks s b h) := by unfold Masks; infer_instance

theorem masks1 : Masks 1 1#32 4294967294#32 := by decide +kernel
theorem masks2 : Masks 2 2#32 4294967292#32 := by decide +kernel
theorem masks4 : Masks 4 4#32 4294967288#32 := by decide +kernel
theorem masks8 : Masks 8 8#32 4294967280#32 := by decide +kernel
theorem masks16 : Masks 16 16#32 4294967264#32 := by decide +kernel
theorem masks32 : Masks 32 32#32 4294967232#32 := by decide +kernel
theorem masks64 : Masks 64 64#32 4294967168#32 := by decide +kernel

theorem between_iff {s : ℕ} {b h : BitVec 32} (hs : 0 < s) (H : Masks s b h) (i j : Fin 128) :
    (IntOp.andi (IntOp.andi (IntOp.cmpi .eq (IntOp.andi (BitVec.ofNat 32 i.val) h) (IntOp.andi (BitVec.ofNat 32 j.val) h))
      (IntOp.cmpi .ne (IntOp.andi (BitVec.ofNat 32 i.val) b) 0#32)) (IntOp.cmpi .eq (IntOp.andi (BitVec.ofNat 32 j.val) b) 0#32) = 1) =
    ((i.val / (2 * s) = j.val / (2 * s) ∧ i.val / s % 2 = 1) ∧ j.val / s % 2 = 0) := by
  rw [andi_one, andi_one, cmpi_eq, (H i).2.1, (H j).2.2, ← BitVec.toNat_inj, (H i).1, (H j).1, Nat.mul_left_inj (by omega)]

/-! ## The operations -/

theorem zero_up : (zero : Sq Ideal) = mat fun _ _ => 0 := by
  funext j; unfold zero; pointwise; simp only [up_apply, ← EReal.coe_zero]
theorem mm_up (A B : Fin 128 → Fin 128 → ℝ) : mm (fac A) (fac B) = mat fun i j => ∑ k, A i k * B k j := by
  funext j
  obtain ⟨r, k, rfl⟩ := exists_ix2 j
  unfold mm; pointwise; simp only [up_apply, mul_up, sum_up, zero_add, add_zero]; rfl
theorem mmT_up (A B : Fin 128 → Fin 128 → ℝ) : mmT (fac A) (fac B) = mat fun i j => ∑ k, A i k * B j k := by
  funext j
  obtain ⟨r, k, rfl⟩ := exists_ix2 j
  unfold mmT; pointwise; simp only [up_apply, mul_up, sum_up, zero_add, add_zero]; rfl
theorem mTm_up (A B : Fin 128 → Fin 128 → ℝ) : mTm (fac A) (fac B) = mat fun i j => ∑ k, A k i * B k j := by
  funext j
  obtain ⟨r, k, rfl⟩ := exists_ix2 j
  unfold mTm; pointwise; simp only [up_apply, mul_up, sum_up, zero_add, add_zero]; rfl
theorem hi_up (A : Fin 128 → Fin 128 → ℝ) : hi (mat A) = fac A := rfl
theorem rest_up (A : Fin 128 → Fin 128 → ℝ) : rest (mat A) = fac fun _ _ => 0 := by
  funext j
  unfold rest
  rw [hi_up]
  show ((A (j 0) (j 1) : ℝ) : EReal) - ((A (j 0) (j 1) : ℝ) : EReal) = _
  rw [sub_up, sub_self]; rfl
theorem add_mat (A B : Fin 128 → Fin 128 → ℝ) : addf (mat A) (mat B) = mat fun i j => A i j + B i j := by
  funext j; exact add_up _ _
theorem sub_mat (A B : Fin 128 → Fin 128 → ℝ) : subf (mat A) (mat B) = mat fun i j => A i j - B i j := by
  funext j; exact sub_up _ _
theorem mul_mat (A B : Fin 128 → Fin 128 → ℝ) : mulf (mat A) (mat B) = mat fun i j => A i j * B i j := by
  funext j; exact mul_up _ _
theorem exp_mat (A : Fin 128 → Fin 128 → ℝ) : exp (mat A) = mat fun i j => Real.exp (A i j) := by
  funext j; exact Ideal.exp_coe _
theorem mm3_up (A B : Fin 128 → Fin 128 → ℝ) : mm3 (mat A) (mat B) = mat fun i j => ∑ k, A i k * B k j := by
  unfold mm3
  rw [hi_up, hi_up, rest_up, rest_up, mm_up, mm_up, mm_up, add_mat, add_mat]
  congr 1
  funext j
  simp

theorem lane_up (A : Fin 128 → Fin 128 → ℝ) (l : Fin 128) : lane (mat A) (BitVec.ofNat 32 l.val) = col fun i => A i l := by
  funext j
  obtain ⟨r, k, rfl⟩ := exists_ix2 j
  unfold lane zero ci
  pointwise
  simp only [Scalar.select, eq_iff, up_apply, ← EReal.coe_zero, ite_up, sum_up, zero_add]
  simp
theorem lane1_up (f : Fin 128 → ℝ) (l : Fin 128) : lane1 (row f) (BitVec.ofNat 32 l.val) = one (f l) := by
  funext j
  obtain ⟨r, k, rfl⟩ := exists_ix2 j
  unfold lane1
  pointwise
  simp only [Scalar.select, eq_iff, up_apply, ← EReal.coe_zero, ite_up, sum_up, zero_add]
  simp
theorem wide_up (f : Fin 128 → ℝ) : wide (col f) = mat fun i _ => f i := by
  funext j
  obtain ⟨r, k, rfl⟩ := exists_ix2 j
  unfold wide; pointwise; rfl

/-- The length of a row, squared, with the small constant. -/
def len (x : Fin 128 → ℝ) : ℝ := ∑ k, x k * x k + eps
theorem len_pos (x : Fin 128 → ℝ) : 0 < len x := add_pos_of_nonneg_of_pos (Finset.sum_nonneg fun k _ => mul_self_nonneg (x k)) eps_pos
theorem unit_up (A : Fin 128 → Fin 128 → ℝ) : unit (mat A) = mat fun i j => A i j * (√(len (A i)))⁻¹ := by
  funext j
  obtain ⟨r, k, rfl⟩ := exists_ix2 j
  unfold unit wide
  pointwise
  simp only [up_apply, mul_up, sum_up, zero_add, lit_eps, add_up]
  show ((A r k : ℝ) : EReal) * Ideal.rsqrt ((len (A r) : ℝ) : EReal) = ((A r k * (√(len (A r)))⁻¹ : ℝ) : EReal)
  rw [rsqrt_up (len_pos _), mul_up]
theorem unitq_up (A : Fin 128 → Fin 128 → ℝ) : unitq (mat A) = mat fun i j => A i j * (√(len (A i)))⁻¹ * qs := by
  unfold unitq
  rw [unit_up]
  funext j
  obtain ⟨r, k, rfl⟩ := exists_ix2 j
  pointwise
  simp only [up_apply, lit_qs, mul_up]

theorem softplus_up (f : Fin 128 → ℝ) : softplus (col f) = col fun i => sp (f i) := by
  funext j
  unfold softplus zcol
  pointwise
  simp only [up_apply, ← EReal.coe_zero, abs_up, sub_up, Ideal.exp_coe, max_up, Ideal.log1p]
  rw [← EReal.coe_one, add_up, Ideal.log_coe, if_neg (not_le.mpr (by positivity)), add_up]
  rfl
theorem decayLog_up (B : Fin 128 → Fin 128 → ℝ) (al dt : Fin 128 → ℝ) (l l4 : Fin 128) :
    decayLog (mat B) (row al) (row dt) (BitVec.ofNat 32 l.val) (BitVec.ofNat 32 l4.val) = col fun i => (0 - Real.exp (al l)) * sp (B i l4 + dt l) := by
  unfold decayLog
  rw [lane1_up, lane1_up, lane_up]
  have e : addf (col fun i => B i l4) (broadcastTo S128x1 (one (dt l)) broadcasts_S1x1_S128x1) = col fun i => B i l4 + dt l := by
    funext j; pointwise; exact add_up _ _
  rw [e, softplus_up]
  funext j
  pointwise
  simp only [up_apply, ← EReal.coe_zero, Ideal.exp_coe, sub_up, mul_up]
theorem num_up (p : Prop) [Decidable p] : (FloatOps.sitofp (F := Ideal) .f32 (BitVec.setWidth 32 (if p then 1#1 else 0#1)) : EReal) = (((if p then 1 else 0) : ℝ) : EReal) := by
  split
  · show ((((BitVec.setWidth 32 1#1 : BitVec 32).toInt : ℝ)) : EReal) = _
    simp
  · exact sitofp_zero
theorem sums_up (f : Fin 128 → ℝ) : sums (col f) = mat fun i _ => ∑ j, if j ≤ i then f j else 0 := by
  funext j
  obtain ⟨r, k, rfl⟩ := exists_ix2 j
  unfold sums wide causal ri ci
  pointwise
  simp only [causal_num, up_apply, num_up, mul_up, sum_up]
  refine congrArg _ (Finset.sum_congr rfl fun x _ => ?_)
  rw [ite_mul, one_mul, zero_mul]
  rfl
theorem transpose_mat (A : Fin 128 → Fin 128 → ℝ) : transpose S128x128 [1, 0] (mat A) transposes_S128x128_p1_0_S128x128 = mat fun i j => A j i := by
  funext j
  obtain ⟨r, k, rfl⟩ := exists_ix2 j
  pointwise; rfl
theorem causal_select (A B : Fin 128 → Fin 128 → ℝ) : select causal (mat A) (mat B) = mat fun i j => if j ≤ i then A i j else B i j := by
  funext j
  obtain ⟨r, k, rfl⟩ := exists_ix2 j
  unfold causal ri ci
  pointwise
  simp only [Scalar.select, causal_iff, up_apply, ite_up]
  rfl
theorem strict_select (A B : Fin 128 → Fin 128 → ℝ) : select strict (mat A) (mat B) = mat fun i j => if j < i then A i j else B i j := by
  funext j
  obtain ⟨r, k, rfl⟩ := exists_ix2 j
  unfold strict ri ci
  pointwise
  simp only [Scalar.select, strict_iff, up_apply, ite_up]
  rfl
theorem decay_up (c : Fin 128 → ℝ) : decay (mat fun i _ => c i) = mat fun i j => if j ≤ i then Real.exp (c i - c j) else 0 := by
  unfold decay
  rw [transpose_mat, sub_mat, zero_up, causal_select, exp_mat, causal_select]
  refine congrArg mat ?_
  funext i j
  split <;> rfl

theorem corner_up {s : ℕ} {b h : BitVec 32} (hs : 0 < s) (H : Masks s b h) (L : Matrix (Fin 128) (Fin 128) ℝ) :
    Item.corner b h (mat L) = mat (GdnMath.corner s L) := by
  funext j
  obtain ⟨r, k, rfl⟩ := exists_ix2 j
  unfold Item.corner between zero ri ci
  pointwise
  simp only [Scalar.select, between_iff hs H, up_apply, ← EReal.coe_zero, ite_up]
  rfl
theorem eye_up : (eye : Sq Ideal) = mat (1 : Matrix (Fin 128) (Fin 128) ℝ) := by
  funext j
  obtain ⟨r, k, rfl⟩ := exists_ix2 j
  unfold eye ri ci
  pointwise
  simp only [eq_num, up_apply, num_up]
  rfl
theorem sub_matrix (A B : Matrix (Fin 128) (Fin 128) ℝ) : subf (mat A) (mat B) = mat (A - B) := sub_mat A B
theorem mm3_mat (A B : Matrix (Fin 128) (Fin 128) ℝ) : mm3 (mat A) (mat B) = mat (A * B) := mm3_up A B
theorem merge_up {s : ℕ} {b h : BitVec 32} (hs : 0 < s) (H : Masks s b h) (L X : Matrix (Fin 128) (Fin 128) ℝ) :
    Item.merge b h (mat L) (mat X) = mat (GdnMath.merge s L X) := by
  unfold Item.merge
  rw [corner_up hs H, mm3_mat, mm3_mat, sub_matrix]
  rfl
theorem inverse_up (L : Matrix (Fin 128) (Fin 128) ℝ) : Item.inverse (mat L) = mat (GdnMath.inverse L) := by
  unfold Item.inverse
  rw [eye_up, corner_up one_pos masks1, sub_matrix, merge_up two_pos masks2, merge_up (by norm_num) masks4, merge_up (by norm_num) masks8,
    merge_up (by norm_num) masks16, merge_up (by norm_num) masks32, merge_up (by norm_num) masks64]
  rfl

end Cert.GdnFwdKIdeal.Item

end
-- ==== Proof.GdnRows.lean ====
/-
  The forward call of the gated delta rule: 128 rows of one head in the body are the 128 rows of the rule.
-/
module

public import proofs.«01_k».proof.Proof.GdnReal

@[expose] public section

set_option maxRecDepth 16384

noncomputable section

namespace Cert.GdnFwdKIdeal.Item

open Cert.GdnFwdKIdeal Cert.GdnFwdKIdeal.Gen Idealize.ShloMosaic Idealize.ShloMosaic.TcCoe Idealize.SL.Sem
open Cert.Reals Cert.GdnMath

/-- What the body makes of a square of queries and of keys, and of a row's two gates. -/
def ku (K : Fin 128 → Fin 128 → ℝ) (i a : Fin 128) : ℝ := K i a * (√(len (K i)))⁻¹
def qu (Q : Fin 128 → Fin 128 → ℝ) (i a : Fin 128) : ℝ := Q i a * (√(len (Q i)))⁻¹ * qs

section Rows
variable {Q K V B : Fin 128 → Fin 128 → ℝ} {al dt : Fin 128 → ℝ} {l l4 : Fin 128}
variable {q k v : ℕ → Fin 128 → ℝ} {g β : ℕ → ℝ} {r : ℕ}
variable (hq : ∀ i a : Fin 128, q (r + i.val) a = qu Q i a) (hk : ∀ i a : Fin 128, k (r + i.val) a = ku K i a)
  (hv : ∀ i b : Fin 128, v (r + i.val) b = V i b) (hg : ∀ i : Fin 128, g (r + i.val) = (0 - Real.exp (al l)) * sp (B i l4 + dt l))
  (hβ : ∀ i : Fin 128, β (r + i.val) = lgs (B i l))

include hk in
theorem unit_rows : unit (mat K) = mat fun i a => k (r + i.val) a := by
  rw [unit_up]; refine congrArg mat ?_; funext i a; exact (hk i a).symm
include hq in
theorem unitq_rows : unitq (mat Q) = mat fun i a => q (r + i.val) a := by
  rw [unitq_up]; refine congrArg mat ?_; funext i a; exact (hq i a).symm
include hβ in
theorem beta_rows : wide (beta (mat B) (BitVec.ofNat 32 l.val)) = mat fun i _ => β (r + i.val) := by
  unfold beta
  rw [lane_up]
  have e : logistic (col fun i => B i l) = col fun i => lgs (B i l) := by funext j; exact logistic_up _
  rw [e, wide_up]
  refine congrArg mat ?_; funext i a; exact (hβ i).symm
include hg in
theorem cum_rows : Item.cum (mat B) (row al) (row dt) (BitVec.ofNat 32 l.val) (BitVec.ofNat 32 l4.val) = mat fun i _ => gc g r i := by
  unfold Item.cum
  rw [decayLog_up, sums_up]
  refine congrArg mat ?_
  funext i _
  unfold gc GdnMath.cum
  rw [sum_below (fun j => g (r + j)) _ (by omega)]
  refine Finset.sum_congr rfl fun j _ => ?_
  by_cases c : j ≤ i
  · rw [if_pos c, if_pos (by have := Fin.le_def.mp c; omega), hg]
  · rw [if_neg c, if_neg (by have := Fin.lt_def.mp (not_le.mp c); omega)]
include hk hβ in
theorem keys_rows : keys (mat K) (mat B) (BitVec.ofNat 32 l.val) = mat fun i a => k (r + i.val) a * β (r + i.val) := by
  unfold keys
  rw [unit_rows hk, beta_rows hβ, mul_mat]
include hv hβ in
theorem vals_rows : vals (mat V) (mat B) (BitVec.ofNat 32 l.val) = mat fun i b => v (r + i.val) b * β (r + i.val) := by
  unfold vals
  rw [beta_rows hβ, mul_mat]
  refine congrArg mat ?_; funext i b; rw [hv]
include hg in
theorem decay_rows : decay (Item.cum (mat B) (row al) (row dt) (BitVec.ofNat 32 l.val) (BitVec.ofNat 32 l4.val)) = mat (dk g r) := by
  rw [cum_rows hg, decay_up (gc g r)]
  rfl
include hk hg hβ in
theorem low_rows : low (mat K) (mat B) (row al) (row dt) (BitVec.ofNat 32 l.val) (BitVec.ofNat 32 l4.val) = mat (lo k g β r) := by
  unfold low
  rw [keys_rows hk hβ, unit_rows hk, decay_rows hg, hi_up, hi_up, mmT_up, mul_mat, zero_up, strict_select]
  rfl
include hq hk hg in
theorem attn_rows : Item.attn (mat Q) (mat K) (mat B) (row al) (row dt) (BitVec.ofNat 32 l.val) (BitVec.ofNat 32 l4.val) = mat (GdnMath.attn q k g r) := by
  unfold Item.attn
  rw [unitq_rows hq, unit_rows hk, decay_rows hg, hi_up, hi_up, mmT_up, mul_mat, zero_up, causal_select]
  rfl
include hk hv hg hβ in
theorem news_rows (S : Fin 128 → Fin 128 → ℝ) :
    news (mat K) (mat V) (mat B) (row al) (row dt) (BitVec.ofNat 32 l.val) (BitVec.ofNat 32 l4.val) (mat S) = mat (vnew k v g β r S) := by
  unfold news
  rw [low_rows hk hg hβ, inverse_up, vals_rows hv hβ, keys_rows hk hβ, cum_rows hg, exp_mat, mul_mat]
  rw [show ∀ A : Fin 128 → Fin 128 → ℝ, mm3 (mat (GdnMath.inverse (lo k g β r))) (mat A) = mat (GdnMath.inverse (lo k g β r) * Matrix.of A) from fun A => mm3_mat _ _,
    show ∀ A : Fin 128 → Fin 128 → ℝ, mm3 (mat (GdnMath.inverse (lo k g β r))) (mat A) = mat (GdnMath.inverse (lo k g β r) * Matrix.of A) from fun A => mm3_mat _ _]
  exact (congrArg (subf _) (mm_up _ _)).trans (sub_mat _ _)
include hq hk hv hg hβ in
/-- The rows of the result. -/
theorem outs_rows (S : Fin 128 → Fin 128 → ℝ) :
    Item.outs (mat Q) (mat K) (mat V) (mat B) (row al) (row dt) (BitVec.ofNat 32 l.val) (BitVec.ofNat 32 l4.val) (mat S) =
      mat (GdnMath.outs q k v g β r S) := by
  unfold Item.outs
  rw [news_rows hk hv hg hβ, attn_rows hq hk hg, unitq_rows hq, cum_rows hg, exp_mat, mul_mat, hi_up, hi_up, mm_up]
  exact (congrArg (addf _) (mm_up _ _)).trans (add_mat _ _)
include hg in
theorem lastRow_rows : lastRow (mat B) (row al) (row dt) (BitVec.ofNat 32 l.val) (BitVec.ofNat 32 l4.val) = row fun _ => gc g r 127 := by
  unfold lastRow
  rw [cum_rows hg]
  funext j
  obtain ⟨a, b, rfl⟩ := exists_ix2 j
  pointwise
  obtain rfl : a = 0 := Subsingleton.elim _ _
  rfl
include hk hv hg hβ in
/-- The state after them. -/
theorem state_rows (S : Fin 128 → Fin 128 → ℝ) :
    Item.state (mat K) (mat V) (mat B) (row al) (row dt) (BitVec.ofNat 32 l.val) (BitVec.ofNat 32 l4.val) (mat S) = mat (GdnMath.last k v g β r S) := by
  unfold Item.state
  rw [news_rows hk hv hg hβ, unit_rows hk, lastRow_rows hg, cum_rows hg]
  have e1 : broadcastTo S128x128 (exp (row fun _ => gc g r 127)) broadcasts_S1x128_S128x128 = mat fun _ _ => Real.exp (gc g r 127) := by
    funext j
    obtain ⟨a, b, rfl⟩ := exists_ix2 j
    pointwise
    exact Ideal.exp_coe _
  have e2 : broadcastTo S128x128 (row fun _ => gc g r 127) broadcasts_S1x128_S128x128 = mat fun _ _ => gc g r 127 := by
    funext j
    obtain ⟨a, b, rfl⟩ := exists_ix2 j
    pointwise
    rfl
  rw [e1, e2, sub_mat, exp_mat, mul_mat, mul_mat, hi_up]
  have e3 : hi (mat (vnew k v g β r S)) = fac (vnew k v g β r S) := rfl
  exact (congrArg (fun x => addf _ (mTm _ x)) e3).trans ((congrArg (addf _) (mTm_up _ _)).trans (add_mat _ _))

end Rows

end Cert.GdnFwdKIdeal.Item

end
-- ==== Proof.GdnData.lean ====
/-
  The forward call of the gated delta rule: the rule's rows, of arguments that are arrays of real numbers.
-/
module

public import proofs.«01_k».proof.Proof.GdnRows

@[expose] public section

set_option maxRecDepth 16384

noncomputable section

namespace Cert.GdnData

open Cert.GdnFwdKIdeal Idealize.ShloMosaic Idealize.ShloMosaic.TcCoe Idealize.SL.Sem
open Cert.Reals Cert.GdnMath
open Cert.GdnFwdKIdeal.Item (len qs lgs sp)

/-- The arguments: queries, keys and values side by side, the projection with the two gates in its last columns, the decays' logarithms and their offsets. -/
structure Data where
  X : S4096x1536.Idx → ℝ
  P : S4096x3080.Idx → ℝ
  A : S4.Idx → ℝ
  D : S4.Idx → ℝ

variable (p : Data)

/-- Part `w` of the first argument, queries, keys or values: row `s` of head `h`. -/
def raw (w : Fin 3) (h : Fin 4) (s : Fin 4096) (a : Fin 128) : ℝ := p.X (ix2 s ⟨512 * w.val + 128 * h.val + a.val, by omega⟩)
/-- A function of a row, continued by zero. -/
def ext {α : Type*} [Zero α] (f : Fin 4096 → α) (n : ℕ) : α := if h : n < 4096 then f ⟨n, h⟩ else 0
theorem ext_of {α : Type*} [Zero α] (f : Fin 4096 → α) (s : Fin 4096) : ext f s.val = f s := dif_pos s.isLt

def qf (h : Fin 4) (s : Fin 4096) (a : Fin 128) : ℝ := raw p 0 h s a * (√(len (raw p 0 h s)))⁻¹ * qs
def kf (h : Fin 4) (s : Fin 4096) (a : Fin 128) : ℝ := raw p 1 h s a * (√(len (raw p 1 h s)))⁻¹
def gf (h : Fin 4) (s : Fin 4096) : ℝ := (0 - Real.exp (p.A (ix1 h))) * sp (p.P (ix2 s ⟨3076 + h.val, by omega⟩) + p.D (ix1 h))
def bf (h : Fin 4) (s : Fin 4096) : ℝ := lgs (p.P (ix2 s ⟨3072 + h.val, by omega⟩))

/-- Head `h` after `n` rows, and row `n` of its result. -/
def stateAt (h : Fin 4) (n : ℕ) : Fin 128 → Fin 128 → ℝ := after (ext (kf p h)) (ext (raw p 2 h)) (ext (gf p h)) (ext (bf p h)) 0 (fun _ _ => 0) n
def outAt (h : Fin 4) (n : ℕ) : Fin 128 → ℝ := out (ext (qf p h)) (ext (kf p h)) (ext (raw p 2 h)) (ext (gf p h)) (ext (bf p h)) 0 (fun _ _ => 0) n
/-- The result: the heads side by side. -/
def result (i : S4096x512.Idx) : ℝ := outAt p ⟨(i 1).val / 128, by have h : (i 1).val < 512 := (i 1).isLt; omega⟩ (i 0).val ⟨(i 1).val % 128, Nat.mod_lt _ (by norm_num)⟩

theorem stateAt_add (h : Fin 4) (m n : ℕ) :
    after (ext (kf p h)) (ext (raw p 2 h)) (ext (gf p h)) (ext (bf p h)) m (stateAt p h m) n = stateAt p h (m + n) := by
  unfold stateAt
  rw [after_add, zero_add]
theorem outAt_add (h : Fin 4) (m n : ℕ) :
    out (ext (qf p h)) (ext (kf p h)) (ext (raw p 2 h)) (ext (gf p h)) (ext (bf p h)) m (stateAt p h m) n = outAt p h (m + n) := by
  unfold stateAt outAt
  rw [out_add, zero_add]

end Cert.GdnData

end
-- ==== Proof.GdnPoint.lean ====
/-
  The forward call of the gated delta rule: what one point of the grid leaves, by heads and halves of its 256 rows.
-/
module

public import proofs.«01_k».proof.Proof.GdnItem
public import Idealize.ShloMosaic.Lib.Pipeline.ReadBack

@[expose] public section

set_option maxRecDepth 16384

noncomputable section

namespace Cert.GdnFwdKIdeal.Point

open Cert.GdnFwdKIdeal Cert.GdnFwdKIdeal.Gen Idealize.ShloMosaic Idealize.ShloMosaic.TcCoe Idealize.SL.Sem
open Cert.GdnFwdKIdeal.Item (Sq)

variable {F : FTy → Type} [FloatOps F]

section Values
variable (xq xk xv : Vec F S256x512 .f32) (xb : Vec F S256x128 .f32) (al dt : Vec F S1x128 .f32) (s : Vec F S4x128x128 .f32)

theorem inside (i : Fin 2) (h : Fin 4) : ∀ a, (![128 * i.val, 128 * h.val] : Fin 2 → ℕ) a + (![128, 128] : Fin 2 → ℕ) a ≤ S256x512.size a := by
  revert i h; decide
theorem insideb (i : Fin 2) : ∀ a, (![128 * i.val, 0] : Fin 2 → ℕ) a + (![128, 128] : Fin 2 → ℕ) a ≤ S256x128.size a := by
  revert i; decide
theorem insides (h : Fin 4) : ∀ a, (![h.val, 0, 0] : Fin 3 → ℕ) a + (![1, 128, 128] : Fin 3 → ℕ) a ≤ S4x128x128.size a := by
  revert h; decide

/-- Half `i` of head `h`, half `i` of the gates' lanes, and head `h` of a state. -/
def sq (x : Vec F S256x512 .f32) (i : Fin 2) (h : Fin 4) : Sq F := View.ld x (Rect.unit ![128 * i.val, 128 * h.val] ![128, 128] (inside i h))
def ba (i : Fin 2) : Sq F := shapeCast S128x128 (View.ld xb (Rect.unit ![128 * i.val, 0] ![128, 128] (insideb i))) shapeCasts_S128x128_S128x128
def st (h : Fin 4) : Sq F := shapeCast S128x128 (View.ld s (Rect.unit ![h.val, 0, 0] ![1, 128, 128] (insides h))) shapeCasts_S1x128x128_S128x128
def vec (x : Vec F S1x128 .f32) : FVec F S1x128 .f32 := shapeCast S1x128 x shapeCasts_S1x128_S1x128

/-- The state of head `h` after half `i`, from the state `S` before it, and that half's rows of the result. -/
def next (i : Fin 2) (h : Fin 4) (S : Sq F) : Sq F :=
  Item.state (sq xk i h) (sq xv i h) (ba xb i) (vec al) (vec dt) (BitVec.ofNat 32 h.val) (BitVec.ofNat 32 (h.val + 4)) S
def rows (i : Fin 2) (h : Fin 4) (S : Sq F) : Sq F :=
  Item.outs (sq xq i h) (sq xk i h) (sq xv i h) (ba xb i) (vec al) (vec dt) (BitVec.ofNat 32 h.val) (BitVec.ofNat 32 (h.val + 4)) S

end Values

section Pieces
variable (m : (ℓ : Loc nD τ sig) → Buf (Elt Ideal) ℓ) (c : Dev nD) (t : Fin cfg0.N) (s : Vec Ideal S4x128x128 .f32)

/-- The state of a head between the halves of point `t`'s rows and after them, from the state `s` that the point finds, and the rows of the halves. -/
def s1 (h : Fin 4) : Sq Ideal := next (iblk m c 1 t) (iblk m c 2 t) (iblk m c 3 t) (iblk m c 4 t) (iblk m c 5 t) 0 h (st s h)
def s2 (h : Fin 4) : Sq Ideal := next (iblk m c 1 t) (iblk m c 2 t) (iblk m c 3 t) (iblk m c 4 t) (iblk m c 5 t) 1 h (s1 m c t s h)
def r1 (h : Fin 4) : Sq Ideal := rows (iblk m c 0 t) (iblk m c 1 t) (iblk m c 2 t) (iblk m c 3 t) (iblk m c 4 t) (iblk m c 5 t) 0 h (st s h)
def r2 (h : Fin 4) : Sq Ideal := rows (iblk m c 0 t) (iblk m c 1 t) (iblk m c 2 t) (iblk m c 3 t) (iblk m c 4 t) (iblk m c 5 t) 1 h (s1 m c t s h)
def lift (x : Sq Ideal) : FVec Ideal S1x128x128 .f32 := shapeCast S1x128x128 x shapeCasts_S128x128_S1x128x128

/-- What point `t` writes of the result, by halves and heads. -/
def pieces : List (View.Piece (Elt Ideal) S256x512 .f32) :=
  [⟨Rect.unit ![128, 384] ![128, 128] inb_S256x512_S128x128_128_384, r2 m c t s 3⟩, ⟨Rect.unit ![128, 256] ![128, 128] inb_S256x512_S128x128_128_256, r2 m c t s 2⟩,
   ⟨Rect.unit ![128, 128] ![128, 128] inb_S256x512_S128x128_128_128, r2 m c t s 1⟩, ⟨Rect.unit ![128, 0] ![128, 128] inb_S256x512_S128x128_128_0, r2 m c t s 0⟩,
   ⟨Rect.unit ![0, 384] ![128, 128] inb_S256x512_S128x128_0_384, r1 m c t s 3⟩, ⟨Rect.unit ![0, 256] ![128, 128] inb_S256x512_S128x128_0_256, r1 m c t s 2⟩,
   ⟨Rect.unit ![0, 128] ![128, 128] inb_S256x512_S128x128_0_128, r1 m c t s 1⟩, ⟨Rect.unit ![0, 0] ![128, 128] inb_S256x512_S128x128_0_0, r1 m c t s 0⟩]
/-- What it writes of the state, by heads. -/
def spieces (L : List (View.Piece (Elt Ideal) S4x128x128 .f32)) : List (View.Piece (Elt Ideal) S4x128x128 .f32) :=
  ⟨Rect.unit ![3, 0, 0] ![1, 128, 128] inb_S4x128x128_S1x128x128_3_0_0, lift (s2 m c t s 3)⟩ :: ⟨Rect.unit ![2, 0, 0] ![1, 128, 128] inb_S4x128x128_S1x128x128_2_0_0, lift (s2 m c t s 2)⟩ ::
  ⟨Rect.unit ![1, 0, 0] ![1, 128, 128] inb_S4x128x128_S1x128x128_1_0_0, lift (s2 m c t s 1)⟩ :: ⟨Rect.unit ![0, 0, 0] ![1, 128, 128] inb_S4x128x128_S1x128x128_0_0_0, lift (s2 m c t s 0)⟩ :: L

theorem list8 {α : Type*} {a b c d e f g h a' b' c' d' e' f' g' h' : α} (h1 : a = a') (h2 : b = b') (h3 : c = c') (h4 : d = d') (h5 : e = e') (h6 : f = f')
    (h7 : g = g') (h8 : h = h') : [a, b, c, d, e, f, g, h] = [a', b', c', d', e', f', g', h'] := by subst h1 h2 h3 h4 h5 h6 h7 h8; rfl
theorem list4 {α : Type*} {a b c d a' b' c' d' : α} (L : List α) (h1 : a = a') (h2 : b = b') (h3 : c = c') (h4 : d = d') : a :: b :: c :: d :: L = a' :: b' :: c' :: d' :: L := by
  subst h1 h2 h3 h4; rfl

/-- A load from the state after it is filled. -/
theorem fill (v : View sig .tc .vmem S4x128x128 .f32) (inb : ∀ a, (![0, 0, 0] : Fin 3 → ℕ) a + (![4, 128, 128] : Fin 3 → ℕ) a ≤ S4x128x128.size a) (z : Vec Ideal S4x128x128 .f32) (r : Rect S4x128x128) :
    v.readCov [(⟨Rect.unit ![0, 0, 0] ![4, 128, 128] inb, z⟩ : View.Piece (Elt Ideal) S4x128x128 .f32)] r.toLoadRect = View.ld z r :=
  View.readCov_fill v inb z [] r (by decide)

/-- The result's block and the state at the first point, and at a later one over the state that the point before left. -/
theorem rows_A (h : t.val % 16 = 0) : (outsAt0 m c t.val t.isLt).1 = View.canon (pieces m c t (k0_pay5 (F := Ideal))) := by
  rw [outsAt0_A m c t h]
  frame_out
  simp only [fill]
  unfold pieces
  refine congrArg View.canon (list8 ?_ ?_ ?_ ?_ ?_ ?_ ?_ ?_) <;> refine congrArg (Sigma.mk _) ?_ <;> sl_kernel_rfl
theorem state_A (h : t.val % 16 = 0) : (outsAt0 m c t.val t.isLt).2.2 =
    View.canon (spieces m c t (k0_pay5 (F := Ideal)) [⟨Rect.unit ![0, 0, 0] ![4, 128, 128] inb_S4x128x128_S4x128x128_0_0_0, k0_pay5 (F := Ideal)⟩]) := by
  rw [outsAt0_A m c t h]
  frame_out
  simp only [fill]
  unfold spieces
  refine congrArg View.canon (list4 _ ?_ ?_ ?_ ?_) <;> refine congrArg (Sigma.mk _) ?_ <;> sl_kernel_rfl
theorem rows_B (h : ¬ t.val % 16 = 0) (h' : t.val - 1 < cfg0.N) : (outsAt0 m c t.val t.isLt).1 = View.canon (pieces m c t (outsAt0 m c (t.val - 1) h').2.2) := by
  rw [outsAt0_B m c t h]
  frame_out
  simp only [read_unread_whole]
  unfold pieces
  refine congrArg View.canon (list8 ?_ ?_ ?_ ?_ ?_ ?_ ?_ ?_) <;> refine congrArg (Sigma.mk _) ?_ <;> sl_kernel_rfl
theorem state_B (h : ¬ t.val % 16 = 0) (h' : t.val - 1 < cfg0.N) : (outsAt0 m c t.val t.isLt).2.2 = View.canon (spieces m c t (outsAt0 m c (t.val - 1) h').2.2 []) := by
  rw [outsAt0_B m c t h]
  frame_out
  simp only [read_unread_whole]
  unfold spieces
  refine congrArg View.canon (list4 _ ?_ ?_ ?_ ?_) <;> refine congrArg (Sigma.mk _) ?_ <;> sl_kernel_rfl

end Pieces

end Cert.GdnFwdKIdeal.Point

end
-- ==== Proof.GdnArrays.lean ====
/-
  The forward call of the gated delta rule, on finite arguments: what it reads, block by block.
-/
module

public import proofs.«01_k».proof.Proof.GdnData
public import proofs.«01_k».proof.Proof.GdnPoint
public import proofs.«01_k».proof.Proof.Gen.GdnFwdKIdeal.Value
public import Idealize.ShloMosaic.Lib.Pipeline.Value
public import Idealize.ShloMosaic.Lib.Pipeline.ValueKit
public import Idealize.ShloMosaic.Lib.Tactic
public import Idealize.ShloMosaic.Lib.ValueLayout

@[expose] public section

set_option maxRecDepth 16384

noncomputable section

namespace Cert.GdnFwdKIdeal.Block

open Cert.GdnFwdKIdeal Cert.GdnFwdKIdeal.Gen Idealize.ShloMosaic Idealize.ShloMosaic.TcCoe Idealize.SL.Sem
open Cert.Reals Cert.GdnMath Cert.GdnData
open Cert.GdnFwdKIdeal.Item (Sq mat row)
open Idealize.ShloMosaic.Pipeline (Dat)

/-- The finite arguments, as the launch finds them. -/
structure Finite (m : (ℓ : Loc nD τ sig) → Buf (Elt Ideal) ℓ) (c : Dev nD) (p : Data) : Prop where
  h0 : m ((c : Thread nD τ).loc main_arg0) = up p.X
  h1 : m ((c : Thread nD τ).loc main_arg1) = up p.P
  h2 : m ((c : Thread nD τ).loc main_arg2) = up p.A
  h3 : m ((c : Thread nD τ).loc main_arg3) = up p.D

variable (p : Data)

/-- The projection with its columns padded by zeros, and a vector of four padded to a row. -/
def wide (j : S4096x3200.Idx) : ℝ := if h : (j 1).val < 3080 then p.P (ix2 (j 0) ⟨(j 1).val, h⟩) else 0
def lanes (v : S4.Idx → ℝ) (b : Fin 128) : ℝ := if h : b.val < 4 then v (ix1 ⟨b.val, h⟩) else 0

variable {m : (ℓ : Loc nD τ sig) → Buf (Elt Ideal) ℓ} {c : Dev nD} {p} (H : Finite m c p)

def padded (x : FVec Ideal S4 .f32) : FVec Ideal S1x128 .f32 :=
  shapeCast S1x128 (pad S128 ![0] ![124] ![0] x (sitofp (F := Ideal) .f32 (constantI S_ 32 0#32)) pads_S4_S128_01240 h_S_) shapeCasts_S128_S1x128
theorem padded_up (v : S4.Idx → ℝ) : padded (up v) = row (lanes v) := by
  unfold padded
  funext j
  obtain ⟨a, b, rfl⟩ := exists_ix2 j
  pointwise
  show _ = ((if h : b.val < 4 then v (ix1 ⟨b.val, h⟩) else 0 : ℝ) : EReal)
  split_ifs
  · rfl
  · exact sitofp_zero

include H

theorem V_made : V m c main_v0 = up (wide p) ∧ V m c main_v2 = row (lanes p.A) ∧ V m c main_v4 = row (lanes p.D) := by
  have e : ∀ (x1 : FVec Ideal S4096x3080 .f32) (x2 x3 : FVec Ideal S4 .f32),
      m ((c : Thread nD τ).loc main_arg1) = x1 → m ((c : Thread nD τ).loc main_arg2) = x2 → m ((c : Thread nD τ).loc main_arg3) = x3 →
      V m c main_v0 = pad S4096x3200 ![0, 0] ![0, 120] ![0, 0] x1 (sitofp (F := Ideal) .f32 (constantI S_ 32 0#32)) pads_S4096x3080_S4096x3200_000_01200 h_S_
      ∧ V m c main_v2 = padded x2 ∧ V m c main_v4 = padded x3 := by
    intro x1 x2 x3 h1 h2 h3
    subst h1 h2 h3
    unfold V padded
    simp only [hostOps0, List.flatten_cons, List.flatten_nil, List.append_nil, List.cons_append, List.nil_append]
    refine ⟨?_, ?_, ?_⟩
    all_goals
      entry_read
      rfl
  obtain ⟨e0, e1, e2⟩ := e _ _ _ H.h1 H.h2 H.h3
  refine ⟨e0.trans ?_, e1.trans (padded_up _), e2.trans (padded_up _)⟩
  funext j
  obtain ⟨a, b, rfl⟩ := exists_ix2 j
  pointwise
  show _ = ((if h : b.val < 3080 then p.P (ix2 a ⟨b.val, h⟩) else 0 : ℝ) : EReal)
  split_ifs
  · rfl
  · exact sitofp_zero

omit H

theorem idx0 : ∀ t : Fin cfg0.N, (win0_0.index t = ![t.val, 0] ∧ win0_1.index t = ![t.val, 1] ∧ win0_2.index t = ![t.val, 2] ∧ win0_3.index t = ![t.val, 24])
    ∧ (win0_4.index t = ![0, 0] ∧ win0_5.index t = ![0, 0] ∧ win0_6.index t = ![t.val, 0]) :=
  (by decide +kernel : ∀ t : Fin grid0.N, (win0_0.index t = ![t.val, 0] ∧ win0_1.index t = ![t.val, 1] ∧ win0_2.index t = ![t.val, 2] ∧ win0_3.index t = ![t.val, 24])
    ∧ (win0_4.index t = ![0, 0] ∧ win0_5.index t = ![0, 0] ∧ win0_6.index t = ![t.val, 0]))

/-- Row `r` of the block of point `t`. -/
def rowOf (t : Fin cfg0.N) (r : Fin 256) : Fin 4096 := ⟨256 * t.val + r.val, by have hN : t.val < 16 := lt_of_lt_of_eq t.isLt N_0; omega⟩
/-- Column `q` of part `w`. -/
def part (w : Fin 3) (q : Fin 512) : Fin 1536 := ⟨512 * w.val + q.val, by omega⟩

include H

theorem iblk0 (t : Fin cfg0.N) : iblk m c 0 t = up fun y : S256x512.Idx => p.X (ix2 (rowOf t (y 0)) (part 0 (y 1))) := by
  funext y
  have e := (idx0 t).1.1
  show V m c main_arg0 _ = _
  rw [V_main_arg0, H.h0]
  refine congrArg (fun i => ((p.X i : ℝ) : EReal)) (a₂ := ix2 (rowOf t (y 0)) (part 0 (y 1))) ?_
  blk_ext [rowOf, part, e]
theorem iblk1 (t : Fin cfg0.N) : iblk m c 1 t = up fun y : S256x512.Idx => p.X (ix2 (rowOf t (y 0)) (part 1 (y 1))) := by
  funext y
  have e := (idx0 t).1.2.1
  show V m c main_arg0 _ = _
  rw [V_main_arg0, H.h0]
  refine congrArg (fun i => ((p.X i : ℝ) : EReal)) (a₂ := ix2 (rowOf t (y 0)) (part 1 (y 1))) ?_
  blk_ext [rowOf, part, e]
theorem iblk2 (t : Fin cfg0.N) : iblk m c 2 t = up fun y : S256x512.Idx => p.X (ix2 (rowOf t (y 0)) (part 2 (y 1))) := by
  funext y
  have e := (idx0 t).1.2.2.1
  show V m c main_arg0 _ = _
  rw [V_main_arg0, H.h0]
  refine congrArg (fun i => ((p.X i : ℝ) : EReal)) (a₂ := ix2 (rowOf t (y 0)) (part 2 (y 1))) ?_
  blk_ext [rowOf, part, e]
theorem iblk3 (t : Fin cfg0.N) : iblk m c 3 t = up fun y : S256x128.Idx => wide p (ix2 (rowOf t (y 0)) ⟨3072 + (y 1).val, by have h : (y 1).val < 128 := (y 1).isLt; omega⟩) := by
  funext y
  have e := (idx0 t).1.2.2.2
  show V m c main_v0 _ = _
  rw [(V_made H).1]
  have hy : (y 1).val < 128 := (y 1).isLt
  refine congrArg (fun i => ((wide p i : ℝ) : EReal)) (a₂ := ix2 (rowOf t (y 0)) ⟨3072 + (y 1).val, by omega⟩) ?_
  blk_ext [rowOf, e]
theorem iblk4 (t : Fin cfg0.N) : iblk m c 4 t = row (lanes p.A) := by
  funext y
  have e := (idx0 t).2.1
  show V m c main_v2 _ = _
  rw [(V_made H).2.1]
  refine congrArg (fun i : S1x128.Idx => ((lanes p.A (i 1) : ℝ) : EReal)) (a₂ := y) ?_
  blk_ext [e]
theorem iblk5 (t : Fin cfg0.N) : iblk m c 5 t = row (lanes p.D) := by
  funext y
  have e := (idx0 t).2.2.1
  show V m c main_v4 _ = _
  rw [(V_made H).2.2]
  refine congrArg (fun i : S1x128.Idx => ((lanes p.D (i 1) : ℝ) : EReal)) (a₂ := y) ?_
  blk_ext [e]

omit H

/-! ## The squares of a half of the rows and a head -/

theorem sq_up (f : S256x512.Idx → ℝ) (i : Fin 2) (h : Fin 4) :
    Point.sq (F := Ideal) (up f) i h = mat fun a b => f (ix2 ⟨128 * i.val + a.val, by omega⟩ ⟨128 * h.val + b.val, by omega⟩) := by
  funext j
  obtain ⟨a, b, rfl⟩ := exists_ix2 j
  unfold Point.sq
  refine congrArg (fun i => ((f i : ℝ) : EReal)) ?_
  funext x
  fin_cases x <;> exact Fin.ext (Rect.idx_unit_val ..)
theorem ba_up (f : S256x128.Idx → ℝ) (i : Fin 2) :
    Point.ba (F := Ideal) (up f) i = mat fun a b => f (ix2 ⟨128 * i.val + a.val, by omega⟩ b) := by
  unfold Point.ba
  refine (shapeCast_self _ _).trans ?_
  funext j
  obtain ⟨a, b, rfl⟩ := exists_ix2 j
  refine congrArg (fun i => ((f i : ℝ) : EReal)) ?_
  funext x
  fin_cases x <;> refine Fin.ext ((Rect.idx_unit_val ..).trans ?_)
  · rfl
  · exact Nat.zero_add _
theorem vec_up (f : Fin 128 → ℝ) : Point.vec (F := Ideal) (row f) = row f := by
  unfold Point.vec
  rw [shapeCast_self]
theorem st_up (f : S4x128x128.Idx → ℝ) (h : Fin 4) : Point.st (F := Ideal) (up f) h = mat fun a b => f (ix3 h a b) := by
  funext j
  obtain ⟨a, b, rfl⟩ := exists_ix2 j
  unfold Point.st
  refine (ValueIdx.shapeCast_1ab_ab_apply _ _ a b).trans ?_
  refine congrArg (fun i => ((f i : ℝ) : EReal)) ?_
  funext x
  fin_cases x <;> refine Fin.ext ((Rect.idx_unit_val ..).trans ?_)
  · rfl
  · exact Nat.zero_add _
  · exact Nat.zero_add _

end Cert.GdnFwdKIdeal.Block

end
-- ==== Proof.GdnCarry.lean ====
/-
  The forward call of the gated delta rule, on finite arguments: what each grid point writes and what it hands to the next.
-/
module

public import proofs.«01_k».proof.Proof.GdnArrays

@[expose] public section

set_option maxRecDepth 16384

noncomputable section

namespace Cert.GdnFwdKIdeal.Block

open Cert.GdnFwdKIdeal Cert.GdnFwdKIdeal.Gen Idealize.ShloMosaic Idealize.ShloMosaic.TcCoe Idealize.SL.Sem
open Cert.Reals Cert.GdnMath Cert.GdnData
open Cert.GdnFwdKIdeal.Item (Sq mat row ku qu sp lgs)
open Idealize.ShloMosaic.Pipeline (Dat)

variable {m : (ℓ : Loc nD τ sig) → Buf (Elt Ideal) ℓ} {c : Dev nD} {p : Data} (H : Finite m c p) (t : Fin cfg0.N) (i : Fin 2) (h : Fin 4)

/-- Row `a` of half `i` of the block of point `t`. -/
def at' (a : Fin 128) : Fin 4096 := rowOf t ⟨128 * i.val + a.val, by omega⟩
theorem ext_at {α : Type*} [Zero α] (f : Fin 4096 → α) (a : Fin 128) : ext f (256 * t.val + 128 * i.val + a.val) = f (at' t i a) := by
  have hN : t.val < 16 := lt_of_lt_of_eq t.isLt N_0
  refine (dif_pos (by omega)).trans (congrArg f (Fin.ext ?_))
  show 256 * t.val + 128 * i.val + a.val = 256 * t.val + (128 * i.val + a.val)
  omega
theorem part_raw (w : Fin 3) (s : Fin 4096) (b : Fin 128) : p.X (ix2 s (part w ⟨128 * h.val + b.val, by omega⟩)) = raw p w h s b :=
  congrArg (fun q => p.X (ix2 s q)) (Fin.ext (by show 512 * w.val + (128 * h.val + b.val) = 512 * w.val + 128 * h.val + b.val; omega))

/-- The gates' lanes of a row. -/
def gates (a b : Fin 128) : ℝ := wide p (ix2 (at' t i a) ⟨3072 + b.val, by omega⟩)
theorem gates_beta (a : Fin 128) : bf p h (at' t i a) = lgs (gates (p := p) t i a ⟨h.val, by omega⟩) := by
  have e : gates (p := p) t i a ⟨h.val, by omega⟩ = p.P (ix2 (at' t i a) ⟨3072 + h.val, by omega⟩) := by
    unfold gates wide
    exact dif_pos (by show 3072 + h.val < 3080; omega)
  rw [e]
  rfl
theorem gates_decay (a : Fin 128) : gf p h (at' t i a) =
    (0 - Real.exp (lanes p.A ⟨h.val, by omega⟩)) * sp (gates (p := p) t i a ⟨h.val + 4, by omega⟩ + lanes p.D ⟨h.val, by omega⟩) := by
  have e : gates (p := p) t i a ⟨h.val + 4, by omega⟩ = p.P (ix2 (at' t i a) ⟨3076 + h.val, by omega⟩) := by
    unfold gates wide
    refine (dif_pos (by show 3072 + (h.val + 4) < 3080; omega)).trans ?_
    exact congrArg (fun q => p.P (ix2 (at' t i a) q)) (Fin.ext (by show 3072 + (h.val + 4) = 3076 + h.val; omega))
  have l : ∀ v : S4.Idx → ℝ, lanes v ⟨h.val, by omega⟩ = v (ix1 h) := fun v => dif_pos h.isLt
  rw [e, l, l]
  rfl

include H

theorem sq0 : Point.sq (iblk m c 0 t) i h = mat fun a => raw p 0 h (at' t i a) := by
  rw [iblk0 H]
  exact (sq_up _ _ _).trans (congrArg mat (funext fun a => funext fun b => part_raw h 0 _ b))
theorem sq1 : Point.sq (iblk m c 1 t) i h = mat fun a => raw p 1 h (at' t i a) := by
  rw [iblk1 H]
  exact (sq_up _ _ _).trans (congrArg mat (funext fun a => funext fun b => part_raw h 1 _ b))
theorem sq2 : Point.sq (iblk m c 2 t) i h = mat fun a => raw p 2 h (at' t i a) := by
  rw [iblk2 H]
  exact (sq_up _ _ _).trans (congrArg mat (funext fun a => funext fun b => part_raw h 2 _ b))
theorem ba3 : Point.ba (iblk m c 3 t) i = mat (gates (p := p) t i) := by
  rw [iblk3 H]
  exact ba_up _ _

theorem next_up : Point.next (iblk m c 1 t) (iblk m c 2 t) (iblk m c 3 t) (iblk m c 4 t) (iblk m c 5 t) i h (mat (stateAt p h (256 * t.val + 128 * i.val))) =
    mat (stateAt p h (256 * t.val + 128 * i.val + 128)) := by
  unfold Point.next
  rw [sq1 H, sq2 H, ba3 H, iblk4 H, iblk5 H, vec_up, vec_up]
  refine (Item.state_rows (l := ⟨h.val, by omega⟩) (l4 := ⟨h.val + 4, by omega⟩) (r := 256 * t.val + 128 * i.val)
    (k := ext (kf p h)) (v := ext (raw p 2 h)) (g := ext (gf p h)) (β := ext (bf p h)) ?_ ?_ ?_ ?_ _).trans ?_
  · intro a b; rw [ext_at]; rfl
  · intro a b; rw [ext_at]
  · intro a; rw [ext_at]; exact gates_decay t i h a
  · intro a; rw [ext_at]; exact gates_beta t i h a
  · refine congrArg mat (funext fun a => funext fun b => ?_)
    rw [last_eq, stateAt_add]
theorem rows_up : Point.rows (iblk m c 0 t) (iblk m c 1 t) (iblk m c 2 t) (iblk m c 3 t) (iblk m c 4 t) (iblk m c 5 t) i h (mat (stateAt p h (256 * t.val + 128 * i.val))) =
    mat fun a => outAt p h (256 * t.val + 128 * i.val + a.val) := by
  unfold Point.rows
  rw [sq0 H, sq1 H, sq2 H, ba3 H, iblk4 H, iblk5 H, vec_up, vec_up]
  refine (Item.outs_rows (l := ⟨h.val, by omega⟩) (l4 := ⟨h.val + 4, by omega⟩) (r := 256 * t.val + 128 * i.val)
    (q := ext (qf p h)) (k := ext (kf p h)) (v := ext (raw p 2 h)) (g := ext (gf p h)) (β := ext (bf p h)) ?_ ?_ ?_ ?_ ?_ _).trans ?_
  · intro a b; rw [ext_at]; rfl
  · intro a b; rw [ext_at]; rfl
  · intro a b; rw [ext_at]
  · intro a; rw [ext_at]; exact gates_decay t i h a
  · intro a; rw [ext_at]; exact gates_beta t i h a
  · refine congrArg mat (funext fun a => funext fun b => ?_)
    rw [outs_eq, outAt_add]

/-! ## A point's two halves, from the state it finds -/

omit H
/-- The state of the four heads after `n` rows. -/
def states (p : Data) (n : ℕ) : Vec Ideal S4x128x128 .f32 := up fun y : S4x128x128.Idx => stateAt p (y 0) n (y 1) (y 2)
theorem st_states (n : ℕ) : Point.st (states p n) h = mat (stateAt p h n) := st_up _ _
include H

theorem s1_up : Point.s1 m c t (states p (256 * t.val)) h = mat (stateAt p h (256 * t.val + 128)) := by
  unfold Point.s1
  rw [st_states]
  exact next_up H t 0 h
theorem s2_up : Point.s2 m c t (states p (256 * t.val)) h = mat (stateAt p h (256 * t.val + 128 + 128)) := by
  unfold Point.s2
  rw [s1_up H]
  exact next_up H t 1 h
theorem r1_up : Point.r1 m c t (states p (256 * t.val)) h = mat fun a => outAt p h (256 * t.val + 128 * (0 : Fin 2).val + a.val) := by
  unfold Point.r1
  rw [st_states]
  exact rows_up H t 0 h
theorem r2_up : Point.r2 m c t (states p (256 * t.val)) h = mat fun a => outAt p h (256 * t.val + 128 * (1 : Fin 2).val + a.val) := by
  unfold Point.r2
  rw [s1_up H]
  exact rows_up H t 1 h

omit H

/-- The result's block of point `t`. -/
def outBlk (p : Data) : Vec Ideal S256x512 .f32 := fun y =>
  ((outAt p ⟨(y 1).val / 128, by have h : (y 1).val < 512 := (y 1).isLt; omega⟩ (256 * t.val + (y 0).val) ⟨(y 1).val % 128, Nat.mod_lt _ (by norm_num)⟩ : ℝ) : EReal)

theorem piece_row (o0 o1 : ℕ) (inb) (e0 : o0 = 128 * i.val) (e1 : o1 = 128 * h.val) (x : S128x128.Idx) :
    (mat (fun a => outAt p h (256 * t.val + 128 * i.val + a.val)) : Sq Ideal) x = outBlk t p ((Rect.unit (s := S256x512) ![o0, o1] ![128, 128] inb).emb x) := by
  subst e0 e1
  obtain ⟨a, b, rfl⟩ := exists_ix2 x
  have v0 : ((Rect.unit (s := S256x512) ![128 * i.val, 128 * h.val] ![128, 128] inb).emb (ix2 a b) 0).val = 128 * i.val + a.val := Rect.idx_unit_val ..
  have v1 : ((Rect.unit (s := S256x512) ![128 * i.val, 128 * h.val] ![128, 128] inb).emb (ix2 a b) 1).val = 128 * h.val + b.val := Rect.idx_unit_val ..
  unfold outBlk
  have w : ∀ (h' : Fin 4) (n : ℕ) (b' : Fin 128), h'.val = h.val → n = 256 * t.val + 128 * i.val + a.val → b'.val = b.val →
      ((outAt p h (256 * t.val + 128 * i.val + a.val) b : ℝ) : EReal) = ((outAt p h' n b' : ℝ) : EReal) := by
    intro h' n b' e1 e2 e3
    rw [Fin.ext e1, e2, Fin.ext e3]
  refine w _ _ _ ?_ ?_ ?_
  · show _ / 128 = _
    rw [v1]; omega
  · rw [v0]; omega
  · show _ % 128 = _
    rw [v1]; omega

theorem piece_state (n : ℕ) (o : ℕ) (inb) (e : o = h.val) (x : S1x128x128.Idx) :
    Point.lift (mat (stateAt p h n)) x = states p n ((Rect.unit (s := S4x128x128) ![o, 0, 0] ![1, 128, 128] inb).emb x) := by
  subst e
  obtain ⟨u, a, b, rfl⟩ : ∃ (u : Fin 1) (a b : Fin 128), x = ix3 u a b := ⟨x 0, x 1, x 2, by funext q; fin_cases q <;> rfl⟩
  obtain rfl : u = 0 := Subsingleton.elim _ _
  refine (ValueIdx.shapeCast_ab_1ab_apply _ _ 0 a b).trans ?_
  have w : ∀ (h' : Fin 4) (a' b' : Fin 128), h'.val = h.val → a'.val = a.val → b'.val = b.val →
      ((stateAt p h n a b : ℝ) : EReal) = ((stateAt p h' n a' b' : ℝ) : EReal) := by
    intro h' a' b' e1 e2 e3
    rw [Fin.ext e1, Fin.ext e2, Fin.ext e3]
  refine w _ _ _ ((Rect.idx_unit_val ..).trans ?_) ((Rect.idx_unit_val ..).trans ?_) ((Rect.idx_unit_val ..).trans ?_)
  · exact Nat.add_zero _
  · exact Nat.zero_add _
  · exact Nat.zero_add _

theorem in_rows (o0 o1 : ℕ) (inb) (y : S256x512.Idx) (h0 : o0 ≤ (y 0).val ∧ (y 0).val < o0 + 128) (h1 : o1 ≤ (y 1).val ∧ (y 1).val < o1 + 128) :
    y ∈ (Rect.unit (s := S256x512) ![o0, o1] ![128, 128] inb).set :=
  Rect.mem_set_unit.mpr fun a => match a with | ⟨0, _⟩ => h0 | ⟨1, _⟩ => h1
theorem in_state (o : ℕ) (inb) (y : S4x128x128.Idx) (h0 : (y 0).val = o) : y ∈ (Rect.unit (s := S4x128x128) ![o, 0, 0] ![1, 128, 128] inb).set := by
  have h1 : (y 1).val < 128 := (y 1).isLt
  have h2 : (y 2).val < 128 := (y 2).isLt
  refine Rect.mem_set_unit.mpr fun a => match a with | ⟨0, _⟩ => ?_ | ⟨1, _⟩ => ?_ | ⟨2, _⟩ => ?_
  · show o ≤ (y 0).val ∧ (y 0).val < o + 1; omega
  · show 0 ≤ (y 1).val ∧ (y 1).val < 0 + 128; omega
  · show 0 ≤ (y 2).val ∧ (y 2).val < 0 + 128; omega

include H

theorem canon_rows : View.canon (Point.pieces m c t (states p (256 * t.val))) = outBlk t p := by
  unfold Point.pieces
  simp only [r1_up H, r2_up H]
  funext y
  refine View.canon_append_of_piecesOf (outBlk t p) [] [_, _, _, _, _, _, _, _] ⟨?_, ?_, ?_, ?_, ?_, ?_, ?_, ?_, trivial⟩ y ?_
  · exact piece_row t 1 3 128 384 inb_S256x512_S128x128_128_384 rfl rfl
  · exact piece_row t 1 2 128 256 inb_S256x512_S128x128_128_256 rfl rfl
  · exact piece_row t 1 1 128 128 inb_S256x512_S128x128_128_128 rfl rfl
  · exact piece_row t 1 0 128 0 inb_S256x512_S128x128_128_0 rfl rfl
  · exact piece_row t 0 3 0 384 inb_S256x512_S128x128_0_384 rfl rfl
  · exact piece_row t 0 2 0 256 inb_S256x512_S128x128_0_256 rfl rfl
  · exact piece_row t 0 1 0 128 inb_S256x512_S128x128_0_128 rfl rfl
  · exact piece_row t 0 0 0 0 inb_S256x512_S128x128_0_0 rfl rfl
  · have y0 : (y 0).val < 256 := (y 0).isLt
    have y1 : (y 1).val < 512 := (y 1).isLt
    simp only [List.exists_mem_cons_iff]
    have c0 : (y 0).val < 128 ∨ 128 ≤ (y 0).val := by omega
    have c1 : (y 1).val < 128 ∨ (128 ≤ (y 1).val ∧ (y 1).val < 256) ∨ (256 ≤ (y 1).val ∧ (y 1).val < 384) ∨ 384 ≤ (y 1).val := by omega
    rcases c0 with c0 | c0 <;> rcases c1 with c1 | c1 | c1 | c1 <;>
      repeat' (first | exact Or.inl (in_rows _ _ _ y (by omega) (by omega)) | apply Or.inr)
theorem canon_state (L) : View.canon (Point.spieces m c t (states p (256 * t.val)) L) = states p (256 * (t.val + 1)) := by
  unfold Point.spieces
  simp only [s2_up H]
  rw [show 256 * t.val + 128 + 128 = 256 * (t.val + 1) by omega]
  funext y
  refine View.canon_append_of_piecesOf (states p (256 * (t.val + 1))) L [_, _, _, _] ⟨?_, ?_, ?_, ?_, trivial⟩ y ?_
  · exact piece_state 3 _ 3 inb_S4x128x128_S1x128x128_3_0_0 rfl
  · exact piece_state 2 _ 2 inb_S4x128x128_S1x128x128_2_0_0 rfl
  · exact piece_state 1 _ 1 inb_S4x128x128_S1x128x128_1_0_0 rfl
  · exact piece_state 0 _ 0 inb_S4x128x128_S1x128x128_0_0_0 rfl
  · have y0 : (y 0).val < 4 := (y 0).isLt
    simp only [List.exists_mem_cons_iff]
    have c0 : (y 0).val = 0 ∨ (y 0).val = 1 ∨ (y 0).val = 2 ∨ (y 0).val = 3 := by omega
    rcases c0 with c0 | c0 | c0 | c0 <;> repeat' (first | exact Or.inl (in_state _ _ y (by omega)) | apply Or.inr)

omit H
theorem zeros : k0_pay5 (F := Ideal) = states p 0 := by
  funext j
  exact lit_zero
include H

/-- After every point the scratch holds the state after its rows. -/
theorem carried (n : ℕ) (hn : n < cfg0.N) : (outsAt0 m c n hn).2.2 = states p (256 * (n + 1)) := by
  induction n with
  | zero =>
    refine (Point.state_A m c ⟨0, hn⟩ rfl).trans ?_
    rw [zeros (p := p)]
    exact canon_state H ⟨0, hn⟩ _
  | succ n ih =>
    have ht : n + 1 < 16 := lt_of_lt_of_eq hn N_0
    refine (Point.state_B m c ⟨n + 1, hn⟩ (by show ¬ (n + 1) % 16 = 0; omega) (by show n + 1 - 1 < _; omega)).trans ?_
    rw [show (outsAt0 m c ((⟨n + 1, hn⟩ : Fin cfg0.N).val - 1) _).2.2 = states p (256 * (n + 1)) from ih (by omega)]
    exact canon_state H ⟨n + 1, hn⟩ _

/-- Every point writes its rows of the result. -/
theorem written : (outsAt0 m c t.val t.isLt).1 = outBlk t p := by
  have ht : t.val < 16 := lt_of_lt_of_eq t.isLt N_0
  by_cases h0 : t.val % 16 = 0
  · refine (Point.rows_A m c t h0).trans ?_
    have e : k0_pay5 (F := Ideal) = states p (256 * t.val) := by rw [show t.val = 0 by omega]; exact zeros
    rw [e]
    exact canon_rows H t
  · refine (Point.rows_B m c t h0 (by omega)).trans ?_
    rw [carried H (t.val - 1) (by omega), show 256 * (t.val - 1 + 1) = 256 * t.val by omega]
    exact canon_rows H t

theorem final_o : (dats m 0 c).arrAt 6 cfg0.N = up (result p) := by
  refine (dats m 0 c).arrAt_eq_of_covers 6 _ (by decide +kernel) fun t hf y => ?_
  blk_simp
  rw [after0_6]
  refine (congrFun (written H t) y).trans ?_
  have e := (idx0 t).2.2.2
  have hy : (y 1).val < 512 := (y 1).isLt
  refine congrArg (fun i => ((result p i : ℝ) : EReal)) (a₁ := ix2 (rowOf t (y 0)) (y 1)) ?_
  blk_ext [rowOf, e]

end Cert.GdnFwdKIdeal.Block

end
-- ==== Proof.GdnRef.lean ====
/-
  The forward call of the gated delta rule: the reference, row after row, on finite arguments.
-/
module

public import proofs.«01_k».proof.Proof.GdnData
public import proofs.«01_k».proof.Proof.Gen.GdnFwdRIdeal.Step
public import Idealize.ShloMosaic.Lib.Pipeline.Value
public import Idealize.ShloMosaic.Lib.Pipeline.ValueKit
public import Idealize.ShloMosaic.Lib.Tactic
public import Idealize.ShloMosaic.Lib.DynamicIndex
public import Idealize.ShloMosaic.Lib.WordCmp
public import Idealize.ShloMosaic.Lib.ValueLayout

@[expose] public section

set_option maxRecDepth 16384

noncomputable section

namespace Cert.GdnFwdRIdeal.Rows

open Cert.GdnFwdRIdeal Cert.GdnFwdRIdeal.Gen Cert.GdnFwdRIdeal.Step Idealize.ShloMosaic Idealize.ShloMosaic.TcCoe Idealize.SL.Sem
open Cert.Reals Cert.GdnMath Cert.GdnData
open Cert.GdnFwdKIdeal.Item (len len_pos qs lgs sp ite_up abs_up lit_qs)

variable (p : Data)

/-- A function of a head, a row and a column, as an array, and one of a head and a row. -/
abbrev arr3 (f : Fin 4 → Fin 4096 → Fin 128 → ℝ) : FVec Ideal S4096x4x128 .f32 := up fun j : S4096x4x128.Idx => f (j 1) (j 0) (j 2)
abbrev arr2 (f : Fin 4 → Fin 4096 → ℝ) : FVec Ideal S4096x4 .f32 := up fun j : S4096x4.Idx => f (j 1) (j 0)

/-- The logistic function, spelt out. -/
theorem logistic_host (v : ℝ) : Ideal.div 1 (1 + Ideal.exp (-((v : ℝ) : EReal))) = ((lgs v : ℝ) : EReal) := by
  rw [← EReal.coe_neg, Ideal.exp_coe, ← EReal.coe_one, add_up, div_up (by positivity : (1 : ℝ) + Real.exp (-v) ≠ 0), one_div]
  rfl

theorem raw_up : A_main_v19 (F := Ideal) (up p.X) (up p.P) (up p.A) (up p.D) = arr3 (raw p 0) ∧ A_main_v21 (F := Ideal) (up p.X) (up p.P) (up p.A) (up p.D) = arr3 (raw p 1)
    ∧ A_main_v23 (F := Ideal) (up p.X) (up p.P) (up p.A) (up p.D) = arr3 (raw p 2) := by
  refine ⟨?_, ?_, ?_⟩
  all_goals
    funext j
    obtain ⟨s, h, a, rfl⟩ : ∃ (s : Fin 4096) (h : Fin 4) (a : Fin 128), j = ix3 s h a := ⟨j 0, j 1, j 2, by funext q; fin_cases q <;> rfl⟩
    pointwise [A_main_v19, A_main_v21, A_main_v23, A_main_v18, A_main_v20, A_main_v22, A_main_v0]
    refine congrArg (fun q => ((p.X (ix2 s q) : ℝ) : EReal)) (Fin.ext ?_)
    show _ = 512 * _ + 128 * h.val + a.val
    simp only [Fin.val_zero, Fin.val_one, Fin.val_two]
    omega

theorem q_up : A_main_v33 (F := Ideal) (up p.X) (up p.P) (up p.A) (up p.D) = arr3 (qf p) := by
  funext j
  obtain ⟨s, h, a, rfl⟩ : ∃ (s : Fin 4096) (h : Fin 4) (a : Fin 128), j = ix3 s h a := ⟨j 0, j 1, j 2, by funext q; fin_cases q <;> rfl⟩
  pointwise [A_main_v33, A_main_v31, A_main_v30, A_main_v29, A_main_v28, A_main_v26, A_main_v25, A_main_v24, K_main_v32, K_main_cst_3, K_main_v27, K_main_cst_2, K_main_cst_1]
  simp only [(raw_up p).1, up_apply, mul_up, sum_up, zero_add, lit_eps, add_up, lit_qs]
  show ((raw p 0 h s a : ℝ) : EReal) * Ideal.rsqrt ((len (raw p 0 h s) : ℝ) : EReal) * ((qs : ℝ) : EReal) = ((qf p h s a : ℝ) : EReal)
  rw [rsqrt_up (len_pos _), mul_up, mul_up]
  rfl
theorem k_up : A_main_v41 (F := Ideal) (up p.X) (up p.P) (up p.A) (up p.D) = arr3 (kf p) := by
  funext j
  obtain ⟨s, h, a, rfl⟩ : ∃ (s : Fin 4096) (h : Fin 4) (a : Fin 128), j = ix3 s h a := ⟨j 0, j 1, j 2, by funext q; fin_cases q <;> rfl⟩
  pointwise [A_main_v41, A_main_v40, A_main_v39, A_main_v38, A_main_v36, A_main_v35, A_main_v34, K_main_v37, K_main_cst_5, K_main_cst_4]
  simp only [(raw_up p).2.1, up_apply, mul_up, sum_up, zero_add, lit_eps, add_up]
  show ((raw p 1 h s a : ℝ) : EReal) * Ideal.rsqrt ((len (raw p 1 h s) : ℝ) : EReal) = ((kf p h s a : ℝ) : EReal)
  rw [rsqrt_up (len_pos _), mul_up]
  rfl
theorem beta_up : A_main_v7 (F := Ideal) (up p.X) (up p.P) (up p.A) (up p.D) = arr2 (bf p) := by
  funext j
  obtain ⟨s, h, rfl⟩ := exists_ix2 j
  pointwise [A_main_v7, A_main_v5, A_main_v3, A_main_v2, A_main_v1, K_main_v6, K_main_v4, K_main_cst_0, K_main_cst]
  simp only [up_apply, logistic_host]
  rfl
theorem g_up : A_main_v17 (F := Ideal) (up p.X) (up p.P) (up p.A) (up p.D) = arr2 (gf p) := by
  funext j
  obtain ⟨s, h, rfl⟩ := exists_ix2 j
  pointwise [A_main_v17, A_main_v16, A_main_v15, A_main_v14, A_main_v9, A_main_v8, A_main_call0_v11, A_main_call0_v10, A_main_call0_v9, A_main_call0_v8, A_main_call0_v7,
    A_main_call0_v6, A_main_call0_v4, A_main_call0_v3, A_main_call0_v1, A_main_v13, A_main_v12, A_main_v11, A_main_v10, K_main_call0_v5, K_main_call0_v2, K_main_call0_v0, K_main_call0_cst]
  simp only [up_apply, ← EReal.coe_zero, abs_up, sub_up, add_up, neg_up, Ideal.exp_coe, max_up, Ideal.log1p]
  refine (congrArg (fun x => _ * x) (if_neg (fun e => e rfl))).trans ?_
  rw [← EReal.coe_one, add_up, Ideal.log_coe, if_neg (not_le.mpr (by positivity)), add_up, mul_up]
  refine congrArg (fun r : ℝ => (r : EReal)) ?_
  show _ = (0 - Real.exp (p.A (ix1 h))) * sp (p.P (ix2 s ⟨3076 + h.val, by omega⟩) + p.D (ix1 h))
  unfold sp
  rw [zero_sub, zero_sub]

/-! ## One row -/

/-- Before row `n` the loop holds the state, and the rows of the result up to there. -/
def model (n : ℕ) : State Ideal where
  main_v44_6 := up fun j : S4x128x128.Idx => stateAt p (j 0) n (j 1) (j 2)
  main_v44_7 := up fun j : S4096x4x128.Idx => if (j 0).val < n then outAt p (j 1) (j 0).val (j 2) else 0
  main_v44_0 := arr3 (qf p)
  main_v44_1 := arr3 (kf p)
  main_v44_2 := arr3 (raw p 2)
  main_v44_3 := arr2 (gf p)
  main_v44_4 := arr2 (bf p)

theorem init_up : init (F := Ideal) (up p.X) (up p.P) (up p.A) (up p.D) = model p 0 := by
  unfold init model
  rw [q_up, k_up, (raw_up p).2.2, g_up, beta_up]
  congr 1
  · funext j; pointwise [K_main_v42, K_main_cst_6]; rfl
  · funext j; pointwise [K_main_v43, K_main_cst_7]; simp; rfl

theorem slice3 (f : Fin 4 → Fin 4096 → Fin 128 → ℝ) (s : Fin 4096) (st : Fin 3 → Int) (e0 : st 0 = (s.val : Int)) (e1 : st 1 = 0) (e2 : st 2 = 0) :
    shapeCast S4x128 (Host.dynamicSlice S1x4x128 (arr3 f) st sliceFits_S4096x4x128_S1x4x128) shapeCasts_S1x4x128_S4x128 = up fun j : S4x128.Idx => f (j 0) s (j 1) := by
  rw [WordCmp.dynamicSlice_eq_extract S1x4x128 (arr3 f) st sliceFits_S4096x4x128_S1x4x128 ![s.val, 0, 0] ⟨rfl, fun a => by fin_cases a <;> simp <;> omega⟩
    (fun a => by fin_cases a; exacts [e0, e1, e2])]
  funext j
  obtain ⟨h, a, rfl⟩ := exists_ix2 j
  refine (ValueIdx.shapeCast_1ab_ab_apply _ _ h a).trans ?_
  pointwise
  rfl
theorem slice2 (f : Fin 4 → Fin 4096 → ℝ) (s : Fin 4096) (st : Fin 2 → Int) (e0 : st 0 = (s.val : Int)) (e1 : st 1 = 0) :
    shapeCast S4 (Host.dynamicSlice S1x4 (arr2 f) st sliceFits_S4096x4_S1x4) shapeCasts_S1x4_S4 = up fun j : S4.Idx => f (j 0) s := by
  rw [WordCmp.dynamicSlice_eq_extract S1x4 (arr2 f) st sliceFits_S4096x4_S1x4 ![s.val, 0] ⟨rfl, fun a => by fin_cases a <;> simp <;> omega⟩
    (fun a => by fin_cases a; exacts [e0, e1])]
  funext j
  pointwise
  rfl

section Row
variable (s : Fin 4096)

theorem word : ((BitVec.ofNat 32 s.val).toInt : Int) = (s.val : Int) := toInt_ofNat_of_lt (by omega)

theorem b3_up : b3 s.val (model p s.val) = up fun j : S4x128.Idx => qf p (j 0) s (j 1) := slice3 _ s _ (word s) rfl rfl
theorem b7_up : b7 s.val (model p s.val) = up fun j : S4x128.Idx => kf p (j 0) s (j 1) := slice3 _ s _ (word s) rfl rfl
theorem b11_up : b11 s.val (model p s.val) = up fun j : S4x128.Idx => raw p 2 (j 0) s (j 1) := slice3 _ s _ (word s) rfl rfl
theorem b14_up : b14 s.val (model p s.val) = up fun j : S4.Idx => gf p (j 0) s := slice2 _ s _ (word s) rfl
theorem b17_up : b17 s.val (model p s.val) = up fun j : S4.Idx => bf p (j 0) s := slice2 _ s _ (word s) rfl

theorem b21_up : b21 s.val (model p s.val) = up fun j : S4x128x128.Idx => Real.exp (gf p (j 0) s) * stateAt p (j 0) s.val (j 1) (j 2) := by
  funext j
  obtain ⟨h, a, b, rfl⟩ : ∃ (h : Fin 4) (a b : Fin 128), j = ix3 h a b := ⟨j 0, j 1, j 2, by funext q; fin_cases q <;> rfl⟩
  pointwise [b21, b20, b19, b18]
  simp only [b14_up, up_apply, Ideal.exp_coe]
  exact mul_up _ _
theorem b23_up : b23 s.val (model p s.val) = up fun j : S4x128.Idx => ∑ a, kf p (j 0) s a * (Real.exp (gf p (j 0) s) * stateAt p (j 0) s.val a (j 1)) := by
  unfold b23
  rw [b7_up, b21_up]
  funext j
  obtain ⟨h, a, rfl⟩ := exists_ix2 j
  pointwise
  simp only [up_apply, mul_up, sum_up, zero_add]
  rfl
theorem b26_up : b26 s.val (model p s.val) = up fun j : S4x128.Idx =>
    bf p (j 0) s * (raw p 2 (j 0) s (j 1) - ∑ a, kf p (j 0) s a * (Real.exp (gf p (j 0) s) * stateAt p (j 0) s.val a (j 1))) := by
  funext j
  obtain ⟨h, a, rfl⟩ := exists_ix2 j
  pointwise [b26, b25, b24, b22]
  simp only [b11_up, b17_up, b23_up, up_apply, sub_up, mul_up]
  rfl
theorem ext_row {α : Type*} [Zero α] (f : Fin 4096 → α) : ext f (0 + s.val) = f s := by rw [zero_add]; exact ext_of f s
theorem state_row (h : Fin 4) (a b : Fin 128) : stateAt p h (s.val + 1) a b = Real.exp (gf p h s) * stateAt p h s.val a b +
    kf p h s a * (bf p h s * (raw p 2 h s b - ∑ a, kf p h s a * (Real.exp (gf p h s) * stateAt p h s.val a b))) := by
  unfold stateAt
  rw [after]
  unfold next upd
  simp only [ext_row]
theorem b32_up : b32 s.val (model p s.val) = up fun j : S4x128x128.Idx => stateAt p (j 0) (s.val + 1) (j 1) (j 2) := by
  funext j
  obtain ⟨h, a, b, rfl⟩ : ∃ (h : Fin 4) (a b : Fin 128), j = ix3 h a b := ⟨j 0, j 1, j 2, by funext q; fin_cases q <;> rfl⟩
  pointwise [b32, b31, b30, b29, b28, b27]
  simp only [b7_up, b21_up, b26_up, up_apply, mul_up, add_up]
  exact congrArg (fun r : ℝ => (r : EReal)) (state_row p s h a b).symm
theorem b33_up : b33 s.val (model p s.val) = up fun j : S4x128.Idx => outAt p (j 0) s.val (j 1) := by
  unfold b33
  rw [b3_up, b32_up]
  funext j
  obtain ⟨h, a, rfl⟩ := exists_ix2 j
  pointwise
  simp only [up_apply, mul_up, sum_up, zero_add]
  refine congrArg (fun r : ℝ => (r : EReal)) ?_
  show _ = outAt p h s.val a
  unfold outAt out
  simp only [ext_row]
  rfl
theorem update3 (x : FVec Ideal S4096x4x128 .f32) (u : FVec Ideal S1x4x128 .f32) (st : Fin 3 → Int) (e0 : st 0 = (s.val : Int)) (e1 : st 1 = 0) (e2 : st 2 = 0)
    (hk : S4096x4x128.Slices ![s.val, 0, 0] S1x4x128) :
    Host.dynamicUpdateSlice x u st updateFits_S4096x4x128_S1x4x128 = updateSlice x u ![s.val, 0, 0] hk :=
  WordCmp.dynamicUpdateSlice_eq_update x u st updateFits_S4096x4x128_S1x4x128 ![s.val, 0, 0] hk (fun a => by fin_cases a; exacts [e0, e1, e2])
theorem b37_up : b37 s.val (model p s.val) = up fun j : S4096x4x128.Idx => if (j 0).val < s.val + 1 then outAt p (j 1) (j 0).val (j 2) else 0 := by
  refine (update3 s _ _ _ (word s) rfl rfl ⟨rfl, fun a => by fin_cases a <;> simp <;> omega⟩).trans ?_
  funext j
  obtain ⟨r, h, a, rfl⟩ : ∃ (r : Fin 4096) (h : Fin 4) (a : Fin 128), j = ix3 r h a := ⟨j 0, j 1, j 2, by funext q; fin_cases q <;> rfl⟩
  pointwise [b34]
  have e : b33 s.val (model p s.val) (ix2 h a) = ((outAt p h s.val a : ℝ) : EReal) := congrFun (b33_up p s) (ix2 h a)
  rw [e]
  simp only [model, up_apply]
  by_cases c : s.val ≤ r.val ∧ r.val < s.val + 1
  · have q : r.val = s.val := by omega
    rw [dif_pos c]
    simp [ix3, q]
  · rw [dif_neg c]
    by_cases l : r.val < s.val
    · simp [ix3, l, Nat.lt_succ_of_lt l]
    · have l' : ¬ r.val < s.val + 1 := by omega
      simp [ix3, l, l']

theorem step_up : step s.val (model p s.val) = model p (s.val + 1) := by
  unfold step
  rw [b32_up, b37_up]
  rfl

end Row

/-- The result: the heads side by side. -/
theorem result_up : R_main_v45 (F := Ideal) (model p 4096) = up (result p) := by
  unfold R_main_v45
  funext j
  obtain ⟨r, q, rfl⟩ := exists_ix2 j
  pointwise
  show ((if r.val < 4096 then _ else 0 : ℝ) : EReal) = _
  rw [if_pos r.isLt]
  rfl

end Cert.GdnFwdRIdeal.Rows

end
-- ==== Proof.GdnLoop.lean ====
/-
  The loop of the rule's reference: on finite arguments its buffers hold, before every trip, the rule's state and the
  rows written so far.
-/
module

public import proofs.«01_k».proof.Proof.GdnRef
public import proofs.«01_k».proof.Proof.Gen.GdnFwdRIdeal.Run

@[expose] public section

set_option maxRecDepth 16384

noncomputable section

namespace Cert.GdnFwdRIdeal.Loop

open Idealize.ShloMosaic Idealize.ShloMosaic.TcCoe Idealize.SL.Sem Idealize.ShloMosaic.StableHlo
open Cert.GdnFwdRIdeal Cert.GdnFwdRIdeal.Gen Cert.GdnFwdRIdeal.Value Cert.Reals
open Cert.GdnFwdRIdeal.Step (State step init R_main_v45)
open Cert.GdnFwdRIdeal.Rows (model step_up init_up result_up)
open Cert.GdnData (Data result)

section

variable {F : FTy → Type} [FloatOps F]

/-- The state that the loop's buffers hold. -/
def held (V : Valuation τ sig (Elt F)) : State F :=
  ⟨V (Proc.devRef .tc main_v44_6), V (Proc.devRef .tc main_v44_7), V (Proc.devRef .tc main_v44_0), V (Proc.devRef .tc main_v44_1),
    V (Proc.devRef .tc main_v44_2), V (Proc.devRef .tc main_v44_3), V (Proc.devRef .tc main_v44_4)⟩

/-- The loop's buffers hold the state `s`, and its counter the number `n`. -/
structure Holds (V : Valuation τ sig (Elt F)) (s : State F) (n : ℕ) : Prop where
  state : held V = s
  count : V (Proc.devRef .tc main_v44_5) = constantI S_ 32 (BitVec.ofNat 32 n)

variable {V : Valuation τ sig (Elt F)} {n : ℕ} (hn : V (Proc.devRef .tc main_v44_5) = constantI S_ 32 (BitVec.ofNat 32 n))
include hn

/-- The decayed state of one trip. -/
theorem decayed : res_main_while0b_v54 V = Step.b21 n (held V) := by
  unfold res_main_while0b_v54
  rw [hn]
  rfl

/-- The key of one trip. -/
theorem key : res_main_while0b_v47 V = Step.b7 n (held V) := by
  unfold res_main_while0b_v47
  rw [hn]
  rfl

/-- The state after one trip. -/
theorem next_state : step_main_v44_6 V = Step.b32 n (held V) := by
  unfold step_main_v44_6 res_main_while0b_v65
  rw [decayed hn, key hn, hn]
  rfl

/-- The rows written after one trip. -/
theorem next_rows : step_main_v44_7 V = Step.b37 n (held V) := by
  have e : res_main_while0b_v65 V = Step.b32 n (held V) := next_state hn
  unfold step_main_v44_7
  rw [e, hn]
  rfl

/-- One trip makes of the buffers the next state. -/
theorem held_step : held (STEP V) = step n (held V) := by
  unfold held
  rw [STEP_main_v44_6, STEP_main_v44_7, STEP_main_v44_0, STEP_main_v44_1, STEP_main_v44_2, STEP_main_v44_3, STEP_main_v44_4, next_state hn, next_rows hn]
  rfl

/-- One trip counts one up. -/
theorem count_step : STEP V (Proc.devRef .tc main_v44_5) = constantI S_ 32 (BitVec.ofNat 32 (n + 1)) := by
  rw [STEP_main_v44_5]
  unfold step_main_v44_5
  rw [hn]
  funext i
  show BitVec.ofNat 32 n + 1#32 = BitVec.ofNat 32 (n + 1)
  simp only [BitVec.ofNat_add]

end

section

variable {F : FTy → Type} [FloatOps F] (m : (ℓ : Loc nD τ sig) → Buf (Elt F) ℓ) (c : Dev nD)

set_option maxHeartbeats 2000000 in
/-- The loop starts from what the operations before it make of the arguments. -/
theorem entry_state : held (entryContents preI m c) = init (m ((c.tc : Thread nD τ).loc main_arg0)) (m ((c.tc : Thread nD τ).loc main_arg1))
    (m ((c.tc : Thread nD τ).loc main_arg2)) (m ((c.tc : Thread nD τ).loc main_arg3)) := by
  unfold held init
  congr 1 <;> (simp only [entryContents, afterL_cons, afterL_nil]; after_reads_simp) <;> rfl

/-- The counter starts at zero. -/
theorem entry_count : entryContents preI m c (Proc.devRef .tc main_v44_5) = constantI S_ 32 (BitVec.ofNat 32 0) := by
  (simp only [entryContents, afterL_cons, afterL_nil]; after_reads_simp) <;> rfl

end

variable (m : (ℓ : Loc nD τ sig) → Buf (Elt Ideal) ℓ) (ρ : Dev nD → PrngReg)

/-- On finite arguments the buffers hold the rule's rows after every trip. -/
theorem holds (p : Data) (c : Dev nD) (h0 : m ((c.tc : Thread nD τ).loc main_arg0) = up p.X) (h1 : m ((c.tc : Thread nD τ).loc main_arg1) = up p.P)
    (h2 : m ((c.tc : Thread nD τ).loc main_arg2) = up p.A) (h3 : m ((c.tc : Thread nD τ).loc main_arg3) = up p.D) (n : ℕ) (hn : n ≤ 4096) :
    Holds (STEP^[n] (entryContents preI m c)) (model p n) n := by
  induction n with
  | zero =>
    have e : init _ _ _ _ = model p 0 := (congr (congr (congr (congrArg init h0) h1) h2) h3).trans (init_up p)
    exact ⟨(entry_state m c).trans e, entry_count m c⟩
  | succ n ih =>
    have q := ih (by omega)
    rw [Function.iterate_succ_apply']
    exact ⟨(held_step q.count).trans ((congrArg (step n) q.state).trans (step_up p ⟨n, hn⟩)), count_step q.count⟩

/-- What the operations after the loop make of its buffers. -/
theorem out_eq (V : Valuation τ sig (Elt Ideal)) : out_main_v45 V = R_main_v45 (held V) := rfl

/-- On finite arguments the reference's result is the rule's. -/
theorem result_eq (p : Data) (c : Dev nD) (h0 : m ((c.tc : Thread nD τ).loc main_arg0) = up p.X) (h1 : m ((c.tc : Thread nD τ).loc main_arg1) = up p.P)
    (h2 : m ((c.tc : Thread nD τ).loc main_arg2) = up p.A) (h3 : m ((c.tc : Thread nD τ).loc main_arg3) = up p.D) (n : ℕ) (hn : n = 4096) :
    out_main_v45 (STEP^[n] (entryContents preI m c)) = up (result p) := by
  have h := (holds m p c h0 h1 h2 h3 n (le_of_eq hn)).state
  have q : R_main_v45 (model p n) = up (result p) := hn ▸ result_up p
  exact (out_eq _).trans ((congrArg R_main_v45 h).trans q)

end Cert.GdnFwdRIdeal.Loop

end
-- ==== Proof.GdnClaim.lean ====
/-
  The forward call of the gated delta rule: the claims.
-/
module

public import proofs.«01_k».proof.Defs
public import proofs.«01_k».proof.Proof.GdnCarry
public import proofs.«01_k».proof.Proof.GdnLoop
public import proofs.«01_k».proof.Proof.Gen.GdnFwdRIdeal.Run
public import proofs.«01_k».proof.Proof.Gen.GdnFwdK.Frame
public import proofs.«01_k».proof.Proof.Gen.GdnFwdKIdeal.Frame
public import proofs.«01_k».proof.Proof.Gen.Pre_finite_gdnfwd
public import Idealize.ShloMosaic.Lib.Claim
public import Idealize.ShloMosaic.Lib.Quiescent

@[expose] public section

set_option maxRecDepth 16384

noncomputable section

namespace Cert.GdnClaim

open Idealize.ShloMosaic Idealize.ShloMosaic.TcCoe Idealize.SL.Sem Cert.Reals
open Cert.GdnData (Data result)
open Cert.GdnFwdKIdeal.Block (Finite)

/-- The arguments that the precondition names are arrays of real numbers. -/
theorem finite (m : (ℓ : Loc Cert.GdnFwdKIdeal.nD Cert.GdnFwdKIdeal.τ Cert.GdnFwdKIdeal.sig) → Buf (Elt Ideal) ℓ)
    (h : Cert.Pre_GdnFwdKIdeal_finite_gdnfwd m) (c : Dev Cert.GdnFwdKIdeal.nD) : ∃ p : Data, Finite m c p := by
  obtain ⟨h0, h1, h2, h3⟩ := h c
  obtain ⟨X, hX⟩ := exists_up h0
  obtain ⟨P, hP⟩ := exists_up h1
  obtain ⟨A, hA⟩ := exists_up h2
  obtain ⟨D, hD⟩ := exists_up h3
  exact ⟨⟨X, P, A, D⟩, ⟨hX, hP, hA, hD⟩⟩

/-- On finite arguments the call's first result and the reference's are the same array. -/
theorem algebraic : Cert.algebraic_GdnFwdKIdeal_GdnFwdRIdeal_pre_finite_gdnfwd := by
  intro m g m' g' hpre hag
  choose p H using finite m hpre
  refine ⟨fun c => up (result (p c)), ?_, ?_⟩
  · refine (θ_run Cert.GdnFwdKIdeal.defs _ _).mono (fun _ h c => ?_) (Cert.GdnFwdKIdeal.Value.run_blocks (F := Ideal) m g)
    obtain ⟨r0, r1, rest⟩ := h c
    exact ⟨r0.trans (Cert.GdnFwdKIdeal.Block.final_o (H c)), rest⟩
  · refine (θ_run Cert.GdnFwdRIdeal.defs _ _).mono (fun _ h c => ?_) (Cert.GdnFwdRIdeal.Value.run (F := Ideal) m' g')
    obtain ⟨e0, e1, e2, e3⟩ := hag c
    obtain ⟨r0, rest⟩ := h c
    exact ⟨r0.trans (Cert.GdnFwdRIdeal.Loop.result_eq m' (p c) c (e0.trans (H c).h0) (e1.trans (H c).h1) (e2.trans (H c).h2) (e3.trans (H c).h3) 4096 rfl), rest⟩

/-- The reference terminates, keeps its arguments and has no semaphore to leave. -/
theorem frame_ref : Cert.quiescent_GdnFwdRIdeal := fun m g _ =>
  (θ_run Cert.GdnFwdRIdeal.defs _ _).mono (fun r h => ⟨fun c => (h c).2, sem_eq_zero_of_no_sems rfl r.2⟩)
    (Cert.GdnFwdRIdeal.Value.run (F := Ideal) m g)

end Cert.GdnClaim

end
-- ==== Proof.FwdRow.lean ====
/-
  A row under the modulated norm, over the extended reals.
-/
module

public import proofs.«01_k».proof.Proof.Reals

@[expose] public section

set_option maxRecDepth 16384

noncomputable section

namespace Cert.FwdRow

open Idealize.ShloMosaic

theorem zero_word : FloatOps.sitofp (F := Ideal) .f32 0#32 = (0 : EReal) := by
  show (((0#32 : BitVec 32).toInt : ℝ) : EReal) = _
  simp

/-- An entry of a row `f` over the square root of the mean of its squares. -/
def normed {n : Nat} (d : EReal) (f : Fin n → EReal) (k : Fin n) : EReal :=
  f k * Ideal.rsqrt (Ideal.div (∑ x, f x * f x) d + Ideal.ofBits FTy.f32 897988541#32)

/-- The norm of a row of 1024, weighted, scaled and shifted. -/
def modulated (f w s h : Fin 1024 → EReal) (k : Fin 1024) : EReal := normed (Ideal.ofBits FTy.f32 1149239296#32) f k * w k * (1 + s k) + h k

end Cert.FwdRow

end
-- ==== Proof.PfMath.lean ====
/-
  One block of the modulated norm and the input projection, forward, over the extended reals.
-/
module

public import proofs.«01_k».proof.Proof.FwdRow
public import proofs.«01_k».proof.Proof.Gen.ProjFwdKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.ProjFwdKIdeal.Block

open Cert.ProjFwdKIdeal Cert.ProjFwdKIdeal.Gen Idealize.ShloMosaic Idealize.ShloMosaic.TcCoe Idealize.SL.Sem
open Cert.Reals Cert.FwdRow

variable (X : FVec Ideal S512x1024 .f32) (n s h : FVec Ideal S1x1024 .f32) (W : FVec Ideal S1024x3200 .bf16)

theorem pay1_eq : k0_pay1 (F := Ideal) X n s h = fun j => modulated (fun k => X (ix2 (j 0) k)) (fun k => n (ix2 0 k)) (fun k => s (ix2 0 k)) (fun k => h (ix2 0 k)) (j 1) := by
  funext j
  obtain ⟨a, b, rfl⟩ := exists_ix2 j
  unfold k0_pay1
  pointwise
  rfl

theorem pay2_eq : k0_pay2 (F := Ideal) X n s h W = fun j => ∑ q : Fin 1024,
    modulated (fun k => X (ix2 (j 0) k)) (fun k => n (ix2 0 k)) (fun k => s (ix2 0 k)) (fun k => h (ix2 0 k)) q * W (ix2 q (j 1)) := by
  funext j
  obtain ⟨a, b, rfl⟩ := exists_ix2 j
  unfold k0_pay2
  rw [pay1_eq]
  pointwise

end Cert.ProjFwdKIdeal.Block

end
-- ==== Proof.PfArrays.lean ====
/-
  The modulated norm and the input projection, forward: what the call reads, block by block, and what its results hold.
-/
module

public import proofs.«01_k».proof.Proof.PfMath

@[expose] public section

set_option maxRecDepth 16384

noncomputable section

namespace Cert.ProjFwdKIdeal.Block

open Cert.ProjFwdKIdeal Cert.ProjFwdKIdeal.Gen Idealize.ShloMosaic Idealize.ShloMosaic.TcCoe Idealize.SL.Sem
open Cert.Reals Cert.FwdRow
open Idealize.ShloMosaic.Pipeline (Dat)

variable (m : (ℓ : Loc nD τ sig) → Buf (Elt Ideal) ℓ) (c : Dev nD)
variable (X : S4096x1024.Idx → EReal) (W C H : S1024.Idx → EReal) (A : S1024x3080.Idx → EReal)

/-- The norm's row `r`. -/
def hAt (r : Fin 4096) (k : Fin 1024) : EReal := modulated (fun k => X (ix2 r k)) (fun k => W (ix1 k)) (fun k => C (ix1 k)) (fun k => H (ix1 k)) k

/-- The matrix, with zeros after its 3080 columns. -/
def wide (i : S1024x3200.Idx) : EReal := if h : (i 1).val < 3080 then A (ix2 (i 0) ⟨(i 1).val, h⟩) else 0

/-- The projection: zero after its 3080 columns. -/
def projAt (i : S4096x3200.Idx) : EReal := ∑ q : Fin 1024, hAt X W C H (i 0) q * wide A (ix2 q (i 1))

theorem idx0 : ∀ t : Fin cfg0.N, (win0_0.index t = ![t.val, 0] ∧ win0_1.index t = ![0, 0] ∧ win0_2.index t = ![0, 0] ∧ win0_3.index t = ![0, 0] ∧ win0_4.index t = ![0, 0])
    ∧ win0_5.index t = ![t.val, 0] ∧ win0_6.index t = ![t.val, 0] :=
  (by decide +kernel : ∀ t : Fin grid0.N, (win0_0.index t = ![t.val, 0] ∧ win0_1.index t = ![0, 0] ∧ win0_2.index t = ![0, 0] ∧ win0_3.index t = ![0, 0] ∧ win0_4.index t = ![0, 0])
    ∧ win0_5.index t = ![t.val, 0] ∧ win0_6.index t = ![t.val, 0])

/-- Row `r` of block `t`, as a row of the array. -/
def row (t : Fin cfg0.N) (r : Fin 512) : Fin 4096 := ⟨t.val * 512 + r.val, by have h : t.val < 8 := lt_of_lt_of_eq t.isLt N_0; omega⟩

/-- The arguments, as the launch finds them. -/
structure Given : Prop where
  h0 : m ((c : Thread nD τ).loc main_arg0) = X
  h1 : m ((c : Thread nD τ).loc main_arg1) = W
  h2 : m ((c : Thread nD τ).loc main_arg2) = C
  h3 : m ((c : Thread nD τ).loc main_arg3) = H
  h4 : m ((c : Thread nD τ).loc main_arg4) = A

variable {m c X W C H A} (G : Given m c X W C H A)
include G

/-- What the region finds in the operands that the host makes. -/
theorem V_host : V m c main_v0 = (fun j : S1x1024.Idx => W (ix1 (j 1))) ∧ V m c main_v1 = (fun j : S1x1024.Idx => C (ix1 (j 1)))
    ∧ V m c main_v2 = (fun j : S1x1024.Idx => H (ix1 (j 1))) ∧ V m c main_v4 = wide A := by
  have e : ∀ (x1 x2 x3 : FVec Ideal S1024 .f32) (x4 : FVec Ideal S1024x3080 .f32),
      m ((c : Thread nD τ).loc main_arg1) = x1 → m ((c : Thread nD τ).loc main_arg2) = x2 → m ((c : Thread nD τ).loc main_arg3) = x3 →
      m ((c : Thread nD τ).loc main_arg4) = x4 →
      V m c main_v0 = shapeCast S1x1024 x1 shapeCasts_S1024_S1x1024 ∧ V m c main_v1 = shapeCast S1x1024 x2 shapeCasts_S1024_S1x1024
      ∧ V m c main_v2 = shapeCast S1x1024 x3 shapeCasts_S1024_S1x1024
      ∧ V m c main_v4 = truncf (F := Ideal) .bf16 (pad S1024x3200 ![0, 0] ![0, 120] ![0, 0] x4 (sitofp (F := Ideal) .f32 (constantI S_ 32 0#32)) pads_S1024x3080_S1024x3200_000_01200 h_S_) bitsLt_bf16_f32 := by
    intro x1 x2 x3 x4 h1 h2 h3 h4
    subst h1 h2 h3 h4
    unfold V
    simp only [hostOps0, hostOps0_1, hostOps0_2, List.flatten_cons, List.flatten_nil, List.append_nil, List.cons_append, List.nil_append]
    refine ⟨?_, ?_, ?_, ?_⟩
    all_goals
      entry_read
      rfl
  obtain ⟨e1, e2, e3, e4⟩ := e _ _ _ _ G.h1 G.h2 G.h3 G.h4
  refine ⟨e1.trans ?_, e2.trans ?_, e3.trans ?_, e4.trans ?_⟩
  · funext j; obtain ⟨a, b, rfl⟩ := exists_ix2 j; pointwise
  · funext j; obtain ⟨a, b, rfl⟩ := exists_ix2 j; pointwise
  · funext j; obtain ⟨a, b, rfl⟩ := exists_ix2 j; pointwise
  · funext j
    obtain ⟨a, b, rfl⟩ := exists_ix2 j
    pointwise
    show _ = if h : b.val < 3080 then A (ix2 a ⟨b.val, h⟩) else 0
    split_ifs
    · rfl
    · exact zero_word

theorem blk0 (t : Fin cfg0.N) : iblk m c 0 t = fun y : S512x1024.Idx => X (ix2 (row t (y 0)) (y 1)) := by
  funext y
  have e := (idx0 t).1.1
  show V m c main_arg0 _ = _
  rw [V_main_arg0, G.h0]
  refine congrArg X ?_
  blk_ext [row, e]

theorem blk1 (t : Fin cfg0.N) : iblk m c 1 t = fun y : S1x1024.Idx => W (ix1 (y 1)) := by
  funext y
  have e := (idx0 t).1.2.1
  show V m c main_v0 _ = _
  rw [(V_host G).1]
  refine congrArg (fun j : S1x1024.Idx => W (ix1 (j 1))) (a₂ := y) ?_
  blk_ext [e]

theorem blk2 (t : Fin cfg0.N) : iblk m c 2 t = fun y : S1x1024.Idx => C (ix1 (y 1)) := by
  funext y
  have e := (idx0 t).1.2.2.1
  show V m c main_v1 _ = _
  rw [(V_host G).2.1]
  refine congrArg (fun j : S1x1024.Idx => C (ix1 (j 1))) (a₂ := y) ?_
  blk_ext [e]

theorem blk3 (t : Fin cfg0.N) : iblk m c 3 t = fun y : S1x1024.Idx => H (ix1 (y 1)) := by
  funext y
  have e := (idx0 t).1.2.2.2.1
  show V m c main_v2 _ = _
  rw [(V_host G).2.2.1]
  refine congrArg (fun j : S1x1024.Idx => H (ix1 (j 1))) (a₂ := y) ?_
  blk_ext [e]

theorem blk4 (t : Fin cfg0.N) : iblk m c 4 t = wide A := by
  funext y
  have e := (idx0 t).1.2.2.2.2
  show V m c main_v4 _ = _
  rw [(V_host G).2.2.2]
  refine congrArg (wide A) ?_
  blk_ext [e]

/-- The first result: the projection. -/
theorem final_proj : (dats m 0 c).arrAt 5 cfg0.N = projAt X W C H A := by
  refine (dats m 0 c).arrAt_eq_of_covers 5 _ (by decide +kernel) fun t hf y => ?_
  blk_simp
  rw [after0_5]
  frame_out
  rw [blk0 G, blk1 G, blk2 G, blk3 G, blk4 G, pay2_eq]
  have e := (idx0 t).2.1
  refine congrArg (projAt X W C H A) (a₁ := ix2 (row t (y 0)) (y 1)) ?_
  blk_ext [row, e]

/-- The second result: the norm. -/
theorem final_h : (dats m 0 c).arrAt 6 cfg0.N = fun i : S4096x1024.Idx => hAt X W C H (i 0) (i 1) := by
  refine (dats m 0 c).arrAt_eq_of_covers 6 _ (by decide +kernel) fun t hf y => ?_
  blk_simp
  rw [after0_6]
  frame_out
  rw [blk0 G, blk1 G, blk2 G, blk3 G, pay1_eq]
  have e := (idx0 t).2.2
  refine congrArg (fun i : S4096x1024.Idx => hAt X W C H (i 0) (i 1)) (a₁ := ix2 (row t (y 0)) (y 1)) ?_
  blk_ext [row, e]

end Cert.ProjFwdKIdeal.Block

end
-- ==== Proof.PfRef.lean ====
/-
  The reference of the modulated norm and the input projection, stage by stage, over the extended reals.
-/
module

public import proofs.«01_k».proof.Proof.PfArrays
public import proofs.«01_k».proof.Proof.Gen.ProjFwdRIdeal.Read

@[expose] public section

set_option maxRecDepth 16384

noncomputable section

namespace Cert.ProjFwdRIdeal.Stages

open Cert.ProjFwdRIdeal Cert.ProjFwdRIdeal.Gen Cert.ProjFwdRIdeal.Read Idealize.ShloMosaic Idealize.ShloMosaic.TcCoe Idealize.SL.Sem
open Cert.Reals Cert.FwdRow
open Cert.ProjFwdKIdeal.Block (hAt wide projAt)

variable (X : S4096x1024.Idx → EReal) (W C H : S1024.Idx → EReal) (A : S1024x3080.Idx → EReal)

theorem v20_eq : val_main_v20 (F := Ideal) X W C H = fun i : S4096x1024.Idx => hAt X W C H (i 0) (i 1) := by
  funext i
  obtain ⟨a, b, rfl⟩ := exists_ix2 i
  pointwise [val_main_v20, val_main_v0, val_main_cst, val_main_v1, val_main_v2, val_main_cst_0, val_main_v3, val_main_v4, val_main_cst_1, val_main_v5, val_main_v6, val_main_v7, val_main_v8, val_main_v9, val_main_v10, val_main_v11, val_main_v12, val_main_cst_2, val_main_v13, val_main_v14, val_main_v15, val_main_v16, val_main_v17, val_main_v18, val_main_v19, val_main_c, val_main_call0_v0]
  rfl

theorem v22_eq : val_main_v22 (F := Ideal) X W C H A = projAt X W C H A := by
  funext i
  obtain ⟨a, b, rfl⟩ := exists_ix2 i
  pointwise [val_main_v22, val_main_v21, val_main_call0_v0, val_main_c]
  rw [v20_eq]
  show _ = ∑ q : Fin 1024, hAt X W C H a q * wide A (ix2 q b)
  by_cases h : b.val < 3080
  · rw [dif_pos h]
    exact Finset.sum_congr rfl fun q _ => congrArg₂ (· * ·) rfl (show wide A (ix2 q b) = _ from dif_pos h).symm
  · rw [dif_neg h]
    refine zero_word.trans (Finset.sum_eq_zero fun q _ => ?_).symm
    rw [show wide A (ix2 q b) = 0 from dif_neg h, mul_zero]

theorem v23_eq : val_main_v23 (F := Ideal) X W C H = fun i : S4096x1024.Idx => hAt X W C H (i 0) (i 1) := by
  funext i
  pointwise [val_main_v23]
  rw [v20_eq]

end Cert.ProjFwdRIdeal.Stages

end
-- ==== Proof.PfClaim.lean ====
/-
  The modulated norm and the input projection against the same lines in plain arrays: the claims.
-/
module

public import proofs.«01_k».proof.Defs
public import proofs.«01_k».proof.Proof.PfArrays
public import proofs.«01_k».proof.Proof.PfRef
public import proofs.«01_k».proof.Proof.Gen.ProjFwdRIdeal.Run
public import proofs.«01_k».proof.Proof.Gen.ProjFwdK.Frame
public import proofs.«01_k».proof.Proof.Gen.ProjFwdKIdeal.Frame
public import Idealize.ShloMosaic.Lib.Claim
public import Idealize.ShloMosaic.Lib.Quiescent

@[expose] public section

set_option maxRecDepth 16384

noncomputable section

namespace Cert.PfClaim

open Idealize.ShloMosaic Idealize.ShloMosaic.TcCoe Idealize.SL.Sem Cert.Reals
open Cert.ProjFwdKIdeal.Block (Given hAt projAt)

/-- The call and the reference end with the same projection and the same norm, whatever their arguments. -/
theorem algebraic : Cert.algebraic_ProjFwdKIdeal_ProjFwdRIdeal := by
  intro m g m' g' _ hag
  have H := fun c => (⟨rfl, rfl, rfl, rfl, rfl⟩ : Given m c _ _ _ _ _)
  apply Exists.intro; apply Exists.intro; constructor
  · refine (θ_run Cert.ProjFwdKIdeal.defs _ _).mono (fun _ h c => ?_) (Cert.ProjFwdKIdeal.Value.run_blocks (F := Ideal) m g)
    obtain ⟨r0, r1, rest⟩ := h c
    exact ⟨r0.trans (Cert.ProjFwdKIdeal.Block.final_proj (H c)), r1.trans (Cert.ProjFwdKIdeal.Block.final_h (H c)), rest⟩
  · refine (θ_run Cert.ProjFwdRIdeal.defs _ _).mono (fun _ h c => ?_) (Cert.ProjFwdRIdeal.Value.run (F := Ideal) m' g')
    obtain ⟨e0, e1, e2, e3, e4⟩ := hag c
    obtain ⟨r0, r1, rest⟩ := h c
    refine ⟨(r0.trans (Cert.ProjFwdRIdeal.Read.val_main_v22_eq ..)).trans ?_, (r1.trans (Cert.ProjFwdRIdeal.Read.val_main_v23_eq ..)).trans ?_, rest⟩
    · rw [e0, e1, e2, e3, e4]; exact Cert.ProjFwdRIdeal.Stages.v22_eq _ _ _ _ _
    · rw [e0, e1, e2, e3]; exact Cert.ProjFwdRIdeal.Stages.v23_eq _ _ _ _

/-- The reference terminates, keeps its arguments and has no semaphore to leave. -/
theorem frame_ref : Cert.quiescent_ProjFwdRIdeal := fun m g _ =>
  (θ_run Cert.ProjFwdRIdeal.defs _ _).mono (fun r h => ⟨fun c => (h c).2.2, sem_eq_zero_of_no_sems rfl r.2⟩)
    (Cert.ProjFwdRIdeal.Value.run (F := Ideal) m g)

end Cert.PfClaim

end
-- ==== Proof.MfMath.lean ====
/-
  One block of the squared-ReLU MLP, over the extended reals.
-/
module

public import proofs.«01_k».proof.Proof.FwdRow
public import proofs.«01_k».proof.Proof.Gen.MlpFwdKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.MlpFwdKIdeal.Block

open Cert.MlpFwdKIdeal Cert.MlpFwdKIdeal.Gen Idealize.ShloMosaic Idealize.ShloMosaic.TcCoe Idealize.SL.Sem
open Cert.Reals Cert.FwdRow

variable (X : FVec Ideal S256x1024 .f32) (n s h g : FVec Ideal S1x1024 .f32) (U : FVec Ideal S1024x4096 .bf16) (D : FVec Ideal S4096x1024 .bf16) (A : FVec Ideal S256x4096 .bf16)

/-- The square of the positive part. -/
def sqRelu (y : EReal) : EReal := max y 0 * max y 0

theorem pay3_eq : k0_pay3 (F := Ideal) X n s h U = fun j => sqRelu (∑ q : Fin 1024,
    modulated (fun k => X (ix2 (j 0) k)) (fun k => n (ix2 0 k)) (fun k => s (ix2 0 k)) (fun k => h (ix2 0 k)) q * U (ix2 q (j 1))) := by
  funext j
  obtain ⟨a, k, rfl⟩ := exists_ix2 j
  unfold k0_pay3
  pointwise
  rfl

theorem pay1_eq : k0_pay1 (F := Ideal) X (k0_pay2 g) A D = fun j => X j + g (ix2 0 (j 1)) * ∑ q : Fin 4096, A (ix2 (j 0) q) * D (ix2 q (j 1)) := by
  funext j
  obtain ⟨a, k, rfl⟩ := exists_ix2 j
  unfold k0_pay1 k0_pay2
  pointwise

end Cert.MlpFwdKIdeal.Block

end
-- ==== Proof.MfArrays.lean ====
/-
  The squared-ReLU MLP: what the call reads, block by block, and what its result holds.
-/
module

public import proofs.«01_k».proof.Proof.MfMath
public import Idealize.ShloMosaic.Lib.Pipeline.ReadBack

@[expose] public section

set_option maxRecDepth 16384

noncomputable section

namespace Cert.MlpFwdKIdeal.Block

open Cert.MlpFwdKIdeal Cert.MlpFwdKIdeal.Gen Idealize.ShloMosaic Idealize.ShloMosaic.TcCoe Idealize.SL.Sem
open Cert.Reals Cert.FwdRow
open Idealize.ShloMosaic.Pipeline (Dat)

variable (m : (ℓ : Loc nD τ sig) → Buf (Elt Ideal) ℓ) (c : Dev nD)
variable (X : S4096x1024.Idx → EReal) (n s h g : S1024.Idx → EReal) (U : S1024x4096.Idx → EReal) (D : S4096x1024.Idx → EReal)

/-- The activation at row `r`. -/
def actAt (r : Fin 4096) (k : Fin 4096) : EReal :=
  sqRelu (∑ q : Fin 1024, modulated (fun k => X (ix2 r k)) (fun k => n (ix1 k)) (fun k => s (ix1 k)) (fun k => h (ix1 k)) q * U (ix2 q k))

/-- The residual after the gated MLP. -/
def outAt (i : S4096x1024.Idx) : EReal := X i + g (ix1 (i 1)) * ∑ q : Fin 4096, actAt X n s h U (i 0) q * D (ix2 q (i 1))

theorem idx0 : ∀ t : Fin cfg0.N, (win0_0.index t = ![t.val, 0] ∧ win0_1.index t = ![0, 0] ∧ win0_2.index t = ![0, 0] ∧ win0_3.index t = ![0, 0] ∧ win0_4.index t = ![0, 0])
    ∧ win0_5.index t = ![t.val, 0] :=
  (by decide +kernel : ∀ t : Fin grid0.N, (win0_0.index t = ![t.val, 0] ∧ win0_1.index t = ![0, 0] ∧ win0_2.index t = ![0, 0] ∧ win0_3.index t = ![0, 0] ∧ win0_4.index t = ![0, 0])
    ∧ win0_5.index t = ![t.val, 0])

/-- Row `r` of block `t`, as a row of the array. -/
def row (t : Fin cfg0.N) (r : Fin 256) : Fin 4096 := ⟨t.val * 256 + r.val, by have h : t.val < 16 := lt_of_lt_of_eq t.isLt N_0; omega⟩

/-- The arguments, as the launch finds them. -/
structure Given : Prop where
  h0 : m ((c : Thread nD τ).loc main_arg0) = X
  h1 : m ((c : Thread nD τ).loc main_arg1) = n
  h2 : m ((c : Thread nD τ).loc main_arg2) = s
  h3 : m ((c : Thread nD τ).loc main_arg3) = h
  h4 : m ((c : Thread nD τ).loc main_arg4) = g
  h5 : m ((c : Thread nD τ).loc main_arg5) = U
  h6 : m ((c : Thread nD τ).loc main_arg6) = D

variable {m c X n s h g U D} (G : Given m c X n s h g U D)
include G

/-- What the region finds in the operands that the host makes. -/
theorem V_host : (V m c main_v0 = (fun j : S1x1024.Idx => n (ix1 (j 1))) ∧ V m c main_v1 = (fun j : S1x1024.Idx => s (ix1 (j 1))) ∧ V m c main_v2 = (fun j : S1x1024.Idx => h (ix1 (j 1))) ∧ V m c main_v3 = (fun j : S1x1024.Idx => g (ix1 (j 1)))) ∧ V m c main_v4 = U ∧ V m c main_v5 = D := by
  have e : ∀ (x1 x2 x3 x4 : FVec Ideal S1024 .f32) (x5 : FVec Ideal S1024x4096 .f32) (x6 : FVec Ideal S4096x1024 .f32),
      m ((c : Thread nD τ).loc main_arg1) = x1 → m ((c : Thread nD τ).loc main_arg2) = x2 → m ((c : Thread nD τ).loc main_arg3) = x3 →
      m ((c : Thread nD τ).loc main_arg4) = x4 → m ((c : Thread nD τ).loc main_arg5) = x5 → m ((c : Thread nD τ).loc main_arg6) = x6 →
      (V m c main_v0 = shapeCast S1x1024 x1 shapeCasts_S1024_S1x1024 ∧ V m c main_v1 = shapeCast S1x1024 x2 shapeCasts_S1024_S1x1024
      ∧ V m c main_v2 = shapeCast S1x1024 x3 shapeCasts_S1024_S1x1024 ∧ V m c main_v3 = shapeCast S1x1024 x4 shapeCasts_S1024_S1x1024)
      ∧ V m c main_v4 = truncf (F := Ideal) .bf16 x5 bitsLt_bf16_f32 ∧ V m c main_v5 = truncf (F := Ideal) .bf16 x6 bitsLt_bf16_f32 := by
    intro x1 x2 x3 x4 x5 x6 h1 h2 h3 h4 h5 h6
    subst h1 h2 h3 h4 h5 h6
    unfold V
    simp only [hostOps0, List.flatten_cons, List.flatten_nil, List.append_nil, List.cons_append, List.nil_append]
    refine ⟨⟨?_, ?_, ?_, ?_⟩, ?_, ?_⟩
    all_goals
      entry_read
      rfl
  obtain ⟨⟨e0, e1, e2, e3⟩, e4, e5⟩ := e _ _ _ _ _ _ G.h1 G.h2 G.h3 G.h4 G.h5 G.h6
  have v : ∀ f : FVec Ideal S1024 .f32, shapeCast S1x1024 f shapeCasts_S1024_S1x1024 = fun j : S1x1024.Idx => f (ix1 (j 1)) := by
    intro f
    funext j
    obtain ⟨a, b, rfl⟩ := exists_ix2 j
    pointwise
  refine ⟨⟨e0.trans (v _), e1.trans (v _), e2.trans (v _), e3.trans (v _)⟩, e4.trans ?_, e5.trans ?_⟩
  · funext j; pointwise
  · funext j; pointwise

theorem blk0 (t : Fin cfg0.N) : iblk m c 0 t = fun y : S256x1024.Idx => X (ix2 (row t (y 0)) (y 1)) := by
  funext y
  have e := (idx0 t).1.1
  show V m c main_arg0 _ = _
  rw [V_main_arg0, G.h0]
  refine congrArg X ?_
  blk_ext [row, e]

theorem blk1 (t : Fin cfg0.N) : iblk m c 1 t = fun y : S1x1024.Idx => n (ix1 (y 1)) := by
  funext y
  have e := (idx0 t).1.2.1
  show V m c main_v0 _ = _
  rw [(V_host G).1.1]
  refine congrArg (fun j : S1x1024.Idx => n (ix1 (j 1))) (a₂ := y) ?_
  blk_ext [e]

theorem blk2 (t : Fin cfg0.N) : iblk m c 2 t = fun y : S1x1024.Idx => s (ix1 (y 1)) := by
  funext y
  have e := (idx0 t).1.2.2.1
  show V m c main_v1 _ = _
  rw [(V_host G).1.2.1]
  refine congrArg (fun j : S1x1024.Idx => s (ix1 (j 1))) (a₂ := y) ?_
  blk_ext [e]

theorem blk3 (t : Fin cfg0.N) : iblk m c 3 t = fun y : S1x1024.Idx => h (ix1 (y 1)) := by
  funext y
  have e := (idx0 t).1.2.2.2.1
  show V m c main_v2 _ = _
  rw [(V_host G).1.2.2.1]
  refine congrArg (fun j : S1x1024.Idx => h (ix1 (j 1))) (a₂ := y) ?_
  blk_ext [e]

theorem blk4 (t : Fin cfg0.N) : iblk m c 4 t = fun y : S1x1024.Idx => g (ix1 (y 1)) := by
  funext y
  have e := (idx0 t).1.2.2.2.2
  show V m c main_v3 _ = _
  rw [(V_host G).1.2.2.2]
  refine congrArg (fun j : S1x1024.Idx => g (ix1 (j 1))) (a₂ := y) ?_
  blk_ext [e]

/-- The two matrices that the first block copies stay. -/
theorem held : ∀ (k : ℕ) (hk : k < cfg0.N), (outsAt0 m c k hk).2.1 = U ∧ (outsAt0 m c k hk).2.2 = D
  | 0, hk => by
    rw [outsAt0_A m c ⟨0, hk⟩ rfl]
    frame_out
    exact ⟨(canon_whole _).trans (V_host G).2.1, (canon_whole _).trans (V_host G).2.2⟩
  | k + 1, hk => by
    have hN : k + 1 < 16 := lt_of_lt_of_eq hk N_0
    rw [outsAt0_B m c ⟨k + 1, hk⟩ (by show ¬ (k + 1) % 16 = 0; omega)]
    frame_out
    unfold sout0_B_0 sout0_B_1
    exact held k _

/-- What a block computes. -/
theorem block_have (t : Fin cfg0.N) : k0_pay1 (F := Ideal) (iblk m c 0 t) (k0_pay2 (iblk m c 4 t)) (k0_pay3 (iblk m c 0 t) (iblk m c 1 t) (iblk m c 2 t) (iblk m c 3 t) U) D
    = fun y : S256x1024.Idx => outAt X n s h g U D (ix2 (row t (y 0)) (y 1)) := by
  rw [pay1_eq, pay3_eq, blk0 G, blk1 G, blk2 G, blk3 G, blk4 G]
  rfl

/-- The result. -/
theorem final_out : (dats m 0 c).arrAt 5 cfg0.N = outAt X n s h g U D := by
  refine (dats m 0 c).arrAt_eq_of_covers 5 _ (by decide +kernel) fun t hf y => ?_
  have hN : t.val < 16 := lt_of_lt_of_eq t.isLt N_0
  blk_simp
  rw [after0_5]
  have e := (idx0 t).2
  refine Eq.trans ?_ (congrArg (outAt X n s h g U D) (a₁ := ix2 (row t (y 0)) (y 1)) ?_)
  · refine Eq.trans ?_ (congrFun (block_have G t) y)
    by_cases h0 : t.val % 16 = 0
    · rw [outsAt0_A m c t h0]
      frame_out
      have eU := readCov_whole (View.whole cc0_scratch0) inb_S1024x4096_S1024x4096_0_0 (V m c main_v4) _ (V_host G).2.1
      have eD := readCov_whole (View.whole cc0_scratch1) inb_S4096x1024_S4096x1024_0_0 (V m c main_v5) _ (V_host G).2.2
      refine congrFun (congrArg₂ (fun u d => k0_pay1 (F := Ideal) (iblk m c 0 t) (k0_pay2 (iblk m c 4 t)) (k0_pay3 (iblk m c 0 t) (iblk m c 1 t) (iblk m c 2 t) (iblk m c 3 t) u) d) eU eD) y
    · rw [outsAt0_B m c t h0]
      frame_out
      rw [read_unread_whole, read_unread_whole, (held G _ _).1, (held G _ _).2]
  · blk_ext [row, e]

end Cert.MlpFwdKIdeal.Block

end
-- ==== Proof.MfRef.lean ====
/-
  The reference of the squared-ReLU MLP, stage by stage, over the extended reals.
-/
module

public import proofs.«01_k».proof.Proof.MfArrays
public import proofs.«01_k».proof.Proof.Gen.MlpFwdRIdeal.Read

@[expose] public section

set_option maxRecDepth 16384

noncomputable section

namespace Cert.MlpFwdRIdeal.Stages

open Cert.MlpFwdRIdeal Cert.MlpFwdRIdeal.Gen Cert.MlpFwdRIdeal.Read Idealize.ShloMosaic Idealize.ShloMosaic.TcCoe Idealize.SL.Sem
open Cert.Reals Cert.FwdRow
open Cert.MlpFwdKIdeal.Block (actAt outAt)

variable (X : S4096x1024.Idx → EReal) (n s h g : S1024.Idx → EReal) (U : S1024x4096.Idx → EReal) (D : S4096x1024.Idx → EReal)

theorem v20_eq : val_main_v20 (F := Ideal) X n s h = fun i : S4096x1024.Idx => modulated (fun k => X (ix2 (i 0) k)) (fun k => n (ix1 k)) (fun k => s (ix1 k)) (fun k => h (ix1 k)) (i 1) := by
  funext i
  obtain ⟨a, b, rfl⟩ := exists_ix2 i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

theorem v23_eq : val_main_v23 (F := Ideal) X n s h U = fun i : S4096x4096.Idx => actAt X n s h U (i 0) (i 1) := by
  funext i
  obtain ⟨a, b, rfl⟩ := exists_ix2 i
  pointwise [val_main_v23, val_main_v22, val_main_v21, val_main_call0_v0, val_main_call0_cst]
  rw [v20_eq]
  rfl

theorem v28_eq : val_main_v28 (F := Ideal) X n s h g U D = outAt X n s h g U D := by
  funext i
  obtain ⟨a, b, rfl⟩ := exists_ix2 i
  pointwise [val_main_v28, val_main_v27, val_main_v26, val_main_v25, val_main_v24]
  rw [v23_eq]
  rfl

end Cert.MlpFwdRIdeal.Stages

end
-- ==== Proof.MfClaim.lean ====
/-
  The squared-ReLU MLP against the same lines in plain arrays: the claims.
-/
module

public import proofs.«01_k».proof.Defs
public import proofs.«01_k».proof.Proof.MfArrays
public import proofs.«01_k».proof.Proof.MfRef
public import proofs.«01_k».proof.Proof.Gen.MlpFwdRIdeal.Run
public import proofs.«01_k».proof.Proof.Gen.MlpFwdK.Frame
public import proofs.«01_k».proof.Proof.Gen.MlpFwdKIdeal.Frame
public import Idealize.ShloMosaic.Lib.Claim
public import Idealize.ShloMosaic.Lib.Quiescent

@[expose] public section

set_option maxRecDepth 16384

noncomputable section

namespace Cert.MfClaim

open Idealize.ShloMosaic Idealize.ShloMosaic.TcCoe Idealize.SL.Sem Cert.Reals
open Cert.MlpFwdKIdeal.Block (Given outAt)

/-- The call and the reference end with the same array, whatever their arguments. -/
theorem algebraic : Cert.algebraic_MlpFwdKIdeal_MlpFwdRIdeal := by
  intro m g m' g' _ hag
  have H := fun c => (⟨rfl, rfl, rfl, rfl, rfl, rfl, rfl⟩ : Given m c _ _ _ _ _ _ _)
  apply Exists.intro; constructor
  · refine (θ_run Cert.MlpFwdKIdeal.defs _ _).mono (fun _ h c => ?_) (Cert.MlpFwdKIdeal.Value.run_blocks (F := Ideal) m g)
    obtain ⟨r0, rest⟩ := h c
    exact ⟨r0.trans (Cert.MlpFwdKIdeal.Block.final_out (H c)), rest⟩
  · refine (θ_run Cert.MlpFwdRIdeal.defs _ _).mono (fun _ h c => ?_) (Cert.MlpFwdRIdeal.Value.run (F := Ideal) m' g')
    obtain ⟨e0, e1, e2, e3, e4, e5, e6⟩ := hag c
    obtain ⟨r0, rest⟩ := h c
    refine ⟨(r0.trans (Cert.MlpFwdRIdeal.Read.val_main_v28_eq ..)).trans ?_, rest⟩
    · rw [e0, e1, e2, e3, e4, e5, e6]; exact Cert.MlpFwdRIdeal.Stages.v28_eq _ _ _ _ _ _ _

/-- The reference terminates, keeps its arguments and has no semaphore to leave. -/
theorem frame_ref : Cert.quiescent_MlpFwdRIdeal := fun m g _ =>
  (θ_run Cert.MlpFwdRIdeal.defs _ _).mono (fun r h => ⟨fun c => (h c).2, sem_eq_zero_of_no_sems rfl r.2⟩)
    (Cert.MlpFwdRIdeal.Value.run (F := Ideal) m g)

end Cert.MfClaim

end
-- ==== Proof.FwdConv.lean ====
/-
  A causal convolution of four taps along one column, over the extended reals: the column with three zeros before it,
  and a block of 512 rows of it with the eight rows before.
-/
module

public import proofs.«01_k».proof.Proof.FwdRow

@[expose] public section

set_option maxRecDepth 16384

noncomputable section

namespace Cert.FwdConv

open Idealize.ShloMosaic Cert.Reals

/-- Entry `s` of a column with three zeros before it: row `s - 3`. -/
def seqAt (f : Fin 4096 → EReal) (s : ℕ) : EReal := if h : 3 ≤ s ∧ s - 3 < 4096 then f ⟨s - 3, by omega⟩ else 0

/-- The four taps at row `s`. -/
def conv (g : ℕ → EReal) (w : Fin 4 → EReal) (s : ℕ) : EReal := g s * w 0 + g (s + 1) * w 1 + g (s + 2) * w 2 + g (s + 3) * w 3

/-- The eight rows before a block (zeros before the first block), then the block. -/
def rowsAt (c : Prop) [Decidable c] (p : Fin 8 → EReal) (x : Fin 512 → EReal) (r : Fin 520) : EReal :=
  if h : r.val < 8 then (if c then p ⟨r.val, h⟩ else 0) else x ⟨r.val - 8, by omega⟩

/-- Row `r` of block `b` of 512 rows; of block `b` of eight rows, counted from the block of 512 that follows it. -/
def row (b : Fin 8) (r : Fin 512) : Fin 4096 := ⟨b.val * 512 + r.val, by omega⟩
def rowBefore (b : Fin 8) (r : Fin 8) : Fin 4096 := ⟨(b.val * 64 - 1) * 8 + r.val, by omega⟩

/-- A rotated row of the block. -/
theorem rotated (c : BitVec 1) (p : Fin 8 → EReal) (x : Fin 512 → EReal) (a : Fin 512) (n : ℕ) (hn : n ≤ 3)
    (h2 : ∀ h : ¬ (8 + a.val + 520 - n) % 520 < 8, (8 + a.val + 520 - n) % 520 - 8 < 512) :
    (if h : (8 + a.val + 520 - n) % 520 < 8 then Scalar.select c (p ⟨(8 + a.val + 520 - n) % 520, h⟩) 0
      else x ⟨(8 + a.val + 520 - n) % 520 - 8, h2 h⟩) = rowsAt (c = 1) p x ⟨a.val + 8 - n, by omega⟩ := by
  have e : (8 + a.val + 520 - n) % 520 = a.val + 8 - n := by omega
  generalize (8 + a.val + 520 - n) % 520 = z at e h2 ⊢
  subst e
  rfl

/-- A row of a block is a row of the column. -/
theorem rows_eq (f : Fin 4096 → EReal) (b : Fin 8) (c : Prop) [Decidable c] (hc : c ↔ 0 < b.val) (r : Fin 520) (h5 : 5 ≤ r.val) (s : ℕ) (hs : s = b.val * 512 + r.val - 5) :
    rowsAt c (fun r => f (rowBefore b r)) (fun r => f (row b r)) r = seqAt f s := by
  subst hs
  unfold rowsAt seqAt
  by_cases h8 : r.val < 8
  · rw [dif_pos h8]
    by_cases h0 : 0 < b.val
    · rw [if_pos (hc.mpr h0), dif_pos (by omega)]
      exact congrArg f (Fin.ext (by show (b.val * 64 - 1) * 8 + r.val = b.val * 512 + r.val - 5 - 3; omega))
    · rw [if_neg (fun h => h0 (hc.mp h)), dif_neg (by omega)]
  · rw [dif_neg h8, dif_pos (by omega)]
    exact congrArg f (Fin.ext (by show b.val * 512 + (r.val - 8) = b.val * 512 + r.val - 5 - 3; omega))

/-- The taps over a block. -/
def blockConv (c : Prop) [Decidable c] (p : Fin 8 → EReal) (x : Fin 512 → EReal) (w : Fin 4 → EReal) (a : Fin 512) : EReal :=
  rowsAt c p x ⟨a.val + 8 - 3, by omega⟩ * w 0 + rowsAt c p x ⟨a.val + 8 - 2, by omega⟩ * w 1 + rowsAt c p x ⟨a.val + 8 - 1, by omega⟩ * w 2 + x a * w 3

theorem block_eq (f : Fin 4096 → EReal) (b : Fin 8) (c : Prop) [Decidable c] (hc : c ↔ 0 < b.val) (w : Fin 4 → EReal) (a : Fin 512) :
    blockConv c (fun r => f (rowBefore b r)) (fun r => f (row b r)) w a = conv (seqAt f) w (b.val * 512 + a.val) := by
  unfold blockConv conv
  rw [rows_eq f b c hc _ (by show 5 ≤ a.val + 8 - 3; omega) (b.val * 512 + a.val) (by show _ = b.val * 512 + (a.val + 8 - 3) - 5; omega),
    rows_eq f b c hc _ (by show 5 ≤ a.val + 8 - 2; omega) (b.val * 512 + a.val + 1) (by show _ = b.val * 512 + (a.val + 8 - 2) - 5; omega),
    rows_eq f b c hc _ (by show 5 ≤ a.val + 8 - 1; omega) (b.val * 512 + a.val + 2) (by show _ = b.val * 512 + (a.val + 8 - 1) - 5; omega)]
  refine congrArg₂ (· + ·) rfl (congrArg₂ (· * ·) ?_ rfl)
  unfold seqAt
  rw [dif_pos (by omega)]
  exact congrArg f (Fin.ext (by show b.val * 512 + a.val = b.val * 512 + a.val + 3 - 3; omega))

/-- The word that says whether a block has rows before it. -/
theorem first_iff : ∀ a : Fin 8, Scalar.cmpi .sgt (BitVec.ofNat 32 a.val) 0#32 = 1 ↔ 0 < a.val := by decide +kernel

/-- Column `k` of the projection. -/
def colAt (P : (⟨2, ![4096, 3080]⟩ : Shape).Idx → EReal) (k : Fin 3080) (s : Fin 4096) : EReal := P (ix2 s k)

/-- The projection with its columns padded by zeros, and taps with their rows padded by zeros. -/
def wide (P : (⟨2, ![4096, 3080]⟩ : Shape).Idx → EReal) (j : (⟨2, ![4096, 3200]⟩ : Shape).Idx) : EReal :=
  if h : (j 1).val < 3080 then P (ix2 (j 0) ⟨(j 1).val, h⟩) else 0
def tall {n : ℕ} (w : (⟨2, ![4, n]⟩ : Shape).Idx → EReal) (j : (⟨2, ![8, n]⟩ : Shape).Idx) : EReal :=
  if h : (j 0).val < 4 then w (ix2 ⟨(j 0).val, h⟩ (j 1)) else 0

theorem wide_at (P : (⟨2, ![4096, 3080]⟩ : Shape).Idx → EReal) (r : Fin 4096) (k : Fin 3080) :
    wide P (ix2 r ⟨k.val, by omega⟩) = colAt P k r := dif_pos k.isLt

/-- The convolution of the columns `col` of the projection. -/
def convAt {n : ℕ} (P : (⟨2, ![4096, 3080]⟩ : Shape).Idx → EReal) (col : Fin n → Fin 3080) (w : (⟨2, ![4, n]⟩ : Shape).Idx → EReal)
    (i : (⟨2, ![4096, n]⟩ : Shape).Idx) : EReal := conv (seqAt (colAt P (col (i 1)))) (fun o => w (ix2 o (i 1))) (i 0).val

theorem block_convAt {n : ℕ} (P : (⟨2, ![4096, 3080]⟩ : Shape).Idx → EReal) (col : Fin n → Fin 3080) (w : (⟨2, ![4, n]⟩ : Shape).Idx → EReal)
    (b : Fin 8) (c : Prop) [Decidable c] (hc : c ↔ 0 < b.val) (k : Fin n) (a : Fin 512) :
    blockConv c (fun r => colAt P (col k) (rowBefore b r)) (fun r => colAt P (col k) (row b r)) (fun o => tall w (ix2 ⟨o.val, by omega⟩ k)) a
      = convAt P col w (ix2 (row b a) k) := by
  rw [show (fun o : Fin 4 => tall w (ix2 ⟨o.val, by omega⟩ k)) = fun o => w (ix2 o k) from funext fun o => dif_pos o.isLt]
  exact block_eq (colAt P (col k)) b c hc _ a

/-- The taps over rotated rows. -/
theorem taps_rotated (c : BitVec 1) (p : Fin 8 → EReal) (x : Fin 512 → EReal) (w : Fin 4 → EReal) (a : Fin 512)
    {h3 : ∀ h : ¬ (8 + a.val + 520 - 3) % 520 < 8, (8 + a.val + 520 - 3) % 520 - 8 < 512}
    {h2 : ∀ h : ¬ (8 + a.val + 520 - 2) % 520 < 8, (8 + a.val + 520 - 2) % 520 - 8 < 512}
    {h1 : ∀ h : ¬ (8 + a.val + 520 - 1) % 520 < 8, (8 + a.val + 520 - 1) % 520 - 8 < 512} :
    (if h : (8 + a.val + 520 - 3) % 520 < 8 then Scalar.select c (p ⟨(8 + a.val + 520 - 3) % 520, h⟩) 0
      else x ⟨(8 + a.val + 520 - 3) % 520 - 8, h3 h⟩) * w 0
    + (if h : (8 + a.val + 520 - 2) % 520 < 8 then Scalar.select c (p ⟨(8 + a.val + 520 - 2) % 520, h⟩) 0
      else x ⟨(8 + a.val + 520 - 2) % 520 - 8, h2 h⟩) * w 1
    + (if h : (8 + a.val + 520 - 1) % 520 < 8 then Scalar.select c (p ⟨(8 + a.val + 520 - 1) % 520, h⟩) 0
      else x ⟨(8 + a.val + 520 - 1) % 520 - 8, h1 h⟩) * w 2
    + x a * w 3 = blockConv (c = 1) p x w a := by
  rw [rotated c p x a 3 (by omega) h3, rotated c p x a 2 (by omega) h2, rotated c p x a 1 (by omega) h1]
  rfl

/-- The taps over an array of the padded columns. -/
theorem taps_sum {n : ℕ} {P : (⟨2, ![4096, 3080]⟩ : Shape).Idx → EReal} {col : Fin n → Fin 3080} {v : (⟨2, ![4099, n]⟩ : Shape).Idx → EReal}
    (hv : v = fun i => seqAt (colAt P (col (i 1))) (i 0).val) (w : (⟨2, ![4, n]⟩ : Shape).Idx → EReal) (a : Fin 4096) (b : Fin n) {r0 r1 r2 r3 : Fin 4099}
    (h0 : r0.val = a.val) (h1 : r1.val = a.val + 1) (h2 : r2.val = a.val + 2) (h3 : r3.val = a.val + 3) :
    v (ix2 r0 b) * w (ix2 0 b) + v (ix2 r1 b) * w (ix2 1 b) + v (ix2 r2 b) * w (ix2 2 b) + v (ix2 r3 b) * w (ix2 3 b) = convAt P col w (ix2 a b) := by
  have e : ∀ (r : Fin 4099) (s : ℕ), r.val = s → v (ix2 r b) = seqAt (colAt P (col b)) s := fun r s h => by rw [hv, ← h]; rfl
  rw [e r0 _ h0, e r1 _ h1, e r2 _ h2, e r3 _ h3]
  rfl

end Cert.FwdConv

end
-- ==== Proof.CgMath.lean ====
/-
  One block of the activated causal convolution, over the extended reals.
-/
module

public import proofs.«01_k».proof.Proof.FwdConv
public import proofs.«01_k».proof.Proof.Gen.ConvFGKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.ConvFGKIdeal.Block

open Cert.ConvFGKIdeal Cert.ConvFGKIdeal.Gen Idealize.ShloMosaic Idealize.ShloMosaic.TcCoe Idealize.SL.Sem
open Cert.Reals Cert.FwdRow Cert.FwdConv

variable (i : grid0.Coords) (P : FVec Ideal S8x512 .f32) (X : FVec Ideal S512x512 .f32) (w : FVec Ideal S8x512 .f32) (b : FVec Ideal S1x512 .f32)

/-- An entry times its logistic. -/
def silu (y : EReal) : EReal := y * Ideal.logistic y

theorem pay1_eq : k0_pay1 (F := Ideal) i P X w b = fun j =>
    silu (blockConv (Scalar.cmpi .sgt (BitVec.ofNat 32 (i 0).val) 0#32 = 1) (fun r => P (ix2 r (j 1))) (fun r => X (ix2 r (j 1))) (fun o => w (ix2 ⟨o.val, by omega⟩ (j 1))) (j 0) + b (ix2 0 (j 1))) := by
  funext j
  obtain ⟨a, k, rfl⟩ := exists_ix2 j
  unfold k0_pay1
  pointwise
  exact congrArg silu (congrArg (fun z => z + b (ix2 0 k)) (taps_rotated _ (fun r => P (ix2 r k)) (fun r => X (ix2 r k)) (fun o => w (ix2 ⟨o.val, by omega⟩ k)) a))

end Cert.ConvFGKIdeal.Block

end
-- ==== Proof.CgArrays.lean ====
/-
  The activated causal convolution: what the call reads, block by block, and what its result holds.
-/
module

public import proofs.«01_k».proof.Proof.CgMath

@[expose] public section

set_option maxRecDepth 16384

noncomputable section

namespace Cert.ConvFGKIdeal.Block

open Cert.ConvFGKIdeal Cert.ConvFGKIdeal.Gen Idealize.ShloMosaic Idealize.ShloMosaic.TcCoe Idealize.SL.Sem
open Cert.Reals Cert.FwdRow Cert.FwdConv
open Idealize.ShloMosaic.Pipeline (Dat)

variable (m : (ℓ : Loc nD τ sig) → Buf (Elt Ideal) ℓ) (c : Dev nD)
variable (P : S4096x3080.Idx → EReal) (w : S4x1536.Idx → EReal)

/-- Column `k` of the convolution's input, among the columns of the projection. -/
def col (k : Fin 1536) : Fin 3080 := ⟨1024 + k.val, by omega⟩

/-- The convolution under the activation. -/
def yAt (i : S4096x1536.Idx) : EReal := silu (convAt P col w i)

/-- The arguments, as the launch finds them. -/
structure Given : Prop where
  h0 : m ((c : Thread nD τ).loc main_arg0) = P
  h1 : m ((c : Thread nD τ).loc main_arg1) = w

theorem idx0 : ∀ t : Fin cfg0.N, (win0_0.index t = ![t.val / 3, 2 + t.val % 3] ∧ win0_1.index t = ![(t.val / 3) * 64 - 1, 2 + t.val % 3]) ∧ (win0_2.index t = ![0, t.val % 3] ∧ win0_3.index t = ![0, t.val % 3])
    ∧ win0_4.index t = ![t.val / 3, t.val % 3] ∧ (grid0.coords t 0).val = t.val / 3 :=
  (by decide +kernel : ∀ t : Fin grid0.N, (win0_0.index t = ![t.val / 3, 2 + t.val % 3] ∧ win0_1.index t = ![(t.val / 3) * 64 - 1, 2 + t.val % 3]) ∧ (win0_2.index t = ![0, t.val % 3] ∧ win0_3.index t = ![0, t.val % 3])
    ∧ win0_4.index t = ![t.val / 3, t.val % 3] ∧ (grid0.coords t 0).val = t.val / 3)

/-- The block of rows that point `t` is at, and column `k` of its block of columns. -/
def iOf (t : Fin cfg0.N) : Fin 8 := ⟨t.val / 3, by have hN : t.val < 24 := lt_of_lt_of_eq t.isLt N_0; omega⟩
def colOf (t : Fin cfg0.N) (k : Fin 512) : Fin 1536 := ⟨(t.val % 3) * 512 + k.val, by have hN : t.val < 24 := lt_of_lt_of_eq t.isLt N_0; omega⟩

variable {m c P w} (G : Given m c P w)
include G

/-- What the region finds in the operands that the host makes. -/
theorem V_host : V m c main_v0 = wide P ∧ V m c main_v1 = tall w ∧ V m c main_v2 = (fun _ => (0 : EReal)) := by
  have e : ∀ (x0 : FVec Ideal S4096x3080 .f32) (x1 : FVec Ideal S4x1536 .f32),
      m ((c : Thread nD τ).loc main_arg0) = x0 → m ((c : Thread nD τ).loc main_arg1) = x1 →
      V m c main_v0 = pad S4096x3200 ![0, 0] ![0, 120] ![0, 0] x0 (sitofp (F := Ideal) .f32 (constantI S_ 32 0#32)) pads_S4096x3080_S4096x3200_000_01200 h_S_
      ∧ V m c main_v1 = pad S8x1536 ![0, 0] ![4, 0] ![0, 0] x1 (sitofp (F := Ideal) .f32 (constantI S_ 32 0#32)) pads_S4x1536_S8x1536_040_000 h_S_
      ∧ V m c main_v2 = broadcastInDim S1x1536 ![] bcast_S_S1x1536 (constant (F := Ideal) S_ .f32 0x00000000#32) := by
    intro x0 x1 h0 h1
    subst h0 h1
    unfold V
    simp only [hostOps0, hostOps0_1, hostOps0_2, hostOps0_3, hostOps0_4, List.flatten_cons, List.flatten_nil, List.append_nil, List.cons_append, List.nil_append]
    refine ⟨?_, ?_, ?_⟩
    all_goals
      entry_read
      rfl
  obtain ⟨e0, e1, e2⟩ := e _ _ G.h0 G.h1
  refine ⟨e0.trans ?_, e1.trans ?_, e2.trans ?_⟩
  · funext j
    obtain ⟨a, b, rfl⟩ := exists_ix2 j
    pointwise
    simp only [zero_word]
    rfl
  · funext j
    obtain ⟨a, b, rfl⟩ := exists_ix2 j
    pointwise
    simp only [zero_word]
    rfl
  · funext j; obtain ⟨a, b, rfl⟩ := exists_ix2 j; pointwise

theorem X0 (t : Fin cfg0.N) : X0_0 m c t = fun y : S512x512.Idx => colAt P (col (colOf t (y 1))) (row (iOf t) (y 0)) := by
  have hN : t.val < 24 := lt_of_lt_of_eq t.isLt N_0
  funext y
  have e := (idx0 t).1.1
  unfold X0_0 Pipeline.Window.fill
  rw [dif_pos (moved0_0 t y)]
  show V m c main_v0 _ = _
  rw [(V_host G).1]
  refine (congrArg (wide P) ?_).trans (wide_at P (row (iOf t) (y 0)) (col (colOf t (y 1))))
  blk_ext [row, iOf, colOf, col, e]

theorem X1 (t : Fin cfg0.N) : X0_1 m c t = fun y : S8x512.Idx => colAt P (col (colOf t (y 1))) (rowBefore (iOf t) (y 0)) := by
  have hN : t.val < 24 := lt_of_lt_of_eq t.isLt N_0
  funext y
  have e := (idx0 t).1.2
  unfold X0_1 Pipeline.Window.fill
  rw [dif_pos (moved0_1 t y)]
  show V m c main_v0 _ = _
  rw [(V_host G).1]
  refine (congrArg (wide P) ?_).trans (wide_at P (rowBefore (iOf t) (y 0)) (col (colOf t (y 1))))
  blk_ext [rowBefore, iOf, colOf, col, e]

theorem blk2 (t : Fin cfg0.N) : iblk m c 2 t = fun y : S8x512.Idx => tall w (ix2 (y 0) (colOf t (y 1))) := by
  have hN : t.val < 24 := lt_of_lt_of_eq t.isLt N_0
  funext y
  have e := (idx0 t).2.1.1
  show V m c main_v1 _ = _
  rw [(V_host G).2.1]
  refine congrArg (tall w) ?_
  blk_ext [colOf, e]

theorem blk3 (t : Fin cfg0.N) : iblk m c 3 t = fun y : S1x512.Idx => (0 : EReal) := by
  have hN : t.val < 24 := lt_of_lt_of_eq t.isLt N_0
  funext y
  have e := (idx0 t).2.1.2
  show V m c main_v2 _ = _
  rw [(V_host G).2.2]

/-- The result. -/
theorem final_y : (dats m 0 c).arrAt 4 cfg0.N = yAt P w := by
  refine (dats m 0 c).arrAt_eq_of_covers 4 _ (by decide +kernel) fun t hf y => ?_
  have hN : t.val < 24 := lt_of_lt_of_eq t.isLt N_0
  blk_simp
  rw [after0_4]
  unfold outsAt0
  frame_out
  rw [X0 G, X1 G, blk2 G, blk3 G, pay1_eq]
  have e := (idx0 t).2.2.1
  have hc : (Scalar.cmpi .sgt (BitVec.ofNat 32 (grid0.coords t 0).val) 0#32 = 1) ↔ 0 < (iOf t).val := by
    rw [(idx0 t).2.2.2]
    exact first_iff (iOf t)
  refine Eq.trans ?_ (congrArg (yAt P w) (a₁ := ix2 (row (iOf t) (y 0)) (colOf t (y 1))) ?_)
  · refine (congrArg (fun z => silu (z + 0)) (block_convAt P col w (iOf t) _ hc (colOf t (y 1)) (y 0))).trans ?_
    simp only [add_zero]; rfl
  · blk_ext [row, iOf, colOf, e]

end Cert.ConvFGKIdeal.Block

end
-- ==== Proof.CgRef.lean ====
/-
  The reference of the activated causal convolution, stage by stage, over the extended reals.
-/
module

public import proofs.«01_k».proof.Proof.CgArrays
public import proofs.«01_k».proof.Proof.Gen.ConvFGRIdeal.Read

@[expose] public section

set_option maxRecDepth 16384

noncomputable section

namespace Cert.ConvFGRIdeal.Stages

open Cert.ConvFGRIdeal Cert.ConvFGRIdeal.Gen Cert.ConvFGRIdeal.Read Idealize.ShloMosaic Idealize.ShloMosaic.TcCoe Idealize.SL.Sem
open Cert.Reals Cert.FwdRow Cert.FwdConv
open Cert.ConvFGKIdeal.Block (col yAt silu)

variable (P : S4096x3080.Idx → EReal) (w : S4x1536.Idx → EReal)

/-- The columns with three rows of zeros before them. -/
theorem v1_eq : val_main_v1 (F := Ideal) P = fun i : S4099x1536.Idx => seqAt (colAt P (col (i 1))) (i 0).val := by
  funext i
  obtain ⟨a, b, rfl⟩ := exists_ix2 i
  pointwise [val_main_v1, val_main_v0, val_main_c, val_main_call0_v0]
  simp only [zero_word]

  rfl

theorem v28_eq : val_main_v28 (F := Ideal) P w = convAt P col w := by
  funext i
  obtain ⟨a, b, rfl⟩ := exists_ix2 i
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28]
  exact taps_sum (v1_eq P) w a b (by simp only [] <;> omega) (by simp only [] <;> omega) (by simp only [] <;> omega) (by simp only [] <;> omega)

theorem v29_eq : val_main_v29 (F := Ideal) P w = yAt P w := by
  funext i
  pointwise [val_main_v29, val_main_call1_v0, val_main_call1_v1, val_main_call1_v2, val_main_call1_v3, val_main_call1_v4, val_main_call1_v5, val_main_call1_cst, val_main_call1_cst_0]
  rw [v28_eq]
  rfl

end Cert.ConvFGRIdeal.Stages

end
-- ==== Proof.CgClaim.lean ====
/-
  The activated causal convolution against the same lines in plain arrays: the claims.
-/
module

public import proofs.«01_k».proof.Defs
public import proofs.«01_k».proof.Proof.CgArrays
public import proofs.«01_k».proof.Proof.CgRef
public import proofs.«01_k».proof.Proof.Gen.ConvFGRIdeal.Run
public import proofs.«01_k».proof.Proof.Gen.ConvFGK.Frame
public import proofs.«01_k».proof.Proof.Gen.ConvFGKIdeal.Frame
public import Idealize.ShloMosaic.Lib.Claim
public import Idealize.ShloMosaic.Lib.Quiescent

@[expose] public section

set_option maxRecDepth 16384

noncomputable section

namespace Cert.CgClaim

open Idealize.ShloMosaic Idealize.ShloMosaic.TcCoe Idealize.SL.Sem Cert.Reals
open Cert.ConvFGKIdeal.Block (Given yAt)

/-- The call and the reference end with the same array, whatever their arguments. -/
theorem algebraic : Cert.algebraic_ConvFGKIdeal_ConvFGRIdeal := by
  intro m g m' g' _ hag
  have H := fun c => (⟨rfl, rfl⟩ : Given m c _ _)
  apply Exists.intro; constructor
  · refine (θ_run Cert.ConvFGKIdeal.defs _ _).mono (fun _ h c => ?_) (Cert.ConvFGKIdeal.Value.run_blocks (F := Ideal) m g)
    obtain ⟨r0, rest⟩ := h c
    exact ⟨r0.trans (Cert.ConvFGKIdeal.Block.final_y (H c)), rest⟩
  · refine (θ_run Cert.ConvFGRIdeal.defs _ _).mono (fun _ h c => ?_) (Cert.ConvFGRIdeal.Value.run (F := Ideal) m' g')
    obtain ⟨e0, e1⟩ := hag c
    obtain ⟨r0, rest⟩ := h c
    refine ⟨(r0.trans (Cert.ConvFGRIdeal.Read.val_main_v29_eq ..)).trans ?_, rest⟩
    · rw [e0, e1]; exact Cert.ConvFGRIdeal.Stages.v29_eq _ _

/-- The reference terminates, keeps its arguments and has no semaphore to leave. -/
theorem frame_ref : Cert.quiescent_ConvFGRIdeal := fun m g _ =>
  (θ_run Cert.ConvFGRIdeal.defs _ _).mono (fun r h => ⟨fun c => (h c).2, sem_eq_zero_of_no_sems rfl r.2⟩)
    (Cert.ConvFGRIdeal.Value.run (F := Ideal) m g)

end Cert.CgClaim

end
-- ==== Proof.ClMath.lean ====
/-
  One block of the plain causal convolution, over the extended reals.
-/
module

public import proofs.«01_k».proof.Proof.FwdConv
public import proofs.«01_k».proof.Proof.Gen.ConvFLKIdeal.Value
public import Idealize.ShloMosaic.Lib.Pipeline.Value
public import Idealize.ShloMosaic.Lib.Pipeline.ValueKit
public import Idealize.ShloMosaic.Lib.Tactic

@[expose] public section

set_option maxRecDepth 16384

noncomputable section

namespace Cert.ConvFLKIdeal.Block

open Cert.ConvFLKIdeal Cert.ConvFLKIdeal.Gen Idealize.ShloMosaic Idealize.ShloMosaic.TcCoe Idealize.SL.Sem
open Cert.Reals Cert.FwdRow Cert.FwdConv

variable (i : grid0.Coords) (P : FVec Ideal S8x512 .f32) (X : FVec Ideal S512x512 .f32) (w : FVec Ideal S8x512 .f32) (b : FVec Ideal S1x512 .f32)

theorem pay1_eq : k0_pay1 (F := Ideal) i P X w b = fun j =>
    blockConv (Scalar.cmpi .sgt (BitVec.ofNat 32 (i 0).val) 0#32 = 1) (fun r => P (ix2 r (j 1))) (fun r => X (ix2 r (j 1))) (fun o => w (ix2 ⟨o.val, by omega⟩ (j 1))) (j 0) + b (ix2 0 (j 1)) := by
  funext j
  obtain ⟨a, k, rfl⟩ := exists_ix2 j
  unfold k0_pay1
  pointwise
  exact congrArg (fun z => z + b (ix2 0 k)) (taps_rotated _ (fun r => P (ix2 r k)) (fun r => X (ix2 r k)) (fun o => w (ix2 ⟨o.val, by omega⟩ k)) a)

end Cert.ConvFLKIdeal.Block

end
-- ==== Proof.ClArrays.lean ====
/-
  The plain causal convolution: what the call reads, block by block, and what its result holds.
-/
module

public import proofs.«01_k».proof.Proof.ClMath

@[expose] public section

set_option maxRecDepth 16384

noncomputable section

namespace Cert.ConvFLKIdeal.Block

open Cert.ConvFLKIdeal Cert.ConvFLKIdeal.Gen Idealize.ShloMosaic Idealize.ShloMosaic.TcCoe Idealize.SL.Sem
open Cert.Reals Cert.FwdRow Cert.FwdConv
open Idealize.ShloMosaic.Pipeline (Dat)

variable (m : (ℓ : Loc nD τ sig) → Buf (Elt Ideal) ℓ) (c : Dev nD)
variable (P : S4096x3080.Idx → EReal) (w : S4x512.Idx → EReal) (d : S512.Idx → EReal)

/-- Column `k` of the convolution's input, among the columns of the projection. -/
def col (k : Fin 512) : Fin 3080 := ⟨k.val, by omega⟩

/-- The convolution and its bias. -/
def yAt (i : S4096x512.Idx) : EReal := convAt P col w i + d (ix1 (i 1))

/-- The arguments, as the launch finds them. -/
structure Given : Prop where
  h0 : m ((c : Thread nD τ).loc main_arg0) = P
  h1 : m ((c : Thread nD τ).loc main_arg1) = w
  h2 : m ((c : Thread nD τ).loc main_arg2) = d

theorem idx0 : ∀ t : Fin cfg0.N, (win0_0.index t = ![t.val, 0] ∧ win0_1.index t = ![(t.val) * 64 - 1, 0]) ∧ (win0_2.index t = ![0, 0] ∧ win0_3.index t = ![0, 0])
    ∧ win0_4.index t = ![t.val, 0] ∧ (grid0.coords t 0).val = t.val :=
  (by decide +kernel : ∀ t : Fin grid0.N, (win0_0.index t = ![t.val, 0] ∧ win0_1.index t = ![(t.val) * 64 - 1, 0]) ∧ (win0_2.index t = ![0, 0] ∧ win0_3.index t = ![0, 0])
    ∧ win0_4.index t = ![t.val, 0] ∧ (grid0.coords t 0).val = t.val)

/-- The block of rows that point `t` is at, and column `k` of its block of columns. -/
def iOf (t : Fin cfg0.N) : Fin 8 := ⟨t.val, by have hN : t.val < 8 := lt_of_lt_of_eq t.isLt N_0; omega⟩
def colOf (t : Fin cfg0.N) (k : Fin 512) : Fin 512 := ⟨k.val, by have hN : t.val < 8 := lt_of_lt_of_eq t.isLt N_0; omega⟩

variable {m c P w d} (G : Given m c P w d)
include G

/-- What the region finds in the operands that the host makes. -/
theorem V_host : V m c main_v0 = wide P ∧ V m c main_v1 = tall w ∧ V m c main_v2 = (fun j : S1x512.Idx => d (ix1 (j 1))) := by
  have e : ∀ (x0 : FVec Ideal S4096x3080 .f32) (x1 : FVec Ideal S4x512 .f32) (x2 : FVec Ideal S512 .f32),
      m ((c : Thread nD τ).loc main_arg0) = x0 → m ((c : Thread nD τ).loc main_arg1) = x1 →
      m ((c : Thread nD τ).loc main_arg2) = x2 →
      V m c main_v0 = pad S4096x3200 ![0, 0] ![0, 120] ![0, 0] x0 (sitofp (F := Ideal) .f32 (constantI S_ 32 0#32)) pads_S4096x3080_S4096x3200_000_01200 h_S_
      ∧ V m c main_v1 = pad S8x512 ![0, 0] ![4, 0] ![0, 0] x1 (sitofp (F := Ideal) .f32 (constantI S_ 32 0#32)) pads_S4x512_S8x512_040_000 h_S_
      ∧ V m c main_v2 = shapeCast S1x512 x2 shapeCasts_S512_S1x512 := by
    intro x0 x1 x2 h0 h1 h2
    subst h0 h1 h2
    unfold V
    simp only [hostOps0, hostOps0_1, hostOps0_2, hostOps0_3, hostOps0_4, List.flatten_cons, List.flatten_nil, List.append_nil, List.cons_append, List.nil_append]
    refine ⟨?_, ?_, ?_⟩
    all_goals
      entry_read
      rfl
  obtain ⟨e0, e1, e2⟩ := e _ _ _ G.h0 G.h1 G.h2
  refine ⟨e0.trans ?_, e1.trans ?_, e2.trans ?_⟩
  · funext j
    obtain ⟨a, b, rfl⟩ := exists_ix2 j
    pointwise
    simp only [zero_word]
    rfl
  · funext j
    obtain ⟨a, b, rfl⟩ := exists_ix2 j
    pointwise
    simp only [zero_word]
    rfl
  · funext j; obtain ⟨a, b, rfl⟩ := exists_ix2 j; pointwise

theorem X0 (t : Fin cfg0.N) : X0_0 m c t = fun y : S512x512.Idx => colAt P (col (colOf t (y 1))) (row (iOf t) (y 0)) := by
  have hN : t.val < 8 := lt_of_lt_of_eq t.isLt N_0
  funext y
  have e := (idx0 t).1.1
  unfold X0_0 Pipeline.Window.fill
  rw [dif_pos (moved0_0 t y)]
  show V m c main_v0 _ = _
  rw [(V_host G).1]
  refine (congrArg (wide P) ?_).trans (wide_at P (row (iOf t) (y 0)) (col (colOf t (y 1))))
  blk_ext [row, iOf, colOf, col, e]

theorem X1 (t : Fin cfg0.N) : X0_1 m c t = fun y : S8x512.Idx => colAt P (col (colOf t (y 1))) (rowBefore (iOf t) (y 0)) := by
  have hN : t.val < 8 := lt_of_lt_of_eq t.isLt N_0
  funext y
  have e := (idx0 t).1.2
  unfold X0_1 Pipeline.Window.fill
  rw [dif_pos (moved0_1 t y)]
  show V m c main_v0 _ = _
  rw [(V_host G).1]
  refine (congrArg (wide P) ?_).trans (wide_at P (rowBefore (iOf t) (y 0)) (col (colOf t (y 1))))
  blk_ext [rowBefore, iOf, colOf, col, e]

theorem blk2 (t : Fin cfg0.N) : iblk m c 2 t = fun y : S8x512.Idx => tall w (ix2 (y 0) (colOf t (y 1))) := by
  have hN : t.val < 8 := lt_of_lt_of_eq t.isLt N_0
  funext y
  have e := (idx0 t).2.1.1
  show V m c main_v1 _ = _
  rw [(V_host G).2.1]
  refine congrArg (tall w) ?_
  blk_ext [colOf, e]

theorem blk3 (t : Fin cfg0.N) : iblk m c 3 t = fun y : S1x512.Idx => d (ix1 (colOf t (y 1))) := by
  have hN : t.val < 8 := lt_of_lt_of_eq t.isLt N_0
  funext y
  have e := (idx0 t).2.1.2
  show V m c main_v2 _ = _
  rw [(V_host G).2.2]
  refine congrArg (fun j : S1x512.Idx => d (ix1 (j 1))) (a₂ := ix2 0 (colOf t (y 1))) ?_
  blk_ext [colOf, e]

/-- The result. -/
theorem final_y : (dats m 0 c).arrAt 4 cfg0.N = yAt P w d := by
  refine (dats m 0 c).arrAt_eq_of_covers 4 _ (by decide +kernel) fun t hf y => ?_
  have hN : t.val < 8 := lt_of_lt_of_eq t.isLt N_0
  blk_simp
  rw [after0_4]
  unfold outsAt0
  frame_out
  rw [X0 G, X1 G, blk2 G, blk3 G, pay1_eq]
  have e := (idx0 t).2.2.1
  have hc : (Scalar.cmpi .sgt (BitVec.ofNat 32 (grid0.coords t 0).val) 0#32 = 1) ↔ 0 < (iOf t).val := by
    rw [(idx0 t).2.2.2]
    exact first_iff (iOf t)
  refine Eq.trans ?_ (congrArg (yAt P w d) (a₁ := ix2 (row (iOf t) (y 0)) (colOf t (y 1))) ?_)
  · refine (congrArg (fun z => z + d (ix1 (colOf t (y 1)))) (block_convAt P col w (iOf t) _ hc (colOf t (y 1)) (y 0))).trans ?_
    rfl
  · blk_ext [row, iOf, colOf, e]

end Cert.ConvFLKIdeal.Block

end
-- ==== Proof.ClRef.lean ====
/-
  The reference of the plain causal convolution, stage by stage, over the extended reals.
-/
module

public import proofs.«01_k».proof.Proof.ClArrays
public import proofs.«01_k».proof.Proof.Gen.ConvFLRIdeal.Read

@[expose] public section

set_option maxRecDepth 16384

noncomputable section

namespace Cert.ConvFLRIdeal.Stages

open Cert.ConvFLRIdeal Cert.ConvFLRIdeal.Gen Cert.ConvFLRIdeal.Read Idealize.ShloMosaic Idealize.ShloMosaic.TcCoe Idealize.SL.Sem
open Cert.Reals Cert.FwdRow Cert.FwdConv
open Cert.ConvFLKIdeal.Block (col yAt)

variable (P : S4096x3080.Idx → EReal) (w : S4x512.Idx → EReal) (d : S512.Idx → EReal)

/-- The columns with three rows of zeros before them. -/
theorem v1_eq : val_main_v1 (F := Ideal) P = fun i : S4099x512.Idx => seqAt (colAt P (col (i 1))) (i 0).val := by
  funext i
  obtain ⟨a, b, rfl⟩ := exists_ix2 i
  pointwise [val_main_v1, val_main_v0, val_main_c, val_main_call0_v0]
  simp only [zero_word]

  rfl

theorem v28_eq : val_main_v28 (F := Ideal) P w = convAt P col w := by
  funext i
  obtain ⟨a, b, rfl⟩ := exists_ix2 i
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28]
  exact taps_sum (v1_eq P) w a b (by simp only [] <;> omega) (by simp only [] <;> omega) (by simp only [] <;> omega) (by simp only [] <;> omega)

theorem v31_eq : val_main_v31 (F := Ideal) P w d = yAt P w d := by
  funext i
  pointwise [val_main_v31, val_main_v30, val_main_v29]
  rw [v28_eq]
  rfl

end Cert.ConvFLRIdeal.Stages

end
-- ==== Proof.ClClaim.lean ====
/-
  The plain causal convolution against the same lines in plain arrays: the claims.
-/
module

public import proofs.«01_k».proof.Defs
public import proofs.«01_k».proof.Proof.ClArrays
public import proofs.«01_k».proof.Proof.ClRef
public import proofs.«01_k».proof.Proof.Gen.ConvFLRIdeal.Run
public import proofs.«01_k».proof.Proof.Gen.ConvFLK.Frame
public import proofs.«01_k».proof.Proof.Gen.ConvFLKIdeal.Frame
public import Idealize.ShloMosaic.Lib.Claim
public import Idealize.ShloMosaic.Lib.Quiescent

@[expose] public section

set_option maxRecDepth 16384

noncomputable section

namespace Cert.ClClaim

open Idealize.ShloMosaic Idealize.ShloMosaic.TcCoe Idealize.SL.Sem Cert.Reals
open Cert.ConvFLKIdeal.Block (Given yAt)

/-- The call and the reference end with the same array, whatever their arguments. -/
theorem algebraic : Cert.algebraic_ConvFLKIdeal_ConvFLRIdeal := by
  intro m g m' g' _ hag
  have H := fun c => (⟨rfl, rfl, rfl⟩ : Given m c _ _ _)
  apply Exists.intro; constructor
  · refine (θ_run Cert.ConvFLKIdeal.defs _ _).mono (fun _ h c => ?_) (Cert.ConvFLKIdeal.Value.run_blocks (F := Ideal) m g)
    obtain ⟨r0, rest⟩ := h c
    exact ⟨r0.trans (Cert.ConvFLKIdeal.Block.final_y (H c)), rest⟩
  · refine (θ_run Cert.ConvFLRIdeal.defs _ _).mono (fun _ h c => ?_) (Cert.ConvFLRIdeal.Value.run (F := Ideal) m' g')
    obtain ⟨e0, e1, e2⟩ := hag c
    obtain ⟨r0, rest⟩ := h c
    refine ⟨(r0.trans (Cert.ConvFLRIdeal.Read.val_main_v31_eq ..)).trans ?_, rest⟩
    · rw [e0, e1, e2]; exact Cert.ConvFLRIdeal.Stages.v31_eq _ _ _

/-- The reference terminates, keeps its arguments and has no semaphore to leave. -/
theorem frame_ref : Cert.quiescent_ConvFLRIdeal := fun m g _ =>
  (θ_run Cert.ConvFLRIdeal.defs _ _).mono (fun r h => ⟨fun c => (h c).2, sem_eq_zero_of_no_sems rfl r.2⟩)
    (Cert.ConvFLRIdeal.Value.run (F := Ideal) m g)

end Cert.ClClaim

end
-- ==== Proof.lean ====
/-
  The certificate: every claim of the statement.
-/
module

public import proofs.«01_k».proof.Defs
public import proofs.«01_k».proof.Proof.Gen.LossK.Frame
public import proofs.«01_k».proof.Proof.Gen.LossKIdeal.Value
public import proofs.«01_k».proof.Proof.Gen.LossRIdeal.Run
public import proofs.«01_k».proof.Proof.Gen.LossRIdeal.Read
public import proofs.«01_k».proof.Proof.LossClaim
public import proofs.«01_k».proof.Proof.Gen.ProjBwdK.Frame
public import proofs.«01_k».proof.Proof.Gen.ProjBwdKIdeal.Value
public import proofs.«01_k».proof.Proof.Gen.ProjBwdRIdeal.Run
public import proofs.«01_k».proof.Proof.Gen.ProjBwdRIdeal.Read
public import proofs.«01_k».proof.Proof.ProjClaim
public import proofs.«01_k».proof.Proof.Gen.MlpBwdK.Frame
public import proofs.«01_k».proof.Proof.Gen.MlpBwdKIdeal.Value
public import proofs.«01_k».proof.Proof.Gen.MlpBwdRIdeal.Run
public import proofs.«01_k».proof.Proof.Gen.MlpBwdRIdeal.Read
public import proofs.«01_k».proof.Proof.MlpClaim
public import proofs.«01_k».proof.Proof.Gen.DwDownK.Frame
public import proofs.«01_k».proof.Proof.Gen.DwDownKIdeal.Value
public import proofs.«01_k».proof.Proof.Gen.DwDownRIdeal.Run
public import proofs.«01_k».proof.Proof.Gen.DwDownRIdeal.Read
public import proofs.«01_k».proof.Proof.DwClaim
public import proofs.«01_k».proof.Proof.Gen.ConvLruK.Frame
public import proofs.«01_k».proof.Proof.Gen.ConvLruKIdeal.Value
public import proofs.«01_k».proof.Proof.Gen.ConvLruRIdeal.Run
public import proofs.«01_k».proof.Proof.Gen.ConvLruRIdeal.Read
public import proofs.«01_k».proof.Proof.ConvLClaim
public import proofs.«01_k».proof.Proof.Gen.ConvGdnK.Frame
public import proofs.«01_k».proof.Proof.Gen.ConvGdnKIdeal.Value
public import proofs.«01_k».proof.Proof.Gen.ConvGdnRIdeal.Run
public import proofs.«01_k».proof.Proof.Gen.ConvGdnRIdeal.Read
public import proofs.«01_k».proof.Proof.ConvGClaim
public import proofs.«01_k».proof.Proof.Gen.OutBwdK.Frame
public import proofs.«01_k».proof.Proof.Gen.OutBwdKIdeal.Value
public import proofs.«01_k».proof.Proof.Gen.OutBwdRIdeal.Run
public import proofs.«01_k».proof.Proof.Gen.OutBwdRIdeal.Read
public import proofs.«01_k».proof.Proof.OutClaim
public import proofs.«01_k».proof.Proof.Gen.LruBwdK.Frame
public import proofs.«01_k».proof.Proof.Gen.LruBwdKIdeal.Frame
public import proofs.«01_k».proof.Proof.Gen.LruBwdRIdeal.Run
public import proofs.«01_k».proof.Proof.Gen.LruBwdRIdeal.Read
public import proofs.«01_k».proof.Proof.LruClaim
public import proofs.«01_k».proof.Proof.Gen.GdnFwdK.Frame
public import proofs.«01_k».proof.Proof.Gen.GdnFwdKIdeal.Value
public import proofs.«01_k».proof.Proof.Gen.GdnFwdRIdeal.Run
public import proofs.«01_k».proof.Proof.Gen.GdnFwdRIdeal.Step
public import proofs.«01_k».proof.Proof.GdnClaim
public import proofs.«01_k».proof.Proof.Gen.ProjFwdK.Frame
public import proofs.«01_k».proof.Proof.Gen.ProjFwdKIdeal.Value
public import proofs.«01_k».proof.Proof.Gen.ProjFwdRIdeal.Run
public import proofs.«01_k».proof.Proof.Gen.ProjFwdRIdeal.Read
public import proofs.«01_k».proof.Proof.PfClaim
public import proofs.«01_k».proof.Proof.Gen.MlpFwdK.Frame
public import proofs.«01_k».proof.Proof.Gen.MlpFwdKIdeal.Value
public import proofs.«01_k».proof.Proof.Gen.MlpFwdRIdeal.Run
public import proofs.«01_k».proof.Proof.Gen.MlpFwdRIdeal.Read
public import proofs.«01_k».proof.Proof.MfClaim
public import proofs.«01_k».proof.Proof.Gen.ConvFGK.Frame
public import proofs.«01_k».proof.Proof.Gen.ConvFGKIdeal.Value
public import proofs.«01_k».proof.Proof.Gen.ConvFGRIdeal.Run
public import proofs.«01_k».proof.Proof.Gen.ConvFGRIdeal.Read
public import proofs.«01_k».proof.Proof.CgClaim
public import proofs.«01_k».proof.Proof.Gen.ConvFLK.Frame
public import proofs.«01_k».proof.Proof.Gen.ConvFLKIdeal.Value
public import proofs.«01_k».proof.Proof.Gen.ConvFLRIdeal.Run
public import proofs.«01_k».proof.Proof.Gen.ConvFLRIdeal.Read
public import proofs.«01_k».proof.Proof.ClClaim

@[expose] public section

noncomputable section

open Idealize.ShloMosaic Idealize.ShloMosaic.TcCoe Idealize.SL.Sem

/-- All the claims: the frames, what the ideal programs preserve, and the equations. -/
theorem Cert.Proof.claim : Cert.Claim :=
  ⟨Cert.LossK.Gen.facts, Cert.LossKIdeal.Gen.facts, Cert.LossRIdeal.Gen.facts,
    Cert.ProjBwdK.Gen.facts, Cert.ProjBwdKIdeal.Gen.facts, Cert.ProjBwdRIdeal.Gen.facts,
    Cert.MlpBwdK.Gen.facts, Cert.MlpBwdKIdeal.Gen.facts, Cert.MlpBwdRIdeal.Gen.facts,
    Cert.DwDownK.Gen.facts, Cert.DwDownKIdeal.Gen.facts, Cert.DwDownRIdeal.Gen.facts,
    Cert.ConvLruK.Gen.facts, Cert.ConvLruKIdeal.Gen.facts, Cert.ConvLruRIdeal.Gen.facts,
    Cert.ConvGdnK.Gen.facts, Cert.ConvGdnKIdeal.Gen.facts, Cert.ConvGdnRIdeal.Gen.facts,
    Cert.OutBwdK.Gen.facts, Cert.OutBwdKIdeal.Gen.facts, Cert.OutBwdRIdeal.Gen.facts,
    Cert.LruBwdK.Gen.facts, Cert.LruBwdKIdeal.Gen.facts, Cert.LruBwdRIdeal.Gen.facts,
    Cert.GdnFwdK.Gen.facts, Cert.GdnFwdKIdeal.Gen.facts, Cert.GdnFwdRIdeal.Gen.facts,
    Cert.ProjFwdK.Gen.facts, Cert.ProjFwdKIdeal.Gen.facts, Cert.ProjFwdRIdeal.Gen.facts,
    Cert.MlpFwdK.Gen.facts, Cert.MlpFwdKIdeal.Gen.facts, Cert.MlpFwdRIdeal.Gen.facts,
    Cert.ConvFGK.Gen.facts, Cert.ConvFGKIdeal.Gen.facts, Cert.ConvFGRIdeal.Gen.facts,
    Cert.ConvFLK.Gen.facts, Cert.ConvFLKIdeal.Gen.facts, Cert.ConvFLRIdeal.Gen.facts,
    Cert.Pre_finite_loss.Gen.facts, Cert.Pre_finite_projbwd.Gen.facts, Cert.Pre_finite_mlpbwd.Gen.facts, Cert.Pre_finite_dwdown.Gen.facts, Cert.Pre_finite_convgdn.Gen.facts, Cert.Pre_finite_outbwd.Gen.facts, Cert.Pre_finite_lrubwd.Gen.facts, Cert.Pre_finite_gdnfwd.Gen.facts,
    fun m g _ => Cert.LossK.Gen.frame m g, fun m g _ => Cert.LossKIdeal.Gen.frame m g, fun m g _ => Cert.LossKIdeal.Gen.frame m g, Cert.LossClaim.frame_ref, fun m g _ => Cert.LossClaim.frame_ref m g trivial,
    fun m g _ => Cert.ProjBwdK.Gen.frame m g, fun m g _ => Cert.ProjBwdKIdeal.Gen.frame m g, fun m g _ => Cert.ProjBwdKIdeal.Gen.frame m g, Cert.ProjClaim.frame_ref, fun m g _ => Cert.ProjClaim.frame_ref m g trivial,
    fun m g _ => Cert.MlpBwdK.Gen.frame m g, fun m g _ => Cert.MlpBwdKIdeal.Gen.frame m g, fun m g _ => Cert.MlpBwdKIdeal.Gen.frame m g, Cert.MlpClaim.frame_ref, fun m g _ => Cert.MlpClaim.frame_ref m g trivial,
    fun m g _ => Cert.DwDownK.Gen.frame m g, fun m g _ => Cert.DwDownKIdeal.Gen.frame m g, fun m g _ => Cert.DwDownKIdeal.Gen.frame m g, Cert.DwClaim.frame_ref, fun m g _ => Cert.DwClaim.frame_ref m g trivial,
    fun m g _ => Cert.ConvLruK.Gen.frame m g, fun m g _ => Cert.ConvLruKIdeal.Gen.frame m g, Cert.ConvLClaim.frame_ref,
    fun m g _ => Cert.ConvGdnK.Gen.frame m g, fun m g _ => Cert.ConvGdnKIdeal.Gen.frame m g, fun m g _ => Cert.ConvGdnKIdeal.Gen.frame m g, Cert.ConvGClaim.frame_ref, fun m g _ => Cert.ConvGClaim.frame_ref m g trivial,
    fun m g _ => Cert.OutBwdK.Gen.frame m g, fun m g _ => Cert.OutBwdKIdeal.Gen.frame m g, fun m g _ => Cert.OutBwdKIdeal.Gen.frame m g, Cert.OutClaim.frame_ref, fun m g _ => Cert.OutClaim.frame_ref m g trivial,
    fun m g _ => Cert.LruBwdK.Gen.frame m g, fun m g _ => Cert.LruBwdKIdeal.Gen.frame m g, fun m g _ => Cert.LruBwdKIdeal.Gen.frame m g, Cert.LruClaim.frame_ref, fun m g _ => Cert.LruClaim.frame_ref m g trivial,
    fun m g _ => Cert.GdnFwdK.Gen.frame m g, fun m g _ => Cert.GdnFwdKIdeal.Gen.frame m g, fun m g _ => Cert.GdnFwdKIdeal.Gen.frame m g, Cert.GdnClaim.frame_ref, fun m g _ => Cert.GdnClaim.frame_ref m g trivial,
    fun m g _ => Cert.ProjFwdK.Gen.frame m g, fun m g _ => Cert.ProjFwdKIdeal.Gen.frame m g, Cert.PfClaim.frame_ref,
    fun m g _ => Cert.MlpFwdK.Gen.frame m g, fun m g _ => Cert.MlpFwdKIdeal.Gen.frame m g, Cert.MfClaim.frame_ref,
    fun m g _ => Cert.ConvFGK.Gen.frame m g, fun m g _ => Cert.ConvFGKIdeal.Gen.frame m g, Cert.CgClaim.frame_ref,
    fun m g _ => Cert.ConvFLK.Gen.frame m g, fun m g _ => Cert.ConvFLKIdeal.Gen.frame m g, Cert.ClClaim.frame_ref,
    trivial, Cert.LossClaim.algebraic, trivial, Cert.ProjClaim.algebraic, trivial, Cert.MlpClaim.algebraic, trivial, Cert.DwClaim.algebraic, trivial, Cert.ConvLClaim.algebraic, trivial, Cert.ConvGClaim.algebraic, trivial, Cert.OutClaim.algebraic, trivial, Cert.LruClaim.algebraic, trivial, Cert.GdnClaim.algebraic, trivial, Cert.PfClaim.algebraic, trivial, Cert.MfClaim.algebraic, trivial, Cert.CgClaim.algebraic, trivial, Cert.ClClaim.algebraic⟩

end
